-- ==== Defs.lean ====
def Pre_Kernel [hPre_edges_in_range : Cert.Pre_edges_in_range.Facts] (m : (ℓ : Loc Cert.Kernel.nD Cert.Kernel.τ Cert.Kernel.sig) → Buf (Elt Bits) ℓ) : Prop :=
  ∀ c : Dev Cert.Kernel.nD,
    (Cert.Pre_edges_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_edges_and_threshold [hPre_edges_and_threshold : Cert.Pre_edges_and_threshold.Facts] (m : (ℓ : Loc Cert.KernelIdeal.nD Cert.KernelIdeal.τ Cert.KernelIdeal.sig) → Buf (Elt Ideal) ℓ) : Prop :=
  ∀ c : Dev Cert.KernelIdeal.nD,
    (Cert.Pre_edges_and_threshold.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_and_threshold [hPre_edges_and_threshold : Cert.Pre_edges_and_threshold.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_and_threshold.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_edges_in_range : Cert.Pre_edges_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_edges_and_threshold [hKernelIdeal : Cert.KernelIdeal.Facts] [hPre_edges_and_threshold : Cert.Pre_edges_and_threshold.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_and_threshold m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_edges_and_threshold [hReferenceIdeal : Cert.ReferenceIdeal.Facts] [hPre_edges_and_threshold : Cert.Pre_edges_and_threshold.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_and_threshold m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_edges_and_threshold [hKernelIdeal : Cert.KernelIdeal.Facts] [hReferenceIdeal : Cert.ReferenceIdeal.Facts] [hPre_edges_and_threshold : Cert.Pre_edges_and_threshold.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_and_threshold m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_edges_in_range : Cert.Pre_edges_in_range.Facts) (hPre_edges_and_threshold : Cert.Pre_edges_and_threshold.Facts),
    quiescent_Kernel (hKernel := hKernel) (hPre_edges_in_range := hPre_edges_in_range)
    ∧ quiescent_KernelIdeal (hKernelIdeal := hKernelIdeal) (hPre_edges_in_range := hPre_edges_in_range)
    ∧ quiescent_KernelIdeal_pre_edges_and_threshold (hKernelIdeal := hKernelIdeal) (hPre_edges_and_threshold := hPre_edges_and_threshold)
    ∧ quiescent_ReferenceIdeal (hReferenceIdeal := hReferenceIdeal)
    ∧ quiescent_ReferenceIdeal_pre_edges_and_threshold (hReferenceIdeal := hReferenceIdeal) (hPre_edges_and_threshold := hPre_edges_and_threshold)
    ∧ preserves_Kernel_KernelIdeal
    ∧ algebraic_KernelIdeal_ReferenceIdeal_pre_edges_and_threshold (hKernelIdeal := hKernelIdeal) (hReferenceIdeal := hReferenceIdeal) (hPre_edges_and_threshold := hPre_edges_and_threshold)
-- ==== Pre_edges_and_threshold.lean ====
abbrev S2x320000 : Shape := ⟨2, ![2, 320000]⟩
abbrev S320000 : Shape := ⟨1, ![320000]⟩
abbrev S10000x128 : Shape := ⟨2, ![10000, 128]⟩
abbrev S_ : Shape := ⟨0, ![]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel

variable [Facts]

def fn {F : FTy → Type} [FloatOps F] (main_arg0 : IVec S2x320000 32) (main_arg1 : FVec F S320000 .f32) (main_arg2 : FVec F S10000x128 .f32) (main_arg3 : IVec S_ 32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg0 main_v0
  let main_c_0 : IVec S_ 32 := constantI S_ 32 10000#32
  let main_v2 : IVec S2x320000 32 := broadcastInDim S2x320000 ![] bcast_S_S2x320000 main_c_0
  let main_v3 : IVec S2x320000 1 := cmpi .slt main_arg0 main_v2
  let main_v4 : IVec S2x320000 1 := andi main_v1 main_v3
  let main_c_1 : IVec S_ 1 := constantI S_ 1 1#1
  let main_v5 : IVec S_ 1 := (fun x v => Host.reduce IntOp.andi x v reducesTo_S2x320000_S_d0_1 h_S_) main_v4 main_c_1
  let main_c_2 : IVec S_ 32 := constantI S_ 32 1#32
  let main_v6 : IVec S_ 1 := cmpi .sge main_arg3 main_c_2
  let main_v7 : IVec S_ 1 := andi main_v5 main_v6
  main_v7
-- ==== Pre_edges_in_range.lean ====
abbrev S2x320000 : Shape := ⟨2, ![2, 320000]⟩
abbrev S320000 : Shape := ⟨1, ![320000]⟩
abbrev S10000x128 : Shape := ⟨2, ![10000, 128]⟩
abbrev S_ : Shape := ⟨0, ![]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel

variable [Facts]

def fn {F : FTy → Type} [FloatOps F] (main_arg0 : IVec S2x320000 32) (main_arg1 : FVec F S320000 .f32) (main_arg2 : FVec F S10000x128 .f32) (main_arg3 : IVec S_ 32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg0 main_v0
  let main_c_0 : IVec S_ 32 := constantI S_ 32 10000#32
  let main_v2 : IVec S2x320000 32 := broadcastInDim S2x320000 ![] bcast_S_S2x320000 main_c_0
  let main_v3 : IVec S2x320000 1 := cmpi .slt main_arg0 main_v2
  let main_v4 : IVec S2x320000 1 := andi main_v1 main_v3
  let main_c_1 : IVec S_ 1 := constantI S_ 1 1#1
  let main_v5 : IVec S_ 1 := (fun x v => Host.reduce IntOp.andi x v reducesTo_S2x320000_S_d0_1 h_S_) main_v4 main_c_1
  main_v5
-- ==== Kernel.lean ====
abbrev S2x320000 : Shape := ⟨2, ![2, 320000]⟩
abbrev S320000 : Shape := ⟨1, ![320000]⟩
abbrev S10000x128 : Shape := ⟨2, ![10000, 128]⟩
abbrev S_ : Shape := ⟨0, ![]⟩
abbrev S1x320000 : Shape := ⟨2, ![1, 320000]⟩
abbrev S10112x128 : Shape := ⟨2, ![10112, 128]⟩
abbrev S10000 : Shape := ⟨1, ![10000]⟩
abbrev S10000x1 : Shape := ⟨2, ![10000, 1]⟩
abbrev S112x128 : Shape := ⟨2, ![112, 128]⟩
abbrev S32x16 : Shape := ⟨2, ![32, 16]⟩
abbrev S2000 : Shape := ⟨1, ![2000]⟩
abbrev S2064 : Shape := ⟨1, ![2064]⟩
abbrev S2x2x64x128 : Shape := ⟨4, ![2, 2, 64, 128]⟩
abbrev S16 : Shape := ⟨1, ![16]⟩
abbrev S2x2 : Shape := ⟨2, ![2, 2]⟩
abbrev S632x128 : Shape := ⟨2, ![632, 128]⟩
abbrev S1 : Shape := ⟨1, ![1]⟩
abbrev S1x1x64x128 : Shape := ⟨4, ![1, 1, 64, 128]⟩
abbrev S64x128 : Shape := ⟨2, ![64, 128]⟩
abbrev S64 : Shape := ⟨1, ![64]⟩
abbrev S1x1 : Shape := ⟨2, ![1, 1]⟩
abbrev S1x1x1x16 : Shape := ⟨4, ![1, 1, 1, 16]⟩
abbrev S1x16 : Shape := ⟨2, ![1, 16]⟩
abbrev S1x32x16 : Shape := ⟨3, ![1, 32, 16]⟩
abbrev S1x1x1 : Shape := ⟨3, ![1, 1, 1]⟩

abbrev nBuf : Table → Nat
  | .hbm => 15
  | .local .tc .vmem => 6
  | .shared => 1
  | .local .scVector .vmem => 7
  | _ => 0

abbrev bufTy : (tb : Table) → Fin (nBuf tb) → BufTy
  | .hbm, ⟨0, _⟩ => ⟨S2x320000, .i32⟩
  | .hbm, ⟨1, _⟩ => ⟨S320000, .f32⟩
  | .hbm, ⟨2, _⟩ => ⟨S10000x128, .f32⟩
  | .hbm, ⟨3, _⟩ => ⟨S_, .i32⟩
  | .hbm, ⟨4, _⟩ => ⟨S1x320000, .i32⟩
  | .hbm, ⟨5, _⟩ => ⟨S320000, .i32⟩
  | .hbm, ⟨6, _⟩ => ⟨S1x320000, .i32⟩
  | .hbm, ⟨7, _⟩ => ⟨S320000, .i32⟩
  | .hbm, ⟨8, _⟩ => ⟨S10112x128, .f32⟩
  | .hbm, ⟨9, _⟩ => ⟨S32x16, .f32⟩
  | .hbm, ⟨10, _⟩ => ⟨S32x16, .f32⟩
  | .hbm, ⟨11, _⟩ => ⟨S_, .f32⟩
  | .hbm, ⟨12, _⟩ => ⟨S1x1, .f32⟩
  | .hbm, ⟨13, _⟩ => ⟨S1x1, .f32⟩
  | .hbm, ⟨14, _⟩ => ⟨S_, .f32⟩
  | .local .tc .vmem, ⟨0, _⟩ => ⟨S10000x128, .f32⟩
  | .local .tc .vmem, ⟨1, _⟩ => ⟨S10112x128, .f32⟩
  | .local .tc .vmem, ⟨2, _⟩ => ⟨S32x16, .f32⟩
  | .local .tc .vmem, ⟨3, _⟩ => ⟨S32x16, .f32⟩
  | .local .tc .vmem, ⟨4, _⟩ => ⟨S1x1, .f32⟩
  | .local .tc .vmem, ⟨5, _⟩ => ⟨S1x1, .f32⟩
  | .shared, ⟨0, _⟩ => ⟨S10112x128, .f32⟩
  | .local .scVector .vmem, ⟨0, _⟩ => ⟨S2000, .i32⟩
  | .local .scVector .vmem, ⟨1, _⟩ => ⟨S2000, .i32⟩
  | .local .scVector .vmem, ⟨2, _⟩ => ⟨S2000, .f32⟩
  | .local .scVector .vmem, ⟨3, _⟩ => ⟨S2064, .i32⟩
  | .local .scVector .vmem, ⟨4, _⟩ => ⟨S2064, .i32⟩
  | .local .scVector .vmem, ⟨5, _⟩ => ⟨S2x2x64x128, .f32⟩
  | .local .scVector .vmem, ⟨6, _⟩ => ⟨S16, .f32⟩
  | _, _ => ⟨S2x320000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 28 → Bool
  | ⟨0, _⟩ => true
  | ⟨1, _⟩ => true
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => true
  | ⟨25, _⟩ => true
  | ⟨26, _⟩ => true
  | ⟨27, _⟩ => true
  | _ => false

abbrev sig : RefSig :=
  ofTables nBuf rfl bufTy 5 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v1_scv : Ref sig .scVector := ⟨.hbm, 5, rfl⟩
abbrev main_v3_scv : Ref sig .scVector := ⟨.hbm, 7, rfl⟩
abbrev main_arg1_scv : Ref sig .scVector := ⟨.hbm, 1, rfl⟩
abbrev main_v4_scv : Ref sig .scVector := ⟨.hbm, 8, rfl⟩
abbrev main_v5_0_scv : Ref sig .scVector := ⟨.hbm, 9, rfl⟩
abbrev main_v5_1_scv : Ref sig .scVector := ⟨.hbm, 10, rfl⟩
abbrev cc0_stg0_0 : Ref sig .tc := ⟨.vmem, 0, rfl⟩
abbrev cc0_stg1_0 : Ref sig .tc := ⟨.vmem, 1, rfl⟩
abbrev cc2_stg0_0 : Ref sig .tc := ⟨.vmem, 2, rfl⟩
abbrev cc2_stg1_0 : Ref sig .tc := ⟨.vmem, 3, rfl⟩
abbrev cc2_stg2_0 : Ref sig .tc := ⟨.vmem, 4, rfl⟩
abbrev cc2_stg3_0 : Ref sig .tc := ⟨.vmem, 5, rfl⟩
abbrev cc1_scratch7 : Ref sig .scVector := ⟨.shared, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem1_0 : DmaSem sig := 1
abbrev cc2_sem0_0 : DmaSem sig := 24
abbrev cc2_sem1_0 : DmaSem sig := 25
abbrev cc2_sem2_0 : DmaSem sig := 26
abbrev cc2_sem3_0 : DmaSem sig := 27
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10112x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c632_i32_0 : BitVec 32 := 632#32
  let v4 : BitVec 32 := Scalar.muli arg1 c632_i32_0
  let c0_i32_302_r0 : BitVec 32 := 0#32
  ![v4.toNat, 0]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32 : BitVec 32 := 0#32
  let v8 : BitVec 32 := Scalar.addi v2 c0_i32
  ![v8.toNat]
@[reducible] def k1_t1_loop : Scf.Loop 32 :=
  let c0_i32_4 : BitVec 32 := 0#32
  let c128_i32 : BitVec 32 := 128#32
  let v9 : BitVec 32 := Scalar.addi c0_i32_4 c128_i32
  let c1_i32 : BitVec 32 := 1#32
  ⟨c0_i32_4, v9, c1_i32⟩
def k1_off3 (k1_t1 : Fin k1_t1_loop.trips) : Fin 1 → Nat :=
  let c0_i32_4 : BitVec 32 := 0#32
  let c1_i32 : BitVec 32 := 1#32
  let arg17 : BitVec 32 := Scf.iv c0_i32_4 c1_i32 k1_t1
  let c16_i32 : BitVec 32 := 16#32
  let v343 : BitVec 32 := Scalar.muli arg17 c16_i32
  let v344 : Index := Scalar.indexCast v343
  ![v344.toNat]
@[reducible] def k1_t2_loop : Scf.Loop 32 :=
  let c0_i32_7 : BitVec 32 := 0#32
  let c125_i32 : BitVec 32 := 125#32
  let v10 : BitVec 32 := Scalar.addi c0_i32_7 c125_i32
  let c1_i32_8 : BitVec 32 := 1#32
  ⟨c0_i32_7, v10, c1_i32_8⟩
def k1_off4 (k1_t2 : Fin k1_t2_loop.trips) : Fin 1 → Nat :=
  let c0_i32_7 : BitVec 32 := 0#32
  let c1_i32_8 : BitVec 32 := 1#32
  let arg17 : BitVec 32 := Scf.iv c0_i32_7 c1_i32_8 k1_t2
  let c16_i32 : BitVec 32 := 16#32
  let v343 : BitVec 32 := Scalar.muli arg17 c16_i32
  let v344 : Index := Scalar.indexCast v343
  ![v344.toNat]
def k1_off5 (arg18 : BitVec 32) (v357 : BitVec 1) : Fin 1 → Nat :=
  let c2048_i32 : BitVec 32 := 2048#32
  let v358 : BitVec 32 := Scalar.select v357 arg18 c2048_i32
  let v362 : Index := Scalar.indexCast v358
  ![v362.toNat]

def k1_chk1 (arg18 : BitVec 32) (v357 : BitVec 1) : Prop :=
  (∀ a, (k1_off5 arg18 v357) a + S16.size a ≤ S2064.size a)
theorem k1_off5_inb : ∀ (arg18 : BitVec 32) (v357 : BitVec 1) (k1_hw1 : k1_chk1 arg18 v357), ∀ a, (k1_off5 arg18 v357) a + S16.size a ≤ S2064.size a := fun arg18 v357 k1_hw1 => k1_hw1

def k1_off6 (arg18 : BitVec 32) (v357 : BitVec 1) (v377 : BitVec 1) : Fin 1 → Nat :=
  let c1_i32_305 : BitVec 32 := 1#32
  let v373 : BitVec 32 := Scalar.addi arg18 c1_i32_305
  let v374 : BitVec 32 := Scalar.select v357 v373 arg18
  let c2048_i32_307 : BitVec 32 := 2048#32
  let v378 : BitVec 32 := Scalar.select v377 v374 c2048_i32_307
  let v382 : Index := Scalar.indexCast v378
  ![v382.toNat]

def k1_chk2 (arg18 : BitVec 32) (v357 : BitVec 1) (v377 : BitVec 1) : Prop :=
  (∀ a, (k1_off6 arg18 v357 v377) a + S16.size a ≤ S2064.size a)
theorem k1_off6_inb : ∀ (arg18 : BitVec 32) (v357 : BitVec 1) (v377 : BitVec 1) (k1_hw2 : k1_chk2 arg18 v357 v377), ∀ a, (k1_off6 arg18 v357 v377) a + S16.size a ≤ S2064.size a := fun arg18 v357 v377 k1_hw2 => k1_hw2

def k1_off7 (arg18 : BitVec 32) (v357 : BitVec 1) (v377 : BitVec 1) (v397 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c2048_i32_310 : BitVec 32 := 2048#32
  let v398 : BitVec 32 := Scalar.select v397 v394 c2048_i32_310
  let v402 : Index := Scalar.indexCast v398
  ![v402.toNat]

def k1_chk3 (arg18 : BitVec 32) (v357 : BitVec 1) (v377 : BitVec 1) (v397 : BitVec 1) : Prop :=
  (∀ a, (k1_off7 arg18 v357 v377 v397) a + S16.size a ≤ S2064.size a)
theorem k1_off7_inb : ∀ (arg18 : BitVec 32) (v357 : BitVec 1) (v377 : BitVec 1) (v397 : BitVec 1) (k1_hw3 : k1_chk3 arg18 v357 v377 v397), ∀ a, (k1_off7 arg18 v357 v377 v397) a + S16.size a ≤ S2064.size a := fun arg18 v357 v377 v397 k1_hw3 => k1_hw3

def k1_off8 (arg18 : BitVec 32) (v357 : BitVec 1) (v377 : BitVec 1) (v397 : BitVec 1) (v417 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c2048_i32_313 : BitVec 32 := 2048#32
  let v418 : BitVec 32 := Scalar.select v417 v414 c2048_i32_313
  let v422 : Index := Scalar.indexCast v418
  ![v422.toNat]

def k1_chk4 (arg18 : BitVec 32) (v357 : BitVec 1) (v377 : BitVec 1) (v397 : BitVec 1) (v417 : BitVec 1) : Prop :=
  (∀ a, (k1_off8 arg18 v357 v377 v397 v417) a + S16.size a ≤ S2064.size a)
theorem k1_off8_inb : ∀ (arg18 : BitVec 32) (v357 : BitVec 1) (v377 : BitVec 1) (v397 : BitVec 1) (v417 : BitVec 1) (k1_hw4 : k1_chk4 arg18 v357 v377 v397 v417), ∀ a, (k1_off8 arg18 v357 v377 v397 v417) a + S16.size a ≤ S2064.size a := fun arg18 v357 v377 v397 v417 k1_hw4 => k1_hw4

def k1_off9 (arg18 : BitVec 32) (v357 : BitVec 1) (v377 : BitVec 1) (v397 : BitVec 1) (v417 : BitVec 1) (v437 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c2048_i32_316 : BitVec 32 := 2048#32
  let v438 : BitVec 32 := Scalar.select v437 v434 c2048_i32_316
  let v442 : Index := Scalar.indexCast v438
  ![v442.toNat]

def k1_chk5 (arg18 : BitVec 32) (v357 : BitVec 1) (v377 : BitVec 1) (v397 : BitVec 1) (v417 : BitVec 1) (v437 : BitVec 1) : Prop :=
  (∀ a, (k1_off9 arg18 v357 v377 v397 v417 v437) a + S16.size a ≤ S2064.size a)
theorem k1_off9_inb : ∀ (arg18 : BitVec 32) (v357 : BitVec 1) (v377 : BitVec 1) (v397 : BitVec 1) (v417 : BitVec 1) (v437 : BitVec 1) (k1_hw5 : k1_chk5 arg18 v357 v377 v397 v417 v437), ∀ a, (k1_off9 arg18 v357 v377 v397 v417 v437) a + S16.size a ≤ S2064.size a := fun arg18 v357 v377 v397 v417 v437 k1_hw5 => k1_hw5

def k1_off10 (arg18 : BitVec 32) (v357 : BitVec 1) (v377 : BitVec 1) (v397 : BitVec 1) (v417 : BitVec 1) (v437 : BitVec 1) (v457 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c2048_i32_319 : BitVec 32 := 2048#32
  let v458 : BitVec 32 := Scalar.select v457 v454 c2048_i32_319
  let v462 : Index := Scalar.indexCast v458
  ![v462.toNat]

def k1_chk6 (arg18 : BitVec 32) (v357 : BitVec 1) (v377 : BitVec 1) (v397 : BitVec 1) (v417 : BitVec 1) (v437 : BitVec 1) (v457 : BitVec 1) : Prop :=
  (∀ a, (k1_off10 arg18 v357 v377 v397 v417 v437 v457) a + S16.size a ≤ S2064.size a)
theorem k1_off10_inb : ∀ (arg18 : BitVec 32) (v357 : BitVec 1) (v377 : BitVec 1) (v397 : BitVec 1) (v417 : BitVec 1) (v437 : BitVec 1) (v457 : BitVec 1) (k1_hw6 : k1_chk6 arg18 v357 v377 v397 v417 v437 v457), ∀ a, (k1_off10 arg18 v357 v377 v397 v417 v437 v457) a + S16.size a ≤ S2064.size a := fun arg18 v357 v377 v397 v417 v437 v457 k1_hw6 => k1_hw6

def k1_off11 (arg18 : BitVec 32) (v357 : BitVec 1) (v377 : BitVec 1) (v397 : BitVec 1) (v417 : BitVec 1) (v437 : BitVec 1) (v457 : BitVec 1) (v477 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c2048_i32_322 : BitVec 32 := 2048#32
  let v478 : BitVec 32 := Scalar.select v477 v474 c2048_i32_322
  let v482 : Index := Scalar.indexCast v478
  ![v482.toNat]

def k1_chk7 (arg18 : BitVec 32) (v357 : BitVec 1) (v377 : BitVec 1) (v397 : BitVec 1) (v417 : BitVec 1) (v437 : BitVec 1) (v457 : BitVec 1) (v477 : BitVec 1) : Prop :=
  (∀ a, (k1_off11 arg18 v357 v377 v397 v417 v437 v457 v477) a + S16.size a ≤ S2064.size a)
theorem k1_off11_inb : ∀ (arg18 : BitVec 32) (v357 : BitVec 1) (v377 : BitVec 1) (v397 : BitVec 1) (v417 : BitVec 1) (v437 : BitVec 1) (v457 : BitVec 1) (v477 : BitVec 1) (k1_hw7 : k1_chk7 arg18 v357 v377 v397 v417 v437 v457 v477), ∀ a, (k1_off11 arg18 v357 v377 v397 v417 v437 v457 v477) a + S16.size a ≤ S2064.size a := fun arg18 v357 v377 v397 v417 v437 v457 v477 k1_hw7 => k1_hw7

def k1_off12 (arg18 : BitVec 32) (v357 : BitVec 1) (v377 : BitVec 1) (v397 : BitVec 1) (v417 : BitVec 1) (v437 : BitVec 1) (v457 : BitVec 1) (v477 : BitVec 1) (v497 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c2048_i32_325 : BitVec 32 := 2048#32
  let v498 : BitVec 32 := Scalar.select v497 v494 c2048_i32_325
  let v502 : Index := Scalar.indexCast v498
  ![v502.toNat]

def k1_chk8 (arg18 : BitVec 32) (v357 : BitVec 1) (v377 : BitVec 1) (v397 : BitVec 1) (v417 : BitVec 1) (v437 : BitVec 1) (v457 : BitVec 1) (v477 : BitVec 1) (v497 : BitVec 1) : Prop :=
  (∀ a, (k1_off12 arg18 v357 v377 v397 v417 v437 v457 v477 v497) a + S16.size a ≤ S2064.size a)
theorem k1_off12_inb : ∀ (arg18 : BitVec 32) (v357 : BitVec 1) (v377 : BitVec 1) (v397 : BitVec 1) (v417 : BitVec 1) (v437 : BitVec 1) (v457 : BitVec 1) (v477 : BitVec 1) (v497 : BitVec 1) (k1_hw8 : k1_chk8 arg18 v357 v377 v397 v417 v437 v457 v477 v497), ∀ a, (k1_off12 arg18 v357 v377 v397 v417 v437 v457 v477 v497) a + S16.size a ≤ S2064.size a := fun arg18 v357 v377 v397 v417 v437 v457 v477 v497 k1_hw8 => k1_hw8

def k1_off13 (arg18 : BitVec 32) (v357 : BitVec 1) (v377 : BitVec 1) (v397 : BitVec 1) (v417 : BitVec 1) (v437 : BitVec 1) (v457 : BitVec 1) (v477 : BitVec 1) (v497 : BitVec 1) (v517 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c2048_i32_328 : BitVec 32 := 2048#32
  let v518 : BitVec 32 := Scalar.select v517 v514 c2048_i32_328
  let v522 : Index := Scalar.indexCast v518
  ![v522.toNat]

def k1_chk9 (arg18 : BitVec 32) (v357 : BitVec 1) (v377 : BitVec 1) (v397 : BitVec 1) (v417 : BitVec 1) (v437 : BitVec 1) (v457 : BitVec 1) (v477 : BitVec 1) (v497 : BitVec 1) (v517 : BitVec 1) : Prop :=
  (∀ a, (k1_off13 arg18 v357 v377 v397 v417 v437 v457 v477 v497 v517) a + S16.size a ≤ S2064.size a)
theorem k1_off13_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (k1_hw9 : k1_chk9 arg18 v357 v377 v397 v417 v437 v457 v477 v497 v517), ∀ a, (k1_off13 arg18 v357 v377 v397 v417 v437 v457 v477 v497 v517) a + S16.size a ≤ S2064.size a := fun arg18 v357 v377 v397 v417 v437 v457 v477 v497 v517 k1_hw9 => k1_hw9

def k1_off14 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c2048_i32_331 : BitVec 32 := 2048#32
  let v538 : BitVec 32 := Scalar.select v537 v534 c2048_i32_331
  let v542 : Index := Scalar.indexCast v538
  ![v542.toNat]

def k1_chk10 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) : Prop :=
  (∀ a, (k1_off14 arg18 v357 v377 v397 v417 v437 v457 v477 v497 v517 v537) a + S16.size a ≤ S2064.size a)
theorem k1_off14_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (k1_hw10 : k1_chk10 arg18 v357 v377 v397 v417 v437 v457 v477 v497 v517 v537), ∀ a, (k1_off14 arg18 v357 v377 v397 v417 v437 v457 v477 v497 v517 v537) a + S16.size a ≤ S2064.size a := fun arg18 v357 v377 v397 v417 v437 v457 v477 v497 v517 v537 k1_hw10 => k1_hw10

def k1_off15 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c2048_i32_334 : BitVec 32 := 2048#32
  let v558 : BitVec 32 := Scalar.select v557 v554 c2048_i32_334
  let v562 : Index := Scalar.indexCast v558
  ![v562.toNat]

def k1_chk11 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) : Prop :=
  (∀ a, (k1_off15 arg18 v357 v377 v397 v417 v437 v457 v477 v497 v517 v537 v557) a + S16.size a ≤ S2064.size a)
theorem k1_off15_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (k1_hw11 : k1_chk11 arg18 v357 v377 v397 v417 v437 v457 v477 v497 v517 v537 v557), ∀ a, (k1_off15 arg18 v357 v377 v397 v417 v437 v457 v477 v497 v517 v537 v557) a + S16.size a ≤ S2064.size a := fun arg18 v357 v377 v397 v417 v437 v457 v477 v497 v517 v537 v557 k1_hw11 => k1_hw11

def k1_off16 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c2048_i32_337 : BitVec 32 := 2048#32
  let v578 : BitVec 32 := Scalar.select v577 v574 c2048_i32_337
  let v582 : Index := Scalar.indexCast v578
  ![v582.toNat]

def k1_chk12 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) : Prop :=
  (∀ a, (k1_off16 arg18 v357 v377 v397 v417 v437 v457 v477 v497 v517 v537 v557 v577) a + S16.size a ≤ S2064.size a)
theorem k1_off16_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (k1_hw12 : k1_chk12 arg18 v357 v377 v397 v417 v437 v457 v477 v497 v517 v537 v557 v577), ∀ a, (k1_off16 arg18 v357 v377 v397 v417 v437 v457 v477 v497 v517 v537 v557 v577) a + S16.size a ≤ S2064.size a := fun arg18 v357 v377 v397 v417 v437 v457 v477 v497 v517 v537 v557 v577 k1_hw12 => k1_hw12

def k1_off17 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c2048_i32_340 : BitVec 32 := 2048#32
  let v598 : BitVec 32 := Scalar.select v597 v594 c2048_i32_340
  let v602 : Index := Scalar.indexCast v598
  ![v602.toNat]

def k1_chk13 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) : Prop :=
  (∀ a, (k1_off17 arg18 v357 v377 v397 v417 v437 v457 v477 v497 v517 v537 v557 v577 v597) a + S16.size a ≤ S2064.size a)
theorem k1_off17_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (k1_hw13 : k1_chk13 arg18 v357 v377 v397 v417 v437 v457 v477 v497 v517 v537 v557 v577 v597), ∀ a, (k1_off17 arg18 v357 v377 v397 v417 v437 v457 v477 v497 v517 v537 v557 v577 v597) a + S16.size a ≤ S2064.size a := fun arg18 v357 v377 v397 v417 v437 v457 v477 v497 v517 v537 v557 v577 v597 k1_hw13 => k1_hw13

def k1_off18 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c1_i32_341 : BitVec 32 := 1#32
  let v613 : BitVec 32 := Scalar.addi v594 c1_i32_341
  let v614 : BitVec 32 := Scalar.select v597 v613 v594
  let c2048_i32_343 : BitVec 32 := 2048#32
  let v618 : BitVec 32 := Scalar.select v617 v614 c2048_i32_343
  let v622 : Index := Scalar.indexCast v618
  ![v622.toNat]

def k1_chk14 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) : Prop :=
  (∀ a, (k1_off18 arg18 v357 v377 v397 v417 v437 v457 v477 v497 v517 v537 v557 v577 v597 v617) a + S16.size a ≤ S2064.size a)
theorem k1_off18_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (k1_hw14 : k1_chk14 arg18 v357 v377 v397 v417 v437 v457 v477 v497 v517 v537 v557 v577 v597 v617), ∀ a, (k1_off18 arg18 v357 v377 v397 v417 v437 v457 v477 v497 v517 v537 v557 v577 v597 v617) a + S16.size a ≤ S2064.size a := fun arg18 v357 v377 v397 v417 v437 v457 v477 v497 v517 v537 v557 v577 v597 v617 k1_hw14 => k1_hw14

def k1_off19 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c1_i32_341 : BitVec 32 := 1#32
  let v613 : BitVec 32 := Scalar.addi v594 c1_i32_341
  let v614 : BitVec 32 := Scalar.select v597 v613 v594
  let c1_i32_344 : BitVec 32 := 1#32
  let v633 : BitVec 32 := Scalar.addi v614 c1_i32_344
  let v634 : BitVec 32 := Scalar.select v617 v633 v614
  let c2048_i32_346 : BitVec 32 := 2048#32
  let v638 : BitVec 32 := Scalar.select v637 v634 c2048_i32_346
  let v642 : Index := Scalar.indexCast v638
  ![v642.toNat]

def k1_chk15 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) : Prop :=
  (∀ a, (k1_off19 arg18 v357 v377 v397 v417 v437 v457 v477 v497 v517 v537 v557 v577 v597 v617 v637) a + S16.size a ≤ S2064.size a)
theorem k1_off19_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (k1_hw15 : k1_chk15 arg18 v357 v377 v397 v417 v437 v457 v477 v497 v517 v537 v557 v577 v597 v617 v637), ∀ a, (k1_off19 arg18 v357 v377 v397 v417 v437 v457 v477 v497 v517 v537 v557 v577 v597 v617 v637) a + S16.size a ≤ S2064.size a := fun arg18 v357 v377 v397 v417 v437 v457 v477 v497 v517 v537 v557 v577 v597 v617 v637 k1_hw15 => k1_hw15

def k1_off20 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (v657 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c1_i32_341 : BitVec 32 := 1#32
  let v613 : BitVec 32 := Scalar.addi v594 c1_i32_341
  let v614 : BitVec 32 := Scalar.select v597 v613 v594
  let c1_i32_344 : BitVec 32 := 1#32
  let v633 : BitVec 32 := Scalar.addi v614 c1_i32_344
  let v634 : BitVec 32 := Scalar.select v617 v633 v614
  let c1_i32_347 : BitVec 32 := 1#32
  let v653 : BitVec 32 := Scalar.addi v634 c1_i32_347
  let v654 : BitVec 32 := Scalar.select v637 v653 v634
  let c2048_i32_349 : BitVec 32 := 2048#32
  let v658 : BitVec 32 := Scalar.select v657 v654 c2048_i32_349
  let v662 : Index := Scalar.indexCast v658
  ![v662.toNat]

def k1_chk16 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (v657 : BitVec 1) : Prop :=
  (∀ a, (k1_off20 arg18 v357 v377 v397 v417 v437 v457 v477 v497 v517 v537 v557 v577 v597 v617 v637 v657) a + S16.size a ≤ S2064.size a)
theorem k1_off20_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (v657 : BitVec 1) (k1_hw16 : k1_chk16 arg18 v357 v377 v397 v417 v437 v457 v477 v497 v517 v537 v557 v577 v597 v617 v637 v657), ∀ a, (k1_off20 arg18 v357 v377 v397 v417 v437 v457 v477 v497 v517 v537 v557 v577 v597 v617 v637 v657) a + S16.size a ≤ S2064.size a := fun arg18 v357 v377 v397 v417 v437 v457 v477 v497 v517 v537 v557 v577 v597 v617 v637 v657 k1_hw16 => k1_hw16

def k1_off21 (v11 : BitVec 32) : Fin 1 → Nat :=
  let v12 : Index := Scalar.indexCast v11
  ![v12.toNat]

@[reducible] def k1_t3_loop (v11 : BitVec 32) : Scf.Loop 32 :=
  let c0_i32_56 : BitVec 32 := 0#32
  let c128_i32_46 : BitVec 32 := 128#32
  let v45 : BitVec 32 := Scalar.addi v11 c128_i32_46
  let c1_i32_47 : BitVec 32 := 1#32
  let v46 : BitVec 32 := Scalar.subi v45 c1_i32_47
  let c0_i32_49 : BitVec 32 := 0#32
  let v48 : BitVec 1 := Scalar.cmpi .sgt v46 c0_i32_49
  let v49 : BitVec 32 := Scalar.extui v48
  let c0_i32_50 : BitVec 32 := 0#32
  let v50 : BitVec 1 := Scalar.cmpi .slt v46 c0_i32_50
  let v51 : BitVec 32 := Scalar.extui v50
  let v52 : BitVec 32 := Scalar.subi v49 v51
  let c128_i32_48 : BitVec 32 := 128#32
  let c0_i32_51 : BitVec 32 := 0#32
  let v53 : BitVec 1 := Scalar.cmpi .sgt c128_i32_48 c0_i32_51
  let v54 : BitVec 32 := Scalar.extui v53
  let c0_i32_52 : BitVec 32 := 0#32
  let v55 : BitVec 1 := Scalar.cmpi .slt c128_i32_48 c0_i32_52
  let v56 : BitVec 32 := Scalar.extui v55
  let v57 : BitVec 32 := Scalar.subi v54 v56
  let v58 : BitVec 1 := Scalar.cmpi .ne v52 v57
  let v59 : BitVec 32 := Scalar.remsi v46 c128_i32_48
  let c0_i32_53 : BitVec 32 := 0#32
  let v60 : BitVec 1 := Scalar.cmpi .ne v59 c0_i32_53
  let v61 : BitVec 1 := Scalar.andi v58 v60
  let v47 : BitVec 32 := Scalar.divsi v46 c128_i32_48
  let c1_i32_54 : BitVec 32 := 1#32
  let v62 : BitVec 32 := Scalar.subi v47 c1_i32_54
  let v63 : BitVec 32 := Scalar.select v61 v62 v47
  let c1_i32_55 : BitVec 32 := 1#32
  let v64 : BitVec 32 := Scalar.maxsi v63 c1_i32_55
  let v65 : BitVec 32 := Scalar.subi v64 c0_i32_56
  let c1_i32_57 : BitVec 32 := 1#32
  let v67 : BitVec 32 := Scalar.divsi v65 c1_i32_57
  let v68 : BitVec 32 := Scalar.muli v67 c1_i32_57
  let v69 : BitVec 32 := Scalar.addi c0_i32_56 v68
  let c1_i32_58 : BitVec 32 := 1#32
  ⟨c0_i32_56, v69, c1_i32_58⟩
def k1_off22 (v11 : BitVec 32) (k1_t3 : Fin (k1_t3_loop v11).trips) (c0_i32_303 : BitVec 32) : Fin 1 → Nat :=
  let c0_i32_56 : BitVec 32 := 0#32
  let c1_i32_58 : BitVec 32 := 1#32
  let arg17 : BitVec 32 := Scf.iv c0_i32_56 c1_i32_58 k1_t3
  let c2_i32_302 : BitVec 32 := 2#32
  let v343 : BitVec 32 := Scalar.muli arg17 c2_i32_302
  let v344 : BitVec 32 := Scalar.addi v343 c0_i32_303
  let c64_i32_304 : BitVec 32 := 64#32
  let v345 : BitVec 32 := Scalar.muli v344 c64_i32_304
  ![v345.toNat]
@[reducible] def k1_t4_loop : Scf.Loop 32 :=
  let c0_i32_322 : BitVec 32 := 0#32
  let c32_i32 : BitVec 32 := 32#32
  let v359 : BitVec 32 := Scalar.addi c0_i32_322 c32_i32
  let c1_i32_323 : BitVec 32 := 1#32
  ⟨c0_i32_322, v359, c1_i32_323⟩
def k1_off23 (k1_t4 : Fin k1_t4_loop.trips) (c0_i32_356 : BitVec 32) : Fin 4 → Nat :=
  let c0_i32_357 : BitVec 32 := 0#32
  let v391 : Index := Scalar.indexCast c0_i32_357
  let c0_i32_358 : BitVec 32 := 0#32
  let v392 : Index := Scalar.indexCast c0_i32_358
  let c0_i32_322 : BitVec 32 := 0#32
  let c1_i32_323 : BitVec 32 := 1#32
  let arg26 : BitVec 32 := Scf.iv c0_i32_322 c1_i32_323 k1_t4
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 0, v393.toNat, 0]
def k1_off24 (k1_t4 : Fin k1_t4_loop.trips) (c0_i32_356 : BitVec 32) : Fin 4 → Nat :=
  let c1_i32_360 : BitVec 32 := 1#32
  let v396 : Index := Scalar.indexCast c1_i32_360
  let c0_i32_361 : BitVec 32 := 0#32
  let v397 : Index := Scalar.indexCast c0_i32_361
  let c0_i32_322 : BitVec 32 := 0#32
  let c1_i32_323 : BitVec 32 := 1#32
  let arg26 : BitVec 32 := Scf.iv c0_i32_322 c1_i32_323 k1_t4
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 0, v398.toNat, 0]
def k1_off25 (k1_t4 : Fin k1_t4_loop.trips) (c0_i32_356 : BitVec 32) : Fin 4 → Nat :=
  let c0_i32_363 : BitVec 32 := 0#32
  let v403 : Index := Scalar.indexCast c0_i32_363
  let c0_i32_364 : BitVec 32 := 0#32
  let v404 : Index := Scalar.indexCast c0_i32_364
  let c0_i32_322 : BitVec 32 := 0#32
  let c1_i32_323 : BitVec 32 := 1#32
  let arg26 : BitVec 32 := Scf.iv c0_i32_322 c1_i32_323 k1_t4
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 0, v405.toNat, 16]
def k1_off26 (k1_t4 : Fin k1_t4_loop.trips) (c0_i32_356 : BitVec 32) : Fin 4 → Nat :=
  let c1_i32_365 : BitVec 32 := 1#32
  let v408 : Index := Scalar.indexCast c1_i32_365
  let c0_i32_366 : BitVec 32 := 0#32
  let v409 : Index := Scalar.indexCast c0_i32_366
  let c0_i32_322 : BitVec 32 := 0#32
  let c1_i32_323 : BitVec 32 := 1#32
  let arg26 : BitVec 32 := Scf.iv c0_i32_322 c1_i32_323 k1_t4
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 0, v410.toNat, 16]
def k1_off27 (k1_t4 : Fin k1_t4_loop.trips) (c0_i32_356 : BitVec 32) : Fin 4 → Nat :=
  let c0_i32_368 : BitVec 32 := 0#32
  let v415 : Index := Scalar.indexCast c0_i32_368
  let c0_i32_369 : BitVec 32 := 0#32
  let v416 : Index := Scalar.indexCast c0_i32_369
  let c0_i32_322 : BitVec 32 := 0#32
  let c1_i32_323 : BitVec 32 := 1#32
  let arg26 : BitVec 32 := Scf.iv c0_i32_322 c1_i32_323 k1_t4
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 0, v417.toNat, 32]
def k1_off28 (k1_t4 : Fin k1_t4_loop.trips) (c0_i32_356 : BitVec 32) : Fin 4 → Nat :=
  let c1_i32_370 : BitVec 32 := 1#32
  let v420 : Index := Scalar.indexCast c1_i32_370
  let c0_i32_371 : BitVec 32 := 0#32
  let v421 : Index := Scalar.indexCast c0_i32_371
  let c0_i32_322 : BitVec 32 := 0#32
  let c1_i32_323 : BitVec 32 := 1#32
  let arg26 : BitVec 32 := Scf.iv c0_i32_322 c1_i32_323 k1_t4
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 0, v422.toNat, 32]
def k1_off29 (k1_t4 : Fin k1_t4_loop.trips) (c0_i32_356 : BitVec 32) : Fin 4 → Nat :=
  let c0_i32_373 : BitVec 32 := 0#32
  let v427 : Index := Scalar.indexCast c0_i32_373
  let c0_i32_374 : BitVec 32 := 0#32
  let v428 : Index := Scalar.indexCast c0_i32_374
  let c0_i32_322 : BitVec 32 := 0#32
  let c1_i32_323 : BitVec 32 := 1#32
  let arg26 : BitVec 32 := Scf.iv c0_i32_322 c1_i32_323 k1_t4
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 0, v429.toNat, 48]
def k1_off30 (k1_t4 : Fin k1_t4_loop.trips) (c0_i32_356 : BitVec 32) : Fin 4 → Nat :=
  let c1_i32_375 : BitVec 32 := 1#32
  let v432 : Index := Scalar.indexCast c1_i32_375
  let c0_i32_376 : BitVec 32 := 0#32
  let v433 : Index := Scalar.indexCast c0_i32_376
  let c0_i32_322 : BitVec 32 := 0#32
  let c1_i32_323 : BitVec 32 := 1#32
  let arg26 : BitVec 32 := Scf.iv c0_i32_322 c1_i32_323 k1_t4
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 0, v434.toNat, 48]
def k1_off31 (k1_t4 : Fin k1_t4_loop.trips) (c0_i32_356 : BitVec 32) : Fin 4 → Nat :=
  let c0_i32_378 : BitVec 32 := 0#32
  let v439 : Index := Scalar.indexCast c0_i32_378
  let c0_i32_379 : BitVec 32 := 0#32
  let v440 : Index := Scalar.indexCast c0_i32_379
  let c0_i32_322 : BitVec 32 := 0#32
  let c1_i32_323 : BitVec 32 := 1#32
  let arg26 : BitVec 32 := Scf.iv c0_i32_322 c1_i32_323 k1_t4
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 0, v441.toNat, 64]
def k1_off32 (k1_t4 : Fin k1_t4_loop.trips) (c0_i32_356 : BitVec 32) : Fin 4 → Nat :=
  let c1_i32_380 : BitVec 32 := 1#32
  let v444 : Index := Scalar.indexCast c1_i32_380
  let c0_i32_381 : BitVec 32 := 0#32
  let v445 : Index := Scalar.indexCast c0_i32_381
  let c0_i32_322 : BitVec 32 := 0#32
  let c1_i32_323 : BitVec 32 := 1#32
  let arg26 : BitVec 32 := Scf.iv c0_i32_322 c1_i32_323 k1_t4
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 0, v446.toNat, 64]
def k1_off33 (k1_t4 : Fin k1_t4_loop.trips) (c0_i32_356 : BitVec 32) : Fin 4 → Nat :=
  let c0_i32_383 : BitVec 32 := 0#32
  let v451 : Index := Scalar.indexCast c0_i32_383
  let c0_i32_384 : BitVec 32 := 0#32
  let v452 : Index := Scalar.indexCast c0_i32_384
  let c0_i32_322 : BitVec 32 := 0#32
  let c1_i32_323 : BitVec 32 := 1#32
  let arg26 : BitVec 32 := Scf.iv c0_i32_322 c1_i32_323 k1_t4
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 0, v453.toNat, 80]
def k1_off34 (k1_t4 : Fin k1_t4_loop.trips) (c0_i32_356 : BitVec 32) : Fin 4 → Nat :=
  let c1_i32_385 : BitVec 32 := 1#32
  let v456 : Index := Scalar.indexCast c1_i32_385
  let c0_i32_386 : BitVec 32 := 0#32
  let v457 : Index := Scalar.indexCast c0_i32_386
  let c0_i32_322 : BitVec 32 := 0#32
  let c1_i32_323 : BitVec 32 := 1#32
  let arg26 : BitVec 32 := Scf.iv c0_i32_322 c1_i32_323 k1_t4
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 0, v458.toNat, 80]
def k1_off35 (k1_t4 : Fin k1_t4_loop.trips) (c0_i32_356 : BitVec 32) : Fin 4 → Nat :=
  let c0_i32_388 : BitVec 32 := 0#32
  let v463 : Index := Scalar.indexCast c0_i32_388
  let c0_i32_389 : BitVec 32 := 0#32
  let v464 : Index := Scalar.indexCast c0_i32_389
  let c0_i32_322 : BitVec 32 := 0#32
  let c1_i32_323 : BitVec 32 := 1#32
  let arg26 : BitVec 32 := Scf.iv c0_i32_322 c1_i32_323 k1_t4
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 0, v465.toNat, 96]
def k1_off36 (k1_t4 : Fin k1_t4_loop.trips) (c0_i32_356 : BitVec 32) : Fin 4 → Nat :=
  let c1_i32_390 : BitVec 32 := 1#32
  let v468 : Index := Scalar.indexCast c1_i32_390
  let c0_i32_391 : BitVec 32 := 0#32
  let v469 : Index := Scalar.indexCast c0_i32_391
  let c0_i32_322 : BitVec 32 := 0#32
  let c1_i32_323 : BitVec 32 := 1#32
  let arg26 : BitVec 32 := Scf.iv c0_i32_322 c1_i32_323 k1_t4
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 0, v470.toNat, 96]
def k1_off37 (k1_t4 : Fin k1_t4_loop.trips) (c0_i32_356 : BitVec 32) : Fin 4 → Nat :=
  let c0_i32_393 : BitVec 32 := 0#32
  let v475 : Index := Scalar.indexCast c0_i32_393
  let c0_i32_394 : BitVec 32 := 0#32
  let v476 : Index := Scalar.indexCast c0_i32_394
  let c0_i32_322 : BitVec 32 := 0#32
  let c1_i32_323 : BitVec 32 := 1#32
  let arg26 : BitVec 32 := Scf.iv c0_i32_322 c1_i32_323 k1_t4
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 0, v477.toNat, 112]
def k1_off38 (k1_t4 : Fin k1_t4_loop.trips) (c0_i32_356 : BitVec 32) : Fin 4 → Nat :=
  let c1_i32_395 : BitVec 32 := 1#32
  let v480 : Index := Scalar.indexCast c1_i32_395
  let c0_i32_396 : BitVec 32 := 0#32
  let v481 : Index := Scalar.indexCast c0_i32_396
  let c0_i32_322 : BitVec 32 := 0#32
  let c1_i32_323 : BitVec 32 := 1#32
  let arg26 : BitVec 32 := Scf.iv c0_i32_322 c1_i32_323 k1_t4
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 0, v482.toNat, 112]
def k1_off39 (v11 : BitVec 32) (k1_t3 : Fin (k1_t3_loop v11).trips) : Fin 1 → Nat :=
  let c0_i32_56 : BitVec 32 := 0#32
  let c1_i32_58 : BitVec 32 := 1#32
  let arg17 : BitVec 32 := Scf.iv c0_i32_56 c1_i32_58 k1_t3
  let c2_i32_302 : BitVec 32 := 2#32
  let v343 : BitVec 32 := Scalar.muli arg17 c2_i32_302
  let c0_i32_303 : BitVec 32 := 0#32
  let v344 : BitVec 32 := Scalar.addi v343 c0_i32_303
  let c2_i32_355 : BitVec 32 := 2#32
  let v389 : BitVec 32 := Scalar.addi v344 c2_i32_355
  let c64_i32_356 : BitVec 32 := 64#32
  let v390 : BitVec 32 := Scalar.muli v389 c64_i32_356
  ![v390.toNat]
def k1_cond1 (v11 : BitVec 32) (k1_t3 : Fin (k1_t3_loop v11).trips) : BitVec 1 :=
  let c0_i32_56 : BitVec 32 := 0#32
  let c1_i32_58 : BitVec 32 := 1#32
  let arg17 : BitVec 32 := Scf.iv c0_i32_56 c1_i32_58 k1_t3
  let c2_i32_302 : BitVec 32 := 2#32
  let v343 : BitVec 32 := Scalar.muli arg17 c2_i32_302
  let c0_i32_303 : BitVec 32 := 0#32
  let v344 : BitVec 32 := Scalar.addi v343 c0_i32_303
  let c2_i32_325 : BitVec 32 := 2#32
  let v361 : BitVec 32 := Scalar.addi v344 c2_i32_325
  let c128_i32_46 : BitVec 32 := 128#32
  let v45 : BitVec 32 := Scalar.addi v11 c128_i32_46
  let c1_i32_47 : BitVec 32 := 1#32
  let v46 : BitVec 32 := Scalar.subi v45 c1_i32_47
  let c0_i32_49 : BitVec 32 := 0#32
  let v48 : BitVec 1 := Scalar.cmpi .sgt v46 c0_i32_49
  let v49 : BitVec 32 := Scalar.extui v48
  let c0_i32_50 : BitVec 32 := 0#32
  let v50 : BitVec 1 := Scalar.cmpi .slt v46 c0_i32_50
  let v51 : BitVec 32 := Scalar.extui v50
  let v52 : BitVec 32 := Scalar.subi v49 v51
  let c128_i32_48 : BitVec 32 := 128#32
  let c0_i32_51 : BitVec 32 := 0#32
  let v53 : BitVec 1 := Scalar.cmpi .sgt c128_i32_48 c0_i32_51
  let v54 : BitVec 32 := Scalar.extui v53
  let c0_i32_52 : BitVec 32 := 0#32
  let v55 : BitVec 1 := Scalar.cmpi .slt c128_i32_48 c0_i32_52
  let v56 : BitVec 32 := Scalar.extui v55
  let v57 : BitVec 32 := Scalar.subi v54 v56
  let v58 : BitVec 1 := Scalar.cmpi .ne v52 v57
  let v59 : BitVec 32 := Scalar.remsi v46 c128_i32_48
  let c0_i32_53 : BitVec 32 := 0#32
  let v60 : BitVec 1 := Scalar.cmpi .ne v59 c0_i32_53
  let v61 : BitVec 1 := Scalar.andi v58 v60
  let v47 : BitVec 32 := Scalar.divsi v46 c128_i32_48
  let c1_i32_54 : BitVec 32 := 1#32
  let v62 : BitVec 32 := Scalar.subi v47 c1_i32_54
  let v63 : BitVec 32 := Scalar.select v61 v62 v47
  let c1_i32_55 : BitVec 32 := 1#32
  let v64 : BitVec 32 := Scalar.maxsi v63 c1_i32_55
  let c2_i32_326 : BitVec 32 := 2#32
  let v362 : BitVec 32 := Scalar.muli v64 c2_i32_326
  let v363 : BitVec 1 := Scalar.cmpi .slt v361 v362
  let v364 : BitVec 32 := Scalar.extui v363
  let c0_i32_327 : BitVec 32 := 0#32
  let v365 : BitVec 1 := Scalar.cmpi .ne v364 c0_i32_327
  v365

@[reducible] def k1_t5_loop : Scf.Loop 32 :=
  let c0_i32_348 : BitVec 32 := 0#32
  let c32_i32_349 : BitVec 32 := 32#32
  let v382 : BitVec 32 := Scalar.addi c0_i32_348 c32_i32_349
  let c1_i32_350 : BitVec 32 := 1#32
  ⟨c0_i32_348, v382, c1_i32_350⟩
def k1_off40 (k1_t5 : Fin k1_t5_loop.trips) (c0_i32_356 : BitVec 32) : Fin 4 → Nat :=
  let c0_i32_357 : BitVec 32 := 0#32
  let v391 : Index := Scalar.indexCast c0_i32_357
  let c1_i32_358 : BitVec 32 := 1#32
  let v392 : Index := Scalar.indexCast c1_i32_358
  let c0_i32_348 : BitVec 32 := 0#32
  let c1_i32_350 : BitVec 32 := 1#32
  let arg26 : BitVec 32 := Scf.iv c0_i32_348 c1_i32_350 k1_t5
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 1, v393.toNat, 0]
def k1_off41 (k1_t5 : Fin k1_t5_loop.trips) (c0_i32_356 : BitVec 32) : Fin 4 → Nat :=
  let c1_i32_360 : BitVec 32 := 1#32
  let v396 : Index := Scalar.indexCast c1_i32_360
  let c1_i32_361 : BitVec 32 := 1#32
  let v397 : Index := Scalar.indexCast c1_i32_361
  let c0_i32_348 : BitVec 32 := 0#32
  let c1_i32_350 : BitVec 32 := 1#32
  let arg26 : BitVec 32 := Scf.iv c0_i32_348 c1_i32_350 k1_t5
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 1, v398.toNat, 0]
def k1_off42 (k1_t5 : Fin k1_t5_loop.trips) (c0_i32_356 : BitVec 32) : Fin 4 → Nat :=
  let c0_i32_363 : BitVec 32 := 0#32
  let v403 : Index := Scalar.indexCast c0_i32_363
  let c1_i32_364 : BitVec 32 := 1#32
  let v404 : Index := Scalar.indexCast c1_i32_364
  let c0_i32_348 : BitVec 32 := 0#32
  let c1_i32_350 : BitVec 32 := 1#32
  let arg26 : BitVec 32 := Scf.iv c0_i32_348 c1_i32_350 k1_t5
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 1, v405.toNat, 16]
def k1_off43 (k1_t5 : Fin k1_t5_loop.trips) (c0_i32_356 : BitVec 32) : Fin 4 → Nat :=
  let c1_i32_365 : BitVec 32 := 1#32
  let v408 : Index := Scalar.indexCast c1_i32_365
  let c1_i32_366 : BitVec 32 := 1#32
  let v409 : Index := Scalar.indexCast c1_i32_366
  let c0_i32_348 : BitVec 32 := 0#32
  let c1_i32_350 : BitVec 32 := 1#32
  let arg26 : BitVec 32 := Scf.iv c0_i32_348 c1_i32_350 k1_t5
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 1, v410.toNat, 16]
def k1_off44 (k1_t5 : Fin k1_t5_loop.trips) (c0_i32_356 : BitVec 32) : Fin 4 → Nat :=
  let c0_i32_368 : BitVec 32 := 0#32
  let v415 : Index := Scalar.indexCast c0_i32_368
  let c1_i32_369 : BitVec 32 := 1#32
  let v416 : Index := Scalar.indexCast c1_i32_369
  let c0_i32_348 : BitVec 32 := 0#32
  let c1_i32_350 : BitVec 32 := 1#32
  let arg26 : BitVec 32 := Scf.iv c0_i32_348 c1_i32_350 k1_t5
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 1, v417.toNat, 32]
def k1_off45 (k1_t5 : Fin k1_t5_loop.trips) (c0_i32_356 : BitVec 32) : Fin 4 → Nat :=
  let c1_i32_370 : BitVec 32 := 1#32
  let v420 : Index := Scalar.indexCast c1_i32_370
  let c1_i32_371 : BitVec 32 := 1#32
  let v421 : Index := Scalar.indexCast c1_i32_371
  let c0_i32_348 : BitVec 32 := 0#32
  let c1_i32_350 : BitVec 32 := 1#32
  let arg26 : BitVec 32 := Scf.iv c0_i32_348 c1_i32_350 k1_t5
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 1, v422.toNat, 32]
def k1_off46 (k1_t5 : Fin k1_t5_loop.trips) (c0_i32_356 : BitVec 32) : Fin 4 → Nat :=
  let c0_i32_373 : BitVec 32 := 0#32
  let v427 : Index := Scalar.indexCast c0_i32_373
  let c1_i32_374 : BitVec 32 := 1#32
  let v428 : Index := Scalar.indexCast c1_i32_374
  let c0_i32_348 : BitVec 32 := 0#32
  let c1_i32_350 : BitVec 32 := 1#32
  let arg26 : BitVec 32 := Scf.iv c0_i32_348 c1_i32_350 k1_t5
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 1, v429.toNat, 48]
def k1_off47 (k1_t5 : Fin k1_t5_loop.trips) (c0_i32_356 : BitVec 32) : Fin 4 → Nat :=
  let c1_i32_375 : BitVec 32 := 1#32
  let v432 : Index := Scalar.indexCast c1_i32_375
  let c1_i32_376 : BitVec 32 := 1#32
  let v433 : Index := Scalar.indexCast c1_i32_376
  let c0_i32_348 : BitVec 32 := 0#32
  let c1_i32_350 : BitVec 32 := 1#32
  let arg26 : BitVec 32 := Scf.iv c0_i32_348 c1_i32_350 k1_t5
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 1, v434.toNat, 48]
def k1_off48 (k1_t5 : Fin k1_t5_loop.trips) (c0_i32_356 : BitVec 32) : Fin 4 → Nat :=
  let c0_i32_378 : BitVec 32 := 0#32
  let v439 : Index := Scalar.indexCast c0_i32_378
  let c1_i32_379 : BitVec 32 := 1#32
  let v440 : Index := Scalar.indexCast c1_i32_379
  let c0_i32_348 : BitVec 32 := 0#32
  let c1_i32_350 : BitVec 32 := 1#32
  let arg26 : BitVec 32 := Scf.iv c0_i32_348 c1_i32_350 k1_t5
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 1, v441.toNat, 64]
def k1_off49 (k1_t5 : Fin k1_t5_loop.trips) (c0_i32_356 : BitVec 32) : Fin 4 → Nat :=
  let c1_i32_380 : BitVec 32 := 1#32
  let v444 : Index := Scalar.indexCast c1_i32_380
  let c1_i32_381 : BitVec 32 := 1#32
  let v445 : Index := Scalar.indexCast c1_i32_381
  let c0_i32_348 : BitVec 32 := 0#32
  let c1_i32_350 : BitVec 32 := 1#32
  let arg26 : BitVec 32 := Scf.iv c0_i32_348 c1_i32_350 k1_t5
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 1, v446.toNat, 64]
def k1_off50 (k1_t5 : Fin k1_t5_loop.trips) (c0_i32_356 : BitVec 32) : Fin 4 → Nat :=
  let c0_i32_383 : BitVec 32 := 0#32
  let v451 : Index := Scalar.indexCast c0_i32_383
  let c1_i32_384 : BitVec 32 := 1#32
  let v452 : Index := Scalar.indexCast c1_i32_384
  let c0_i32_348 : BitVec 32 := 0#32
  let c1_i32_350 : BitVec 32 := 1#32
  let arg26 : BitVec 32 := Scf.iv c0_i32_348 c1_i32_350 k1_t5
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 1, v453.toNat, 80]
def k1_off51 (k1_t5 : Fin k1_t5_loop.trips) (c0_i32_356 : BitVec 32) : Fin 4 → Nat :=
  let c1_i32_385 : BitVec 32 := 1#32
  let v456 : Index := Scalar.indexCast c1_i32_385
  let c1_i32_386 : BitVec 32 := 1#32
  let v457 : Index := Scalar.indexCast c1_i32_386
  let c0_i32_348 : BitVec 32 := 0#32
  let c1_i32_350 : BitVec 32 := 1#32
  let arg26 : BitVec 32 := Scf.iv c0_i32_348 c1_i32_350 k1_t5
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 1, v458.toNat, 80]
def k1_off52 (k1_t5 : Fin k1_t5_loop.trips) (c0_i32_356 : BitVec 32) : Fin 4 → Nat :=
  let c0_i32_388 : BitVec 32 := 0#32
  let v463 : Index := Scalar.indexCast c0_i32_388
  let c1_i32_389 : BitVec 32 := 1#32
  let v464 : Index := Scalar.indexCast c1_i32_389
  let c0_i32_348 : BitVec 32 := 0#32
  let c1_i32_350 : BitVec 32 := 1#32
  let arg26 : BitVec 32 := Scf.iv c0_i32_348 c1_i32_350 k1_t5
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 1, v465.toNat, 96]
def k1_off53 (k1_t5 : Fin k1_t5_loop.trips) (c0_i32_356 : BitVec 32) : Fin 4 → Nat :=
  let c1_i32_390 : BitVec 32 := 1#32
  let v468 : Index := Scalar.indexCast c1_i32_390
  let c1_i32_391 : BitVec 32 := 1#32
  let v469 : Index := Scalar.indexCast c1_i32_391
  let c0_i32_348 : BitVec 32 := 0#32
  let c1_i32_350 : BitVec 32 := 1#32
  let arg26 : BitVec 32 := Scf.iv c0_i32_348 c1_i32_350 k1_t5
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 1, v470.toNat, 96]
def k1_off54 (k1_t5 : Fin k1_t5_loop.trips) (c0_i32_356 : BitVec 32) : Fin 4 → Nat :=
  let c0_i32_393 : BitVec 32 := 0#32
  let v475 : Index := Scalar.indexCast c0_i32_393
  let c1_i32_394 : BitVec 32 := 1#32
  let v476 : Index := Scalar.indexCast c1_i32_394
  let c0_i32_348 : BitVec 32 := 0#32
  let c1_i32_350 : BitVec 32 := 1#32
  let arg26 : BitVec 32 := Scf.iv c0_i32_348 c1_i32_350 k1_t5
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 1, v477.toNat, 112]
def k1_off55 (k1_t5 : Fin k1_t5_loop.trips) (c0_i32_356 : BitVec 32) : Fin 4 → Nat :=
  let c1_i32_395 : BitVec 32 := 1#32
  let v480 : Index := Scalar.indexCast c1_i32_395
  let c1_i32_396 : BitVec 32 := 1#32
  let v481 : Index := Scalar.indexCast c1_i32_396
  let c0_i32_348 : BitVec 32 := 0#32
  let c1_i32_350 : BitVec 32 := 1#32
  let arg26 : BitVec 32 := Scf.iv c0_i32_348 c1_i32_350 k1_t5
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 1, v482.toNat, 112]
def k1_off56 (v11 : BitVec 32) (k1_t3 : Fin (k1_t3_loop v11).trips) : Fin 1 → Nat :=
  let c0_i32_56 : BitVec 32 := 0#32
  let c1_i32_58 : BitVec 32 := 1#32
  let arg17 : BitVec 32 := Scf.iv c0_i32_56 c1_i32_58 k1_t3
  let c2_i32_328 : BitVec 32 := 2#32
  let v366 : BitVec 32 := Scalar.muli arg17 c2_i32_328
  let c1_i32_329 : BitVec 32 := 1#32
  let v367 : BitVec 32 := Scalar.addi v366 c1_i32_329
  let c2_i32_355 : BitVec 32 := 2#32
  let v389 : BitVec 32 := Scalar.addi v367 c2_i32_355
  let c64_i32_356 : BitVec 32 := 64#32
  let v390 : BitVec 32 := Scalar.muli v389 c64_i32_356
  ![v390.toNat]
def k1_cond2 (v11 : BitVec 32) (k1_t3 : Fin (k1_t3_loop v11).trips) : BitVec 1 :=
  let c0_i32_56 : BitVec 32 := 0#32
  let c1_i32_58 : BitVec 32 := 1#32
  let arg17 : BitVec 32 := Scf.iv c0_i32_56 c1_i32_58 k1_t3
  let c2_i32_328 : BitVec 32 := 2#32
  let v366 : BitVec 32 := Scalar.muli arg17 c2_i32_328
  let c1_i32_329 : BitVec 32 := 1#32
  let v367 : BitVec 32 := Scalar.addi v366 c1_i32_329
  let c2_i32_352 : BitVec 32 := 2#32
  let v384 : BitVec 32 := Scalar.addi v367 c2_i32_352
  let c128_i32_46 : BitVec 32 := 128#32
  let v45 : BitVec 32 := Scalar.addi v11 c128_i32_46
  let c1_i32_47 : BitVec 32 := 1#32
  let v46 : BitVec 32 := Scalar.subi v45 c1_i32_47
  let c0_i32_49 : BitVec 32 := 0#32
  let v48 : BitVec 1 := Scalar.cmpi .sgt v46 c0_i32_49
  let v49 : BitVec 32 := Scalar.extui v48
  let c0_i32_50 : BitVec 32 := 0#32
  let v50 : BitVec 1 := Scalar.cmpi .slt v46 c0_i32_50
  let v51 : BitVec 32 := Scalar.extui v50
  let v52 : BitVec 32 := Scalar.subi v49 v51
  let c128_i32_48 : BitVec 32 := 128#32
  let c0_i32_51 : BitVec 32 := 0#32
  let v53 : BitVec 1 := Scalar.cmpi .sgt c128_i32_48 c0_i32_51
  let v54 : BitVec 32 := Scalar.extui v53
  let c0_i32_52 : BitVec 32 := 0#32
  let v55 : BitVec 1 := Scalar.cmpi .slt c128_i32_48 c0_i32_52
  let v56 : BitVec 32 := Scalar.extui v55
  let v57 : BitVec 32 := Scalar.subi v54 v56
  let v58 : BitVec 1 := Scalar.cmpi .ne v52 v57
  let v59 : BitVec 32 := Scalar.remsi v46 c128_i32_48
  let c0_i32_53 : BitVec 32 := 0#32
  let v60 : BitVec 1 := Scalar.cmpi .ne v59 c0_i32_53
  let v61 : BitVec 1 := Scalar.andi v58 v60
  let v47 : BitVec 32 := Scalar.divsi v46 c128_i32_48
  let c1_i32_54 : BitVec 32 := 1#32
  let v62 : BitVec 32 := Scalar.subi v47 c1_i32_54
  let v63 : BitVec 32 := Scalar.select v61 v62 v47
  let c1_i32_55 : BitVec 32 := 1#32
  let v64 : BitVec 32 := Scalar.maxsi v63 c1_i32_55
  let c2_i32_353 : BitVec 32 := 2#32
  let v385 : BitVec 32 := Scalar.muli v64 c2_i32_353
  let v386 : BitVec 1 := Scalar.cmpi .slt v384 v385
  let v387 : BitVec 32 := Scalar.extui v386
  let c0_i32_354 : BitVec 32 := 0#32
  let v388 : BitVec 1 := Scalar.cmpi .ne v387 c0_i32_354
  v388

@[reducible] def k1_t6_loop (v11 : BitVec 32) : Scf.Loop 32 :=
  let c0_i32_56 : BitVec 32 := 0#32
  let c128_i32_46 : BitVec 32 := 128#32
  let v45 : BitVec 32 := Scalar.addi v11 c128_i32_46
  let c1_i32_47 : BitVec 32 := 1#32
  let v46 : BitVec 32 := Scalar.subi v45 c1_i32_47
  let c0_i32_49 : BitVec 32 := 0#32
  let v48 : BitVec 1 := Scalar.cmpi .sgt v46 c0_i32_49
  let v49 : BitVec 32 := Scalar.extui v48
  let c0_i32_50 : BitVec 32 := 0#32
  let v50 : BitVec 1 := Scalar.cmpi .slt v46 c0_i32_50
  let v51 : BitVec 32 := Scalar.extui v50
  let v52 : BitVec 32 := Scalar.subi v49 v51
  let c128_i32_48 : BitVec 32 := 128#32
  let c0_i32_51 : BitVec 32 := 0#32
  let v53 : BitVec 1 := Scalar.cmpi .sgt c128_i32_48 c0_i32_51
  let v54 : BitVec 32 := Scalar.extui v53
  let c0_i32_52 : BitVec 32 := 0#32
  let v55 : BitVec 1 := Scalar.cmpi .slt c128_i32_48 c0_i32_52
  let v56 : BitVec 32 := Scalar.extui v55
  let v57 : BitVec 32 := Scalar.subi v54 v56
  let v58 : BitVec 1 := Scalar.cmpi .ne v52 v57
  let v59 : BitVec 32 := Scalar.remsi v46 c128_i32_48
  let c0_i32_53 : BitVec 32 := 0#32
  let v60 : BitVec 1 := Scalar.cmpi .ne v59 c0_i32_53
  let v61 : BitVec 1 := Scalar.andi v58 v60
  let v47 : BitVec 32 := Scalar.divsi v46 c128_i32_48
  let c1_i32_54 : BitVec 32 := 1#32
  let v62 : BitVec 32 := Scalar.subi v47 c1_i32_54
  let v63 : BitVec 32 := Scalar.select v61 v62 v47
  let c1_i32_55 : BitVec 32 := 1#32
  let v64 : BitVec 32 := Scalar.maxsi v63 c1_i32_55
  let v65 : BitVec 32 := Scalar.subi v64 c0_i32_56
  let c1_i32_57 : BitVec 32 := 1#32
  let v67 : BitVec 32 := Scalar.divsi v65 c1_i32_57
  let v68 : BitVec 32 := Scalar.muli v67 c1_i32_57
  let v69 : BitVec 32 := Scalar.addi c0_i32_56 v68
  let v66 : BitVec 32 := Scalar.addi c0_i32_56 v65
  let c1_i32_59 : BitVec 32 := 1#32
  ⟨v69, v66, c1_i32_59⟩
def k1_off57 (v11 : BitVec 32) (k1_t6 : Fin (k1_t6_loop v11).trips) (c0_i32_303 : BitVec 32) : Fin 1 → Nat :=
  let c0_i32_56 : BitVec 32 := 0#32
  let c128_i32_46 : BitVec 32 := 128#32
  let v45 : BitVec 32 := Scalar.addi v11 c128_i32_46
  let c1_i32_47 : BitVec 32 := 1#32
  let v46 : BitVec 32 := Scalar.subi v45 c1_i32_47
  let c0_i32_49 : BitVec 32 := 0#32
  let v48 : BitVec 1 := Scalar.cmpi .sgt v46 c0_i32_49
  let v49 : BitVec 32 := Scalar.extui v48
  let c0_i32_50 : BitVec 32 := 0#32
  let v50 : BitVec 1 := Scalar.cmpi .slt v46 c0_i32_50
  let v51 : BitVec 32 := Scalar.extui v50
  let v52 : BitVec 32 := Scalar.subi v49 v51
  let c128_i32_48 : BitVec 32 := 128#32
  let c0_i32_51 : BitVec 32 := 0#32
  let v53 : BitVec 1 := Scalar.cmpi .sgt c128_i32_48 c0_i32_51
  let v54 : BitVec 32 := Scalar.extui v53
  let c0_i32_52 : BitVec 32 := 0#32
  let v55 : BitVec 1 := Scalar.cmpi .slt c128_i32_48 c0_i32_52
  let v56 : BitVec 32 := Scalar.extui v55
  let v57 : BitVec 32 := Scalar.subi v54 v56
  let v58 : BitVec 1 := Scalar.cmpi .ne v52 v57
  let v59 : BitVec 32 := Scalar.remsi v46 c128_i32_48
  let c0_i32_53 : BitVec 32 := 0#32
  let v60 : BitVec 1 := Scalar.cmpi .ne v59 c0_i32_53
  let v61 : BitVec 1 := Scalar.andi v58 v60
  let v47 : BitVec 32 := Scalar.divsi v46 c128_i32_48
  let c1_i32_54 : BitVec 32 := 1#32
  let v62 : BitVec 32 := Scalar.subi v47 c1_i32_54
  let v63 : BitVec 32 := Scalar.select v61 v62 v47
  let c1_i32_55 : BitVec 32 := 1#32
  let v64 : BitVec 32 := Scalar.maxsi v63 c1_i32_55
  let v65 : BitVec 32 := Scalar.subi v64 c0_i32_56
  let c1_i32_57 : BitVec 32 := 1#32
  let v67 : BitVec 32 := Scalar.divsi v65 c1_i32_57
  let v68 : BitVec 32 := Scalar.muli v67 c1_i32_57
  let v69 : BitVec 32 := Scalar.addi c0_i32_56 v68
  let c1_i32_59 : BitVec 32 := 1#32
  let arg17 : BitVec 32 := Scf.iv v69 c1_i32_59 k1_t6
  let c2_i32_302 : BitVec 32 := 2#32
  let v343 : BitVec 32 := Scalar.muli arg17 c2_i32_302
  let v344 : BitVec 32 := Scalar.addi v343 c0_i32_303
  let c64_i32_304 : BitVec 32 := 64#32
  let v345 : BitVec 32 := Scalar.muli v344 c64_i32_304
  ![v345.toNat]
@[reducible] def k1_t7_loop : Scf.Loop 32 :=
  let c0_i32_322 : BitVec 32 := 0#32
  let c32_i32 : BitVec 32 := 32#32
  let v359 : BitVec 32 := Scalar.addi c0_i32_322 c32_i32
  let c1_i32_323 : BitVec 32 := 1#32
  ⟨c0_i32_322, v359, c1_i32_323⟩
def k1_off58 (k1_t7 : Fin k1_t7_loop.trips) (c0_i32_356 : BitVec 32) : Fin 4 → Nat :=
  let c0_i32_357 : BitVec 32 := 0#32
  let v391 : Index := Scalar.indexCast c0_i32_357
  let c0_i32_358 : BitVec 32 := 0#32
  let v392 : Index := Scalar.indexCast c0_i32_358
  let c0_i32_322 : BitVec 32 := 0#32
  let c1_i32_323 : BitVec 32 := 1#32
  let arg26 : BitVec 32 := Scf.iv c0_i32_322 c1_i32_323 k1_t7
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 0, v393.toNat, 0]
def k1_off59 (k1_t7 : Fin k1_t7_loop.trips) (c0_i32_356 : BitVec 32) : Fin 4 → Nat :=
  let c1_i32_360 : BitVec 32 := 1#32
  let v396 : Index := Scalar.indexCast c1_i32_360
  let c0_i32_361 : BitVec 32 := 0#32
  let v397 : Index := Scalar.indexCast c0_i32_361
  let c0_i32_322 : BitVec 32 := 0#32
  let c1_i32_323 : BitVec 32 := 1#32
  let arg26 : BitVec 32 := Scf.iv c0_i32_322 c1_i32_323 k1_t7
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 0, v398.toNat, 0]
def k1_off60 (k1_t7 : Fin k1_t7_loop.trips) (c0_i32_356 : BitVec 32) : Fin 4 → Nat :=
  let c0_i32_363 : BitVec 32 := 0#32
  let v403 : Index := Scalar.indexCast c0_i32_363
  let c0_i32_364 : BitVec 32 := 0#32
  let v404 : Index := Scalar.indexCast c0_i32_364
  let c0_i32_322 : BitVec 32 := 0#32
  let c1_i32_323 : BitVec 32 := 1#32
  let arg26 : BitVec 32 := Scf.iv c0_i32_322 c1_i32_323 k1_t7
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 0, v405.toNat, 16]
def k1_off61 (k1_t7 : Fin k1_t7_loop.trips) (c0_i32_356 : BitVec 32) : Fin 4 → Nat :=
  let c1_i32_365 : BitVec 32 := 1#32
  let v408 : Index := Scalar.indexCast c1_i32_365
  let c0_i32_366 : BitVec 32 := 0#32
  let v409 : Index := Scalar.indexCast c0_i32_366
  let c0_i32_322 : BitVec 32 := 0#32
  let c1_i32_323 : BitVec 32 := 1#32
  let arg26 : BitVec 32 := Scf.iv c0_i32_322 c1_i32_323 k1_t7
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 0, v410.toNat, 16]
def k1_off62 (k1_t7 : Fin k1_t7_loop.trips) (c0_i32_356 : BitVec 32) : Fin 4 → Nat :=
  let c0_i32_368 : BitVec 32 := 0#32
  let v415 : Index := Scalar.indexCast c0_i32_368
  let c0_i32_369 : BitVec 32 := 0#32
  let v416 : Index := Scalar.indexCast c0_i32_369
  let c0_i32_322 : BitVec 32 := 0#32
  let c1_i32_323 : BitVec 32 := 1#32
  let arg26 : BitVec 32 := Scf.iv c0_i32_322 c1_i32_323 k1_t7
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 0, v417.toNat, 32]
def k1_off63 (k1_t7 : Fin k1_t7_loop.trips) (c0_i32_356 : BitVec 32) : Fin 4 → Nat :=
  let c1_i32_370 : BitVec 32 := 1#32
  let v420 : Index := Scalar.indexCast c1_i32_370
  let c0_i32_371 : BitVec 32 := 0#32
  let v421 : Index := Scalar.indexCast c0_i32_371
  let c0_i32_322 : BitVec 32 := 0#32
  let c1_i32_323 : BitVec 32 := 1#32
  let arg26 : BitVec 32 := Scf.iv c0_i32_322 c1_i32_323 k1_t7
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 0, v422.toNat, 32]
def k1_off64 (k1_t7 : Fin k1_t7_loop.trips) (c0_i32_356 : BitVec 32) : Fin 4 → Nat :=
  let c0_i32_373 : BitVec 32 := 0#32
  let v427 : Index := Scalar.indexCast c0_i32_373
  let c0_i32_374 : BitVec 32 := 0#32
  let v428 : Index := Scalar.indexCast c0_i32_374
  let c0_i32_322 : BitVec 32 := 0#32
  let c1_i32_323 : BitVec 32 := 1#32
  let arg26 : BitVec 32 := Scf.iv c0_i32_322 c1_i32_323 k1_t7
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 0, v429.toNat, 48]
def k1_off65 (k1_t7 : Fin k1_t7_loop.trips) (c0_i32_356 : BitVec 32) : Fin 4 → Nat :=
  let c1_i32_375 : BitVec 32 := 1#32
  let v432 : Index := Scalar.indexCast c1_i32_375
  let c0_i32_376 : BitVec 32 := 0#32
  let v433 : Index := Scalar.indexCast c0_i32_376
  let c0_i32_322 : BitVec 32 := 0#32
  let c1_i32_323 : BitVec 32 := 1#32
  let arg26 : BitVec 32 := Scf.iv c0_i32_322 c1_i32_323 k1_t7
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 0, v434.toNat, 48]
def k1_off66 (k1_t7 : Fin k1_t7_loop.trips) (c0_i32_356 : BitVec 32) : Fin 4 → Nat :=
  let c0_i32_378 : BitVec 32 := 0#32
  let v439 : Index := Scalar.indexCast c0_i32_378
  let c0_i32_379 : BitVec 32 := 0#32
  let v440 : Index := Scalar.indexCast c0_i32_379
  let c0_i32_322 : BitVec 32 := 0#32
  let c1_i32_323 : BitVec 32 := 1#32
  let arg26 : BitVec 32 := Scf.iv c0_i32_322 c1_i32_323 k1_t7
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 0, v441.toNat, 64]
def k1_off67 (k1_t7 : Fin k1_t7_loop.trips) (c0_i32_356 : BitVec 32) : Fin 4 → Nat :=
  let c1_i32_380 : BitVec 32 := 1#32
  let v444 : Index := Scalar.indexCast c1_i32_380
  let c0_i32_381 : BitVec 32 := 0#32
  let v445 : Index := Scalar.indexCast c0_i32_381
  let c0_i32_322 : BitVec 32 := 0#32
  let c1_i32_323 : BitVec 32 := 1#32
  let arg26 : BitVec 32 := Scf.iv c0_i32_322 c1_i32_323 k1_t7
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 0, v446.toNat, 64]
def k1_off68 (k1_t7 : Fin k1_t7_loop.trips) (c0_i32_356 : BitVec 32) : Fin 4 → Nat :=
  let c0_i32_383 : BitVec 32 := 0#32
  let v451 : Index := Scalar.indexCast c0_i32_383
  let c0_i32_384 : BitVec 32 := 0#32
  let v452 : Index := Scalar.indexCast c0_i32_384
  let c0_i32_322 : BitVec 32 := 0#32
  let c1_i32_323 : BitVec 32 := 1#32
  let arg26 : BitVec 32 := Scf.iv c0_i32_322 c1_i32_323 k1_t7
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 0, v453.toNat, 80]
def k1_off69 (k1_t7 : Fin k1_t7_loop.trips) (c0_i32_356 : BitVec 32) : Fin 4 → Nat :=
  let c1_i32_385 : BitVec 32 := 1#32
  let v456 : Index := Scalar.indexCast c1_i32_385
  let c0_i32_386 : BitVec 32 := 0#32
  let v457 : Index := Scalar.indexCast c0_i32_386
  let c0_i32_322 : BitVec 32 := 0#32
  let c1_i32_323 : BitVec 32 := 1#32
  let arg26 : BitVec 32 := Scf.iv c0_i32_322 c1_i32_323 k1_t7
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 0, v458.toNat, 80]
def k1_off70 (k1_t7 : Fin k1_t7_loop.trips) (c0_i32_356 : BitVec 32) : Fin 4 → Nat :=
  let c0_i32_388 : BitVec 32 := 0#32
  let v463 : Index := Scalar.indexCast c0_i32_388
  let c0_i32_389 : BitVec 32 := 0#32
  let v464 : Index := Scalar.indexCast c0_i32_389
  let c0_i32_322 : BitVec 32 := 0#32
  let c1_i32_323 : BitVec 32 := 1#32
  let arg26 : BitVec 32 := Scf.iv c0_i32_322 c1_i32_323 k1_t7
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 0, v465.toNat, 96]
def k1_off71 (k1_t7 : Fin k1_t7_loop.trips) (c0_i32_356 : BitVec 32) : Fin 4 → Nat :=
  let c1_i32_390 : BitVec 32 := 1#32
  let v468 : Index := Scalar.indexCast c1_i32_390
  let c0_i32_391 : BitVec 32 := 0#32
  let v469 : Index := Scalar.indexCast c0_i32_391
  let c0_i32_322 : BitVec 32 := 0#32
  let c1_i32_323 : BitVec 32 := 1#32
  let arg26 : BitVec 32 := Scf.iv c0_i32_322 c1_i32_323 k1_t7
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 0, v470.toNat, 96]
def k1_off72 (k1_t7 : Fin k1_t7_loop.trips) (c0_i32_356 : BitVec 32) : Fin 4 → Nat :=
  let c0_i32_393 : BitVec 32 := 0#32
  let v475 : Index := Scalar.indexCast c0_i32_393
  let c0_i32_394 : BitVec 32 := 0#32
  let v476 : Index := Scalar.indexCast c0_i32_394
  let c0_i32_322 : BitVec 32 := 0#32
  let c1_i32_323 : BitVec 32 := 1#32
  let arg26 : BitVec 32 := Scf.iv c0_i32_322 c1_i32_323 k1_t7
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 0, v477.toNat, 112]
def k1_off73 (k1_t7 : Fin k1_t7_loop.trips) (c0_i32_356 : BitVec 32) : Fin 4 → Nat :=
  let c1_i32_395 : BitVec 32 := 1#32
  let v480 : Index := Scalar.indexCast c1_i32_395
  let c0_i32_396 : BitVec 32 := 0#32
  let v481 : Index := Scalar.indexCast c0_i32_396
  let c0_i32_322 : BitVec 32 := 0#32
  let c1_i32_323 : BitVec 32 := 1#32
  let arg26 : BitVec 32 := Scf.iv c0_i32_322 c1_i32_323 k1_t7
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 0, v482.toNat, 112]
def k1_off74 (v11 : BitVec 32) (k1_t6 : Fin (k1_t6_loop v11).trips) : Fin 1 → Nat :=
  let c0_i32_56 : BitVec 32 := 0#32
  let c128_i32_46 : BitVec 32 := 128#32
  let v45 : BitVec 32 := Scalar.addi v11 c128_i32_46
  let c1_i32_47 : BitVec 32 := 1#32
  let v46 : BitVec 32 := Scalar.subi v45 c1_i32_47
  let c0_i32_49 : BitVec 32 := 0#32
  let v48 : BitVec 1 := Scalar.cmpi .sgt v46 c0_i32_49
  let v49 : BitVec 32 := Scalar.extui v48
  let c0_i32_50 : BitVec 32 := 0#32
  let v50 : BitVec 1 := Scalar.cmpi .slt v46 c0_i32_50
  let v51 : BitVec 32 := Scalar.extui v50
  let v52 : BitVec 32 := Scalar.subi v49 v51
  let c128_i32_48 : BitVec 32 := 128#32
  let c0_i32_51 : BitVec 32 := 0#32
  let v53 : BitVec 1 := Scalar.cmpi .sgt c128_i32_48 c0_i32_51
  let v54 : BitVec 32 := Scalar.extui v53
  let c0_i32_52 : BitVec 32 := 0#32
  let v55 : BitVec 1 := Scalar.cmpi .slt c128_i32_48 c0_i32_52
  let v56 : BitVec 32 := Scalar.extui v55
  let v57 : BitVec 32 := Scalar.subi v54 v56
  let v58 : BitVec 1 := Scalar.cmpi .ne v52 v57
  let v59 : BitVec 32 := Scalar.remsi v46 c128_i32_48
  let c0_i32_53 : BitVec 32 := 0#32
  let v60 : BitVec 1 := Scalar.cmpi .ne v59 c0_i32_53
  let v61 : BitVec 1 := Scalar.andi v58 v60
  let v47 : BitVec 32 := Scalar.divsi v46 c128_i32_48
  let c1_i32_54 : BitVec 32 := 1#32
  let v62 : BitVec 32 := Scalar.subi v47 c1_i32_54
  let v63 : BitVec 32 := Scalar.select v61 v62 v47
  let c1_i32_55 : BitVec 32 := 1#32
  let v64 : BitVec 32 := Scalar.maxsi v63 c1_i32_55
  let v65 : BitVec 32 := Scalar.subi v64 c0_i32_56
  let c1_i32_57 : BitVec 32 := 1#32
  let v67 : BitVec 32 := Scalar.divsi v65 c1_i32_57
  let v68 : BitVec 32 := Scalar.muli v67 c1_i32_57
  let v69 : BitVec 32 := Scalar.addi c0_i32_56 v68
  let c1_i32_59 : BitVec 32 := 1#32
  let arg17 : BitVec 32 := Scf.iv v69 c1_i32_59 k1_t6
  let c2_i32_302 : BitVec 32 := 2#32
  let v343 : BitVec 32 := Scalar.muli arg17 c2_i32_302
  let c0_i32_303 : BitVec 32 := 0#32
  let v344 : BitVec 32 := Scalar.addi v343 c0_i32_303
  let c2_i32_355 : BitVec 32 := 2#32
  let v389 : BitVec 32 := Scalar.addi v344 c2_i32_355
  let c64_i32_356 : BitVec 32 := 64#32
  let v390 : BitVec 32 := Scalar.muli v389 c64_i32_356
  ![v390.toNat]
def k1_cond3 (v11 : BitVec 32) (k1_t6 : Fin (k1_t6_loop v11).trips) : BitVec 1 :=
  let c0_i32_56 : BitVec 32 := 0#32
  let c128_i32_46 : BitVec 32 := 128#32
  let v45 : BitVec 32 := Scalar.addi v11 c128_i32_46
  let c1_i32_47 : BitVec 32 := 1#32
  let v46 : BitVec 32 := Scalar.subi v45 c1_i32_47
  let c0_i32_49 : BitVec 32 := 0#32
  let v48 : BitVec 1 := Scalar.cmpi .sgt v46 c0_i32_49
  let v49 : BitVec 32 := Scalar.extui v48
  let c0_i32_50 : BitVec 32 := 0#32
  let v50 : BitVec 1 := Scalar.cmpi .slt v46 c0_i32_50
  let v51 : BitVec 32 := Scalar.extui v50
  let v52 : BitVec 32 := Scalar.subi v49 v51
  let c128_i32_48 : BitVec 32 := 128#32
  let c0_i32_51 : BitVec 32 := 0#32
  let v53 : BitVec 1 := Scalar.cmpi .sgt c128_i32_48 c0_i32_51
  let v54 : BitVec 32 := Scalar.extui v53
  let c0_i32_52 : BitVec 32 := 0#32
  let v55 : BitVec 1 := Scalar.cmpi .slt c128_i32_48 c0_i32_52
  let v56 : BitVec 32 := Scalar.extui v55
  let v57 : BitVec 32 := Scalar.subi v54 v56
  let v58 : BitVec 1 := Scalar.cmpi .ne v52 v57
  let v59 : BitVec 32 := Scalar.remsi v46 c128_i32_48
  let c0_i32_53 : BitVec 32 := 0#32
  let v60 : BitVec 1 := Scalar.cmpi .ne v59 c0_i32_53
  let v61 : BitVec 1 := Scalar.andi v58 v60
  let v47 : BitVec 32 := Scalar.divsi v46 c128_i32_48
  let c1_i32_54 : BitVec 32 := 1#32
  let v62 : BitVec 32 := Scalar.subi v47 c1_i32_54
  let v63 : BitVec 32 := Scalar.select v61 v62 v47
  let c1_i32_55 : BitVec 32 := 1#32
  let v64 : BitVec 32 := Scalar.maxsi v63 c1_i32_55
  let v65 : BitVec 32 := Scalar.subi v64 c0_i32_56
  let c1_i32_57 : BitVec 32 := 1#32
  let v67 : BitVec 32 := Scalar.divsi v65 c1_i32_57
  let v68 : BitVec 32 := Scalar.muli v67 c1_i32_57
  let v69 : BitVec 32 := Scalar.addi c0_i32_56 v68
  let c1_i32_59 : BitVec 32 := 1#32
  let arg17 : BitVec 32 := Scf.iv v69 c1_i32_59 k1_t6
  let c2_i32_302 : BitVec 32 := 2#32
  let v343 : BitVec 32 := Scalar.muli arg17 c2_i32_302
  let c0_i32_303 : BitVec 32 := 0#32
  let v344 : BitVec 32 := Scalar.addi v343 c0_i32_303
  let c2_i32_325 : BitVec 32 := 2#32
  let v361 : BitVec 32 := Scalar.addi v344 c2_i32_325
  let c2_i32_326 : BitVec 32 := 2#32
  let v362 : BitVec 32 := Scalar.muli v64 c2_i32_326
  let v363 : BitVec 1 := Scalar.cmpi .slt v361 v362
  let v364 : BitVec 32 := Scalar.extui v363
  let c0_i32_327 : BitVec 32 := 0#32
  let v365 : BitVec 1 := Scalar.cmpi .ne v364 c0_i32_327
  v365

@[reducible] def k1_t8_loop : Scf.Loop 32 :=
  let c0_i32_348 : BitVec 32 := 0#32
  let c32_i32_349 : BitVec 32 := 32#32
  let v382 : BitVec 32 := Scalar.addi c0_i32_348 c32_i32_349
  let c1_i32_350 : BitVec 32 := 1#32
  ⟨c0_i32_348, v382, c1_i32_350⟩
def k1_off75 (k1_t8 : Fin k1_t8_loop.trips) (c0_i32_356 : BitVec 32) : Fin 4 → Nat :=
  let c0_i32_357 : BitVec 32 := 0#32
  let v391 : Index := Scalar.indexCast c0_i32_357
  let c1_i32_358 : BitVec 32 := 1#32
  let v392 : Index := Scalar.indexCast c1_i32_358
  let c0_i32_348 : BitVec 32 := 0#32
  let c1_i32_350 : BitVec 32 := 1#32
  let arg26 : BitVec 32 := Scf.iv c0_i32_348 c1_i32_350 k1_t8
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 1, v393.toNat, 0]
def k1_off76 (k1_t8 : Fin k1_t8_loop.trips) (c0_i32_356 : BitVec 32) : Fin 4 → Nat :=
  let c1_i32_360 : BitVec 32 := 1#32
  let v396 : Index := Scalar.indexCast c1_i32_360
  let c1_i32_361 : BitVec 32 := 1#32
  let v397 : Index := Scalar.indexCast c1_i32_361
  let c0_i32_348 : BitVec 32 := 0#32
  let c1_i32_350 : BitVec 32 := 1#32
  let arg26 : BitVec 32 := Scf.iv c0_i32_348 c1_i32_350 k1_t8
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 1, v398.toNat, 0]
def k1_off77 (k1_t8 : Fin k1_t8_loop.trips) (c0_i32_356 : BitVec 32) : Fin 4 → Nat :=
  let c0_i32_363 : BitVec 32 := 0#32
  let v403 : Index := Scalar.indexCast c0_i32_363
  let c1_i32_364 : BitVec 32 := 1#32
  let v404 : Index := Scalar.indexCast c1_i32_364
  let c0_i32_348 : BitVec 32 := 0#32
  let c1_i32_350 : BitVec 32 := 1#32
  let arg26 : BitVec 32 := Scf.iv c0_i32_348 c1_i32_350 k1_t8
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 1, v405.toNat, 16]
def k1_off78 (k1_t8 : Fin k1_t8_loop.trips) (c0_i32_356 : BitVec 32) : Fin 4 → Nat :=
  let c1_i32_365 : BitVec 32 := 1#32
  let v408 : Index := Scalar.indexCast c1_i32_365
  let c1_i32_366 : BitVec 32 := 1#32
  let v409 : Index := Scalar.indexCast c1_i32_366
  let c0_i32_348 : BitVec 32 := 0#32
  let c1_i32_350 : BitVec 32 := 1#32
  let arg26 : BitVec 32 := Scf.iv c0_i32_348 c1_i32_350 k1_t8
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 1, v410.toNat, 16]
def k1_off79 (k1_t8 : Fin k1_t8_loop.trips) (c0_i32_356 : BitVec 32) : Fin 4 → Nat :=
  let c0_i32_368 : BitVec 32 := 0#32
  let v415 : Index := Scalar.indexCast c0_i32_368
  let c1_i32_369 : BitVec 32 := 1#32
  let v416 : Index := Scalar.indexCast c1_i32_369
  let c0_i32_348 : BitVec 32 := 0#32
  let c1_i32_350 : BitVec 32 := 1#32
  let arg26 : BitVec 32 := Scf.iv c0_i32_348 c1_i32_350 k1_t8
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 1, v417.toNat, 32]
def k1_off80 (k1_t8 : Fin k1_t8_loop.trips) (c0_i32_356 : BitVec 32) : Fin 4 → Nat :=
  let c1_i32_370 : BitVec 32 := 1#32
  let v420 : Index := Scalar.indexCast c1_i32_370
  let c1_i32_371 : BitVec 32 := 1#32
  let v421 : Index := Scalar.indexCast c1_i32_371
  let c0_i32_348 : BitVec 32 := 0#32
  let c1_i32_350 : BitVec 32 := 1#32
  let arg26 : BitVec 32 := Scf.iv c0_i32_348 c1_i32_350 k1_t8
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 1, v422.toNat, 32]
def k1_off81 (k1_t8 : Fin k1_t8_loop.trips) (c0_i32_356 : BitVec 32) : Fin 4 → Nat :=
  let c0_i32_373 : BitVec 32 := 0#32
  let v427 : Index := Scalar.indexCast c0_i32_373
  let c1_i32_374 : BitVec 32 := 1#32
  let v428 : Index := Scalar.indexCast c1_i32_374
  let c0_i32_348 : BitVec 32 := 0#32
  let c1_i32_350 : BitVec 32 := 1#32
  let arg26 : BitVec 32 := Scf.iv c0_i32_348 c1_i32_350 k1_t8
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 1, v429.toNat, 48]
def k1_off82 (k1_t8 : Fin k1_t8_loop.trips) (c0_i32_356 : BitVec 32) : Fin 4 → Nat :=
  let c1_i32_375 : BitVec 32 := 1#32
  let v432 : Index := Scalar.indexCast c1_i32_375
  let c1_i32_376 : BitVec 32 := 1#32
  let v433 : Index := Scalar.indexCast c1_i32_376
  let c0_i32_348 : BitVec 32 := 0#32
  let c1_i32_350 : BitVec 32 := 1#32
  let arg26 : BitVec 32 := Scf.iv c0_i32_348 c1_i32_350 k1_t8
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 1, v434.toNat, 48]
def k1_off83 (k1_t8 : Fin k1_t8_loop.trips) (c0_i32_356 : BitVec 32) : Fin 4 → Nat :=
  let c0_i32_378 : BitVec 32 := 0#32
  let v439 : Index := Scalar.indexCast c0_i32_378
  let c1_i32_379 : BitVec 32 := 1#32
  let v440 : Index := Scalar.indexCast c1_i32_379
  let c0_i32_348 : BitVec 32 := 0#32
  let c1_i32_350 : BitVec 32 := 1#32
  let arg26 : BitVec 32 := Scf.iv c0_i32_348 c1_i32_350 k1_t8
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 1, v441.toNat, 64]
def k1_off84 (k1_t8 : Fin k1_t8_loop.trips) (c0_i32_356 : BitVec 32) : Fin 4 → Nat :=
  let c1_i32_380 : BitVec 32 := 1#32
  let v444 : Index := Scalar.indexCast c1_i32_380
  let c1_i32_381 : BitVec 32 := 1#32
  let v445 : Index := Scalar.indexCast c1_i32_381
  let c0_i32_348 : BitVec 32 := 0#32
  let c1_i32_350 : BitVec 32 := 1#32
  let arg26 : BitVec 32 := Scf.iv c0_i32_348 c1_i32_350 k1_t8
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 1, v446.toNat, 64]
def k1_off85 (k1_t8 : Fin k1_t8_loop.trips) (c0_i32_356 : BitVec 32) : Fin 4 → Nat :=
  let c0_i32_383 : BitVec 32 := 0#32
  let v451 : Index := Scalar.indexCast c0_i32_383
  let c1_i32_384 : BitVec 32 := 1#32
  let v452 : Index := Scalar.indexCast c1_i32_384
  let c0_i32_348 : BitVec 32 := 0#32
  let c1_i32_350 : BitVec 32 := 1#32
  let arg26 : BitVec 32 := Scf.iv c0_i32_348 c1_i32_350 k1_t8
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 1, v453.toNat, 80]
def k1_off86 (k1_t8 : Fin k1_t8_loop.trips) (c0_i32_356 : BitVec 32) : Fin 4 → Nat :=
  let c1_i32_385 : BitVec 32 := 1#32
  let v456 : Index := Scalar.indexCast c1_i32_385
  let c1_i32_386 : BitVec 32 := 1#32
  let v457 : Index := Scalar.indexCast c1_i32_386
  let c0_i32_348 : BitVec 32 := 0#32
  let c1_i32_350 : BitVec 32 := 1#32
  let arg26 : BitVec 32 := Scf.iv c0_i32_348 c1_i32_350 k1_t8
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 1, v458.toNat, 80]
def k1_off87 (k1_t8 : Fin k1_t8_loop.trips) (c0_i32_356 : BitVec 32) : Fin 4 → Nat :=
  let c0_i32_388 : BitVec 32 := 0#32
  let v463 : Index := Scalar.indexCast c0_i32_388
  let c1_i32_389 : BitVec 32 := 1#32
  let v464 : Index := Scalar.indexCast c1_i32_389
  let c0_i32_348 : BitVec 32 := 0#32
  let c1_i32_350 : BitVec 32 := 1#32
  let arg26 : BitVec 32 := Scf.iv c0_i32_348 c1_i32_350 k1_t8
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 1, v465.toNat, 96]
def k1_off88 (k1_t8 : Fin k1_t8_loop.trips) (c0_i32_356 : BitVec 32) : Fin 4 → Nat :=
  let c1_i32_390 : BitVec 32 := 1#32
  let v468 : Index := Scalar.indexCast c1_i32_390
  let c1_i32_391 : BitVec 32 := 1#32
  let v469 : Index := Scalar.indexCast c1_i32_391
  let c0_i32_348 : BitVec 32 := 0#32
  let c1_i32_350 : BitVec 32 := 1#32
  let arg26 : BitVec 32 := Scf.iv c0_i32_348 c1_i32_350 k1_t8
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 1, v470.toNat, 96]
def k1_off89 (k1_t8 : Fin k1_t8_loop.trips) (c0_i32_356 : BitVec 32) : Fin 4 → Nat :=
  let c0_i32_393 : BitVec 32 := 0#32
  let v475 : Index := Scalar.indexCast c0_i32_393
  let c1_i32_394 : BitVec 32 := 1#32
  let v476 : Index := Scalar.indexCast c1_i32_394
  let c0_i32_348 : BitVec 32 := 0#32
  let c1_i32_350 : BitVec 32 := 1#32
  let arg26 : BitVec 32 := Scf.iv c0_i32_348 c1_i32_350 k1_t8
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 1, v477.toNat, 112]
def k1_off90 (k1_t8 : Fin k1_t8_loop.trips) (c0_i32_356 : BitVec 32) : Fin 4 → Nat :=
  let c1_i32_395 : BitVec 32 := 1#32
  let v480 : Index := Scalar.indexCast c1_i32_395
  let c1_i32_396 : BitVec 32 := 1#32
  let v481 : Index := Scalar.indexCast c1_i32_396
  let c0_i32_348 : BitVec 32 := 0#32
  let c1_i32_350 : BitVec 32 := 1#32
  let arg26 : BitVec 32 := Scf.iv c0_i32_348 c1_i32_350 k1_t8
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 1, v482.toNat, 112]
def k1_off91 (v11 : BitVec 32) (k1_t6 : Fin (k1_t6_loop v11).trips) : Fin 1 → Nat :=
  let c0_i32_56 : BitVec 32 := 0#32
  let c128_i32_46 : BitVec 32 := 128#32
  let v45 : BitVec 32 := Scalar.addi v11 c128_i32_46
  let c1_i32_47 : BitVec 32 := 1#32
  let v46 : BitVec 32 := Scalar.subi v45 c1_i32_47
  let c0_i32_49 : BitVec 32 := 0#32
  let v48 : BitVec 1 := Scalar.cmpi .sgt v46 c0_i32_49
  let v49 : BitVec 32 := Scalar.extui v48
  let c0_i32_50 : BitVec 32 := 0#32
  let v50 : BitVec 1 := Scalar.cmpi .slt v46 c0_i32_50
  let v51 : BitVec 32 := Scalar.extui v50
  let v52 : BitVec 32 := Scalar.subi v49 v51
  let c128_i32_48 : BitVec 32 := 128#32
  let c0_i32_51 : BitVec 32 := 0#32
  let v53 : BitVec 1 := Scalar.cmpi .sgt c128_i32_48 c0_i32_51
  let v54 : BitVec 32 := Scalar.extui v53
  let c0_i32_52 : BitVec 32 := 0#32
  let v55 : BitVec 1 := Scalar.cmpi .slt c128_i32_48 c0_i32_52
  let v56 : BitVec 32 := Scalar.extui v55
  let v57 : BitVec 32 := Scalar.subi v54 v56
  let v58 : BitVec 1 := Scalar.cmpi .ne v52 v57
  let v59 : BitVec 32 := Scalar.remsi v46 c128_i32_48
  let c0_i32_53 : BitVec 32 := 0#32
  let v60 : BitVec 1 := Scalar.cmpi .ne v59 c0_i32_53
  let v61 : BitVec 1 := Scalar.andi v58 v60
  let v47 : BitVec 32 := Scalar.divsi v46 c128_i32_48
  let c1_i32_54 : BitVec 32 := 1#32
  let v62 : BitVec 32 := Scalar.subi v47 c1_i32_54
  let v63 : BitVec 32 := Scalar.select v61 v62 v47
  let c1_i32_55 : BitVec 32 := 1#32
  let v64 : BitVec 32 := Scalar.maxsi v63 c1_i32_55
  let v65 : BitVec 32 := Scalar.subi v64 c0_i32_56
  let c1_i32_57 : BitVec 32 := 1#32
  let v67 : BitVec 32 := Scalar.divsi v65 c1_i32_57
  let v68 : BitVec 32 := Scalar.muli v67 c1_i32_57
  let v69 : BitVec 32 := Scalar.addi c0_i32_56 v68
  let c1_i32_59 : BitVec 32 := 1#32
  let arg17 : BitVec 32 := Scf.iv v69 c1_i32_59 k1_t6
  let c2_i32_328 : BitVec 32 := 2#32
  let v366 : BitVec 32 := Scalar.muli arg17 c2_i32_328
  let c1_i32_329 : BitVec 32 := 1#32
  let v367 : BitVec 32 := Scalar.addi v366 c1_i32_329
  let c2_i32_355 : BitVec 32 := 2#32
  let v389 : BitVec 32 := Scalar.addi v367 c2_i32_355
  let c64_i32_356 : BitVec 32 := 64#32
  let v390 : BitVec 32 := Scalar.muli v389 c64_i32_356
  ![v390.toNat]
def k1_cond4 (v11 : BitVec 32) (k1_t6 : Fin (k1_t6_loop v11).trips) : BitVec 1 :=
  let c0_i32_56 : BitVec 32 := 0#32
  let c128_i32_46 : BitVec 32 := 128#32
  let v45 : BitVec 32 := Scalar.addi v11 c128_i32_46
  let c1_i32_47 : BitVec 32 := 1#32
  let v46 : BitVec 32 := Scalar.subi v45 c1_i32_47
  let c0_i32_49 : BitVec 32 := 0#32
  let v48 : BitVec 1 := Scalar.cmpi .sgt v46 c0_i32_49
  let v49 : BitVec 32 := Scalar.extui v48
  let c0_i32_50 : BitVec 32 := 0#32
  let v50 : BitVec 1 := Scalar.cmpi .slt v46 c0_i32_50
  let v51 : BitVec 32 := Scalar.extui v50
  let v52 : BitVec 32 := Scalar.subi v49 v51
  let c128_i32_48 : BitVec 32 := 128#32
  let c0_i32_51 : BitVec 32 := 0#32
  let v53 : BitVec 1 := Scalar.cmpi .sgt c128_i32_48 c0_i32_51
  let v54 : BitVec 32 := Scalar.extui v53
  let c0_i32_52 : BitVec 32 := 0#32
  let v55 : BitVec 1 := Scalar.cmpi .slt c128_i32_48 c0_i32_52
  let v56 : BitVec 32 := Scalar.extui v55
  let v57 : BitVec 32 := Scalar.subi v54 v56
  let v58 : BitVec 1 := Scalar.cmpi .ne v52 v57
  let v59 : BitVec 32 := Scalar.remsi v46 c128_i32_48
  let c0_i32_53 : BitVec 32 := 0#32
  let v60 : BitVec 1 := Scalar.cmpi .ne v59 c0_i32_53
  let v61 : BitVec 1 := Scalar.andi v58 v60
  let v47 : BitVec 32 := Scalar.divsi v46 c128_i32_48
  let c1_i32_54 : BitVec 32 := 1#32
  let v62 : BitVec 32 := Scalar.subi v47 c1_i32_54
  let v63 : BitVec 32 := Scalar.select v61 v62 v47
  let c1_i32_55 : BitVec 32 := 1#32
  let v64 : BitVec 32 := Scalar.maxsi v63 c1_i32_55
  let v65 : BitVec 32 := Scalar.subi v64 c0_i32_56
  let c1_i32_57 : BitVec 32 := 1#32
  let v67 : BitVec 32 := Scalar.divsi v65 c1_i32_57
  let v68 : BitVec 32 := Scalar.muli v67 c1_i32_57
  let v69 : BitVec 32 := Scalar.addi c0_i32_56 v68
  let c1_i32_59 : BitVec 32 := 1#32
  let arg17 : BitVec 32 := Scf.iv v69 c1_i32_59 k1_t6
  let c2_i32_328 : BitVec 32 := 2#32
  let v366 : BitVec 32 := Scalar.muli arg17 c2_i32_328
  let c1_i32_329 : BitVec 32 := 1#32
  let v367 : BitVec 32 := Scalar.addi v366 c1_i32_329
  let c2_i32_352 : BitVec 32 := 2#32
  let v384 : BitVec 32 := Scalar.addi v367 c2_i32_352
  let c2_i32_353 : BitVec 32 := 2#32
  let v385 : BitVec 32 := Scalar.muli v64 c2_i32_353
  let v386 : BitVec 1 := Scalar.cmpi .slt v384 v385
  let v387 : BitVec 32 := Scalar.extui v386
  let c0_i32_354 : BitVec 32 := 0#32
  let v388 : BitVec 1 := Scalar.cmpi .ne v387 c0_i32_354
  v388

def k1_chk17 (v11 : BitVec 32) : Prop :=
  (∀ a, (k1_off21 v11) a + S16.size a ≤ S2064.size a) ∧
  ((k1_t3_loop v11).OK) ∧
  (∀ k1_t3 : Fin (k1_t3_loop v11).trips, ∀ (r : Fin 2), ∀ a, (k1_off22 v11 k1_t3 (BitVec.ofNat 32 r.val)) a + S64.size a ≤ S2064.size a) ∧
  (∀ k1_t3 : Fin (k1_t3_loop v11).trips, ∀ (k1_h1 : k1_cond1 v11 k1_t3 = 1#1), ∀ a, (k1_off39 v11 k1_t3) a + S64.size a ≤ S2064.size a) ∧
  (∀ k1_t3 : Fin (k1_t3_loop v11).trips, ∀ (k1_h2 : k1_cond2 v11 k1_t3 = 1#1), ∀ a, (k1_off56 v11 k1_t3) a + S64.size a ≤ S2064.size a) ∧
  ((k1_t6_loop v11).OK) ∧
  (∀ k1_t6 : Fin (k1_t6_loop v11).trips, ∀ (r : Fin 2), ∀ a, (k1_off57 v11 k1_t6 (BitVec.ofNat 32 r.val)) a + S64.size a ≤ S2064.size a) ∧
  (∀ k1_t6 : Fin (k1_t6_loop v11).trips, ∀ (k1_h3 : k1_cond3 v11 k1_t6 = 1#1), ∀ a, (k1_off74 v11 k1_t6) a + S64.size a ≤ S2064.size a) ∧
  (∀ k1_t6 : Fin (k1_t6_loop v11).trips, ∀ (k1_h4 : k1_cond4 v11 k1_t6 = 1#1), ∀ a, (k1_off91 v11 k1_t6) a + S64.size a ≤ S2064.size a)
theorem k1_off21_inb : ∀ (v11 : BitVec 32) (k1_hw17 : k1_chk17 v11), ∀ a, (k1_off21 v11) a + S16.size a ≤ S2064.size a := fun v11 k1_hw17 => k1_hw17.1
theorem k1_t3_ok : ∀ (v11 : BitVec 32) (k1_hw17 : k1_chk17 v11), (k1_t3_loop v11).OK := fun v11 k1_hw17 => k1_hw17.2.1
theorem k1_off22_inb : ∀ (v11 : BitVec 32) (k1_hw17 : k1_chk17 v11) (k1_t3 : Fin (k1_t3_loop v11).trips), ∀ (r : Fin 2), ∀ a, (k1_off22 v11 k1_t3 (BitVec.ofNat 32 r.val)) a + S64.size a ≤ S2064.size a := fun v11 k1_hw17 k1_t3 r => k1_hw17.2.2.1 k1_t3 r
theorem k1_off39_inb : ∀ (v11 : BitVec 32) (k1_hw17 : k1_chk17 v11) (k1_t3 : Fin (k1_t3_loop v11).trips), ∀ (k1_h1 : k1_cond1 v11 k1_t3 = 1#1), ∀ a, (k1_off39 v11 k1_t3) a + S64.size a ≤ S2064.size a := fun v11 k1_hw17 k1_t3 k1_h1 => k1_hw17.2.2.2.1 k1_t3 k1_h1
theorem k1_off56_inb : ∀ (v11 : BitVec 32) (k1_hw17 : k1_chk17 v11) (k1_t3 : Fin (k1_t3_loop v11).trips), ∀ (k1_h2 : k1_cond2 v11 k1_t3 = 1#1), ∀ a, (k1_off56 v11 k1_t3) a + S64.size a ≤ S2064.size a := fun v11 k1_hw17 k1_t3 k1_h2 => k1_hw17.2.2.2.2.1 k1_t3 k1_h2
theorem k1_t6_ok : ∀ (v11 : BitVec 32) (k1_hw17 : k1_chk17 v11), (k1_t6_loop v11).OK := fun v11 k1_hw17 => k1_hw17.2.2.2.2.2.1
theorem k1_off57_inb : ∀ (v11 : BitVec 32) (k1_hw17 : k1_chk17 v11) (k1_t6 : Fin (k1_t6_loop v11).trips), ∀ (r : Fin 2), ∀ a, (k1_off57 v11 k1_t6 (BitVec.ofNat 32 r.val)) a + S64.size a ≤ S2064.size a := fun v11 k1_hw17 k1_t6 r => k1_hw17.2.2.2.2.2.2.1 k1_t6 r
theorem k1_off74_inb : ∀ (v11 : BitVec 32) (k1_hw17 : k1_chk17 v11) (k1_t6 : Fin (k1_t6_loop v11).trips), ∀ (k1_h3 : k1_cond3 v11 k1_t6 = 1#1), ∀ a, (k1_off74 v11 k1_t6) a + S64.size a ≤ S2064.size a := fun v11 k1_hw17 k1_t6 k1_h3 => k1_hw17.2.2.2.2.2.2.2.1 k1_t6 k1_h3
theorem k1_off91_inb : ∀ (v11 : BitVec 32) (k1_hw17 : k1_chk17 v11) (k1_t6 : Fin (k1_t6_loop v11).trips), ∀ (k1_h4 : k1_cond4 v11 k1_t6 = 1#1), ∀ a, (k1_off91 v11 k1_t6) a + S64.size a ≤ S2064.size a := fun v11 k1_hw17 k1_t6 k1_h4 => k1_hw17.2.2.2.2.2.2.2.2 k1_t6 k1_h4

def k1_off92 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c2000_i32 : BitVec 32 := 2000#32
  let v72 : BitVec 32 := Scalar.addi v2 c2000_i32
  ![v72.toNat]
@[reducible] def k1_t9_loop : Scf.Loop 32 :=
  let c0_i32_61 : BitVec 32 := 0#32
  let c128_i32_62 : BitVec 32 := 128#32
  let v73 : BitVec 32 := Scalar.addi c0_i32_61 c128_i32_62
  let c1_i32_63 : BitVec 32 := 1#32
  ⟨c0_i32_61, v73, c1_i32_63⟩
def k1_off93 (k1_t9 : Fin k1_t9_loop.trips) : Fin 1 → Nat :=
  let c0_i32_61 : BitVec 32 := 0#32
  let c1_i32_63 : BitVec 32 := 1#32
  let arg17 : BitVec 32 := Scf.iv c0_i32_61 c1_i32_63 k1_t9
  let c16_i32 : BitVec 32 := 16#32
  let v343 : BitVec 32 := Scalar.muli arg17 c16_i32
  let v344 : Index := Scalar.indexCast v343
  ![v344.toNat]
@[reducible] def k1_t10_loop : Scf.Loop 32 :=
  let c0_i32_66 : BitVec 32 := 0#32
  let c125_i32_67 : BitVec 32 := 125#32
  let v74 : BitVec 32 := Scalar.addi c0_i32_66 c125_i32_67
  let c1_i32_68 : BitVec 32 := 1#32
  ⟨c0_i32_66, v74, c1_i32_68⟩
def k1_off94 (k1_t10 : Fin k1_t10_loop.trips) : Fin 1 → Nat :=
  let c0_i32_66 : BitVec 32 := 0#32
  let c1_i32_68 : BitVec 32 := 1#32
  let arg17 : BitVec 32 := Scf.iv c0_i32_66 c1_i32_68 k1_t10
  let c16_i32 : BitVec 32 := 16#32
  let v343 : BitVec 32 := Scalar.muli arg17 c16_i32
  let v344 : Index := Scalar.indexCast v343
  ![v344.toNat]
def k1_off95 (arg18 : BitVec 32) (v357 : BitVec 1) : Fin 1 → Nat :=
  let c2048_i32 : BitVec 32 := 2048#32
  let v358 : BitVec 32 := Scalar.select v357 arg18 c2048_i32
  let v362 : Index := Scalar.indexCast v358
  ![v362.toNat]

def k1_chk18 (arg18 : BitVec 32) (v357 : BitVec 1) : Prop :=
  (∀ a, (k1_off95 arg18 v357) a + S16.size a ≤ S2064.size a)
theorem k1_off95_inb : ∀ (arg18 : BitVec 32) (v357 : BitVec 1) (k1_hw18 : k1_chk18 arg18 v357), ∀ a, (k1_off95 arg18 v357) a + S16.size a ≤ S2064.size a := fun arg18 v357 k1_hw18 => k1_hw18

def k1_off96 (arg18 : BitVec 32) (v357 : BitVec 1) (v377 : BitVec 1) : Fin 1 → Nat :=
  let c1_i32_305 : BitVec 32 := 1#32
  let v373 : BitVec 32 := Scalar.addi arg18 c1_i32_305
  let v374 : BitVec 32 := Scalar.select v357 v373 arg18
  let c2048_i32_307 : BitVec 32 := 2048#32
  let v378 : BitVec 32 := Scalar.select v377 v374 c2048_i32_307
  let v382 : Index := Scalar.indexCast v378
  ![v382.toNat]

def k1_chk19 (arg18 : BitVec 32) (v357 : BitVec 1) (v377 : BitVec 1) : Prop :=
  (∀ a, (k1_off96 arg18 v357 v377) a + S16.size a ≤ S2064.size a)
theorem k1_off96_inb : ∀ (arg18 : BitVec 32) (v357 : BitVec 1) (v377 : BitVec 1) (k1_hw19 : k1_chk19 arg18 v357 v377), ∀ a, (k1_off96 arg18 v357 v377) a + S16.size a ≤ S2064.size a := fun arg18 v357 v377 k1_hw19 => k1_hw19

def k1_off97 (arg18 : BitVec 32) (v357 : BitVec 1) (v377 : BitVec 1) (v397 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c2048_i32_310 : BitVec 32 := 2048#32
  let v398 : BitVec 32 := Scalar.select v397 v394 c2048_i32_310
  let v402 : Index := Scalar.indexCast v398
  ![v402.toNat]

def k1_chk20 (arg18 : BitVec 32) (v357 : BitVec 1) (v377 : BitVec 1) (v397 : BitVec 1) : Prop :=
  (∀ a, (k1_off97 arg18 v357 v377 v397) a + S16.size a ≤ S2064.size a)
theorem k1_off97_inb : ∀ (arg18 : BitVec 32) (v357 : BitVec 1) (v377 : BitVec 1) (v397 : BitVec 1) (k1_hw20 : k1_chk20 arg18 v357 v377 v397), ∀ a, (k1_off97 arg18 v357 v377 v397) a + S16.size a ≤ S2064.size a := fun arg18 v357 v377 v397 k1_hw20 => k1_hw20

def k1_off98 (arg18 : BitVec 32) (v357 : BitVec 1) (v377 : BitVec 1) (v397 : BitVec 1) (v417 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c2048_i32_313 : BitVec 32 := 2048#32
  let v418 : BitVec 32 := Scalar.select v417 v414 c2048_i32_313
  let v422 : Index := Scalar.indexCast v418
  ![v422.toNat]

def k1_chk21 (arg18 : BitVec 32) (v357 : BitVec 1) (v377 : BitVec 1) (v397 : BitVec 1) (v417 : BitVec 1) : Prop :=
  (∀ a, (k1_off98 arg18 v357 v377 v397 v417) a + S16.size a ≤ S2064.size a)
theorem k1_off98_inb : ∀ (arg18 : BitVec 32) (v357 : BitVec 1) (v377 : BitVec 1) (v397 : BitVec 1) (v417 : BitVec 1) (k1_hw21 : k1_chk21 arg18 v357 v377 v397 v417), ∀ a, (k1_off98 arg18 v357 v377 v397 v417) a + S16.size a ≤ S2064.size a := fun arg18 v357 v377 v397 v417 k1_hw21 => k1_hw21

def k1_off99 (arg18 : BitVec 32) (v357 : BitVec 1) (v377 : BitVec 1) (v397 : BitVec 1) (v417 : BitVec 1) (v437 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c2048_i32_316 : BitVec 32 := 2048#32
  let v438 : BitVec 32 := Scalar.select v437 v434 c2048_i32_316
  let v442 : Index := Scalar.indexCast v438
  ![v442.toNat]

def k1_chk22 (arg18 : BitVec 32) (v357 : BitVec 1) (v377 : BitVec 1) (v397 : BitVec 1) (v417 : BitVec 1) (v437 : BitVec 1) : Prop :=
  (∀ a, (k1_off99 arg18 v357 v377 v397 v417 v437) a + S16.size a ≤ S2064.size a)
theorem k1_off99_inb : ∀ (arg18 : BitVec 32) (v357 : BitVec 1) (v377 : BitVec 1) (v397 : BitVec 1) (v417 : BitVec 1) (v437 : BitVec 1) (k1_hw22 : k1_chk22 arg18 v357 v377 v397 v417 v437), ∀ a, (k1_off99 arg18 v357 v377 v397 v417 v437) a + S16.size a ≤ S2064.size a := fun arg18 v357 v377 v397 v417 v437 k1_hw22 => k1_hw22

def k1_off100 (arg18 : BitVec 32) (v357 : BitVec 1) (v377 : BitVec 1) (v397 : BitVec 1) (v417 : BitVec 1) (v437 : BitVec 1) (v457 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c2048_i32_319 : BitVec 32 := 2048#32
  let v458 : BitVec 32 := Scalar.select v457 v454 c2048_i32_319
  let v462 : Index := Scalar.indexCast v458
  ![v462.toNat]

def k1_chk23 (arg18 : BitVec 32) (v357 : BitVec 1) (v377 : BitVec 1) (v397 : BitVec 1) (v417 : BitVec 1) (v437 : BitVec 1) (v457 : BitVec 1) : Prop :=
  (∀ a, (k1_off100 arg18 v357 v377 v397 v417 v437 v457) a + S16.size a ≤ S2064.size a)
theorem k1_off100_inb : ∀ (arg18 : BitVec 32) (v357 : BitVec 1) (v377 : BitVec 1) (v397 : BitVec 1) (v417 : BitVec 1) (v437 : BitVec 1) (v457 : BitVec 1) (k1_hw23 : k1_chk23 arg18 v357 v377 v397 v417 v437 v457), ∀ a, (k1_off100 arg18 v357 v377 v397 v417 v437 v457) a + S16.size a ≤ S2064.size a := fun arg18 v357 v377 v397 v417 v437 v457 k1_hw23 => k1_hw23

def k1_off101 (arg18 : BitVec 32) (v357 : BitVec 1) (v377 : BitVec 1) (v397 : BitVec 1) (v417 : BitVec 1) (v437 : BitVec 1) (v457 : BitVec 1) (v477 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c2048_i32_322 : BitVec 32 := 2048#32
  let v478 : BitVec 32 := Scalar.select v477 v474 c2048_i32_322
  let v482 : Index := Scalar.indexCast v478
  ![v482.toNat]

def k1_chk24 (arg18 : BitVec 32) (v357 : BitVec 1) (v377 : BitVec 1) (v397 : BitVec 1) (v417 : BitVec 1) (v437 : BitVec 1) (v457 : BitVec 1) (v477 : BitVec 1) : Prop :=
  (∀ a, (k1_off101 arg18 v357 v377 v397 v417 v437 v457 v477) a + S16.size a ≤ S2064.size a)
theorem k1_off101_inb : ∀ (arg18 : BitVec 32) (v357 : BitVec 1) (v377 : BitVec 1) (v397 : BitVec 1) (v417 : BitVec 1) (v437 : BitVec 1) (v457 : BitVec 1) (v477 : BitVec 1) (k1_hw24 : k1_chk24 arg18 v357 v377 v397 v417 v437 v457 v477), ∀ a, (k1_off101 arg18 v357 v377 v397 v417 v437 v457 v477) a + S16.size a ≤ S2064.size a := fun arg18 v357 v377 v397 v417 v437 v457 v477 k1_hw24 => k1_hw24

def k1_off102 (arg18 : BitVec 32) (v357 : BitVec 1) (v377 : BitVec 1) (v397 : BitVec 1) (v417 : BitVec 1) (v437 : BitVec 1) (v457 : BitVec 1) (v477 : BitVec 1) (v497 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c2048_i32_325 : BitVec 32 := 2048#32
  let v498 : BitVec 32 := Scalar.select v497 v494 c2048_i32_325
  let v502 : Index := Scalar.indexCast v498
  ![v502.toNat]

def k1_chk25 (arg18 : BitVec 32) (v357 : BitVec 1) (v377 : BitVec 1) (v397 : BitVec 1) (v417 : BitVec 1) (v437 : BitVec 1) (v457 : BitVec 1) (v477 : BitVec 1) (v497 : BitVec 1) : Prop :=
  (∀ a, (k1_off102 arg18 v357 v377 v397 v417 v437 v457 v477 v497) a + S16.size a ≤ S2064.size a)
theorem k1_off102_inb : ∀ (arg18 : BitVec 32) (v357 : BitVec 1) (v377 : BitVec 1) (v397 : BitVec 1) (v417 : BitVec 1) (v437 : BitVec 1) (v457 : BitVec 1) (v477 : BitVec 1) (v497 : BitVec 1) (k1_hw25 : k1_chk25 arg18 v357 v377 v397 v417 v437 v457 v477 v497), ∀ a, (k1_off102 arg18 v357 v377 v397 v417 v437 v457 v477 v497) a + S16.size a ≤ S2064.size a := fun arg18 v357 v377 v397 v417 v437 v457 v477 v497 k1_hw25 => k1_hw25

def k1_off103 (arg18 : BitVec 32) (v357 : BitVec 1) (v377 : BitVec 1) (v397 : BitVec 1) (v417 : BitVec 1) (v437 : BitVec 1) (v457 : BitVec 1) (v477 : BitVec 1) (v497 : BitVec 1) (v517 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c2048_i32_328 : BitVec 32 := 2048#32
  let v518 : BitVec 32 := Scalar.select v517 v514 c2048_i32_328
  let v522 : Index := Scalar.indexCast v518
  ![v522.toNat]

def k1_chk26 (arg18 : BitVec 32) (v357 : BitVec 1) (v377 : BitVec 1) (v397 : BitVec 1) (v417 : BitVec 1) (v437 : BitVec 1) (v457 : BitVec 1) (v477 : BitVec 1) (v497 : BitVec 1) (v517 : BitVec 1) : Prop :=
  (∀ a, (k1_off103 arg18 v357 v377 v397 v417 v437 v457 v477 v497 v517) a + S16.size a ≤ S2064.size a)
theorem k1_off103_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (k1_hw26 : k1_chk26 arg18 v357 v377 v397 v417 v437 v457 v477 v497 v517), ∀ a, (k1_off103 arg18 v357 v377 v397 v417 v437 v457 v477 v497 v517) a + S16.size a ≤ S2064.size a := fun arg18 v357 v377 v397 v417 v437 v457 v477 v497 v517 k1_hw26 => k1_hw26

def k1_off104 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c2048_i32_331 : BitVec 32 := 2048#32
  let v538 : BitVec 32 := Scalar.select v537 v534 c2048_i32_331
  let v542 : Index := Scalar.indexCast v538
  ![v542.toNat]

def k1_chk27 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) : Prop :=
  (∀ a, (k1_off104 arg18 v357 v377 v397 v417 v437 v457 v477 v497 v517 v537) a + S16.size a ≤ S2064.size a)
theorem k1_off104_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (k1_hw27 : k1_chk27 arg18 v357 v377 v397 v417 v437 v457 v477 v497 v517 v537), ∀ a, (k1_off104 arg18 v357 v377 v397 v417 v437 v457 v477 v497 v517 v537) a + S16.size a ≤ S2064.size a := fun arg18 v357 v377 v397 v417 v437 v457 v477 v497 v517 v537 k1_hw27 => k1_hw27

def k1_off105 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c2048_i32_334 : BitVec 32 := 2048#32
  let v558 : BitVec 32 := Scalar.select v557 v554 c2048_i32_334
  let v562 : Index := Scalar.indexCast v558
  ![v562.toNat]

def k1_chk28 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) : Prop :=
  (∀ a, (k1_off105 arg18 v357 v377 v397 v417 v437 v457 v477 v497 v517 v537 v557) a + S16.size a ≤ S2064.size a)
theorem k1_off105_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (k1_hw28 : k1_chk28 arg18 v357 v377 v397 v417 v437 v457 v477 v497 v517 v537 v557), ∀ a, (k1_off105 arg18 v357 v377 v397 v417 v437 v457 v477 v497 v517 v537 v557) a + S16.size a ≤ S2064.size a := fun arg18 v357 v377 v397 v417 v437 v457 v477 v497 v517 v537 v557 k1_hw28 => k1_hw28

def k1_off106 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c2048_i32_337 : BitVec 32 := 2048#32
  let v578 : BitVec 32 := Scalar.select v577 v574 c2048_i32_337
  let v582 : Index := Scalar.indexCast v578
  ![v582.toNat]

def k1_chk29 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) : Prop :=
  (∀ a, (k1_off106 arg18 v357 v377 v397 v417 v437 v457 v477 v497 v517 v537 v557 v577) a + S16.size a ≤ S2064.size a)
theorem k1_off106_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (k1_hw29 : k1_chk29 arg18 v357 v377 v397 v417 v437 v457 v477 v497 v517 v537 v557 v577), ∀ a, (k1_off106 arg18 v357 v377 v397 v417 v437 v457 v477 v497 v517 v537 v557 v577) a + S16.size a ≤ S2064.size a := fun arg18 v357 v377 v397 v417 v437 v457 v477 v497 v517 v537 v557 v577 k1_hw29 => k1_hw29

def k1_off107 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c2048_i32_340 : BitVec 32 := 2048#32
  let v598 : BitVec 32 := Scalar.select v597 v594 c2048_i32_340
  let v602 : Index := Scalar.indexCast v598
  ![v602.toNat]

def k1_chk30 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) : Prop :=
  (∀ a, (k1_off107 arg18 v357 v377 v397 v417 v437 v457 v477 v497 v517 v537 v557 v577 v597) a + S16.size a ≤ S2064.size a)
theorem k1_off107_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (k1_hw30 : k1_chk30 arg18 v357 v377 v397 v417 v437 v457 v477 v497 v517 v537 v557 v577 v597), ∀ a, (k1_off107 arg18 v357 v377 v397 v417 v437 v457 v477 v497 v517 v537 v557 v577 v597) a + S16.size a ≤ S2064.size a := fun arg18 v357 v377 v397 v417 v437 v457 v477 v497 v517 v537 v557 v577 v597 k1_hw30 => k1_hw30

def k1_off108 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c1_i32_341 : BitVec 32 := 1#32
  let v613 : BitVec 32 := Scalar.addi v594 c1_i32_341
  let v614 : BitVec 32 := Scalar.select v597 v613 v594
  let c2048_i32_343 : BitVec 32 := 2048#32
  let v618 : BitVec 32 := Scalar.select v617 v614 c2048_i32_343
  let v622 : Index := Scalar.indexCast v618
  ![v622.toNat]

def k1_chk31 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) : Prop :=
  (∀ a, (k1_off108 arg18 v357 v377 v397 v417 v437 v457 v477 v497 v517 v537 v557 v577 v597 v617) a + S16.size a ≤ S2064.size a)
theorem k1_off108_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (k1_hw31 : k1_chk31 arg18 v357 v377 v397 v417 v437 v457 v477 v497 v517 v537 v557 v577 v597 v617), ∀ a, (k1_off108 arg18 v357 v377 v397 v417 v437 v457 v477 v497 v517 v537 v557 v577 v597 v617) a + S16.size a ≤ S2064.size a := fun arg18 v357 v377 v397 v417 v437 v457 v477 v497 v517 v537 v557 v577 v597 v617 k1_hw31 => k1_hw31

def k1_off109 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c1_i32_341 : BitVec 32 := 1#32
  let v613 : BitVec 32 := Scalar.addi v594 c1_i32_341
  let v614 : BitVec 32 := Scalar.select v597 v613 v594
  let c1_i32_344 : BitVec 32 := 1#32
  let v633 : BitVec 32 := Scalar.addi v614 c1_i32_344
  let v634 : BitVec 32 := Scalar.select v617 v633 v614
  let c2048_i32_346 : BitVec 32 := 2048#32
  let v638 : BitVec 32 := Scalar.select v637 v634 c2048_i32_346
  let v642 : Index := Scalar.indexCast v638
  ![v642.toNat]

def k1_chk32 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) : Prop :=
  (∀ a, (k1_off109 arg18 v357 v377 v397 v417 v437 v457 v477 v497 v517 v537 v557 v577 v597 v617 v637) a + S16.size a ≤ S2064.size a)
theorem k1_off109_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (k1_hw32 : k1_chk32 arg18 v357 v377 v397 v417 v437 v457 v477 v497 v517 v537 v557 v577 v597 v617 v637), ∀ a, (k1_off109 arg18 v357 v377 v397 v417 v437 v457 v477 v497 v517 v537 v557 v577 v597 v617 v637) a + S16.size a ≤ S2064.size a := fun arg18 v357 v377 v397 v417 v437 v457 v477 v497 v517 v537 v557 v577 v597 v617 v637 k1_hw32 => k1_hw32

def k1_off110 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (v657 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c1_i32_341 : BitVec 32 := 1#32
  let v613 : BitVec 32 := Scalar.addi v594 c1_i32_341
  let v614 : BitVec 32 := Scalar.select v597 v613 v594
  let c1_i32_344 : BitVec 32 := 1#32
  let v633 : BitVec 32 := Scalar.addi v614 c1_i32_344
  let v634 : BitVec 32 := Scalar.select v617 v633 v614
  let c1_i32_347 : BitVec 32 := 1#32
  let v653 : BitVec 32 := Scalar.addi v634 c1_i32_347
  let v654 : BitVec 32 := Scalar.select v637 v653 v634
  let c2048_i32_349 : BitVec 32 := 2048#32
  let v658 : BitVec 32 := Scalar.select v657 v654 c2048_i32_349
  let v662 : Index := Scalar.indexCast v658
  ![v662.toNat]

def k1_chk33 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (v657 : BitVec 1) : Prop :=
  (∀ a, (k1_off110 arg18 v357 v377 v397 v417 v437 v457 v477 v497 v517 v537 v557 v577 v597 v617 v637 v657) a + S16.size a ≤ S2064.size a)
theorem k1_off110_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (v657 : BitVec 1) (k1_hw33 : k1_chk33 arg18 v357 v377 v397 v417 v437 v457 v477 v497 v517 v537 v557 v577 v597 v617 v637 v657), ∀ a, (k1_off110 arg18 v357 v377 v397 v417 v437 v457 v477 v497 v517 v537 v557 v577 v597 v617 v637 v657) a + S16.size a ≤ S2064.size a := fun arg18 v357 v377 v397 v417 v437 v457 v477 v497 v517 v537 v557 v577 v597 v617 v637 v657 k1_hw33 => k1_hw33

def k1_off111 (v75 : BitVec 32) : Fin 1 → Nat :=
  let v76 : Index := Scalar.indexCast v75
  ![v76.toNat]

@[reducible] def k1_t11_loop (v75 : BitVec 32) : Scf.Loop 32 :=
  let c0_i32_116 : BitVec 32 := 0#32
  let c128_i32_106 : BitVec 32 := 128#32
  let v109 : BitVec 32 := Scalar.addi v75 c128_i32_106
  let c1_i32_107 : BitVec 32 := 1#32
  let v110 : BitVec 32 := Scalar.subi v109 c1_i32_107
  let c0_i32_109 : BitVec 32 := 0#32
  let v112 : BitVec 1 := Scalar.cmpi .sgt v110 c0_i32_109
  let v113 : BitVec 32 := Scalar.extui v112
  let c0_i32_110 : BitVec 32 := 0#32
  let v114 : BitVec 1 := Scalar.cmpi .slt v110 c0_i32_110
  let v115 : BitVec 32 := Scalar.extui v114
  let v116 : BitVec 32 := Scalar.subi v113 v115
  let c128_i32_108 : BitVec 32 := 128#32
  let c0_i32_111 : BitVec 32 := 0#32
  let v117 : BitVec 1 := Scalar.cmpi .sgt c128_i32_108 c0_i32_111
  let v118 : BitVec 32 := Scalar.extui v117
  let c0_i32_112 : BitVec 32 := 0#32
  let v119 : BitVec 1 := Scalar.cmpi .slt c128_i32_108 c0_i32_112
  let v120 : BitVec 32 := Scalar.extui v119
  let v121 : BitVec 32 := Scalar.subi v118 v120
  let v122 : BitVec 1 := Scalar.cmpi .ne v116 v121
  let v123 : BitVec 32 := Scalar.remsi v110 c128_i32_108
  let c0_i32_113 : BitVec 32 := 0#32
  let v124 : BitVec 1 := Scalar.cmpi .ne v123 c0_i32_113
  let v125 : BitVec 1 := Scalar.andi v122 v124
  let v111 : BitVec 32 := Scalar.divsi v110 c128_i32_108
  let c1_i32_114 : BitVec 32 := 1#32
  let v126 : BitVec 32 := Scalar.subi v111 c1_i32_114
  let v127 : BitVec 32 := Scalar.select v125 v126 v111
  let c1_i32_115 : BitVec 32 := 1#32
  let v128 : BitVec 32 := Scalar.maxsi v127 c1_i32_115
  let v129 : BitVec 32 := Scalar.subi v128 c0_i32_116
  let c1_i32_117 : BitVec 32 := 1#32
  let v131 : BitVec 32 := Scalar.divsi v129 c1_i32_117
  let v132 : BitVec 32 := Scalar.muli v131 c1_i32_117
  let v133 : BitVec 32 := Scalar.addi c0_i32_116 v132
  let c1_i32_118 : BitVec 32 := 1#32
  ⟨c0_i32_116, v133, c1_i32_118⟩
def k1_off112 (v75 : BitVec 32) (k1_t11 : Fin (k1_t11_loop v75).trips) (c0_i32_303 : BitVec 32) : Fin 1 → Nat :=
  let c0_i32_116 : BitVec 32 := 0#32
  let c1_i32_118 : BitVec 32 := 1#32
  let arg17 : BitVec 32 := Scf.iv c0_i32_116 c1_i32_118 k1_t11
  let c2_i32_302 : BitVec 32 := 2#32
  let v343 : BitVec 32 := Scalar.muli arg17 c2_i32_302
  let v344 : BitVec 32 := Scalar.addi v343 c0_i32_303
  let c64_i32_304 : BitVec 32 := 64#32
  let v345 : BitVec 32 := Scalar.muli v344 c64_i32_304
  ![v345.toNat]
@[reducible] def k1_t12_loop : Scf.Loop 32 :=
  let c0_i32_322 : BitVec 32 := 0#32
  let c32_i32 : BitVec 32 := 32#32
  let v359 : BitVec 32 := Scalar.addi c0_i32_322 c32_i32
  let c1_i32_323 : BitVec 32 := 1#32
  ⟨c0_i32_322, v359, c1_i32_323⟩
def k1_off113 (k1_t12 : Fin k1_t12_loop.trips) (c0_i32_356 : BitVec 32) : Fin 4 → Nat :=
  let c0_i32_357 : BitVec 32 := 0#32
  let v391 : Index := Scalar.indexCast c0_i32_357
  let c0_i32_358 : BitVec 32 := 0#32
  let v392 : Index := Scalar.indexCast c0_i32_358
  let c0_i32_322 : BitVec 32 := 0#32
  let c1_i32_323 : BitVec 32 := 1#32
  let arg26 : BitVec 32 := Scf.iv c0_i32_322 c1_i32_323 k1_t12
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 0, v393.toNat, 0]
def k1_off114 (k1_t12 : Fin k1_t12_loop.trips) (c0_i32_356 : BitVec 32) : Fin 4 → Nat :=
  let c1_i32_360 : BitVec 32 := 1#32
  let v396 : Index := Scalar.indexCast c1_i32_360
  let c0_i32_361 : BitVec 32 := 0#32
  let v397 : Index := Scalar.indexCast c0_i32_361
  let c0_i32_322 : BitVec 32 := 0#32
  let c1_i32_323 : BitVec 32 := 1#32
  let arg26 : BitVec 32 := Scf.iv c0_i32_322 c1_i32_323 k1_t12
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 0, v398.toNat, 0]
def k1_off115 (k1_t12 : Fin k1_t12_loop.trips) (c0_i32_356 : BitVec 32) : Fin 4 → Nat :=
  let c0_i32_363 : BitVec 32 := 0#32
  let v403 : Index := Scalar.indexCast c0_i32_363
  let c0_i32_364 : BitVec 32 := 0#32
  let v404 : Index := Scalar.indexCast c0_i32_364
  let c0_i32_322 : BitVec 32 := 0#32
  let c1_i32_323 : BitVec 32 := 1#32
  let arg26 : BitVec 32 := Scf.iv c0_i32_322 c1_i32_323 k1_t12
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 0, v405.toNat, 16]
def k1_off116 (k1_t12 : Fin k1_t12_loop.trips) (c0_i32_356 : BitVec 32) : Fin 4 → Nat :=
  let c1_i32_365 : BitVec 32 := 1#32
  let v408 : Index := Scalar.indexCast c1_i32_365
  let c0_i32_366 : BitVec 32 := 0#32
  let v409 : Index := Scalar.indexCast c0_i32_366
  let c0_i32_322 : BitVec 32 := 0#32
  let c1_i32_323 : BitVec 32 := 1#32
  let arg26 : BitVec 32 := Scf.iv c0_i32_322 c1_i32_323 k1_t12
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 0, v410.toNat, 16]
def k1_off117 (k1_t12 : Fin k1_t12_loop.trips) (c0_i32_356 : BitVec 32) : Fin 4 → Nat :=
  let c0_i32_368 : BitVec 32 := 0#32
  let v415 : Index := Scalar.indexCast c0_i32_368
  let c0_i32_369 : BitVec 32 := 0#32
  let v416 : Index := Scalar.indexCast c0_i32_369
  let c0_i32_322 : BitVec 32 := 0#32
  let c1_i32_323 : BitVec 32 := 1#32
  let arg26 : BitVec 32 := Scf.iv c0_i32_322 c1_i32_323 k1_t12
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 0, v417.toNat, 32]
def k1_off118 (k1_t12 : Fin k1_t12_loop.trips) (c0_i32_356 : BitVec 32) : Fin 4 → Nat :=
  let c1_i32_370 : BitVec 32 := 1#32
  let v420 : Index := Scalar.indexCast c1_i32_370
  let c0_i32_371 : BitVec 32 := 0#32
  let v421 : Index := Scalar.indexCast c0_i32_371
  let c0_i32_322 : BitVec 32 := 0#32
  let c1_i32_323 : BitVec 32 := 1#32
  let arg26 : BitVec 32 := Scf.iv c0_i32_322 c1_i32_323 k1_t12
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 0, v422.toNat, 32]
def k1_off119 (k1_t12 : Fin k1_t12_loop.trips) (c0_i32_356 : BitVec 32) : Fin 4 → Nat :=
  let c0_i32_373 : BitVec 32 := 0#32
  let v427 : Index := Scalar.indexCast c0_i32_373
  let c0_i32_374 : BitVec 32 := 0#32
  let v428 : Index := Scalar.indexCast c0_i32_374
  let c0_i32_322 : BitVec 32 := 0#32
  let c1_i32_323 : BitVec 32 := 1#32
  let arg26 : BitVec 32 := Scf.iv c0_i32_322 c1_i32_323 k1_t12
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 0, v429.toNat, 48]
def k1_off120 (k1_t12 : Fin k1_t12_loop.trips) (c0_i32_356 : BitVec 32) : Fin 4 → Nat :=
  let c1_i32_375 : BitVec 32 := 1#32
  let v432 : Index := Scalar.indexCast c1_i32_375
  let c0_i32_376 : BitVec 32 := 0#32
  let v433 : Index := Scalar.indexCast c0_i32_376
  let c0_i32_322 : BitVec 32 := 0#32
  let c1_i32_323 : BitVec 32 := 1#32
  let arg26 : BitVec 32 := Scf.iv c0_i32_322 c1_i32_323 k1_t12
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 0, v434.toNat, 48]
def k1_off121 (k1_t12 : Fin k1_t12_loop.trips) (c0_i32_356 : BitVec 32) : Fin 4 → Nat :=
  let c0_i32_378 : BitVec 32 := 0#32
  let v439 : Index := Scalar.indexCast c0_i32_378
  let c0_i32_379 : BitVec 32 := 0#32
  let v440 : Index := Scalar.indexCast c0_i32_379
  let c0_i32_322 : BitVec 32 := 0#32
  let c1_i32_323 : BitVec 32 := 1#32
  let arg26 : BitVec 32 := Scf.iv c0_i32_322 c1_i32_323 k1_t12
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 0, v441.toNat, 64]
def k1_off122 (k1_t12 : Fin k1_t12_loop.trips) (c0_i32_356 : BitVec 32) : Fin 4 → Nat :=
  let c1_i32_380 : BitVec 32 := 1#32
  let v444 : Index := Scalar.indexCast c1_i32_380
  let c0_i32_381 : BitVec 32 := 0#32
  let v445 : Index := Scalar.indexCast c0_i32_381
  let c0_i32_322 : BitVec 32 := 0#32
  let c1_i32_323 : BitVec 32 := 1#32
  let arg26 : BitVec 32 := Scf.iv c0_i32_322 c1_i32_323 k1_t12
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 0, v446.toNat, 64]
def k1_off123 (k1_t12 : Fin k1_t12_loop.trips) (c0_i32_356 : BitVec 32) : Fin 4 → Nat :=
  let c0_i32_383 : BitVec 32 := 0#32
  let v451 : Index := Scalar.indexCast c0_i32_383
  let c0_i32_384 : BitVec 32 := 0#32
  let v452 : Index := Scalar.indexCast c0_i32_384
  let c0_i32_322 : BitVec 32 := 0#32
  let c1_i32_323 : BitVec 32 := 1#32
  let arg26 : BitVec 32 := Scf.iv c0_i32_322 c1_i32_323 k1_t12
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 0, v453.toNat, 80]
def k1_off124 (k1_t12 : Fin k1_t12_loop.trips) (c0_i32_356 : BitVec 32) : Fin 4 → Nat :=
  let c1_i32_385 : BitVec 32 := 1#32
  let v456 : Index := Scalar.indexCast c1_i32_385
  let c0_i32_386 : BitVec 32 := 0#32
  let v457 : Index := Scalar.indexCast c0_i32_386
  let c0_i32_322 : BitVec 32 := 0#32
  let c1_i32_323 : BitVec 32 := 1#32
  let arg26 : BitVec 32 := Scf.iv c0_i32_322 c1_i32_323 k1_t12
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 0, v458.toNat, 80]
def k1_off125 (k1_t12 : Fin k1_t12_loop.trips) (c0_i32_356 : BitVec 32) : Fin 4 → Nat :=
  let c0_i32_388 : BitVec 32 := 0#32
  let v463 : Index := Scalar.indexCast c0_i32_388
  let c0_i32_389 : BitVec 32 := 0#32
  let v464 : Index := Scalar.indexCast c0_i32_389
  let c0_i32_322 : BitVec 32 := 0#32
  let c1_i32_323 : BitVec 32 := 1#32
  let arg26 : BitVec 32 := Scf.iv c0_i32_322 c1_i32_323 k1_t12
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 0, v465.toNat, 96]
def k1_off126 (k1_t12 : Fin k1_t12_loop.trips) (c0_i32_356 : BitVec 32) : Fin 4 → Nat :=
  let c1_i32_390 : BitVec 32 := 1#32
  let v468 : Index := Scalar.indexCast c1_i32_390
  let c0_i32_391 : BitVec 32 := 0#32
  let v469 : Index := Scalar.indexCast c0_i32_391
  let c0_i32_322 : BitVec 32 := 0#32
  let c1_i32_323 : BitVec 32 := 1#32
  let arg26 : BitVec 32 := Scf.iv c0_i32_322 c1_i32_323 k1_t12
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 0, v470.toNat, 96]
def k1_off127 (k1_t12 : Fin k1_t12_loop.trips) (c0_i32_356 : BitVec 32) : Fin 4 → Nat :=
  let c0_i32_393 : BitVec 32 := 0#32
  let v475 : Index := Scalar.indexCast c0_i32_393
  let c0_i32_394 : BitVec 32 := 0#32
  let v476 : Index := Scalar.indexCast c0_i32_394
  let c0_i32_322 : BitVec 32 := 0#32
  let c1_i32_323 : BitVec 32 := 1#32
  let arg26 : BitVec 32 := Scf.iv c0_i32_322 c1_i32_323 k1_t12
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 0, v477.toNat, 112]
def k1_off128 (k1_t12 : Fin k1_t12_loop.trips) (c0_i32_356 : BitVec 32) : Fin 4 → Nat :=
  let c1_i32_395 : BitVec 32 := 1#32
  let v480 : Index := Scalar.indexCast c1_i32_395
  let c0_i32_396 : BitVec 32 := 0#32
  let v481 : Index := Scalar.indexCast c0_i32_396
  let c0_i32_322 : BitVec 32 := 0#32
  let c1_i32_323 : BitVec 32 := 1#32
  let arg26 : BitVec 32 := Scf.iv c0_i32_322 c1_i32_323 k1_t12
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 0, v482.toNat, 112]
def k1_off129 (v75 : BitVec 32) (k1_t11 : Fin (k1_t11_loop v75).trips) : Fin 1 → Nat :=
  let c0_i32_116 : BitVec 32 := 0#32
  let c1_i32_118 : BitVec 32 := 1#32
  let arg17 : BitVec 32 := Scf.iv c0_i32_116 c1_i32_118 k1_t11
  let c2_i32_302 : BitVec 32 := 2#32
  let v343 : BitVec 32 := Scalar.muli arg17 c2_i32_302
  let c0_i32_303 : BitVec 32 := 0#32
  let v344 : BitVec 32 := Scalar.addi v343 c0_i32_303
  let c2_i32_355 : BitVec 32 := 2#32
  let v389 : BitVec 32 := Scalar.addi v344 c2_i32_355
  let c64_i32_356 : BitVec 32 := 64#32
  let v390 : BitVec 32 := Scalar.muli v389 c64_i32_356
  ![v390.toNat]
def k1_cond5 (v75 : BitVec 32) (k1_t11 : Fin (k1_t11_loop v75).trips) : BitVec 1 :=
  let c0_i32_116 : BitVec 32 := 0#32
  let c1_i32_118 : BitVec 32 := 1#32
  let arg17 : BitVec 32 := Scf.iv c0_i32_116 c1_i32_118 k1_t11
  let c2_i32_302 : BitVec 32 := 2#32
  let v343 : BitVec 32 := Scalar.muli arg17 c2_i32_302
  let c0_i32_303 : BitVec 32 := 0#32
  let v344 : BitVec 32 := Scalar.addi v343 c0_i32_303
  let c2_i32_325 : BitVec 32 := 2#32
  let v361 : BitVec 32 := Scalar.addi v344 c2_i32_325
  let c128_i32_106 : BitVec 32 := 128#32
  let v109 : BitVec 32 := Scalar.addi v75 c128_i32_106
  let c1_i32_107 : BitVec 32 := 1#32
  let v110 : BitVec 32 := Scalar.subi v109 c1_i32_107
  let c0_i32_109 : BitVec 32 := 0#32
  let v112 : BitVec 1 := Scalar.cmpi .sgt v110 c0_i32_109
  let v113 : BitVec 32 := Scalar.extui v112
  let c0_i32_110 : BitVec 32 := 0#32
  let v114 : BitVec 1 := Scalar.cmpi .slt v110 c0_i32_110
  let v115 : BitVec 32 := Scalar.extui v114
  let v116 : BitVec 32 := Scalar.subi v113 v115
  let c128_i32_108 : BitVec 32 := 128#32
  let c0_i32_111 : BitVec 32 := 0#32
  let v117 : BitVec 1 := Scalar.cmpi .sgt c128_i32_108 c0_i32_111
  let v118 : BitVec 32 := Scalar.extui v117
  let c0_i32_112 : BitVec 32 := 0#32
  let v119 : BitVec 1 := Scalar.cmpi .slt c128_i32_108 c0_i32_112
  let v120 : BitVec 32 := Scalar.extui v119
  let v121 : BitVec 32 := Scalar.subi v118 v120
  let v122 : BitVec 1 := Scalar.cmpi .ne v116 v121
  let v123 : BitVec 32 := Scalar.remsi v110 c128_i32_108
  let c0_i32_113 : BitVec 32 := 0#32
  let v124 : BitVec 1 := Scalar.cmpi .ne v123 c0_i32_113
  let v125 : BitVec 1 := Scalar.andi v122 v124
  let v111 : BitVec 32 := Scalar.divsi v110 c128_i32_108
  let c1_i32_114 : BitVec 32 := 1#32
  let v126 : BitVec 32 := Scalar.subi v111 c1_i32_114
  let v127 : BitVec 32 := Scalar.select v125 v126 v111
  let c1_i32_115 : BitVec 32 := 1#32
  let v128 : BitVec 32 := Scalar.maxsi v127 c1_i32_115
  let c2_i32_326 : BitVec 32 := 2#32
  let v362 : BitVec 32 := Scalar.muli v128 c2_i32_326
  let v363 : BitVec 1 := Scalar.cmpi .slt v361 v362
  let v364 : BitVec 32 := Scalar.extui v363
  let c0_i32_327 : BitVec 32 := 0#32
  let v365 : BitVec 1 := Scalar.cmpi .ne v364 c0_i32_327
  v365

@[reducible] def k1_t13_loop : Scf.Loop 32 :=
  let c0_i32_348 : BitVec 32 := 0#32
  let c32_i32_349 : BitVec 32 := 32#32
  let v382 : BitVec 32 := Scalar.addi c0_i32_348 c32_i32_349
  let c1_i32_350 : BitVec 32 := 1#32
  ⟨c0_i32_348, v382, c1_i32_350⟩
def k1_off130 (k1_t13 : Fin k1_t13_loop.trips) (c0_i32_356 : BitVec 32) : Fin 4 → Nat :=
  let c0_i32_357 : BitVec 32 := 0#32
  let v391 : Index := Scalar.indexCast c0_i32_357
  let c1_i32_358 : BitVec 32 := 1#32
  let v392 : Index := Scalar.indexCast c1_i32_358
  let c0_i32_348 : BitVec 32 := 0#32
  let c1_i32_350 : BitVec 32 := 1#32
  let arg26 : BitVec 32 := Scf.iv c0_i32_348 c1_i32_350 k1_t13
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 1, v393.toNat, 0]
def k1_off131 (k1_t13 : Fin k1_t13_loop.trips) (c0_i32_356 : BitVec 32) : Fin 4 → Nat :=
  let c1_i32_360 : BitVec 32 := 1#32
  let v396 : Index := Scalar.indexCast c1_i32_360
  let c1_i32_361 : BitVec 32 := 1#32
  let v397 : Index := Scalar.indexCast c1_i32_361
  let c0_i32_348 : BitVec 32 := 0#32
  let c1_i32_350 : BitVec 32 := 1#32
  let arg26 : BitVec 32 := Scf.iv c0_i32_348 c1_i32_350 k1_t13
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 1, v398.toNat, 0]
def k1_off132 (k1_t13 : Fin k1_t13_loop.trips) (c0_i32_356 : BitVec 32) : Fin 4 → Nat :=
  let c0_i32_363 : BitVec 32 := 0#32
  let v403 : Index := Scalar.indexCast c0_i32_363
  let c1_i32_364 : BitVec 32 := 1#32
  let v404 : Index := Scalar.indexCast c1_i32_364
  let c0_i32_348 : BitVec 32 := 0#32
  let c1_i32_350 : BitVec 32 := 1#32
  let arg26 : BitVec 32 := Scf.iv c0_i32_348 c1_i32_350 k1_t13
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 1, v405.toNat, 16]
def k1_off133 (k1_t13 : Fin k1_t13_loop.trips) (c0_i32_356 : BitVec 32) : Fin 4 → Nat :=
  let c1_i32_365 : BitVec 32 := 1#32
  let v408 : Index := Scalar.indexCast c1_i32_365
  let c1_i32_366 : BitVec 32 := 1#32
  let v409 : Index := Scalar.indexCast c1_i32_366
  let c0_i32_348 : BitVec 32 := 0#32
  let c1_i32_350 : BitVec 32 := 1#32
  let arg26 : BitVec 32 := Scf.iv c0_i32_348 c1_i32_350 k1_t13
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 1, v410.toNat, 16]
def k1_off134 (k1_t13 : Fin k1_t13_loop.trips) (c0_i32_356 : BitVec 32) : Fin 4 → Nat :=
  let c0_i32_368 : BitVec 32 := 0#32
  let v415 : Index := Scalar.indexCast c0_i32_368
  let c1_i32_369 : BitVec 32 := 1#32
  let v416 : Index := Scalar.indexCast c1_i32_369
  let c0_i32_348 : BitVec 32 := 0#32
  let c1_i32_350 : BitVec 32 := 1#32
  let arg26 : BitVec 32 := Scf.iv c0_i32_348 c1_i32_350 k1_t13
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 1, v417.toNat, 32]
def k1_off135 (k1_t13 : Fin k1_t13_loop.trips) (c0_i32_356 : BitVec 32) : Fin 4 → Nat :=
  let c1_i32_370 : BitVec 32 := 1#32
  let v420 : Index := Scalar.indexCast c1_i32_370
  let c1_i32_371 : BitVec 32 := 1#32
  let v421 : Index := Scalar.indexCast c1_i32_371
  let c0_i32_348 : BitVec 32 := 0#32
  let c1_i32_350 : BitVec 32 := 1#32
  let arg26 : BitVec 32 := Scf.iv c0_i32_348 c1_i32_350 k1_t13
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 1, v422.toNat, 32]
def k1_off136 (k1_t13 : Fin k1_t13_loop.trips) (c0_i32_356 : BitVec 32) : Fin 4 → Nat :=
  let c0_i32_373 : BitVec 32 := 0#32
  let v427 : Index := Scalar.indexCast c0_i32_373
  let c1_i32_374 : BitVec 32 := 1#32
  let v428 : Index := Scalar.indexCast c1_i32_374
  let c0_i32_348 : BitVec 32 := 0#32
  let c1_i32_350 : BitVec 32 := 1#32
  let arg26 : BitVec 32 := Scf.iv c0_i32_348 c1_i32_350 k1_t13
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 1, v429.toNat, 48]
def k1_off137 (k1_t13 : Fin k1_t13_loop.trips) (c0_i32_356 : BitVec 32) : Fin 4 → Nat :=
  let c1_i32_375 : BitVec 32 := 1#32
  let v432 : Index := Scalar.indexCast c1_i32_375
  let c1_i32_376 : BitVec 32 := 1#32
  let v433 : Index := Scalar.indexCast c1_i32_376
  let c0_i32_348 : BitVec 32 := 0#32
  let c1_i32_350 : BitVec 32 := 1#32
  let arg26 : BitVec 32 := Scf.iv c0_i32_348 c1_i32_350 k1_t13
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 1, v434.toNat, 48]
def k1_off138 (k1_t13 : Fin k1_t13_loop.trips) (c0_i32_356 : BitVec 32) : Fin 4 → Nat :=
  let c0_i32_378 : BitVec 32 := 0#32
  let v439 : Index := Scalar.indexCast c0_i32_378
  let c1_i32_379 : BitVec 32 := 1#32
  let v440 : Index := Scalar.indexCast c1_i32_379
  let c0_i32_348 : BitVec 32 := 0#32
  let c1_i32_350 : BitVec 32 := 1#32
  let arg26 : BitVec 32 := Scf.iv c0_i32_348 c1_i32_350 k1_t13
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 1, v441.toNat, 64]
def k1_off139 (k1_t13 : Fin k1_t13_loop.trips) (c0_i32_356 : BitVec 32) : Fin 4 → Nat :=
  let c1_i32_380 : BitVec 32 := 1#32
  let v444 : Index := Scalar.indexCast c1_i32_380
  let c1_i32_381 : BitVec 32 := 1#32
  let v445 : Index := Scalar.indexCast c1_i32_381
  let c0_i32_348 : BitVec 32 := 0#32
  let c1_i32_350 : BitVec 32 := 1#32
  let arg26 : BitVec 32 := Scf.iv c0_i32_348 c1_i32_350 k1_t13
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 1, v446.toNat, 64]
def k1_off140 (k1_t13 : Fin k1_t13_loop.trips) (c0_i32_356 : BitVec 32) : Fin 4 → Nat :=
  let c0_i32_383 : BitVec 32 := 0#32
  let v451 : Index := Scalar.indexCast c0_i32_383
  let c1_i32_384 : BitVec 32 := 1#32
  let v452 : Index := Scalar.indexCast c1_i32_384
  let c0_i32_348 : BitVec 32 := 0#32
  let c1_i32_350 : BitVec 32 := 1#32
  let arg26 : BitVec 32 := Scf.iv c0_i32_348 c1_i32_350 k1_t13
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 1, v453.toNat, 80]
def k1_off141 (k1_t13 : Fin k1_t13_loop.trips) (c0_i32_356 : BitVec 32) : Fin 4 → Nat :=
  let c1_i32_385 : BitVec 32 := 1#32
  let v456 : Index := Scalar.indexCast c1_i32_385
  let c1_i32_386 : BitVec 32 := 1#32
  let v457 : Index := Scalar.indexCast c1_i32_386
  let c0_i32_348 : BitVec 32 := 0#32
  let c1_i32_350 : BitVec 32 := 1#32
  let arg26 : BitVec 32 := Scf.iv c0_i32_348 c1_i32_350 k1_t13
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 1, v458.toNat, 80]
def k1_off142 (k1_t13 : Fin k1_t13_loop.trips) (c0_i32_356 : BitVec 32) : Fin 4 → Nat :=
  let c0_i32_388 : BitVec 32 := 0#32
  let v463 : Index := Scalar.indexCast c0_i32_388
  let c1_i32_389 : BitVec 32 := 1#32
  let v464 : Index := Scalar.indexCast c1_i32_389
  let c0_i32_348 : BitVec 32 := 0#32
  let c1_i32_350 : BitVec 32 := 1#32
  let arg26 : BitVec 32 := Scf.iv c0_i32_348 c1_i32_350 k1_t13
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 1, v465.toNat, 96]
def k1_off143 (k1_t13 : Fin k1_t13_loop.trips) (c0_i32_356 : BitVec 32) : Fin 4 → Nat :=
  let c1_i32_390 : BitVec 32 := 1#32
  let v468 : Index := Scalar.indexCast c1_i32_390
  let c1_i32_391 : BitVec 32 := 1#32
  let v469 : Index := Scalar.indexCast c1_i32_391
  let c0_i32_348 : BitVec 32 := 0#32
  let c1_i32_350 : BitVec 32 := 1#32
  let arg26 : BitVec 32 := Scf.iv c0_i32_348 c1_i32_350 k1_t13
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 1, v470.toNat, 96]
def k1_off144 (k1_t13 : Fin k1_t13_loop.trips) (c0_i32_356 : BitVec 32) : Fin 4 → Nat :=
  let c0_i32_393 : BitVec 32 := 0#32
  let v475 : Index := Scalar.indexCast c0_i32_393
  let c1_i32_394 : BitVec 32 := 1#32
  let v476 : Index := Scalar.indexCast c1_i32_394
  let c0_i32_348 : BitVec 32 := 0#32
  let c1_i32_350 : BitVec 32 := 1#32
  let arg26 : BitVec 32 := Scf.iv c0_i32_348 c1_i32_350 k1_t13
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 1, v477.toNat, 112]
def k1_off145 (k1_t13 : Fin k1_t13_loop.trips) (c0_i32_356 : BitVec 32) : Fin 4 → Nat :=
  let c1_i32_395 : BitVec 32 := 1#32
  let v480 : Index := Scalar.indexCast c1_i32_395
  let c1_i32_396 : BitVec 32 := 1#32
  let v481 : Index := Scalar.indexCast c1_i32_396
  let c0_i32_348 : BitVec 32 := 0#32
  let c1_i32_350 : BitVec 32 := 1#32
  let arg26 : BitVec 32 := Scf.iv c0_i32_348 c1_i32_350 k1_t13
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 1, v482.toNat, 112]
def k1_off146 (v75 : BitVec 32) (k1_t11 : Fin (k1_t11_loop v75).trips) : Fin 1 → Nat :=
  let c0_i32_116 : BitVec 32 := 0#32
  let c1_i32_118 : BitVec 32 := 1#32
  let arg17 : BitVec 32 := Scf.iv c0_i32_116 c1_i32_118 k1_t11
  let c2_i32_328 : BitVec 32 := 2#32
  let v366 : BitVec 32 := Scalar.muli arg17 c2_i32_328
  let c1_i32_329 : BitVec 32 := 1#32
  let v367 : BitVec 32 := Scalar.addi v366 c1_i32_329
  let c2_i32_355 : BitVec 32 := 2#32
  let v389 : BitVec 32 := Scalar.addi v367 c2_i32_355
  let c64_i32_356 : BitVec 32 := 64#32
  let v390 : BitVec 32 := Scalar.muli v389 c64_i32_356
  ![v390.toNat]
def k1_cond6 (v75 : BitVec 32) (k1_t11 : Fin (k1_t11_loop v75).trips) : BitVec 1 :=
  let c0_i32_116 : BitVec 32 := 0#32
  let c1_i32_118 : BitVec 32 := 1#32
  let arg17 : BitVec 32 := Scf.iv c0_i32_116 c1_i32_118 k1_t11
  let c2_i32_328 : BitVec 32 := 2#32
  let v366 : BitVec 32 := Scalar.muli arg17 c2_i32_328
  let c1_i32_329 : BitVec 32 := 1#32
  let v367 : BitVec 32 := Scalar.addi v366 c1_i32_329
  let c2_i32_352 : BitVec 32 := 2#32
  let v384 : BitVec 32 := Scalar.addi v367 c2_i32_352
  let c128_i32_106 : BitVec 32 := 128#32
  let v109 : BitVec 32 := Scalar.addi v75 c128_i32_106
  let c1_i32_107 : BitVec 32 := 1#32
  let v110 : BitVec 32 := Scalar.subi v109 c1_i32_107
  let c0_i32_109 : BitVec 32 := 0#32
  let v112 : BitVec 1 := Scalar.cmpi .sgt v110 c0_i32_109
  let v113 : BitVec 32 := Scalar.extui v112
  let c0_i32_110 : BitVec 32 := 0#32
  let v114 : BitVec 1 := Scalar.cmpi .slt v110 c0_i32_110
  let v115 : BitVec 32 := Scalar.extui v114
  let v116 : BitVec 32 := Scalar.subi v113 v115
  let c128_i32_108 : BitVec 32 := 128#32
  let c0_i32_111 : BitVec 32 := 0#32
  let v117 : BitVec 1 := Scalar.cmpi .sgt c128_i32_108 c0_i32_111
  let v118 : BitVec 32 := Scalar.extui v117
  let c0_i32_112 : BitVec 32 := 0#32
  let v119 : BitVec 1 := Scalar.cmpi .slt c128_i32_108 c0_i32_112
  let v120 : BitVec 32 := Scalar.extui v119
  let v121 : BitVec 32 := Scalar.subi v118 v120
  let v122 : BitVec 1 := Scalar.cmpi .ne v116 v121
  let v123 : BitVec 32 := Scalar.remsi v110 c128_i32_108
  let c0_i32_113 : BitVec 32 := 0#32
  let v124 : BitVec 1 := Scalar.cmpi .ne v123 c0_i32_113
  let v125 : BitVec 1 := Scalar.andi v122 v124
  let v111 : BitVec 32 := Scalar.divsi v110 c128_i32_108
  let c1_i32_114 : BitVec 32 := 1#32
  let v126 : BitVec 32 := Scalar.subi v111 c1_i32_114
  let v127 : BitVec 32 := Scalar.select v125 v126 v111
  let c1_i32_115 : BitVec 32 := 1#32
  let v128 : BitVec 32 := Scalar.maxsi v127 c1_i32_115
  let c2_i32_353 : BitVec 32 := 2#32
  let v385 : BitVec 32 := Scalar.muli v128 c2_i32_353
  let v386 : BitVec 1 := Scalar.cmpi .slt v384 v385
  let v387 : BitVec 32 := Scalar.extui v386
  let c0_i32_354 : BitVec 32 := 0#32
  let v388 : BitVec 1 := Scalar.cmpi .ne v387 c0_i32_354
  v388

@[reducible] def k1_t14_loop (v75 : BitVec 32) : Scf.Loop 32 :=
  let c0_i32_116 : BitVec 32 := 0#32
  let c128_i32_106 : BitVec 32 := 128#32
  let v109 : BitVec 32 := Scalar.addi v75 c128_i32_106
  let c1_i32_107 : BitVec 32 := 1#32
  let v110 : BitVec 32 := Scalar.subi v109 c1_i32_107
  let c0_i32_109 : BitVec 32 := 0#32
  let v112 : BitVec 1 := Scalar.cmpi .sgt v110 c0_i32_109
  let v113 : BitVec 32 := Scalar.extui v112
  let c0_i32_110 : BitVec 32 := 0#32
  let v114 : BitVec 1 := Scalar.cmpi .slt v110 c0_i32_110
  let v115 : BitVec 32 := Scalar.extui v114
  let v116 : BitVec 32 := Scalar.subi v113 v115
  let c128_i32_108 : BitVec 32 := 128#32
  let c0_i32_111 : BitVec 32 := 0#32
  let v117 : BitVec 1 := Scalar.cmpi .sgt c128_i32_108 c0_i32_111
  let v118 : BitVec 32 := Scalar.extui v117
  let c0_i32_112 : BitVec 32 := 0#32
  let v119 : BitVec 1 := Scalar.cmpi .slt c128_i32_108 c0_i32_112
  let v120 : BitVec 32 := Scalar.extui v119
  let v121 : BitVec 32 := Scalar.subi v118 v120
  let v122 : BitVec 1 := Scalar.cmpi .ne v116 v121
  let v123 : BitVec 32 := Scalar.remsi v110 c128_i32_108
  let c0_i32_113 : BitVec 32 := 0#32
  let v124 : BitVec 1 := Scalar.cmpi .ne v123 c0_i32_113
  let v125 : BitVec 1 := Scalar.andi v122 v124
  let v111 : BitVec 32 := Scalar.divsi v110 c128_i32_108
  let c1_i32_114 : BitVec 32 := 1#32
  let v126 : BitVec 32 := Scalar.subi v111 c1_i32_114
  let v127 : BitVec 32 := Scalar.select v125 v126 v111
  let c1_i32_115 : BitVec 32 := 1#32
  let v128 : BitVec 32 := Scalar.maxsi v127 c1_i32_115
  let v129 : BitVec 32 := Scalar.subi v128 c0_i32_116
  let c1_i32_117 : BitVec 32 := 1#32
  let v131 : BitVec 32 := Scalar.divsi v129 c1_i32_117
  let v132 : BitVec 32 := Scalar.muli v131 c1_i32_117
  let v133 : BitVec 32 := Scalar.addi c0_i32_116 v132
  let v130 : BitVec 32 := Scalar.addi c0_i32_116 v129
  let c1_i32_119 : BitVec 32 := 1#32
  ⟨v133, v130, c1_i32_119⟩
def k1_off147 (v75 : BitVec 32) (k1_t14 : Fin (k1_t14_loop v75).trips) (c0_i32_303 : BitVec 32) : Fin 1 → Nat :=
  let c0_i32_116 : BitVec 32 := 0#32
  let c128_i32_106 : BitVec 32 := 128#32
  let v109 : BitVec 32 := Scalar.addi v75 c128_i32_106
  let c1_i32_107 : BitVec 32 := 1#32
  let v110 : BitVec 32 := Scalar.subi v109 c1_i32_107
  let c0_i32_109 : BitVec 32 := 0#32
  let v112 : BitVec 1 := Scalar.cmpi .sgt v110 c0_i32_109
  let v113 : BitVec 32 := Scalar.extui v112
  let c0_i32_110 : BitVec 32 := 0#32
  let v114 : BitVec 1 := Scalar.cmpi .slt v110 c0_i32_110
  let v115 : BitVec 32 := Scalar.extui v114
  let v116 : BitVec 32 := Scalar.subi v113 v115
  let c128_i32_108 : BitVec 32 := 128#32
  let c0_i32_111 : BitVec 32 := 0#32
  let v117 : BitVec 1 := Scalar.cmpi .sgt c128_i32_108 c0_i32_111
  let v118 : BitVec 32 := Scalar.extui v117
  let c0_i32_112 : BitVec 32 := 0#32
  let v119 : BitVec 1 := Scalar.cmpi .slt c128_i32_108 c0_i32_112
  let v120 : BitVec 32 := Scalar.extui v119
  let v121 : BitVec 32 := Scalar.subi v118 v120
  let v122 : BitVec 1 := Scalar.cmpi .ne v116 v121
  let v123 : BitVec 32 := Scalar.remsi v110 c128_i32_108
  let c0_i32_113 : BitVec 32 := 0#32
  let v124 : BitVec 1 := Scalar.cmpi .ne v123 c0_i32_113
  let v125 : BitVec 1 := Scalar.andi v122 v124
  let v111 : BitVec 32 := Scalar.divsi v110 c128_i32_108
  let c1_i32_114 : BitVec 32 := 1#32
  let v126 : BitVec 32 := Scalar.subi v111 c1_i32_114
  let v127 : BitVec 32 := Scalar.select v125 v126 v111
  let c1_i32_115 : BitVec 32 := 1#32
  let v128 : BitVec 32 := Scalar.maxsi v127 c1_i32_115
  let v129 : BitVec 32 := Scalar.subi v128 c0_i32_116
  let c1_i32_117 : BitVec 32 := 1#32
  let v131 : BitVec 32 := Scalar.divsi v129 c1_i32_117
  let v132 : BitVec 32 := Scalar.muli v131 c1_i32_117
  let v133 : BitVec 32 := Scalar.addi c0_i32_116 v132
  let c1_i32_119 : BitVec 32 := 1#32
  let arg17 : BitVec 32 := Scf.iv v133 c1_i32_119 k1_t14
  let c2_i32_302 : BitVec 32 := 2#32
  let v343 : BitVec 32 := Scalar.muli arg17 c2_i32_302
  let v344 : BitVec 32 := Scalar.addi v343 c0_i32_303
  let c64_i32_304 : BitVec 32 := 64#32
  let v345 : BitVec 32 := Scalar.muli v344 c64_i32_304
  ![v345.toNat]
@[reducible] def k1_t15_loop : Scf.Loop 32 :=
  let c0_i32_322 : BitVec 32 := 0#32
  let c32_i32 : BitVec 32 := 32#32
  let v359 : BitVec 32 := Scalar.addi c0_i32_322 c32_i32
  let c1_i32_323 : BitVec 32 := 1#32
  ⟨c0_i32_322, v359, c1_i32_323⟩
def k1_off148 (k1_t15 : Fin k1_t15_loop.trips) (c0_i32_356 : BitVec 32) : Fin 4 → Nat :=
  let c0_i32_357 : BitVec 32 := 0#32
  let v391 : Index := Scalar.indexCast c0_i32_357
  let c0_i32_358 : BitVec 32 := 0#32
  let v392 : Index := Scalar.indexCast c0_i32_358
  let c0_i32_322 : BitVec 32 := 0#32
  let c1_i32_323 : BitVec 32 := 1#32
  let arg26 : BitVec 32 := Scf.iv c0_i32_322 c1_i32_323 k1_t15
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 0, v393.toNat, 0]
def k1_off149 (k1_t15 : Fin k1_t15_loop.trips) (c0_i32_356 : BitVec 32) : Fin 4 → Nat :=
  let c1_i32_360 : BitVec 32 := 1#32
  let v396 : Index := Scalar.indexCast c1_i32_360
  let c0_i32_361 : BitVec 32 := 0#32
  let v397 : Index := Scalar.indexCast c0_i32_361
  let c0_i32_322 : BitVec 32 := 0#32
  let c1_i32_323 : BitVec 32 := 1#32
  let arg26 : BitVec 32 := Scf.iv c0_i32_322 c1_i32_323 k1_t15
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 0, v398.toNat, 0]
def k1_off150 (k1_t15 : Fin k1_t15_loop.trips) (c0_i32_356 : BitVec 32) : Fin 4 → Nat :=
  let c0_i32_363 : BitVec 32 := 0#32
  let v403 : Index := Scalar.indexCast c0_i32_363
  let c0_i32_364 : BitVec 32 := 0#32
  let v404 : Index := Scalar.indexCast c0_i32_364
  let c0_i32_322 : BitVec 32 := 0#32
  let c1_i32_323 : BitVec 32 := 1#32
  let arg26 : BitVec 32 := Scf.iv c0_i32_322 c1_i32_323 k1_t15
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 0, v405.toNat, 16]
def k1_off151 (k1_t15 : Fin k1_t15_loop.trips) (c0_i32_356 : BitVec 32) : Fin 4 → Nat :=
  let c1_i32_365 : BitVec 32 := 1#32
  let v408 : Index := Scalar.indexCast c1_i32_365
  let c0_i32_366 : BitVec 32 := 0#32
  let v409 : Index := Scalar.indexCast c0_i32_366
  let c0_i32_322 : BitVec 32 := 0#32
  let c1_i32_323 : BitVec 32 := 1#32
  let arg26 : BitVec 32 := Scf.iv c0_i32_322 c1_i32_323 k1_t15
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 0, v410.toNat, 16]
def k1_off152 (k1_t15 : Fin k1_t15_loop.trips) (c0_i32_356 : BitVec 32) : Fin 4 → Nat :=
  let c0_i32_368 : BitVec 32 := 0#32
  let v415 : Index := Scalar.indexCast c0_i32_368
  let c0_i32_369 : BitVec 32 := 0#32
  let v416 : Index := Scalar.indexCast c0_i32_369
  let c0_i32_322 : BitVec 32 := 0#32
  let c1_i32_323 : BitVec 32 := 1#32
  let arg26 : BitVec 32 := Scf.iv c0_i32_322 c1_i32_323 k1_t15
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 0, v417.toNat, 32]
def k1_off153 (k1_t15 : Fin k1_t15_loop.trips) (c0_i32_356 : BitVec 32) : Fin 4 → Nat :=
  let c1_i32_370 : BitVec 32 := 1#32
  let v420 : Index := Scalar.indexCast c1_i32_370
  let c0_i32_371 : BitVec 32 := 0#32
  let v421 : Index := Scalar.indexCast c0_i32_371
  let c0_i32_322 : BitVec 32 := 0#32
  let c1_i32_323 : BitVec 32 := 1#32
  let arg26 : BitVec 32 := Scf.iv c0_i32_322 c1_i32_323 k1_t15
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 0, v422.toNat, 32]
def k1_off154 (k1_t15 : Fin k1_t15_loop.trips) (c0_i32_356 : BitVec 32) : Fin 4 → Nat :=
  let c0_i32_373 : BitVec 32 := 0#32
  let v427 : Index := Scalar.indexCast c0_i32_373
  let c0_i32_374 : BitVec 32 := 0#32
  let v428 : Index := Scalar.indexCast c0_i32_374
  let c0_i32_322 : BitVec 32 := 0#32
  let c1_i32_323 : BitVec 32 := 1#32
  let arg26 : BitVec 32 := Scf.iv c0_i32_322 c1_i32_323 k1_t15
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 0, v429.toNat, 48]
def k1_off155 (k1_t15 : Fin k1_t15_loop.trips) (c0_i32_356 : BitVec 32) : Fin 4 → Nat :=
  let c1_i32_375 : BitVec 32 := 1#32
  let v432 : Index := Scalar.indexCast c1_i32_375
  let c0_i32_376 : BitVec 32 := 0#32
  let v433 : Index := Scalar.indexCast c0_i32_376
  let c0_i32_322 : BitVec 32 := 0#32
  let c1_i32_323 : BitVec 32 := 1#32
  let arg26 : BitVec 32 := Scf.iv c0_i32_322 c1_i32_323 k1_t15
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 0, v434.toNat, 48]
def k1_off156 (k1_t15 : Fin k1_t15_loop.trips) (c0_i32_356 : BitVec 32) : Fin 4 → Nat :=
  let c0_i32_378 : BitVec 32 := 0#32
  let v439 : Index := Scalar.indexCast c0_i32_378
  let c0_i32_379 : BitVec 32 := 0#32
  let v440 : Index := Scalar.indexCast c0_i32_379
  let c0_i32_322 : BitVec 32 := 0#32
  let c1_i32_323 : BitVec 32 := 1#32
  let arg26 : BitVec 32 := Scf.iv c0_i32_322 c1_i32_323 k1_t15
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 0, v441.toNat, 64]
def k1_off157 (k1_t15 : Fin k1_t15_loop.trips) (c0_i32_356 : BitVec 32) : Fin 4 → Nat :=
  let c1_i32_380 : BitVec 32 := 1#32
  let v444 : Index := Scalar.indexCast c1_i32_380
  let c0_i32_381 : BitVec 32 := 0#32
  let v445 : Index := Scalar.indexCast c0_i32_381
  let c0_i32_322 : BitVec 32 := 0#32
  let c1_i32_323 : BitVec 32 := 1#32
  let arg26 : BitVec 32 := Scf.iv c0_i32_322 c1_i32_323 k1_t15
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 0, v446.toNat, 64]
def k1_off158 (k1_t15 : Fin k1_t15_loop.trips) (c0_i32_356 : BitVec 32) : Fin 4 → Nat :=
  let c0_i32_383 : BitVec 32 := 0#32
  let v451 : Index := Scalar.indexCast c0_i32_383
  let c0_i32_384 : BitVec 32 := 0#32
  let v452 : Index := Scalar.indexCast c0_i32_384
  let c0_i32_322 : BitVec 32 := 0#32
  let c1_i32_323 : BitVec 32 := 1#32
  let arg26 : BitVec 32 := Scf.iv c0_i32_322 c1_i32_323 k1_t15
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 0, v453.toNat, 80]
def k1_off159 (k1_t15 : Fin k1_t15_loop.trips) (c0_i32_356 : BitVec 32) : Fin 4 → Nat :=
  let c1_i32_385 : BitVec 32 := 1#32
  let v456 : Index := Scalar.indexCast c1_i32_385
  let c0_i32_386 : BitVec 32 := 0#32
  let v457 : Index := Scalar.indexCast c0_i32_386
  let c0_i32_322 : BitVec 32 := 0#32
  let c1_i32_323 : BitVec 32 := 1#32
  let arg26 : BitVec 32 := Scf.iv c0_i32_322 c1_i32_323 k1_t15
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 0, v458.toNat, 80]
def k1_off160 (k1_t15 : Fin k1_t15_loop.trips) (c0_i32_356 : BitVec 32) : Fin 4 → Nat :=
  let c0_i32_388 : BitVec 32 := 0#32
  let v463 : Index := Scalar.indexCast c0_i32_388
  let c0_i32_389 : BitVec 32 := 0#32
  let v464 : Index := Scalar.indexCast c0_i32_389
  let c0_i32_322 : BitVec 32 := 0#32
  let c1_i32_323 : BitVec 32 := 1#32
  let arg26 : BitVec 32 := Scf.iv c0_i32_322 c1_i32_323 k1_t15
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 0, v465.toNat, 96]
def k1_off161 (k1_t15 : Fin k1_t15_loop.trips) (c0_i32_356 : BitVec 32) : Fin 4 → Nat :=
  let c1_i32_390 : BitVec 32 := 1#32
  let v468 : Index := Scalar.indexCast c1_i32_390
  let c0_i32_391 : BitVec 32 := 0#32
  let v469 : Index := Scalar.indexCast c0_i32_391
  let c0_i32_322 : BitVec 32 := 0#32
  let c1_i32_323 : BitVec 32 := 1#32
  let arg26 : BitVec 32 := Scf.iv c0_i32_322 c1_i32_323 k1_t15
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 0, v470.toNat, 96]
def k1_off162 (k1_t15 : Fin k1_t15_loop.trips) (c0_i32_356 : BitVec 32) : Fin 4 → Nat :=
  let c0_i32_393 : BitVec 32 := 0#32
  let v475 : Index := Scalar.indexCast c0_i32_393
  let c0_i32_394 : BitVec 32 := 0#32
  let v476 : Index := Scalar.indexCast c0_i32_394
  let c0_i32_322 : BitVec 32 := 0#32
  let c1_i32_323 : BitVec 32 := 1#32
  let arg26 : BitVec 32 := Scf.iv c0_i32_322 c1_i32_323 k1_t15
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 0, v477.toNat, 112]
def k1_off163 (k1_t15 : Fin k1_t15_loop.trips) (c0_i32_356 : BitVec 32) : Fin 4 → Nat :=
  let c1_i32_395 : BitVec 32 := 1#32
  let v480 : Index := Scalar.indexCast c1_i32_395
  let c0_i32_396 : BitVec 32 := 0#32
  let v481 : Index := Scalar.indexCast c0_i32_396
  let c0_i32_322 : BitVec 32 := 0#32
  let c1_i32_323 : BitVec 32 := 1#32
  let arg26 : BitVec 32 := Scf.iv c0_i32_322 c1_i32_323 k1_t15
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 0, v482.toNat, 112]
def k1_off164 (v75 : BitVec 32) (k1_t14 : Fin (k1_t14_loop v75).trips) : Fin 1 → Nat :=
  let c0_i32_116 : BitVec 32 := 0#32
  let c128_i32_106 : BitVec 32 := 128#32
  let v109 : BitVec 32 := Scalar.addi v75 c128_i32_106
  let c1_i32_107 : BitVec 32 := 1#32
  let v110 : BitVec 32 := Scalar.subi v109 c1_i32_107
  let c0_i32_109 : BitVec 32 := 0#32
  let v112 : BitVec 1 := Scalar.cmpi .sgt v110 c0_i32_109
  let v113 : BitVec 32 := Scalar.extui v112
  let c0_i32_110 : BitVec 32 := 0#32
  let v114 : BitVec 1 := Scalar.cmpi .slt v110 c0_i32_110
  let v115 : BitVec 32 := Scalar.extui v114
  let v116 : BitVec 32 := Scalar.subi v113 v115
  let c128_i32_108 : BitVec 32 := 128#32
  let c0_i32_111 : BitVec 32 := 0#32
  let v117 : BitVec 1 := Scalar.cmpi .sgt c128_i32_108 c0_i32_111
  let v118 : BitVec 32 := Scalar.extui v117
  let c0_i32_112 : BitVec 32 := 0#32
  let v119 : BitVec 1 := Scalar.cmpi .slt c128_i32_108 c0_i32_112
  let v120 : BitVec 32 := Scalar.extui v119
  let v121 : BitVec 32 := Scalar.subi v118 v120
  let v122 : BitVec 1 := Scalar.cmpi .ne v116 v121
  let v123 : BitVec 32 := Scalar.remsi v110 c128_i32_108
  let c0_i32_113 : BitVec 32 := 0#32
  let v124 : BitVec 1 := Scalar.cmpi .ne v123 c0_i32_113
  let v125 : BitVec 1 := Scalar.andi v122 v124
  let v111 : BitVec 32 := Scalar.divsi v110 c128_i32_108
  let c1_i32_114 : BitVec 32 := 1#32
  let v126 : BitVec 32 := Scalar.subi v111 c1_i32_114
  let v127 : BitVec 32 := Scalar.select v125 v126 v111
  let c1_i32_115 : BitVec 32 := 1#32
  let v128 : BitVec 32 := Scalar.maxsi v127 c1_i32_115
  let v129 : BitVec 32 := Scalar.subi v128 c0_i32_116
  let c1_i32_117 : BitVec 32 := 1#32
  let v131 : BitVec 32 := Scalar.divsi v129 c1_i32_117
  let v132 : BitVec 32 := Scalar.muli v131 c1_i32_117
  let v133 : BitVec 32 := Scalar.addi c0_i32_116 v132
  let c1_i32_119 : BitVec 32 := 1#32
  let arg17 : BitVec 32 := Scf.iv v133 c1_i32_119 k1_t14
  let c2_i32_302 : BitVec 32 := 2#32
  let v343 : BitVec 32 := Scalar.muli arg17 c2_i32_302
  let c0_i32_303 : BitVec 32 := 0#32
  let v344 : BitVec 32 := Scalar.addi v343 c0_i32_303
  let c2_i32_355 : BitVec 32 := 2#32
  let v389 : BitVec 32 := Scalar.addi v344 c2_i32_355
  let c64_i32_356 : BitVec 32 := 64#32
  let v390 : BitVec 32 := Scalar.muli v389 c64_i32_356
  ![v390.toNat]
def k1_cond7 (v75 : BitVec 32) (k1_t14 : Fin (k1_t14_loop v75).trips) : BitVec 1 :=
  let c0_i32_116 : BitVec 32 := 0#32
  let c128_i32_106 : BitVec 32 := 128#32
  let v109 : BitVec 32 := Scalar.addi v75 c128_i32_106
  let c1_i32_107 : BitVec 32 := 1#32
  let v110 : BitVec 32 := Scalar.subi v109 c1_i32_107
  let c0_i32_109 : BitVec 32 := 0#32
  let v112 : BitVec 1 := Scalar.cmpi .sgt v110 c0_i32_109
  let v113 : BitVec 32 := Scalar.extui v112
  let c0_i32_110 : BitVec 32 := 0#32
  let v114 : BitVec 1 := Scalar.cmpi .slt v110 c0_i32_110
  let v115 : BitVec 32 := Scalar.extui v114
  let v116 : BitVec 32 := Scalar.subi v113 v115
  let c128_i32_108 : BitVec 32 := 128#32
  let c0_i32_111 : BitVec 32 := 0#32
  let v117 : BitVec 1 := Scalar.cmpi .sgt c128_i32_108 c0_i32_111
  let v118 : BitVec 32 := Scalar.extui v117
  let c0_i32_112 : BitVec 32 := 0#32
  let v119 : BitVec 1 := Scalar.cmpi .slt c128_i32_108 c0_i32_112
  let v120 : BitVec 32 := Scalar.extui v119
  let v121 : BitVec 32 := Scalar.subi v118 v120
  let v122 : BitVec 1 := Scalar.cmpi .ne v116 v121
  let v123 : BitVec 32 := Scalar.remsi v110 c128_i32_108
  let c0_i32_113 : BitVec 32 := 0#32
  let v124 : BitVec 1 := Scalar.cmpi .ne v123 c0_i32_113
  let v125 : BitVec 1 := Scalar.andi v122 v124
  let v111 : BitVec 32 := Scalar.divsi v110 c128_i32_108
  let c1_i32_114 : BitVec 32 := 1#32
  let v126 : BitVec 32 := Scalar.subi v111 c1_i32_114
  let v127 : BitVec 32 := Scalar.select v125 v126 v111
  let c1_i32_115 : BitVec 32 := 1#32
  let v128 : BitVec 32 := Scalar.maxsi v127 c1_i32_115
  let v129 : BitVec 32 := Scalar.subi v128 c0_i32_116
  let c1_i32_117 : BitVec 32 := 1#32
  let v131 : BitVec 32 := Scalar.divsi v129 c1_i32_117
  let v132 : BitVec 32 := Scalar.muli v131 c1_i32_117
  let v133 : BitVec 32 := Scalar.addi c0_i32_116 v132
  let c1_i32_119 : BitVec 32 := 1#32
  let arg17 : BitVec 32 := Scf.iv v133 c1_i32_119 k1_t14
  let c2_i32_302 : BitVec 32 := 2#32
  let v343 : BitVec 32 := Scalar.muli arg17 c2_i32_302
  let c0_i32_303 : BitVec 32 := 0#32
  let v344 : BitVec 32 := Scalar.addi v343 c0_i32_303
  let c2_i32_325 : BitVec 32 := 2#32
  let v361 : BitVec 32 := Scalar.addi v344 c2_i32_325
  let c2_i32_326 : BitVec 32 := 2#32
  let v362 : BitVec 32 := Scalar.muli v128 c2_i32_326
  let v363 : BitVec 1 := Scalar.cmpi .slt v361 v362
  let v364 : BitVec 32 := Scalar.extui v363
  let c0_i32_327 : BitVec 32 := 0#32
  let v365 : BitVec 1 := Scalar.cmpi .ne v364 c0_i32_327
  v365

@[reducible] def k1_t16_loop : Scf.Loop 32 :=
  let c0_i32_348 : BitVec 32 := 0#32
  let c32_i32_349 : BitVec 32 := 32#32
  let v382 : BitVec 32 := Scalar.addi c0_i32_348 c32_i32_349
  let c1_i32_350 : BitVec 32 := 1#32
  ⟨c0_i32_348, v382, c1_i32_350⟩
def k1_off165 (k1_t16 : Fin k1_t16_loop.trips) (c0_i32_356 : BitVec 32) : Fin 4 → Nat :=
  let c0_i32_357 : BitVec 32 := 0#32
  let v391 : Index := Scalar.indexCast c0_i32_357
  let c1_i32_358 : BitVec 32 := 1#32
  let v392 : Index := Scalar.indexCast c1_i32_358
  let c0_i32_348 : BitVec 32 := 0#32
  let c1_i32_350 : BitVec 32 := 1#32
  let arg26 : BitVec 32 := Scf.iv c0_i32_348 c1_i32_350 k1_t16
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 1, v393.toNat, 0]
def k1_off166 (k1_t16 : Fin k1_t16_loop.trips) (c0_i32_356 : BitVec 32) : Fin 4 → Nat :=
  let c1_i32_360 : BitVec 32 := 1#32
  let v396 : Index := Scalar.indexCast c1_i32_360
  let c1_i32_361 : BitVec 32 := 1#32
  let v397 : Index := Scalar.indexCast c1_i32_361
  let c0_i32_348 : BitVec 32 := 0#32
  let c1_i32_350 : BitVec 32 := 1#32
  let arg26 : BitVec 32 := Scf.iv c0_i32_348 c1_i32_350 k1_t16
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 1, v398.toNat, 0]
def k1_off167 (k1_t16 : Fin k1_t16_loop.trips) (c0_i32_356 : BitVec 32) : Fin 4 → Nat :=
  let c0_i32_363 : BitVec 32 := 0#32
  let v403 : Index := Scalar.indexCast c0_i32_363
  let c1_i32_364 : BitVec 32 := 1#32
  let v404 : Index := Scalar.indexCast c1_i32_364
  let c0_i32_348 : BitVec 32 := 0#32
  let c1_i32_350 : BitVec 32 := 1#32
  let arg26 : BitVec 32 := Scf.iv c0_i32_348 c1_i32_350 k1_t16
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 1, v405.toNat, 16]
def k1_off168 (k1_t16 : Fin k1_t16_loop.trips) (c0_i32_356 : BitVec 32) : Fin 4 → Nat :=
  let c1_i32_365 : BitVec 32 := 1#32
  let v408 : Index := Scalar.indexCast c1_i32_365
  let c1_i32_366 : BitVec 32 := 1#32
  let v409 : Index := Scalar.indexCast c1_i32_366
  let c0_i32_348 : BitVec 32 := 0#32
  let c1_i32_350 : BitVec 32 := 1#32
  let arg26 : BitVec 32 := Scf.iv c0_i32_348 c1_i32_350 k1_t16
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 1, v410.toNat, 16]
def k1_off169 (k1_t16 : Fin k1_t16_loop.trips) (c0_i32_356 : BitVec 32) : Fin 4 → Nat :=
  let c0_i32_368 : BitVec 32 := 0#32
  let v415 : Index := Scalar.indexCast c0_i32_368
  let c1_i32_369 : BitVec 32 := 1#32
  let v416 : Index := Scalar.indexCast c1_i32_369
  let c0_i32_348 : BitVec 32 := 0#32
  let c1_i32_350 : BitVec 32 := 1#32
  let arg26 : BitVec 32 := Scf.iv c0_i32_348 c1_i32_350 k1_t16
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 1, v417.toNat, 32]
def k1_off170 (k1_t16 : Fin k1_t16_loop.trips) (c0_i32_356 : BitVec 32) : Fin 4 → Nat :=
  let c1_i32_370 : BitVec 32 := 1#32
  let v420 : Index := Scalar.indexCast c1_i32_370
  let c1_i32_371 : BitVec 32 := 1#32
  let v421 : Index := Scalar.indexCast c1_i32_371
  let c0_i32_348 : BitVec 32 := 0#32
  let c1_i32_350 : BitVec 32 := 1#32
  let arg26 : BitVec 32 := Scf.iv c0_i32_348 c1_i32_350 k1_t16
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 1, v422.toNat, 32]
def k1_off171 (k1_t16 : Fin k1_t16_loop.trips) (c0_i32_356 : BitVec 32) : Fin 4 → Nat :=
  let c0_i32_373 : BitVec 32 := 0#32
  let v427 : Index := Scalar.indexCast c0_i32_373
  let c1_i32_374 : BitVec 32 := 1#32
  let v428 : Index := Scalar.indexCast c1_i32_374
  let c0_i32_348 : BitVec 32 := 0#32
  let c1_i32_350 : BitVec 32 := 1#32
  let arg26 : BitVec 32 := Scf.iv c0_i32_348 c1_i32_350 k1_t16
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 1, v429.toNat, 48]
def k1_off172 (k1_t16 : Fin k1_t16_loop.trips) (c0_i32_356 : BitVec 32) : Fin 4 → Nat :=
  let c1_i32_375 : BitVec 32 := 1#32
  let v432 : Index := Scalar.indexCast c1_i32_375
  let c1_i32_376 : BitVec 32 := 1#32
  let v433 : Index := Scalar.indexCast c1_i32_376
  let c0_i32_348 : BitVec 32 := 0#32
  let c1_i32_350 : BitVec 32 := 1#32
  let arg26 : BitVec 32 := Scf.iv c0_i32_348 c1_i32_350 k1_t16
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 1, v434.toNat, 48]
def k1_off173 (k1_t16 : Fin k1_t16_loop.trips) (c0_i32_356 : BitVec 32) : Fin 4 → Nat :=
  let c0_i32_378 : BitVec 32 := 0#32
  let v439 : Index := Scalar.indexCast c0_i32_378
  let c1_i32_379 : BitVec 32 := 1#32
  let v440 : Index := Scalar.indexCast c1_i32_379
  let c0_i32_348 : BitVec 32 := 0#32
  let c1_i32_350 : BitVec 32 := 1#32
  let arg26 : BitVec 32 := Scf.iv c0_i32_348 c1_i32_350 k1_t16
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 1, v441.toNat, 64]
def k1_off174 (k1_t16 : Fin k1_t16_loop.trips) (c0_i32_356 : BitVec 32) : Fin 4 → Nat :=
  let c1_i32_380 : BitVec 32 := 1#32
  let v444 : Index := Scalar.indexCast c1_i32_380
  let c1_i32_381 : BitVec 32 := 1#32
  let v445 : Index := Scalar.indexCast c1_i32_381
  let c0_i32_348 : BitVec 32 := 0#32
  let c1_i32_350 : BitVec 32 := 1#32
  let arg26 : BitVec 32 := Scf.iv c0_i32_348 c1_i32_350 k1_t16
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 1, v446.toNat, 64]
def k1_off175 (k1_t16 : Fin k1_t16_loop.trips) (c0_i32_356 : BitVec 32) : Fin 4 → Nat :=
  let c0_i32_383 : BitVec 32 := 0#32
  let v451 : Index := Scalar.indexCast c0_i32_383
  let c1_i32_384 : BitVec 32 := 1#32
  let v452 : Index := Scalar.indexCast c1_i32_384
  let c0_i32_348 : BitVec 32 := 0#32
  let c1_i32_350 : BitVec 32 := 1#32
  let arg26 : BitVec 32 := Scf.iv c0_i32_348 c1_i32_350 k1_t16
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 1, v453.toNat, 80]
def k1_off176 (k1_t16 : Fin k1_t16_loop.trips) (c0_i32_356 : BitVec 32) : Fin 4 → Nat :=
  let c1_i32_385 : BitVec 32 := 1#32
  let v456 : Index := Scalar.indexCast c1_i32_385
  let c1_i32_386 : BitVec 32 := 1#32
  let v457 : Index := Scalar.indexCast c1_i32_386
  let c0_i32_348 : BitVec 32 := 0#32
  let c1_i32_350 : BitVec 32 := 1#32
  let arg26 : BitVec 32 := Scf.iv c0_i32_348 c1_i32_350 k1_t16
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 1, v458.toNat, 80]
def k1_off177 (k1_t16 : Fin k1_t16_loop.trips) (c0_i32_356 : BitVec 32) : Fin 4 → Nat :=
  let c0_i32_388 : BitVec 32 := 0#32
  let v463 : Index := Scalar.indexCast c0_i32_388
  let c1_i32_389 : BitVec 32 := 1#32
  let v464 : Index := Scalar.indexCast c1_i32_389
  let c0_i32_348 : BitVec 32 := 0#32
  let c1_i32_350 : BitVec 32 := 1#32
  let arg26 : BitVec 32 := Scf.iv c0_i32_348 c1_i32_350 k1_t16
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 1, v465.toNat, 96]
def k1_off178 (k1_t16 : Fin k1_t16_loop.trips) (c0_i32_356 : BitVec 32) : Fin 4 → Nat :=
  let c1_i32_390 : BitVec 32 := 1#32
  let v468 : Index := Scalar.indexCast c1_i32_390
  let c1_i32_391 : BitVec 32 := 1#32
  let v469 : Index := Scalar.indexCast c1_i32_391
  let c0_i32_348 : BitVec 32 := 0#32
  let c1_i32_350 : BitVec 32 := 1#32
  let arg26 : BitVec 32 := Scf.iv c0_i32_348 c1_i32_350 k1_t16
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 1, v470.toNat, 96]
def k1_off179 (k1_t16 : Fin k1_t16_loop.trips) (c0_i32_356 : BitVec 32) : Fin 4 → Nat :=
  let c0_i32_393 : BitVec 32 := 0#32
  let v475 : Index := Scalar.indexCast c0_i32_393
  let c1_i32_394 : BitVec 32 := 1#32
  let v476 : Index := Scalar.indexCast c1_i32_394
  let c0_i32_348 : BitVec 32 := 0#32
  let c1_i32_350 : BitVec 32 := 1#32
  let arg26 : BitVec 32 := Scf.iv c0_i32_348 c1_i32_350 k1_t16
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 1, v477.toNat, 112]
def k1_off180 (k1_t16 : Fin k1_t16_loop.trips) (c0_i32_356 : BitVec 32) : Fin 4 → Nat :=
  let c1_i32_395 : BitVec 32 := 1#32
  let v480 : Index := Scalar.indexCast c1_i32_395
  let c1_i32_396 : BitVec 32 := 1#32
  let v481 : Index := Scalar.indexCast c1_i32_396
  let c0_i32_348 : BitVec 32 := 0#32
  let c1_i32_350 : BitVec 32 := 1#32
  let arg26 : BitVec 32 := Scf.iv c0_i32_348 c1_i32_350 k1_t16
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 1, v482.toNat, 112]
def k1_off181 (v75 : BitVec 32) (k1_t14 : Fin (k1_t14_loop v75).trips) : Fin 1 → Nat :=
  let c0_i32_116 : BitVec 32 := 0#32
  let c128_i32_106 : BitVec 32 := 128#32
  let v109 : BitVec 32 := Scalar.addi v75 c128_i32_106
  let c1_i32_107 : BitVec 32 := 1#32
  let v110 : BitVec 32 := Scalar.subi v109 c1_i32_107
  let c0_i32_109 : BitVec 32 := 0#32
  let v112 : BitVec 1 := Scalar.cmpi .sgt v110 c0_i32_109
  let v113 : BitVec 32 := Scalar.extui v112
  let c0_i32_110 : BitVec 32 := 0#32
  let v114 : BitVec 1 := Scalar.cmpi .slt v110 c0_i32_110
  let v115 : BitVec 32 := Scalar.extui v114
  let v116 : BitVec 32 := Scalar.subi v113 v115
  let c128_i32_108 : BitVec 32 := 128#32
  let c0_i32_111 : BitVec 32 := 0#32
  let v117 : BitVec 1 := Scalar.cmpi .sgt c128_i32_108 c0_i32_111
  let v118 : BitVec 32 := Scalar.extui v117
  let c0_i32_112 : BitVec 32 := 0#32
  let v119 : BitVec 1 := Scalar.cmpi .slt c128_i32_108 c0_i32_112
  let v120 : BitVec 32 := Scalar.extui v119
  let v121 : BitVec 32 := Scalar.subi v118 v120
  let v122 : BitVec 1 := Scalar.cmpi .ne v116 v121
  let v123 : BitVec 32 := Scalar.remsi v110 c128_i32_108
  let c0_i32_113 : BitVec 32 := 0#32
  let v124 : BitVec 1 := Scalar.cmpi .ne v123 c0_i32_113
  let v125 : BitVec 1 := Scalar.andi v122 v124
  let v111 : BitVec 32 := Scalar.divsi v110 c128_i32_108
  let c1_i32_114 : BitVec 32 := 1#32
  let v126 : BitVec 32 := Scalar.subi v111 c1_i32_114
  let v127 : BitVec 32 := Scalar.select v125 v126 v111
  let c1_i32_115 : BitVec 32 := 1#32
  let v128 : BitVec 32 := Scalar.maxsi v127 c1_i32_115
  let v129 : BitVec 32 := Scalar.subi v128 c0_i32_116
  let c1_i32_117 : BitVec 32 := 1#32
  let v131 : BitVec 32 := Scalar.divsi v129 c1_i32_117
  let v132 : BitVec 32 := Scalar.muli v131 c1_i32_117
  let v133 : BitVec 32 := Scalar.addi c0_i32_116 v132
  let c1_i32_119 : BitVec 32 := 1#32
  let arg17 : BitVec 32 := Scf.iv v133 c1_i32_119 k1_t14
  let c2_i32_328 : BitVec 32 := 2#32
  let v366 : BitVec 32 := Scalar.muli arg17 c2_i32_328
  let c1_i32_329 : BitVec 32 := 1#32
  let v367 : BitVec 32 := Scalar.addi v366 c1_i32_329
  let c2_i32_355 : BitVec 32 := 2#32
  let v389 : BitVec 32 := Scalar.addi v367 c2_i32_355
  let c64_i32_356 : BitVec 32 := 64#32
  let v390 : BitVec 32 := Scalar.muli v389 c64_i32_356
  ![v390.toNat]
def k1_cond8 (v75 : BitVec 32) (k1_t14 : Fin (k1_t14_loop v75).trips) : BitVec 1 :=
  let c0_i32_116 : BitVec 32 := 0#32
  let c128_i32_106 : BitVec 32 := 128#32
  let v109 : BitVec 32 := Scalar.addi v75 c128_i32_106
  let c1_i32_107 : BitVec 32 := 1#32
  let v110 : BitVec 32 := Scalar.subi v109 c1_i32_107
  let c0_i32_109 : BitVec 32 := 0#32
  let v112 : BitVec 1 := Scalar.cmpi .sgt v110 c0_i32_109
  let v113 : BitVec 32 := Scalar.extui v112
  let c0_i32_110 : BitVec 32 := 0#32
  let v114 : BitVec 1 := Scalar.cmpi .slt v110 c0_i32_110
  let v115 : BitVec 32 := Scalar.extui v114
  let v116 : BitVec 32 := Scalar.subi v113 v115
  let c128_i32_108 : BitVec 32 := 128#32
  let c0_i32_111 : BitVec 32 := 0#32
  let v117 : BitVec 1 := Scalar.cmpi .sgt c128_i32_108 c0_i32_111
  let v118 : BitVec 32 := Scalar.extui v117
  let c0_i32_112 : BitVec 32 := 0#32
  let v119 : BitVec 1 := Scalar.cmpi .slt c128_i32_108 c0_i32_112
  let v120 : BitVec 32 := Scalar.extui v119
  let v121 : BitVec 32 := Scalar.subi v118 v120
  let v122 : BitVec 1 := Scalar.cmpi .ne v116 v121
  let v123 : BitVec 32 := Scalar.remsi v110 c128_i32_108
  let c0_i32_113 : BitVec 32 := 0#32
  let v124 : BitVec 1 := Scalar.cmpi .ne v123 c0_i32_113
  let v125 : BitVec 1 := Scalar.andi v122 v124
  let v111 : BitVec 32 := Scalar.divsi v110 c128_i32_108
  let c1_i32_114 : BitVec 32 := 1#32
  let v126 : BitVec 32 := Scalar.subi v111 c1_i32_114
  let v127 : BitVec 32 := Scalar.select v125 v126 v111
  let c1_i32_115 : BitVec 32 := 1#32
  let v128 : BitVec 32 := Scalar.maxsi v127 c1_i32_115
  let v129 : BitVec 32 := Scalar.subi v128 c0_i32_116
  let c1_i32_117 : BitVec 32 := 1#32
  let v131 : BitVec 32 := Scalar.divsi v129 c1_i32_117
  let v132 : BitVec 32 := Scalar.muli v131 c1_i32_117
  let v133 : BitVec 32 := Scalar.addi c0_i32_116 v132
  let c1_i32_119 : BitVec 32 := 1#32
  let arg17 : BitVec 32 := Scf.iv v133 c1_i32_119 k1_t14
  let c2_i32_328 : BitVec 32 := 2#32
  let v366 : BitVec 32 := Scalar.muli arg17 c2_i32_328
  let c1_i32_329 : BitVec 32 := 1#32
  let v367 : BitVec 32 := Scalar.addi v366 c1_i32_329
  let c2_i32_352 : BitVec 32 := 2#32
  let v384 : BitVec 32 := Scalar.addi v367 c2_i32_352
  let c2_i32_353 : BitVec 32 := 2#32
  let v385 : BitVec 32 := Scalar.muli v128 c2_i32_353
  let v386 : BitVec 1 := Scalar.cmpi .slt v384 v385
  let v387 : BitVec 32 := Scalar.extui v386
  let c0_i32_354 : BitVec 32 := 0#32
  let v388 : BitVec 1 := Scalar.cmpi .ne v387 c0_i32_354
  v388

def k1_chk34 (v75 : BitVec 32) : Prop :=
  (∀ a, (k1_off111 v75) a + S16.size a ≤ S2064.size a) ∧
  ((k1_t11_loop v75).OK) ∧
  (∀ k1_t11 : Fin (k1_t11_loop v75).trips, ∀ (r : Fin 2), ∀ a, (k1_off112 v75 k1_t11 (BitVec.ofNat 32 r.val)) a + S64.size a ≤ S2064.size a) ∧
  (∀ k1_t11 : Fin (k1_t11_loop v75).trips, ∀ (k1_h5 : k1_cond5 v75 k1_t11 = 1#1), ∀ a, (k1_off129 v75 k1_t11) a + S64.size a ≤ S2064.size a) ∧
  (∀ k1_t11 : Fin (k1_t11_loop v75).trips, ∀ (k1_h6 : k1_cond6 v75 k1_t11 = 1#1), ∀ a, (k1_off146 v75 k1_t11) a + S64.size a ≤ S2064.size a) ∧
  ((k1_t14_loop v75).OK) ∧
  (∀ k1_t14 : Fin (k1_t14_loop v75).trips, ∀ (r : Fin 2), ∀ a, (k1_off147 v75 k1_t14 (BitVec.ofNat 32 r.val)) a + S64.size a ≤ S2064.size a) ∧
  (∀ k1_t14 : Fin (k1_t14_loop v75).trips, ∀ (k1_h7 : k1_cond7 v75 k1_t14 = 1#1), ∀ a, (k1_off164 v75 k1_t14) a + S64.size a ≤ S2064.size a) ∧
  (∀ k1_t14 : Fin (k1_t14_loop v75).trips, ∀ (k1_h8 : k1_cond8 v75 k1_t14 = 1#1), ∀ a, (k1_off181 v75 k1_t14) a + S64.size a ≤ S2064.size a)
theorem k1_off111_inb : ∀ (v75 : BitVec 32) (k1_hw34 : k1_chk34 v75), ∀ a, (k1_off111 v75) a + S16.size a ≤ S2064.size a := fun v75 k1_hw34 => k1_hw34.1
theorem k1_t11_ok : ∀ (v75 : BitVec 32) (k1_hw34 : k1_chk34 v75), (k1_t11_loop v75).OK := fun v75 k1_hw34 => k1_hw34.2.1
theorem k1_off112_inb : ∀ (v75 : BitVec 32) (k1_hw34 : k1_chk34 v75) (k1_t11 : Fin (k1_t11_loop v75).trips), ∀ (r : Fin 2), ∀ a, (k1_off112 v75 k1_t11 (BitVec.ofNat 32 r.val)) a + S64.size a ≤ S2064.size a := fun v75 k1_hw34 k1_t11 r => k1_hw34.2.2.1 k1_t11 r
theorem k1_off129_inb : ∀ (v75 : BitVec 32) (k1_hw34 : k1_chk34 v75) (k1_t11 : Fin (k1_t11_loop v75).trips), ∀ (k1_h5 : k1_cond5 v75 k1_t11 = 1#1), ∀ a, (k1_off129 v75 k1_t11) a + S64.size a ≤ S2064.size a := fun v75 k1_hw34 k1_t11 k1_h5 => k1_hw34.2.2.2.1 k1_t11 k1_h5
theorem k1_off146_inb : ∀ (v75 : BitVec 32) (k1_hw34 : k1_chk34 v75) (k1_t11 : Fin (k1_t11_loop v75).trips), ∀ (k1_h6 : k1_cond6 v75 k1_t11 = 1#1), ∀ a, (k1_off146 v75 k1_t11) a + S64.size a ≤ S2064.size a := fun v75 k1_hw34 k1_t11 k1_h6 => k1_hw34.2.2.2.2.1 k1_t11 k1_h6
theorem k1_t14_ok : ∀ (v75 : BitVec 32) (k1_hw34 : k1_chk34 v75), (k1_t14_loop v75).OK := fun v75 k1_hw34 => k1_hw34.2.2.2.2.2.1
theorem k1_off147_inb : ∀ (v75 : BitVec 32) (k1_hw34 : k1_chk34 v75) (k1_t14 : Fin (k1_t14_loop v75).trips), ∀ (r : Fin 2), ∀ a, (k1_off147 v75 k1_t14 (BitVec.ofNat 32 r.val)) a + S64.size a ≤ S2064.size a := fun v75 k1_hw34 k1_t14 r => k1_hw34.2.2.2.2.2.2.1 k1_t14 r
theorem k1_off164_inb : ∀ (v75 : BitVec 32) (k1_hw34 : k1_chk34 v75) (k1_t14 : Fin (k1_t14_loop v75).trips), ∀ (k1_h7 : k1_cond7 v75 k1_t14 = 1#1), ∀ a, (k1_off164 v75 k1_t14) a + S64.size a ≤ S2064.size a := fun v75 k1_hw34 k1_t14 k1_h7 => k1_hw34.2.2.2.2.2.2.2.1 k1_t14 k1_h7
theorem k1_off181_inb : ∀ (v75 : BitVec 32) (k1_hw34 : k1_chk34 v75) (k1_t14 : Fin (k1_t14_loop v75).trips), ∀ (k1_h8 : k1_cond8 v75 k1_t14 = 1#1), ∀ a, (k1_off181 v75 k1_t14) a + S64.size a ≤ S2064.size a := fun v75 k1_hw34 k1_t14 k1_h8 => k1_hw34.2.2.2.2.2.2.2.2 k1_t14 k1_h8

def k1_off182 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c4000_i32 : BitVec 32 := 4000#32
  let v136 : BitVec 32 := Scalar.addi v2 c4000_i32
  ![v136.toNat]
@[reducible] def k1_t17_loop : Scf.Loop 32 :=
  let c0_i32_121 : BitVec 32 := 0#32
  let c128_i32_122 : BitVec 32 := 128#32
  let v137 : BitVec 32 := Scalar.addi c0_i32_121 c128_i32_122
  let c1_i32_123 : BitVec 32 := 1#32
  ⟨c0_i32_121, v137, c1_i32_123⟩
def k1_off183 (k1_t17 : Fin k1_t17_loop.trips) : Fin 1 → Nat :=
  let c0_i32_121 : BitVec 32 := 0#32
  let c1_i32_123 : BitVec 32 := 1#32
  let arg17 : BitVec 32 := Scf.iv c0_i32_121 c1_i32_123 k1_t17
  let c16_i32 : BitVec 32 := 16#32
  let v343 : BitVec 32 := Scalar.muli arg17 c16_i32
  let v344 : Index := Scalar.indexCast v343
  ![v344.toNat]
@[reducible] def k1_t18_loop : Scf.Loop 32 :=
  let c0_i32_126 : BitVec 32 := 0#32
  let c125_i32_127 : BitVec 32 := 125#32
  let v138 : BitVec 32 := Scalar.addi c0_i32_126 c125_i32_127
  let c1_i32_128 : BitVec 32 := 1#32
  ⟨c0_i32_126, v138, c1_i32_128⟩
def k1_off184 (k1_t18 : Fin k1_t18_loop.trips) : Fin 1 → Nat :=
  let c0_i32_126 : BitVec 32 := 0#32
  let c1_i32_128 : BitVec 32 := 1#32
  let arg17 : BitVec 32 := Scf.iv c0_i32_126 c1_i32_128 k1_t18
  let c16_i32 : BitVec 32 := 16#32
  let v343 : BitVec 32 := Scalar.muli arg17 c16_i32
  let v344 : Index := Scalar.indexCast v343
  ![v344.toNat]
def k1_off185 (arg18 : BitVec 32) (v357 : BitVec 1) : Fin 1 → Nat :=
  let c2048_i32 : BitVec 32 := 2048#32
  let v358 : BitVec 32 := Scalar.select v357 arg18 c2048_i32
  let v362 : Index := Scalar.indexCast v358
  ![v362.toNat]

def k1_chk35 (arg18 : BitVec 32) (v357 : BitVec 1) : Prop :=
  (∀ a, (k1_off185 arg18 v357) a + S16.size a ≤ S2064.size a)
theorem k1_off185_inb : ∀ (arg18 : BitVec 32) (v357 : BitVec 1) (k1_hw35 : k1_chk35 arg18 v357), ∀ a, (k1_off185 arg18 v357) a + S16.size a ≤ S2064.size a := fun arg18 v357 k1_hw35 => k1_hw35

def k1_off186 (arg18 : BitVec 32) (v357 : BitVec 1) (v377 : BitVec 1) : Fin 1 → Nat :=
  let c1_i32_305 : BitVec 32 := 1#32
  let v373 : BitVec 32 := Scalar.addi arg18 c1_i32_305
  let v374 : BitVec 32 := Scalar.select v357 v373 arg18
  let c2048_i32_307 : BitVec 32 := 2048#32
  let v378 : BitVec 32 := Scalar.select v377 v374 c2048_i32_307
  let v382 : Index := Scalar.indexCast v378
  ![v382.toNat]

def k1_chk36 (arg18 : BitVec 32) (v357 : BitVec 1) (v377 : BitVec 1) : Prop :=
  (∀ a, (k1_off186 arg18 v357 v377) a + S16.size a ≤ S2064.size a)
theorem k1_off186_inb : ∀ (arg18 : BitVec 32) (v357 : BitVec 1) (v377 : BitVec 1) (k1_hw36 : k1_chk36 arg18 v357 v377), ∀ a, (k1_off186 arg18 v357 v377) a + S16.size a ≤ S2064.size a := fun arg18 v357 v377 k1_hw36 => k1_hw36

def k1_off187 (arg18 : BitVec 32) (v357 : BitVec 1) (v377 : BitVec 1) (v397 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c2048_i32_310 : BitVec 32 := 2048#32
  let v398 : BitVec 32 := Scalar.select v397 v394 c2048_i32_310
  let v402 : Index := Scalar.indexCast v398
  ![v402.toNat]

def k1_chk37 (arg18 : BitVec 32) (v357 : BitVec 1) (v377 : BitVec 1) (v397 : BitVec 1) : Prop :=
  (∀ a, (k1_off187 arg18 v357 v377 v397) a + S16.size a ≤ S2064.size a)
theorem k1_off187_inb : ∀ (arg18 : BitVec 32) (v357 : BitVec 1) (v377 : BitVec 1) (v397 : BitVec 1) (k1_hw37 : k1_chk37 arg18 v357 v377 v397), ∀ a, (k1_off187 arg18 v357 v377 v397) a + S16.size a ≤ S2064.size a := fun arg18 v357 v377 v397 k1_hw37 => k1_hw37

def k1_off188 (arg18 : BitVec 32) (v357 : BitVec 1) (v377 : BitVec 1) (v397 : BitVec 1) (v417 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c2048_i32_313 : BitVec 32 := 2048#32
  let v418 : BitVec 32 := Scalar.select v417 v414 c2048_i32_313
  let v422 : Index := Scalar.indexCast v418
  ![v422.toNat]

def k1_chk38 (arg18 : BitVec 32) (v357 : BitVec 1) (v377 : BitVec 1) (v397 : BitVec 1) (v417 : BitVec 1) : Prop :=
  (∀ a, (k1_off188 arg18 v357 v377 v397 v417) a + S16.size a ≤ S2064.size a)
theorem k1_off188_inb : ∀ (arg18 : BitVec 32) (v357 : BitVec 1) (v377 : BitVec 1) (v397 : BitVec 1) (v417 : BitVec 1) (k1_hw38 : k1_chk38 arg18 v357 v377 v397 v417), ∀ a, (k1_off188 arg18 v357 v377 v397 v417) a + S16.size a ≤ S2064.size a := fun arg18 v357 v377 v397 v417 k1_hw38 => k1_hw38

def k1_off189 (arg18 : BitVec 32) (v357 : BitVec 1) (v377 : BitVec 1) (v397 : BitVec 1) (v417 : BitVec 1) (v437 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c2048_i32_316 : BitVec 32 := 2048#32
  let v438 : BitVec 32 := Scalar.select v437 v434 c2048_i32_316
  let v442 : Index := Scalar.indexCast v438
  ![v442.toNat]

def k1_chk39 (arg18 : BitVec 32) (v357 : BitVec 1) (v377 : BitVec 1) (v397 : BitVec 1) (v417 : BitVec 1) (v437 : BitVec 1) : Prop :=
  (∀ a, (k1_off189 arg18 v357 v377 v397 v417 v437) a + S16.size a ≤ S2064.size a)
theorem k1_off189_inb : ∀ (arg18 : BitVec 32) (v357 : BitVec 1) (v377 : BitVec 1) (v397 : BitVec 1) (v417 : BitVec 1) (v437 : BitVec 1) (k1_hw39 : k1_chk39 arg18 v357 v377 v397 v417 v437), ∀ a, (k1_off189 arg18 v357 v377 v397 v417 v437) a + S16.size a ≤ S2064.size a := fun arg18 v357 v377 v397 v417 v437 k1_hw39 => k1_hw39

def k1_off190 (arg18 : BitVec 32) (v357 : BitVec 1) (v377 : BitVec 1) (v397 : BitVec 1) (v417 : BitVec 1) (v437 : BitVec 1) (v457 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c2048_i32_319 : BitVec 32 := 2048#32
  let v458 : BitVec 32 := Scalar.select v457 v454 c2048_i32_319
  let v462 : Index := Scalar.indexCast v458
  ![v462.toNat]

def k1_chk40 (arg18 : BitVec 32) (v357 : BitVec 1) (v377 : BitVec 1) (v397 : BitVec 1) (v417 : BitVec 1) (v437 : BitVec 1) (v457 : BitVec 1) : Prop :=
  (∀ a, (k1_off190 arg18 v357 v377 v397 v417 v437 v457) a + S16.size a ≤ S2064.size a)
theorem k1_off190_inb : ∀ (arg18 : BitVec 32) (v357 : BitVec 1) (v377 : BitVec 1) (v397 : BitVec 1) (v417 : BitVec 1) (v437 : BitVec 1) (v457 : BitVec 1) (k1_hw40 : k1_chk40 arg18 v357 v377 v397 v417 v437 v457), ∀ a, (k1_off190 arg18 v357 v377 v397 v417 v437 v457) a + S16.size a ≤ S2064.size a := fun arg18 v357 v377 v397 v417 v437 v457 k1_hw40 => k1_hw40

def k1_off191 (arg18 : BitVec 32) (v357 : BitVec 1) (v377 : BitVec 1) (v397 : BitVec 1) (v417 : BitVec 1) (v437 : BitVec 1) (v457 : BitVec 1) (v477 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c2048_i32_322 : BitVec 32 := 2048#32
  let v478 : BitVec 32 := Scalar.select v477 v474 c2048_i32_322
  let v482 : Index := Scalar.indexCast v478
  ![v482.toNat]

def k1_chk41 (arg18 : BitVec 32) (v357 : BitVec 1) (v377 : BitVec 1) (v397 : BitVec 1) (v417 : BitVec 1) (v437 : BitVec 1) (v457 : BitVec 1) (v477 : BitVec 1) : Prop :=
  (∀ a, (k1_off191 arg18 v357 v377 v397 v417 v437 v457 v477) a + S16.size a ≤ S2064.size a)
theorem k1_off191_inb : ∀ (arg18 : BitVec 32) (v357 : BitVec 1) (v377 : BitVec 1) (v397 : BitVec 1) (v417 : BitVec 1) (v437 : BitVec 1) (v457 : BitVec 1) (v477 : BitVec 1) (k1_hw41 : k1_chk41 arg18 v357 v377 v397 v417 v437 v457 v477), ∀ a, (k1_off191 arg18 v357 v377 v397 v417 v437 v457 v477) a + S16.size a ≤ S2064.size a := fun arg18 v357 v377 v397 v417 v437 v457 v477 k1_hw41 => k1_hw41

def k1_off192 (arg18 : BitVec 32) (v357 : BitVec 1) (v377 : BitVec 1) (v397 : BitVec 1) (v417 : BitVec 1) (v437 : BitVec 1) (v457 : BitVec 1) (v477 : BitVec 1) (v497 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c2048_i32_325 : BitVec 32 := 2048#32
  let v498 : BitVec 32 := Scalar.select v497 v494 c2048_i32_325
  let v502 : Index := Scalar.indexCast v498
  ![v502.toNat]

def k1_chk42 (arg18 : BitVec 32) (v357 : BitVec 1) (v377 : BitVec 1) (v397 : BitVec 1) (v417 : BitVec 1) (v437 : BitVec 1) (v457 : BitVec 1) (v477 : BitVec 1) (v497 : BitVec 1) : Prop :=
  (∀ a, (k1_off192 arg18 v357 v377 v397 v417 v437 v457 v477 v497) a + S16.size a ≤ S2064.size a)
theorem k1_off192_inb : ∀ (arg18 : BitVec 32) (v357 : BitVec 1) (v377 : BitVec 1) (v397 : BitVec 1) (v417 : BitVec 1) (v437 : BitVec 1) (v457 : BitVec 1) (v477 : BitVec 1) (v497 : BitVec 1) (k1_hw42 : k1_chk42 arg18 v357 v377 v397 v417 v437 v457 v477 v497), ∀ a, (k1_off192 arg18 v357 v377 v397 v417 v437 v457 v477 v497) a + S16.size a ≤ S2064.size a := fun arg18 v357 v377 v397 v417 v437 v457 v477 v497 k1_hw42 => k1_hw42

def k1_off193 (arg18 : BitVec 32) (v357 : BitVec 1) (v377 : BitVec 1) (v397 : BitVec 1) (v417 : BitVec 1) (v437 : BitVec 1) (v457 : BitVec 1) (v477 : BitVec 1) (v497 : BitVec 1) (v517 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c2048_i32_328 : BitVec 32 := 2048#32
  let v518 : BitVec 32 := Scalar.select v517 v514 c2048_i32_328
  let v522 : Index := Scalar.indexCast v518
  ![v522.toNat]

def k1_chk43 (arg18 : BitVec 32) (v357 : BitVec 1) (v377 : BitVec 1) (v397 : BitVec 1) (v417 : BitVec 1) (v437 : BitVec 1) (v457 : BitVec 1) (v477 : BitVec 1) (v497 : BitVec 1) (v517 : BitVec 1) : Prop :=
  (∀ a, (k1_off193 arg18 v357 v377 v397 v417 v437 v457 v477 v497 v517) a + S16.size a ≤ S2064.size a)
theorem k1_off193_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (k1_hw43 : k1_chk43 arg18 v357 v377 v397 v417 v437 v457 v477 v497 v517), ∀ a, (k1_off193 arg18 v357 v377 v397 v417 v437 v457 v477 v497 v517) a + S16.size a ≤ S2064.size a := fun arg18 v357 v377 v397 v417 v437 v457 v477 v497 v517 k1_hw43 => k1_hw43

def k1_off194 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c2048_i32_331 : BitVec 32 := 2048#32
  let v538 : BitVec 32 := Scalar.select v537 v534 c2048_i32_331
  let v542 : Index := Scalar.indexCast v538
  ![v542.toNat]

def k1_chk44 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) : Prop :=
  (∀ a, (k1_off194 arg18 v357 v377 v397 v417 v437 v457 v477 v497 v517 v537) a + S16.size a ≤ S2064.size a)
theorem k1_off194_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (k1_hw44 : k1_chk44 arg18 v357 v377 v397 v417 v437 v457 v477 v497 v517 v537), ∀ a, (k1_off194 arg18 v357 v377 v397 v417 v437 v457 v477 v497 v517 v537) a + S16.size a ≤ S2064.size a := fun arg18 v357 v377 v397 v417 v437 v457 v477 v497 v517 v537 k1_hw44 => k1_hw44

def k1_off195 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c2048_i32_334 : BitVec 32 := 2048#32
  let v558 : BitVec 32 := Scalar.select v557 v554 c2048_i32_334
  let v562 : Index := Scalar.indexCast v558
  ![v562.toNat]

def k1_chk45 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) : Prop :=
  (∀ a, (k1_off195 arg18 v357 v377 v397 v417 v437 v457 v477 v497 v517 v537 v557) a + S16.size a ≤ S2064.size a)
theorem k1_off195_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (k1_hw45 : k1_chk45 arg18 v357 v377 v397 v417 v437 v457 v477 v497 v517 v537 v557), ∀ a, (k1_off195 arg18 v357 v377 v397 v417 v437 v457 v477 v497 v517 v537 v557) a + S16.size a ≤ S2064.size a := fun arg18 v357 v377 v397 v417 v437 v457 v477 v497 v517 v537 v557 k1_hw45 => k1_hw45

def k1_off196 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c2048_i32_337 : BitVec 32 := 2048#32
  let v578 : BitVec 32 := Scalar.select v577 v574 c2048_i32_337
  let v582 : Index := Scalar.indexCast v578
  ![v582.toNat]

def k1_chk46 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) : Prop :=
  (∀ a, (k1_off196 arg18 v357 v377 v397 v417 v437 v457 v477 v497 v517 v537 v557 v577) a + S16.size a ≤ S2064.size a)
theorem k1_off196_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (k1_hw46 : k1_chk46 arg18 v357 v377 v397 v417 v437 v457 v477 v497 v517 v537 v557 v577), ∀ a, (k1_off196 arg18 v357 v377 v397 v417 v437 v457 v477 v497 v517 v537 v557 v577) a + S16.size a ≤ S2064.size a := fun arg18 v357 v377 v397 v417 v437 v457 v477 v497 v517 v537 v557 v577 k1_hw46 => k1_hw46

def k1_off197 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c2048_i32_340 : BitVec 32 := 2048#32
  let v598 : BitVec 32 := Scalar.select v597 v594 c2048_i32_340
  let v602 : Index := Scalar.indexCast v598
  ![v602.toNat]

def k1_chk47 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) : Prop :=
  (∀ a, (k1_off197 arg18 v357 v377 v397 v417 v437 v457 v477 v497 v517 v537 v557 v577 v597) a + S16.size a ≤ S2064.size a)
theorem k1_off197_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (k1_hw47 : k1_chk47 arg18 v357 v377 v397 v417 v437 v457 v477 v497 v517 v537 v557 v577 v597), ∀ a, (k1_off197 arg18 v357 v377 v397 v417 v437 v457 v477 v497 v517 v537 v557 v577 v597) a + S16.size a ≤ S2064.size a := fun arg18 v357 v377 v397 v417 v437 v457 v477 v497 v517 v537 v557 v577 v597 k1_hw47 => k1_hw47

def k1_off198 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c1_i32_341 : BitVec 32 := 1#32
  let v613 : BitVec 32 := Scalar.addi v594 c1_i32_341
  let v614 : BitVec 32 := Scalar.select v597 v613 v594
  let c2048_i32_343 : BitVec 32 := 2048#32
  let v618 : BitVec 32 := Scalar.select v617 v614 c2048_i32_343
  let v622 : Index := Scalar.indexCast v618
  ![v622.toNat]

def k1_chk48 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) : Prop :=
  (∀ a, (k1_off198 arg18 v357 v377 v397 v417 v437 v457 v477 v497 v517 v537 v557 v577 v597 v617) a + S16.size a ≤ S2064.size a)
theorem k1_off198_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (k1_hw48 : k1_chk48 arg18 v357 v377 v397 v417 v437 v457 v477 v497 v517 v537 v557 v577 v597 v617), ∀ a, (k1_off198 arg18 v357 v377 v397 v417 v437 v457 v477 v497 v517 v537 v557 v577 v597 v617) a + S16.size a ≤ S2064.size a := fun arg18 v357 v377 v397 v417 v437 v457 v477 v497 v517 v537 v557 v577 v597 v617 k1_hw48 => k1_hw48

def k1_off199 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c1_i32_341 : BitVec 32 := 1#32
  let v613 : BitVec 32 := Scalar.addi v594 c1_i32_341
  let v614 : BitVec 32 := Scalar.select v597 v613 v594
  let c1_i32_344 : BitVec 32 := 1#32
  let v633 : BitVec 32 := Scalar.addi v614 c1_i32_344
  let v634 : BitVec 32 := Scalar.select v617 v633 v614
  let c2048_i32_346 : BitVec 32 := 2048#32
  let v638 : BitVec 32 := Scalar.select v637 v634 c2048_i32_346
  let v642 : Index := Scalar.indexCast v638
  ![v642.toNat]

def k1_chk49 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) : Prop :=
  (∀ a, (k1_off199 arg18 v357 v377 v397 v417 v437 v457 v477 v497 v517 v537 v557 v577 v597 v617 v637) a + S16.size a ≤ S2064.size a)
theorem k1_off199_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (k1_hw49 : k1_chk49 arg18 v357 v377 v397 v417 v437 v457 v477 v497 v517 v537 v557 v577 v597 v617 v637), ∀ a, (k1_off199 arg18 v357 v377 v397 v417 v437 v457 v477 v497 v517 v537 v557 v577 v597 v617 v637) a + S16.size a ≤ S2064.size a := fun arg18 v357 v377 v397 v417 v437 v457 v477 v497 v517 v537 v557 v577 v597 v617 v637 k1_hw49 => k1_hw49

def k1_off200 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (v657 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c1_i32_341 : BitVec 32 := 1#32
  let v613 : BitVec 32 := Scalar.addi v594 c1_i32_341
  let v614 : BitVec 32 := Scalar.select v597 v613 v594
  let c1_i32_344 : BitVec 32 := 1#32
  let v633 : BitVec 32 := Scalar.addi v614 c1_i32_344
  let v634 : BitVec 32 := Scalar.select v617 v633 v614
  let c1_i32_347 : BitVec 32 := 1#32
  let v653 : BitVec 32 := Scalar.addi v634 c1_i32_347
  let v654 : BitVec 32 := Scalar.select v637 v653 v634
  let c2048_i32_349 : BitVec 32 := 2048#32
  let v658 : BitVec 32 := Scalar.select v657 v654 c2048_i32_349
  let v662 : Index := Scalar.indexCast v658
  ![v662.toNat]

def k1_chk50 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (v657 : BitVec 1) : Prop :=
  (∀ a, (k1_off200 arg18 v357 v377 v397 v417 v437 v457 v477 v497 v517 v537 v557 v577 v597 v617 v637 v657) a + S16.size a ≤ S2064.size a)
theorem k1_off200_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (v657 : BitVec 1) (k1_hw50 : k1_chk50 arg18 v357 v377 v397 v417 v437 v457 v477 v497 v517 v537 v557 v577 v597 v617 v637 v657), ∀ a, (k1_off200 arg18 v357 v377 v397 v417 v437 v457 v477 v497 v517 v537 v557 v577 v597 v617 v637 v657) a + S16.size a ≤ S2064.size a := fun arg18 v357 v377 v397 v417 v437 v457 v477 v497 v517 v537 v557 v577 v597 v617 v637 v657 k1_hw50 => k1_hw50

def k1_off201 (v139 : BitVec 32) : Fin 1 → Nat :=
  let v140 : Index := Scalar.indexCast v139
  ![v140.toNat]

@[reducible] def k1_t19_loop (v139 : BitVec 32) : Scf.Loop 32 :=
  let c0_i32_176 : BitVec 32 := 0#32
  let c128_i32_166 : BitVec 32 := 128#32
  let v173 : BitVec 32 := Scalar.addi v139 c128_i32_166
  let c1_i32_167 : BitVec 32 := 1#32
  let v174 : BitVec 32 := Scalar.subi v173 c1_i32_167
  let c0_i32_169 : BitVec 32 := 0#32
  let v176 : BitVec 1 := Scalar.cmpi .sgt v174 c0_i32_169
  let v177 : BitVec 32 := Scalar.extui v176
  let c0_i32_170 : BitVec 32 := 0#32
  let v178 : BitVec 1 := Scalar.cmpi .slt v174 c0_i32_170
  let v179 : BitVec 32 := Scalar.extui v178
  let v180 : BitVec 32 := Scalar.subi v177 v179
  let c128_i32_168 : BitVec 32 := 128#32
  let c0_i32_171 : BitVec 32 := 0#32
  let v181 : BitVec 1 := Scalar.cmpi .sgt c128_i32_168 c0_i32_171
  let v182 : BitVec 32 := Scalar.extui v181
  let c0_i32_172 : BitVec 32 := 0#32
  let v183 : BitVec 1 := Scalar.cmpi .slt c128_i32_168 c0_i32_172
  let v184 : BitVec 32 := Scalar.extui v183
  let v185 : BitVec 32 := Scalar.subi v182 v184
  let v186 : BitVec 1 := Scalar.cmpi .ne v180 v185
  let v187 : BitVec 32 := Scalar.remsi v174 c128_i32_168
  let c0_i32_173 : BitVec 32 := 0#32
  let v188 : BitVec 1 := Scalar.cmpi .ne v187 c0_i32_173
  let v189 : BitVec 1 := Scalar.andi v186 v188
  let v175 : BitVec 32 := Scalar.divsi v174 c128_i32_168
  let c1_i32_174 : BitVec 32 := 1#32
  let v190 : BitVec 32 := Scalar.subi v175 c1_i32_174
  let v191 : BitVec 32 := Scalar.select v189 v190 v175
  let c1_i32_175 : BitVec 32 := 1#32
  let v192 : BitVec 32 := Scalar.maxsi v191 c1_i32_175
  let v193 : BitVec 32 := Scalar.subi v192 c0_i32_176
  let c1_i32_177 : BitVec 32 := 1#32
  let v195 : BitVec 32 := Scalar.divsi v193 c1_i32_177
  let v196 : BitVec 32 := Scalar.muli v195 c1_i32_177
  let v197 : BitVec 32 := Scalar.addi c0_i32_176 v196
  let c1_i32_178 : BitVec 32 := 1#32
  ⟨c0_i32_176, v197, c1_i32_178⟩
def k1_off202 (v139 : BitVec 32) (k1_t19 : Fin (k1_t19_loop v139).trips) (c0_i32_303 : BitVec 32) : Fin 1 → Nat :=
  let c0_i32_176 : BitVec 32 := 0#32
  let c1_i32_178 : BitVec 32 := 1#32
  let arg17 : BitVec 32 := Scf.iv c0_i32_176 c1_i32_178 k1_t19
  let c2_i32_302 : BitVec 32 := 2#32
  let v343 : BitVec 32 := Scalar.muli arg17 c2_i32_302
  let v344 : BitVec 32 := Scalar.addi v343 c0_i32_303
  let c64_i32_304 : BitVec 32 := 64#32
  let v345 : BitVec 32 := Scalar.muli v344 c64_i32_304
  ![v345.toNat]
@[reducible] def k1_t20_loop : Scf.Loop 32 :=
  let c0_i32_322 : BitVec 32 := 0#32
  let c32_i32 : BitVec 32 := 32#32
  let v359 : BitVec 32 := Scalar.addi c0_i32_322 c32_i32
  let c1_i32_323 : BitVec 32 := 1#32
  ⟨c0_i32_322, v359, c1_i32_323⟩
def k1_off203 (k1_t20 : Fin k1_t20_loop.trips) (c0_i32_356 : BitVec 32) : Fin 4 → Nat :=
  let c0_i32_357 : BitVec 32 := 0#32
  let v391 : Index := Scalar.indexCast c0_i32_357
  let c0_i32_358 : BitVec 32 := 0#32
  let v392 : Index := Scalar.indexCast c0_i32_358
  let c0_i32_322 : BitVec 32 := 0#32
  let c1_i32_323 : BitVec 32 := 1#32
  let arg26 : BitVec 32 := Scf.iv c0_i32_322 c1_i32_323 k1_t20
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 0, v393.toNat, 0]
def k1_off204 (k1_t20 : Fin k1_t20_loop.trips) (c0_i32_356 : BitVec 32) : Fin 4 → Nat :=
  let c1_i32_360 : BitVec 32 := 1#32
  let v396 : Index := Scalar.indexCast c1_i32_360
  let c0_i32_361 : BitVec 32 := 0#32
  let v397 : Index := Scalar.indexCast c0_i32_361
  let c0_i32_322 : BitVec 32 := 0#32
  let c1_i32_323 : BitVec 32 := 1#32
  let arg26 : BitVec 32 := Scf.iv c0_i32_322 c1_i32_323 k1_t20
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 0, v398.toNat, 0]
def k1_off205 (k1_t20 : Fin k1_t20_loop.trips) (c0_i32_356 : BitVec 32) : Fin 4 → Nat :=
  let c0_i32_363 : BitVec 32 := 0#32
  let v403 : Index := Scalar.indexCast c0_i32_363
  let c0_i32_364 : BitVec 32 := 0#32
  let v404 : Index := Scalar.indexCast c0_i32_364
  let c0_i32_322 : BitVec 32 := 0#32
  let c1_i32_323 : BitVec 32 := 1#32
  let arg26 : BitVec 32 := Scf.iv c0_i32_322 c1_i32_323 k1_t20
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 0, v405.toNat, 16]
def k1_off206 (k1_t20 : Fin k1_t20_loop.trips) (c0_i32_356 : BitVec 32) : Fin 4 → Nat :=
  let c1_i32_365 : BitVec 32 := 1#32
  let v408 : Index := Scalar.indexCast c1_i32_365
  let c0_i32_366 : BitVec 32 := 0#32
  let v409 : Index := Scalar.indexCast c0_i32_366
  let c0_i32_322 : BitVec 32 := 0#32
  let c1_i32_323 : BitVec 32 := 1#32
  let arg26 : BitVec 32 := Scf.iv c0_i32_322 c1_i32_323 k1_t20
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 0, v410.toNat, 16]
def k1_off207 (k1_t20 : Fin k1_t20_loop.trips) (c0_i32_356 : BitVec 32) : Fin 4 → Nat :=
  let c0_i32_368 : BitVec 32 := 0#32
  let v415 : Index := Scalar.indexCast c0_i32_368
  let c0_i32_369 : BitVec 32 := 0#32
  let v416 : Index := Scalar.indexCast c0_i32_369
  let c0_i32_322 : BitVec 32 := 0#32
  let c1_i32_323 : BitVec 32 := 1#32
  let arg26 : BitVec 32 := Scf.iv c0_i32_322 c1_i32_323 k1_t20
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 0, v417.toNat, 32]
def k1_off208 (k1_t20 : Fin k1_t20_loop.trips) (c0_i32_356 : BitVec 32) : Fin 4 → Nat :=
  let c1_i32_370 : BitVec 32 := 1#32
  let v420 : Index := Scalar.indexCast c1_i32_370
  let c0_i32_371 : BitVec 32 := 0#32
  let v421 : Index := Scalar.indexCast c0_i32_371
  let c0_i32_322 : BitVec 32 := 0#32
  let c1_i32_323 : BitVec 32 := 1#32
  let arg26 : BitVec 32 := Scf.iv c0_i32_322 c1_i32_323 k1_t20
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 0, v422.toNat, 32]
def k1_off209 (k1_t20 : Fin k1_t20_loop.trips) (c0_i32_356 : BitVec 32) : Fin 4 → Nat :=
  let c0_i32_373 : BitVec 32 := 0#32
  let v427 : Index := Scalar.indexCast c0_i32_373
  let c0_i32_374 : BitVec 32 := 0#32
  let v428 : Index := Scalar.indexCast c0_i32_374
  let c0_i32_322 : BitVec 32 := 0#32
  let c1_i32_323 : BitVec 32 := 1#32
  let arg26 : BitVec 32 := Scf.iv c0_i32_322 c1_i32_323 k1_t20
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 0, v429.toNat, 48]
def k1_off210 (k1_t20 : Fin k1_t20_loop.trips) (c0_i32_356 : BitVec 32) : Fin 4 → Nat :=
  let c1_i32_375 : BitVec 32 := 1#32
  let v432 : Index := Scalar.indexCast c1_i32_375
  let c0_i32_376 : BitVec 32 := 0#32
  let v433 : Index := Scalar.indexCast c0_i32_376
  let c0_i32_322 : BitVec 32 := 0#32
  let c1_i32_323 : BitVec 32 := 1#32
  let arg26 : BitVec 32 := Scf.iv c0_i32_322 c1_i32_323 k1_t20
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 0, v434.toNat, 48]
def k1_off211 (k1_t20 : Fin k1_t20_loop.trips) (c0_i32_356 : BitVec 32) : Fin 4 → Nat :=
  let c0_i32_378 : BitVec 32 := 0#32
  let v439 : Index := Scalar.indexCast c0_i32_378
  let c0_i32_379 : BitVec 32 := 0#32
  let v440 : Index := Scalar.indexCast c0_i32_379
  let c0_i32_322 : BitVec 32 := 0#32
  let c1_i32_323 : BitVec 32 := 1#32
  let arg26 : BitVec 32 := Scf.iv c0_i32_322 c1_i32_323 k1_t20
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 0, v441.toNat, 64]
def k1_off212 (k1_t20 : Fin k1_t20_loop.trips) (c0_i32_356 : BitVec 32) : Fin 4 → Nat :=
  let c1_i32_380 : BitVec 32 := 1#32
  let v444 : Index := Scalar.indexCast c1_i32_380
  let c0_i32_381 : BitVec 32 := 0#32
  let v445 : Index := Scalar.indexCast c0_i32_381
  let c0_i32_322 : BitVec 32 := 0#32
  let c1_i32_323 : BitVec 32 := 1#32
  let arg26 : BitVec 32 := Scf.iv c0_i32_322 c1_i32_323 k1_t20
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 0, v446.toNat, 64]
def k1_off213 (k1_t20 : Fin k1_t20_loop.trips) (c0_i32_356 : BitVec 32) : Fin 4 → Nat :=
  let c0_i32_383 : BitVec 32 := 0#32
  let v451 : Index := Scalar.indexCast c0_i32_383
  let c0_i32_384 : BitVec 32 := 0#32
  let v452 : Index := Scalar.indexCast c0_i32_384
  let c0_i32_322 : BitVec 32 := 0#32
  let c1_i32_323 : BitVec 32 := 1#32
  let arg26 : BitVec 32 := Scf.iv c0_i32_322 c1_i32_323 k1_t20
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 0, v453.toNat, 80]
def k1_off214 (k1_t20 : Fin k1_t20_loop.trips) (c0_i32_356 : BitVec 32) : Fin 4 → Nat :=
  let c1_i32_385 : BitVec 32 := 1#32
  let v456 : Index := Scalar.indexCast c1_i32_385
  let c0_i32_386 : BitVec 32 := 0#32
  let v457 : Index := Scalar.indexCast c0_i32_386
  let c0_i32_322 : BitVec 32 := 0#32
  let c1_i32_323 : BitVec 32 := 1#32
  let arg26 : BitVec 32 := Scf.iv c0_i32_322 c1_i32_323 k1_t20
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 0, v458.toNat, 80]
def k1_off215 (k1_t20 : Fin k1_t20_loop.trips) (c0_i32_356 : BitVec 32) : Fin 4 → Nat :=
  let c0_i32_388 : BitVec 32 := 0#32
  let v463 : Index := Scalar.indexCast c0_i32_388
  let c0_i32_389 : BitVec 32 := 0#32
  let v464 : Index := Scalar.indexCast c0_i32_389
  let c0_i32_322 : BitVec 32 := 0#32
  let c1_i32_323 : BitVec 32 := 1#32
  let arg26 : BitVec 32 := Scf.iv c0_i32_322 c1_i32_323 k1_t20
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 0, v465.toNat, 96]
def k1_off216 (k1_t20 : Fin k1_t20_loop.trips) (c0_i32_356 : BitVec 32) : Fin 4 → Nat :=
  let c1_i32_390 : BitVec 32 := 1#32
  let v468 : Index := Scalar.indexCast c1_i32_390
  let c0_i32_391 : BitVec 32 := 0#32
  let v469 : Index := Scalar.indexCast c0_i32_391
  let c0_i32_322 : BitVec 32 := 0#32
  let c1_i32_323 : BitVec 32 := 1#32
  let arg26 : BitVec 32 := Scf.iv c0_i32_322 c1_i32_323 k1_t20
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 0, v470.toNat, 96]
def k1_off217 (k1_t20 : Fin k1_t20_loop.trips) (c0_i32_356 : BitVec 32) : Fin 4 → Nat :=
  let c0_i32_393 : BitVec 32 := 0#32
  let v475 : Index := Scalar.indexCast c0_i32_393
  let c0_i32_394 : BitVec 32 := 0#32
  let v476 : Index := Scalar.indexCast c0_i32_394
  let c0_i32_322 : BitVec 32 := 0#32
  let c1_i32_323 : BitVec 32 := 1#32
  let arg26 : BitVec 32 := Scf.iv c0_i32_322 c1_i32_323 k1_t20
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 0, v477.toNat, 112]
def k1_off218 (k1_t20 : Fin k1_t20_loop.trips) (c0_i32_356 : BitVec 32) : Fin 4 → Nat :=
  let c1_i32_395 : BitVec 32 := 1#32
  let v480 : Index := Scalar.indexCast c1_i32_395
  let c0_i32_396 : BitVec 32 := 0#32
  let v481 : Index := Scalar.indexCast c0_i32_396
  let c0_i32_322 : BitVec 32 := 0#32
  let c1_i32_323 : BitVec 32 := 1#32
  let arg26 : BitVec 32 := Scf.iv c0_i32_322 c1_i32_323 k1_t20
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 0, v482.toNat, 112]
def k1_off219 (v139 : BitVec 32) (k1_t19 : Fin (k1_t19_loop v139).trips) : Fin 1 → Nat :=
  let c0_i32_176 : BitVec 32 := 0#32
  let c1_i32_178 : BitVec 32 := 1#32
  let arg17 : BitVec 32 := Scf.iv c0_i32_176 c1_i32_178 k1_t19
  let c2_i32_302 : BitVec 32 := 2#32
  let v343 : BitVec 32 := Scalar.muli arg17 c2_i32_302
  let c0_i32_303 : BitVec 32 := 0#32
  let v344 : BitVec 32 := Scalar.addi v343 c0_i32_303
  let c2_i32_355 : BitVec 32 := 2#32
  let v389 : BitVec 32 := Scalar.addi v344 c2_i32_355
  let c64_i32_356 : BitVec 32 := 64#32
  let v390 : BitVec 32 := Scalar.muli v389 c64_i32_356
  ![v390.toNat]
def k1_cond9 (v139 : BitVec 32) (k1_t19 : Fin (k1_t19_loop v139).trips) : BitVec 1 :=
  let c0_i32_176 : BitVec 32 := 0#32
  let c1_i32_178 : BitVec 32 := 1#32
  let arg17 : BitVec 32 := Scf.iv c0_i32_176 c1_i32_178 k1_t19
  let c2_i32_302 : BitVec 32 := 2#32
  let v343 : BitVec 32 := Scalar.muli arg17 c2_i32_302
  let c0_i32_303 : BitVec 32 := 0#32
  let v344 : BitVec 32 := Scalar.addi v343 c0_i32_303
  let c2_i32_325 : BitVec 32 := 2#32
  let v361 : BitVec 32 := Scalar.addi v344 c2_i32_325
  let c128_i32_166 : BitVec 32 := 128#32
  let v173 : BitVec 32 := Scalar.addi v139 c128_i32_166
  let c1_i32_167 : BitVec 32 := 1#32
  let v174 : BitVec 32 := Scalar.subi v173 c1_i32_167
  let c0_i32_169 : BitVec 32 := 0#32
  let v176 : BitVec 1 := Scalar.cmpi .sgt v174 c0_i32_169
  let v177 : BitVec 32 := Scalar.extui v176
  let c0_i32_170 : BitVec 32 := 0#32
  let v178 : BitVec 1 := Scalar.cmpi .slt v174 c0_i32_170
  let v179 : BitVec 32 := Scalar.extui v178
  let v180 : BitVec 32 := Scalar.subi v177 v179
  let c128_i32_168 : BitVec 32 := 128#32
  let c0_i32_171 : BitVec 32 := 0#32
  let v181 : BitVec 1 := Scalar.cmpi .sgt c128_i32_168 c0_i32_171
  let v182 : BitVec 32 := Scalar.extui v181
  let c0_i32_172 : BitVec 32 := 0#32
  let v183 : BitVec 1 := Scalar.cmpi .slt c128_i32_168 c0_i32_172
  let v184 : BitVec 32 := Scalar.extui v183
  let v185 : BitVec 32 := Scalar.subi v182 v184
  let v186 : BitVec 1 := Scalar.cmpi .ne v180 v185
  let v187 : BitVec 32 := Scalar.remsi v174 c128_i32_168
  let c0_i32_173 : BitVec 32 := 0#32
  let v188 : BitVec 1 := Scalar.cmpi .ne v187 c0_i32_173
  let v189 : BitVec 1 := Scalar.andi v186 v188
  let v175 : BitVec 32 := Scalar.divsi v174 c128_i32_168
  let c1_i32_174 : BitVec 32 := 1#32
  let v190 : BitVec 32 := Scalar.subi v175 c1_i32_174
  let v191 : BitVec 32 := Scalar.select v189 v190 v175
  let c1_i32_175 : BitVec 32 := 1#32
  let v192 : BitVec 32 := Scalar.maxsi v191 c1_i32_175
  let c2_i32_326 : BitVec 32 := 2#32
  let v362 : BitVec 32 := Scalar.muli v192 c2_i32_326
  let v363 : BitVec 1 := Scalar.cmpi .slt v361 v362
  let v364 : BitVec 32 := Scalar.extui v363
  let c0_i32_327 : BitVec 32 := 0#32
  let v365 : BitVec 1 := Scalar.cmpi .ne v364 c0_i32_327
  v365

@[reducible] def k1_t21_loop : Scf.Loop 32 :=
  let c0_i32_348 : BitVec 32 := 0#32
  let c32_i32_349 : BitVec 32 := 32#32
  let v382 : BitVec 32 := Scalar.addi c0_i32_348 c32_i32_349
  let c1_i32_350 : BitVec 32 := 1#32
  ⟨c0_i32_348, v382, c1_i32_350⟩
def k1_off220 (k1_t21 : Fin k1_t21_loop.trips) (c0_i32_356 : BitVec 32) : Fin 4 → Nat :=
  let c0_i32_357 : BitVec 32 := 0#32
  let v391 : Index := Scalar.indexCast c0_i32_357
  let c1_i32_358 : BitVec 32 := 1#32
  let v392 : Index := Scalar.indexCast c1_i32_358
  let c0_i32_348 : BitVec 32 := 0#32
  let c1_i32_350 : BitVec 32 := 1#32
  let arg26 : BitVec 32 := Scf.iv c0_i32_348 c1_i32_350 k1_t21
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 1, v393.toNat, 0]
def k1_off221 (k1_t21 : Fin k1_t21_loop.trips) (c0_i32_356 : BitVec 32) : Fin 4 → Nat :=
  let c1_i32_360 : BitVec 32 := 1#32
  let v396 : Index := Scalar.indexCast c1_i32_360
  let c1_i32_361 : BitVec 32 := 1#32
  let v397 : Index := Scalar.indexCast c1_i32_361
  let c0_i32_348 : BitVec 32 := 0#32
  let c1_i32_350 : BitVec 32 := 1#32
  let arg26 : BitVec 32 := Scf.iv c0_i32_348 c1_i32_350 k1_t21
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 1, v398.toNat, 0]
def k1_off222 (k1_t21 : Fin k1_t21_loop.trips) (c0_i32_356 : BitVec 32) : Fin 4 → Nat :=
  let c0_i32_363 : BitVec 32 := 0#32
  let v403 : Index := Scalar.indexCast c0_i32_363
  let c1_i32_364 : BitVec 32 := 1#32
  let v404 : Index := Scalar.indexCast c1_i32_364
  let c0_i32_348 : BitVec 32 := 0#32
  let c1_i32_350 : BitVec 32 := 1#32
  let arg26 : BitVec 32 := Scf.iv c0_i32_348 c1_i32_350 k1_t21
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 1, v405.toNat, 16]
def k1_off223 (k1_t21 : Fin k1_t21_loop.trips) (c0_i32_356 : BitVec 32) : Fin 4 → Nat :=
  let c1_i32_365 : BitVec 32 := 1#32
  let v408 : Index := Scalar.indexCast c1_i32_365
  let c1_i32_366 : BitVec 32 := 1#32
  let v409 : Index := Scalar.indexCast c1_i32_366
  let c0_i32_348 : BitVec 32 := 0#32
  let c1_i32_350 : BitVec 32 := 1#32
  let arg26 : BitVec 32 := Scf.iv c0_i32_348 c1_i32_350 k1_t21
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 1, v410.toNat, 16]
def k1_off224 (k1_t21 : Fin k1_t21_loop.trips) (c0_i32_356 : BitVec 32) : Fin 4 → Nat :=
  let c0_i32_368 : BitVec 32 := 0#32
  let v415 : Index := Scalar.indexCast c0_i32_368
  let c1_i32_369 : BitVec 32 := 1#32
  let v416 : Index := Scalar.indexCast c1_i32_369
  let c0_i32_348 : BitVec 32 := 0#32
  let c1_i32_350 : BitVec 32 := 1#32
  let arg26 : BitVec 32 := Scf.iv c0_i32_348 c1_i32_350 k1_t21
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 1, v417.toNat, 32]
def k1_off225 (k1_t21 : Fin k1_t21_loop.trips) (c0_i32_356 : BitVec 32) : Fin 4 → Nat :=
  let c1_i32_370 : BitVec 32 := 1#32
  let v420 : Index := Scalar.indexCast c1_i32_370
  let c1_i32_371 : BitVec 32 := 1#32
  let v421 : Index := Scalar.indexCast c1_i32_371
  let c0_i32_348 : BitVec 32 := 0#32
  let c1_i32_350 : BitVec 32 := 1#32
  let arg26 : BitVec 32 := Scf.iv c0_i32_348 c1_i32_350 k1_t21
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 1, v422.toNat, 32]
def k1_off226 (k1_t21 : Fin k1_t21_loop.trips) (c0_i32_356 : BitVec 32) : Fin 4 → Nat :=
  let c0_i32_373 : BitVec 32 := 0#32
  let v427 : Index := Scalar.indexCast c0_i32_373
  let c1_i32_374 : BitVec 32 := 1#32
  let v428 : Index := Scalar.indexCast c1_i32_374
  let c0_i32_348 : BitVec 32 := 0#32
  let c1_i32_350 : BitVec 32 := 1#32
  let arg26 : BitVec 32 := Scf.iv c0_i32_348 c1_i32_350 k1_t21
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 1, v429.toNat, 48]
def k1_off227 (k1_t21 : Fin k1_t21_loop.trips) (c0_i32_356 : BitVec 32) : Fin 4 → Nat :=
  let c1_i32_375 : BitVec 32 := 1#32
  let v432 : Index := Scalar.indexCast c1_i32_375
  let c1_i32_376 : BitVec 32 := 1#32
  let v433 : Index := Scalar.indexCast c1_i32_376
  let c0_i32_348 : BitVec 32 := 0#32
  let c1_i32_350 : BitVec 32 := 1#32
  let arg26 : BitVec 32 := Scf.iv c0_i32_348 c1_i32_350 k1_t21
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 1, v434.toNat, 48]
def k1_off228 (k1_t21 : Fin k1_t21_loop.trips) (c0_i32_356 : BitVec 32) : Fin 4 → Nat :=
  let c0_i32_378 : BitVec 32 := 0#32
  let v439 : Index := Scalar.indexCast c0_i32_378
  let c1_i32_379 : BitVec 32 := 1#32
  let v440 : Index := Scalar.indexCast c1_i32_379
  let c0_i32_348 : BitVec 32 := 0#32
  let c1_i32_350 : BitVec 32 := 1#32
  let arg26 : BitVec 32 := Scf.iv c0_i32_348 c1_i32_350 k1_t21
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 1, v441.toNat, 64]
def k1_off229 (k1_t21 : Fin k1_t21_loop.trips) (c0_i32_356 : BitVec 32) : Fin 4 → Nat :=
  let c1_i32_380 : BitVec 32 := 1#32
  let v444 : Index := Scalar.indexCast c1_i32_380
  let c1_i32_381 : BitVec 32 := 1#32
  let v445 : Index := Scalar.indexCast c1_i32_381
  let c0_i32_348 : BitVec 32 := 0#32
  let c1_i32_350 : BitVec 32 := 1#32
  let arg26 : BitVec 32 := Scf.iv c0_i32_348 c1_i32_350 k1_t21
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 1, v446.toNat, 64]
def k1_off230 (k1_t21 : Fin k1_t21_loop.trips) (c0_i32_356 : BitVec 32) : Fin 4 → Nat :=
  let c0_i32_383 : BitVec 32 := 0#32
  let v451 : Index := Scalar.indexCast c0_i32_383
  let c1_i32_384 : BitVec 32 := 1#32
  let v452 : Index := Scalar.indexCast c1_i32_384
  let c0_i32_348 : BitVec 32 := 0#32
  let c1_i32_350 : BitVec 32 := 1#32
  let arg26 : BitVec 32 := Scf.iv c0_i32_348 c1_i32_350 k1_t21
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 1, v453.toNat, 80]
def k1_off231 (k1_t21 : Fin k1_t21_loop.trips) (c0_i32_356 : BitVec 32) : Fin 4 → Nat :=
  let c1_i32_385 : BitVec 32 := 1#32
  let v456 : Index := Scalar.indexCast c1_i32_385
  let c1_i32_386 : BitVec 32 := 1#32
  let v457 : Index := Scalar.indexCast c1_i32_386
  let c0_i32_348 : BitVec 32 := 0#32
  let c1_i32_350 : BitVec 32 := 1#32
  let arg26 : BitVec 32 := Scf.iv c0_i32_348 c1_i32_350 k1_t21
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 1, v458.toNat, 80]
def k1_off232 (k1_t21 : Fin k1_t21_loop.trips) (c0_i32_356 : BitVec 32) : Fin 4 → Nat :=
  let c0_i32_388 : BitVec 32 := 0#32
  let v463 : Index := Scalar.indexCast c0_i32_388
  let c1_i32_389 : BitVec 32 := 1#32
  let v464 : Index := Scalar.indexCast c1_i32_389
  let c0_i32_348 : BitVec 32 := 0#32
  let c1_i32_350 : BitVec 32 := 1#32
  let arg26 : BitVec 32 := Scf.iv c0_i32_348 c1_i32_350 k1_t21
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 1, v465.toNat, 96]
def k1_off233 (k1_t21 : Fin k1_t21_loop.trips) (c0_i32_356 : BitVec 32) : Fin 4 → Nat :=
  let c1_i32_390 : BitVec 32 := 1#32
  let v468 : Index := Scalar.indexCast c1_i32_390
  let c1_i32_391 : BitVec 32 := 1#32
  let v469 : Index := Scalar.indexCast c1_i32_391
  let c0_i32_348 : BitVec 32 := 0#32
  let c1_i32_350 : BitVec 32 := 1#32
  let arg26 : BitVec 32 := Scf.iv c0_i32_348 c1_i32_350 k1_t21
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 1, v470.toNat, 96]
def k1_off234 (k1_t21 : Fin k1_t21_loop.trips) (c0_i32_356 : BitVec 32) : Fin 4 → Nat :=
  let c0_i32_393 : BitVec 32 := 0#32
  let v475 : Index := Scalar.indexCast c0_i32_393
  let c1_i32_394 : BitVec 32 := 1#32
  let v476 : Index := Scalar.indexCast c1_i32_394
  let c0_i32_348 : BitVec 32 := 0#32
  let c1_i32_350 : BitVec 32 := 1#32
  let arg26 : BitVec 32 := Scf.iv c0_i32_348 c1_i32_350 k1_t21
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 1, v477.toNat, 112]
def k1_off235 (k1_t21 : Fin k1_t21_loop.trips) (c0_i32_356 : BitVec 32) : Fin 4 → Nat :=
  let c1_i32_395 : BitVec 32 := 1#32
  let v480 : Index := Scalar.indexCast c1_i32_395
  let c1_i32_396 : BitVec 32 := 1#32
  let v481 : Index := Scalar.indexCast c1_i32_396
  let c0_i32_348 : BitVec 32 := 0#32
  let c1_i32_350 : BitVec 32 := 1#32
  let arg26 : BitVec 32 := Scf.iv c0_i32_348 c1_i32_350 k1_t21
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 1, v482.toNat, 112]
def k1_off236 (v139 : BitVec 32) (k1_t19 : Fin (k1_t19_loop v139).trips) : Fin 1 → Nat :=
  let c0_i32_176 : BitVec 32 := 0#32
  let c1_i32_178 : BitVec 32 := 1#32
  let arg17 : BitVec 32 := Scf.iv c0_i32_176 c1_i32_178 k1_t19
  let c2_i32_328 : BitVec 32 := 2#32
  let v366 : BitVec 32 := Scalar.muli arg17 c2_i32_328
  let c1_i32_329 : BitVec 32 := 1#32
  let v367 : BitVec 32 := Scalar.addi v366 c1_i32_329
  let c2_i32_355 : BitVec 32 := 2#32
  let v389 : BitVec 32 := Scalar.addi v367 c2_i32_355
  let c64_i32_356 : BitVec 32 := 64#32
  let v390 : BitVec 32 := Scalar.muli v389 c64_i32_356
  ![v390.toNat]
def k1_cond10 (v139 : BitVec 32) (k1_t19 : Fin (k1_t19_loop v139).trips) : BitVec 1 :=
  let c0_i32_176 : BitVec 32 := 0#32
  let c1_i32_178 : BitVec 32 := 1#32
  let arg17 : BitVec 32 := Scf.iv c0_i32_176 c1_i32_178 k1_t19
  let c2_i32_328 : BitVec 32 := 2#32
  let v366 : BitVec 32 := Scalar.muli arg17 c2_i32_328
  let c1_i32_329 : BitVec 32 := 1#32
  let v367 : BitVec 32 := Scalar.addi v366 c1_i32_329
  let c2_i32_352 : BitVec 32 := 2#32
  let v384 : BitVec 32 := Scalar.addi v367 c2_i32_352
  let c128_i32_166 : BitVec 32 := 128#32
  let v173 : BitVec 32 := Scalar.addi v139 c128_i32_166
  let c1_i32_167 : BitVec 32 := 1#32
  let v174 : BitVec 32 := Scalar.subi v173 c1_i32_167
  let c0_i32_169 : BitVec 32 := 0#32
  let v176 : BitVec 1 := Scalar.cmpi .sgt v174 c0_i32_169
  let v177 : BitVec 32 := Scalar.extui v176
  let c0_i32_170 : BitVec 32 := 0#32
  let v178 : BitVec 1 := Scalar.cmpi .slt v174 c0_i32_170
  let v179 : BitVec 32 := Scalar.extui v178
  let v180 : BitVec 32 := Scalar.subi v177 v179
  let c128_i32_168 : BitVec 32 := 128#32
  let c0_i32_171 : BitVec 32 := 0#32
  let v181 : BitVec 1 := Scalar.cmpi .sgt c128_i32_168 c0_i32_171
  let v182 : BitVec 32 := Scalar.extui v181
  let c0_i32_172 : BitVec 32 := 0#32
  let v183 : BitVec 1 := Scalar.cmpi .slt c128_i32_168 c0_i32_172
  let v184 : BitVec 32 := Scalar.extui v183
  let v185 : BitVec 32 := Scalar.subi v182 v184
  let v186 : BitVec 1 := Scalar.cmpi .ne v180 v185
  let v187 : BitVec 32 := Scalar.remsi v174 c128_i32_168
  let c0_i32_173 : BitVec 32 := 0#32
  let v188 : BitVec 1 := Scalar.cmpi .ne v187 c0_i32_173
  let v189 : BitVec 1 := Scalar.andi v186 v188
  let v175 : BitVec 32 := Scalar.divsi v174 c128_i32_168
  let c1_i32_174 : BitVec 32 := 1#32
  let v190 : BitVec 32 := Scalar.subi v175 c1_i32_174
  let v191 : BitVec 32 := Scalar.select v189 v190 v175
  let c1_i32_175 : BitVec 32 := 1#32
  let v192 : BitVec 32 := Scalar.maxsi v191 c1_i32_175
  let c2_i32_353 : BitVec 32 := 2#32
  let v385 : BitVec 32 := Scalar.muli v192 c2_i32_353
  let v386 : BitVec 1 := Scalar.cmpi .slt v384 v385
  let v387 : BitVec 32 := Scalar.extui v386
  let c0_i32_354 : BitVec 32 := 0#32
  let v388 : BitVec 1 := Scalar.cmpi .ne v387 c0_i32_354
  v388

@[reducible] def k1_t22_loop (v139 : BitVec 32) : Scf.Loop 32 :=
  let c0_i32_176 : BitVec 32 := 0#32
  let c128_i32_166 : BitVec 32 := 128#32
  let v173 : BitVec 32 := Scalar.addi v139 c128_i32_166
  let c1_i32_167 : BitVec 32 := 1#32
  let v174 : BitVec 32 := Scalar.subi v173 c1_i32_167
  let c0_i32_169 : BitVec 32 := 0#32
  let v176 : BitVec 1 := Scalar.cmpi .sgt v174 c0_i32_169
  let v177 : BitVec 32 := Scalar.extui v176
  let c0_i32_170 : BitVec 32 := 0#32
  let v178 : BitVec 1 := Scalar.cmpi .slt v174 c0_i32_170
  let v179 : BitVec 32 := Scalar.extui v178
  let v180 : BitVec 32 := Scalar.subi v177 v179
  let c128_i32_168 : BitVec 32 := 128#32
  let c0_i32_171 : BitVec 32 := 0#32
  let v181 : BitVec 1 := Scalar.cmpi .sgt c128_i32_168 c0_i32_171
  let v182 : BitVec 32 := Scalar.extui v181
  let c0_i32_172 : BitVec 32 := 0#32
  let v183 : BitVec 1 := Scalar.cmpi .slt c128_i32_168 c0_i32_172
  let v184 : BitVec 32 := Scalar.extui v183
  let v185 : BitVec 32 := Scalar.subi v182 v184
  let v186 : BitVec 1 := Scalar.cmpi .ne v180 v185
  let v187 : BitVec 32 := Scalar.remsi v174 c128_i32_168
  let c0_i32_173 : BitVec 32 := 0#32
  let v188 : BitVec 1 := Scalar.cmpi .ne v187 c0_i32_173
  let v189 : BitVec 1 := Scalar.andi v186 v188
  let v175 : BitVec 32 := Scalar.divsi v174 c128_i32_168
  let c1_i32_174 : BitVec 32 := 1#32
  let v190 : BitVec 32 := Scalar.subi v175 c1_i32_174
  let v191 : BitVec 32 := Scalar.select v189 v190 v175
  let c1_i32_175 : BitVec 32 := 1#32
  let v192 : BitVec 32 := Scalar.maxsi v191 c1_i32_175
  let v193 : BitVec 32 := Scalar.subi v192 c0_i32_176
  let c1_i32_177 : BitVec 32 := 1#32
  let v195 : BitVec 32 := Scalar.divsi v193 c1_i32_177
  let v196 : BitVec 32 := Scalar.muli v195 c1_i32_177
  let v197 : BitVec 32 := Scalar.addi c0_i32_176 v196
  let v194 : BitVec 32 := Scalar.addi c0_i32_176 v193
  let c1_i32_179 : BitVec 32 := 1#32
  ⟨v197, v194, c1_i32_179⟩
def k1_off237 (v139 : BitVec 32) (k1_t22 : Fin (k1_t22_loop v139).trips) (c0_i32_303 : BitVec 32) : Fin 1 → Nat :=
  let c0_i32_176 : BitVec 32 := 0#32
  let c128_i32_166 : BitVec 32 := 128#32
  let v173 : BitVec 32 := Scalar.addi v139 c128_i32_166
  let c1_i32_167 : BitVec 32 := 1#32
  let v174 : BitVec 32 := Scalar.subi v173 c1_i32_167
  let c0_i32_169 : BitVec 32 := 0#32
  let v176 : BitVec 1 := Scalar.cmpi .sgt v174 c0_i32_169
  let v177 : BitVec 32 := Scalar.extui v176
  let c0_i32_170 : BitVec 32 := 0#32
  let v178 : BitVec 1 := Scalar.cmpi .slt v174 c0_i32_170
  let v179 : BitVec 32 := Scalar.extui v178
  let v180 : BitVec 32 := Scalar.subi v177 v179
  let c128_i32_168 : BitVec 32 := 128#32
  let c0_i32_171 : BitVec 32 := 0#32
  let v181 : BitVec 1 := Scalar.cmpi .sgt c128_i32_168 c0_i32_171
  let v182 : BitVec 32 := Scalar.extui v181
  let c0_i32_172 : BitVec 32 := 0#32
  let v183 : BitVec 1 := Scalar.cmpi .slt c128_i32_168 c0_i32_172
  let v184 : BitVec 32 := Scalar.extui v183
  let v185 : BitVec 32 := Scalar.subi v182 v184
  let v186 : BitVec 1 := Scalar.cmpi .ne v180 v185
  let v187 : BitVec 32 := Scalar.remsi v174 c128_i32_168
  let c0_i32_173 : BitVec 32 := 0#32
  let v188 : BitVec 1 := Scalar.cmpi .ne v187 c0_i32_173
  let v189 : BitVec 1 := Scalar.andi v186 v188
  let v175 : BitVec 32 := Scalar.divsi v174 c128_i32_168
  let c1_i32_174 : BitVec 32 := 1#32
  let v190 : BitVec 32 := Scalar.subi v175 c1_i32_174
  let v191 : BitVec 32 := Scalar.select v189 v190 v175
  let c1_i32_175 : BitVec 32 := 1#32
  let v192 : BitVec 32 := Scalar.maxsi v191 c1_i32_175
  let v193 : BitVec 32 := Scalar.subi v192 c0_i32_176
  let c1_i32_177 : BitVec 32 := 1#32
  let v195 : BitVec 32 := Scalar.divsi v193 c1_i32_177
  let v196 : BitVec 32 := Scalar.muli v195 c1_i32_177
  let v197 : BitVec 32 := Scalar.addi c0_i32_176 v196
  let c1_i32_179 : BitVec 32 := 1#32
  let arg17 : BitVec 32 := Scf.iv v197 c1_i32_179 k1_t22
  let c2_i32_302 : BitVec 32 := 2#32
  let v343 : BitVec 32 := Scalar.muli arg17 c2_i32_302
  let v344 : BitVec 32 := Scalar.addi v343 c0_i32_303
  let c64_i32_304 : BitVec 32 := 64#32
  let v345 : BitVec 32 := Scalar.muli v344 c64_i32_304
  ![v345.toNat]
@[reducible] def k1_t23_loop : Scf.Loop 32 :=
  let c0_i32_322 : BitVec 32 := 0#32
  let c32_i32 : BitVec 32 := 32#32
  let v359 : BitVec 32 := Scalar.addi c0_i32_322 c32_i32
  let c1_i32_323 : BitVec 32 := 1#32
  ⟨c0_i32_322, v359, c1_i32_323⟩
def k1_off238 (k1_t23 : Fin k1_t23_loop.trips) (c0_i32_356 : BitVec 32) : Fin 4 → Nat :=
  let c0_i32_357 : BitVec 32 := 0#32
  let v391 : Index := Scalar.indexCast c0_i32_357
  let c0_i32_358 : BitVec 32 := 0#32
  let v392 : Index := Scalar.indexCast c0_i32_358
  let c0_i32_322 : BitVec 32 := 0#32
  let c1_i32_323 : BitVec 32 := 1#32
  let arg26 : BitVec 32 := Scf.iv c0_i32_322 c1_i32_323 k1_t23
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 0, v393.toNat, 0]
def k1_off239 (k1_t23 : Fin k1_t23_loop.trips) (c0_i32_356 : BitVec 32) : Fin 4 → Nat :=
  let c1_i32_360 : BitVec 32 := 1#32
  let v396 : Index := Scalar.indexCast c1_i32_360
  let c0_i32_361 : BitVec 32 := 0#32
  let v397 : Index := Scalar.indexCast c0_i32_361
  let c0_i32_322 : BitVec 32 := 0#32
  let c1_i32_323 : BitVec 32 := 1#32
  let arg26 : BitVec 32 := Scf.iv c0_i32_322 c1_i32_323 k1_t23
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 0, v398.toNat, 0]
def k1_off240 (k1_t23 : Fin k1_t23_loop.trips) (c0_i32_356 : BitVec 32) : Fin 4 → Nat :=
  let c0_i32_363 : BitVec 32 := 0#32
  let v403 : Index := Scalar.indexCast c0_i32_363
  let c0_i32_364 : BitVec 32 := 0#32
  let v404 : Index := Scalar.indexCast c0_i32_364
  let c0_i32_322 : BitVec 32 := 0#32
  let c1_i32_323 : BitVec 32 := 1#32
  let arg26 : BitVec 32 := Scf.iv c0_i32_322 c1_i32_323 k1_t23
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 0, v405.toNat, 16]
def k1_off241 (k1_t23 : Fin k1_t23_loop.trips) (c0_i32_356 : BitVec 32) : Fin 4 → Nat :=
  let c1_i32_365 : BitVec 32 := 1#32
  let v408 : Index := Scalar.indexCast c1_i32_365
  let c0_i32_366 : BitVec 32 := 0#32
  let v409 : Index := Scalar.indexCast c0_i32_366
  let c0_i32_322 : BitVec 32 := 0#32
  let c1_i32_323 : BitVec 32 := 1#32
  let arg26 : BitVec 32 := Scf.iv c0_i32_322 c1_i32_323 k1_t23
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 0, v410.toNat, 16]
def k1_off242 (k1_t23 : Fin k1_t23_loop.trips) (c0_i32_356 : BitVec 32) : Fin 4 → Nat :=
  let c0_i32_368 : BitVec 32 := 0#32
  let v415 : Index := Scalar.indexCast c0_i32_368
  let c0_i32_369 : BitVec 32 := 0#32
  let v416 : Index := Scalar.indexCast c0_i32_369
  let c0_i32_322 : BitVec 32 := 0#32
  let c1_i32_323 : BitVec 32 := 1#32
  let arg26 : BitVec 32 := Scf.iv c0_i32_322 c1_i32_323 k1_t23
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 0, v417.toNat, 32]
def k1_off243 (k1_t23 : Fin k1_t23_loop.trips) (c0_i32_356 : BitVec 32) : Fin 4 → Nat :=
  let c1_i32_370 : BitVec 32 := 1#32
  let v420 : Index := Scalar.indexCast c1_i32_370
  let c0_i32_371 : BitVec 32 := 0#32
  let v421 : Index := Scalar.indexCast c0_i32_371
  let c0_i32_322 : BitVec 32 := 0#32
  let c1_i32_323 : BitVec 32 := 1#32
  let arg26 : BitVec 32 := Scf.iv c0_i32_322 c1_i32_323 k1_t23
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 0, v422.toNat, 32]
def k1_off244 (k1_t23 : Fin k1_t23_loop.trips) (c0_i32_356 : BitVec 32) : Fin 4 → Nat :=
  let c0_i32_373 : BitVec 32 := 0#32
  let v427 : Index := Scalar.indexCast c0_i32_373
  let c0_i32_374 : BitVec 32 := 0#32
  let v428 : Index := Scalar.indexCast c0_i32_374
  let c0_i32_322 : BitVec 32 := 0#32
  let c1_i32_323 : BitVec 32 := 1#32
  let arg26 : BitVec 32 := Scf.iv c0_i32_322 c1_i32_323 k1_t23
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 0, v429.toNat, 48]
def k1_off245 (k1_t23 : Fin k1_t23_loop.trips) (c0_i32_356 : BitVec 32) : Fin 4 → Nat :=
  let c1_i32_375 : BitVec 32 := 1#32
  let v432 : Index := Scalar.indexCast c1_i32_375
  let c0_i32_376 : BitVec 32 := 0#32
  let v433 : Index := Scalar.indexCast c0_i32_376
  let c0_i32_322 : BitVec 32 := 0#32
  let c1_i32_323 : BitVec 32 := 1#32
  let arg26 : BitVec 32 := Scf.iv c0_i32_322 c1_i32_323 k1_t23
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 0, v434.toNat, 48]
def k1_off246 (k1_t23 : Fin k1_t23_loop.trips) (c0_i32_356 : BitVec 32) : Fin 4 → Nat :=
  let c0_i32_378 : BitVec 32 := 0#32
  let v439 : Index := Scalar.indexCast c0_i32_378
  let c0_i32_379 : BitVec 32 := 0#32
  let v440 : Index := Scalar.indexCast c0_i32_379
  let c0_i32_322 : BitVec 32 := 0#32
  let c1_i32_323 : BitVec 32 := 1#32
  let arg26 : BitVec 32 := Scf.iv c0_i32_322 c1_i32_323 k1_t23
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 0, v441.toNat, 64]
def k1_off247 (k1_t23 : Fin k1_t23_loop.trips) (c0_i32_356 : BitVec 32) : Fin 4 → Nat :=
  let c1_i32_380 : BitVec 32 := 1#32
  let v444 : Index := Scalar.indexCast c1_i32_380
  let c0_i32_381 : BitVec 32 := 0#32
  let v445 : Index := Scalar.indexCast c0_i32_381
  let c0_i32_322 : BitVec 32 := 0#32
  let c1_i32_323 : BitVec 32 := 1#32
  let arg26 : BitVec 32 := Scf.iv c0_i32_322 c1_i32_323 k1_t23
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 0, v446.toNat, 64]
def k1_off248 (k1_t23 : Fin k1_t23_loop.trips) (c0_i32_356 : BitVec 32) : Fin 4 → Nat :=
  let c0_i32_383 : BitVec 32 := 0#32
  let v451 : Index := Scalar.indexCast c0_i32_383
  let c0_i32_384 : BitVec 32 := 0#32
  let v452 : Index := Scalar.indexCast c0_i32_384
  let c0_i32_322 : BitVec 32 := 0#32
  let c1_i32_323 : BitVec 32 := 1#32
  let arg26 : BitVec 32 := Scf.iv c0_i32_322 c1_i32_323 k1_t23
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 0, v453.toNat, 80]
def k1_off249 (k1_t23 : Fin k1_t23_loop.trips) (c0_i32_356 : BitVec 32) : Fin 4 → Nat :=
  let c1_i32_385 : BitVec 32 := 1#32
  let v456 : Index := Scalar.indexCast c1_i32_385
  let c0_i32_386 : BitVec 32 := 0#32
  let v457 : Index := Scalar.indexCast c0_i32_386
  let c0_i32_322 : BitVec 32 := 0#32
  let c1_i32_323 : BitVec 32 := 1#32
  let arg26 : BitVec 32 := Scf.iv c0_i32_322 c1_i32_323 k1_t23
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 0, v458.toNat, 80]
def k1_off250 (k1_t23 : Fin k1_t23_loop.trips) (c0_i32_356 : BitVec 32) : Fin 4 → Nat :=
  let c0_i32_388 : BitVec 32 := 0#32
  let v463 : Index := Scalar.indexCast c0_i32_388
  let c0_i32_389 : BitVec 32 := 0#32
  let v464 : Index := Scalar.indexCast c0_i32_389
  let c0_i32_322 : BitVec 32 := 0#32
  let c1_i32_323 : BitVec 32 := 1#32
  let arg26 : BitVec 32 := Scf.iv c0_i32_322 c1_i32_323 k1_t23
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 0, v465.toNat, 96]
def k1_off251 (k1_t23 : Fin k1_t23_loop.trips) (c0_i32_356 : BitVec 32) : Fin 4 → Nat :=
  let c1_i32_390 : BitVec 32 := 1#32
  let v468 : Index := Scalar.indexCast c1_i32_390
  let c0_i32_391 : BitVec 32 := 0#32
  let v469 : Index := Scalar.indexCast c0_i32_391
  let c0_i32_322 : BitVec 32 := 0#32
  let c1_i32_323 : BitVec 32 := 1#32
  let arg26 : BitVec 32 := Scf.iv c0_i32_322 c1_i32_323 k1_t23
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 0, v470.toNat, 96]
def k1_off252 (k1_t23 : Fin k1_t23_loop.trips) (c0_i32_356 : BitVec 32) : Fin 4 → Nat :=
  let c0_i32_393 : BitVec 32 := 0#32
  let v475 : Index := Scalar.indexCast c0_i32_393
  let c0_i32_394 : BitVec 32 := 0#32
  let v476 : Index := Scalar.indexCast c0_i32_394
  let c0_i32_322 : BitVec 32 := 0#32
  let c1_i32_323 : BitVec 32 := 1#32
  let arg26 : BitVec 32 := Scf.iv c0_i32_322 c1_i32_323 k1_t23
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 0, v477.toNat, 112]
def k1_off253 (k1_t23 : Fin k1_t23_loop.trips) (c0_i32_356 : BitVec 32) : Fin 4 → Nat :=
  let c1_i32_395 : BitVec 32 := 1#32
  let v480 : Index := Scalar.indexCast c1_i32_395
  let c0_i32_396 : BitVec 32 := 0#32
  let v481 : Index := Scalar.indexCast c0_i32_396
  let c0_i32_322 : BitVec 32 := 0#32
  let c1_i32_323 : BitVec 32 := 1#32
  let arg26 : BitVec 32 := Scf.iv c0_i32_322 c1_i32_323 k1_t23
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 0, v482.toNat, 112]
def k1_off254 (v139 : BitVec 32) (k1_t22 : Fin (k1_t22_loop v139).trips) : Fin 1 → Nat :=
  let c0_i32_176 : BitVec 32 := 0#32
  let c128_i32_166 : BitVec 32 := 128#32
  let v173 : BitVec 32 := Scalar.addi v139 c128_i32_166
  let c1_i32_167 : BitVec 32 := 1#32
  let v174 : BitVec 32 := Scalar.subi v173 c1_i32_167
  let c0_i32_169 : BitVec 32 := 0#32
  let v176 : BitVec 1 := Scalar.cmpi .sgt v174 c0_i32_169
  let v177 : BitVec 32 := Scalar.extui v176
  let c0_i32_170 : BitVec 32 := 0#32
  let v178 : BitVec 1 := Scalar.cmpi .slt v174 c0_i32_170
  let v179 : BitVec 32 := Scalar.extui v178
  let v180 : BitVec 32 := Scalar.subi v177 v179
  let c128_i32_168 : BitVec 32 := 128#32
  let c0_i32_171 : BitVec 32 := 0#32
  let v181 : BitVec 1 := Scalar.cmpi .sgt c128_i32_168 c0_i32_171
  let v182 : BitVec 32 := Scalar.extui v181
  let c0_i32_172 : BitVec 32 := 0#32
  let v183 : BitVec 1 := Scalar.cmpi .slt c128_i32_168 c0_i32_172
  let v184 : BitVec 32 := Scalar.extui v183
  let v185 : BitVec 32 := Scalar.subi v182 v184
  let v186 : BitVec 1 := Scalar.cmpi .ne v180 v185
  let v187 : BitVec 32 := Scalar.remsi v174 c128_i32_168
  let c0_i32_173 : BitVec 32 := 0#32
  let v188 : BitVec 1 := Scalar.cmpi .ne v187 c0_i32_173
  let v189 : BitVec 1 := Scalar.andi v186 v188
  let v175 : BitVec 32 := Scalar.divsi v174 c128_i32_168
  let c1_i32_174 : BitVec 32 := 1#32
  let v190 : BitVec 32 := Scalar.subi v175 c1_i32_174
  let v191 : BitVec 32 := Scalar.select v189 v190 v175
  let c1_i32_175 : BitVec 32 := 1#32
  let v192 : BitVec 32 := Scalar.maxsi v191 c1_i32_175
  let v193 : BitVec 32 := Scalar.subi v192 c0_i32_176
  let c1_i32_177 : BitVec 32 := 1#32
  let v195 : BitVec 32 := Scalar.divsi v193 c1_i32_177
  let v196 : BitVec 32 := Scalar.muli v195 c1_i32_177
  let v197 : BitVec 32 := Scalar.addi c0_i32_176 v196
  let c1_i32_179 : BitVec 32 := 1#32
  let arg17 : BitVec 32 := Scf.iv v197 c1_i32_179 k1_t22
  let c2_i32_302 : BitVec 32 := 2#32
  let v343 : BitVec 32 := Scalar.muli arg17 c2_i32_302
  let c0_i32_303 : BitVec 32 := 0#32
  let v344 : BitVec 32 := Scalar.addi v343 c0_i32_303
  let c2_i32_355 : BitVec 32 := 2#32
  let v389 : BitVec 32 := Scalar.addi v344 c2_i32_355
  let c64_i32_356 : BitVec 32 := 64#32
  let v390 : BitVec 32 := Scalar.muli v389 c64_i32_356
  ![v390.toNat]
def k1_cond11 (v139 : BitVec 32) (k1_t22 : Fin (k1_t22_loop v139).trips) : BitVec 1 :=
  let c0_i32_176 : BitVec 32 := 0#32
  let c128_i32_166 : BitVec 32 := 128#32
  let v173 : BitVec 32 := Scalar.addi v139 c128_i32_166
  let c1_i32_167 : BitVec 32 := 1#32
  let v174 : BitVec 32 := Scalar.subi v173 c1_i32_167
  let c0_i32_169 : BitVec 32 := 0#32
  let v176 : BitVec 1 := Scalar.cmpi .sgt v174 c0_i32_169
  let v177 : BitVec 32 := Scalar.extui v176
  let c0_i32_170 : BitVec 32 := 0#32
  let v178 : BitVec 1 := Scalar.cmpi .slt v174 c0_i32_170
  let v179 : BitVec 32 := Scalar.extui v178
  let v180 : BitVec 32 := Scalar.subi v177 v179
  let c128_i32_168 : BitVec 32 := 128#32
  let c0_i32_171 : BitVec 32 := 0#32
  let v181 : BitVec 1 := Scalar.cmpi .sgt c128_i32_168 c0_i32_171
  let v182 : BitVec 32 := Scalar.extui v181
  let c0_i32_172 : BitVec 32 := 0#32
  let v183 : BitVec 1 := Scalar.cmpi .slt c128_i32_168 c0_i32_172
  let v184 : BitVec 32 := Scalar.extui v183
  let v185 : BitVec 32 := Scalar.subi v182 v184
  let v186 : BitVec 1 := Scalar.cmpi .ne v180 v185
  let v187 : BitVec 32 := Scalar.remsi v174 c128_i32_168
  let c0_i32_173 : BitVec 32 := 0#32
  let v188 : BitVec 1 := Scalar.cmpi .ne v187 c0_i32_173
  let v189 : BitVec 1 := Scalar.andi v186 v188
  let v175 : BitVec 32 := Scalar.divsi v174 c128_i32_168
  let c1_i32_174 : BitVec 32 := 1#32
  let v190 : BitVec 32 := Scalar.subi v175 c1_i32_174
  let v191 : BitVec 32 := Scalar.select v189 v190 v175
  let c1_i32_175 : BitVec 32 := 1#32
  let v192 : BitVec 32 := Scalar.maxsi v191 c1_i32_175
  let v193 : BitVec 32 := Scalar.subi v192 c0_i32_176
  let c1_i32_177 : BitVec 32 := 1#32
  let v195 : BitVec 32 := Scalar.divsi v193 c1_i32_177
  let v196 : BitVec 32 := Scalar.muli v195 c1_i32_177
  let v197 : BitVec 32 := Scalar.addi c0_i32_176 v196
  let c1_i32_179 : BitVec 32 := 1#32
  let arg17 : BitVec 32 := Scf.iv v197 c1_i32_179 k1_t22
  let c2_i32_302 : BitVec 32 := 2#32
  let v343 : BitVec 32 := Scalar.muli arg17 c2_i32_302
  let c0_i32_303 : BitVec 32 := 0#32
  let v344 : BitVec 32 := Scalar.addi v343 c0_i32_303
  let c2_i32_325 : BitVec 32 := 2#32
  let v361 : BitVec 32 := Scalar.addi v344 c2_i32_325
  let c2_i32_326 : BitVec 32 := 2#32
  let v362 : BitVec 32 := Scalar.muli v192 c2_i32_326
  let v363 : BitVec 1 := Scalar.cmpi .slt v361 v362
  let v364 : BitVec 32 := Scalar.extui v363
  let c0_i32_327 : BitVec 32 := 0#32
  let v365 : BitVec 1 := Scalar.cmpi .ne v364 c0_i32_327
  v365

@[reducible] def k1_t24_loop : Scf.Loop 32 :=
  let c0_i32_348 : BitVec 32 := 0#32
  let c32_i32_349 : BitVec 32 := 32#32
  let v382 : BitVec 32 := Scalar.addi c0_i32_348 c32_i32_349
  let c1_i32_350 : BitVec 32 := 1#32
  ⟨c0_i32_348, v382, c1_i32_350⟩
def k1_off255 (k1_t24 : Fin k1_t24_loop.trips) (c0_i32_356 : BitVec 32) : Fin 4 → Nat :=
  let c0_i32_357 : BitVec 32 := 0#32
  let v391 : Index := Scalar.indexCast c0_i32_357
  let c1_i32_358 : BitVec 32 := 1#32
  let v392 : Index := Scalar.indexCast c1_i32_358
  let c0_i32_348 : BitVec 32 := 0#32
  let c1_i32_350 : BitVec 32 := 1#32
  let arg26 : BitVec 32 := Scf.iv c0_i32_348 c1_i32_350 k1_t24
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 1, v393.toNat, 0]
def k1_off256 (k1_t24 : Fin k1_t24_loop.trips) (c0_i32_356 : BitVec 32) : Fin 4 → Nat :=
  let c1_i32_360 : BitVec 32 := 1#32
  let v396 : Index := Scalar.indexCast c1_i32_360
  let c1_i32_361 : BitVec 32 := 1#32
  let v397 : Index := Scalar.indexCast c1_i32_361
  let c0_i32_348 : BitVec 32 := 0#32
  let c1_i32_350 : BitVec 32 := 1#32
  let arg26 : BitVec 32 := Scf.iv c0_i32_348 c1_i32_350 k1_t24
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 1, v398.toNat, 0]
def k1_off257 (k1_t24 : Fin k1_t24_loop.trips) (c0_i32_356 : BitVec 32) : Fin 4 → Nat :=
  let c0_i32_363 : BitVec 32 := 0#32
  let v403 : Index := Scalar.indexCast c0_i32_363
  let c1_i32_364 : BitVec 32 := 1#32
  let v404 : Index := Scalar.indexCast c1_i32_364
  let c0_i32_348 : BitVec 32 := 0#32
  let c1_i32_350 : BitVec 32 := 1#32
  let arg26 : BitVec 32 := Scf.iv c0_i32_348 c1_i32_350 k1_t24
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 1, v405.toNat, 16]
def k1_off258 (k1_t24 : Fin k1_t24_loop.trips) (c0_i32_356 : BitVec 32) : Fin 4 → Nat :=
  let c1_i32_365 : BitVec 32 := 1#32
  let v408 : Index := Scalar.indexCast c1_i32_365
  let c1_i32_366 : BitVec 32 := 1#32
  let v409 : Index := Scalar.indexCast c1_i32_366
  let c0_i32_348 : BitVec 32 := 0#32
  let c1_i32_350 : BitVec 32 := 1#32
  let arg26 : BitVec 32 := Scf.iv c0_i32_348 c1_i32_350 k1_t24
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 1, v410.toNat, 16]
def k1_off259 (k1_t24 : Fin k1_t24_loop.trips) (c0_i32_356 : BitVec 32) : Fin 4 → Nat :=
  let c0_i32_368 : BitVec 32 := 0#32
  let v415 : Index := Scalar.indexCast c0_i32_368
  let c1_i32_369 : BitVec 32 := 1#32
  let v416 : Index := Scalar.indexCast c1_i32_369
  let c0_i32_348 : BitVec 32 := 0#32
  let c1_i32_350 : BitVec 32 := 1#32
  let arg26 : BitVec 32 := Scf.iv c0_i32_348 c1_i32_350 k1_t24
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 1, v417.toNat, 32]
def k1_off260 (k1_t24 : Fin k1_t24_loop.trips) (c0_i32_356 : BitVec 32) : Fin 4 → Nat :=
  let c1_i32_370 : BitVec 32 := 1#32
  let v420 : Index := Scalar.indexCast c1_i32_370
  let c1_i32_371 : BitVec 32 := 1#32
  let v421 : Index := Scalar.indexCast c1_i32_371
  let c0_i32_348 : BitVec 32 := 0#32
  let c1_i32_350 : BitVec 32 := 1#32
  let arg26 : BitVec 32 := Scf.iv c0_i32_348 c1_i32_350 k1_t24
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 1, v422.toNat, 32]
def k1_off261 (k1_t24 : Fin k1_t24_loop.trips) (c0_i32_356 : BitVec 32) : Fin 4 → Nat :=
  let c0_i32_373 : BitVec 32 := 0#32
  let v427 : Index := Scalar.indexCast c0_i32_373
  let c1_i32_374 : BitVec 32 := 1#32
  let v428 : Index := Scalar.indexCast c1_i32_374
  let c0_i32_348 : BitVec 32 := 0#32
  let c1_i32_350 : BitVec 32 := 1#32
  let arg26 : BitVec 32 := Scf.iv c0_i32_348 c1_i32_350 k1_t24
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 1, v429.toNat, 48]
def k1_off262 (k1_t24 : Fin k1_t24_loop.trips) (c0_i32_356 : BitVec 32) : Fin 4 → Nat :=
  let c1_i32_375 : BitVec 32 := 1#32
  let v432 : Index := Scalar.indexCast c1_i32_375
  let c1_i32_376 : BitVec 32 := 1#32
  let v433 : Index := Scalar.indexCast c1_i32_376
  let c0_i32_348 : BitVec 32 := 0#32
  let c1_i32_350 : BitVec 32 := 1#32
  let arg26 : BitVec 32 := Scf.iv c0_i32_348 c1_i32_350 k1_t24
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 1, v434.toNat, 48]
def k1_off263 (k1_t24 : Fin k1_t24_loop.trips) (c0_i32_356 : BitVec 32) : Fin 4 → Nat :=
  let c0_i32_378 : BitVec 32 := 0#32
  let v439 : Index := Scalar.indexCast c0_i32_378
  let c1_i32_379 : BitVec 32 := 1#32
  let v440 : Index := Scalar.indexCast c1_i32_379
  let c0_i32_348 : BitVec 32 := 0#32
  let c1_i32_350 : BitVec 32 := 1#32
  let arg26 : BitVec 32 := Scf.iv c0_i32_348 c1_i32_350 k1_t24
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 1, v441.toNat, 64]
def k1_off264 (k1_t24 : Fin k1_t24_loop.trips) (c0_i32_356 : BitVec 32) : Fin 4 → Nat :=
  let c1_i32_380 : BitVec 32 := 1#32
  let v444 : Index := Scalar.indexCast c1_i32_380
  let c1_i32_381 : BitVec 32 := 1#32
  let v445 : Index := Scalar.indexCast c1_i32_381
  let c0_i32_348 : BitVec 32 := 0#32
  let c1_i32_350 : BitVec 32 := 1#32
  let arg26 : BitVec 32 := Scf.iv c0_i32_348 c1_i32_350 k1_t24
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 1, v446.toNat, 64]
def k1_off265 (k1_t24 : Fin k1_t24_loop.trips) (c0_i32_356 : BitVec 32) : Fin 4 → Nat :=
  let c0_i32_383 : BitVec 32 := 0#32
  let v451 : Index := Scalar.indexCast c0_i32_383
  let c1_i32_384 : BitVec 32 := 1#32
  let v452 : Index := Scalar.indexCast c1_i32_384
  let c0_i32_348 : BitVec 32 := 0#32
  let c1_i32_350 : BitVec 32 := 1#32
  let arg26 : BitVec 32 := Scf.iv c0_i32_348 c1_i32_350 k1_t24
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 1, v453.toNat, 80]
def k1_off266 (k1_t24 : Fin k1_t24_loop.trips) (c0_i32_356 : BitVec 32) : Fin 4 → Nat :=
  let c1_i32_385 : BitVec 32 := 1#32
  let v456 : Index := Scalar.indexCast c1_i32_385
  let c1_i32_386 : BitVec 32 := 1#32
  let v457 : Index := Scalar.indexCast c1_i32_386
  let c0_i32_348 : BitVec 32 := 0#32
  let c1_i32_350 : BitVec 32 := 1#32
  let arg26 : BitVec 32 := Scf.iv c0_i32_348 c1_i32_350 k1_t24
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 1, v458.toNat, 80]
def k1_off267 (k1_t24 : Fin k1_t24_loop.trips) (c0_i32_356 : BitVec 32) : Fin 4 → Nat :=
  let c0_i32_388 : BitVec 32 := 0#32
  let v463 : Index := Scalar.indexCast c0_i32_388
  let c1_i32_389 : BitVec 32 := 1#32
  let v464 : Index := Scalar.indexCast c1_i32_389
  let c0_i32_348 : BitVec 32 := 0#32
  let c1_i32_350 : BitVec 32 := 1#32
  let arg26 : BitVec 32 := Scf.iv c0_i32_348 c1_i32_350 k1_t24
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 1, v465.toNat, 96]
def k1_off268 (k1_t24 : Fin k1_t24_loop.trips) (c0_i32_356 : BitVec 32) : Fin 4 → Nat :=
  let c1_i32_390 : BitVec 32 := 1#32
  let v468 : Index := Scalar.indexCast c1_i32_390
  let c1_i32_391 : BitVec 32 := 1#32
  let v469 : Index := Scalar.indexCast c1_i32_391
  let c0_i32_348 : BitVec 32 := 0#32
  let c1_i32_350 : BitVec 32 := 1#32
  let arg26 : BitVec 32 := Scf.iv c0_i32_348 c1_i32_350 k1_t24
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 1, v470.toNat, 96]
def k1_off269 (k1_t24 : Fin k1_t24_loop.trips) (c0_i32_356 : BitVec 32) : Fin 4 → Nat :=
  let c0_i32_393 : BitVec 32 := 0#32
  let v475 : Index := Scalar.indexCast c0_i32_393
  let c1_i32_394 : BitVec 32 := 1#32
  let v476 : Index := Scalar.indexCast c1_i32_394
  let c0_i32_348 : BitVec 32 := 0#32
  let c1_i32_350 : BitVec 32 := 1#32
  let arg26 : BitVec 32 := Scf.iv c0_i32_348 c1_i32_350 k1_t24
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 1, v477.toNat, 112]
def k1_off270 (k1_t24 : Fin k1_t24_loop.trips) (c0_i32_356 : BitVec 32) : Fin 4 → Nat :=
  let c1_i32_395 : BitVec 32 := 1#32
  let v480 : Index := Scalar.indexCast c1_i32_395
  let c1_i32_396 : BitVec 32 := 1#32
  let v481 : Index := Scalar.indexCast c1_i32_396
  let c0_i32_348 : BitVec 32 := 0#32
  let c1_i32_350 : BitVec 32 := 1#32
  let arg26 : BitVec 32 := Scf.iv c0_i32_348 c1_i32_350 k1_t24
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 1, v482.toNat, 112]
def k1_off271 (v139 : BitVec 32) (k1_t22 : Fin (k1_t22_loop v139).trips) : Fin 1 → Nat :=
  let c0_i32_176 : BitVec 32 := 0#32
  let c128_i32_166 : BitVec 32 := 128#32
  let v173 : BitVec 32 := Scalar.addi v139 c128_i32_166
  let c1_i32_167 : BitVec 32 := 1#32
  let v174 : BitVec 32 := Scalar.subi v173 c1_i32_167
  let c0_i32_169 : BitVec 32 := 0#32
  let v176 : BitVec 1 := Scalar.cmpi .sgt v174 c0_i32_169
  let v177 : BitVec 32 := Scalar.extui v176
  let c0_i32_170 : BitVec 32 := 0#32
  let v178 : BitVec 1 := Scalar.cmpi .slt v174 c0_i32_170
  let v179 : BitVec 32 := Scalar.extui v178
  let v180 : BitVec 32 := Scalar.subi v177 v179
  let c128_i32_168 : BitVec 32 := 128#32
  let c0_i32_171 : BitVec 32 := 0#32
  let v181 : BitVec 1 := Scalar.cmpi .sgt c128_i32_168 c0_i32_171
  let v182 : BitVec 32 := Scalar.extui v181
  let c0_i32_172 : BitVec 32 := 0#32
  let v183 : BitVec 1 := Scalar.cmpi .slt c128_i32_168 c0_i32_172
  let v184 : BitVec 32 := Scalar.extui v183
  let v185 : BitVec 32 := Scalar.subi v182 v184
  let v186 : BitVec 1 := Scalar.cmpi .ne v180 v185
  let v187 : BitVec 32 := Scalar.remsi v174 c128_i32_168
  let c0_i32_173 : BitVec 32 := 0#32
  let v188 : BitVec 1 := Scalar.cmpi .ne v187 c0_i32_173
  let v189 : BitVec 1 := Scalar.andi v186 v188
  let v175 : BitVec 32 := Scalar.divsi v174 c128_i32_168
  let c1_i32_174 : BitVec 32 := 1#32
  let v190 : BitVec 32 := Scalar.subi v175 c1_i32_174
  let v191 : BitVec 32 := Scalar.select v189 v190 v175
  let c1_i32_175 : BitVec 32 := 1#32
  let v192 : BitVec 32 := Scalar.maxsi v191 c1_i32_175
  let v193 : BitVec 32 := Scalar.subi v192 c0_i32_176
  let c1_i32_177 : BitVec 32 := 1#32
  let v195 : BitVec 32 := Scalar.divsi v193 c1_i32_177
  let v196 : BitVec 32 := Scalar.muli v195 c1_i32_177
  let v197 : BitVec 32 := Scalar.addi c0_i32_176 v196
  let c1_i32_179 : BitVec 32 := 1#32
  let arg17 : BitVec 32 := Scf.iv v197 c1_i32_179 k1_t22
  let c2_i32_328 : BitVec 32 := 2#32
  let v366 : BitVec 32 := Scalar.muli arg17 c2_i32_328
  let c1_i32_329 : BitVec 32 := 1#32
  let v367 : BitVec 32 := Scalar.addi v366 c1_i32_329
  let c2_i32_355 : BitVec 32 := 2#32
  let v389 : BitVec 32 := Scalar.addi v367 c2_i32_355
  let c64_i32_356 : BitVec 32 := 64#32
  let v390 : BitVec 32 := Scalar.muli v389 c64_i32_356
  ![v390.toNat]
def k1_cond12 (v139 : BitVec 32) (k1_t22 : Fin (k1_t22_loop v139).trips) : BitVec 1 :=
  let c0_i32_176 : BitVec 32 := 0#32
  let c128_i32_166 : BitVec 32 := 128#32
  let v173 : BitVec 32 := Scalar.addi v139 c128_i32_166
  let c1_i32_167 : BitVec 32 := 1#32
  let v174 : BitVec 32 := Scalar.subi v173 c1_i32_167
  let c0_i32_169 : BitVec 32 := 0#32
  let v176 : BitVec 1 := Scalar.cmpi .sgt v174 c0_i32_169
  let v177 : BitVec 32 := Scalar.extui v176
  let c0_i32_170 : BitVec 32 := 0#32
  let v178 : BitVec 1 := Scalar.cmpi .slt v174 c0_i32_170
  let v179 : BitVec 32 := Scalar.extui v178
  let v180 : BitVec 32 := Scalar.subi v177 v179
  let c128_i32_168 : BitVec 32 := 128#32
  let c0_i32_171 : BitVec 32 := 0#32
  let v181 : BitVec 1 := Scalar.cmpi .sgt c128_i32_168 c0_i32_171
  let v182 : BitVec 32 := Scalar.extui v181
  let c0_i32_172 : BitVec 32 := 0#32
  let v183 : BitVec 1 := Scalar.cmpi .slt c128_i32_168 c0_i32_172
  let v184 : BitVec 32 := Scalar.extui v183
  let v185 : BitVec 32 := Scalar.subi v182 v184
  let v186 : BitVec 1 := Scalar.cmpi .ne v180 v185
  let v187 : BitVec 32 := Scalar.remsi v174 c128_i32_168
  let c0_i32_173 : BitVec 32 := 0#32
  let v188 : BitVec 1 := Scalar.cmpi .ne v187 c0_i32_173
  let v189 : BitVec 1 := Scalar.andi v186 v188
  let v175 : BitVec 32 := Scalar.divsi v174 c128_i32_168
  let c1_i32_174 : BitVec 32 := 1#32
  let v190 : BitVec 32 := Scalar.subi v175 c1_i32_174
  let v191 : BitVec 32 := Scalar.select v189 v190 v175
  let c1_i32_175 : BitVec 32 := 1#32
  let v192 : BitVec 32 := Scalar.maxsi v191 c1_i32_175
  let v193 : BitVec 32 := Scalar.subi v192 c0_i32_176
  let c1_i32_177 : BitVec 32 := 1#32
  let v195 : BitVec 32 := Scalar.divsi v193 c1_i32_177
  let v196 : BitVec 32 := Scalar.muli v195 c1_i32_177
  let v197 : BitVec 32 := Scalar.addi c0_i32_176 v196
  let c1_i32_179 : BitVec 32 := 1#32
  let arg17 : BitVec 32 := Scf.iv v197 c1_i32_179 k1_t22
  let c2_i32_328 : BitVec 32 := 2#32
  let v366 : BitVec 32 := Scalar.muli arg17 c2_i32_328
  let c1_i32_329 : BitVec 32 := 1#32
  let v367 : BitVec 32 := Scalar.addi v366 c1_i32_329
  let c2_i32_352 : BitVec 32 := 2#32
  let v384 : BitVec 32 := Scalar.addi v367 c2_i32_352
  let c2_i32_353 : BitVec 32 := 2#32
  let v385 : BitVec 32 := Scalar.muli v192 c2_i32_353
  let v386 : BitVec 1 := Scalar.cmpi .slt v384 v385
  let v387 : BitVec 32 := Scalar.extui v386
  let c0_i32_354 : BitVec 32 := 0#32
  let v388 : BitVec 1 := Scalar.cmpi .ne v387 c0_i32_354
  v388

def k1_chk51 (v139 : BitVec 32) : Prop :=
  (∀ a, (k1_off201 v139) a + S16.size a ≤ S2064.size a) ∧
  ((k1_t19_loop v139).OK) ∧
  (∀ k1_t19 : Fin (k1_t19_loop v139).trips, ∀ (r : Fin 2), ∀ a, (k1_off202 v139 k1_t19 (BitVec.ofNat 32 r.val)) a + S64.size a ≤ S2064.size a) ∧
  (∀ k1_t19 : Fin (k1_t19_loop v139).trips, ∀ (k1_h9 : k1_cond9 v139 k1_t19 = 1#1), ∀ a, (k1_off219 v139 k1_t19) a + S64.size a ≤ S2064.size a) ∧
  (∀ k1_t19 : Fin (k1_t19_loop v139).trips, ∀ (k1_h10 : k1_cond10 v139 k1_t19 = 1#1), ∀ a, (k1_off236 v139 k1_t19) a + S64.size a ≤ S2064.size a) ∧
  ((k1_t22_loop v139).OK) ∧
  (∀ k1_t22 : Fin (k1_t22_loop v139).trips, ∀ (r : Fin 2), ∀ a, (k1_off237 v139 k1_t22 (BitVec.ofNat 32 r.val)) a + S64.size a ≤ S2064.size a) ∧
  (∀ k1_t22 : Fin (k1_t22_loop v139).trips, ∀ (k1_h11 : k1_cond11 v139 k1_t22 = 1#1), ∀ a, (k1_off254 v139 k1_t22) a + S64.size a ≤ S2064.size a) ∧
  (∀ k1_t22 : Fin (k1_t22_loop v139).trips, ∀ (k1_h12 : k1_cond12 v139 k1_t22 = 1#1), ∀ a, (k1_off271 v139 k1_t22) a + S64.size a ≤ S2064.size a)
theorem k1_off201_inb : ∀ (v139 : BitVec 32) (k1_hw51 : k1_chk51 v139), ∀ a, (k1_off201 v139) a + S16.size a ≤ S2064.size a := fun v139 k1_hw51 => k1_hw51.1
theorem k1_t19_ok : ∀ (v139 : BitVec 32) (k1_hw51 : k1_chk51 v139), (k1_t19_loop v139).OK := fun v139 k1_hw51 => k1_hw51.2.1
theorem k1_off202_inb : ∀ (v139 : BitVec 32) (k1_hw51 : k1_chk51 v139) (k1_t19 : Fin (k1_t19_loop v139).trips), ∀ (r : Fin 2), ∀ a, (k1_off202 v139 k1_t19 (BitVec.ofNat 32 r.val)) a + S64.size a ≤ S2064.size a := fun v139 k1_hw51 k1_t19 r => k1_hw51.2.2.1 k1_t19 r
theorem k1_off219_inb : ∀ (v139 : BitVec 32) (k1_hw51 : k1_chk51 v139) (k1_t19 : Fin (k1_t19_loop v139).trips), ∀ (k1_h9 : k1_cond9 v139 k1_t19 = 1#1), ∀ a, (k1_off219 v139 k1_t19) a + S64.size a ≤ S2064.size a := fun v139 k1_hw51 k1_t19 k1_h9 => k1_hw51.2.2.2.1 k1_t19 k1_h9
theorem k1_off236_inb : ∀ (v139 : BitVec 32) (k1_hw51 : k1_chk51 v139) (k1_t19 : Fin (k1_t19_loop v139).trips), ∀ (k1_h10 : k1_cond10 v139 k1_t19 = 1#1), ∀ a, (k1_off236 v139 k1_t19) a + S64.size a ≤ S2064.size a := fun v139 k1_hw51 k1_t19 k1_h10 => k1_hw51.2.2.2.2.1 k1_t19 k1_h10
theorem k1_t22_ok : ∀ (v139 : BitVec 32) (k1_hw51 : k1_chk51 v139), (k1_t22_loop v139).OK := fun v139 k1_hw51 => k1_hw51.2.2.2.2.2.1
theorem k1_off237_inb : ∀ (v139 : BitVec 32) (k1_hw51 : k1_chk51 v139) (k1_t22 : Fin (k1_t22_loop v139).trips), ∀ (r : Fin 2), ∀ a, (k1_off237 v139 k1_t22 (BitVec.ofNat 32 r.val)) a + S64.size a ≤ S2064.size a := fun v139 k1_hw51 k1_t22 r => k1_hw51.2.2.2.2.2.2.1 k1_t22 r
theorem k1_off254_inb : ∀ (v139 : BitVec 32) (k1_hw51 : k1_chk51 v139) (k1_t22 : Fin (k1_t22_loop v139).trips), ∀ (k1_h11 : k1_cond11 v139 k1_t22 = 1#1), ∀ a, (k1_off254 v139 k1_t22) a + S64.size a ≤ S2064.size a := fun v139 k1_hw51 k1_t22 k1_h11 => k1_hw51.2.2.2.2.2.2.2.1 k1_t22 k1_h11
theorem k1_off271_inb : ∀ (v139 : BitVec 32) (k1_hw51 : k1_chk51 v139) (k1_t22 : Fin (k1_t22_loop v139).trips), ∀ (k1_h12 : k1_cond12 v139 k1_t22 = 1#1), ∀ a, (k1_off271 v139 k1_t22) a + S64.size a ≤ S2064.size a := fun v139 k1_hw51 k1_t22 k1_h12 => k1_hw51.2.2.2.2.2.2.2.2 k1_t22 k1_h12

def k1_off272 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c6000_i32 : BitVec 32 := 6000#32
  let v200 : BitVec 32 := Scalar.addi v2 c6000_i32
  ![v200.toNat]
@[reducible] def k1_t25_loop : Scf.Loop 32 :=
  let c0_i32_181 : BitVec 32 := 0#32
  let c128_i32_182 : BitVec 32 := 128#32
  let v201 : BitVec 32 := Scalar.addi c0_i32_181 c128_i32_182
  let c1_i32_183 : BitVec 32 := 1#32
  ⟨c0_i32_181, v201, c1_i32_183⟩
def k1_off273 (k1_t25 : Fin k1_t25_loop.trips) : Fin 1 → Nat :=
  let c0_i32_181 : BitVec 32 := 0#32
  let c1_i32_183 : BitVec 32 := 1#32
  let arg17 : BitVec 32 := Scf.iv c0_i32_181 c1_i32_183 k1_t25
  let c16_i32 : BitVec 32 := 16#32
  let v343 : BitVec 32 := Scalar.muli arg17 c16_i32
  let v344 : Index := Scalar.indexCast v343
  ![v344.toNat]
@[reducible] def k1_t26_loop : Scf.Loop 32 :=
  let c0_i32_186 : BitVec 32 := 0#32
  let c125_i32_187 : BitVec 32 := 125#32
  let v202 : BitVec 32 := Scalar.addi c0_i32_186 c125_i32_187
  let c1_i32_188 : BitVec 32 := 1#32
  ⟨c0_i32_186, v202, c1_i32_188⟩
def k1_off274 (k1_t26 : Fin k1_t26_loop.trips) : Fin 1 → Nat :=
  let c0_i32_186 : BitVec 32 := 0#32
  let c1_i32_188 : BitVec 32 := 1#32
  let arg17 : BitVec 32 := Scf.iv c0_i32_186 c1_i32_188 k1_t26
  let c16_i32 : BitVec 32 := 16#32
  let v343 : BitVec 32 := Scalar.muli arg17 c16_i32
  let v344 : Index := Scalar.indexCast v343
  ![v344.toNat]
def k1_off275 (arg18 : BitVec 32) (v357 : BitVec 1) : Fin 1 → Nat :=
  let c2048_i32 : BitVec 32 := 2048#32
  let v358 : BitVec 32 := Scalar.select v357 arg18 c2048_i32
  let v362 : Index := Scalar.indexCast v358
  ![v362.toNat]

def k1_chk52 (arg18 : BitVec 32) (v357 : BitVec 1) : Prop :=
  (∀ a, (k1_off275 arg18 v357) a + S16.size a ≤ S2064.size a)
theorem k1_off275_inb : ∀ (arg18 : BitVec 32) (v357 : BitVec 1) (k1_hw52 : k1_chk52 arg18 v357), ∀ a, (k1_off275 arg18 v357) a + S16.size a ≤ S2064.size a := fun arg18 v357 k1_hw52 => k1_hw52

def k1_off276 (arg18 : BitVec 32) (v357 : BitVec 1) (v377 : BitVec 1) : Fin 1 → Nat :=
  let c1_i32_305 : BitVec 32 := 1#32
  let v373 : BitVec 32 := Scalar.addi arg18 c1_i32_305
  let v374 : BitVec 32 := Scalar.select v357 v373 arg18
  let c2048_i32_307 : BitVec 32 := 2048#32
  let v378 : BitVec 32 := Scalar.select v377 v374 c2048_i32_307
  let v382 : Index := Scalar.indexCast v378
  ![v382.toNat]

def k1_chk53 (arg18 : BitVec 32) (v357 : BitVec 1) (v377 : BitVec 1) : Prop :=
  (∀ a, (k1_off276 arg18 v357 v377) a + S16.size a ≤ S2064.size a)
theorem k1_off276_inb : ∀ (arg18 : BitVec 32) (v357 : BitVec 1) (v377 : BitVec 1) (k1_hw53 : k1_chk53 arg18 v357 v377), ∀ a, (k1_off276 arg18 v357 v377) a + S16.size a ≤ S2064.size a := fun arg18 v357 v377 k1_hw53 => k1_hw53

def k1_off277 (arg18 : BitVec 32) (v357 : BitVec 1) (v377 : BitVec 1) (v397 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c2048_i32_310 : BitVec 32 := 2048#32
  let v398 : BitVec 32 := Scalar.select v397 v394 c2048_i32_310
  let v402 : Index := Scalar.indexCast v398
  ![v402.toNat]

def k1_chk54 (arg18 : BitVec 32) (v357 : BitVec 1) (v377 : BitVec 1) (v397 : BitVec 1) : Prop :=
  (∀ a, (k1_off277 arg18 v357 v377 v397) a + S16.size a ≤ S2064.size a)
theorem k1_off277_inb : ∀ (arg18 : BitVec 32) (v357 : BitVec 1) (v377 : BitVec 1) (v397 : BitVec 1) (k1_hw54 : k1_chk54 arg18 v357 v377 v397), ∀ a, (k1_off277 arg18 v357 v377 v397) a + S16.size a ≤ S2064.size a := fun arg18 v357 v377 v397 k1_hw54 => k1_hw54

def k1_off278 (arg18 : BitVec 32) (v357 : BitVec 1) (v377 : BitVec 1) (v397 : BitVec 1) (v417 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c2048_i32_313 : BitVec 32 := 2048#32
  let v418 : BitVec 32 := Scalar.select v417 v414 c2048_i32_313
  let v422 : Index := Scalar.indexCast v418
  ![v422.toNat]

def k1_chk55 (arg18 : BitVec 32) (v357 : BitVec 1) (v377 : BitVec 1) (v397 : BitVec 1) (v417 : BitVec 1) : Prop :=
  (∀ a, (k1_off278 arg18 v357 v377 v397 v417) a + S16.size a ≤ S2064.size a)
theorem k1_off278_inb : ∀ (arg18 : BitVec 32) (v357 : BitVec 1) (v377 : BitVec 1) (v397 : BitVec 1) (v417 : BitVec 1) (k1_hw55 : k1_chk55 arg18 v357 v377 v397 v417), ∀ a, (k1_off278 arg18 v357 v377 v397 v417) a + S16.size a ≤ S2064.size a := fun arg18 v357 v377 v397 v417 k1_hw55 => k1_hw55

def k1_off279 (arg18 : BitVec 32) (v357 : BitVec 1) (v377 : BitVec 1) (v397 : BitVec 1) (v417 : BitVec 1) (v437 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c2048_i32_316 : BitVec 32 := 2048#32
  let v438 : BitVec 32 := Scalar.select v437 v434 c2048_i32_316
  let v442 : Index := Scalar.indexCast v438
  ![v442.toNat]

def k1_chk56 (arg18 : BitVec 32) (v357 : BitVec 1) (v377 : BitVec 1) (v397 : BitVec 1) (v417 : BitVec 1) (v437 : BitVec 1) : Prop :=
  (∀ a, (k1_off279 arg18 v357 v377 v397 v417 v437) a + S16.size a ≤ S2064.size a)
theorem k1_off279_inb : ∀ (arg18 : BitVec 32) (v357 : BitVec 1) (v377 : BitVec 1) (v397 : BitVec 1) (v417 : BitVec 1) (v437 : BitVec 1) (k1_hw56 : k1_chk56 arg18 v357 v377 v397 v417 v437), ∀ a, (k1_off279 arg18 v357 v377 v397 v417 v437) a + S16.size a ≤ S2064.size a := fun arg18 v357 v377 v397 v417 v437 k1_hw56 => k1_hw56

def k1_off280 (arg18 : BitVec 32) (v357 : BitVec 1) (v377 : BitVec 1) (v397 : BitVec 1) (v417 : BitVec 1) (v437 : BitVec 1) (v457 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c2048_i32_319 : BitVec 32 := 2048#32
  let v458 : BitVec 32 := Scalar.select v457 v454 c2048_i32_319
  let v462 : Index := Scalar.indexCast v458
  ![v462.toNat]

def k1_chk57 (arg18 : BitVec 32) (v357 : BitVec 1) (v377 : BitVec 1) (v397 : BitVec 1) (v417 : BitVec 1) (v437 : BitVec 1) (v457 : BitVec 1) : Prop :=
  (∀ a, (k1_off280 arg18 v357 v377 v397 v417 v437 v457) a + S16.size a ≤ S2064.size a)
theorem k1_off280_inb : ∀ (arg18 : BitVec 32) (v357 : BitVec 1) (v377 : BitVec 1) (v397 : BitVec 1) (v417 : BitVec 1) (v437 : BitVec 1) (v457 : BitVec 1) (k1_hw57 : k1_chk57 arg18 v357 v377 v397 v417 v437 v457), ∀ a, (k1_off280 arg18 v357 v377 v397 v417 v437 v457) a + S16.size a ≤ S2064.size a := fun arg18 v357 v377 v397 v417 v437 v457 k1_hw57 => k1_hw57

def k1_off281 (arg18 : BitVec 32) (v357 : BitVec 1) (v377 : BitVec 1) (v397 : BitVec 1) (v417 : BitVec 1) (v437 : BitVec 1) (v457 : BitVec 1) (v477 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c2048_i32_322 : BitVec 32 := 2048#32
  let v478 : BitVec 32 := Scalar.select v477 v474 c2048_i32_322
  let v482 : Index := Scalar.indexCast v478
  ![v482.toNat]

def k1_chk58 (arg18 : BitVec 32) (v357 : BitVec 1) (v377 : BitVec 1) (v397 : BitVec 1) (v417 : BitVec 1) (v437 : BitVec 1) (v457 : BitVec 1) (v477 : BitVec 1) : Prop :=
  (∀ a, (k1_off281 arg18 v357 v377 v397 v417 v437 v457 v477) a + S16.size a ≤ S2064.size a)
theorem k1_off281_inb : ∀ (arg18 : BitVec 32) (v357 : BitVec 1) (v377 : BitVec 1) (v397 : BitVec 1) (v417 : BitVec 1) (v437 : BitVec 1) (v457 : BitVec 1) (v477 : BitVec 1) (k1_hw58 : k1_chk58 arg18 v357 v377 v397 v417 v437 v457 v477), ∀ a, (k1_off281 arg18 v357 v377 v397 v417 v437 v457 v477) a + S16.size a ≤ S2064.size a := fun arg18 v357 v377 v397 v417 v437 v457 v477 k1_hw58 => k1_hw58

def k1_off282 (arg18 : BitVec 32) (v357 : BitVec 1) (v377 : BitVec 1) (v397 : BitVec 1) (v417 : BitVec 1) (v437 : BitVec 1) (v457 : BitVec 1) (v477 : BitVec 1) (v497 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c2048_i32_325 : BitVec 32 := 2048#32
  let v498 : BitVec 32 := Scalar.select v497 v494 c2048_i32_325
  let v502 : Index := Scalar.indexCast v498
  ![v502.toNat]

def k1_chk59 (arg18 : BitVec 32) (v357 : BitVec 1) (v377 : BitVec 1) (v397 : BitVec 1) (v417 : BitVec 1) (v437 : BitVec 1) (v457 : BitVec 1) (v477 : BitVec 1) (v497 : BitVec 1) : Prop :=
  (∀ a, (k1_off282 arg18 v357 v377 v397 v417 v437 v457 v477 v497) a + S16.size a ≤ S2064.size a)
theorem k1_off282_inb : ∀ (arg18 : BitVec 32) (v357 : BitVec 1) (v377 : BitVec 1) (v397 : BitVec 1) (v417 : BitVec 1) (v437 : BitVec 1) (v457 : BitVec 1) (v477 : BitVec 1) (v497 : BitVec 1) (k1_hw59 : k1_chk59 arg18 v357 v377 v397 v417 v437 v457 v477 v497), ∀ a, (k1_off282 arg18 v357 v377 v397 v417 v437 v457 v477 v497) a + S16.size a ≤ S2064.size a := fun arg18 v357 v377 v397 v417 v437 v457 v477 v497 k1_hw59 => k1_hw59

def k1_off283 (arg18 : BitVec 32) (v357 : BitVec 1) (v377 : BitVec 1) (v397 : BitVec 1) (v417 : BitVec 1) (v437 : BitVec 1) (v457 : BitVec 1) (v477 : BitVec 1) (v497 : BitVec 1) (v517 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c2048_i32_328 : BitVec 32 := 2048#32
  let v518 : BitVec 32 := Scalar.select v517 v514 c2048_i32_328
  let v522 : Index := Scalar.indexCast v518
  ![v522.toNat]

def k1_chk60 (arg18 : BitVec 32) (v357 : BitVec 1) (v377 : BitVec 1) (v397 : BitVec 1) (v417 : BitVec 1) (v437 : BitVec 1) (v457 : BitVec 1) (v477 : BitVec 1) (v497 : BitVec 1) (v517 : BitVec 1) : Prop :=
  (∀ a, (k1_off283 arg18 v357 v377 v397 v417 v437 v457 v477 v497 v517) a + S16.size a ≤ S2064.size a)
theorem k1_off283_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (k1_hw60 : k1_chk60 arg18 v357 v377 v397 v417 v437 v457 v477 v497 v517), ∀ a, (k1_off283 arg18 v357 v377 v397 v417 v437 v457 v477 v497 v517) a + S16.size a ≤ S2064.size a := fun arg18 v357 v377 v397 v417 v437 v457 v477 v497 v517 k1_hw60 => k1_hw60

def k1_off284 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c2048_i32_331 : BitVec 32 := 2048#32
  let v538 : BitVec 32 := Scalar.select v537 v534 c2048_i32_331
  let v542 : Index := Scalar.indexCast v538
  ![v542.toNat]

def k1_chk61 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) : Prop :=
  (∀ a, (k1_off284 arg18 v357 v377 v397 v417 v437 v457 v477 v497 v517 v537) a + S16.size a ≤ S2064.size a)
theorem k1_off284_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (k1_hw61 : k1_chk61 arg18 v357 v377 v397 v417 v437 v457 v477 v497 v517 v537), ∀ a, (k1_off284 arg18 v357 v377 v397 v417 v437 v457 v477 v497 v517 v537) a + S16.size a ≤ S2064.size a := fun arg18 v357 v377 v397 v417 v437 v457 v477 v497 v517 v537 k1_hw61 => k1_hw61

def k1_off285 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c2048_i32_334 : BitVec 32 := 2048#32
  let v558 : BitVec 32 := Scalar.select v557 v554 c2048_i32_334
  let v562 : Index := Scalar.indexCast v558
  ![v562.toNat]

def k1_chk62 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) : Prop :=
  (∀ a, (k1_off285 arg18 v357 v377 v397 v417 v437 v457 v477 v497 v517 v537 v557) a + S16.size a ≤ S2064.size a)
theorem k1_off285_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (k1_hw62 : k1_chk62 arg18 v357 v377 v397 v417 v437 v457 v477 v497 v517 v537 v557), ∀ a, (k1_off285 arg18 v357 v377 v397 v417 v437 v457 v477 v497 v517 v537 v557) a + S16.size a ≤ S2064.size a := fun arg18 v357 v377 v397 v417 v437 v457 v477 v497 v517 v537 v557 k1_hw62 => k1_hw62

def k1_off286 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c2048_i32_337 : BitVec 32 := 2048#32
  let v578 : BitVec 32 := Scalar.select v577 v574 c2048_i32_337
  let v582 : Index := Scalar.indexCast v578
  ![v582.toNat]

def k1_chk63 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) : Prop :=
  (∀ a, (k1_off286 arg18 v357 v377 v397 v417 v437 v457 v477 v497 v517 v537 v557 v577) a + S16.size a ≤ S2064.size a)
theorem k1_off286_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (k1_hw63 : k1_chk63 arg18 v357 v377 v397 v417 v437 v457 v477 v497 v517 v537 v557 v577), ∀ a, (k1_off286 arg18 v357 v377 v397 v417 v437 v457 v477 v497 v517 v537 v557 v577) a + S16.size a ≤ S2064.size a := fun arg18 v357 v377 v397 v417 v437 v457 v477 v497 v517 v537 v557 v577 k1_hw63 => k1_hw63

def k1_off287 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c2048_i32_340 : BitVec 32 := 2048#32
  let v598 : BitVec 32 := Scalar.select v597 v594 c2048_i32_340
  let v602 : Index := Scalar.indexCast v598
  ![v602.toNat]

def k1_chk64 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) : Prop :=
  (∀ a, (k1_off287 arg18 v357 v377 v397 v417 v437 v457 v477 v497 v517 v537 v557 v577 v597) a + S16.size a ≤ S2064.size a)
theorem k1_off287_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (k1_hw64 : k1_chk64 arg18 v357 v377 v397 v417 v437 v457 v477 v497 v517 v537 v557 v577 v597), ∀ a, (k1_off287 arg18 v357 v377 v397 v417 v437 v457 v477 v497 v517 v537 v557 v577 v597) a + S16.size a ≤ S2064.size a := fun arg18 v357 v377 v397 v417 v437 v457 v477 v497 v517 v537 v557 v577 v597 k1_hw64 => k1_hw64

def k1_off288 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c1_i32_341 : BitVec 32 := 1#32
  let v613 : BitVec 32 := Scalar.addi v594 c1_i32_341
  let v614 : BitVec 32 := Scalar.select v597 v613 v594
  let c2048_i32_343 : BitVec 32 := 2048#32
  let v618 : BitVec 32 := Scalar.select v617 v614 c2048_i32_343
  let v622 : Index := Scalar.indexCast v618
  ![v622.toNat]

def k1_chk65 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) : Prop :=
  (∀ a, (k1_off288 arg18 v357 v377 v397 v417 v437 v457 v477 v497 v517 v537 v557 v577 v597 v617) a + S16.size a ≤ S2064.size a)
theorem k1_off288_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (k1_hw65 : k1_chk65 arg18 v357 v377 v397 v417 v437 v457 v477 v497 v517 v537 v557 v577 v597 v617), ∀ a, (k1_off288 arg18 v357 v377 v397 v417 v437 v457 v477 v497 v517 v537 v557 v577 v597 v617) a + S16.size a ≤ S2064.size a := fun arg18 v357 v377 v397 v417 v437 v457 v477 v497 v517 v537 v557 v577 v597 v617 k1_hw65 => k1_hw65

def k1_off289 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c1_i32_341 : BitVec 32 := 1#32
  let v613 : BitVec 32 := Scalar.addi v594 c1_i32_341
  let v614 : BitVec 32 := Scalar.select v597 v613 v594
  let c1_i32_344 : BitVec 32 := 1#32
  let v633 : BitVec 32 := Scalar.addi v614 c1_i32_344
  let v634 : BitVec 32 := Scalar.select v617 v633 v614
  let c2048_i32_346 : BitVec 32 := 2048#32
  let v638 : BitVec 32 := Scalar.select v637 v634 c2048_i32_346
  let v642 : Index := Scalar.indexCast v638
  ![v642.toNat]

def k1_chk66 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) : Prop :=
  (∀ a, (k1_off289 arg18 v357 v377 v397 v417 v437 v457 v477 v497 v517 v537 v557 v577 v597 v617 v637) a + S16.size a ≤ S2064.size a)
theorem k1_off289_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (k1_hw66 : k1_chk66 arg18 v357 v377 v397 v417 v437 v457 v477 v497 v517 v537 v557 v577 v597 v617 v637), ∀ a, (k1_off289 arg18 v357 v377 v397 v417 v437 v457 v477 v497 v517 v537 v557 v577 v597 v617 v637) a + S16.size a ≤ S2064.size a := fun arg18 v357 v377 v397 v417 v437 v457 v477 v497 v517 v537 v557 v577 v597 v617 v637 k1_hw66 => k1_hw66

def k1_off290 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (v657 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c1_i32_341 : BitVec 32 := 1#32
  let v613 : BitVec 32 := Scalar.addi v594 c1_i32_341
  let v614 : BitVec 32 := Scalar.select v597 v613 v594
  let c1_i32_344 : BitVec 32 := 1#32
  let v633 : BitVec 32 := Scalar.addi v614 c1_i32_344
  let v634 : BitVec 32 := Scalar.select v617 v633 v614
  let c1_i32_347 : BitVec 32 := 1#32
  let v653 : BitVec 32 := Scalar.addi v634 c1_i32_347
  let v654 : BitVec 32 := Scalar.select v637 v653 v634
  let c2048_i32_349 : BitVec 32 := 2048#32
  let v658 : BitVec 32 := Scalar.select v657 v654 c2048_i32_349
  let v662 : Index := Scalar.indexCast v658
  ![v662.toNat]

def k1_chk67 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (v657 : BitVec 1) : Prop :=
  (∀ a, (k1_off290 arg18 v357 v377 v397 v417 v437 v457 v477 v497 v517 v537 v557 v577 v597 v617 v637 v657) a + S16.size a ≤ S2064.size a)
theorem k1_off290_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (v657 : BitVec 1) (k1_hw67 : k1_chk67 arg18 v357 v377 v397 v417 v437 v457 v477 v497 v517 v537 v557 v577 v597 v617 v637 v657), ∀ a, (k1_off290 arg18 v357 v377 v397 v417 v437 v457 v477 v497 v517 v537 v557 v577 v597 v617 v637 v657) a + S16.size a ≤ S2064.size a := fun arg18 v357 v377 v397 v417 v437 v457 v477 v497 v517 v537 v557 v577 v597 v617 v637 v657 k1_hw67 => k1_hw67

def k1_off291 (v203 : BitVec 32) : Fin 1 → Nat :=
  let v204 : Index := Scalar.indexCast v203
  ![v204.toNat]

@[reducible] def k1_t27_loop (v203 : BitVec 32) : Scf.Loop 32 :=
  let c0_i32_236 : BitVec 32 := 0#32
  let c128_i32_226 : BitVec 32 := 128#32
  let v237 : BitVec 32 := Scalar.addi v203 c128_i32_226
  let c1_i32_227 : BitVec 32 := 1#32
  let v238 : BitVec 32 := Scalar.subi v237 c1_i32_227
  let c0_i32_229 : BitVec 32 := 0#32
  let v240 : BitVec 1 := Scalar.cmpi .sgt v238 c0_i32_229
  let v241 : BitVec 32 := Scalar.extui v240
  let c0_i32_230 : BitVec 32 := 0#32
  let v242 : BitVec 1 := Scalar.cmpi .slt v238 c0_i32_230
  let v243 : BitVec 32 := Scalar.extui v242
  let v244 : BitVec 32 := Scalar.subi v241 v243
  let c128_i32_228 : BitVec 32 := 128#32
  let c0_i32_231 : BitVec 32 := 0#32
  let v245 : BitVec 1 := Scalar.cmpi .sgt c128_i32_228 c0_i32_231
  let v246 : BitVec 32 := Scalar.extui v245
  let c0_i32_232 : BitVec 32 := 0#32
  let v247 : BitVec 1 := Scalar.cmpi .slt c128_i32_228 c0_i32_232
  let v248 : BitVec 32 := Scalar.extui v247
  let v249 : BitVec 32 := Scalar.subi v246 v248
  let v250 : BitVec 1 := Scalar.cmpi .ne v244 v249
  let v251 : BitVec 32 := Scalar.remsi v238 c128_i32_228
  let c0_i32_233 : BitVec 32 := 0#32
  let v252 : BitVec 1 := Scalar.cmpi .ne v251 c0_i32_233
  let v253 : BitVec 1 := Scalar.andi v250 v252
  let v239 : BitVec 32 := Scalar.divsi v238 c128_i32_228
  let c1_i32_234 : BitVec 32 := 1#32
  let v254 : BitVec 32 := Scalar.subi v239 c1_i32_234
  let v255 : BitVec 32 := Scalar.select v253 v254 v239
  let c1_i32_235 : BitVec 32 := 1#32
  let v256 : BitVec 32 := Scalar.maxsi v255 c1_i32_235
  let v257 : BitVec 32 := Scalar.subi v256 c0_i32_236
  let c1_i32_237 : BitVec 32 := 1#32
  let v259 : BitVec 32 := Scalar.divsi v257 c1_i32_237
  let v260 : BitVec 32 := Scalar.muli v259 c1_i32_237
  let v261 : BitVec 32 := Scalar.addi c0_i32_236 v260
  let c1_i32_238 : BitVec 32 := 1#32
  ⟨c0_i32_236, v261, c1_i32_238⟩
def k1_off292 (v203 : BitVec 32) (k1_t27 : Fin (k1_t27_loop v203).trips) (c0_i32_303 : BitVec 32) : Fin 1 → Nat :=
  let c0_i32_236 : BitVec 32 := 0#32
  let c1_i32_238 : BitVec 32 := 1#32
  let arg17 : BitVec 32 := Scf.iv c0_i32_236 c1_i32_238 k1_t27
  let c2_i32_302 : BitVec 32 := 2#32
  let v343 : BitVec 32 := Scalar.muli arg17 c2_i32_302
  let v344 : BitVec 32 := Scalar.addi v343 c0_i32_303
  let c64_i32_304 : BitVec 32 := 64#32
  let v345 : BitVec 32 := Scalar.muli v344 c64_i32_304
  ![v345.toNat]
@[reducible] def k1_t28_loop : Scf.Loop 32 :=
  let c0_i32_322 : BitVec 32 := 0#32
  let c32_i32 : BitVec 32 := 32#32
  let v359 : BitVec 32 := Scalar.addi c0_i32_322 c32_i32
  let c1_i32_323 : BitVec 32 := 1#32
  ⟨c0_i32_322, v359, c1_i32_323⟩
def k1_off293 (k1_t28 : Fin k1_t28_loop.trips) (c0_i32_356 : BitVec 32) : Fin 4 → Nat :=
  let c0_i32_357 : BitVec 32 := 0#32
  let v391 : Index := Scalar.indexCast c0_i32_357
  let c0_i32_358 : BitVec 32 := 0#32
  let v392 : Index := Scalar.indexCast c0_i32_358
  let c0_i32_322 : BitVec 32 := 0#32
  let c1_i32_323 : BitVec 32 := 1#32
  let arg26 : BitVec 32 := Scf.iv c0_i32_322 c1_i32_323 k1_t28
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 0, v393.toNat, 0]
def k1_off294 (k1_t28 : Fin k1_t28_loop.trips) (c0_i32_356 : BitVec 32) : Fin 4 → Nat :=
  let c1_i32_360 : BitVec 32 := 1#32
  let v396 : Index := Scalar.indexCast c1_i32_360
  let c0_i32_361 : BitVec 32 := 0#32
  let v397 : Index := Scalar.indexCast c0_i32_361
  let c0_i32_322 : BitVec 32 := 0#32
  let c1_i32_323 : BitVec 32 := 1#32
  let arg26 : BitVec 32 := Scf.iv c0_i32_322 c1_i32_323 k1_t28
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 0, v398.toNat, 0]
def k1_off295 (k1_t28 : Fin k1_t28_loop.trips) (c0_i32_356 : BitVec 32) : Fin 4 → Nat :=
  let c0_i32_363 : BitVec 32 := 0#32
  let v403 : Index := Scalar.indexCast c0_i32_363
  let c0_i32_364 : BitVec 32 := 0#32
  let v404 : Index := Scalar.indexCast c0_i32_364
  let c0_i32_322 : BitVec 32 := 0#32
  let c1_i32_323 : BitVec 32 := 1#32
  let arg26 : BitVec 32 := Scf.iv c0_i32_322 c1_i32_323 k1_t28
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 0, v405.toNat, 16]
def k1_off296 (k1_t28 : Fin k1_t28_loop.trips) (c0_i32_356 : BitVec 32) : Fin 4 → Nat :=
  let c1_i32_365 : BitVec 32 := 1#32
  let v408 : Index := Scalar.indexCast c1_i32_365
  let c0_i32_366 : BitVec 32 := 0#32
  let v409 : Index := Scalar.indexCast c0_i32_366
  let c0_i32_322 : BitVec 32 := 0#32
  let c1_i32_323 : BitVec 32 := 1#32
  let arg26 : BitVec 32 := Scf.iv c0_i32_322 c1_i32_323 k1_t28
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 0, v410.toNat, 16]
def k1_off297 (k1_t28 : Fin k1_t28_loop.trips) (c0_i32_356 : BitVec 32) : Fin 4 → Nat :=
  let c0_i32_368 : BitVec 32 := 0#32
  let v415 : Index := Scalar.indexCast c0_i32_368
  let c0_i32_369 : BitVec 32 := 0#32
  let v416 : Index := Scalar.indexCast c0_i32_369
  let c0_i32_322 : BitVec 32 := 0#32
  let c1_i32_323 : BitVec 32 := 1#32
  let arg26 : BitVec 32 := Scf.iv c0_i32_322 c1_i32_323 k1_t28
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 0, v417.toNat, 32]
def k1_off298 (k1_t28 : Fin k1_t28_loop.trips) (c0_i32_356 : BitVec 32) : Fin 4 → Nat :=
  let c1_i32_370 : BitVec 32 := 1#32
  let v420 : Index := Scalar.indexCast c1_i32_370
  let c0_i32_371 : BitVec 32 := 0#32
  let v421 : Index := Scalar.indexCast c0_i32_371
  let c0_i32_322 : BitVec 32 := 0#32
  let c1_i32_323 : BitVec 32 := 1#32
  let arg26 : BitVec 32 := Scf.iv c0_i32_322 c1_i32_323 k1_t28
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 0, v422.toNat, 32]
def k1_off299 (k1_t28 : Fin k1_t28_loop.trips) (c0_i32_356 : BitVec 32) : Fin 4 → Nat :=
  let c0_i32_373 : BitVec 32 := 0#32
  let v427 : Index := Scalar.indexCast c0_i32_373
  let c0_i32_374 : BitVec 32 := 0#32
  let v428 : Index := Scalar.indexCast c0_i32_374
  let c0_i32_322 : BitVec 32 := 0#32
  let c1_i32_323 : BitVec 32 := 1#32
  let arg26 : BitVec 32 := Scf.iv c0_i32_322 c1_i32_323 k1_t28
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 0, v429.toNat, 48]
def k1_off300 (k1_t28 : Fin k1_t28_loop.trips) (c0_i32_356 : BitVec 32) : Fin 4 → Nat :=
  let c1_i32_375 : BitVec 32 := 1#32
  let v432 : Index := Scalar.indexCast c1_i32_375
  let c0_i32_376 : BitVec 32 := 0#32
  let v433 : Index := Scalar.indexCast c0_i32_376
  let c0_i32_322 : BitVec 32 := 0#32
  let c1_i32_323 : BitVec 32 := 1#32
  let arg26 : BitVec 32 := Scf.iv c0_i32_322 c1_i32_323 k1_t28
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 0, v434.toNat, 48]
def k1_off301 (k1_t28 : Fin k1_t28_loop.trips) (c0_i32_356 : BitVec 32) : Fin 4 → Nat :=
  let c0_i32_378 : BitVec 32 := 0#32
  let v439 : Index := Scalar.indexCast c0_i32_378
  let c0_i32_379 : BitVec 32 := 0#32
  let v440 : Index := Scalar.indexCast c0_i32_379
  let c0_i32_322 : BitVec 32 := 0#32
  let c1_i32_323 : BitVec 32 := 1#32
  let arg26 : BitVec 32 := Scf.iv c0_i32_322 c1_i32_323 k1_t28
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 0, v441.toNat, 64]
def k1_off302 (k1_t28 : Fin k1_t28_loop.trips) (c0_i32_356 : BitVec 32) : Fin 4 → Nat :=
  let c1_i32_380 : BitVec 32 := 1#32
  let v444 : Index := Scalar.indexCast c1_i32_380
  let c0_i32_381 : BitVec 32 := 0#32
  let v445 : Index := Scalar.indexCast c0_i32_381
  let c0_i32_322 : BitVec 32 := 0#32
  let c1_i32_323 : BitVec 32 := 1#32
  let arg26 : BitVec 32 := Scf.iv c0_i32_322 c1_i32_323 k1_t28
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 0, v446.toNat, 64]
def k1_off303 (k1_t28 : Fin k1_t28_loop.trips) (c0_i32_356 : BitVec 32) : Fin 4 → Nat :=
  let c0_i32_383 : BitVec 32 := 0#32
  let v451 : Index := Scalar.indexCast c0_i32_383
  let c0_i32_384 : BitVec 32 := 0#32
  let v452 : Index := Scalar.indexCast c0_i32_384
  let c0_i32_322 : BitVec 32 := 0#32
  let c1_i32_323 : BitVec 32 := 1#32
  let arg26 : BitVec 32 := Scf.iv c0_i32_322 c1_i32_323 k1_t28
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 0, v453.toNat, 80]
def k1_off304 (k1_t28 : Fin k1_t28_loop.trips) (c0_i32_356 : BitVec 32) : Fin 4 → Nat :=
  let c1_i32_385 : BitVec 32 := 1#32
  let v456 : Index := Scalar.indexCast c1_i32_385
  let c0_i32_386 : BitVec 32 := 0#32
  let v457 : Index := Scalar.indexCast c0_i32_386
  let c0_i32_322 : BitVec 32 := 0#32
  let c1_i32_323 : BitVec 32 := 1#32
  let arg26 : BitVec 32 := Scf.iv c0_i32_322 c1_i32_323 k1_t28
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 0, v458.toNat, 80]
def k1_off305 (k1_t28 : Fin k1_t28_loop.trips) (c0_i32_356 : BitVec 32) : Fin 4 → Nat :=
  let c0_i32_388 : BitVec 32 := 0#32
  let v463 : Index := Scalar.indexCast c0_i32_388
  let c0_i32_389 : BitVec 32 := 0#32
  let v464 : Index := Scalar.indexCast c0_i32_389
  let c0_i32_322 : BitVec 32 := 0#32
  let c1_i32_323 : BitVec 32 := 1#32
  let arg26 : BitVec 32 := Scf.iv c0_i32_322 c1_i32_323 k1_t28
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 0, v465.toNat, 96]
def k1_off306 (k1_t28 : Fin k1_t28_loop.trips) (c0_i32_356 : BitVec 32) : Fin 4 → Nat :=
  let c1_i32_390 : BitVec 32 := 1#32
  let v468 : Index := Scalar.indexCast c1_i32_390
  let c0_i32_391 : BitVec 32 := 0#32
  let v469 : Index := Scalar.indexCast c0_i32_391
  let c0_i32_322 : BitVec 32 := 0#32
  let c1_i32_323 : BitVec 32 := 1#32
  let arg26 : BitVec 32 := Scf.iv c0_i32_322 c1_i32_323 k1_t28
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 0, v470.toNat, 96]
def k1_off307 (k1_t28 : Fin k1_t28_loop.trips) (c0_i32_356 : BitVec 32) : Fin 4 → Nat :=
  let c0_i32_393 : BitVec 32 := 0#32
  let v475 : Index := Scalar.indexCast c0_i32_393
  let c0_i32_394 : BitVec 32 := 0#32
  let v476 : Index := Scalar.indexCast c0_i32_394
  let c0_i32_322 : BitVec 32 := 0#32
  let c1_i32_323 : BitVec 32 := 1#32
  let arg26 : BitVec 32 := Scf.iv c0_i32_322 c1_i32_323 k1_t28
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 0, v477.toNat, 112]
def k1_off308 (k1_t28 : Fin k1_t28_loop.trips) (c0_i32_356 : BitVec 32) : Fin 4 → Nat :=
  let c1_i32_395 : BitVec 32 := 1#32
  let v480 : Index := Scalar.indexCast c1_i32_395
  let c0_i32_396 : BitVec 32 := 0#32
  let v481 : Index := Scalar.indexCast c0_i32_396
  let c0_i32_322 : BitVec 32 := 0#32
  let c1_i32_323 : BitVec 32 := 1#32
  let arg26 : BitVec 32 := Scf.iv c0_i32_322 c1_i32_323 k1_t28
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 0, v482.toNat, 112]
def k1_off309 (v203 : BitVec 32) (k1_t27 : Fin (k1_t27_loop v203).trips) : Fin 1 → Nat :=
  let c0_i32_236 : BitVec 32 := 0#32
  let c1_i32_238 : BitVec 32 := 1#32
  let arg17 : BitVec 32 := Scf.iv c0_i32_236 c1_i32_238 k1_t27
  let c2_i32_302 : BitVec 32 := 2#32
  let v343 : BitVec 32 := Scalar.muli arg17 c2_i32_302
  let c0_i32_303 : BitVec 32 := 0#32
  let v344 : BitVec 32 := Scalar.addi v343 c0_i32_303
  let c2_i32_355 : BitVec 32 := 2#32
  let v389 : BitVec 32 := Scalar.addi v344 c2_i32_355
  let c64_i32_356 : BitVec 32 := 64#32
  let v390 : BitVec 32 := Scalar.muli v389 c64_i32_356
  ![v390.toNat]
def k1_cond13 (v203 : BitVec 32) (k1_t27 : Fin (k1_t27_loop v203).trips) : BitVec 1 :=
  let c0_i32_236 : BitVec 32 := 0#32
  let c1_i32_238 : BitVec 32 := 1#32
  let arg17 : BitVec 32 := Scf.iv c0_i32_236 c1_i32_238 k1_t27
  let c2_i32_302 : BitVec 32 := 2#32
  let v343 : BitVec 32 := Scalar.muli arg17 c2_i32_302
  let c0_i32_303 : BitVec 32 := 0#32
  let v344 : BitVec 32 := Scalar.addi v343 c0_i32_303
  let c2_i32_325 : BitVec 32 := 2#32
  let v361 : BitVec 32 := Scalar.addi v344 c2_i32_325
  let c128_i32_226 : BitVec 32 := 128#32
  let v237 : BitVec 32 := Scalar.addi v203 c128_i32_226
  let c1_i32_227 : BitVec 32 := 1#32
  let v238 : BitVec 32 := Scalar.subi v237 c1_i32_227
  let c0_i32_229 : BitVec 32 := 0#32
  let v240 : BitVec 1 := Scalar.cmpi .sgt v238 c0_i32_229
  let v241 : BitVec 32 := Scalar.extui v240
  let c0_i32_230 : BitVec 32 := 0#32
  let v242 : BitVec 1 := Scalar.cmpi .slt v238 c0_i32_230
  let v243 : BitVec 32 := Scalar.extui v242
  let v244 : BitVec 32 := Scalar.subi v241 v243
  let c128_i32_228 : BitVec 32 := 128#32
  let c0_i32_231 : BitVec 32 := 0#32
  let v245 : BitVec 1 := Scalar.cmpi .sgt c128_i32_228 c0_i32_231
  let v246 : BitVec 32 := Scalar.extui v245
  let c0_i32_232 : BitVec 32 := 0#32
  let v247 : BitVec 1 := Scalar.cmpi .slt c128_i32_228 c0_i32_232
  let v248 : BitVec 32 := Scalar.extui v247
  let v249 : BitVec 32 := Scalar.subi v246 v248
  let v250 : BitVec 1 := Scalar.cmpi .ne v244 v249
  let v251 : BitVec 32 := Scalar.remsi v238 c128_i32_228
  let c0_i32_233 : BitVec 32 := 0#32
  let v252 : BitVec 1 := Scalar.cmpi .ne v251 c0_i32_233
  let v253 : BitVec 1 := Scalar.andi v250 v252
  let v239 : BitVec 32 := Scalar.divsi v238 c128_i32_228
  let c1_i32_234 : BitVec 32 := 1#32
  let v254 : BitVec 32 := Scalar.subi v239 c1_i32_234
  let v255 : BitVec 32 := Scalar.select v253 v254 v239
  let c1_i32_235 : BitVec 32 := 1#32
  let v256 : BitVec 32 := Scalar.maxsi v255 c1_i32_235
  let c2_i32_326 : BitVec 32 := 2#32
  let v362 : BitVec 32 := Scalar.muli v256 c2_i32_326
  let v363 : BitVec 1 := Scalar.cmpi .slt v361 v362
  let v364 : BitVec 32 := Scalar.extui v363
  let c0_i32_327 : BitVec 32 := 0#32
  let v365 : BitVec 1 := Scalar.cmpi .ne v364 c0_i32_327
  v365

@[reducible] def k1_t29_loop : Scf.Loop 32 :=
  let c0_i32_348 : BitVec 32 := 0#32
  let c32_i32_349 : BitVec 32 := 32#32
  let v382 : BitVec 32 := Scalar.addi c0_i32_348 c32_i32_349
  let c1_i32_350 : BitVec 32 := 1#32
  ⟨c0_i32_348, v382, c1_i32_350⟩
def k1_off310 (k1_t29 : Fin k1_t29_loop.trips) (c0_i32_356 : BitVec 32) : Fin 4 → Nat :=
  let c0_i32_357 : BitVec 32 := 0#32
  let v391 : Index := Scalar.indexCast c0_i32_357
  let c1_i32_358 : BitVec 32 := 1#32
  let v392 : Index := Scalar.indexCast c1_i32_358
  let c0_i32_348 : BitVec 32 := 0#32
  let c1_i32_350 : BitVec 32 := 1#32
  let arg26 : BitVec 32 := Scf.iv c0_i32_348 c1_i32_350 k1_t29
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 1, v393.toNat, 0]
def k1_off311 (k1_t29 : Fin k1_t29_loop.trips) (c0_i32_356 : BitVec 32) : Fin 4 → Nat :=
  let c1_i32_360 : BitVec 32 := 1#32
  let v396 : Index := Scalar.indexCast c1_i32_360
  let c1_i32_361 : BitVec 32 := 1#32
  let v397 : Index := Scalar.indexCast c1_i32_361
  let c0_i32_348 : BitVec 32 := 0#32
  let c1_i32_350 : BitVec 32 := 1#32
  let arg26 : BitVec 32 := Scf.iv c0_i32_348 c1_i32_350 k1_t29
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 1, v398.toNat, 0]
def k1_off312 (k1_t29 : Fin k1_t29_loop.trips) (c0_i32_356 : BitVec 32) : Fin 4 → Nat :=
  let c0_i32_363 : BitVec 32 := 0#32
  let v403 : Index := Scalar.indexCast c0_i32_363
  let c1_i32_364 : BitVec 32 := 1#32
  let v404 : Index := Scalar.indexCast c1_i32_364
  let c0_i32_348 : BitVec 32 := 0#32
  let c1_i32_350 : BitVec 32 := 1#32
  let arg26 : BitVec 32 := Scf.iv c0_i32_348 c1_i32_350 k1_t29
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 1, v405.toNat, 16]
def k1_off313 (k1_t29 : Fin k1_t29_loop.trips) (c0_i32_356 : BitVec 32) : Fin 4 → Nat :=
  let c1_i32_365 : BitVec 32 := 1#32
  let v408 : Index := Scalar.indexCast c1_i32_365
  let c1_i32_366 : BitVec 32 := 1#32
  let v409 : Index := Scalar.indexCast c1_i32_366
  let c0_i32_348 : BitVec 32 := 0#32
  let c1_i32_350 : BitVec 32 := 1#32
  let arg26 : BitVec 32 := Scf.iv c0_i32_348 c1_i32_350 k1_t29
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 1, v410.toNat, 16]
def k1_off314 (k1_t29 : Fin k1_t29_loop.trips) (c0_i32_356 : BitVec 32) : Fin 4 → Nat :=
  let c0_i32_368 : BitVec 32 := 0#32
  let v415 : Index := Scalar.indexCast c0_i32_368
  let c1_i32_369 : BitVec 32 := 1#32
  let v416 : Index := Scalar.indexCast c1_i32_369
  let c0_i32_348 : BitVec 32 := 0#32
  let c1_i32_350 : BitVec 32 := 1#32
  let arg26 : BitVec 32 := Scf.iv c0_i32_348 c1_i32_350 k1_t29
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 1, v417.toNat, 32]
def k1_off315 (k1_t29 : Fin k1_t29_loop.trips) (c0_i32_356 : BitVec 32) : Fin 4 → Nat :=
  let c1_i32_370 : BitVec 32 := 1#32
  let v420 : Index := Scalar.indexCast c1_i32_370
  let c1_i32_371 : BitVec 32 := 1#32
  let v421 : Index := Scalar.indexCast c1_i32_371
  let c0_i32_348 : BitVec 32 := 0#32
  let c1_i32_350 : BitVec 32 := 1#32
  let arg26 : BitVec 32 := Scf.iv c0_i32_348 c1_i32_350 k1_t29
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 1, v422.toNat, 32]
def k1_off316 (k1_t29 : Fin k1_t29_loop.trips) (c0_i32_356 : BitVec 32) : Fin 4 → Nat :=
  let c0_i32_373 : BitVec 32 := 0#32
  let v427 : Index := Scalar.indexCast c0_i32_373
  let c1_i32_374 : BitVec 32 := 1#32
  let v428 : Index := Scalar.indexCast c1_i32_374
  let c0_i32_348 : BitVec 32 := 0#32
  let c1_i32_350 : BitVec 32 := 1#32
  let arg26 : BitVec 32 := Scf.iv c0_i32_348 c1_i32_350 k1_t29
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 1, v429.toNat, 48]
def k1_off317 (k1_t29 : Fin k1_t29_loop.trips) (c0_i32_356 : BitVec 32) : Fin 4 → Nat :=
  let c1_i32_375 : BitVec 32 := 1#32
  let v432 : Index := Scalar.indexCast c1_i32_375
  let c1_i32_376 : BitVec 32 := 1#32
  let v433 : Index := Scalar.indexCast c1_i32_376
  let c0_i32_348 : BitVec 32 := 0#32
  let c1_i32_350 : BitVec 32 := 1#32
  let arg26 : BitVec 32 := Scf.iv c0_i32_348 c1_i32_350 k1_t29
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 1, v434.toNat, 48]
def k1_off318 (k1_t29 : Fin k1_t29_loop.trips) (c0_i32_356 : BitVec 32) : Fin 4 → Nat :=
  let c0_i32_378 : BitVec 32 := 0#32
  let v439 : Index := Scalar.indexCast c0_i32_378
  let c1_i32_379 : BitVec 32 := 1#32
  let v440 : Index := Scalar.indexCast c1_i32_379
  let c0_i32_348 : BitVec 32 := 0#32
  let c1_i32_350 : BitVec 32 := 1#32
  let arg26 : BitVec 32 := Scf.iv c0_i32_348 c1_i32_350 k1_t29
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 1, v441.toNat, 64]
def k1_off319 (k1_t29 : Fin k1_t29_loop.trips) (c0_i32_356 : BitVec 32) : Fin 4 → Nat :=
  let c1_i32_380 : BitVec 32 := 1#32
  let v444 : Index := Scalar.indexCast c1_i32_380
  let c1_i32_381 : BitVec 32 := 1#32
  let v445 : Index := Scalar.indexCast c1_i32_381
  let c0_i32_348 : BitVec 32 := 0#32
  let c1_i32_350 : BitVec 32 := 1#32
  let arg26 : BitVec 32 := Scf.iv c0_i32_348 c1_i32_350 k1_t29
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 1, v446.toNat, 64]
def k1_off320 (k1_t29 : Fin k1_t29_loop.trips) (c0_i32_356 : BitVec 32) : Fin 4 → Nat :=
  let c0_i32_383 : BitVec 32 := 0#32
  let v451 : Index := Scalar.indexCast c0_i32_383
  let c1_i32_384 : BitVec 32 := 1#32
  let v452 : Index := Scalar.indexCast c1_i32_384
  let c0_i32_348 : BitVec 32 := 0#32
  let c1_i32_350 : BitVec 32 := 1#32
  let arg26 : BitVec 32 := Scf.iv c0_i32_348 c1_i32_350 k1_t29
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 1, v453.toNat, 80]
def k1_off321 (k1_t29 : Fin k1_t29_loop.trips) (c0_i32_356 : BitVec 32) : Fin 4 → Nat :=
  let c1_i32_385 : BitVec 32 := 1#32
  let v456 : Index := Scalar.indexCast c1_i32_385
  let c1_i32_386 : BitVec 32 := 1#32
  let v457 : Index := Scalar.indexCast c1_i32_386
  let c0_i32_348 : BitVec 32 := 0#32
  let c1_i32_350 : BitVec 32 := 1#32
  let arg26 : BitVec 32 := Scf.iv c0_i32_348 c1_i32_350 k1_t29
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 1, v458.toNat, 80]
def k1_off322 (k1_t29 : Fin k1_t29_loop.trips) (c0_i32_356 : BitVec 32) : Fin 4 → Nat :=
  let c0_i32_388 : BitVec 32 := 0#32
  let v463 : Index := Scalar.indexCast c0_i32_388
  let c1_i32_389 : BitVec 32 := 1#32
  let v464 : Index := Scalar.indexCast c1_i32_389
  let c0_i32_348 : BitVec 32 := 0#32
  let c1_i32_350 : BitVec 32 := 1#32
  let arg26 : BitVec 32 := Scf.iv c0_i32_348 c1_i32_350 k1_t29
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 1, v465.toNat, 96]
def k1_off323 (k1_t29 : Fin k1_t29_loop.trips) (c0_i32_356 : BitVec 32) : Fin 4 → Nat :=
  let c1_i32_390 : BitVec 32 := 1#32
  let v468 : Index := Scalar.indexCast c1_i32_390
  let c1_i32_391 : BitVec 32 := 1#32
  let v469 : Index := Scalar.indexCast c1_i32_391
  let c0_i32_348 : BitVec 32 := 0#32
  let c1_i32_350 : BitVec 32 := 1#32
  let arg26 : BitVec 32 := Scf.iv c0_i32_348 c1_i32_350 k1_t29
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 1, v470.toNat, 96]
def k1_off324 (k1_t29 : Fin k1_t29_loop.trips) (c0_i32_356 : BitVec 32) : Fin 4 → Nat :=
  let c0_i32_393 : BitVec 32 := 0#32
  let v475 : Index := Scalar.indexCast c0_i32_393
  let c1_i32_394 : BitVec 32 := 1#32
  let v476 : Index := Scalar.indexCast c1_i32_394
  let c0_i32_348 : BitVec 32 := 0#32
  let c1_i32_350 : BitVec 32 := 1#32
  let arg26 : BitVec 32 := Scf.iv c0_i32_348 c1_i32_350 k1_t29
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 1, v477.toNat, 112]
def k1_off325 (k1_t29 : Fin k1_t29_loop.trips) (c0_i32_356 : BitVec 32) : Fin 4 → Nat :=
  let c1_i32_395 : BitVec 32 := 1#32
  let v480 : Index := Scalar.indexCast c1_i32_395
  let c1_i32_396 : BitVec 32 := 1#32
  let v481 : Index := Scalar.indexCast c1_i32_396
  let c0_i32_348 : BitVec 32 := 0#32
  let c1_i32_350 : BitVec 32 := 1#32
  let arg26 : BitVec 32 := Scf.iv c0_i32_348 c1_i32_350 k1_t29
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 1, v482.toNat, 112]
def k1_off326 (v203 : BitVec 32) (k1_t27 : Fin (k1_t27_loop v203).trips) : Fin 1 → Nat :=
  let c0_i32_236 : BitVec 32 := 0#32
  let c1_i32_238 : BitVec 32 := 1#32
  let arg17 : BitVec 32 := Scf.iv c0_i32_236 c1_i32_238 k1_t27
  let c2_i32_328 : BitVec 32 := 2#32
  let v366 : BitVec 32 := Scalar.muli arg17 c2_i32_328
  let c1_i32_329 : BitVec 32 := 1#32
  let v367 : BitVec 32 := Scalar.addi v366 c1_i32_329
  let c2_i32_355 : BitVec 32 := 2#32
  let v389 : BitVec 32 := Scalar.addi v367 c2_i32_355
  let c64_i32_356 : BitVec 32 := 64#32
  let v390 : BitVec 32 := Scalar.muli v389 c64_i32_356
  ![v390.toNat]
def k1_cond14 (v203 : BitVec 32) (k1_t27 : Fin (k1_t27_loop v203).trips) : BitVec 1 :=
  let c0_i32_236 : BitVec 32 := 0#32
  let c1_i32_238 : BitVec 32 := 1#32
  let arg17 : BitVec 32 := Scf.iv c0_i32_236 c1_i32_238 k1_t27
  let c2_i32_328 : BitVec 32 := 2#32
  let v366 : BitVec 32 := Scalar.muli arg17 c2_i32_328
  let c1_i32_329 : BitVec 32 := 1#32
  let v367 : BitVec 32 := Scalar.addi v366 c1_i32_329
  let c2_i32_352 : BitVec 32 := 2#32
  let v384 : BitVec 32 := Scalar.addi v367 c2_i32_352
  let c128_i32_226 : BitVec 32 := 128#32
  let v237 : BitVec 32 := Scalar.addi v203 c128_i32_226
  let c1_i32_227 : BitVec 32 := 1#32
  let v238 : BitVec 32 := Scalar.subi v237 c1_i32_227
  let c0_i32_229 : BitVec 32 := 0#32
  let v240 : BitVec 1 := Scalar.cmpi .sgt v238 c0_i32_229
  let v241 : BitVec 32 := Scalar.extui v240
  let c0_i32_230 : BitVec 32 := 0#32
  let v242 : BitVec 1 := Scalar.cmpi .slt v238 c0_i32_230
  let v243 : BitVec 32 := Scalar.extui v242
  let v244 : BitVec 32 := Scalar.subi v241 v243
  let c128_i32_228 : BitVec 32 := 128#32
  let c0_i32_231 : BitVec 32 := 0#32
  let v245 : BitVec 1 := Scalar.cmpi .sgt c128_i32_228 c0_i32_231
  let v246 : BitVec 32 := Scalar.extui v245
  let c0_i32_232 : BitVec 32 := 0#32
  let v247 : BitVec 1 := Scalar.cmpi .slt c128_i32_228 c0_i32_232
  let v248 : BitVec 32 := Scalar.extui v247
  let v249 : BitVec 32 := Scalar.subi v246 v248
  let v250 : BitVec 1 := Scalar.cmpi .ne v244 v249
  let v251 : BitVec 32 := Scalar.remsi v238 c128_i32_228
  let c0_i32_233 : BitVec 32 := 0#32
  let v252 : BitVec 1 := Scalar.cmpi .ne v251 c0_i32_233
  let v253 : BitVec 1 := Scalar.andi v250 v252
  let v239 : BitVec 32 := Scalar.divsi v238 c128_i32_228
  let c1_i32_234 : BitVec 32 := 1#32
  let v254 : BitVec 32 := Scalar.subi v239 c1_i32_234
  let v255 : BitVec 32 := Scalar.select v253 v254 v239
  let c1_i32_235 : BitVec 32 := 1#32
  let v256 : BitVec 32 := Scalar.maxsi v255 c1_i32_235
  let c2_i32_353 : BitVec 32 := 2#32
  let v385 : BitVec 32 := Scalar.muli v256 c2_i32_353
  let v386 : BitVec 1 := Scalar.cmpi .slt v384 v385
  let v387 : BitVec 32 := Scalar.extui v386
  let c0_i32_354 : BitVec 32 := 0#32
  let v388 : BitVec 1 := Scalar.cmpi .ne v387 c0_i32_354
  v388

@[reducible] def k1_t30_loop (v203 : BitVec 32) : Scf.Loop 32 :=
  let c0_i32_236 : BitVec 32 := 0#32
  let c128_i32_226 : BitVec 32 := 128#32
  let v237 : BitVec 32 := Scalar.addi v203 c128_i32_226
  let c1_i32_227 : BitVec 32 := 1#32
  let v238 : BitVec 32 := Scalar.subi v237 c1_i32_227
  let c0_i32_229 : BitVec 32 := 0#32
  let v240 : BitVec 1 := Scalar.cmpi .sgt v238 c0_i32_229
  let v241 : BitVec 32 := Scalar.extui v240
  let c0_i32_230 : BitVec 32 := 0#32
  let v242 : BitVec 1 := Scalar.cmpi .slt v238 c0_i32_230
  let v243 : BitVec 32 := Scalar.extui v242
  let v244 : BitVec 32 := Scalar.subi v241 v243
  let c128_i32_228 : BitVec 32 := 128#32
  let c0_i32_231 : BitVec 32 := 0#32
  let v245 : BitVec 1 := Scalar.cmpi .sgt c128_i32_228 c0_i32_231
  let v246 : BitVec 32 := Scalar.extui v245
  let c0_i32_232 : BitVec 32 := 0#32
  let v247 : BitVec 1 := Scalar.cmpi .slt c128_i32_228 c0_i32_232
  let v248 : BitVec 32 := Scalar.extui v247
  let v249 : BitVec 32 := Scalar.subi v246 v248
  let v250 : BitVec 1 := Scalar.cmpi .ne v244 v249
  let v251 : BitVec 32 := Scalar.remsi v238 c128_i32_228
  let c0_i32_233 : BitVec 32 := 0#32
  let v252 : BitVec 1 := Scalar.cmpi .ne v251 c0_i32_233
  let v253 : BitVec 1 := Scalar.andi v250 v252
  let v239 : BitVec 32 := Scalar.divsi v238 c128_i32_228
  let c1_i32_234 : BitVec 32 := 1#32
  let v254 : BitVec 32 := Scalar.subi v239 c1_i32_234
  let v255 : BitVec 32 := Scalar.select v253 v254 v239
  let c1_i32_235 : BitVec 32 := 1#32
  let v256 : BitVec 32 := Scalar.maxsi v255 c1_i32_235
  let v257 : BitVec 32 := Scalar.subi v256 c0_i32_236
  let c1_i32_237 : BitVec 32 := 1#32
  let v259 : BitVec 32 := Scalar.divsi v257 c1_i32_237
  let v260 : BitVec 32 := Scalar.muli v259 c1_i32_237
  let v261 : BitVec 32 := Scalar.addi c0_i32_236 v260
  let v258 : BitVec 32 := Scalar.addi c0_i32_236 v257
  let c1_i32_239 : BitVec 32 := 1#32
  ⟨v261, v258, c1_i32_239⟩
def k1_off327 (v203 : BitVec 32) (k1_t30 : Fin (k1_t30_loop v203).trips) (c0_i32_303 : BitVec 32) : Fin 1 → Nat :=
  let c0_i32_236 : BitVec 32 := 0#32
  let c128_i32_226 : BitVec 32 := 128#32
  let v237 : BitVec 32 := Scalar.addi v203 c128_i32_226
  let c1_i32_227 : BitVec 32 := 1#32
  let v238 : BitVec 32 := Scalar.subi v237 c1_i32_227
  let c0_i32_229 : BitVec 32 := 0#32
  let v240 : BitVec 1 := Scalar.cmpi .sgt v238 c0_i32_229
  let v241 : BitVec 32 := Scalar.extui v240
  let c0_i32_230 : BitVec 32 := 0#32
  let v242 : BitVec 1 := Scalar.cmpi .slt v238 c0_i32_230
  let v243 : BitVec 32 := Scalar.extui v242
  let v244 : BitVec 32 := Scalar.subi v241 v243
  let c128_i32_228 : BitVec 32 := 128#32
  let c0_i32_231 : BitVec 32 := 0#32
  let v245 : BitVec 1 := Scalar.cmpi .sgt c128_i32_228 c0_i32_231
  let v246 : BitVec 32 := Scalar.extui v245
  let c0_i32_232 : BitVec 32 := 0#32
  let v247 : BitVec 1 := Scalar.cmpi .slt c128_i32_228 c0_i32_232
  let v248 : BitVec 32 := Scalar.extui v247
  let v249 : BitVec 32 := Scalar.subi v246 v248
  let v250 : BitVec 1 := Scalar.cmpi .ne v244 v249
  let v251 : BitVec 32 := Scalar.remsi v238 c128_i32_228
  let c0_i32_233 : BitVec 32 := 0#32
  let v252 : BitVec 1 := Scalar.cmpi .ne v251 c0_i32_233
  let v253 : BitVec 1 := Scalar.andi v250 v252
  let v239 : BitVec 32 := Scalar.divsi v238 c128_i32_228
  let c1_i32_234 : BitVec 32 := 1#32
  let v254 : BitVec 32 := Scalar.subi v239 c1_i32_234
  let v255 : BitVec 32 := Scalar.select v253 v254 v239
  let c1_i32_235 : BitVec 32 := 1#32
  let v256 : BitVec 32 := Scalar.maxsi v255 c1_i32_235
  let v257 : BitVec 32 := Scalar.subi v256 c0_i32_236
  let c1_i32_237 : BitVec 32 := 1#32
  let v259 : BitVec 32 := Scalar.divsi v257 c1_i32_237
  let v260 : BitVec 32 := Scalar.muli v259 c1_i32_237
  let v261 : BitVec 32 := Scalar.addi c0_i32_236 v260
  let c1_i32_239 : BitVec 32 := 1#32
  let arg17 : BitVec 32 := Scf.iv v261 c1_i32_239 k1_t30
  let c2_i32_302 : BitVec 32 := 2#32
  let v343 : BitVec 32 := Scalar.muli arg17 c2_i32_302
  let v344 : BitVec 32 := Scalar.addi v343 c0_i32_303
  let c64_i32_304 : BitVec 32 := 64#32
  let v345 : BitVec 32 := Scalar.muli v344 c64_i32_304
  ![v345.toNat]
@[reducible] def k1_t31_loop : Scf.Loop 32 :=
  let c0_i32_322 : BitVec 32 := 0#32
  let c32_i32 : BitVec 32 := 32#32
  let v359 : BitVec 32 := Scalar.addi c0_i32_322 c32_i32
  let c1_i32_323 : BitVec 32 := 1#32
  ⟨c0_i32_322, v359, c1_i32_323⟩
def k1_off328 (k1_t31 : Fin k1_t31_loop.trips) (c0_i32_356 : BitVec 32) : Fin 4 → Nat :=
  let c0_i32_357 : BitVec 32 := 0#32
  let v391 : Index := Scalar.indexCast c0_i32_357
  let c0_i32_358 : BitVec 32 := 0#32
  let v392 : Index := Scalar.indexCast c0_i32_358
  let c0_i32_322 : BitVec 32 := 0#32
  let c1_i32_323 : BitVec 32 := 1#32
  let arg26 : BitVec 32 := Scf.iv c0_i32_322 c1_i32_323 k1_t31
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 0, v393.toNat, 0]
def k1_off329 (k1_t31 : Fin k1_t31_loop.trips) (c0_i32_356 : BitVec 32) : Fin 4 → Nat :=
  let c1_i32_360 : BitVec 32 := 1#32
  let v396 : Index := Scalar.indexCast c1_i32_360
  let c0_i32_361 : BitVec 32 := 0#32
  let v397 : Index := Scalar.indexCast c0_i32_361
  let c0_i32_322 : BitVec 32 := 0#32
  let c1_i32_323 : BitVec 32 := 1#32
  let arg26 : BitVec 32 := Scf.iv c0_i32_322 c1_i32_323 k1_t31
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 0, v398.toNat, 0]
def k1_off330 (k1_t31 : Fin k1_t31_loop.trips) (c0_i32_356 : BitVec 32) : Fin 4 → Nat :=
  let c0_i32_363 : BitVec 32 := 0#32
  let v403 : Index := Scalar.indexCast c0_i32_363
  let c0_i32_364 : BitVec 32 := 0#32
  let v404 : Index := Scalar.indexCast c0_i32_364
  let c0_i32_322 : BitVec 32 := 0#32
  let c1_i32_323 : BitVec 32 := 1#32
  let arg26 : BitVec 32 := Scf.iv c0_i32_322 c1_i32_323 k1_t31
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 0, v405.toNat, 16]
def k1_off331 (k1_t31 : Fin k1_t31_loop.trips) (c0_i32_356 : BitVec 32) : Fin 4 → Nat :=
  let c1_i32_365 : BitVec 32 := 1#32
  let v408 : Index := Scalar.indexCast c1_i32_365
  let c0_i32_366 : BitVec 32 := 0#32
  let v409 : Index := Scalar.indexCast c0_i32_366
  let c0_i32_322 : BitVec 32 := 0#32
  let c1_i32_323 : BitVec 32 := 1#32
  let arg26 : BitVec 32 := Scf.iv c0_i32_322 c1_i32_323 k1_t31
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 0, v410.toNat, 16]
def k1_off332 (k1_t31 : Fin k1_t31_loop.trips) (c0_i32_356 : BitVec 32) : Fin 4 → Nat :=
  let c0_i32_368 : BitVec 32 := 0#32
  let v415 : Index := Scalar.indexCast c0_i32_368
  let c0_i32_369 : BitVec 32 := 0#32
  let v416 : Index := Scalar.indexCast c0_i32_369
  let c0_i32_322 : BitVec 32 := 0#32
  let c1_i32_323 : BitVec 32 := 1#32
  let arg26 : BitVec 32 := Scf.iv c0_i32_322 c1_i32_323 k1_t31
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 0, v417.toNat, 32]
def k1_off333 (k1_t31 : Fin k1_t31_loop.trips) (c0_i32_356 : BitVec 32) : Fin 4 → Nat :=
  let c1_i32_370 : BitVec 32 := 1#32
  let v420 : Index := Scalar.indexCast c1_i32_370
  let c0_i32_371 : BitVec 32 := 0#32
  let v421 : Index := Scalar.indexCast c0_i32_371
  let c0_i32_322 : BitVec 32 := 0#32
  let c1_i32_323 : BitVec 32 := 1#32
  let arg26 : BitVec 32 := Scf.iv c0_i32_322 c1_i32_323 k1_t31
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 0, v422.toNat, 32]
def k1_off334 (k1_t31 : Fin k1_t31_loop.trips) (c0_i32_356 : BitVec 32) : Fin 4 → Nat :=
  let c0_i32_373 : BitVec 32 := 0#32
  let v427 : Index := Scalar.indexCast c0_i32_373
  let c0_i32_374 : BitVec 32 := 0#32
  let v428 : Index := Scalar.indexCast c0_i32_374
  let c0_i32_322 : BitVec 32 := 0#32
  let c1_i32_323 : BitVec 32 := 1#32
  let arg26 : BitVec 32 := Scf.iv c0_i32_322 c1_i32_323 k1_t31
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 0, v429.toNat, 48]
def k1_off335 (k1_t31 : Fin k1_t31_loop.trips) (c0_i32_356 : BitVec 32) : Fin 4 → Nat :=
  let c1_i32_375 : BitVec 32 := 1#32
  let v432 : Index := Scalar.indexCast c1_i32_375
  let c0_i32_376 : BitVec 32 := 0#32
  let v433 : Index := Scalar.indexCast c0_i32_376
  let c0_i32_322 : BitVec 32 := 0#32
  let c1_i32_323 : BitVec 32 := 1#32
  let arg26 : BitVec 32 := Scf.iv c0_i32_322 c1_i32_323 k1_t31
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 0, v434.toNat, 48]
def k1_off336 (k1_t31 : Fin k1_t31_loop.trips) (c0_i32_356 : BitVec 32) : Fin 4 → Nat :=
  let c0_i32_378 : BitVec 32 := 0#32
  let v439 : Index := Scalar.indexCast c0_i32_378
  let c0_i32_379 : BitVec 32 := 0#32
  let v440 : Index := Scalar.indexCast c0_i32_379
  let c0_i32_322 : BitVec 32 := 0#32
  let c1_i32_323 : BitVec 32 := 1#32
  let arg26 : BitVec 32 := Scf.iv c0_i32_322 c1_i32_323 k1_t31
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 0, v441.toNat, 64]
def k1_off337 (k1_t31 : Fin k1_t31_loop.trips) (c0_i32_356 : BitVec 32) : Fin 4 → Nat :=
  let c1_i32_380 : BitVec 32 := 1#32
  let v444 : Index := Scalar.indexCast c1_i32_380
  let c0_i32_381 : BitVec 32 := 0#32
  let v445 : Index := Scalar.indexCast c0_i32_381
  let c0_i32_322 : BitVec 32 := 0#32
  let c1_i32_323 : BitVec 32 := 1#32
  let arg26 : BitVec 32 := Scf.iv c0_i32_322 c1_i32_323 k1_t31
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 0, v446.toNat, 64]
def k1_off338 (k1_t31 : Fin k1_t31_loop.trips) (c0_i32_356 : BitVec 32) : Fin 4 → Nat :=
  let c0_i32_383 : BitVec 32 := 0#32
  let v451 : Index := Scalar.indexCast c0_i32_383
  let c0_i32_384 : BitVec 32 := 0#32
  let v452 : Index := Scalar.indexCast c0_i32_384
  let c0_i32_322 : BitVec 32 := 0#32
  let c1_i32_323 : BitVec 32 := 1#32
  let arg26 : BitVec 32 := Scf.iv c0_i32_322 c1_i32_323 k1_t31
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 0, v453.toNat, 80]
def k1_off339 (k1_t31 : Fin k1_t31_loop.trips) (c0_i32_356 : BitVec 32) : Fin 4 → Nat :=
  let c1_i32_385 : BitVec 32 := 1#32
  let v456 : Index := Scalar.indexCast c1_i32_385
  let c0_i32_386 : BitVec 32 := 0#32
  let v457 : Index := Scalar.indexCast c0_i32_386
  let c0_i32_322 : BitVec 32 := 0#32
  let c1_i32_323 : BitVec 32 := 1#32
  let arg26 : BitVec 32 := Scf.iv c0_i32_322 c1_i32_323 k1_t31
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 0, v458.toNat, 80]
def k1_off340 (k1_t31 : Fin k1_t31_loop.trips) (c0_i32_356 : BitVec 32) : Fin 4 → Nat :=
  let c0_i32_388 : BitVec 32 := 0#32
  let v463 : Index := Scalar.indexCast c0_i32_388
  let c0_i32_389 : BitVec 32 := 0#32
  let v464 : Index := Scalar.indexCast c0_i32_389
  let c0_i32_322 : BitVec 32 := 0#32
  let c1_i32_323 : BitVec 32 := 1#32
  let arg26 : BitVec 32 := Scf.iv c0_i32_322 c1_i32_323 k1_t31
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 0, v465.toNat, 96]
def k1_off341 (k1_t31 : Fin k1_t31_loop.trips) (c0_i32_356 : BitVec 32) : Fin 4 → Nat :=
  let c1_i32_390 : BitVec 32 := 1#32
  let v468 : Index := Scalar.indexCast c1_i32_390
  let c0_i32_391 : BitVec 32 := 0#32
  let v469 : Index := Scalar.indexCast c0_i32_391
  let c0_i32_322 : BitVec 32 := 0#32
  let c1_i32_323 : BitVec 32 := 1#32
  let arg26 : BitVec 32 := Scf.iv c0_i32_322 c1_i32_323 k1_t31
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 0, v470.toNat, 96]
def k1_off342 (k1_t31 : Fin k1_t31_loop.trips) (c0_i32_356 : BitVec 32) : Fin 4 → Nat :=
  let c0_i32_393 : BitVec 32 := 0#32
  let v475 : Index := Scalar.indexCast c0_i32_393
  let c0_i32_394 : BitVec 32 := 0#32
  let v476 : Index := Scalar.indexCast c0_i32_394
  let c0_i32_322 : BitVec 32 := 0#32
  let c1_i32_323 : BitVec 32 := 1#32
  let arg26 : BitVec 32 := Scf.iv c0_i32_322 c1_i32_323 k1_t31
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 0, v477.toNat, 112]
def k1_off343 (k1_t31 : Fin k1_t31_loop.trips) (c0_i32_356 : BitVec 32) : Fin 4 → Nat :=
  let c1_i32_395 : BitVec 32 := 1#32
  let v480 : Index := Scalar.indexCast c1_i32_395
  let c0_i32_396 : BitVec 32 := 0#32
  let v481 : Index := Scalar.indexCast c0_i32_396
  let c0_i32_322 : BitVec 32 := 0#32
  let c1_i32_323 : BitVec 32 := 1#32
  let arg26 : BitVec 32 := Scf.iv c0_i32_322 c1_i32_323 k1_t31
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 0, v482.toNat, 112]
def k1_off344 (v203 : BitVec 32) (k1_t30 : Fin (k1_t30_loop v203).trips) : Fin 1 → Nat :=
  let c0_i32_236 : BitVec 32 := 0#32
  let c128_i32_226 : BitVec 32 := 128#32
  let v237 : BitVec 32 := Scalar.addi v203 c128_i32_226
  let c1_i32_227 : BitVec 32 := 1#32
  let v238 : BitVec 32 := Scalar.subi v237 c1_i32_227
  let c0_i32_229 : BitVec 32 := 0#32
  let v240 : BitVec 1 := Scalar.cmpi .sgt v238 c0_i32_229
  let v241 : BitVec 32 := Scalar.extui v240
  let c0_i32_230 : BitVec 32 := 0#32
  let v242 : BitVec 1 := Scalar.cmpi .slt v238 c0_i32_230
  let v243 : BitVec 32 := Scalar.extui v242
  let v244 : BitVec 32 := Scalar.subi v241 v243
  let c128_i32_228 : BitVec 32 := 128#32
  let c0_i32_231 : BitVec 32 := 0#32
  let v245 : BitVec 1 := Scalar.cmpi .sgt c128_i32_228 c0_i32_231
  let v246 : BitVec 32 := Scalar.extui v245
  let c0_i32_232 : BitVec 32 := 0#32
  let v247 : BitVec 1 := Scalar.cmpi .slt c128_i32_228 c0_i32_232
  let v248 : BitVec 32 := Scalar.extui v247
  let v249 : BitVec 32 := Scalar.subi v246 v248
  let v250 : BitVec 1 := Scalar.cmpi .ne v244 v249
  let v251 : BitVec 32 := Scalar.remsi v238 c128_i32_228
  let c0_i32_233 : BitVec 32 := 0#32
  let v252 : BitVec 1 := Scalar.cmpi .ne v251 c0_i32_233
  let v253 : BitVec 1 := Scalar.andi v250 v252
  let v239 : BitVec 32 := Scalar.divsi v238 c128_i32_228
  let c1_i32_234 : BitVec 32 := 1#32
  let v254 : BitVec 32 := Scalar.subi v239 c1_i32_234
  let v255 : BitVec 32 := Scalar.select v253 v254 v239
  let c1_i32_235 : BitVec 32 := 1#32
  let v256 : BitVec 32 := Scalar.maxsi v255 c1_i32_235
  let v257 : BitVec 32 := Scalar.subi v256 c0_i32_236
  let c1_i32_237 : BitVec 32 := 1#32
  let v259 : BitVec 32 := Scalar.divsi v257 c1_i32_237
  let v260 : BitVec 32 := Scalar.muli v259 c1_i32_237
  let v261 : BitVec 32 := Scalar.addi c0_i32_236 v260
  let c1_i32_239 : BitVec 32 := 1#32
  let arg17 : BitVec 32 := Scf.iv v261 c1_i32_239 k1_t30
  let c2_i32_302 : BitVec 32 := 2#32
  let v343 : BitVec 32 := Scalar.muli arg17 c2_i32_302
  let c0_i32_303 : BitVec 32 := 0#32
  let v344 : BitVec 32 := Scalar.addi v343 c0_i32_303
  let c2_i32_355 : BitVec 32 := 2#32
  let v389 : BitVec 32 := Scalar.addi v344 c2_i32_355
  let c64_i32_356 : BitVec 32 := 64#32
  let v390 : BitVec 32 := Scalar.muli v389 c64_i32_356
  ![v390.toNat]
def k1_cond15 (v203 : BitVec 32) (k1_t30 : Fin (k1_t30_loop v203).trips) : BitVec 1 :=
  let c0_i32_236 : BitVec 32 := 0#32
  let c128_i32_226 : BitVec 32 := 128#32
  let v237 : BitVec 32 := Scalar.addi v203 c128_i32_226
  let c1_i32_227 : BitVec 32 := 1#32
  let v238 : BitVec 32 := Scalar.subi v237 c1_i32_227
  let c0_i32_229 : BitVec 32 := 0#32
  let v240 : BitVec 1 := Scalar.cmpi .sgt v238 c0_i32_229
  let v241 : BitVec 32 := Scalar.extui v240
  let c0_i32_230 : BitVec 32 := 0#32
  let v242 : BitVec 1 := Scalar.cmpi .slt v238 c0_i32_230
  let v243 : BitVec 32 := Scalar.extui v242
  let v244 : BitVec 32 := Scalar.subi v241 v243
  let c128_i32_228 : BitVec 32 := 128#32
  let c0_i32_231 : BitVec 32 := 0#32
  let v245 : BitVec 1 := Scalar.cmpi .sgt c128_i32_228 c0_i32_231
  let v246 : BitVec 32 := Scalar.extui v245
  let c0_i32_232 : BitVec 32 := 0#32
  let v247 : BitVec 1 := Scalar.cmpi .slt c128_i32_228 c0_i32_232
  let v248 : BitVec 32 := Scalar.extui v247
  let v249 : BitVec 32 := Scalar.subi v246 v248
  let v250 : BitVec 1 := Scalar.cmpi .ne v244 v249
  let v251 : BitVec 32 := Scalar.remsi v238 c128_i32_228
  let c0_i32_233 : BitVec 32 := 0#32
  let v252 : BitVec 1 := Scalar.cmpi .ne v251 c0_i32_233
  let v253 : BitVec 1 := Scalar.andi v250 v252
  let v239 : BitVec 32 := Scalar.divsi v238 c128_i32_228
  let c1_i32_234 : BitVec 32 := 1#32
  let v254 : BitVec 32 := Scalar.subi v239 c1_i32_234
  let v255 : BitVec 32 := Scalar.select v253 v254 v239
  let c1_i32_235 : BitVec 32 := 1#32
  let v256 : BitVec 32 := Scalar.maxsi v255 c1_i32_235
  let v257 : BitVec 32 := Scalar.subi v256 c0_i32_236
  let c1_i32_237 : BitVec 32 := 1#32
  let v259 : BitVec 32 := Scalar.divsi v257 c1_i32_237
  let v260 : BitVec 32 := Scalar.muli v259 c1_i32_237
  let v261 : BitVec 32 := Scalar.addi c0_i32_236 v260
  let c1_i32_239 : BitVec 32 := 1#32
  let arg17 : BitVec 32 := Scf.iv v261 c1_i32_239 k1_t30
  let c2_i32_302 : BitVec 32 := 2#32
  let v343 : BitVec 32 := Scalar.muli arg17 c2_i32_302
  let c0_i32_303 : BitVec 32 := 0#32
  let v344 : BitVec 32 := Scalar.addi v343 c0_i32_303
  let c2_i32_325 : BitVec 32 := 2#32
  let v361 : BitVec 32 := Scalar.addi v344 c2_i32_325
  let c2_i32_326 : BitVec 32 := 2#32
  let v362 : BitVec 32 := Scalar.muli v256 c2_i32_326
  let v363 : BitVec 1 := Scalar.cmpi .slt v361 v362
  let v364 : BitVec 32 := Scalar.extui v363
  let c0_i32_327 : BitVec 32 := 0#32
  let v365 : BitVec 1 := Scalar.cmpi .ne v364 c0_i32_327
  v365

@[reducible] def k1_t32_loop : Scf.Loop 32 :=
  let c0_i32_348 : BitVec 32 := 0#32
  let c32_i32_349 : BitVec 32 := 32#32
  let v382 : BitVec 32 := Scalar.addi c0_i32_348 c32_i32_349
  let c1_i32_350 : BitVec 32 := 1#32
  ⟨c0_i32_348, v382, c1_i32_350⟩
def k1_off345 (k1_t32 : Fin k1_t32_loop.trips) (c0_i32_356 : BitVec 32) : Fin 4 → Nat :=
  let c0_i32_357 : BitVec 32 := 0#32
  let v391 : Index := Scalar.indexCast c0_i32_357
  let c1_i32_358 : BitVec 32 := 1#32
  let v392 : Index := Scalar.indexCast c1_i32_358
  let c0_i32_348 : BitVec 32 := 0#32
  let c1_i32_350 : BitVec 32 := 1#32
  let arg26 : BitVec 32 := Scf.iv c0_i32_348 c1_i32_350 k1_t32
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 1, v393.toNat, 0]
def k1_off346 (k1_t32 : Fin k1_t32_loop.trips) (c0_i32_356 : BitVec 32) : Fin 4 → Nat :=
  let c1_i32_360 : BitVec 32 := 1#32
  let v396 : Index := Scalar.indexCast c1_i32_360
  let c1_i32_361 : BitVec 32 := 1#32
  let v397 : Index := Scalar.indexCast c1_i32_361
  let c0_i32_348 : BitVec 32 := 0#32
  let c1_i32_350 : BitVec 32 := 1#32
  let arg26 : BitVec 32 := Scf.iv c0_i32_348 c1_i32_350 k1_t32
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 1, v398.toNat, 0]
def k1_off347 (k1_t32 : Fin k1_t32_loop.trips) (c0_i32_356 : BitVec 32) : Fin 4 → Nat :=
  let c0_i32_363 : BitVec 32 := 0#32
  let v403 : Index := Scalar.indexCast c0_i32_363
  let c1_i32_364 : BitVec 32 := 1#32
  let v404 : Index := Scalar.indexCast c1_i32_364
  let c0_i32_348 : BitVec 32 := 0#32
  let c1_i32_350 : BitVec 32 := 1#32
  let arg26 : BitVec 32 := Scf.iv c0_i32_348 c1_i32_350 k1_t32
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 1, v405.toNat, 16]
def k1_off348 (k1_t32 : Fin k1_t32_loop.trips) (c0_i32_356 : BitVec 32) : Fin 4 → Nat :=
  let c1_i32_365 : BitVec 32 := 1#32
  let v408 : Index := Scalar.indexCast c1_i32_365
  let c1_i32_366 : BitVec 32 := 1#32
  let v409 : Index := Scalar.indexCast c1_i32_366
  let c0_i32_348 : BitVec 32 := 0#32
  let c1_i32_350 : BitVec 32 := 1#32
  let arg26 : BitVec 32 := Scf.iv c0_i32_348 c1_i32_350 k1_t32
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 1, v410.toNat, 16]
def k1_off349 (k1_t32 : Fin k1_t32_loop.trips) (c0_i32_356 : BitVec 32) : Fin 4 → Nat :=
  let c0_i32_368 : BitVec 32 := 0#32
  let v415 : Index := Scalar.indexCast c0_i32_368
  let c1_i32_369 : BitVec 32 := 1#32
  let v416 : Index := Scalar.indexCast c1_i32_369
  let c0_i32_348 : BitVec 32 := 0#32
  let c1_i32_350 : BitVec 32 := 1#32
  let arg26 : BitVec 32 := Scf.iv c0_i32_348 c1_i32_350 k1_t32
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 1, v417.toNat, 32]
def k1_off350 (k1_t32 : Fin k1_t32_loop.trips) (c0_i32_356 : BitVec 32) : Fin 4 → Nat :=
  let c1_i32_370 : BitVec 32 := 1#32
  let v420 : Index := Scalar.indexCast c1_i32_370
  let c1_i32_371 : BitVec 32 := 1#32
  let v421 : Index := Scalar.indexCast c1_i32_371
  let c0_i32_348 : BitVec 32 := 0#32
  let c1_i32_350 : BitVec 32 := 1#32
  let arg26 : BitVec 32 := Scf.iv c0_i32_348 c1_i32_350 k1_t32
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 1, v422.toNat, 32]
def k1_off351 (k1_t32 : Fin k1_t32_loop.trips) (c0_i32_356 : BitVec 32) : Fin 4 → Nat :=
  let c0_i32_373 : BitVec 32 := 0#32
  let v427 : Index := Scalar.indexCast c0_i32_373
  let c1_i32_374 : BitVec 32 := 1#32
  let v428 : Index := Scalar.indexCast c1_i32_374
  let c0_i32_348 : BitVec 32 := 0#32
  let c1_i32_350 : BitVec 32 := 1#32
  let arg26 : BitVec 32 := Scf.iv c0_i32_348 c1_i32_350 k1_t32
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 1, v429.toNat, 48]
def k1_off352 (k1_t32 : Fin k1_t32_loop.trips) (c0_i32_356 : BitVec 32) : Fin 4 → Nat :=
  let c1_i32_375 : BitVec 32 := 1#32
  let v432 : Index := Scalar.indexCast c1_i32_375
  let c1_i32_376 : BitVec 32 := 1#32
  let v433 : Index := Scalar.indexCast c1_i32_376
  let c0_i32_348 : BitVec 32 := 0#32
  let c1_i32_350 : BitVec 32 := 1#32
  let arg26 : BitVec 32 := Scf.iv c0_i32_348 c1_i32_350 k1_t32
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 1, v434.toNat, 48]
def k1_off353 (k1_t32 : Fin k1_t32_loop.trips) (c0_i32_356 : BitVec 32) : Fin 4 → Nat :=
  let c0_i32_378 : BitVec 32 := 0#32
  let v439 : Index := Scalar.indexCast c0_i32_378
  let c1_i32_379 : BitVec 32 := 1#32
  let v440 : Index := Scalar.indexCast c1_i32_379
  let c0_i32_348 : BitVec 32 := 0#32
  let c1_i32_350 : BitVec 32 := 1#32
  let arg26 : BitVec 32 := Scf.iv c0_i32_348 c1_i32_350 k1_t32
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 1, v441.toNat, 64]
def k1_off354 (k1_t32 : Fin k1_t32_loop.trips) (c0_i32_356 : BitVec 32) : Fin 4 → Nat :=
  let c1_i32_380 : BitVec 32 := 1#32
  let v444 : Index := Scalar.indexCast c1_i32_380
  let c1_i32_381 : BitVec 32 := 1#32
  let v445 : Index := Scalar.indexCast c1_i32_381
  let c0_i32_348 : BitVec 32 := 0#32
  let c1_i32_350 : BitVec 32 := 1#32
  let arg26 : BitVec 32 := Scf.iv c0_i32_348 c1_i32_350 k1_t32
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 1, v446.toNat, 64]
def k1_off355 (k1_t32 : Fin k1_t32_loop.trips) (c0_i32_356 : BitVec 32) : Fin 4 → Nat :=
  let c0_i32_383 : BitVec 32 := 0#32
  let v451 : Index := Scalar.indexCast c0_i32_383
  let c1_i32_384 : BitVec 32 := 1#32
  let v452 : Index := Scalar.indexCast c1_i32_384
  let c0_i32_348 : BitVec 32 := 0#32
  let c1_i32_350 : BitVec 32 := 1#32
  let arg26 : BitVec 32 := Scf.iv c0_i32_348 c1_i32_350 k1_t32
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 1, v453.toNat, 80]
def k1_off356 (k1_t32 : Fin k1_t32_loop.trips) (c0_i32_356 : BitVec 32) : Fin 4 → Nat :=
  let c1_i32_385 : BitVec 32 := 1#32
  let v456 : Index := Scalar.indexCast c1_i32_385
  let c1_i32_386 : BitVec 32 := 1#32
  let v457 : Index := Scalar.indexCast c1_i32_386
  let c0_i32_348 : BitVec 32 := 0#32
  let c1_i32_350 : BitVec 32 := 1#32
  let arg26 : BitVec 32 := Scf.iv c0_i32_348 c1_i32_350 k1_t32
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 1, v458.toNat, 80]
def k1_off357 (k1_t32 : Fin k1_t32_loop.trips) (c0_i32_356 : BitVec 32) : Fin 4 → Nat :=
  let c0_i32_388 : BitVec 32 := 0#32
  let v463 : Index := Scalar.indexCast c0_i32_388
  let c1_i32_389 : BitVec 32 := 1#32
  let v464 : Index := Scalar.indexCast c1_i32_389
  let c0_i32_348 : BitVec 32 := 0#32
  let c1_i32_350 : BitVec 32 := 1#32
  let arg26 : BitVec 32 := Scf.iv c0_i32_348 c1_i32_350 k1_t32
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 1, v465.toNat, 96]
def k1_off358 (k1_t32 : Fin k1_t32_loop.trips) (c0_i32_356 : BitVec 32) : Fin 4 → Nat :=
  let c1_i32_390 : BitVec 32 := 1#32
  let v468 : Index := Scalar.indexCast c1_i32_390
  let c1_i32_391 : BitVec 32 := 1#32
  let v469 : Index := Scalar.indexCast c1_i32_391
  let c0_i32_348 : BitVec 32 := 0#32
  let c1_i32_350 : BitVec 32 := 1#32
  let arg26 : BitVec 32 := Scf.iv c0_i32_348 c1_i32_350 k1_t32
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 1, v470.toNat, 96]
def k1_off359 (k1_t32 : Fin k1_t32_loop.trips) (c0_i32_356 : BitVec 32) : Fin 4 → Nat :=
  let c0_i32_393 : BitVec 32 := 0#32
  let v475 : Index := Scalar.indexCast c0_i32_393
  let c1_i32_394 : BitVec 32 := 1#32
  let v476 : Index := Scalar.indexCast c1_i32_394
  let c0_i32_348 : BitVec 32 := 0#32
  let c1_i32_350 : BitVec 32 := 1#32
  let arg26 : BitVec 32 := Scf.iv c0_i32_348 c1_i32_350 k1_t32
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 1, v477.toNat, 112]
def k1_off360 (k1_t32 : Fin k1_t32_loop.trips) (c0_i32_356 : BitVec 32) : Fin 4 → Nat :=
  let c1_i32_395 : BitVec 32 := 1#32
  let v480 : Index := Scalar.indexCast c1_i32_395
  let c1_i32_396 : BitVec 32 := 1#32
  let v481 : Index := Scalar.indexCast c1_i32_396
  let c0_i32_348 : BitVec 32 := 0#32
  let c1_i32_350 : BitVec 32 := 1#32
  let arg26 : BitVec 32 := Scf.iv c0_i32_348 c1_i32_350 k1_t32
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 1, v482.toNat, 112]
def k1_off361 (v203 : BitVec 32) (k1_t30 : Fin (k1_t30_loop v203).trips) : Fin 1 → Nat :=
  let c0_i32_236 : BitVec 32 := 0#32
  let c128_i32_226 : BitVec 32 := 128#32
  let v237 : BitVec 32 := Scalar.addi v203 c128_i32_226
  let c1_i32_227 : BitVec 32 := 1#32
  let v238 : BitVec 32 := Scalar.subi v237 c1_i32_227
  let c0_i32_229 : BitVec 32 := 0#32
  let v240 : BitVec 1 := Scalar.cmpi .sgt v238 c0_i32_229
  let v241 : BitVec 32 := Scalar.extui v240
  let c0_i32_230 : BitVec 32 := 0#32
  let v242 : BitVec 1 := Scalar.cmpi .slt v238 c0_i32_230
  let v243 : BitVec 32 := Scalar.extui v242
  let v244 : BitVec 32 := Scalar.subi v241 v243
  let c128_i32_228 : BitVec 32 := 128#32
  let c0_i32_231 : BitVec 32 := 0#32
  let v245 : BitVec 1 := Scalar.cmpi .sgt c128_i32_228 c0_i32_231
  let v246 : BitVec 32 := Scalar.extui v245
  let c0_i32_232 : BitVec 32 := 0#32
  let v247 : BitVec 1 := Scalar.cmpi .slt c128_i32_228 c0_i32_232
  let v248 : BitVec 32 := Scalar.extui v247
  let v249 : BitVec 32 := Scalar.subi v246 v248
  let v250 : BitVec 1 := Scalar.cmpi .ne v244 v249
  let v251 : BitVec 32 := Scalar.remsi v238 c128_i32_228
  let c0_i32_233 : BitVec 32 := 0#32
  let v252 : BitVec 1 := Scalar.cmpi .ne v251 c0_i32_233
  let v253 : BitVec 1 := Scalar.andi v250 v252
  let v239 : BitVec 32 := Scalar.divsi v238 c128_i32_228
  let c1_i32_234 : BitVec 32 := 1#32
  let v254 : BitVec 32 := Scalar.subi v239 c1_i32_234
  let v255 : BitVec 32 := Scalar.select v253 v254 v239
  let c1_i32_235 : BitVec 32 := 1#32
  let v256 : BitVec 32 := Scalar.maxsi v255 c1_i32_235
  let v257 : BitVec 32 := Scalar.subi v256 c0_i32_236
  let c1_i32_237 : BitVec 32 := 1#32
  let v259 : BitVec 32 := Scalar.divsi v257 c1_i32_237
  let v260 : BitVec 32 := Scalar.muli v259 c1_i32_237
  let v261 : BitVec 32 := Scalar.addi c0_i32_236 v260
  let c1_i32_239 : BitVec 32 := 1#32
  let arg17 : BitVec 32 := Scf.iv v261 c1_i32_239 k1_t30
  let c2_i32_328 : BitVec 32 := 2#32
  let v366 : BitVec 32 := Scalar.muli arg17 c2_i32_328
  let c1_i32_329 : BitVec 32 := 1#32
  let v367 : BitVec 32 := Scalar.addi v366 c1_i32_329
  let c2_i32_355 : BitVec 32 := 2#32
  let v389 : BitVec 32 := Scalar.addi v367 c2_i32_355
  let c64_i32_356 : BitVec 32 := 64#32
  let v390 : BitVec 32 := Scalar.muli v389 c64_i32_356
  ![v390.toNat]
def k1_cond16 (v203 : BitVec 32) (k1_t30 : Fin (k1_t30_loop v203).trips) : BitVec 1 :=
  let c0_i32_236 : BitVec 32 := 0#32
  let c128_i32_226 : BitVec 32 := 128#32
  let v237 : BitVec 32 := Scalar.addi v203 c128_i32_226
  let c1_i32_227 : BitVec 32 := 1#32
  let v238 : BitVec 32 := Scalar.subi v237 c1_i32_227
  let c0_i32_229 : BitVec 32 := 0#32
  let v240 : BitVec 1 := Scalar.cmpi .sgt v238 c0_i32_229
  let v241 : BitVec 32 := Scalar.extui v240
  let c0_i32_230 : BitVec 32 := 0#32
  let v242 : BitVec 1 := Scalar.cmpi .slt v238 c0_i32_230
  let v243 : BitVec 32 := Scalar.extui v242
  let v244 : BitVec 32 := Scalar.subi v241 v243
  let c128_i32_228 : BitVec 32 := 128#32
  let c0_i32_231 : BitVec 32 := 0#32
  let v245 : BitVec 1 := Scalar.cmpi .sgt c128_i32_228 c0_i32_231
  let v246 : BitVec 32 := Scalar.extui v245
  let c0_i32_232 : BitVec 32 := 0#32
  let v247 : BitVec 1 := Scalar.cmpi .slt c128_i32_228 c0_i32_232
  let v248 : BitVec 32 := Scalar.extui v247
  let v249 : BitVec 32 := Scalar.subi v246 v248
  let v250 : BitVec 1 := Scalar.cmpi .ne v244 v249
  let v251 : BitVec 32 := Scalar.remsi v238 c128_i32_228
  let c0_i32_233 : BitVec 32 := 0#32
  let v252 : BitVec 1 := Scalar.cmpi .ne v251 c0_i32_233
  let v253 : BitVec 1 := Scalar.andi v250 v252
  let v239 : BitVec 32 := Scalar.divsi v238 c128_i32_228
  let c1_i32_234 : BitVec 32 := 1#32
  let v254 : BitVec 32 := Scalar.subi v239 c1_i32_234
  let v255 : BitVec 32 := Scalar.select v253 v254 v239
  let c1_i32_235 : BitVec 32 := 1#32
  let v256 : BitVec 32 := Scalar.maxsi v255 c1_i32_235
  let v257 : BitVec 32 := Scalar.subi v256 c0_i32_236
  let c1_i32_237 : BitVec 32 := 1#32
  let v259 : BitVec 32 := Scalar.divsi v257 c1_i32_237
  let v260 : BitVec 32 := Scalar.muli v259 c1_i32_237
  let v261 : BitVec 32 := Scalar.addi c0_i32_236 v260
  let c1_i32_239 : BitVec 32 := 1#32
  let arg17 : BitVec 32 := Scf.iv v261 c1_i32_239 k1_t30
  let c2_i32_328 : BitVec 32 := 2#32
  let v366 : BitVec 32 := Scalar.muli arg17 c2_i32_328
  let c1_i32_329 : BitVec 32 := 1#32
  let v367 : BitVec 32 := Scalar.addi v366 c1_i32_329
  let c2_i32_352 : BitVec 32 := 2#32
  let v384 : BitVec 32 := Scalar.addi v367 c2_i32_352
  let c2_i32_353 : BitVec 32 := 2#32
  let v385 : BitVec 32 := Scalar.muli v256 c2_i32_353
  let v386 : BitVec 1 := Scalar.cmpi .slt v384 v385
  let v387 : BitVec 32 := Scalar.extui v386
  let c0_i32_354 : BitVec 32 := 0#32
  let v388 : BitVec 1 := Scalar.cmpi .ne v387 c0_i32_354
  v388

def k1_chk68 (v203 : BitVec 32) : Prop :=
  (∀ a, (k1_off291 v203) a + S16.size a ≤ S2064.size a) ∧
  ((k1_t27_loop v203).OK) ∧
  (∀ k1_t27 : Fin (k1_t27_loop v203).trips, ∀ (r : Fin 2), ∀ a, (k1_off292 v203 k1_t27 (BitVec.ofNat 32 r.val)) a + S64.size a ≤ S2064.size a) ∧
  (∀ k1_t27 : Fin (k1_t27_loop v203).trips, ∀ (k1_h13 : k1_cond13 v203 k1_t27 = 1#1), ∀ a, (k1_off309 v203 k1_t27) a + S64.size a ≤ S2064.size a) ∧
  (∀ k1_t27 : Fin (k1_t27_loop v203).trips, ∀ (k1_h14 : k1_cond14 v203 k1_t27 = 1#1), ∀ a, (k1_off326 v203 k1_t27) a + S64.size a ≤ S2064.size a) ∧
  ((k1_t30_loop v203).OK) ∧
  (∀ k1_t30 : Fin (k1_t30_loop v203).trips, ∀ (r : Fin 2), ∀ a, (k1_off327 v203 k1_t30 (BitVec.ofNat 32 r.val)) a + S64.size a ≤ S2064.size a) ∧
  (∀ k1_t30 : Fin (k1_t30_loop v203).trips, ∀ (k1_h15 : k1_cond15 v203 k1_t30 = 1#1), ∀ a, (k1_off344 v203 k1_t30) a + S64.size a ≤ S2064.size a) ∧
  (∀ k1_t30 : Fin (k1_t30_loop v203).trips, ∀ (k1_h16 : k1_cond16 v203 k1_t30 = 1#1), ∀ a, (k1_off361 v203 k1_t30) a + S64.size a ≤ S2064.size a)
theorem k1_off291_inb : ∀ (v203 : BitVec 32) (k1_hw68 : k1_chk68 v203), ∀ a, (k1_off291 v203) a + S16.size a ≤ S2064.size a := fun v203 k1_hw68 => k1_hw68.1
theorem k1_t27_ok : ∀ (v203 : BitVec 32) (k1_hw68 : k1_chk68 v203), (k1_t27_loop v203).OK := fun v203 k1_hw68 => k1_hw68.2.1
theorem k1_off292_inb : ∀ (v203 : BitVec 32) (k1_hw68 : k1_chk68 v203) (k1_t27 : Fin (k1_t27_loop v203).trips), ∀ (r : Fin 2), ∀ a, (k1_off292 v203 k1_t27 (BitVec.ofNat 32 r.val)) a + S64.size a ≤ S2064.size a := fun v203 k1_hw68 k1_t27 r => k1_hw68.2.2.1 k1_t27 r
theorem k1_off309_inb : ∀ (v203 : BitVec 32) (k1_hw68 : k1_chk68 v203) (k1_t27 : Fin (k1_t27_loop v203).trips), ∀ (k1_h13 : k1_cond13 v203 k1_t27 = 1#1), ∀ a, (k1_off309 v203 k1_t27) a + S64.size a ≤ S2064.size a := fun v203 k1_hw68 k1_t27 k1_h13 => k1_hw68.2.2.2.1 k1_t27 k1_h13
theorem k1_off326_inb : ∀ (v203 : BitVec 32) (k1_hw68 : k1_chk68 v203) (k1_t27 : Fin (k1_t27_loop v203).trips), ∀ (k1_h14 : k1_cond14 v203 k1_t27 = 1#1), ∀ a, (k1_off326 v203 k1_t27) a + S64.size a ≤ S2064.size a := fun v203 k1_hw68 k1_t27 k1_h14 => k1_hw68.2.2.2.2.1 k1_t27 k1_h14
theorem k1_t30_ok : ∀ (v203 : BitVec 32) (k1_hw68 : k1_chk68 v203), (k1_t30_loop v203).OK := fun v203 k1_hw68 => k1_hw68.2.2.2.2.2.1
theorem k1_off327_inb : ∀ (v203 : BitVec 32) (k1_hw68 : k1_chk68 v203) (k1_t30 : Fin (k1_t30_loop v203).trips), ∀ (r : Fin 2), ∀ a, (k1_off327 v203 k1_t30 (BitVec.ofNat 32 r.val)) a + S64.size a ≤ S2064.size a := fun v203 k1_hw68 k1_t30 r => k1_hw68.2.2.2.2.2.2.1 k1_t30 r
theorem k1_off344_inb : ∀ (v203 : BitVec 32) (k1_hw68 : k1_chk68 v203) (k1_t30 : Fin (k1_t30_loop v203).trips), ∀ (k1_h15 : k1_cond15 v203 k1_t30 = 1#1), ∀ a, (k1_off344 v203 k1_t30) a + S64.size a ≤ S2064.size a := fun v203 k1_hw68 k1_t30 k1_h15 => k1_hw68.2.2.2.2.2.2.2.1 k1_t30 k1_h15
theorem k1_off361_inb : ∀ (v203 : BitVec 32) (k1_hw68 : k1_chk68 v203) (k1_t30 : Fin (k1_t30_loop v203).trips), ∀ (k1_h16 : k1_cond16 v203 k1_t30 = 1#1), ∀ a, (k1_off361 v203 k1_t30) a + S64.size a ≤ S2064.size a := fun v203 k1_hw68 k1_t30 k1_h16 => k1_hw68.2.2.2.2.2.2.2.2 k1_t30 k1_h16

def k1_off362 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c8000_i32 : BitVec 32 := 8000#32
  let v264 : BitVec 32 := Scalar.addi v2 c8000_i32
  ![v264.toNat]
@[reducible] def k1_t33_loop : Scf.Loop 32 :=
  let c0_i32_241 : BitVec 32 := 0#32
  let c128_i32_242 : BitVec 32 := 128#32
  let v265 : BitVec 32 := Scalar.addi c0_i32_241 c128_i32_242
  let c1_i32_243 : BitVec 32 := 1#32
  ⟨c0_i32_241, v265, c1_i32_243⟩
def k1_off363 (k1_t33 : Fin k1_t33_loop.trips) : Fin 1 → Nat :=
  let c0_i32_241 : BitVec 32 := 0#32
  let c1_i32_243 : BitVec 32 := 1#32
  let arg17 : BitVec 32 := Scf.iv c0_i32_241 c1_i32_243 k1_t33
  let c16_i32 : BitVec 32 := 16#32
  let v343 : BitVec 32 := Scalar.muli arg17 c16_i32
  let v344 : Index := Scalar.indexCast v343
  ![v344.toNat]
@[reducible] def k1_t34_loop : Scf.Loop 32 :=
  let c0_i32_246 : BitVec 32 := 0#32
  let c125_i32_247 : BitVec 32 := 125#32
  let v266 : BitVec 32 := Scalar.addi c0_i32_246 c125_i32_247
  let c1_i32_248 : BitVec 32 := 1#32
  ⟨c0_i32_246, v266, c1_i32_248⟩
def k1_off364 (k1_t34 : Fin k1_t34_loop.trips) : Fin 1 → Nat :=
  let c0_i32_246 : BitVec 32 := 0#32
  let c1_i32_248 : BitVec 32 := 1#32
  let arg17 : BitVec 32 := Scf.iv c0_i32_246 c1_i32_248 k1_t34
  let c16_i32 : BitVec 32 := 16#32
  let v343 : BitVec 32 := Scalar.muli arg17 c16_i32
  let v344 : Index := Scalar.indexCast v343
  ![v344.toNat]
def k1_off365 (arg18 : BitVec 32) (v357 : BitVec 1) : Fin 1 → Nat :=
  let c2048_i32 : BitVec 32 := 2048#32
  let v358 : BitVec 32 := Scalar.select v357 arg18 c2048_i32
  let v362 : Index := Scalar.indexCast v358
  ![v362.toNat]

def k1_chk69 (arg18 : BitVec 32) (v357 : BitVec 1) : Prop :=
  (∀ a, (k1_off365 arg18 v357) a + S16.size a ≤ S2064.size a)
theorem k1_off365_inb : ∀ (arg18 : BitVec 32) (v357 : BitVec 1) (k1_hw69 : k1_chk69 arg18 v357), ∀ a, (k1_off365 arg18 v357) a + S16.size a ≤ S2064.size a := fun arg18 v357 k1_hw69 => k1_hw69

def k1_off366 (arg18 : BitVec 32) (v357 : BitVec 1) (v377 : BitVec 1) : Fin 1 → Nat :=
  let c1_i32_305 : BitVec 32 := 1#32
  let v373 : BitVec 32 := Scalar.addi arg18 c1_i32_305
  let v374 : BitVec 32 := Scalar.select v357 v373 arg18
  let c2048_i32_307 : BitVec 32 := 2048#32
  let v378 : BitVec 32 := Scalar.select v377 v374 c2048_i32_307
  let v382 : Index := Scalar.indexCast v378
  ![v382.toNat]

def k1_chk70 (arg18 : BitVec 32) (v357 : BitVec 1) (v377 : BitVec 1) : Prop :=
  (∀ a, (k1_off366 arg18 v357 v377) a + S16.size a ≤ S2064.size a)
theorem k1_off366_inb : ∀ (arg18 : BitVec 32) (v357 : BitVec 1) (v377 : BitVec 1) (k1_hw70 : k1_chk70 arg18 v357 v377), ∀ a, (k1_off366 arg18 v357 v377) a + S16.size a ≤ S2064.size a := fun arg18 v357 v377 k1_hw70 => k1_hw70

def k1_off367 (arg18 : BitVec 32) (v357 : BitVec 1) (v377 : BitVec 1) (v397 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c2048_i32_310 : BitVec 32 := 2048#32
  let v398 : BitVec 32 := Scalar.select v397 v394 c2048_i32_310
  let v402 : Index := Scalar.indexCast v398
  ![v402.toNat]

def k1_chk71 (arg18 : BitVec 32) (v357 : BitVec 1) (v377 : BitVec 1) (v397 : BitVec 1) : Prop :=
  (∀ a, (k1_off367 arg18 v357 v377 v397) a + S16.size a ≤ S2064.size a)
theorem k1_off367_inb : ∀ (arg18 : BitVec 32) (v357 : BitVec 1) (v377 : BitVec 1) (v397 : BitVec 1) (k1_hw71 : k1_chk71 arg18 v357 v377 v397), ∀ a, (k1_off367 arg18 v357 v377 v397) a + S16.size a ≤ S2064.size a := fun arg18 v357 v377 v397 k1_hw71 => k1_hw71

def k1_off368 (arg18 : BitVec 32) (v357 : BitVec 1) (v377 : BitVec 1) (v397 : BitVec 1) (v417 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c2048_i32_313 : BitVec 32 := 2048#32
  let v418 : BitVec 32 := Scalar.select v417 v414 c2048_i32_313
  let v422 : Index := Scalar.indexCast v418
  ![v422.toNat]

def k1_chk72 (arg18 : BitVec 32) (v357 : BitVec 1) (v377 : BitVec 1) (v397 : BitVec 1) (v417 : BitVec 1) : Prop :=
  (∀ a, (k1_off368 arg18 v357 v377 v397 v417) a + S16.size a ≤ S2064.size a)
theorem k1_off368_inb : ∀ (arg18 : BitVec 32) (v357 : BitVec 1) (v377 : BitVec 1) (v397 : BitVec 1) (v417 : BitVec 1) (k1_hw72 : k1_chk72 arg18 v357 v377 v397 v417), ∀ a, (k1_off368 arg18 v357 v377 v397 v417) a + S16.size a ≤ S2064.size a := fun arg18 v357 v377 v397 v417 k1_hw72 => k1_hw72

def k1_off369 (arg18 : BitVec 32) (v357 : BitVec 1) (v377 : BitVec 1) (v397 : BitVec 1) (v417 : BitVec 1) (v437 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c2048_i32_316 : BitVec 32 := 2048#32
  let v438 : BitVec 32 := Scalar.select v437 v434 c2048_i32_316
  let v442 : Index := Scalar.indexCast v438
  ![v442.toNat]

def k1_chk73 (arg18 : BitVec 32) (v357 : BitVec 1) (v377 : BitVec 1) (v397 : BitVec 1) (v417 : BitVec 1) (v437 : BitVec 1) : Prop :=
  (∀ a, (k1_off369 arg18 v357 v377 v397 v417 v437) a + S16.size a ≤ S2064.size a)
theorem k1_off369_inb : ∀ (arg18 : BitVec 32) (v357 : BitVec 1) (v377 : BitVec 1) (v397 : BitVec 1) (v417 : BitVec 1) (v437 : BitVec 1) (k1_hw73 : k1_chk73 arg18 v357 v377 v397 v417 v437), ∀ a, (k1_off369 arg18 v357 v377 v397 v417 v437) a + S16.size a ≤ S2064.size a := fun arg18 v357 v377 v397 v417 v437 k1_hw73 => k1_hw73

def k1_off370 (arg18 : BitVec 32) (v357 : BitVec 1) (v377 : BitVec 1) (v397 : BitVec 1) (v417 : BitVec 1) (v437 : BitVec 1) (v457 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c2048_i32_319 : BitVec 32 := 2048#32
  let v458 : BitVec 32 := Scalar.select v457 v454 c2048_i32_319
  let v462 : Index := Scalar.indexCast v458
  ![v462.toNat]

def k1_chk74 (arg18 : BitVec 32) (v357 : BitVec 1) (v377 : BitVec 1) (v397 : BitVec 1) (v417 : BitVec 1) (v437 : BitVec 1) (v457 : BitVec 1) : Prop :=
  (∀ a, (k1_off370 arg18 v357 v377 v397 v417 v437 v457) a + S16.size a ≤ S2064.size a)
theorem k1_off370_inb : ∀ (arg18 : BitVec 32) (v357 : BitVec 1) (v377 : BitVec 1) (v397 : BitVec 1) (v417 : BitVec 1) (v437 : BitVec 1) (v457 : BitVec 1) (k1_hw74 : k1_chk74 arg18 v357 v377 v397 v417 v437 v457), ∀ a, (k1_off370 arg18 v357 v377 v397 v417 v437 v457) a + S16.size a ≤ S2064.size a := fun arg18 v357 v377 v397 v417 v437 v457 k1_hw74 => k1_hw74

def k1_off371 (arg18 : BitVec 32) (v357 : BitVec 1) (v377 : BitVec 1) (v397 : BitVec 1) (v417 : BitVec 1) (v437 : BitVec 1) (v457 : BitVec 1) (v477 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c2048_i32_322 : BitVec 32 := 2048#32
  let v478 : BitVec 32 := Scalar.select v477 v474 c2048_i32_322
  let v482 : Index := Scalar.indexCast v478
  ![v482.toNat]

def k1_chk75 (arg18 : BitVec 32) (v357 : BitVec 1) (v377 : BitVec 1) (v397 : BitVec 1) (v417 : BitVec 1) (v437 : BitVec 1) (v457 : BitVec 1) (v477 : BitVec 1) : Prop :=
  (∀ a, (k1_off371 arg18 v357 v377 v397 v417 v437 v457 v477) a + S16.size a ≤ S2064.size a)
theorem k1_off371_inb : ∀ (arg18 : BitVec 32) (v357 : BitVec 1) (v377 : BitVec 1) (v397 : BitVec 1) (v417 : BitVec 1) (v437 : BitVec 1) (v457 : BitVec 1) (v477 : BitVec 1) (k1_hw75 : k1_chk75 arg18 v357 v377 v397 v417 v437 v457 v477), ∀ a, (k1_off371 arg18 v357 v377 v397 v417 v437 v457 v477) a + S16.size a ≤ S2064.size a := fun arg18 v357 v377 v397 v417 v437 v457 v477 k1_hw75 => k1_hw75

def k1_off372 (arg18 : BitVec 32) (v357 : BitVec 1) (v377 : BitVec 1) (v397 : BitVec 1) (v417 : BitVec 1) (v437 : BitVec 1) (v457 : BitVec 1) (v477 : BitVec 1) (v497 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c2048_i32_325 : BitVec 32 := 2048#32
  let v498 : BitVec 32 := Scalar.select v497 v494 c2048_i32_325
  let v502 : Index := Scalar.indexCast v498
  ![v502.toNat]

def k1_chk76 (arg18 : BitVec 32) (v357 : BitVec 1) (v377 : BitVec 1) (v397 : BitVec 1) (v417 : BitVec 1) (v437 : BitVec 1) (v457 : BitVec 1) (v477 : BitVec 1) (v497 : BitVec 1) : Prop :=
  (∀ a, (k1_off372 arg18 v357 v377 v397 v417 v437 v457 v477 v497) a + S16.size a ≤ S2064.size a)
theorem k1_off372_inb : ∀ (arg18 : BitVec 32) (v357 : BitVec 1) (v377 : BitVec 1) (v397 : BitVec 1) (v417 : BitVec 1) (v437 : BitVec 1) (v457 : BitVec 1) (v477 : BitVec 1) (v497 : BitVec 1) (k1_hw76 : k1_chk76 arg18 v357 v377 v397 v417 v437 v457 v477 v497), ∀ a, (k1_off372 arg18 v357 v377 v397 v417 v437 v457 v477 v497) a + S16.size a ≤ S2064.size a := fun arg18 v357 v377 v397 v417 v437 v457 v477 v497 k1_hw76 => k1_hw76

def k1_off373 (arg18 : BitVec 32) (v357 : BitVec 1) (v377 : BitVec 1) (v397 : BitVec 1) (v417 : BitVec 1) (v437 : BitVec 1) (v457 : BitVec 1) (v477 : BitVec 1) (v497 : BitVec 1) (v517 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c2048_i32_328 : BitVec 32 := 2048#32
  let v518 : BitVec 32 := Scalar.select v517 v514 c2048_i32_328
  let v522 : Index := Scalar.indexCast v518
  ![v522.toNat]

def k1_chk77 (arg18 : BitVec 32) (v357 : BitVec 1) (v377 : BitVec 1) (v397 : BitVec 1) (v417 : BitVec 1) (v437 : BitVec 1) (v457 : BitVec 1) (v477 : BitVec 1) (v497 : BitVec 1) (v517 : BitVec 1) : Prop :=
  (∀ a, (k1_off373 arg18 v357 v377 v397 v417 v437 v457 v477 v497 v517) a + S16.size a ≤ S2064.size a)
theorem k1_off373_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (k1_hw77 : k1_chk77 arg18 v357 v377 v397 v417 v437 v457 v477 v497 v517), ∀ a, (k1_off373 arg18 v357 v377 v397 v417 v437 v457 v477 v497 v517) a + S16.size a ≤ S2064.size a := fun arg18 v357 v377 v397 v417 v437 v457 v477 v497 v517 k1_hw77 => k1_hw77

def k1_off374 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c2048_i32_331 : BitVec 32 := 2048#32
  let v538 : BitVec 32 := Scalar.select v537 v534 c2048_i32_331
  let v542 : Index := Scalar.indexCast v538
  ![v542.toNat]

def k1_chk78 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) : Prop :=
  (∀ a, (k1_off374 arg18 v357 v377 v397 v417 v437 v457 v477 v497 v517 v537) a + S16.size a ≤ S2064.size a)
theorem k1_off374_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (k1_hw78 : k1_chk78 arg18 v357 v377 v397 v417 v437 v457 v477 v497 v517 v537), ∀ a, (k1_off374 arg18 v357 v377 v397 v417 v437 v457 v477 v497 v517 v537) a + S16.size a ≤ S2064.size a := fun arg18 v357 v377 v397 v417 v437 v457 v477 v497 v517 v537 k1_hw78 => k1_hw78

def k1_off375 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c2048_i32_334 : BitVec 32 := 2048#32
  let v558 : BitVec 32 := Scalar.select v557 v554 c2048_i32_334
  let v562 : Index := Scalar.indexCast v558
  ![v562.toNat]

def k1_chk79 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) : Prop :=
  (∀ a, (k1_off375 arg18 v357 v377 v397 v417 v437 v457 v477 v497 v517 v537 v557) a + S16.size a ≤ S2064.size a)
theorem k1_off375_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (k1_hw79 : k1_chk79 arg18 v357 v377 v397 v417 v437 v457 v477 v497 v517 v537 v557), ∀ a, (k1_off375 arg18 v357 v377 v397 v417 v437 v457 v477 v497 v517 v537 v557) a + S16.size a ≤ S2064.size a := fun arg18 v357 v377 v397 v417 v437 v457 v477 v497 v517 v537 v557 k1_hw79 => k1_hw79

def k1_off376 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c2048_i32_337 : BitVec 32 := 2048#32
  let v578 : BitVec 32 := Scalar.select v577 v574 c2048_i32_337
  let v582 : Index := Scalar.indexCast v578
  ![v582.toNat]

def k1_chk80 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) : Prop :=
  (∀ a, (k1_off376 arg18 v357 v377 v397 v417 v437 v457 v477 v497 v517 v537 v557 v577) a + S16.size a ≤ S2064.size a)
theorem k1_off376_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (k1_hw80 : k1_chk80 arg18 v357 v377 v397 v417 v437 v457 v477 v497 v517 v537 v557 v577), ∀ a, (k1_off376 arg18 v357 v377 v397 v417 v437 v457 v477 v497 v517 v537 v557 v577) a + S16.size a ≤ S2064.size a := fun arg18 v357 v377 v397 v417 v437 v457 v477 v497 v517 v537 v557 v577 k1_hw80 => k1_hw80

def k1_off377 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c2048_i32_340 : BitVec 32 := 2048#32
  let v598 : BitVec 32 := Scalar.select v597 v594 c2048_i32_340
  let v602 : Index := Scalar.indexCast v598
  ![v602.toNat]

def k1_chk81 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) : Prop :=
  (∀ a, (k1_off377 arg18 v357 v377 v397 v417 v437 v457 v477 v497 v517 v537 v557 v577 v597) a + S16.size a ≤ S2064.size a)
theorem k1_off377_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (k1_hw81 : k1_chk81 arg18 v357 v377 v397 v417 v437 v457 v477 v497 v517 v537 v557 v577 v597), ∀ a, (k1_off377 arg18 v357 v377 v397 v417 v437 v457 v477 v497 v517 v537 v557 v577 v597) a + S16.size a ≤ S2064.size a := fun arg18 v357 v377 v397 v417 v437 v457 v477 v497 v517 v537 v557 v577 v597 k1_hw81 => k1_hw81

def k1_off378 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c1_i32_341 : BitVec 32 := 1#32
  let v613 : BitVec 32 := Scalar.addi v594 c1_i32_341
  let v614 : BitVec 32 := Scalar.select v597 v613 v594
  let c2048_i32_343 : BitVec 32 := 2048#32
  let v618 : BitVec 32 := Scalar.select v617 v614 c2048_i32_343
  let v622 : Index := Scalar.indexCast v618
  ![v622.toNat]

def k1_chk82 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) : Prop :=
  (∀ a, (k1_off378 arg18 v357 v377 v397 v417 v437 v457 v477 v497 v517 v537 v557 v577 v597 v617) a + S16.size a ≤ S2064.size a)
theorem k1_off378_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (k1_hw82 : k1_chk82 arg18 v357 v377 v397 v417 v437 v457 v477 v497 v517 v537 v557 v577 v597 v617), ∀ a, (k1_off378 arg18 v357 v377 v397 v417 v437 v457 v477 v497 v517 v537 v557 v577 v597 v617) a + S16.size a ≤ S2064.size a := fun arg18 v357 v377 v397 v417 v437 v457 v477 v497 v517 v537 v557 v577 v597 v617 k1_hw82 => k1_hw82

def k1_off379 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c1_i32_341 : BitVec 32 := 1#32
  let v613 : BitVec 32 := Scalar.addi v594 c1_i32_341
  let v614 : BitVec 32 := Scalar.select v597 v613 v594
  let c1_i32_344 : BitVec 32 := 1#32
  let v633 : BitVec 32 := Scalar.addi v614 c1_i32_344
  let v634 : BitVec 32 := Scalar.select v617 v633 v614
  let c2048_i32_346 : BitVec 32 := 2048#32
  let v638 : BitVec 32 := Scalar.select v637 v634 c2048_i32_346
  let v642 : Index := Scalar.indexCast v638
  ![v642.toNat]

def k1_chk83 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) : Prop :=
  (∀ a, (k1_off379 arg18 v357 v377 v397 v417 v437 v457 v477 v497 v517 v537 v557 v577 v597 v617 v637) a + S16.size a ≤ S2064.size a)
theorem k1_off379_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (k1_hw83 : k1_chk83 arg18 v357 v377 v397 v417 v437 v457 v477 v497 v517 v537 v557 v577 v597 v617 v637), ∀ a, (k1_off379 arg18 v357 v377 v397 v417 v437 v457 v477 v497 v517 v537 v557 v577 v597 v617 v637) a + S16.size a ≤ S2064.size a := fun arg18 v357 v377 v397 v417 v437 v457 v477 v497 v517 v537 v557 v577 v597 v617 v637 k1_hw83 => k1_hw83

def k1_off380 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (v657 : BitVec 1) : Fin 1 → Nat :=
  let c1_i32_305 : BitVec 32 := 1#32
  let v373 : BitVec 32 := Scalar.addi arg18 c1_i32_305
  let v374 : BitVec 32 := Scalar.select v357 v373 arg18
  let c1_i32_308 : BitVec 32 := 1#32
  let v393 : BitVec 32 := Scalar.addi v374 c1_i32_308
  let v394 : BitVec 32 := Scalar.select v377 v393 v374
  let c1_i32_311 : BitVec 32 := 1#32
  let v413 : BitVec 32 := Scalar.addi v394 c1_i32_311
  let v414 : BitVec 32 := Scalar.select v397 v413 v394
  let c1_i32_314 : BitVec 32 := 1#32
  let v433 : BitVec 32 := Scalar.addi v414 c1_i32_314
  let v434 : BitVec 32 := Scalar.select v417 v433 v414
  let c1_i32_317 : BitVec 32 := 1#32
  let v453 : BitVec 32 := Scalar.addi v434 c1_i32_317
  let v454 : BitVec 32 := Scalar.select v437 v453 v434
  let c1_i32_320 : BitVec 32 := 1#32
  let v473 : BitVec 32 := Scalar.addi v454 c1_i32_320
  let v474 : BitVec 32 := Scalar.select v457 v473 v454
  let c1_i32_323 : BitVec 32 := 1#32
  let v493 : BitVec 32 := Scalar.addi v474 c1_i32_323
  let v494 : BitVec 32 := Scalar.select v477 v493 v474
  let c1_i32_326 : BitVec 32 := 1#32
  let v513 : BitVec 32 := Scalar.addi v494 c1_i32_326
  let v514 : BitVec 32 := Scalar.select v497 v513 v494
  let c1_i32_329 : BitVec 32 := 1#32
  let v533 : BitVec 32 := Scalar.addi v514 c1_i32_329
  let v534 : BitVec 32 := Scalar.select v517 v533 v514
  let c1_i32_332 : BitVec 32 := 1#32
  let v553 : BitVec 32 := Scalar.addi v534 c1_i32_332
  let v554 : BitVec 32 := Scalar.select v537 v553 v534
  let c1_i32_335 : BitVec 32 := 1#32
  let v573 : BitVec 32 := Scalar.addi v554 c1_i32_335
  let v574 : BitVec 32 := Scalar.select v557 v573 v554
  let c1_i32_338 : BitVec 32 := 1#32
  let v593 : BitVec 32 := Scalar.addi v574 c1_i32_338
  let v594 : BitVec 32 := Scalar.select v577 v593 v574
  let c1_i32_341 : BitVec 32 := 1#32
  let v613 : BitVec 32 := Scalar.addi v594 c1_i32_341
  let v614 : BitVec 32 := Scalar.select v597 v613 v594
  let c1_i32_344 : BitVec 32 := 1#32
  let v633 : BitVec 32 := Scalar.addi v614 c1_i32_344
  let v634 : BitVec 32 := Scalar.select v617 v633 v614
  let c1_i32_347 : BitVec 32 := 1#32
  let v653 : BitVec 32 := Scalar.addi v634 c1_i32_347
  let v654 : BitVec 32 := Scalar.select v637 v653 v634
  let c2048_i32_349 : BitVec 32 := 2048#32
  let v658 : BitVec 32 := Scalar.select v657 v654 c2048_i32_349
  let v662 : Index := Scalar.indexCast v658
  ![v662.toNat]

def k1_chk84 (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (v657 : BitVec 1) : Prop :=
  (∀ a, (k1_off380 arg18 v357 v377 v397 v417 v437 v457 v477 v497 v517 v537 v557 v577 v597 v617 v637 v657) a + S16.size a ≤ S2064.size a)
theorem k1_off380_inb : ∀ (arg18 : BitVec 32) (v357 : BitVec 1) (v377 : BitVec 1) (v397 : BitVec 1) (v417 : BitVec 1) (v437 : BitVec 1) (v457 : BitVec 1) (v477 : BitVec 1) (v497 : BitVec 1) (v517 : BitVec 1) (v537 : BitVec 1) (v557 : BitVec 1) (v577 : BitVec 1) (v597 : BitVec 1) (v617 : BitVec 1) (v637 : BitVec 1) (v657 : BitVec 1) (k1_hw84 : k1_chk84 arg18 v357 v377 v397 v417 v437 v457 v477 v497 v517 v537 v557 v577 v597 v617 v637 v657), ∀ a, (k1_off380 arg18 v357 v377 v397 v417 v437 v457 v477 v497 v517 v537 v557 v577 v597 v617 v637 v657) a + S16.size a ≤ S2064.size a := fun arg18 v357 v377 v397 v417 v437 v457 v477 v497 v517 v537 v557 v577 v597 v617 v637 v657 k1_hw84 => k1_hw84

def k1_off381 (v267 : BitVec 32) : Fin 1 → Nat :=
  let v268 : Index := Scalar.indexCast v267
  ![v268.toNat]

@[reducible] def k1_t35_loop (v267 : BitVec 32) : Scf.Loop 32 :=
  let c0_i32_296 : BitVec 32 := 0#32
  let c128_i32_286 : BitVec 32 := 128#32
  let v301 : BitVec 32 := Scalar.addi v267 c128_i32_286
  let c1_i32_287 : BitVec 32 := 1#32
  let v302 : BitVec 32 := Scalar.subi v301 c1_i32_287
  let c0_i32_289 : BitVec 32 := 0#32
  let v304 : BitVec 1 := Scalar.cmpi .sgt v302 c0_i32_289
  let v305 : BitVec 32 := Scalar.extui v304
  let c0_i32_290 : BitVec 32 := 0#32
  let v306 : BitVec 1 := Scalar.cmpi .slt v302 c0_i32_290
  let v307 : BitVec 32 := Scalar.extui v306
  let v308 : BitVec 32 := Scalar.subi v305 v307
  let c128_i32_288 : BitVec 32 := 128#32
  let c0_i32_291 : BitVec 32 := 0#32
  let v309 : BitVec 1 := Scalar.cmpi .sgt c128_i32_288 c0_i32_291
  let v310 : BitVec 32 := Scalar.extui v309
  let c0_i32_292 : BitVec 32 := 0#32
  let v311 : BitVec 1 := Scalar.cmpi .slt c128_i32_288 c0_i32_292
  let v312 : BitVec 32 := Scalar.extui v311
  let v313 : BitVec 32 := Scalar.subi v310 v312
  let v314 : BitVec 1 := Scalar.cmpi .ne v308 v313
  let v315 : BitVec 32 := Scalar.remsi v302 c128_i32_288
  let c0_i32_293 : BitVec 32 := 0#32
  let v316 : BitVec 1 := Scalar.cmpi .ne v315 c0_i32_293
  let v317 : BitVec 1 := Scalar.andi v314 v316
  let v303 : BitVec 32 := Scalar.divsi v302 c128_i32_288
  let c1_i32_294 : BitVec 32 := 1#32
  let v318 : BitVec 32 := Scalar.subi v303 c1_i32_294
  let v319 : BitVec 32 := Scalar.select v317 v318 v303
  let c1_i32_295 : BitVec 32 := 1#32
  let v320 : BitVec 32 := Scalar.maxsi v319 c1_i32_295
  let v321 : BitVec 32 := Scalar.subi v320 c0_i32_296
  let c1_i32_297 : BitVec 32 := 1#32
  let v323 : BitVec 32 := Scalar.divsi v321 c1_i32_297
  let v324 : BitVec 32 := Scalar.muli v323 c1_i32_297
  let v325 : BitVec 32 := Scalar.addi c0_i32_296 v324
  let c1_i32_298 : BitVec 32 := 1#32
  ⟨c0_i32_296, v325, c1_i32_298⟩
def k1_off382 (v267 : BitVec 32) (k1_t35 : Fin (k1_t35_loop v267).trips) (c0_i32_303 : BitVec 32) : Fin 1 → Nat :=
  let c0_i32_296 : BitVec 32 := 0#32
  let c1_i32_298 : BitVec 32 := 1#32
  let arg17 : BitVec 32 := Scf.iv c0_i32_296 c1_i32_298 k1_t35
  let c2_i32_302 : BitVec 32 := 2#32
  let v343 : BitVec 32 := Scalar.muli arg17 c2_i32_302
  let v344 : BitVec 32 := Scalar.addi v343 c0_i32_303
  let c64_i32_304 : BitVec 32 := 64#32
  let v345 : BitVec 32 := Scalar.muli v344 c64_i32_304
  ![v345.toNat]
@[reducible] def k1_t36_loop : Scf.Loop 32 :=
  let c0_i32_322 : BitVec 32 := 0#32
  let c32_i32 : BitVec 32 := 32#32
  let v359 : BitVec 32 := Scalar.addi c0_i32_322 c32_i32
  let c1_i32_323 : BitVec 32 := 1#32
  ⟨c0_i32_322, v359, c1_i32_323⟩
def k1_off383 (k1_t36 : Fin k1_t36_loop.trips) (c0_i32_356 : BitVec 32) : Fin 4 → Nat :=
  let c0_i32_357 : BitVec 32 := 0#32
  let v391 : Index := Scalar.indexCast c0_i32_357
  let c0_i32_358 : BitVec 32 := 0#32
  let v392 : Index := Scalar.indexCast c0_i32_358
  let c0_i32_322 : BitVec 32 := 0#32
  let c1_i32_323 : BitVec 32 := 1#32
  let arg26 : BitVec 32 := Scf.iv c0_i32_322 c1_i32_323 k1_t36
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 0, v393.toNat, 0]
def k1_off384 (k1_t36 : Fin k1_t36_loop.trips) (c0_i32_356 : BitVec 32) : Fin 4 → Nat :=
  let c1_i32_360 : BitVec 32 := 1#32
  let v396 : Index := Scalar.indexCast c1_i32_360
  let c0_i32_361 : BitVec 32 := 0#32
  let v397 : Index := Scalar.indexCast c0_i32_361
  let c0_i32_322 : BitVec 32 := 0#32
  let c1_i32_323 : BitVec 32 := 1#32
  let arg26 : BitVec 32 := Scf.iv c0_i32_322 c1_i32_323 k1_t36
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 0, v398.toNat, 0]
def k1_off385 (k1_t36 : Fin k1_t36_loop.trips) (c0_i32_356 : BitVec 32) : Fin 4 → Nat :=
  let c0_i32_363 : BitVec 32 := 0#32
  let v403 : Index := Scalar.indexCast c0_i32_363
  let c0_i32_364 : BitVec 32 := 0#32
  let v404 : Index := Scalar.indexCast c0_i32_364
  let c0_i32_322 : BitVec 32 := 0#32
  let c1_i32_323 : BitVec 32 := 1#32
  let arg26 : BitVec 32 := Scf.iv c0_i32_322 c1_i32_323 k1_t36
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 0, v405.toNat, 16]
def k1_off386 (k1_t36 : Fin k1_t36_loop.trips) (c0_i32_356 : BitVec 32) : Fin 4 → Nat :=
  let c1_i32_365 : BitVec 32 := 1#32
  let v408 : Index := Scalar.indexCast c1_i32_365
  let c0_i32_366 : BitVec 32 := 0#32
  let v409 : Index := Scalar.indexCast c0_i32_366
  let c0_i32_322 : BitVec 32 := 0#32
  let c1_i32_323 : BitVec 32 := 1#32
  let arg26 : BitVec 32 := Scf.iv c0_i32_322 c1_i32_323 k1_t36
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 0, v410.toNat, 16]
def k1_off387 (k1_t36 : Fin k1_t36_loop.trips) (c0_i32_356 : BitVec 32) : Fin 4 → Nat :=
  let c0_i32_368 : BitVec 32 := 0#32
  let v415 : Index := Scalar.indexCast c0_i32_368
  let c0_i32_369 : BitVec 32 := 0#32
  let v416 : Index := Scalar.indexCast c0_i32_369
  let c0_i32_322 : BitVec 32 := 0#32
  let c1_i32_323 : BitVec 32 := 1#32
  let arg26 : BitVec 32 := Scf.iv c0_i32_322 c1_i32_323 k1_t36
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 0, v417.toNat, 32]
def k1_off388 (k1_t36 : Fin k1_t36_loop.trips) (c0_i32_356 : BitVec 32) : Fin 4 → Nat :=
  let c1_i32_370 : BitVec 32 := 1#32
  let v420 : Index := Scalar.indexCast c1_i32_370
  let c0_i32_371 : BitVec 32 := 0#32
  let v421 : Index := Scalar.indexCast c0_i32_371
  let c0_i32_322 : BitVec 32 := 0#32
  let c1_i32_323 : BitVec 32 := 1#32
  let arg26 : BitVec 32 := Scf.iv c0_i32_322 c1_i32_323 k1_t36
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 0, v422.toNat, 32]
def k1_off389 (k1_t36 : Fin k1_t36_loop.trips) (c0_i32_356 : BitVec 32) : Fin 4 → Nat :=
  let c0_i32_373 : BitVec 32 := 0#32
  let v427 : Index := Scalar.indexCast c0_i32_373
  let c0_i32_374 : BitVec 32 := 0#32
  let v428 : Index := Scalar.indexCast c0_i32_374
  let c0_i32_322 : BitVec 32 := 0#32
  let c1_i32_323 : BitVec 32 := 1#32
  let arg26 : BitVec 32 := Scf.iv c0_i32_322 c1_i32_323 k1_t36
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 0, v429.toNat, 48]
def k1_off390 (k1_t36 : Fin k1_t36_loop.trips) (c0_i32_356 : BitVec 32) : Fin 4 → Nat :=
  let c1_i32_375 : BitVec 32 := 1#32
  let v432 : Index := Scalar.indexCast c1_i32_375
  let c0_i32_376 : BitVec 32 := 0#32
  let v433 : Index := Scalar.indexCast c0_i32_376
  let c0_i32_322 : BitVec 32 := 0#32
  let c1_i32_323 : BitVec 32 := 1#32
  let arg26 : BitVec 32 := Scf.iv c0_i32_322 c1_i32_323 k1_t36
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 0, v434.toNat, 48]
def k1_off391 (k1_t36 : Fin k1_t36_loop.trips) (c0_i32_356 : BitVec 32) : Fin 4 → Nat :=
  let c0_i32_378 : BitVec 32 := 0#32
  let v439 : Index := Scalar.indexCast c0_i32_378
  let c0_i32_379 : BitVec 32 := 0#32
  let v440 : Index := Scalar.indexCast c0_i32_379
  let c0_i32_322 : BitVec 32 := 0#32
  let c1_i32_323 : BitVec 32 := 1#32
  let arg26 : BitVec 32 := Scf.iv c0_i32_322 c1_i32_323 k1_t36
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 0, v441.toNat, 64]
def k1_off392 (k1_t36 : Fin k1_t36_loop.trips) (c0_i32_356 : BitVec 32) : Fin 4 → Nat :=
  let c1_i32_380 : BitVec 32 := 1#32
  let v444 : Index := Scalar.indexCast c1_i32_380
  let c0_i32_381 : BitVec 32 := 0#32
  let v445 : Index := Scalar.indexCast c0_i32_381
  let c0_i32_322 : BitVec 32 := 0#32
  let c1_i32_323 : BitVec 32 := 1#32
  let arg26 : BitVec 32 := Scf.iv c0_i32_322 c1_i32_323 k1_t36
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 0, v446.toNat, 64]
def k1_off393 (k1_t36 : Fin k1_t36_loop.trips) (c0_i32_356 : BitVec 32) : Fin 4 → Nat :=
  let c0_i32_383 : BitVec 32 := 0#32
  let v451 : Index := Scalar.indexCast c0_i32_383
  let c0_i32_384 : BitVec 32 := 0#32
  let v452 : Index := Scalar.indexCast c0_i32_384
  let c0_i32_322 : BitVec 32 := 0#32
  let c1_i32_323 : BitVec 32 := 1#32
  let arg26 : BitVec 32 := Scf.iv c0_i32_322 c1_i32_323 k1_t36
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 0, v453.toNat, 80]
def k1_off394 (k1_t36 : Fin k1_t36_loop.trips) (c0_i32_356 : BitVec 32) : Fin 4 → Nat :=
  let c1_i32_385 : BitVec 32 := 1#32
  let v456 : Index := Scalar.indexCast c1_i32_385
  let c0_i32_386 : BitVec 32 := 0#32
  let v457 : Index := Scalar.indexCast c0_i32_386
  let c0_i32_322 : BitVec 32 := 0#32
  let c1_i32_323 : BitVec 32 := 1#32
  let arg26 : BitVec 32 := Scf.iv c0_i32_322 c1_i32_323 k1_t36
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 0, v458.toNat, 80]
def k1_off395 (k1_t36 : Fin k1_t36_loop.trips) (c0_i32_356 : BitVec 32) : Fin 4 → Nat :=
  let c0_i32_388 : BitVec 32 := 0#32
  let v463 : Index := Scalar.indexCast c0_i32_388
  let c0_i32_389 : BitVec 32 := 0#32
  let v464 : Index := Scalar.indexCast c0_i32_389
  let c0_i32_322 : BitVec 32 := 0#32
  let c1_i32_323 : BitVec 32 := 1#32
  let arg26 : BitVec 32 := Scf.iv c0_i32_322 c1_i32_323 k1_t36
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 0, v465.toNat, 96]
def k1_off396 (k1_t36 : Fin k1_t36_loop.trips) (c0_i32_356 : BitVec 32) : Fin 4 → Nat :=
  let c1_i32_390 : BitVec 32 := 1#32
  let v468 : Index := Scalar.indexCast c1_i32_390
  let c0_i32_391 : BitVec 32 := 0#32
  let v469 : Index := Scalar.indexCast c0_i32_391
  let c0_i32_322 : BitVec 32 := 0#32
  let c1_i32_323 : BitVec 32 := 1#32
  let arg26 : BitVec 32 := Scf.iv c0_i32_322 c1_i32_323 k1_t36
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 0, v470.toNat, 96]
def k1_off397 (k1_t36 : Fin k1_t36_loop.trips) (c0_i32_356 : BitVec 32) : Fin 4 → Nat :=
  let c0_i32_393 : BitVec 32 := 0#32
  let v475 : Index := Scalar.indexCast c0_i32_393
  let c0_i32_394 : BitVec 32 := 0#32
  let v476 : Index := Scalar.indexCast c0_i32_394
  let c0_i32_322 : BitVec 32 := 0#32
  let c1_i32_323 : BitVec 32 := 1#32
  let arg26 : BitVec 32 := Scf.iv c0_i32_322 c1_i32_323 k1_t36
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 0, v477.toNat, 112]
def k1_off398 (k1_t36 : Fin k1_t36_loop.trips) (c0_i32_356 : BitVec 32) : Fin 4 → Nat :=
  let c1_i32_395 : BitVec 32 := 1#32
  let v480 : Index := Scalar.indexCast c1_i32_395
  let c0_i32_396 : BitVec 32 := 0#32
  let v481 : Index := Scalar.indexCast c0_i32_396
  let c0_i32_322 : BitVec 32 := 0#32
  let c1_i32_323 : BitVec 32 := 1#32
  let arg26 : BitVec 32 := Scf.iv c0_i32_322 c1_i32_323 k1_t36
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 0, v482.toNat, 112]
def k1_off399 (v267 : BitVec 32) (k1_t35 : Fin (k1_t35_loop v267).trips) : Fin 1 → Nat :=
  let c0_i32_296 : BitVec 32 := 0#32
  let c1_i32_298 : BitVec 32 := 1#32
  let arg17 : BitVec 32 := Scf.iv c0_i32_296 c1_i32_298 k1_t35
  let c2_i32_302 : BitVec 32 := 2#32
  let v343 : BitVec 32 := Scalar.muli arg17 c2_i32_302
  let c0_i32_303 : BitVec 32 := 0#32
  let v344 : BitVec 32 := Scalar.addi v343 c0_i32_303
  let c2_i32_355 : BitVec 32 := 2#32
  let v389 : BitVec 32 := Scalar.addi v344 c2_i32_355
  let c64_i32_356 : BitVec 32 := 64#32
  let v390 : BitVec 32 := Scalar.muli v389 c64_i32_356
  ![v390.toNat]
def k1_cond17 (v267 : BitVec 32) (k1_t35 : Fin (k1_t35_loop v267).trips) : BitVec 1 :=
  let c0_i32_296 : BitVec 32 := 0#32
  let c1_i32_298 : BitVec 32 := 1#32
  let arg17 : BitVec 32 := Scf.iv c0_i32_296 c1_i32_298 k1_t35
  let c2_i32_302 : BitVec 32 := 2#32
  let v343 : BitVec 32 := Scalar.muli arg17 c2_i32_302
  let c0_i32_303 : BitVec 32 := 0#32
  let v344 : BitVec 32 := Scalar.addi v343 c0_i32_303
  let c2_i32_325 : BitVec 32 := 2#32
  let v361 : BitVec 32 := Scalar.addi v344 c2_i32_325
  let c128_i32_286 : BitVec 32 := 128#32
  let v301 : BitVec 32 := Scalar.addi v267 c128_i32_286
  let c1_i32_287 : BitVec 32 := 1#32
  let v302 : BitVec 32 := Scalar.subi v301 c1_i32_287
  let c0_i32_289 : BitVec 32 := 0#32
  let v304 : BitVec 1 := Scalar.cmpi .sgt v302 c0_i32_289
  let v305 : BitVec 32 := Scalar.extui v304
  let c0_i32_290 : BitVec 32 := 0#32
  let v306 : BitVec 1 := Scalar.cmpi .slt v302 c0_i32_290
  let v307 : BitVec 32 := Scalar.extui v306
  let v308 : BitVec 32 := Scalar.subi v305 v307
  let c128_i32_288 : BitVec 32 := 128#32
  let c0_i32_291 : BitVec 32 := 0#32
  let v309 : BitVec 1 := Scalar.cmpi .sgt c128_i32_288 c0_i32_291
  let v310 : BitVec 32 := Scalar.extui v309
  let c0_i32_292 : BitVec 32 := 0#32
  let v311 : BitVec 1 := Scalar.cmpi .slt c128_i32_288 c0_i32_292
  let v312 : BitVec 32 := Scalar.extui v311
  let v313 : BitVec 32 := Scalar.subi v310 v312
  let v314 : BitVec 1 := Scalar.cmpi .ne v308 v313
  let v315 : BitVec 32 := Scalar.remsi v302 c128_i32_288
  let c0_i32_293 : BitVec 32 := 0#32
  let v316 : BitVec 1 := Scalar.cmpi .ne v315 c0_i32_293
  let v317 : BitVec 1 := Scalar.andi v314 v316
  let v303 : BitVec 32 := Scalar.divsi v302 c128_i32_288
  let c1_i32_294 : BitVec 32 := 1#32
  let v318 : BitVec 32 := Scalar.subi v303 c1_i32_294
  let v319 : BitVec 32 := Scalar.select v317 v318 v303
  let c1_i32_295 : BitVec 32 := 1#32
  let v320 : BitVec 32 := Scalar.maxsi v319 c1_i32_295
  let c2_i32_326 : BitVec 32 := 2#32
  let v362 : BitVec 32 := Scalar.muli v320 c2_i32_326
  let v363 : BitVec 1 := Scalar.cmpi .slt v361 v362
  let v364 : BitVec 32 := Scalar.extui v363
  let c0_i32_327 : BitVec 32 := 0#32
  let v365 : BitVec 1 := Scalar.cmpi .ne v364 c0_i32_327
  v365

@[reducible] def k1_t37_loop : Scf.Loop 32 :=
  let c0_i32_348 : BitVec 32 := 0#32
  let c32_i32_349 : BitVec 32 := 32#32
  let v382 : BitVec 32 := Scalar.addi c0_i32_348 c32_i32_349
  let c1_i32_350 : BitVec 32 := 1#32
  ⟨c0_i32_348, v382, c1_i32_350⟩
def k1_off400 (k1_t37 : Fin k1_t37_loop.trips) (c0_i32_356 : BitVec 32) : Fin 4 → Nat :=
  let c0_i32_357 : BitVec 32 := 0#32
  let v391 : Index := Scalar.indexCast c0_i32_357
  let c1_i32_358 : BitVec 32 := 1#32
  let v392 : Index := Scalar.indexCast c1_i32_358
  let c0_i32_348 : BitVec 32 := 0#32
  let c1_i32_350 : BitVec 32 := 1#32
  let arg26 : BitVec 32 := Scf.iv c0_i32_348 c1_i32_350 k1_t37
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 1, v393.toNat, 0]
def k1_off401 (k1_t37 : Fin k1_t37_loop.trips) (c0_i32_356 : BitVec 32) : Fin 4 → Nat :=
  let c1_i32_360 : BitVec 32 := 1#32
  let v396 : Index := Scalar.indexCast c1_i32_360
  let c1_i32_361 : BitVec 32 := 1#32
  let v397 : Index := Scalar.indexCast c1_i32_361
  let c0_i32_348 : BitVec 32 := 0#32
  let c1_i32_350 : BitVec 32 := 1#32
  let arg26 : BitVec 32 := Scf.iv c0_i32_348 c1_i32_350 k1_t37
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 1, v398.toNat, 0]
def k1_off402 (k1_t37 : Fin k1_t37_loop.trips) (c0_i32_356 : BitVec 32) : Fin 4 → Nat :=
  let c0_i32_363 : BitVec 32 := 0#32
  let v403 : Index := Scalar.indexCast c0_i32_363
  let c1_i32_364 : BitVec 32 := 1#32
  let v404 : Index := Scalar.indexCast c1_i32_364
  let c0_i32_348 : BitVec 32 := 0#32
  let c1_i32_350 : BitVec 32 := 1#32
  let arg26 : BitVec 32 := Scf.iv c0_i32_348 c1_i32_350 k1_t37
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 1, v405.toNat, 16]
def k1_off403 (k1_t37 : Fin k1_t37_loop.trips) (c0_i32_356 : BitVec 32) : Fin 4 → Nat :=
  let c1_i32_365 : BitVec 32 := 1#32
  let v408 : Index := Scalar.indexCast c1_i32_365
  let c1_i32_366 : BitVec 32 := 1#32
  let v409 : Index := Scalar.indexCast c1_i32_366
  let c0_i32_348 : BitVec 32 := 0#32
  let c1_i32_350 : BitVec 32 := 1#32
  let arg26 : BitVec 32 := Scf.iv c0_i32_348 c1_i32_350 k1_t37
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 1, v410.toNat, 16]
def k1_off404 (k1_t37 : Fin k1_t37_loop.trips) (c0_i32_356 : BitVec 32) : Fin 4 → Nat :=
  let c0_i32_368 : BitVec 32 := 0#32
  let v415 : Index := Scalar.indexCast c0_i32_368
  let c1_i32_369 : BitVec 32 := 1#32
  let v416 : Index := Scalar.indexCast c1_i32_369
  let c0_i32_348 : BitVec 32 := 0#32
  let c1_i32_350 : BitVec 32 := 1#32
  let arg26 : BitVec 32 := Scf.iv c0_i32_348 c1_i32_350 k1_t37
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 1, v417.toNat, 32]
def k1_off405 (k1_t37 : Fin k1_t37_loop.trips) (c0_i32_356 : BitVec 32) : Fin 4 → Nat :=
  let c1_i32_370 : BitVec 32 := 1#32
  let v420 : Index := Scalar.indexCast c1_i32_370
  let c1_i32_371 : BitVec 32 := 1#32
  let v421 : Index := Scalar.indexCast c1_i32_371
  let c0_i32_348 : BitVec 32 := 0#32
  let c1_i32_350 : BitVec 32 := 1#32
  let arg26 : BitVec 32 := Scf.iv c0_i32_348 c1_i32_350 k1_t37
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 1, v422.toNat, 32]
def k1_off406 (k1_t37 : Fin k1_t37_loop.trips) (c0_i32_356 : BitVec 32) : Fin 4 → Nat :=
  let c0_i32_373 : BitVec 32 := 0#32
  let v427 : Index := Scalar.indexCast c0_i32_373
  let c1_i32_374 : BitVec 32 := 1#32
  let v428 : Index := Scalar.indexCast c1_i32_374
  let c0_i32_348 : BitVec 32 := 0#32
  let c1_i32_350 : BitVec 32 := 1#32
  let arg26 : BitVec 32 := Scf.iv c0_i32_348 c1_i32_350 k1_t37
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 1, v429.toNat, 48]
def k1_off407 (k1_t37 : Fin k1_t37_loop.trips) (c0_i32_356 : BitVec 32) : Fin 4 → Nat :=
  let c1_i32_375 : BitVec 32 := 1#32
  let v432 : Index := Scalar.indexCast c1_i32_375
  let c1_i32_376 : BitVec 32 := 1#32
  let v433 : Index := Scalar.indexCast c1_i32_376
  let c0_i32_348 : BitVec 32 := 0#32
  let c1_i32_350 : BitVec 32 := 1#32
  let arg26 : BitVec 32 := Scf.iv c0_i32_348 c1_i32_350 k1_t37
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 1, v434.toNat, 48]
def k1_off408 (k1_t37 : Fin k1_t37_loop.trips) (c0_i32_356 : BitVec 32) : Fin 4 → Nat :=
  let c0_i32_378 : BitVec 32 := 0#32
  let v439 : Index := Scalar.indexCast c0_i32_378
  let c1_i32_379 : BitVec 32 := 1#32
  let v440 : Index := Scalar.indexCast c1_i32_379
  let c0_i32_348 : BitVec 32 := 0#32
  let c1_i32_350 : BitVec 32 := 1#32
  let arg26 : BitVec 32 := Scf.iv c0_i32_348 c1_i32_350 k1_t37
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 1, v441.toNat, 64]
def k1_off409 (k1_t37 : Fin k1_t37_loop.trips) (c0_i32_356 : BitVec 32) : Fin 4 → Nat :=
  let c1_i32_380 : BitVec 32 := 1#32
  let v444 : Index := Scalar.indexCast c1_i32_380
  let c1_i32_381 : BitVec 32 := 1#32
  let v445 : Index := Scalar.indexCast c1_i32_381
  let c0_i32_348 : BitVec 32 := 0#32
  let c1_i32_350 : BitVec 32 := 1#32
  let arg26 : BitVec 32 := Scf.iv c0_i32_348 c1_i32_350 k1_t37
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 1, v446.toNat, 64]
def k1_off410 (k1_t37 : Fin k1_t37_loop.trips) (c0_i32_356 : BitVec 32) : Fin 4 → Nat :=
  let c0_i32_383 : BitVec 32 := 0#32
  let v451 : Index := Scalar.indexCast c0_i32_383
  let c1_i32_384 : BitVec 32 := 1#32
  let v452 : Index := Scalar.indexCast c1_i32_384
  let c0_i32_348 : BitVec 32 := 0#32
  let c1_i32_350 : BitVec 32 := 1#32
  let arg26 : BitVec 32 := Scf.iv c0_i32_348 c1_i32_350 k1_t37
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 1, v453.toNat, 80]
def k1_off411 (k1_t37 : Fin k1_t37_loop.trips) (c0_i32_356 : BitVec 32) : Fin 4 → Nat :=
  let c1_i32_385 : BitVec 32 := 1#32
  let v456 : Index := Scalar.indexCast c1_i32_385
  let c1_i32_386 : BitVec 32 := 1#32
  let v457 : Index := Scalar.indexCast c1_i32_386
  let c0_i32_348 : BitVec 32 := 0#32
  let c1_i32_350 : BitVec 32 := 1#32
  let arg26 : BitVec 32 := Scf.iv c0_i32_348 c1_i32_350 k1_t37
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 1, v458.toNat, 80]
def k1_off412 (k1_t37 : Fin k1_t37_loop.trips) (c0_i32_356 : BitVec 32) : Fin 4 → Nat :=
  let c0_i32_388 : BitVec 32 := 0#32
  let v463 : Index := Scalar.indexCast c0_i32_388
  let c1_i32_389 : BitVec 32 := 1#32
  let v464 : Index := Scalar.indexCast c1_i32_389
  let c0_i32_348 : BitVec 32 := 0#32
  let c1_i32_350 : BitVec 32 := 1#32
  let arg26 : BitVec 32 := Scf.iv c0_i32_348 c1_i32_350 k1_t37
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 1, v465.toNat, 96]
def k1_off413 (k1_t37 : Fin k1_t37_loop.trips) (c0_i32_356 : BitVec 32) : Fin 4 → Nat :=
  let c1_i32_390 : BitVec 32 := 1#32
  let v468 : Index := Scalar.indexCast c1_i32_390
  let c1_i32_391 : BitVec 32 := 1#32
  let v469 : Index := Scalar.indexCast c1_i32_391
  let c0_i32_348 : BitVec 32 := 0#32
  let c1_i32_350 : BitVec 32 := 1#32
  let arg26 : BitVec 32 := Scf.iv c0_i32_348 c1_i32_350 k1_t37
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 1, v470.toNat, 96]
def k1_off414 (k1_t37 : Fin k1_t37_loop.trips) (c0_i32_356 : BitVec 32) : Fin 4 → Nat :=
  let c0_i32_393 : BitVec 32 := 0#32
  let v475 : Index := Scalar.indexCast c0_i32_393
  let c1_i32_394 : BitVec 32 := 1#32
  let v476 : Index := Scalar.indexCast c1_i32_394
  let c0_i32_348 : BitVec 32 := 0#32
  let c1_i32_350 : BitVec 32 := 1#32
  let arg26 : BitVec 32 := Scf.iv c0_i32_348 c1_i32_350 k1_t37
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 1, v477.toNat, 112]
def k1_off415 (k1_t37 : Fin k1_t37_loop.trips) (c0_i32_356 : BitVec 32) : Fin 4 → Nat :=
  let c1_i32_395 : BitVec 32 := 1#32
  let v480 : Index := Scalar.indexCast c1_i32_395
  let c1_i32_396 : BitVec 32 := 1#32
  let v481 : Index := Scalar.indexCast c1_i32_396
  let c0_i32_348 : BitVec 32 := 0#32
  let c1_i32_350 : BitVec 32 := 1#32
  let arg26 : BitVec 32 := Scf.iv c0_i32_348 c1_i32_350 k1_t37
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 1, v482.toNat, 112]
def k1_off416 (v267 : BitVec 32) (k1_t35 : Fin (k1_t35_loop v267).trips) : Fin 1 → Nat :=
  let c0_i32_296 : BitVec 32 := 0#32
  let c1_i32_298 : BitVec 32 := 1#32
  let arg17 : BitVec 32 := Scf.iv c0_i32_296 c1_i32_298 k1_t35
  let c2_i32_328 : BitVec 32 := 2#32
  let v366 : BitVec 32 := Scalar.muli arg17 c2_i32_328
  let c1_i32_329 : BitVec 32 := 1#32
  let v367 : BitVec 32 := Scalar.addi v366 c1_i32_329
  let c2_i32_355 : BitVec 32 := 2#32
  let v389 : BitVec 32 := Scalar.addi v367 c2_i32_355
  let c64_i32_356 : BitVec 32 := 64#32
  let v390 : BitVec 32 := Scalar.muli v389 c64_i32_356
  ![v390.toNat]
def k1_cond18 (v267 : BitVec 32) (k1_t35 : Fin (k1_t35_loop v267).trips) : BitVec 1 :=
  let c0_i32_296 : BitVec 32 := 0#32
  let c1_i32_298 : BitVec 32 := 1#32
  let arg17 : BitVec 32 := Scf.iv c0_i32_296 c1_i32_298 k1_t35
  let c2_i32_328 : BitVec 32 := 2#32
  let v366 : BitVec 32 := Scalar.muli arg17 c2_i32_328
  let c1_i32_329 : BitVec 32 := 1#32
  let v367 : BitVec 32 := Scalar.addi v366 c1_i32_329
  let c2_i32_352 : BitVec 32 := 2#32
  let v384 : BitVec 32 := Scalar.addi v367 c2_i32_352
  let c128_i32_286 : BitVec 32 := 128#32
  let v301 : BitVec 32 := Scalar.addi v267 c128_i32_286
  let c1_i32_287 : BitVec 32 := 1#32
  let v302 : BitVec 32 := Scalar.subi v301 c1_i32_287
  let c0_i32_289 : BitVec 32 := 0#32
  let v304 : BitVec 1 := Scalar.cmpi .sgt v302 c0_i32_289
  let v305 : BitVec 32 := Scalar.extui v304
  let c0_i32_290 : BitVec 32 := 0#32
  let v306 : BitVec 1 := Scalar.cmpi .slt v302 c0_i32_290
  let v307 : BitVec 32 := Scalar.extui v306
  let v308 : BitVec 32 := Scalar.subi v305 v307
  let c128_i32_288 : BitVec 32 := 128#32
  let c0_i32_291 : BitVec 32 := 0#32
  let v309 : BitVec 1 := Scalar.cmpi .sgt c128_i32_288 c0_i32_291
  let v310 : BitVec 32 := Scalar.extui v309
  let c0_i32_292 : BitVec 32 := 0#32
  let v311 : BitVec 1 := Scalar.cmpi .slt c128_i32_288 c0_i32_292
  let v312 : BitVec 32 := Scalar.extui v311
  let v313 : BitVec 32 := Scalar.subi v310 v312
  let v314 : BitVec 1 := Scalar.cmpi .ne v308 v313
  let v315 : BitVec 32 := Scalar.remsi v302 c128_i32_288
  let c0_i32_293 : BitVec 32 := 0#32
  let v316 : BitVec 1 := Scalar.cmpi .ne v315 c0_i32_293
  let v317 : BitVec 1 := Scalar.andi v314 v316
  let v303 : BitVec 32 := Scalar.divsi v302 c128_i32_288
  let c1_i32_294 : BitVec 32 := 1#32
  let v318 : BitVec 32 := Scalar.subi v303 c1_i32_294
  let v319 : BitVec 32 := Scalar.select v317 v318 v303
  let c1_i32_295 : BitVec 32 := 1#32
  let v320 : BitVec 32 := Scalar.maxsi v319 c1_i32_295
  let c2_i32_353 : BitVec 32 := 2#32
  let v385 : BitVec 32 := Scalar.muli v320 c2_i32_353
  let v386 : BitVec 1 := Scalar.cmpi .slt v384 v385
  let v387 : BitVec 32 := Scalar.extui v386
  let c0_i32_354 : BitVec 32 := 0#32
  let v388 : BitVec 1 := Scalar.cmpi .ne v387 c0_i32_354
  v388

@[reducible] def k1_t38_loop (v267 : BitVec 32) : Scf.Loop 32 :=
  let c0_i32_296 : BitVec 32 := 0#32
  let c128_i32_286 : BitVec 32 := 128#32
  let v301 : BitVec 32 := Scalar.addi v267 c128_i32_286
  let c1_i32_287 : BitVec 32 := 1#32
  let v302 : BitVec 32 := Scalar.subi v301 c1_i32_287
  let c0_i32_289 : BitVec 32 := 0#32
  let v304 : BitVec 1 := Scalar.cmpi .sgt v302 c0_i32_289
  let v305 : BitVec 32 := Scalar.extui v304
  let c0_i32_290 : BitVec 32 := 0#32
  let v306 : BitVec 1 := Scalar.cmpi .slt v302 c0_i32_290
  let v307 : BitVec 32 := Scalar.extui v306
  let v308 : BitVec 32 := Scalar.subi v305 v307
  let c128_i32_288 : BitVec 32 := 128#32
  let c0_i32_291 : BitVec 32 := 0#32
  let v309 : BitVec 1 := Scalar.cmpi .sgt c128_i32_288 c0_i32_291
  let v310 : BitVec 32 := Scalar.extui v309
  let c0_i32_292 : BitVec 32 := 0#32
  let v311 : BitVec 1 := Scalar.cmpi .slt c128_i32_288 c0_i32_292
  let v312 : BitVec 32 := Scalar.extui v311
  let v313 : BitVec 32 := Scalar.subi v310 v312
  let v314 : BitVec 1 := Scalar.cmpi .ne v308 v313
  let v315 : BitVec 32 := Scalar.remsi v302 c128_i32_288
  let c0_i32_293 : BitVec 32 := 0#32
  let v316 : BitVec 1 := Scalar.cmpi .ne v315 c0_i32_293
  let v317 : BitVec 1 := Scalar.andi v314 v316
  let v303 : BitVec 32 := Scalar.divsi v302 c128_i32_288
  let c1_i32_294 : BitVec 32 := 1#32
  let v318 : BitVec 32 := Scalar.subi v303 c1_i32_294
  let v319 : BitVec 32 := Scalar.select v317 v318 v303
  let c1_i32_295 : BitVec 32 := 1#32
  let v320 : BitVec 32 := Scalar.maxsi v319 c1_i32_295
  let v321 : BitVec 32 := Scalar.subi v320 c0_i32_296
  let c1_i32_297 : BitVec 32 := 1#32
  let v323 : BitVec 32 := Scalar.divsi v321 c1_i32_297
  let v324 : BitVec 32 := Scalar.muli v323 c1_i32_297
  let v325 : BitVec 32 := Scalar.addi c0_i32_296 v324
  let v322 : BitVec 32 := Scalar.addi c0_i32_296 v321
  let c1_i32_299 : BitVec 32 := 1#32
  ⟨v325, v322, c1_i32_299⟩
def k1_off417 (v267 : BitVec 32) (k1_t38 : Fin (k1_t38_loop v267).trips) (c0_i32_303 : BitVec 32) : Fin 1 → Nat :=
  let c0_i32_296 : BitVec 32 := 0#32
  let c128_i32_286 : BitVec 32 := 128#32
  let v301 : BitVec 32 := Scalar.addi v267 c128_i32_286
  let c1_i32_287 : BitVec 32 := 1#32
  let v302 : BitVec 32 := Scalar.subi v301 c1_i32_287
  let c0_i32_289 : BitVec 32 := 0#32
  let v304 : BitVec 1 := Scalar.cmpi .sgt v302 c0_i32_289
  let v305 : BitVec 32 := Scalar.extui v304
  let c0_i32_290 : BitVec 32 := 0#32
  let v306 : BitVec 1 := Scalar.cmpi .slt v302 c0_i32_290
  let v307 : BitVec 32 := Scalar.extui v306
  let v308 : BitVec 32 := Scalar.subi v305 v307
  let c128_i32_288 : BitVec 32 := 128#32
  let c0_i32_291 : BitVec 32 := 0#32
  let v309 : BitVec 1 := Scalar.cmpi .sgt c128_i32_288 c0_i32_291
  let v310 : BitVec 32 := Scalar.extui v309
  let c0_i32_292 : BitVec 32 := 0#32
  let v311 : BitVec 1 := Scalar.cmpi .slt c128_i32_288 c0_i32_292
  let v312 : BitVec 32 := Scalar.extui v311
  let v313 : BitVec 32 := Scalar.subi v310 v312
  let v314 : BitVec 1 := Scalar.cmpi .ne v308 v313
  let v315 : BitVec 32 := Scalar.remsi v302 c128_i32_288
  let c0_i32_293 : BitVec 32 := 0#32
  let v316 : BitVec 1 := Scalar.cmpi .ne v315 c0_i32_293
  let v317 : BitVec 1 := Scalar.andi v314 v316
  let v303 : BitVec 32 := Scalar.divsi v302 c128_i32_288
  let c1_i32_294 : BitVec 32 := 1#32
  let v318 : BitVec 32 := Scalar.subi v303 c1_i32_294
  let v319 : BitVec 32 := Scalar.select v317 v318 v303
  let c1_i32_295 : BitVec 32 := 1#32
  let v320 : BitVec 32 := Scalar.maxsi v319 c1_i32_295
  let v321 : BitVec 32 := Scalar.subi v320 c0_i32_296
  let c1_i32_297 : BitVec 32 := 1#32
  let v323 : BitVec 32 := Scalar.divsi v321 c1_i32_297
  let v324 : BitVec 32 := Scalar.muli v323 c1_i32_297
  let v325 : BitVec 32 := Scalar.addi c0_i32_296 v324
  let c1_i32_299 : BitVec 32 := 1#32
  let arg17 : BitVec 32 := Scf.iv v325 c1_i32_299 k1_t38
  let c2_i32_302 : BitVec 32 := 2#32
  let v343 : BitVec 32 := Scalar.muli arg17 c2_i32_302
  let v344 : BitVec 32 := Scalar.addi v343 c0_i32_303
  let c64_i32_304 : BitVec 32 := 64#32
  let v345 : BitVec 32 := Scalar.muli v344 c64_i32_304
  ![v345.toNat]
@[reducible] def k1_t39_loop : Scf.Loop 32 :=
  let c0_i32_322 : BitVec 32 := 0#32
  let c32_i32 : BitVec 32 := 32#32
  let v359 : BitVec 32 := Scalar.addi c0_i32_322 c32_i32
  let c1_i32_323 : BitVec 32 := 1#32
  ⟨c0_i32_322, v359, c1_i32_323⟩
def k1_off418 (k1_t39 : Fin k1_t39_loop.trips) (c0_i32_356 : BitVec 32) : Fin 4 → Nat :=
  let c0_i32_357 : BitVec 32 := 0#32
  let v391 : Index := Scalar.indexCast c0_i32_357
  let c0_i32_358 : BitVec 32 := 0#32
  let v392 : Index := Scalar.indexCast c0_i32_358
  let c0_i32_322 : BitVec 32 := 0#32
  let c1_i32_323 : BitVec 32 := 1#32
  let arg26 : BitVec 32 := Scf.iv c0_i32_322 c1_i32_323 k1_t39
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 0, v393.toNat, 0]
def k1_off419 (k1_t39 : Fin k1_t39_loop.trips) (c0_i32_356 : BitVec 32) : Fin 4 → Nat :=
  let c1_i32_360 : BitVec 32 := 1#32
  let v396 : Index := Scalar.indexCast c1_i32_360
  let c0_i32_361 : BitVec 32 := 0#32
  let v397 : Index := Scalar.indexCast c0_i32_361
  let c0_i32_322 : BitVec 32 := 0#32
  let c1_i32_323 : BitVec 32 := 1#32
  let arg26 : BitVec 32 := Scf.iv c0_i32_322 c1_i32_323 k1_t39
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 0, v398.toNat, 0]
def k1_off420 (k1_t39 : Fin k1_t39_loop.trips) (c0_i32_356 : BitVec 32) : Fin 4 → Nat :=
  let c0_i32_363 : BitVec 32 := 0#32
  let v403 : Index := Scalar.indexCast c0_i32_363
  let c0_i32_364 : BitVec 32 := 0#32
  let v404 : Index := Scalar.indexCast c0_i32_364
  let c0_i32_322 : BitVec 32 := 0#32
  let c1_i32_323 : BitVec 32 := 1#32
  let arg26 : BitVec 32 := Scf.iv c0_i32_322 c1_i32_323 k1_t39
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 0, v405.toNat, 16]
def k1_off421 (k1_t39 : Fin k1_t39_loop.trips) (c0_i32_356 : BitVec 32) : Fin 4 → Nat :=
  let c1_i32_365 : BitVec 32 := 1#32
  let v408 : Index := Scalar.indexCast c1_i32_365
  let c0_i32_366 : BitVec 32 := 0#32
  let v409 : Index := Scalar.indexCast c0_i32_366
  let c0_i32_322 : BitVec 32 := 0#32
  let c1_i32_323 : BitVec 32 := 1#32
  let arg26 : BitVec 32 := Scf.iv c0_i32_322 c1_i32_323 k1_t39
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 0, v410.toNat, 16]
def k1_off422 (k1_t39 : Fin k1_t39_loop.trips) (c0_i32_356 : BitVec 32) : Fin 4 → Nat :=
  let c0_i32_368 : BitVec 32 := 0#32
  let v415 : Index := Scalar.indexCast c0_i32_368
  let c0_i32_369 : BitVec 32 := 0#32
  let v416 : Index := Scalar.indexCast c0_i32_369
  let c0_i32_322 : BitVec 32 := 0#32
  let c1_i32_323 : BitVec 32 := 1#32
  let arg26 : BitVec 32 := Scf.iv c0_i32_322 c1_i32_323 k1_t39
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 0, v417.toNat, 32]
def k1_off423 (k1_t39 : Fin k1_t39_loop.trips) (c0_i32_356 : BitVec 32) : Fin 4 → Nat :=
  let c1_i32_370 : BitVec 32 := 1#32
  let v420 : Index := Scalar.indexCast c1_i32_370
  let c0_i32_371 : BitVec 32 := 0#32
  let v421 : Index := Scalar.indexCast c0_i32_371
  let c0_i32_322 : BitVec 32 := 0#32
  let c1_i32_323 : BitVec 32 := 1#32
  let arg26 : BitVec 32 := Scf.iv c0_i32_322 c1_i32_323 k1_t39
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 0, v422.toNat, 32]
def k1_off424 (k1_t39 : Fin k1_t39_loop.trips) (c0_i32_356 : BitVec 32) : Fin 4 → Nat :=
  let c0_i32_373 : BitVec 32 := 0#32
  let v427 : Index := Scalar.indexCast c0_i32_373
  let c0_i32_374 : BitVec 32 := 0#32
  let v428 : Index := Scalar.indexCast c0_i32_374
  let c0_i32_322 : BitVec 32 := 0#32
  let c1_i32_323 : BitVec 32 := 1#32
  let arg26 : BitVec 32 := Scf.iv c0_i32_322 c1_i32_323 k1_t39
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 0, v429.toNat, 48]
def k1_off425 (k1_t39 : Fin k1_t39_loop.trips) (c0_i32_356 : BitVec 32) : Fin 4 → Nat :=
  let c1_i32_375 : BitVec 32 := 1#32
  let v432 : Index := Scalar.indexCast c1_i32_375
  let c0_i32_376 : BitVec 32 := 0#32
  let v433 : Index := Scalar.indexCast c0_i32_376
  let c0_i32_322 : BitVec 32 := 0#32
  let c1_i32_323 : BitVec 32 := 1#32
  let arg26 : BitVec 32 := Scf.iv c0_i32_322 c1_i32_323 k1_t39
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 0, v434.toNat, 48]
def k1_off426 (k1_t39 : Fin k1_t39_loop.trips) (c0_i32_356 : BitVec 32) : Fin 4 → Nat :=
  let c0_i32_378 : BitVec 32 := 0#32
  let v439 : Index := Scalar.indexCast c0_i32_378
  let c0_i32_379 : BitVec 32 := 0#32
  let v440 : Index := Scalar.indexCast c0_i32_379
  let c0_i32_322 : BitVec 32 := 0#32
  let c1_i32_323 : BitVec 32 := 1#32
  let arg26 : BitVec 32 := Scf.iv c0_i32_322 c1_i32_323 k1_t39
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 0, v441.toNat, 64]
def k1_off427 (k1_t39 : Fin k1_t39_loop.trips) (c0_i32_356 : BitVec 32) : Fin 4 → Nat :=
  let c1_i32_380 : BitVec 32 := 1#32
  let v444 : Index := Scalar.indexCast c1_i32_380
  let c0_i32_381 : BitVec 32 := 0#32
  let v445 : Index := Scalar.indexCast c0_i32_381
  let c0_i32_322 : BitVec 32 := 0#32
  let c1_i32_323 : BitVec 32 := 1#32
  let arg26 : BitVec 32 := Scf.iv c0_i32_322 c1_i32_323 k1_t39
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 0, v446.toNat, 64]
def k1_off428 (k1_t39 : Fin k1_t39_loop.trips) (c0_i32_356 : BitVec 32) : Fin 4 → Nat :=
  let c0_i32_383 : BitVec 32 := 0#32
  let v451 : Index := Scalar.indexCast c0_i32_383
  let c0_i32_384 : BitVec 32 := 0#32
  let v452 : Index := Scalar.indexCast c0_i32_384
  let c0_i32_322 : BitVec 32 := 0#32
  let c1_i32_323 : BitVec 32 := 1#32
  let arg26 : BitVec 32 := Scf.iv c0_i32_322 c1_i32_323 k1_t39
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 0, v453.toNat, 80]
def k1_off429 (k1_t39 : Fin k1_t39_loop.trips) (c0_i32_356 : BitVec 32) : Fin 4 → Nat :=
  let c1_i32_385 : BitVec 32 := 1#32
  let v456 : Index := Scalar.indexCast c1_i32_385
  let c0_i32_386 : BitVec 32 := 0#32
  let v457 : Index := Scalar.indexCast c0_i32_386
  let c0_i32_322 : BitVec 32 := 0#32
  let c1_i32_323 : BitVec 32 := 1#32
  let arg26 : BitVec 32 := Scf.iv c0_i32_322 c1_i32_323 k1_t39
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 0, v458.toNat, 80]
def k1_off430 (k1_t39 : Fin k1_t39_loop.trips) (c0_i32_356 : BitVec 32) : Fin 4 → Nat :=
  let c0_i32_388 : BitVec 32 := 0#32
  let v463 : Index := Scalar.indexCast c0_i32_388
  let c0_i32_389 : BitVec 32 := 0#32
  let v464 : Index := Scalar.indexCast c0_i32_389
  let c0_i32_322 : BitVec 32 := 0#32
  let c1_i32_323 : BitVec 32 := 1#32
  let arg26 : BitVec 32 := Scf.iv c0_i32_322 c1_i32_323 k1_t39
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 0, v465.toNat, 96]
def k1_off431 (k1_t39 : Fin k1_t39_loop.trips) (c0_i32_356 : BitVec 32) : Fin 4 → Nat :=
  let c1_i32_390 : BitVec 32 := 1#32
  let v468 : Index := Scalar.indexCast c1_i32_390
  let c0_i32_391 : BitVec 32 := 0#32
  let v469 : Index := Scalar.indexCast c0_i32_391
  let c0_i32_322 : BitVec 32 := 0#32
  let c1_i32_323 : BitVec 32 := 1#32
  let arg26 : BitVec 32 := Scf.iv c0_i32_322 c1_i32_323 k1_t39
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 0, v470.toNat, 96]
def k1_off432 (k1_t39 : Fin k1_t39_loop.trips) (c0_i32_356 : BitVec 32) : Fin 4 → Nat :=
  let c0_i32_393 : BitVec 32 := 0#32
  let v475 : Index := Scalar.indexCast c0_i32_393
  let c0_i32_394 : BitVec 32 := 0#32
  let v476 : Index := Scalar.indexCast c0_i32_394
  let c0_i32_322 : BitVec 32 := 0#32
  let c1_i32_323 : BitVec 32 := 1#32
  let arg26 : BitVec 32 := Scf.iv c0_i32_322 c1_i32_323 k1_t39
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 0, v477.toNat, 112]
def k1_off433 (k1_t39 : Fin k1_t39_loop.trips) (c0_i32_356 : BitVec 32) : Fin 4 → Nat :=
  let c1_i32_395 : BitVec 32 := 1#32
  let v480 : Index := Scalar.indexCast c1_i32_395
  let c0_i32_396 : BitVec 32 := 0#32
  let v481 : Index := Scalar.indexCast c0_i32_396
  let c0_i32_322 : BitVec 32 := 0#32
  let c1_i32_323 : BitVec 32 := 1#32
  let arg26 : BitVec 32 := Scf.iv c0_i32_322 c1_i32_323 k1_t39
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 0, v482.toNat, 112]
def k1_off434 (v267 : BitVec 32) (k1_t38 : Fin (k1_t38_loop v267).trips) : Fin 1 → Nat :=
  let c0_i32_296 : BitVec 32 := 0#32
  let c128_i32_286 : BitVec 32 := 128#32
  let v301 : BitVec 32 := Scalar.addi v267 c128_i32_286
  let c1_i32_287 : BitVec 32 := 1#32
  let v302 : BitVec 32 := Scalar.subi v301 c1_i32_287
  let c0_i32_289 : BitVec 32 := 0#32
  let v304 : BitVec 1 := Scalar.cmpi .sgt v302 c0_i32_289
  let v305 : BitVec 32 := Scalar.extui v304
  let c0_i32_290 : BitVec 32 := 0#32
  let v306 : BitVec 1 := Scalar.cmpi .slt v302 c0_i32_290
  let v307 : BitVec 32 := Scalar.extui v306
  let v308 : BitVec 32 := Scalar.subi v305 v307
  let c128_i32_288 : BitVec 32 := 128#32
  let c0_i32_291 : BitVec 32 := 0#32
  let v309 : BitVec 1 := Scalar.cmpi .sgt c128_i32_288 c0_i32_291
  let v310 : BitVec 32 := Scalar.extui v309
  let c0_i32_292 : BitVec 32 := 0#32
  let v311 : BitVec 1 := Scalar.cmpi .slt c128_i32_288 c0_i32_292
  let v312 : BitVec 32 := Scalar.extui v311
  let v313 : BitVec 32 := Scalar.subi v310 v312
  let v314 : BitVec 1 := Scalar.cmpi .ne v308 v313
  let v315 : BitVec 32 := Scalar.remsi v302 c128_i32_288
  let c0_i32_293 : BitVec 32 := 0#32
  let v316 : BitVec 1 := Scalar.cmpi .ne v315 c0_i32_293
  let v317 : BitVec 1 := Scalar.andi v314 v316
  let v303 : BitVec 32 := Scalar.divsi v302 c128_i32_288
  let c1_i32_294 : BitVec 32 := 1#32
  let v318 : BitVec 32 := Scalar.subi v303 c1_i32_294
  let v319 : BitVec 32 := Scalar.select v317 v318 v303
  let c1_i32_295 : BitVec 32 := 1#32
  let v320 : BitVec 32 := Scalar.maxsi v319 c1_i32_295
  let v321 : BitVec 32 := Scalar.subi v320 c0_i32_296
  let c1_i32_297 : BitVec 32 := 1#32
  let v323 : BitVec 32 := Scalar.divsi v321 c1_i32_297
  let v324 : BitVec 32 := Scalar.muli v323 c1_i32_297
  let v325 : BitVec 32 := Scalar.addi c0_i32_296 v324
  let c1_i32_299 : BitVec 32 := 1#32
  let arg17 : BitVec 32 := Scf.iv v325 c1_i32_299 k1_t38
  let c2_i32_302 : BitVec 32 := 2#32
  let v343 : BitVec 32 := Scalar.muli arg17 c2_i32_302
  let c0_i32_303 : BitVec 32 := 0#32
  let v344 : BitVec 32 := Scalar.addi v343 c0_i32_303
  let c2_i32_355 : BitVec 32 := 2#32
  let v389 : BitVec 32 := Scalar.addi v344 c2_i32_355
  let c64_i32_356 : BitVec 32 := 64#32
  let v390 : BitVec 32 := Scalar.muli v389 c64_i32_356
  ![v390.toNat]
def k1_cond19 (v267 : BitVec 32) (k1_t38 : Fin (k1_t38_loop v267).trips) : BitVec 1 :=
  let c0_i32_296 : BitVec 32 := 0#32
  let c128_i32_286 : BitVec 32 := 128#32
  let v301 : BitVec 32 := Scalar.addi v267 c128_i32_286
  let c1_i32_287 : BitVec 32 := 1#32
  let v302 : BitVec 32 := Scalar.subi v301 c1_i32_287
  let c0_i32_289 : BitVec 32 := 0#32
  let v304 : BitVec 1 := Scalar.cmpi .sgt v302 c0_i32_289
  let v305 : BitVec 32 := Scalar.extui v304
  let c0_i32_290 : BitVec 32 := 0#32
  let v306 : BitVec 1 := Scalar.cmpi .slt v302 c0_i32_290
  let v307 : BitVec 32 := Scalar.extui v306
  let v308 : BitVec 32 := Scalar.subi v305 v307
  let c128_i32_288 : BitVec 32 := 128#32
  let c0_i32_291 : BitVec 32 := 0#32
  let v309 : BitVec 1 := Scalar.cmpi .sgt c128_i32_288 c0_i32_291
  let v310 : BitVec 32 := Scalar.extui v309
  let c0_i32_292 : BitVec 32 := 0#32
  let v311 : BitVec 1 := Scalar.cmpi .slt c128_i32_288 c0_i32_292
  let v312 : BitVec 32 := Scalar.extui v311
  let v313 : BitVec 32 := Scalar.subi v310 v312
  let v314 : BitVec 1 := Scalar.cmpi .ne v308 v313
  let v315 : BitVec 32 := Scalar.remsi v302 c128_i32_288
  let c0_i32_293 : BitVec 32 := 0#32
  let v316 : BitVec 1 := Scalar.cmpi .ne v315 c0_i32_293
  let v317 : BitVec 1 := Scalar.andi v314 v316
  let v303 : BitVec 32 := Scalar.divsi v302 c128_i32_288
  let c1_i32_294 : BitVec 32 := 1#32
  let v318 : BitVec 32 := Scalar.subi v303 c1_i32_294
  let v319 : BitVec 32 := Scalar.select v317 v318 v303
  let c1_i32_295 : BitVec 32 := 1#32
  let v320 : BitVec 32 := Scalar.maxsi v319 c1_i32_295
  let v321 : BitVec 32 := Scalar.subi v320 c0_i32_296
  let c1_i32_297 : BitVec 32 := 1#32
  let v323 : BitVec 32 := Scalar.divsi v321 c1_i32_297
  let v324 : BitVec 32 := Scalar.muli v323 c1_i32_297
  let v325 : BitVec 32 := Scalar.addi c0_i32_296 v324
  let c1_i32_299 : BitVec 32 := 1#32
  let arg17 : BitVec 32 := Scf.iv v325 c1_i32_299 k1_t38
  let c2_i32_302 : BitVec 32 := 2#32
  let v343 : BitVec 32 := Scalar.muli arg17 c2_i32_302
  let c0_i32_303 : BitVec 32 := 0#32
  let v344 : BitVec 32 := Scalar.addi v343 c0_i32_303
  let c2_i32_325 : BitVec 32 := 2#32
  let v361 : BitVec 32 := Scalar.addi v344 c2_i32_325
  let c2_i32_326 : BitVec 32 := 2#32
  let v362 : BitVec 32 := Scalar.muli v320 c2_i32_326
  let v363 : BitVec 1 := Scalar.cmpi .slt v361 v362
  let v364 : BitVec 32 := Scalar.extui v363
  let c0_i32_327 : BitVec 32 := 0#32
  let v365 : BitVec 1 := Scalar.cmpi .ne v364 c0_i32_327
  v365

@[reducible] def k1_t40_loop : Scf.Loop 32 :=
  let c0_i32_348 : BitVec 32 := 0#32
  let c32_i32_349 : BitVec 32 := 32#32
  let v382 : BitVec 32 := Scalar.addi c0_i32_348 c32_i32_349
  let c1_i32_350 : BitVec 32 := 1#32
  ⟨c0_i32_348, v382, c1_i32_350⟩
def k1_off435 (k1_t40 : Fin k1_t40_loop.trips) (c0_i32_356 : BitVec 32) : Fin 4 → Nat :=
  let c0_i32_357 : BitVec 32 := 0#32
  let v391 : Index := Scalar.indexCast c0_i32_357
  let c1_i32_358 : BitVec 32 := 1#32
  let v392 : Index := Scalar.indexCast c1_i32_358
  let c0_i32_348 : BitVec 32 := 0#32
  let c1_i32_350 : BitVec 32 := 1#32
  let arg26 : BitVec 32 := Scf.iv c0_i32_348 c1_i32_350 k1_t40
  let c2_i32_355 : BitVec 32 := 2#32
  let v389 : BitVec 32 := Scalar.muli arg26 c2_i32_355
  let v390 : BitVec 32 := Scalar.addi v389 c0_i32_356
  let v393 : Index := Scalar.indexCast v390
  let c0_359 : Index := 0#32
  ![0, 1, v393.toNat, 0]
def k1_off436 (k1_t40 : Fin k1_t40_loop.trips) (c0_i32_356 : BitVec 32) : Fin 4 → Nat :=
  let c1_i32_360 : BitVec 32 := 1#32
  let v396 : Index := Scalar.indexCast c1_i32_360
  let c1_i32_361 : BitVec 32 := 1#32
  let v397 : Index := Scalar.indexCast c1_i32_361
  let c0_i32_348 : BitVec 32 := 0#32
  let c1_i32_350 : BitVec 32 := 1#32
  let arg26 : BitVec 32 := Scf.iv c0_i32_348 c1_i32_350 k1_t40
  let c2_i32_355 : BitVec 32 := 2#32
  let v389 : BitVec 32 := Scalar.muli arg26 c2_i32_355
  let v390 : BitVec 32 := Scalar.addi v389 c0_i32_356
  let v398 : Index := Scalar.indexCast v390
  let c0_362 : Index := 0#32
  ![1, 1, v398.toNat, 0]
def k1_off437 (k1_t40 : Fin k1_t40_loop.trips) (c0_i32_356 : BitVec 32) : Fin 4 → Nat :=
  let c0_i32_363 : BitVec 32 := 0#32
  let v403 : Index := Scalar.indexCast c0_i32_363
  let c1_i32_364 : BitVec 32 := 1#32
  let v404 : Index := Scalar.indexCast c1_i32_364
  let c0_i32_348 : BitVec 32 := 0#32
  let c1_i32_350 : BitVec 32 := 1#32
  let arg26 : BitVec 32 := Scf.iv c0_i32_348 c1_i32_350 k1_t40
  let c2_i32_355 : BitVec 32 := 2#32
  let v389 : BitVec 32 := Scalar.muli arg26 c2_i32_355
  let v390 : BitVec 32 := Scalar.addi v389 c0_i32_356
  let v405 : Index := Scalar.indexCast v390
  let c16 : Index := 16#32
  ![0, 1, v405.toNat, 16]
def k1_off438 (k1_t40 : Fin k1_t40_loop.trips) (c0_i32_356 : BitVec 32) : Fin 4 → Nat :=
  let c1_i32_365 : BitVec 32 := 1#32
  let v408 : Index := Scalar.indexCast c1_i32_365
  let c1_i32_366 : BitVec 32 := 1#32
  let v409 : Index := Scalar.indexCast c1_i32_366
  let c0_i32_348 : BitVec 32 := 0#32
  let c1_i32_350 : BitVec 32 := 1#32
  let arg26 : BitVec 32 := Scf.iv c0_i32_348 c1_i32_350 k1_t40
  let c2_i32_355 : BitVec 32 := 2#32
  let v389 : BitVec 32 := Scalar.muli arg26 c2_i32_355
  let v390 : BitVec 32 := Scalar.addi v389 c0_i32_356
  let v410 : Index := Scalar.indexCast v390
  let c16_367 : Index := 16#32
  ![1, 1, v410.toNat, 16]
def k1_off439 (k1_t40 : Fin k1_t40_loop.trips) (c0_i32_356 : BitVec 32) : Fin 4 → Nat :=
  let c0_i32_368 : BitVec 32 := 0#32
  let v415 : Index := Scalar.indexCast c0_i32_368
  let c1_i32_369 : BitVec 32 := 1#32
  let v416 : Index := Scalar.indexCast c1_i32_369
  let c0_i32_348 : BitVec 32 := 0#32
  let c1_i32_350 : BitVec 32 := 1#32
  let arg26 : BitVec 32 := Scf.iv c0_i32_348 c1_i32_350 k1_t40
  let c2_i32_355 : BitVec 32 := 2#32
  let v389 : BitVec 32 := Scalar.muli arg26 c2_i32_355
  let v390 : BitVec 32 := Scalar.addi v389 c0_i32_356
  let v417 : Index := Scalar.indexCast v390
  let c32 : Index := 32#32
  ![0, 1, v417.toNat, 32]
def k1_off440 (k1_t40 : Fin k1_t40_loop.trips) (c0_i32_356 : BitVec 32) : Fin 4 → Nat :=
  let c1_i32_370 : BitVec 32 := 1#32
  let v420 : Index := Scalar.indexCast c1_i32_370
  let c1_i32_371 : BitVec 32 := 1#32
  let v421 : Index := Scalar.indexCast c1_i32_371
  let c0_i32_348 : BitVec 32 := 0#32
  let c1_i32_350 : BitVec 32 := 1#32
  let arg26 : BitVec 32 := Scf.iv c0_i32_348 c1_i32_350 k1_t40
  let c2_i32_355 : BitVec 32 := 2#32
  let v389 : BitVec 32 := Scalar.muli arg26 c2_i32_355
  let v390 : BitVec 32 := Scalar.addi v389 c0_i32_356
  let v422 : Index := Scalar.indexCast v390
  let c32_372 : Index := 32#32
  ![1, 1, v422.toNat, 32]
def k1_off441 (k1_t40 : Fin k1_t40_loop.trips) (c0_i32_356 : BitVec 32) : Fin 4 → Nat :=
  let c0_i32_373 : BitVec 32 := 0#32
  let v427 : Index := Scalar.indexCast c0_i32_373
  let c1_i32_374 : BitVec 32 := 1#32
  let v428 : Index := Scalar.indexCast c1_i32_374
  let c0_i32_348 : BitVec 32 := 0#32
  let c1_i32_350 : BitVec 32 := 1#32
  let arg26 : BitVec 32 := Scf.iv c0_i32_348 c1_i32_350 k1_t40
  let c2_i32_355 : BitVec 32 := 2#32
  let v389 : BitVec 32 := Scalar.muli arg26 c2_i32_355
  let v390 : BitVec 32 := Scalar.addi v389 c0_i32_356
  let v429 : Index := Scalar.indexCast v390
  let c48 : Index := 48#32
  ![0, 1, v429.toNat, 48]
def k1_off442 (k1_t40 : Fin k1_t40_loop.trips) (c0_i32_356 : BitVec 32) : Fin 4 → Nat :=
  let c1_i32_375 : BitVec 32 := 1#32
  let v432 : Index := Scalar.indexCast c1_i32_375
  let c1_i32_376 : BitVec 32 := 1#32
  let v433 : Index := Scalar.indexCast c1_i32_376
  let c0_i32_348 : BitVec 32 := 0#32
  let c1_i32_350 : BitVec 32 := 1#32
  let arg26 : BitVec 32 := Scf.iv c0_i32_348 c1_i32_350 k1_t40
  let c2_i32_355 : BitVec 32 := 2#32
  let v389 : BitVec 32 := Scalar.muli arg26 c2_i32_355
  let v390 : BitVec 32 := Scalar.addi v389 c0_i32_356
  let v434 : Index := Scalar.indexCast v390
  let c48_377 : Index := 48#32
  ![1, 1, v434.toNat, 48]
def k1_off443 (k1_t40 : Fin k1_t40_loop.trips) (c0_i32_356 : BitVec 32) : Fin 4 → Nat :=
  let c0_i32_378 : BitVec 32 := 0#32
  let v439 : Index := Scalar.indexCast c0_i32_378
  let c1_i32_379 : BitVec 32 := 1#32
  let v440 : Index := Scalar.indexCast c1_i32_379
  let c0_i32_348 : BitVec 32 := 0#32
  let c1_i32_350 : BitVec 32 := 1#32
  let arg26 : BitVec 32 := Scf.iv c0_i32_348 c1_i32_350 k1_t40
  let c2_i32_355 : BitVec 32 := 2#32
  let v389 : BitVec 32 := Scalar.muli arg26 c2_i32_355
  let v390 : BitVec 32 := Scalar.addi v389 c0_i32_356
  let v441 : Index := Scalar.indexCast v390
  let c64 : Index := 64#32
  ![0, 1, v441.toNat, 64]
def k1_off444 (k1_t40 : Fin k1_t40_loop.trips) (c0_i32_356 : BitVec 32) : Fin 4 → Nat :=
  let c1_i32_380 : BitVec 32 := 1#32
  let v444 : Index := Scalar.indexCast c1_i32_380
  let c1_i32_381 : BitVec 32 := 1#32
  let v445 : Index := Scalar.indexCast c1_i32_381
  let c0_i32_348 : BitVec 32 := 0#32
  let c1_i32_350 : BitVec 32 := 1#32
  let arg26 : BitVec 32 := Scf.iv c0_i32_348 c1_i32_350 k1_t40
  let c2_i32_355 : BitVec 32 := 2#32
  let v389 : BitVec 32 := Scalar.muli arg26 c2_i32_355
  let v390 : BitVec 32 := Scalar.addi v389 c0_i32_356
  let v446 : Index := Scalar.indexCast v390
  let c64_382 : Index := 64#32
  ![1, 1, v446.toNat, 64]
def k1_off445 (k1_t40 : Fin k1_t40_loop.trips) (c0_i32_356 : BitVec 32) : Fin 4 → Nat :=
  let c0_i32_383 : BitVec 32 := 0#32
  let v451 : Index := Scalar.indexCast c0_i32_383
  let c1_i32_384 : BitVec 32 := 1#32
  let v452 : Index := Scalar.indexCast c1_i32_384
  let c0_i32_348 : BitVec 32 := 0#32
  let c1_i32_350 : BitVec 32 := 1#32
  let arg26 : BitVec 32 := Scf.iv c0_i32_348 c1_i32_350 k1_t40
  let c2_i32_355 : BitVec 32 := 2#32
  let v389 : BitVec 32 := Scalar.muli arg26 c2_i32_355
  let v390 : BitVec 32 := Scalar.addi v389 c0_i32_356
  let v453 : Index := Scalar.indexCast v390
  let c80 : Index := 80#32
  ![0, 1, v453.toNat, 80]
def k1_off446 (k1_t40 : Fin k1_t40_loop.trips) (c0_i32_356 : BitVec 32) : Fin 4 → Nat :=
  let c1_i32_385 : BitVec 32 := 1#32
  let v456 : Index := Scalar.indexCast c1_i32_385
  let c1_i32_386 : BitVec 32 := 1#32
  let v457 : Index := Scalar.indexCast c1_i32_386
  let c0_i32_348 : BitVec 32 := 0#32
  let c1_i32_350 : BitVec 32 := 1#32
  let arg26 : BitVec 32 := Scf.iv c0_i32_348 c1_i32_350 k1_t40
  let c2_i32_355 : BitVec 32 := 2#32
  let v389 : BitVec 32 := Scalar.muli arg26 c2_i32_355
  let v390 : BitVec 32 := Scalar.addi v389 c0_i32_356
  let v458 : Index := Scalar.indexCast v390
  let c80_387 : Index := 80#32
  ![1, 1, v458.toNat, 80]
def k1_off447 (k1_t40 : Fin k1_t40_loop.trips) (c0_i32_356 : BitVec 32) : Fin 4 → Nat :=
  let c0_i32_388 : BitVec 32 := 0#32
  let v463 : Index := Scalar.indexCast c0_i32_388
  let c1_i32_389 : BitVec 32 := 1#32
  let v464 : Index := Scalar.indexCast c1_i32_389
  let c0_i32_348 : BitVec 32 := 0#32
  let c1_i32_350 : BitVec 32 := 1#32
  let arg26 : BitVec 32 := Scf.iv c0_i32_348 c1_i32_350 k1_t40
  let c2_i32_355 : BitVec 32 := 2#32
  let v389 : BitVec 32 := Scalar.muli arg26 c2_i32_355
  let v390 : BitVec 32 := Scalar.addi v389 c0_i32_356
  let v465 : Index := Scalar.indexCast v390
  let c96 : Index := 96#32
  ![0, 1, v465.toNat, 96]
def k1_off448 (k1_t40 : Fin k1_t40_loop.trips) (c0_i32_356 : BitVec 32) : Fin 4 → Nat :=
  let c1_i32_390 : BitVec 32 := 1#32
  let v468 : Index := Scalar.indexCast c1_i32_390
  let c1_i32_391 : BitVec 32 := 1#32
  let v469 : Index := Scalar.indexCast c1_i32_391
  let c0_i32_348 : BitVec 32 := 0#32
  let c1_i32_350 : BitVec 32 := 1#32
  let arg26 : BitVec 32 := Scf.iv c0_i32_348 c1_i32_350 k1_t40
  let c2_i32_355 : BitVec 32 := 2#32
  let v389 : BitVec 32 := Scalar.muli arg26 c2_i32_355
  let v390 : BitVec 32 := Scalar.addi v389 c0_i32_356
  let v470 : Index := Scalar.indexCast v390
  let c96_392 : Index := 96#32
  ![1, 1, v470.toNat, 96]
def k1_off449 (k1_t40 : Fin k1_t40_loop.trips) (c0_i32_356 : BitVec 32) : Fin 4 → Nat :=
  let c0_i32_393 : BitVec 32 := 0#32
  let v475 : Index := Scalar.indexCast c0_i32_393
  let c1_i32_394 : BitVec 32 := 1#32
  let v476 : Index := Scalar.indexCast c1_i32_394
  let c0_i32_348 : BitVec 32 := 0#32
  let c1_i32_350 : BitVec 32 := 1#32
  let arg26 : BitVec 32 := Scf.iv c0_i32_348 c1_i32_350 k1_t40
  let c2_i32_355 : BitVec 32 := 2#32
  let v389 : BitVec 32 := Scalar.muli arg26 c2_i32_355
  let v390 : BitVec 32 := Scalar.addi v389 c0_i32_356
  let v477 : Index := Scalar.indexCast v390
  let c112 : Index := 112#32
  ![0, 1, v477.toNat, 112]
def k1_off450 (k1_t40 : Fin k1_t40_loop.trips) (c0_i32_356 : BitVec 32) : Fin 4 → Nat :=
  let c1_i32_395 : BitVec 32 := 1#32
  let v480 : Index := Scalar.indexCast c1_i32_395
  let c1_i32_396 : BitVec 32 := 1#32
  let v481 : Index := Scalar.indexCast c1_i32_396
  let c0_i32_348 : BitVec 32 := 0#32
  let c1_i32_350 : BitVec 32 := 1#32
  let arg26 : BitVec 32 := Scf.iv c0_i32_348 c1_i32_350 k1_t40
  let c2_i32_355 : BitVec 32 := 2#32
  let v389 : BitVec 32 := Scalar.muli arg26 c2_i32_355
  let v390 : BitVec 32 := Scalar.addi v389 c0_i32_356
  let v482 : Index := Scalar.indexCast v390
  let c112_397 : Index := 112#32
  ![1, 1, v482.toNat, 112]
def k1_off451 (v267 : BitVec 32) (k1_t38 : Fin (k1_t38_loop v267).trips) : Fin 1 → Nat :=
  let c0_i32_296 : BitVec 32 := 0#32
  let c128_i32_286 : BitVec 32 := 128#32
  let v301 : BitVec 32 := Scalar.addi v267 c128_i32_286
  let c1_i32_287 : BitVec 32 := 1#32
  let v302 : BitVec 32 := Scalar.subi v301 c1_i32_287
  let c0_i32_289 : BitVec 32 := 0#32
  let v304 : BitVec 1 := Scalar.cmpi .sgt v302 c0_i32_289
  let v305 : BitVec 32 := Scalar.extui v304
  let c0_i32_290 : BitVec 32 := 0#32
  let v306 : BitVec 1 := Scalar.cmpi .slt v302 c0_i32_290
  let v307 : BitVec 32 := Scalar.extui v306
  let v308 : BitVec 32 := Scalar.subi v305 v307
  let c128_i32_288 : BitVec 32 := 128#32
  let c0_i32_291 : BitVec 32 := 0#32
  let v309 : BitVec 1 := Scalar.cmpi .sgt c128_i32_288 c0_i32_291
  let v310 : BitVec 32 := Scalar.extui v309
  let c0_i32_292 : BitVec 32 := 0#32
  let v311 : BitVec 1 := Scalar.cmpi .slt c128_i32_288 c0_i32_292
  let v312 : BitVec 32 := Scalar.extui v311
  let v313 : BitVec 32 := Scalar.subi v310 v312
  let v314 : BitVec 1 := Scalar.cmpi .ne v308 v313
  let v315 : BitVec 32 := Scalar.remsi v302 c128_i32_288
  let c0_i32_293 : BitVec 32 := 0#32
  let v316 : BitVec 1 := Scalar.cmpi .ne v315 c0_i32_293
  let v317 : BitVec 1 := Scalar.andi v314 v316
  let v303 : BitVec 32 := Scalar.divsi v302 c128_i32_288
  let c1_i32_294 : BitVec 32 := 1#32
  let v318 : BitVec 32 := Scalar.subi v303 c1_i32_294
  let v319 : BitVec 32 := Scalar.select v317 v318 v303
  let c1_i32_295 : BitVec 32 := 1#32
  let v320 : BitVec 32 := Scalar.maxsi v319 c1_i32_295
  let v321 : BitVec 32 := Scalar.subi v320 c0_i32_296
  let c1_i32_297 : BitVec 32 := 1#32
  let v323 : BitVec 32 := Scalar.divsi v321 c1_i32_297
  let v324 : BitVec 32 := Scalar.muli v323 c1_i32_297
  let v325 : BitVec 32 := Scalar.addi c0_i32_296 v324
  let c1_i32_299 : BitVec 32 := 1#32
  let arg17 : BitVec 32 := Scf.iv v325 c1_i32_299 k1_t38
  let c2_i32_328 : BitVec 32 := 2#32
  let v366 : BitVec 32 := Scalar.muli arg17 c2_i32_328
  let c1_i32_329 : BitVec 32 := 1#32
  let v367 : BitVec 32 := Scalar.addi v366 c1_i32_329
  let c2_i32_355 : BitVec 32 := 2#32
  let v389 : BitVec 32 := Scalar.addi v367 c2_i32_355
  let c64_i32_356 : BitVec 32 := 64#32
  let v390 : BitVec 32 := Scalar.muli v389 c64_i32_356
  ![v390.toNat]
def k1_cond20 (v267 : BitVec 32) (k1_t38 : Fin (k1_t38_loop v267).trips) : BitVec 1 :=
  let c0_i32_296 : BitVec 32 := 0#32
  let c128_i32_286 : BitVec 32 := 128#32
  let v301 : BitVec 32 := Scalar.addi v267 c128_i32_286
  let c1_i32_287 : BitVec 32 := 1#32
  let v302 : BitVec 32 := Scalar.subi v301 c1_i32_287
  let c0_i32_289 : BitVec 32 := 0#32
  let v304 : BitVec 1 := Scalar.cmpi .sgt v302 c0_i32_289
  let v305 : BitVec 32 := Scalar.extui v304
  let c0_i32_290 : BitVec 32 := 0#32
  let v306 : BitVec 1 := Scalar.cmpi .slt v302 c0_i32_290
  let v307 : BitVec 32 := Scalar.extui v306
  let v308 : BitVec 32 := Scalar.subi v305 v307
  let c128_i32_288 : BitVec 32 := 128#32
  let c0_i32_291 : BitVec 32 := 0#32
  let v309 : BitVec 1 := Scalar.cmpi .sgt c128_i32_288 c0_i32_291
  let v310 : BitVec 32 := Scalar.extui v309
  let c0_i32_292 : BitVec 32 := 0#32
  let v311 : BitVec 1 := Scalar.cmpi .slt c128_i32_288 c0_i32_292
  let v312 : BitVec 32 := Scalar.extui v311
  let v313 : BitVec 32 := Scalar.subi v310 v312
  let v314 : BitVec 1 := Scalar.cmpi .ne v308 v313
  let v315 : BitVec 32 := Scalar.remsi v302 c128_i32_288
  let c0_i32_293 : BitVec 32 := 0#32
  let v316 : BitVec 1 := Scalar.cmpi .ne v315 c0_i32_293
  let v317 : BitVec 1 := Scalar.andi v314 v316
  let v303 : BitVec 32 := Scalar.divsi v302 c128_i32_288
  let c1_i32_294 : BitVec 32 := 1#32
  let v318 : BitVec 32 := Scalar.subi v303 c1_i32_294
  let v319 : BitVec 32 := Scalar.select v317 v318 v303
  let c1_i32_295 : BitVec 32 := 1#32
  let v320 : BitVec 32 := Scalar.maxsi v319 c1_i32_295
  let v321 : BitVec 32 := Scalar.subi v320 c0_i32_296
  let c1_i32_297 : BitVec 32 := 1#32
  let v323 : BitVec 32 := Scalar.divsi v321 c1_i32_297
  let v324 : BitVec 32 := Scalar.muli v323 c1_i32_297
  let v325 : BitVec 32 := Scalar.addi c0_i32_296 v324
  let c1_i32_299 : BitVec 32 := 1#32
  let arg17 : BitVec 32 := Scf.iv v325 c1_i32_299 k1_t38
  let c2_i32_328 : BitVec 32 := 2#32
  let v366 : BitVec 32 := Scalar.muli arg17 c2_i32_328
  let c1_i32_329 : BitVec 32 := 1#32
  let v367 : BitVec 32 := Scalar.addi v366 c1_i32_329
  let c2_i32_352 : BitVec 32 := 2#32
  let v384 : BitVec 32 := Scalar.addi v367 c2_i32_352
  let c2_i32_353 : BitVec 32 := 2#32
  let v385 : BitVec 32 := Scalar.muli v320 c2_i32_353
  let v386 : BitVec 1 := Scalar.cmpi .slt v384 v385
  let v387 : BitVec 32 := Scalar.extui v386
  let c0_i32_354 : BitVec 32 := 0#32
  let v388 : BitVec 1 := Scalar.cmpi .ne v387 c0_i32_354
  v388

def k1_chk85 (v267 : BitVec 32) : Prop :=
  (∀ a, (k1_off381 v267) a + S16.size a ≤ S2064.size a) ∧
  ((k1_t35_loop v267).OK) ∧
  (∀ k1_t35 : Fin (k1_t35_loop v267).trips, ∀ (r : Fin 2), ∀ a, (k1_off382 v267 k1_t35 (BitVec.ofNat 32 r.val)) a + S64.size a ≤ S2064.size a) ∧
  (∀ k1_t35 : Fin (k1_t35_loop v267).trips, ∀ (k1_h17 : k1_cond17 v267 k1_t35 = 1#1), ∀ a, (k1_off399 v267 k1_t35) a + S64.size a ≤ S2064.size a) ∧
  (∀ k1_t35 : Fin (k1_t35_loop v267).trips, ∀ (k1_h18 : k1_cond18 v267 k1_t35 = 1#1), ∀ a, (k1_off416 v267 k1_t35) a + S64.size a ≤ S2064.size a) ∧
  ((k1_t38_loop v267).OK) ∧
  (∀ k1_t38 : Fin (k1_t38_loop v267).trips, ∀ (r : Fin 2), ∀ a, (k1_off417 v267 k1_t38 (BitVec.ofNat 32 r.val)) a + S64.size a ≤ S2064.size a) ∧
  (∀ k1_t38 : Fin (k1_t38_loop v267).trips, ∀ (k1_h19 : k1_cond19 v267 k1_t38 = 1#1), ∀ a, (k1_off434 v267 k1_t38) a + S64.size a ≤ S2064.size a) ∧
  (∀ k1_t38 : Fin (k1_t38_loop v267).trips, ∀ (k1_h20 : k1_cond20 v267 k1_t38 = 1#1), ∀ a, (k1_off451 v267 k1_t38) a + S64.size a ≤ S2064.size a)
theorem k1_off381_inb : ∀ (v267 : BitVec 32) (k1_hw85 : k1_chk85 v267), ∀ a, (k1_off381 v267) a + S16.size a ≤ S2064.size a := fun v267 k1_hw85 => k1_hw85.1
theorem k1_t35_ok : ∀ (v267 : BitVec 32) (k1_hw85 : k1_chk85 v267), (k1_t35_loop v267).OK := fun v267 k1_hw85 => k1_hw85.2.1
theorem k1_off382_inb : ∀ (v267 : BitVec 32) (k1_hw85 : k1_chk85 v267) (k1_t35 : Fin (k1_t35_loop v267).trips), ∀ (r : Fin 2), ∀ a, (k1_off382 v267 k1_t35 (BitVec.ofNat 32 r.val)) a + S64.size a ≤ S2064.size a := fun v267 k1_hw85 k1_t35 r => k1_hw85.2.2.1 k1_t35 r
theorem k1_off399_inb : ∀ (v267 : BitVec 32) (k1_hw85 : k1_chk85 v267) (k1_t35 : Fin (k1_t35_loop v267).trips), ∀ (k1_h17 : k1_cond17 v267 k1_t35 = 1#1), ∀ a, (k1_off399 v267 k1_t35) a + S64.size a ≤ S2064.size a := fun v267 k1_hw85 k1_t35 k1_h17 => k1_hw85.2.2.2.1 k1_t35 k1_h17
theorem k1_off416_inb : ∀ (v267 : BitVec 32) (k1_hw85 : k1_chk85 v267) (k1_t35 : Fin (k1_t35_loop v267).trips), ∀ (k1_h18 : k1_cond18 v267 k1_t35 = 1#1), ∀ a, (k1_off416 v267 k1_t35) a + S64.size a ≤ S2064.size a := fun v267 k1_hw85 k1_t35 k1_h18 => k1_hw85.2.2.2.2.1 k1_t35 k1_h18
theorem k1_t38_ok : ∀ (v267 : BitVec 32) (k1_hw85 : k1_chk85 v267), (k1_t38_loop v267).OK := fun v267 k1_hw85 => k1_hw85.2.2.2.2.2.1
theorem k1_off417_inb : ∀ (v267 : BitVec 32) (k1_hw85 : k1_chk85 v267) (k1_t38 : Fin (k1_t38_loop v267).trips), ∀ (r : Fin 2), ∀ a, (k1_off417 v267 k1_t38 (BitVec.ofNat 32 r.val)) a + S64.size a ≤ S2064.size a := fun v267 k1_hw85 k1_t38 r => k1_hw85.2.2.2.2.2.2.1 k1_t38 r
theorem k1_off434_inb : ∀ (v267 : BitVec 32) (k1_hw85 : k1_chk85 v267) (k1_t38 : Fin (k1_t38_loop v267).trips), ∀ (k1_h19 : k1_cond19 v267 k1_t38 = 1#1), ∀ a, (k1_off434 v267 k1_t38) a + S64.size a ≤ S2064.size a := fun v267 k1_hw85 k1_t38 k1_h19 => k1_hw85.2.2.2.2.2.2.2.1 k1_t38 k1_h19
theorem k1_off451_inb : ∀ (v267 : BitVec 32) (k1_hw85 : k1_chk85 v267) (k1_t38 : Fin (k1_t38_loop v267).trips), ∀ (k1_h20 : k1_cond20 v267 k1_t38 = 1#1), ∀ a, (k1_off451 v267 k1_t38) a + S64.size a ≤ S2064.size a := fun v267 k1_hw85 k1_t38 k1_h20 => k1_hw85.2.2.2.2.2.2.2.2 k1_t38 k1_h20

def k1_off452 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_302_r16 : BitVec 32 := 0#32
  ![v1.toNat, 0]
abbrev grid2 : Pipeline.Grid := .none

abbrev stage2_0 : Fin 1 → Memref sig .tc .vmem S32x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x320000 : Shape := ⟨2, ![2, 320000]⟩
abbrev S320000 : Shape := ⟨1, ![320000]⟩
abbrev S10000x128 : Shape := ⟨2, ![10000, 128]⟩
abbrev S_ : Shape := ⟨0, ![]⟩
abbrev S1x320000 : Shape := ⟨2, ![1, 320000]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩

abbrev nBuf : Space → Nat
  | .hbm => 91
  | .vmem => 0
  | .smem => 0
  | _ => 0

abbrev bufTy : (tb : Table) → Fin (tcTables nBuf tb) → BufTy
  | .hbm, ⟨0, _⟩ => ⟨S2x320000, .i32⟩
  | .hbm, ⟨1, _⟩ => ⟨S320000, .f32⟩
  | .hbm, ⟨2, _⟩ => ⟨S10000x128, .f32⟩
  | .hbm, ⟨3, _⟩ => ⟨S_, .i32⟩
  | .hbm, ⟨4, _⟩ => ⟨S_, .f32⟩
  | .hbm, ⟨5, _⟩ => ⟨S320000, .f32⟩
  | .hbm, ⟨6, _⟩ => ⟨S320000, .i1⟩
  | .hbm, ⟨7, _⟩ => ⟨S320000, .f32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S1, .i32⟩
  | .hbm, ⟨19, _⟩ => ⟨S_, .i32⟩
  | .hbm, ⟨20, _⟩ => ⟨S320000x1, .i32⟩
  | .hbm, ⟨21, _⟩ => ⟨S320000x1, .i1⟩
  | .hbm, ⟨22, _⟩ => ⟨S1x1, .i32⟩
  | .hbm, ⟨23, _⟩ => ⟨S320000x1, .i32⟩
  | .hbm, ⟨24, _⟩ => ⟨S320000x1, .i1⟩
  | .hbm, ⟨25, _⟩ => ⟨S320000x1, .i1⟩
  | .hbm, ⟨26, _⟩ => ⟨S_, .i1⟩
  | .hbm, ⟨27, _⟩ => ⟨S320000, .i1⟩
  | .hbm, ⟨28, _⟩ => ⟨S320000x128, .f32⟩
  | .hbm, ⟨29, _⟩ => ⟨S320000x128, .i1⟩
  | .hbm, ⟨30, _⟩ => ⟨S_, .f32⟩
  | .hbm, ⟨31, _⟩ => ⟨S320000x128, .f32⟩
  | .hbm, ⟨32, _⟩ => ⟨S320000x128, .f32⟩
  | .hbm, ⟨33, _⟩ => ⟨S1x320000, .i32⟩
  | .hbm, ⟨34, _⟩ => ⟨S320000, .i32⟩
  | .hbm, ⟨35, _⟩ => ⟨S_, .i32⟩
  | .hbm, ⟨36, _⟩ => ⟨S320000, .i32⟩
  | .hbm, ⟨37, _⟩ => ⟨S320000, .i1⟩
  | .hbm, ⟨38, _⟩ => ⟨S_, .i32⟩
  | .hbm, ⟨39, _⟩ => ⟨S320000, .i32⟩
  | .hbm, ⟨40, _⟩ => ⟨S320000, .i32⟩
  | .hbm, ⟨41, _⟩ => ⟨S320000, .i32⟩
  | .hbm, ⟨42, _⟩ => ⟨S320000x1, .i32⟩
  | .hbm, ⟨43, _⟩ => ⟨S1, .i32⟩
  | .hbm, ⟨44, _⟩ => ⟨S_, .i32⟩
  | .hbm, ⟨45, _⟩ => ⟨S320000x1, .i32⟩
  | .hbm, ⟨46, _⟩ => ⟨S320000x1, .i1⟩
  | .hbm, ⟨47, _⟩ => ⟨S1x1, .i32⟩
  | .hbm, ⟨48, _⟩ => ⟨S320000x1, .i32⟩
  | .hbm, ⟨49, _⟩ => ⟨S320000x1, .i1⟩
  | .hbm, ⟨50, _⟩ => ⟨S320000x1, .i1⟩
  | .hbm, ⟨51, _⟩ => ⟨S_, .i1⟩
  | .hbm, ⟨52, _⟩ => ⟨S320000, .i1⟩
  | .hbm, ⟨53, _⟩ => ⟨S320000x128, .f32⟩
  | .hbm, ⟨54, _⟩ => ⟨S320000x128, .i1⟩
  | .hbm, ⟨55, _⟩ => ⟨S_, .f32⟩
  | .hbm, ⟨56, _⟩ => ⟨S320000x128, .f32⟩
  | .hbm, ⟨57, _⟩ => ⟨S320000x128, .f32⟩
  | .hbm, ⟨58, _⟩ => ⟨S320000x128, .f32⟩
  | .hbm, ⟨59, _⟩ => ⟨S_, .f32⟩
  | .hbm, ⟨60, _⟩ => ⟨S320000, .f32⟩
  | .hbm, ⟨61, _⟩ => ⟨S320000, .f32⟩
  | .hbm, ⟨62, _⟩ => ⟨S320000x128, .f32⟩
  | .hbm, ⟨63, _⟩ => ⟨S_, .f32⟩
  | .hbm, ⟨64, _⟩ => ⟨S320000, .f32⟩
  | .hbm, ⟨65, _⟩ => ⟨S320000, .f32⟩
  | .hbm, ⟨66, _⟩ => ⟨S_, .f32⟩
  | .hbm, ⟨67, _⟩ => ⟨S320000, .f32⟩
  | .hbm, ⟨68, _⟩ => ⟨S320000, .f32⟩
  | .hbm, ⟨69, _⟩ => ⟨S_, .f32⟩
  | .hbm, ⟨70, _⟩ => ⟨S320000, .f32⟩
  | .hbm, ⟨71, _⟩ => ⟨S320000, .f32⟩
  | .hbm, ⟨72, _⟩ => ⟨S320000, .f32⟩
  | .hbm, ⟨73, _⟩ => ⟨S320000x128, .f32⟩
  | .hbm, ⟨74, _⟩ => ⟨S_, .f32⟩
  | .hbm, ⟨75, _⟩ => ⟨S320000, .f32⟩
  | .hbm, ⟨76, _⟩ => ⟨S320000, .f32⟩
  | .hbm, ⟨77, _⟩ => ⟨S_, .f32⟩
  | .hbm, ⟨78, _⟩ => ⟨S320000, .f32⟩
  | .hbm, ⟨79, _⟩ => ⟨S320000, .f32⟩
  | .hbm, ⟨80, _⟩ => ⟨S_, .f32⟩
  | .hbm, ⟨81, _⟩ => ⟨S320000, .f32⟩
  | .hbm, ⟨82, _⟩ => ⟨S320000, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S320000, .f32⟩
  | .hbm, ⟨88, _⟩ => ⟨S_, .f32⟩
  | .hbm, ⟨89, _⟩ => ⟨S_, .f32⟩
  | .hbm, ⟨90, _⟩ => ⟨S_, .f32⟩
  | _, _ => ⟨S2x320000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v8 : Ref sig .tc := ⟨.hbm, 57, rfl⟩
abbrev main_v9 : Ref sig .tc := ⟨.hbm, 58, rfl⟩
abbrev main_cst_0 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_cst_1 : Ref sig .tc := ⟨.hbm, 63, rfl⟩
abbrev main_v13 : Ref sig .tc := ⟨.hbm, 64, rfl⟩
abbrev main_v14 : Ref sig .tc := ⟨.hbm, 65, rfl⟩
abbrev main_cst_2 : Ref sig .tc := ⟨.hbm, 66, rfl⟩
abbrev main_v15 : Ref sig .tc := ⟨.hbm, 67, rfl⟩
abbrev main_v16 : Ref sig .tc := ⟨.hbm, 68, rfl⟩
abbrev main_cst_3 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_cst_4 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_call2_cst : Ref sig .tc := ⟨.hbm, 80, rfl⟩
abbrev main_call2_v0 : Ref sig .tc := ⟨.hbm, 81, rfl⟩
abbrev main_v26 : Ref sig .tc := ⟨.hbm, 82, rfl⟩
abbrev main_cst_5 : Ref sig .tc := ⟨.hbm, 83, rfl⟩
abbrev main_v27 : Ref sig .tc := ⟨.hbm, 84, rfl⟩
abbrev main_cst_6 : Ref sig .tc := ⟨.hbm, 85, rfl⟩
abbrev main_v28 : Ref sig .tc := ⟨.hbm, 86, rfl⟩
abbrev main_v29 : Ref sig .tc := ⟨.hbm, 87, rfl⟩
abbrev main_cst_7 : Ref sig .tc := ⟨.hbm, 88, rfl⟩
abbrev main_v30 : Ref sig .tc := ⟨.hbm, 89, rfl⟩
abbrev main_v31 : Ref sig .tc := ⟨.hbm, 90, rfl⟩

abbrev nD : Nat := 1
abbrev τ : Topo := Topo.v7x

variable {F : FTy → Type} [FloatOps F]
-- ==== Proof.Chunk.lean ====
/- The SparseCore kernel written once more, with what it repeats named: one lane of the selection, one edge
   of the dot products, one fire of a ring slot, one chunk of 2000 edges.  `body_eq` says that the printed
   kernel is five chunks between the copy of the table and the stores of the two results. -/
module

public import proofs.«01_k».proof.Proof.Gen.KernelIdeal.Skeleton
public import Idealize.ShloMosaic.Lib.LoopRemainder

@[expose] public section

set_option synthInstance.maxSize 4096

noncomputable section

namespace Cert.KernelIdeal.Tile

open Idealize.ShloMosaic Idealize.SL.Sem Cert.KernelIdeal Cert.KernelIdeal.Gen

variable {F : FTy → Type} [FloatOps F]

/-- The programs of the tile at the grid point `i`. -/
abbrev PT (F : FTy → Type) [FloatOps F] (i : grid1.Coords) (α : Type) :=
  Prog (TpuEff nD τ sig (Elt F) Λ₀ (.scVector ((i 0).castLE hcore1) ((i 1).castLE hsub1))) α

/-- Eight running sums of sixteen lanes: one per group of sixteen columns. -/
abbrev A8 (F : FTy → Type) := FVec F S16 .f32 × FVec F S16 .f32 × FVec F S16 .f32 × FVec F S16 .f32
  × FVec F S16 .f32 × FVec F S16 .f32 × FVec F S16 .f32 × FVec F S16 .f32

/-- Sixteen copies of the pad row's number. -/
abbrev pad16 : IVec S16 32 := broadcast S16 10000#32

/-- Sixteen zeros. -/
def zero16 : FVec F S16 .f32 := broadcast S16 (Scalar.ofBits .f32 0x00000000#32)

theorem slicesLane (u : Fin 16) : S16.Slices ![u.val] S1 := by
  revert u; decide

/-- The lane `u` of sixteen. -/
def lane {α : Type} (u : Fin 16) (v : S16.Idx → α) : α :=
  extractAt ![0] (extractStridedSlice S1 ![u.val] (shapeCast S16 v shapeCasts_S16_S16) (slicesLane u)) inpos_S1_p0

/-- Sixteen copies of one word, as a store takes them. -/
def splat (w : BitVec 32) : IVec S16 32 := shapeCast S16 (broadcast S16 w) shapeCasts_S16_S16

section Pieces

variable (i : grid1.Coords)
variable (a11 a12 : Memref sig .scVector .vmem S2064 .i32)

/-- The sixteen words of a list at an offset. -/
abbrev at16 (o : Fin 1 → Nat) (h : ∀ a, o a + S16.size a ≤ S2064.size a) : Rect S2064 :=
  Rect.unit (s := S2064) o S16.size h

/-- Both lists get sixteen words at the offset `o`: each is loaded first, and what was loaded is not used. -/
def put (o : Fin 1 → Nat) (h : ∀ a, o a + S16.size a ≤ S2064.size a) (x y : IVec S16 32) : PT F i Unit := do
  let _ : Vec F S16 .i32 ← Prog.lift (.load a11 (at16 o h).toLoadRect (View.loadsAt_vmem h_S16))
  Prog.lift (.store a11 (at16 o h) x Finset.univ (View.stores_vmem_bits_univ h_S16 rfl) (.inl rfl))
  let _ : Vec F S16 .i32 ← Prog.lift (.load a12 (at16 o h).toLoadRect (View.loadsAt_vmem h_S16))
  Prog.lift (.store a12 (at16 o h) y Finset.univ (View.stores_vmem_bits_univ h_S16 rfl) (.inl rfl))
  pure ⟨⟩

/-- The test a lane of weights is selected by. -/
def pos (w : F .f32) : BitVec 1 := Scalar.cmpf .ogt w (Scalar.ofBits .f32 0x00000000#32)

/-- One lane of the selection: the edge's two ends go to the lists' cursor when its weight is positive,
    to the lists' last words when it is not, and the cursor moves past a selected edge. -/
def selLane (sv dv : Vec F S16 .i32) (wv : Vec F S16 .f32) (cur : BitVec 32) (u : Fin 16) : PT F i (BitVec 32) := do
  have h : k1_chk1 cur (pos (lane u wv)) :=
    (← Prog.lift (TpuEff.assume (k1_chk1 cur (pos (lane u wv))) (k1_chk1.dec cur (pos (lane u wv))))).down
  put i a11 a12 (k1_off5 cur (pos (lane u wv))) (k1_off5_inb _ _ h) (splat (lane u sv)) (splat (lane u dv))
  pure (Scalar.select (pos (lane u wv)) (Scalar.addi cur 1#32) cur)

/-- The lanes from a list, one after the other. -/
def selLanes (sv dv : Vec F S16 .i32) (wv : Vec F S16 .f32) : List (Fin 16) → BitVec 32 → PT F i (BitVec 32)
  | [], cur => pure cur
  | u :: us, cur => do
    let c ← selLane i a11 a12 sv dv wv cur u
    selLanes sv dv wv us c

variable (a8 a9 : Memref sig .scVector .vmem S2000 .i32) (a10 : Memref sig .scVector .vmem S2000 .f32)

/-- One trip of the selection: sixteen edges. -/
def selBody : Fin k1_t2_loop.trips → BitVec 32 → PT F i (BitVec 32) := fun k cur => do
  let sv : Vec F S16 .i32 ← Prog.lift (.load a8 (Rect.unit (s := S2000) (k1_off4 k) S16.size (k1_off4_inb k)).toLoadRect (View.loadsAt_vmem h_S16))
  let dv : Vec F S16 .i32 ← Prog.lift (.load a9 (Rect.unit (s := S2000) (k1_off4 k) S16.size (k1_off4_inb k)).toLoadRect (View.loadsAt_vmem h_S16))
  let wv : Vec F S16 .f32 ← Prog.lift (.load a10 (Rect.unit (s := S2000) (k1_off4 k) S16.size (k1_off4_inb k)).toLoadRect (View.loadsAt_vmem h_S16))
  selLanes i a11 a12 sv dv wv [0, 1, 2, 3, 4, 5, 6, 7, 8, 9, 10, 11, 12, 13, 14, 15] cur

/-- One trip of the fill: sixteen words of both lists become the pad row's number. -/
def fillBody : Fin k1_t1_loop.trips → Unit → PT F i Unit := fun k _ =>
  put i a11 a12 (k1_off3 k) (k1_off3_inb k) (splat 10000#32) (splat 10000#32)

variable (a13 : Memref sig .scVector .vmem S2x2x64x128 .f32) (a15 : Memref sig .scVector .shared S10112x128 .f32)
  (a16 : DmaSems sig S2x2)

theorem winInb (q b : Fin 2) : ∀ a, (![q.val, b.val, 0, 0] : Fin 4 → Nat) a + S1x1x64x128.size a ≤ S2x2x64x128.size a := by
  revert q b; decide

theorem semInb (q b : Fin 2) : ∀ a, (![q.val, b.val] : Fin 2 → Nat) a + S1x1.size a ≤ S2x2.size a := by
  revert q b; decide

/-- The rows of side `q` of ring slot `b`. -/
abbrev win (q b : Fin 2) : Memref sig .scVector .vmem S64x128 .f32 :=
  (a13.slice (Rect.unit (s := S2x2x64x128) ![q.val, b.val, 0, 0] S1x1x64x128.size (winInb q b)) (fun _ => rfl)).squeeze
    S64x128 squeezes_S1x1x64x128_S64x128

/-- The semaphore of side `q` of ring slot `b`. -/
abbrev gsem (q b : Fin 2) : DmaSems sig S_ :=
  (a16.slice (Rect.unit (s := S2x2) ![q.val, b.val] S1x1.size (semInb q b))).squeeze S_ squeezes_S1x1_S_

/-- The table, all of it. -/
abbrev tbl : Memref sig .scVector .shared S10112x128 .f32 :=
  a15.slice (Rect.unit (s := S10112x128) ![0, 0] S10112x128.size inb_S10112x128_S10112x128_0_0) (fun _ => rfl)

/-- Sixty-four of a list's words. -/
abbrev offw (a : Memref sig .scVector .vmem S2064 .i32) (o : Fin 1 → Nat) (h : ∀ a, o a + S64.size a ≤ S2064.size a) :
    Memref sig .scVector .vmem S64 .i32 :=
  a.slice (Rect.unit (s := S2064) o S64.size h) (fun _ => rfl)

/-- The gathers of one ring slot begin: the rows of the table at sixty-four words of each list. -/
def fire (b : Fin 2) (o : Fin 1 → Nat) (h : ∀ a, o a + S64.size a ≤ S2064.size a) : PT F i Unit := do
  SparseCore.enqueueIndirectGather rfl (tbl a15) (win a13 0 b) gathers_S10112x128_S64x128 (offw a11 o h) rfl (gsem a16 0 b).sem (View.wordExact_bits rfl) rfl (Or.inr rfl)
  SparseCore.enqueueIndirectGather rfl (tbl a15) (win a13 1 b) gathers_S10112x128_S64x128 (offw a12 o h) rfl (gsem a16 1 b).sem (View.wordExact_bits rfl) rfl (Or.inr rfl)
  pure ⟨⟩

/-- The gathers of one ring slot are awaited. -/
def await (b : Fin 2) : PT F i Unit := do
  SparseCore.waitIndirectGather (gsem a16 0 b).sem (tbl a15) (win a13 0 b) (View.wordExact_bits rfl) ((View.wordExact_bits rfl).reshape _ _)
  SparseCore.waitIndirectGather (gsem a16 1 b).sem (tbl a15) (win a13 1 b) (View.wordExact_bits rfl) ((View.wordExact_bits rfl).reshape _ _)
  pure ⟨⟩

/-- Where sixteen columns of one gathered row lie: side `q`, slot `b`, edge `2 k + e`, columns from `c`. -/
def edgeOff (q b : Fin 2) (k : Fin k1_t4_loop.trips) (e : BitVec 32) (c : Nat) : Fin 4 → Nat :=
  ![q.val, b.val, (Scalar.indexCast (Scalar.addi (Scalar.muli (Scf.iv 0#32 1#32 k) 2#32) e)).toNat, c]

theorem edgeOff_inb (q b : Fin 2) (k : Fin k1_t4_loop.trips) (e : Fin 2) (c : Fin 8) :
    ∀ a, edgeOff q b k (BitVec.ofNat 32 e.val) (16 * c.val) a + S1x1x1x16.size a ≤ S2x2x64x128.size a := by
  revert q b k e c; decide

/-- Sixteen columns of one edge: the products of the two ends' entries are added to the running sum. -/
def dot16 (b : Fin 2) (k : Fin k1_t4_loop.trips) (e : Fin 2) (c : Fin 8) (acc : FVec F S16 .f32) : PT F i (FVec F S16 .f32) := do
  let s : Vec F S1x1x1x16 .f32 ← Prog.lift (.load a13 (Rect.unit (s := S2x2x64x128) (edgeOff 0 b k (BitVec.ofNat 32 e.val) (16 * c.val)) S1x1x1x16.size (edgeOff_inb 0 b k e c)).toLoadRect (View.loadsAt_vmem h_S1x1x1x16))
  let d : Vec F S1x1x1x16 .f32 ← Prog.lift (.load a13 (Rect.unit (s := S2x2x64x128) (edgeOff 1 b k (BitVec.ofNat 32 e.val) (16 * c.val)) S1x1x1x16.size (edgeOff_inb 1 b k e c)).toLoadRect (View.loadsAt_vmem h_S1x1x1x16))
  pure (addf acc (mulf (shapeCast S16 s shapeCasts_S1x1x1x16_S16) (shapeCast S16 d shapeCasts_S1x1x1x16_S16)))

/-- One edge: its eight groups of columns. -/
def edge (b : Fin 2) (k : Fin k1_t4_loop.trips) (e : Fin 2) : A8 F → PT F i (A8 F) := fun (x0, x1, x2, x3, x4, x5, x6, x7) => do
  let y0 ← dot16 i a13 b k e 0 x0
  let y1 ← dot16 i a13 b k e 1 x1
  let y2 ← dot16 i a13 b k e 2 x2
  let y3 ← dot16 i a13 b k e 3 x3
  let y4 ← dot16 i a13 b k e 4 x4
  let y5 ← dot16 i a13 b k e 5 x5
  let y6 ← dot16 i a13 b k e 6 x6
  let y7 ← dot16 i a13 b k e 7 x7
  pure (y0, y1, y2, y3, y4, y5, y6, y7)

/-- One trip of a slot's edges: two of them. -/
def edgeBody (b : Fin 2) : Fin k1_t4_loop.trips → A8 F → PT F i (A8 F) := fun k x => do
  let y ← edge i a13 b k 0 x
  edge i a13 b k 1 y

/-- Slot 0 is fired again while groups are left. -/
def refire0 (v : BitVec 32) (hw : k1_chk17 v) (k : Fin (k1_t3_loop v).trips) : PT F i Unit :=
  if h : k1_cond1 v k = 1#1 then fire i a11 a12 a13 a15 a16 0 (k1_off39 v k) (k1_off39_inb v hw k h) else pure ⟨⟩

/-- Slot 1 is fired again while groups are left. -/
def refire1 (v : BitVec 32) (hw : k1_chk17 v) (k : Fin (k1_t3_loop v).trips) : PT F i Unit :=
  if h : k1_cond2 v k = 1#1 then fire i a11 a12 a13 a15 a16 1 (k1_off56 v k) (k1_off56_inb v hw k h) else pure ⟨⟩

/-- One trip of the main loop: each slot is awaited, its edges are added, and it is fired again while groups are left. -/
def mainBody (v : BitVec 32) (hw : k1_chk17 v) : Fin (k1_t3_loop v).trips → A8 F → PT F i (A8 F) := fun k x => do
  await i a13 a15 a16 0
  let y ← Scf.Loop.for k1_t4_loop k1_t4_ok x (edgeBody i a13 0)
  refire0 i a11 a12 a13 a15 a16 v hw k
  await i a13 a15 a16 1
  let z ← Scf.Loop.for k1_t4_loop k1_t4_ok y (edgeBody i a13 1)
  refire1 i a11 a12 a13 a15 a16 v hw k
  pure z

variable (a2 a3 : Memref sig .scVector .hbm S320000 .i32) (a4 : Memref sig .scVector .hbm S320000 .f32)
  (h8 : a8.IsWhole) (h9 : a9.IsWhole) (h10 : a10.IsWhole)

/-- Two thousand of an operand's words. -/
abbrev part {β : EltTy} (a : Memref sig .scVector .hbm S320000 β) (o : Fin 1 → Nat) (h : ∀ a, o a + S2000.size a ≤ S320000.size a) :
    Memref sig .scVector .hbm S2000 β :=
  a.slice (Rect.unit (s := S320000) o S2000.size h) (fun _ => rfl)

/-- One chunk of two thousand edges: copied in, selected, gathered and summed. -/
def chunk (r1 r2 r3 : DmaSems sig S_) (o : Fin 1 → Nat) (ho : ∀ a, o a + S2000.size a ≤ S320000.size a)
    (x : A8 F) (cnt : BitVec 32) : PT F i (A8 F × BitVec 32) := do
  Prog.lift (.enqueueDma (part a2 o ho) (.here a8) (.dma r1.sem) (View.wordExact_bits rfl) h8.wordExact ⟨Or.inl rfl, trivial⟩)
  Prog.lift (.waitDma2 r1.sem (part a2 o ho) a8 (View.wordExact_bits rfl) h8.wordExact)
  Prog.lift (.enqueueDma (part a3 o ho) (.here a9) (.dma r2.sem) (View.wordExact_bits rfl) h9.wordExact ⟨Or.inl rfl, trivial⟩)
  Prog.lift (.waitDma2 r2.sem (part a3 o ho) a9 (View.wordExact_bits rfl) h9.wordExact)
  Prog.lift (.enqueueDma (part a4 o ho) (.here a10) (.dma r3.sem) (View.wordExact_bits rfl) h10.wordExact ⟨Or.inl rfl, trivial⟩)
  Prog.lift (.waitDma2 r3.sem (part a4 o ho) a10 (View.wordExact_bits rfl) h10.wordExact)
  Scf.Loop.for k1_t1_loop k1_t1_ok ⟨⟩ (fillBody i a11 a12)
  let v ← Scf.Loop.for k1_t2_loop k1_t2_ok 0#32 (selBody i a11 a12 a8 a9 a10)
  have hw : k1_chk17 v := (← Prog.lift (TpuEff.assume (k1_chk17 v) (k1_chk17.dec v))).down
  put i a11 a12 (k1_off21 v) (k1_off21_inb v hw) (splat 10000#32) (splat 10000#32)
  fire i a11 a12 a13 a15 a16 0 ![0] inb_S2064_S64_0
  fire i a11 a12 a13 a15 a16 1 ![64] inb_S2064_S64_64
  let y ← Scf.Loop.for (k1_t3_loop v) (k1_t3_ok v hw) x (mainBody i a11 a12 a13 a15 a16 v hw)
  pure (y, Scalar.addi cnt v)

end Pieces

section Body

variable (i : grid1.Coords)
  (a2 : Memref sig .scVector .hbm S320000 .i32) (h2 : a2.IsWhole) (a3 : Memref sig .scVector .hbm S320000 .i32) (h3 : a3.IsWhole)
  (a4 : Memref sig .scVector .hbm S320000 .f32) (h4 : a4.IsWhole) (a5 : Memref sig .scVector .hbm S10112x128 .f32) (h5 : a5.IsWhole)
  (a6 : Memref sig .scVector .hbm S32x16 .f32) (h6 : a6.IsWhole) (a7 : Memref sig .scVector .hbm S32x16 .f32) (h7 : a7.IsWhole)
  (a8 : Memref sig .scVector .vmem S2000 .i32) (h8 : a8.IsWhole) (a9 : Memref sig .scVector .vmem S2000 .i32) (h9 : a9.IsWhole)
  (a10 : Memref sig .scVector .vmem S2000 .f32) (h10 : a10.IsWhole) (a11 : Memref sig .scVector .vmem S2064 .i32) (h11 : a11.IsWhole)
  (a12 : Memref sig .scVector .vmem S2064 .i32) (h12 : a12.IsWhole) (a13 : Memref sig .scVector .vmem S2x2x64x128 .f32) (h13 : a13.IsWhole)
  (a14 : Memref sig .scVector .vmem S16 .f32) (h14 : a14.IsWhole) (a15 : Memref sig .scVector .shared S10112x128 .f32) (h15 : a15.IsWhole)
  (a16 : DmaSems sig S2x2) (r0 r1 r2 r3 r4 r5 r6 r7 r8 r9 r10 r11 r12 r13 r14 r15 r16 r17 : DmaSems sig S_)

/-- The rows of the table that this tile copies. -/
abbrev rows {sp : Space} (a : Memref sig .scVector sp S10112x128 .f32) : Memref sig .scVector sp S632x128 .f32 :=
  a.slice (Rect.unit (s := S10112x128) (k1_off1 i) S632x128.size (k1_off1_inb i)) (fun _ => rfl)

/-- This tile's row of a result. -/
abbrev row (a : Memref sig .scVector .hbm S32x16 .f32) : Memref sig .scVector .hbm S16 .f32 :=
  (a.slice (Rect.unit (s := S32x16) (k1_off452 i) S1x16.size (k1_off452_inb i)) (fun _ => rfl)).squeeze S16 squeezes_S1x16_S16

/-- The eight running sums added up. -/
def sum8 : A8 F → FVec F S16 .f32 := fun (x0, x1, x2, x3, x4, x5, x6, x7) =>
  addf (addf (addf (addf (addf (addf (addf x0 x1) x2) x3) x4) x5) x6) x7

/-- Sixteen words through the staging buffer to this tile's row of a result. -/
def emit (r : DmaSems sig S_) (a : Memref sig .scVector .hbm S32x16 .f32) (x : FVec F S16 .f32) : PT F i Unit := do
  let _ : Vec F S16 .f32 ← Prog.lift (.load a14 (Rect.unit (s := S16) ![0] S16.size inb_S16_S16_0).toLoadRect (View.loadsAt_vmem h_S16))
  Prog.lift (.store a14 (Rect.unit (s := S16) ![0] S16.size inb_S16_S16_0) (shapeCast S16 x shapeCasts_S16_S16) Finset.univ (View.stores_vmem_bits_univ h_S16 rfl) (.inl rfl))
  Prog.lift (.enqueueDma a14 (.here (row i a)) (.dma r.sem) h14.wordExact ((View.wordExact_bits rfl).reshape _ _) ⟨Or.inl rfl, trivial⟩)
  Prog.lift (.waitDma2 r.sem a14 (row i a) h14.wordExact ((View.wordExact_bits rfl).reshape _ _))
  pure ⟨⟩

/-- The tile's rows of the table go to the shared memory, and the tiles meet. -/
def stage (r : DmaSems sig S_) : PT F i Unit := do
  Prog.lift (.enqueueDma (rows i a5) (.here (rows i a15)) (.dma r.sem) (View.wordExact_bits rfl) (View.wordExact_bits rfl) ⟨Or.inl rfl, trivial⟩)
  Prog.lift (.waitDma2 r.sem (rows i a5) (rows i a15) (View.wordExact_bits rfl) (View.wordExact_bits rfl))
  SparseCore.subcoreBarrier sc_bar0 (grid1.bound 1) hsub1
  pure ⟨⟩

/-- The kernel of one tile: the table is staged, five chunks of edges are summed, the sum and the count are stored. -/
def body : PT F i PUnit := do
  stage i a5 a15 r0
  let (x1, c1) ← chunk i a11 a12 a8 a9 a10 a13 a15 a16 a2 a3 a4 h8 h9 h10 r1 r2 r3 (k1_off2 i) (k1_off2_inb i)
    (zero16, zero16, zero16, zero16, zero16, zero16, zero16, zero16) 0#32
  let (x2, c2) ← chunk i a11 a12 a8 a9 a10 a13 a15 a16 a2 a3 a4 h8 h9 h10 r4 r5 r6 (k1_off92 i) (k1_off92_inb i) x1 c1
  let (x3, c3) ← chunk i a11 a12 a8 a9 a10 a13 a15 a16 a2 a3 a4 h8 h9 h10 r7 r8 r9 (k1_off182 i) (k1_off182_inb i) x2 c2
  let (x4, c4) ← chunk i a11 a12 a8 a9 a10 a13 a15 a16 a2 a3 a4 h8 h9 h10 r10 r11 r12 (k1_off272 i) (k1_off272_inb i) x3 c3
  let (x5, c5) ← chunk i a11 a12 a8 a9 a10 a13 a15 a16 a2 a3 a4 h8 h9 h10 r13 r14 r15 (k1_off362 i) (k1_off362_inb i) x4 c4
  emit i a14 h14 r16 a6 (sum8 x5)
  emit i a14 h14 r17 a7 (sitofp .f32 (broadcast S16 c5))

end Body

/-! ## The printed kernel is this one -/

/-- Two sequences are equal when their first programs are, and what follows is at every value. -/
theorem bcongr {i : grid1.Coords} {α β : Type} {x x' : PT F i α} {k k' : α → PT F i β} (hx : x = x') (hk : ∀ a, k a = k' a) :
    x >>= k = x' >>= k' := by
  subst hx; exact congrArg _ (funext hk)

/-- A conditional program whose branches return the same value is the program, and then the value. -/
theorem dbind {i : grid1.Coords} {α β : Type} {c : Prop} [Decidable c] (p : c → PT F i Unit) (a : α) (k : α → PT F i β) :
    ((if h : c then (do p h; pure a) else pure a : PT F i α) >>= k)
      = (if h : c then p h else pure ⟨⟩ : PT F i Unit) >>= fun _ => k a := by
  split
  · simp only [bind_assoc, pure_bind]
  · rfl

section Equal

variable (i : grid1.Coords)
  (a2 : Memref sig .scVector .hbm S320000 .i32) (h2 : a2.IsWhole) (a3 : Memref sig .scVector .hbm S320000 .i32) (h3 : a3.IsWhole)
  (a4 : Memref sig .scVector .hbm S320000 .f32) (h4 : a4.IsWhole) (a5 : Memref sig .scVector .hbm S10112x128 .f32) (h5 : a5.IsWhole)
  (a6 : Memref sig .scVector .hbm S32x16 .f32) (h6 : a6.IsWhole) (a7 : Memref sig .scVector .hbm S32x16 .f32) (h7 : a7.IsWhole)
  (a8 : Memref sig .scVector .vmem S2000 .i32) (h8 : a8.IsWhole) (a9 : Memref sig .scVector .vmem S2000 .i32) (h9 : a9.IsWhole)
  (a10 : Memref sig .scVector .vmem S2000 .f32) (h10 : a10.IsWhole) (a11 : Memref sig .scVector .vmem S2064 .i32) (h11 : a11.IsWhole)
  (a12 : Memref sig .scVector .vmem S2064 .i32) (h12 : a12.IsWhole) (a13 : Memref sig .scVector .vmem S2x2x64x128 .f32) (h13 : a13.IsWhole)
  (a14 : Memref sig .scVector .vmem S16 .f32) (h14 : a14.IsWhole) (a15 : Memref sig .scVector .shared S10112x128 .f32) (h15 : a15.IsWhole)
  (a16 : DmaSems sig S2x2) (r0 r1 r2 r3 r4 r5 r6 r7 r8 r9 r10 r11 r12 r13 r14 r15 r16 r17 : DmaSems sig S_)

set_option maxRecDepth 65536 in set_option maxHeartbeats 4000000 in
theorem main3 (v7 : FVec F S16 .f32) (v64 : BitVec 32) (v) (hw : k1_chk17 v) :
    k1_t3_body (F := F) i a2 h2 a3 h3 a4 h4 a5 h5 a6 h6 a7 h7 a8 h8 a9 h9 a10 h10 a11 h11 a12 h12 a13 h13 a14 h14 a15 h15 a16 r0 r1 r2 r3 r4 r5 r6 r7 r8 r9 r10 r11 r12 r13 r14 r15 r16 r17 v7 v hw v64 = mainBody i a11 a12 a13 a15 a16 v hw := by
  funext k x
  simp only [k1_t3_body, k1_part18_eq_skeleton, k1_part18_skel, mainBody, await, bind_assoc, refire0, refire1]
  refine bcongr rfl fun _ => bcongr rfl fun _ => bcongr rfl fun y => ?_
  refine (dbind (fun h => fire i a11 a12 a13 a15 a16 0 (k1_off39 v k) (k1_off39_inb v hw k h)) _ _).trans (bcongr rfl fun _ => ?_)
  refine bcongr rfl fun _ => bcongr rfl fun _ => bcongr rfl fun z => ?_
  by_cases h2 : k1_cond2 v k = 1#1
  · rw [dif_pos h2, dif_pos h2]; rfl
  · rw [dif_neg h2, dif_neg h2]; rfl

theorem rem6 (v ok) (x : A8 F) (b : Fin (k1_t6_loop v).trips → A8 F → PT F i (A8 F)) : Scf.Loop.for (k1_t6_loop v) ok x b = pure x :=
  Scf.for_rem_eq _ _ ok x b
theorem rem14 (v ok) (x : A8 F) (b : Fin (k1_t14_loop v).trips → A8 F → PT F i (A8 F)) : Scf.Loop.for (k1_t14_loop v) ok x b = pure x :=
  rem6 i v ok x b
theorem rem22 (v ok) (x : A8 F) (b : Fin (k1_t22_loop v).trips → A8 F → PT F i (A8 F)) : Scf.Loop.for (k1_t22_loop v) ok x b = pure x :=
  rem6 i v ok x b
theorem rem30 (v ok) (x : A8 F) (b : Fin (k1_t30_loop v).trips → A8 F → PT F i (A8 F)) : Scf.Loop.for (k1_t30_loop v) ok x b = pure x :=
  rem6 i v ok x b
theorem rem38 (v ok) (x : A8 F) (b : Fin (k1_t38_loop v).trips → A8 F → PT F i (A8 F)) : Scf.Loop.for (k1_t38_loop v) ok x b = pure x :=
  rem6 i v ok x b

set_option maxRecDepth 65536 in set_option maxHeartbeats 40000000 in
theorem body_eq : cc1__sc_body (F := F) i a2 h2 a3 h3 a4 h4 a5 h5 a6 h6 a7 h7 a8 h8 a9 h9 a10 h10 a11 h11 a12 h12 a13 h13 a14 h14 a15 h15 a16 r0 r1 r2 r3 r4 r5 r6 r7 r8 r9 r10 r11 r12 r13 r14 r15 r16 r17 = body i a2 a3 a4 a5 a6 a7 a8 h8 a9 h9 a10 h10 a11 a12 a13 a14 h14 a15 a16 r0 r1 r2 r3 r4 r5 r6 r7 r8 r9 r10 r11 r12 r13 r14 r15 r16 r17 := by
  simp only [cc1__sc_body_eq_skeleton, cc1__sc_body_skel, k1_part159_eq_skeleton, k1_part159_skel, k1_part146_eq_skeleton, k1_part146_skel,
    k1_part147_eq_skeleton, k1_part147_skel, k1_part148_eq_skeleton, k1_part148_skel, k1_part149_eq_skeleton, k1_part149_skel,
    k1_part150_eq_skeleton, k1_part150_skel, k1_part151_eq_skeleton, k1_part151_skel, k1_part152_eq_skeleton, k1_part152_skel,
    k1_part153_eq_skeleton, k1_part153_skel, k1_part154_eq_skeleton, k1_part154_skel, k1_part155_eq_skeleton, k1_part155_skel,
    k1_part156_eq_skeleton, k1_part156_skel, k1_part157_eq_skeleton, k1_part157_skel, k1_part158_eq_skeleton, k1_part158_skel,
    body, stage, chunk, emit, put, fire, bind_assoc, pure_bind, rem6, rem14, rem22, rem30, rem38]
  have hmain : ∀ (v : BitVec 32) (hw : k1_chk17 v), mainBody (F := F) i a11 a12 a13 a15 a16 v hw = k1_t3_body i a2 h2 a3 h3 a4 h4 a5 h5 a6 h6 a7 h7 a8 h8 a9 h9 a10 h10 a11 h11 a12 h12 a13 h13 a14 h14 a15 h15 a16 r0 r1 r2 r3 r4 r5 r6 r7 r8 r9 r10 r11 r12 r13 r14 r15 r16 r17 zero16 v hw 0#32 :=
    fun v hw => (main3 i a2 h2 a3 h3 a4 h4 a5 h5 a6 h6 a7 h7 a8 h8 a9 h9 a10 h10 a11 h11 a12 h12 a13 h13 a14 h14 a15 h15 a16 r0 r1 r2 r3 r4 r5 r6 r7 r8 r9 r10 r11 r12 r13 r14 r15 r16 r17 zero16 0#32 v hw).symm
  simp only [hmain]
  repeat refine bcongr rfl fun _ => ?_
  rfl

end Equal

end Cert.KernelIdeal.Tile

end
-- ==== Proof.Setup.lean ====
/- The kernel's program as the launch theorem sees it, and the ghost state of its proof: the SparseCore
   handshakes', the barrier cells', the TensorCore pipelines' and the transfers' counters. -/
module

public import proofs.«01_k».proof.Proof.Chunk
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UB : Type := URounds (GSem nD τ sig) ℕ
abbrev UP : Type := URounds (GSem nD τ sig) Unit
/-- The user's ghost state: handshakes, barrier cells, pipelines, transfers' counters. -/
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' part. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The pipelines' part. -/
def EP : Emb UP (MT nD τ sig (HIx 1) (Elt F) ℕ UU ℕ) :=
  (((Emb.inl : Emb UP (UP × Counters)).trans (Emb.inr : Emb (UP × Counters) (UB × (UP × Counters)))).trans
    (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

abbrev cV (i : grid1.Coords) : Fin τ.nSC := (i 0).castLE hcore1
abbrev jV (i : grid1.Coords) : Fin τ.nSub := (i 1).castLE hsub1
/-- The thread of the tile at the grid point `i` of device `d`. -/
abbrev VT (d : Dev nD) (i : grid1.Coords) : Thread nD τ := V d (cV i) (jV i)

end Cert.KernelIdeal.Tile
-- ==== Proof.Held.lean ====
/- A buffer held by what a memref reads off it, and the kernel's accesses over buffers held so. -/
module

public import proofs.«01_k».proof.Proof.Setup

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (i : grid1.Coords)

/-- The weakest precondition of a tile's program. -/
abbrev wpT {α : Type} (p : PT F i α) (Q : α → sProp 𝕄) : sProp 𝕄 :=
  wp frame (wpE (defs₀ (F := F)) 𝒱₀ (VT d i) none) Set.univ p Q

/-- What the memref `a` shows is held at the share `q`, and reads `v`. -/
def Has {sp : Space} {s : Shape} {e : EltTy} (a : Memref sig .scVector sp s e) (q : PosShare TreeShare) (v : s.Idx → Elt F e) : sProp 𝕄 :=
  iprop(∃ f : Buf (Elt F) (a.view.loc (VT d i)), ⌜a.view.read (Elt F) f = v⌝ ∗ (a.view.loc (VT d i) ↦[a.view.set]{q} f))

/-- One program after another: what the first leaves is what the second starts from. -/
theorem seq {α β : Type} {p : PT F i α} {k : α → PT F i β} {P : sProp 𝕄} {R : α → sProp 𝕄} {Q : β → sProp 𝕄}
    (h : P ⊢ wpT d i p R) : iprop(P ∗ (∀ a, R a -∗ wpT d i (k a) Q)) ⊢ wpT d i (p >>= k) Q := by
  rw [wpT, wp_bind]
  iintro ⟨HP, Hk⟩
  iapply (wp_wand_r Idealize.ShloMosaic.frame (wpE (defs₀ (F := F)) 𝒱₀ (VT d i) none) Set.univ)
  isplitl [HP]
  · iapply h; iexact HP
  · iexact Hk

theorem done {α : Type} (a : α) (Q : α → sProp 𝕄) : Q a ⊢ wpT d i (pure a) Q :=
  le_wp_ret Idealize.ShloMosaic.frame (wpE (defs₀ (F := F)) 𝒱₀ (VT d i) none) Set.univ a Q

section
variable {s : Shape} {e : EltTy} {cs : CoreSpace} {sp : Space}

/-- A load of a rectangle reads the buffer's values there. -/
theorem load_has {a : Memref sig .scVector cs s e} {q : PosShare TreeShare} {v : s.Idx → Elt F e} {r : Rect s}
    {hl : a.view.LoadsAt r.toLoadRect} {Q : (r.shape.Idx → Elt F e) → sProp 𝕄} :
    iprop(Has d i a q v ∗ (Has d i a q v -∗ Q (fun x => v (r.emb x)))) ⊢ wpT d i (Prog.lift (.load a r.toLoadRect hl)) Q := by
  unfold Has
  iintro ⟨⟨%f, %hf, Hf⟩, HQ⟩
  iapply (wp_load 𝒱₀ (VT d i) none Set.univ (m := a) (r := r.toLoadRect) (S := a.view.set) (f := f) (q := q) (Finset.map_subset_map.mpr (Finset.subset_univ _))) $$ Hf
  iintro Hf
  iapply (done d i)
  subst hf
  rw [show (fun x => a.view.read (Elt F) f (r.emb x)) = a.view.readAt (Elt F) r.toLoadRect f from rfl]
  iapply HQ
  iexists f
  isplitr; · ipureintro; rfl
  iexact Hf

/-- A store of a rectangle changes the buffer's values there only. -/
theorem store_has {a : Memref sig .scVector cs s e} {v : s.Idx → Elt F e} {r : Rect s} {w : r.shape.Idx → Elt F e}
    {hx : (a.access r).Stores Finset.univ} {hm : Finset.univ = Finset.univ ∨ ∀ b, r.stride b = 1} {Q : PUnit → sProp 𝕄} :
    iprop(Has d i a fullShare v
        ∗ (∀ v' : s.Idx → Elt F e, ⌜(∀ x, v' (r.emb x) = w x) ∧ ∀ y, y ∉ r.set → v' y = v y⌝ -∗ Has d i a fullShare v' -∗ Q ⟨⟩))
      ⊢ wpT d i (Prog.lift (.store a r w Finset.univ hx hm)) Q := by
  unfold Has
  iintro ⟨⟨%f, %hf, Hf⟩, HQ⟩
  iapply (wp_store 𝒱₀ (VT d i) none Set.univ (m := a) (r := r) (S := a.view.set) (f := f) (w := w) (Mk := Finset.univ)
    (View.set_slice_subset a.view r)) $$ Hf
  iintro Hf
  iapply (done d i)
  iapply HQ $$ %(a.view.read (Elt F) ((a.access r).write (Elt F) f w Finset.univ))
  · ipureintro
    refine ⟨fun x => View.read_slice_write_emb (v := a.view) r f w (Finset.mem_univ x), fun y hy => ?_⟩
    rw [← hf]
    exact View.read_slice_write_of_not_mem (v := a.view) r f w Finset.univ (by rwa [Rect.map_emb_univ])
  · iexists _
    isplitr; · ipureintro; rfl
    iexact Hf

/-- The resources of a tile's waits: it may wait under what it owes. -/
def Busy (O : CellTallies nD τ sig (HIx 1)) : sProp 𝕄 :=
  iprop(Transfers.MayWaits (VT d i) (default : HIx 1) O ∗ ∃ W, owes (VT d i) O W)

/-- A transfer under way on one of the tile's cells, of the destination's own amount. -/
abbrev Fly (r : DmaSem sig) (N : ℕ) (P : sProp 𝕄) : sProp 𝕄 :=
  Transfers.Flight (countersEmb (U := UU)) (VT d i) (.dma r) (default : HIx 1) N P

/-- The start of a copy from one memref to another. -/
theorem copy_start {sp' : Space} {a : Memref sig .scVector sp s e} {b : Memref sig .scVector sp' s e} {r : DmaSem sig} {ha hb hs}
    (hpos : 0 < b.view.dmaCredit) {q : PosShare TreeShare} {v w : s.Idx → Elt F e} {Q : PUnit → sProp 𝕄} :
    iprop(Has d i a q v ∗ Has d i b fullShare w ∗ semVal (VT d i, SemLoc.dma r) 0
        ∗ (Fly d i r b.view.dmaCredit iprop(Has d i b fullShare v ∗ Has d i a q v) -∗ Q ⟨⟩))
      ⊢ wpT d i (Prog.lift (.enqueueDma a (.here b) (.dma r) ha hb hs)) Q := by
  unfold Has
  iintro ⟨⟨%f, %hf, Hf⟩, ⟨%g, %hg, Hg⟩, Hs, HQ⟩
  iapply (Transfers.wp_dmaLocal (countersEmb (U := UU)) 𝒱₀ (VT d i) none (src := a) (dst := b) (sm := .dma r) (q := q) (fs := f) (fd := g) (via := .same)
    (Sd := b.view.set) (default : HIx 1) b.view.dmaCredit rfl hpos (Finset.Subset.refl _)) $$ [Hf Hg Hs]
  · isplitl [Hf]; · iexact Hf
    isplitl [Hg]; · iexact Hg
    iexact Hs
  iintro Hfl
  iapply (done d i)
  iapply HQ
  iapply (Transfers.Flight_mono (countersEmb (U := UU)) (VT d i)) $$ Hfl
  iintro ⟨Hg, Hf⟩
  isplitl [Hg]
  · iexists _
    isplitr
    swap; · iexact Hg
    ipureintro
    rw [View.read_write_univ]
    exact hf
  · iexists f
    isplitr; · ipureintro; exact hf
    iexact Hf

/-- The wait for a transfer: what it delivers is there, and its cell is back at zero. -/
theorem wait_fly {sp' : Space} {s' : Shape} {e' : EltTy} {a : Memref sig .scVector sp s' e'} {b : Memref sig .scVector sp' s e} {r : DmaSem sig}
    {ha : a.view.WordExact} {hb : b.view.WordExact} {O : CellTallies nD τ sig (HIx 1)} {N : ℕ} (hN : b.view.dmaCredit = N) {P : sProp 𝕄} {Q : PUnit → sProp 𝕄} :
    iprop(Busy d i O ∗ Fly d i r N P ∗ (Busy d i O -∗ semVal (VT d i, SemLoc.dma r) 0 -∗ P -∗ Q ⟨⟩))
      ⊢ wpT d i (Prog.lift (.waitDma2 r a b ha hb)) Q := by
  unfold Busy
  iintro ⟨⟨#Hmw, %W, HO⟩, Hfl, HQ⟩
  ihave Hm := (Transfers.MayWaits.elim (SemLoc.dma r)) $$ Hmw
  iapply (Transfers.wp_waitLocalO (countersEmb (U := UU)) 𝒱₀ (VT d i) none (srcw := a) (dstw := b) (hsrc := ha) (hdst := hb) (default : HIx 1) hN) $$ [Hfl HO Hm]
  · isplitl [Hfl]; · iexact Hfl
    isplitl [HO]; · iexact HO
    iexact Hm
  iintro ⟨HP, Hs, HO⟩
  iapply (done d i)
  iapply HQ $$ [HO] Hs HP
  isplitr; · iexact Hmw
  iexists _; iexact HO

end

end Cert.KernelIdeal.Tile
-- ==== Proof.Lists.lean ====
/- The selection of a chunk's edges: the two lists after the fill, after each lane and after the last edge. -/
module

public import proofs.«01_k».proof.Proof.Held
public import Idealize.ShloMosaic.Lib.Pipeline.Value

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-! ## What the lists hold -/

/-- The edges among the first `n` of a chunk whose weight passes the test, in order. -/
def sel (w : S2000.Idx → Elt F .f32) (n : ℕ) : List (Fin 2000) :=
  ((List.finRange 2000).take n).filter fun e => decide (pos (w (ix1 e)) = 1#1)

/-- The list's word at place `p`: the end of the selected edge there, the pad row's number past the last one. -/
def pick (s : S2000.Idx → BitVec 32) (L : List (Fin 2000)) (p : ℕ) : BitVec 32 :=
  (L[p]?).elim 10000#32 fun e => s (ix1 e)

/-- Sixteen words from place `c` on are `x`, the others as in `v`. -/
def upd16 (v : S2064.Idx → BitVec 32) (c : ℕ) (x : BitVec 32) : S2064.Idx → BitVec 32 :=
  fun j => if c ≤ (j 0).val ∧ (j 0).val < c + 16 then x else v j

/-- A list while it is filled: the selected edges' ends in front, the pad row's number from sixteen places past them on. -/
def Filling (s : S2000.Idx → BitVec 32) (L : List (Fin 2000)) (v : S2064.Idx → BitVec 32) : Prop :=
  (∀ j : S2064.Idx, (j 0).val < L.length → v j = pick s L (j 0).val)
    ∧ ∀ j : S2064.Idx, L.length + 16 ≤ (j 0).val → (j 0).val < 2048 → v j = 10000#32

/-- A list that is filled: every word below 2048 is the picked one. -/
def Filled (s : S2000.Idx → BitVec 32) (L : List (Fin 2000)) (v : S2064.Idx → BitVec 32) : Prop :=
  ∀ j : S2064.Idx, (j 0).val < 2048 → v j = pick s L (j 0).val

theorem sel_succ (w : S2000.Idx → Elt F .f32) (e : Fin 2000) :
    sel w (e.val + 1) = sel w e.val ++ (if pos (w (ix1 e)) = 1#1 then [e] else []) := by
  unfold sel
  rw [List.take_succ_eq_append_getElem (by simp), List.filter_append]
  congr 1
  simp only [List.getElem_finRange, List.filter_cons, List.filter_nil, decide_eq_true_eq]
  rfl

theorem sel_length (w : S2000.Idx → Elt F .f32) (n : ℕ) : (sel w n).length ≤ 2000 := by
  unfold sel
  refine (List.length_filter_le _ _).trans ?_
  rw [List.length_take, List.length_finRange]
  exact Nat.min_le_right _ _

theorem pick_lt {s : S2000.Idx → BitVec 32} (hs : ∀ j, (s j).toNat < 10000) (L : List (Fin 2000)) (p : ℕ) :
    (pick s L p).toNat < 10112 := by
  unfold pick
  cases h : L[p]? with
  | none => exact (by decide : (10000#32).toNat < 10112)
  | some e => exact (hs _).trans (by decide)

theorem filling_append {s : S2000.Idx → BitVec 32} {L : List (Fin 2000)} {v : S2064.Idx → BitVec 32} (h : Filling s L v) (e : Fin 2000) :
    Filling s (L ++ [e]) (upd16 v L.length (s (ix1 e))) := by
  constructor
  · intro j hj
    rw [List.length_append, List.length_singleton] at hj
    unfold upd16
    by_cases hl : L.length ≤ (j 0).val
    · have hjl : (j 0).val = L.length := by omega
      rw [if_pos ⟨hl, by omega⟩, pick, hjl, List.getElem?_concat_length]
      rfl
    · rw [if_neg (fun h => hl h.1), h.1 j (by omega), pick, pick, List.getElem?_append_left (by omega)]
  · intro j hj hj'
    rw [List.length_append, List.length_singleton] at hj
    rw [upd16, if_neg (by omega), h.2 j (by omega) hj']

theorem filling_skip {s : S2000.Idx → BitVec 32} {L : List (Fin 2000)} {v : S2064.Idx → BitVec 32} (h : Filling s L v)
    (hL : L.length ≤ 2000) (x : BitVec 32) : Filling s L (upd16 v 2048 x) := by
  constructor
  · intro j hj
    rw [upd16, if_neg (by omega), h.1 j hj]
  · intro j hj hj'
    rw [upd16, if_neg (by omega), h.2 j hj hj']

theorem filled_of_filling {s : S2000.Idx → BitVec 32} {L : List (Fin 2000)} {v : S2064.Idx → BitVec 32} (h : Filling s L v) :
    Filled s L (upd16 v L.length 10000#32) := by
  intro j hj
  unfold upd16
  split
  · next hc => rw [pick, List.getElem?_eq_none hc.1]; rfl
  · next hc =>
    by_cases hl : (j 0).val < L.length
    · exact h.1 j hl
    · rw [h.2 j (by omega) hj, pick, List.getElem?_eq_none (by omega)]; rfl

/-! ## The words the program computes -/

theorem lane_eq {α : Type} (u : Fin 16) (f : S16.Idx → α) : lane u f = f (ix1 u) := by
  unfold lane extractAt extractStridedSlice
  rw [shapeCast_self]
  congr 1
  funext a
  match a with
  | ⟨0, _⟩ => exact Fin.ext (show u.val + 0 = u.val from rfl)

theorem splat_apply (w : BitVec 32) (x : S16.Idx) : splat w x = w := rfl

theorem off5_zero (cur : BitVec 32) (b : BitVec 1) : k1_off5 cur b 0 = if b = 1#1 then cur.toNat else 2048 := by
  by_cases h : b = 1#1
  · subst h; simp [k1_off5, Scalar.select, Scalar.indexCast]
  · obtain rfl : b = 0#1 := by revert h; revert b; decide
    rfl

section Runs

variable (d : Dev nD) (i : grid1.Coords)
variable (a11 a12 : Memref sig .scVector .vmem S2064 .i32)

/-- Both lists get one word sixteen times. -/
theorem put_wp (o : Fin 1 → Nat) (h : ∀ a, o a + S16.size a ≤ S2064.size a) (x y : BitVec 32) (v w : S2064.Idx → BitVec 32) :
    iprop(Has (F := F) d i a11 fullShare v ∗ Has (F := F) d i a12 fullShare w)
      ⊢ wpT d i (put i a11 a12 o h (splat x) (splat y))
          fun _ => iprop(Has (F := F) d i a11 fullShare (upd16 v (o 0) x) ∗ Has (F := F) d i a12 fullShare (upd16 w (o 0) y)) := by
  have key : ∀ (v v' : S2064.Idx → BitVec 32) (x : BitVec 32),
      ((∀ z : (at16 o h).shape.Idx, v' ((at16 o h).emb z) = splat x z) ∧ ∀ z, z ∉ (at16 o h).set → v' z = v z) → v' = upd16 v (o 0) x := by
    intro v v' x ⟨h1, h2⟩
    funext j
    unfold upd16
    split
    · next hc =>
      have : (at16 o h).emb (ix1 ⟨(j 0).val - o 0, by omega⟩) = j := by
        funext a
        match a with
        | ⟨0, _⟩ => apply Fin.ext; show o 0 + 1 * ((j 0).val - o 0) = (j 0).val; omega
      rw [← this, h1]; rfl
    · next hc =>
      apply h2
      rw [Rect.mem_set_unit]
      intro hj
      exact hc (hj 0)
  unfold put
  iintro ⟨H1, H2⟩
  iapply (seq d i (load_has d i (Q := fun _ => Has (F := F) d i a11 fullShare v)))
  isplitl [H1]
  · isplitl [H1]; · iexact H1
    iintro H; iexact H
  iintro %_ H1
  iapply (seq d i (store_has d i (Q := fun _ => Has (F := F) d i a11 fullShare (upd16 v (o 0) x))))
  isplitl [H1]
  · isplitl [H1]; · iexact H1
    iintro %v' %hv' H
    rw [key v v' x hv']
    iexact H
  iintro %_ H1
  iapply (seq d i (load_has d i (Q := fun _ => Has (F := F) d i a12 fullShare w)))
  isplitl [H2]
  · isplitl [H2]; · iexact H2
    iintro H; iexact H
  iintro %_ H2
  iapply (seq d i (store_has d i (Q := fun _ => Has (F := F) d i a12 fullShare (upd16 w (o 0) y))))
  isplitl [H2]
  · isplitl [H2]; · iexact H2
    iintro %v' %hv' H
    rw [key w v' y hv']
    iexact H
  iintro %_ H2
  iapply (done d i)
  isplitl [H1]; · iexact H1
  iexact H2

end Runs

end Cert.KernelIdeal.Tile
-- ==== Proof.Gather.lean ====
/- The gathers of a ring slot, and the sums over the edges of what was gathered. -/
module

public import proofs.«01_k».proof.Proof.Lists
public import Idealize.ShloMosaic.Lib.SparseCore.Stream
public import Idealize.ShloMosaic.Lib.ValueLayout

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-- The table's entry in the row a word names; a word that names no row reads row 0. -/
def entry (X : S10112x128.Idx → Elt F .f32) (w : BitVec 32) (c : Fin 128) : Elt F .f32 :=
  if h : w.toNat < 10112 then X (ix2 (⟨w.toNat, h⟩ : Fin 10112) c) else X (ix2 (⟨0, by decide⟩ : Fin 10112) c)

/-- What group `m` of sixty-four gathers: row `j` is the table's row of the list's word `64 m + j`. -/
def gath (X : S10112x128.Idx → Elt F .f32) (g : ℕ → BitVec 32) (m : ℕ) : S64x128.Idx → Elt F .f32 :=
  fun x => entry X (g (64 * m + (x 0).val)) (x 1)

/-- Sixteen columns of a row. -/
def grp (S : Fin 128 → Elt F .f32) (c : Fin 8) : FVec F S16 .f32 :=
  fun z => S ⟨16 * c.val + (z 0).val, by have h1 : (z 0).val < 16 := (z 0).isLt; have h2 := c.isLt; omega⟩

/-- One edge's products go to the eight running sums. -/
def dotStep (S D : Fin 128 → Elt F .f32) : A8 F → A8 F := fun (x0, x1, x2, x3, x4, x5, x6, x7) =>
  (addf x0 (mulf (grp S 0) (grp D 0)), addf x1 (mulf (grp S 1) (grp D 1)), addf x2 (mulf (grp S 2) (grp D 2)), addf x3 (mulf (grp S 3) (grp D 3)),
   addf x4 (mulf (grp S 4) (grp D 4)), addf x5 (mulf (grp S 5) (grp D 5)), addf x6 (mulf (grp S 6) (grp D 6)), addf x7 (mulf (grp S 7) (grp D 7)))

/-- The running sums after the first `n` places of the two lists. -/
def runSum (X : S10112x128.Idx → Elt F .f32) (g h : ℕ → BitVec 32) (n : ℕ) (x : A8 F) : A8 F :=
  (List.range n).foldl (fun a p => dotStep (entry X (g p)) (entry X (h p)) a) x

theorem runSum_succ (X : S10112x128.Idx → Elt F .f32) (g h : ℕ → BitVec 32) (n : ℕ) (x : A8 F) :
    runSum X g h (n + 1) x = dotStep (entry X (g n)) (entry X (h n)) (runSum X g h n x) := by
  unfold runSum
  rw [List.range_succ, List.foldl_append]
  rfl

section Runs

variable (d : Dev nD) (i : grid1.Coords)

/-- A part of a memref, and the whole again from it. -/
theorem has_part {sp : Space} {s : Shape} {e : EltTy} (a : Memref sig .scVector sp s e) (r : Rect s) (hr : ∀ b, r.stride b = 1)
    (q : PosShare TreeShare) (v : s.Idx → Elt F e) :
    Has (F := F) d i a q v ⊢ iprop(Has (F := F) d i (a.slice r hr) q (fun x => v (r.emb x))
      ∗ (Has (F := F) d i (a.slice r hr) q (fun x => v (r.emb x)) -∗ Has (F := F) d i a q v)) := by
  have hsub : (a.slice r hr).view.set ⊆ a.view.set := View.set_slice_subset a.view r
  unfold Has
  iintro ⟨%f, %hf, Hf⟩
  ihave H := (pointsTo_split_subset hsub).1 $$ Hf
  icases H with ⟨Hp, Hrest⟩
  isplitl [Hp]
  · iexists f
    isplitr
    swap; · iexact Hp
    ipureintro
    subst hf
    rfl
  · iintro ⟨%f', %hf', Hp⟩
    iexists f
    isplitr; · ipureintro; exact hf
    have hagree : ∀ z ∈ (a.slice r hr).view.set, f' z = f z := by
      intro z hz
      obtain ⟨x, -, rfl⟩ := Finset.mem_map.mp hz
      have h1 := congrFun hf' x
      have h2 := congrFun hf (r.emb x)
      have e1 : (a.slice r hr).view.read (Elt F) f' x = v (r.emb x) := h1
      have e2 : (a.slice r hr).view.read (Elt F) f x = v (r.emb x) := h2
      have e3 := e1.trans e2.symm
      rw [View.read_apply, View.read_apply] at e3
      exact eq_of_heq ((cast_heq _ _).symm.trans ((heq_of_eq e3).trans (cast_heq _ _)))
    ihave Hp' := (Entails.of_eq (pointsTo_congr hagree)) $$ Hp
    iapply (pointsTo_split_subset hsub).2
    isplitl [Hp']; · iexact Hp'
    iexact Hrest

variable (a15 : Memref sig .scVector .shared S10112x128 .f32)

/-- The start of one gather: what it delivers at the wait is the table's rows the words name. -/
theorem gather_start {dst : Memref sig .scVector .vmem S64x128 .f32} {offs : Memref sig .scVector .vmem S64 .i32} {sem : DmaSem sig}
    {src : Memref sig .scVector .shared S10112x128 .f32} {h1 h2}
    (hcr : ∀ s' : Shape, sig.dmaCredit .scVector (Kind.scVector.table .vmem) dst.view.buf s' .f32 = s'.numel * 32)
    {q q2 : PosShare TreeShare} {X : S10112x128.Idx → Elt F .f32} {w : S64x128.Idx → Elt F .f32} {f : S64.Idx → BitVec 32}
    (hin : ∀ x, (f x).toNat < 10112) {Q : PUnit → sProp 𝕄} :
    iprop(Has (F := F) d i src q X ∗ Has (F := F) d i dst fullShare w ∗ Has (F := F) d i offs q2 f ∗ semVal (VT d i, SemLoc.dma sem) 0
        ∗ (Fly (F := F) d i sem dst.view.dmaCredit iprop(Has (F := F) d i dst fullShare (fun x => entry X (f (ix1 (x 0))) (x 1)) ∗ Has (F := F) d i src q X ∗ Has (F := F) d i offs q2 f) -∗ Q ⟨⟩))
      ⊢ wpT (F := F) d i (SparseCore.enqueueIndirectGather rfl src dst gathers_S10112x128_S64x128 offs rfl sem h1 rfl (Or.inr rfl) h2) Q := by
  refine BIBase.Entails.trans ?_ (Entails.of_eq (congrArg (fun p => wpT (F := F) d i p Q) (bind_pure _)))
  unfold Has
  iintro ⟨⟨%fs, %hfs, Hs⟩, ⟨%fd, %hfd, Hd⟩, ⟨%fo, %hfo, Ho⟩, Hv, HQ⟩
  have hin' : ∀ x, (offs.view.read (Elt F) fo x).toNat < S10112x128.size (gathers_S10112x128_S64x128 : S10112x128.Gathers 0 S64x128).axis := by
    intro x; rw [hfo]; exact hin x
  iapply (SparseCore.wp_indirectGatherLocal (countersEmb (U := UU)) 𝒱₀ (VT d i) none (hg := gathers_S10112x128_S64x128) (default : HIx 1) dst.view.dmaCredit
    (SparseCore.sum_rowCredit_eq_dmaCredit dst _ hcr) (by decide) hin') $$ [Hs Hd Ho Hv]
  · isplitl [Hs]; · iexact Hs
    isplitl [Hd]; · iexact Hd
    isplitl [Ho]; · iexact Ho
    iexact Hv
  iintro Hfl
  iapply (done d i)
  iapply HQ
  iapply (Transfers.Flight_mono (countersEmb (U := UU)) (VT d i)) $$ Hfl
  iintro ⟨Hd, Hs, Ho⟩
  isplitl [Hd]
  · iexists _
    isplitr
    swap; · iexact Hd
    ipureintro
    rw [View.read_write_univ]
    subst hfs hfo
    funext x
    unfold SparseCore.gatherPayload entry
    have hx : ((gathers_S10112x128_S64x128 : S10112x128.Gathers 0 S64x128).idx (SparseCore.rows (offs.view.read (Elt F) fo) rfl hin') x)
        = ix2 (⟨(offs.view.read (Elt F) fo (ix1 (x 0))).toNat, hin _⟩ : Fin 10112) (x 1) := by
      funext a
      match a with
      | ⟨0, _⟩ =>
        refine (Shape.Gathers.idx_axis _ _ x).trans ?_
        apply Fin.ext
        show (offs.view.read (Elt F) fo (S64.rowMajor.symm _)).toNat = (offs.view.read (Elt F) fo (ix1 (x 0))).toNat
        congr 2
        rw [Equiv.symm_apply_eq]
        apply Fin.ext
        rw [Shape.rowMajor_val_one]
        rfl
      | ⟨1, _⟩ => exact Fin.ext (Shape.Gathers.idx_of_ne _ _ x ⟨1, by decide⟩ (by decide))
    rw [hx, dif_pos (hin _)]
    rfl
  isplitl [Hs]
  · iexists fs
    isplitr; · ipureintro; exact hfs
    iexact Hs
  · iexists fo
    isplitr; · ipureintro; exact hfo
    iexact Ho

variable (a11 a12 : Memref sig .scVector .vmem S2064 .i32)
variable (a13 : Memref sig .scVector .vmem S2x2x64x128 .f32) (a16 : DmaSems sig S2x2)

/-- The share of the table one side of one slot reads at. -/
def tk (q : PosShare TreeShare) (sd b : Fin 2) : PosShare TreeShare :=
  if sd = 0 then (if b = 0 then q.left.left else q.left.right) else (if b = 0 then q.right.left else q.right.right)

/-- The share of a list one slot reads at. -/
def hf (b : Fin 2) : PosShare TreeShare := if b = 0 then fullShare.left else fullShare.right

/-- One side of a slot with no gather under way: its rows, its share of the table and of its list, its semaphore at zero. -/
def Side (a : Memref sig .scVector .vmem S2064 .i32) (q : PosShare TreeShare) (X : S10112x128.Idx → Elt F .f32) (v : S2064.Idx → BitVec 32)
    (sd b : Fin 2) (w : S64x128.Idx → Elt F .f32) : sProp 𝕄 :=
  iprop(Has (F := F) d i (win a13 sd b) fullShare w ∗ Has (F := F) d i (tbl a15) (tk q sd b) X ∗ Has (F := F) d i a (hf b) v
    ∗ semVal (VT d i, SemLoc.dma (gsem a16 sd b).sem) 0)

/-- One side of a slot with a gather under way. -/
def Going (a : Memref sig .scVector .vmem S2064 .i32) (q : PosShare TreeShare) (X : S10112x128.Idx → Elt F .f32) (v : S2064.Idx → BitVec 32)
    (sd b : Fin 2) (w : S64x128.Idx → Elt F .f32) : sProp 𝕄 :=
  iprop(∃ P : sProp 𝕄, Fly (F := F) d i (gsem a16 sd b).sem (win a13 sd b).view.dmaCredit P
    ∗ (P -∗ iprop(Has (F := F) d i (win a13 sd b) fullShare w ∗ Has (F := F) d i (tbl a15) (tk q sd b) X ∗ Has (F := F) d i a (hf b) v)))

/-- A gather of a side starts: group `m` of the list. -/
theorem going_wp (hcr : ∀ s' : Shape, sig.dmaCredit .scVector (Kind.scVector.table .vmem) a13.view.buf s' .f32 = s'.numel * 32)
    (a : Memref sig .scVector .vmem S2064 .i32) {q : PosShare TreeShare} {X : S10112x128.Idx → Elt F .f32} {v : S2064.Idx → BitVec 32} {g : ℕ → BitVec 32}
    (hg : ∀ j : S2064.Idx, (j 0).val < 2048 → v j = g (j 0).val) (hlt : ∀ p, (g p).toNat < 10112) (sd b : Fin 2) (m : ℕ) (hm : 64 * m + 64 ≤ 2048)
    (o : Fin 1 → Nat) (h : ∀ a, o a + S64.size a ≤ S2064.size a) (ho : o 0 = 64 * m) {w : S64x128.Idx → Elt F .f32} {h1 h2} :
    Side (F := F) d i a15 a13 a16 a q X v sd b w
      ⊢ wpT (F := F) d i (SparseCore.enqueueIndirectGather rfl (tbl a15) (win a13 sd b) gathers_S10112x128_S64x128 (offw a o h) rfl (gsem a16 sd b).sem h1 rfl (Or.inr rfl) h2)
          fun _ => Going (F := F) d i a15 a13 a16 a q X v sd b (gath X g m) := by
  have hval : ∀ x : S64.Idx, v ((Rect.unit (s := S2064) o S64.size h).emb x) = g (64 * m + (x 0).val) := by
    intro x
    have hx : (x 0).val < 64 := (x 0).isLt
    have e0 : (((Rect.unit (s := S2064) o S64.size h).emb x) 0).val = 64 * m + (x 0).val := by
      show o 0 + 1 * (x 0).val = _
      rw [ho]; omega
    rw [hg _ (by rw [e0]; omega), e0]
  unfold Side
  iintro ⟨Hw, Ht, Ha, Hs⟩
  ihave H := (show Has (F := F) d i a (hf b) v ⊢ iprop(Has (F := F) d i (offw a o h) (hf b) (fun x => v ((Rect.unit (s := S2064) o S64.size h).emb x))
      ∗ (Has (F := F) d i (offw a o h) (hf b) (fun x => v ((Rect.unit (s := S2064) o S64.size h).emb x)) -∗ Has (F := F) d i a (hf b) v))
    from has_part d i a (Rect.unit (s := S2064) o S64.size h) (fun _ => rfl) (hf b) v) $$ Ha
  icases H with ⟨Hp, Hback⟩
  iapply (gather_start d i hcr (X := X) (q := tk q sd b) (q2 := hf b) (f := fun x => v ((Rect.unit (s := S2064) o S64.size h).emb x))
    (fun x => by rw [hval]; exact hlt _))
  isplitl [Ht]; · iexact Ht
  isplitl [Hw]; · iexact Hw
  isplitl [Hp]; · iexact Hp
  isplitl [Hs]; · iexact Hs
  iintro Hfl
  unfold Going
  iexists _
  isplitl [Hfl]; · iexact Hfl
  iintro ⟨Hw, Ht, Hp⟩
  ihave Ha := Hback $$ Hp
  isplitl [Hw]
  · rw [show gath X g m = fun x => entry X (v ((Rect.unit (s := S2064) o S64.size h).emb (ix1 (x 0)))) (x 1) from by
      funext x; rw [hval]; rfl]
    iexact Hw
  isplitl [Ht]; · iexact Ht
  iexact Ha

/-- A slot: its two sides at rest, holding `w0` and `w1`. -/
def Slot (q : PosShare TreeShare) (X : S10112x128.Idx → Elt F .f32) (v1 v2 : S2064.Idx → BitVec 32) (b : Fin 2) (w0 w1 : S64x128.Idx → Elt F .f32) : sProp 𝕄 :=
  iprop(Side (F := F) d i a15 a13 a16 a11 q X v1 0 b w0 ∗ Side (F := F) d i a15 a13 a16 a12 q X v2 1 b w1)

/-- A slot whose gathers are under way. -/
def Fired (q : PosShare TreeShare) (X : S10112x128.Idx → Elt F .f32) (v1 v2 : S2064.Idx → BitVec 32) (b : Fin 2) (w0 w1 : S64x128.Idx → Elt F .f32) : sProp 𝕄 :=
  iprop(Going (F := F) d i a15 a13 a16 a11 q X v1 0 b w0 ∗ Going (F := F) d i a15 a13 a16 a12 q X v2 1 b w1)

variable {q : PosShare TreeShare} {X : S10112x128.Idx → Elt F .f32} {v1 v2 : S2064.Idx → BitVec 32} {g1 g2 : ℕ → BitVec 32}

/-- A slot at rest is fired. -/
theorem fire_wp (hcr : ∀ s' : Shape, sig.dmaCredit .scVector (Kind.scVector.table .vmem) a13.view.buf s' .f32 = s'.numel * 32)
    (hg1 : ∀ j : S2064.Idx, (j 0).val < 2048 → v1 j = g1 (j 0).val) (hlt1 : ∀ p, (g1 p).toNat < 10112)
    (hg2 : ∀ j : S2064.Idx, (j 0).val < 2048 → v2 j = g2 (j 0).val) (hlt2 : ∀ p, (g2 p).toNat < 10112)
    (b : Fin 2) (m : ℕ) (hm : 64 * m + 64 ≤ 2048) (o : Fin 1 → Nat) (h : ∀ a, o a + S64.size a ≤ S2064.size a) (ho : o 0 = 64 * m) {w0 w1 : S64x128.Idx → Elt F .f32} :
    Slot (F := F) d i a15 a11 a12 a13 a16 q X v1 v2 b w0 w1
      ⊢ wpT (F := F) d i (fire i a11 a12 a13 a15 a16 b o h) fun _ => Fired (F := F) d i a15 a11 a12 a13 a16 q X v1 v2 b (gath X g1 m) (gath X g2 m) := by
  unfold fire Slot
  iintro ⟨H0, H1⟩
  iapply (seq d i (going_wp d i a15 a13 a16 hcr a11 hg1 hlt1 0 b m hm o h ho))
  isplitl [H0]; · iexact H0
  iintro %_ H0
  iapply (seq d i (going_wp d i a15 a13 a16 hcr a12 hg2 hlt2 1 b m hm o h ho))
  isplitl [H1]; · iexact H1
  iintro %_ H1
  iapply (done d i)
  unfold Fired
  isplitl [H0]; · iexact H0
  iexact H1

/-- One side is awaited. -/
theorem side_wait {O : CellTallies nD τ sig (HIx 1)} (a : Memref sig .scVector .vmem S2064 .i32) {v : S2064.Idx → BitVec 32} (sd b : Fin 2) {w : S64x128.Idx → Elt F .f32} {h1 h2} :
    iprop(Busy (F := F) d i O ∗ Going (F := F) d i a15 a13 a16 a q X v sd b w)
      ⊢ wpT (F := F) d i (SparseCore.waitIndirectGather (gsem a16 sd b).sem (tbl a15) (win a13 sd b) h1 h2)
          fun _ => iprop(Busy (F := F) d i O ∗ Side (F := F) d i a15 a13 a16 a q X v sd b w) := by
  unfold Going Side
  iintro ⟨HB, %P, Hfl, HP⟩
  iapply (wait_fly d i (a := tbl a15) (b := win a13 sd b) (r := (gsem a16 sd b).sem) (O := O) (P := P) rfl)
  isplitl [HB]; · iexact HB
  isplitl [Hfl]; · iexact Hfl
  iintro HB Hs Hd
  ihave H := HP $$ Hd
  icases H with ⟨Hw, Ht, Ha⟩
  isplitl [HB]; · iexact HB
  isplitl [Hw]; · iexact Hw
  isplitl [Ht]; · iexact Ht
  isplitl [Ha]; · iexact Ha
  iexact Hs

/-- A fired slot is awaited: it holds what was gathered. -/
theorem await_wp {O : CellTallies nD τ sig (HIx 1)} (b : Fin 2) {w0 w1 : S64x128.Idx → Elt F .f32} :
    iprop(Busy (F := F) d i O ∗ Fired (F := F) d i a15 a11 a12 a13 a16 q X v1 v2 b w0 w1)
      ⊢ wpT (F := F) d i (await i a13 a15 a16 b) fun _ => iprop(Busy (F := F) d i O ∗ Slot (F := F) d i a15 a11 a12 a13 a16 q X v1 v2 b w0 w1) := by
  unfold await Fired
  iintro ⟨HB, H0, H1⟩
  iapply (seq d i (side_wait d i a15 a13 a16 (O := O) a11 0 b))
  isplitl [HB H0]
  · isplitl [HB]; · iexact HB
    iexact H0
  iintro %_ ⟨HB, H0⟩
  iapply (seq d i (side_wait d i a15 a13 a16 (O := O) a12 1 b))
  isplitl [HB H1]
  · isplitl [HB]; · iexact HB
    iexact H1
  iintro %_ ⟨HB, H1⟩
  iapply (done d i)
  unfold Slot
  isplitl [HB]; · iexact HB
  isplitl [H0]; · iexact H0
  iexact H1

/-! ## The edges of a gathered slot -/

/-- The row of a slot an edge is in. -/
def erow (k : Fin k1_t4_loop.trips) (e : Fin 2) : Fin 64 := ⟨2 * k.val + e.val, by
  have : k.val < 32 := lt_of_lt_of_eq k.isLt (by decide)
  omega⟩

theorem edgeOff_eq (sd b : Fin 2) (e : Fin 2) (c : Nat) : ∀ k : Fin k1_t4_loop.trips,
    edgeOff sd b k (BitVec.ofNat 32 e.val) c = ![sd.val, b.val, 2 * k.val + e.val, c] := by
  intro k
  have : ∀ (k : Fin k1_t4_loop.trips) (e : Fin 2),
    (Scalar.indexCast (Scalar.addi (Scalar.muli (Scf.iv 0#32 1#32 k) 2#32) (BitVec.ofNat 32 e.val))).toNat = 2 * k.val + e.val := by decide
  unfold edgeOff
  rw [this]

/-- Sixteen columns of a gathered row, loaded through the whole ring. -/
theorem load_win (sd b : Fin 2) (k : Fin k1_t4_loop.trips) (e : Fin 2) (c : Fin 8) {g : S64x128.Idx → Elt F .f32} {hl} {Q : (S1x1x1x16.Idx → Elt F .f32) → sProp 𝕄} :
    iprop(Has (F := F) d i (win a13 sd b) fullShare g
        ∗ (Has (F := F) d i (win a13 sd b) fullShare g -∗ Q (fun x => grp (fun j => g (ix2 (erow k e) j)) c (ix1 (x 3)))))
      ⊢ wpT (F := F) d i (Prog.lift (.load a13 (Rect.unit (s := S2x2x64x128) (edgeOff sd b k (BitVec.ofNat 32 e.val) (16 * c.val)) S1x1x1x16.size (edgeOff_inb sd b k e c)).toLoadRect hl)) Q := by
  have hemb : ∀ x : S1x1x1x16.Idx, ((Rect.unit (s := S2x2x64x128) (edgeOff sd b k (BitVec.ofNat 32 e.val) (16 * c.val)) S1x1x1x16.size (edgeOff_inb sd b k e c)).emb x)
      = (Rect.unit (s := S2x2x64x128) ![sd.val, b.val, 0, 0] S1x1x64x128.size (winInb sd b)).emb
          (Shape.reshapeEquiv (squeezes_S1x1x64x128_S64x128).numel_eq (ix2 (erow k e) (⟨16 * c.val + (x 3).val, by have h1 : (x 3).val < 16 := (x 3).isLt; have h2 := c.isLt; omega⟩ : Fin 128))) := by
    intro x
    refine Eq.trans ?_ (congrArg _ (reshapeEquiv_ix2_11ab (a := 64) (b := 128) _ (erow k e) _).symm)
    have h0 : (x 0).val < 1 := (x 0).isLt
    have h1 : (x 1).val < 1 := (x 1).isLt
    have h2 : (x 2).val < 1 := (x 2).isLt
    funext a
    apply Fin.ext
    match a with
    | ⟨0, _⟩ => show edgeOff sd b k (BitVec.ofNat 32 e.val) (16 * c.val) 0 + 1 * (x 0).val = sd.val + 1 * 0; rw [edgeOff_eq]; show sd.val + 1 * (x 0).val = _; omega
    | ⟨1, _⟩ => show edgeOff sd b k (BitVec.ofNat 32 e.val) (16 * c.val) 1 + 1 * (x 1).val = b.val + 1 * 0; rw [edgeOff_eq]; show b.val + 1 * (x 1).val = _; omega
    | ⟨2, _⟩ => show edgeOff sd b k (BitVec.ofNat 32 e.val) (16 * c.val) 2 + 1 * (x 2).val = 0 + 1 * (2 * k.val + e.val); rw [edgeOff_eq]; show 2 * k.val + e.val + 1 * (x 2).val = _; omega
    | ⟨3, _⟩ => show edgeOff sd b k (BitVec.ofNat 32 e.val) (16 * c.val) 3 + 1 * (x 3).val = 0 + 1 * (16 * c.val + (x 3).val); rw [edgeOff_eq]; show 16 * c.val + 1 * (x 3).val = _; omega
  unfold Has
  iintro ⟨⟨%f, %hf, Hf⟩, HQ⟩
  iapply (wp_load 𝒱₀ (VT d i) none Set.univ (m := a13) (S := (win a13 sd b).view.set) (f := f) (q := fullShare) ?_) $$ Hf
  · intro y hy
    obtain ⟨z, hz, rfl⟩ := Finset.mem_map.mp hy
    have hz' : z ∈ (Rect.unit (s := S2x2x64x128) (edgeOff sd b k (BitVec.ofNat 32 e.val) (16 * c.val)) S1x1x1x16.size (edgeOff_inb sd b k e c)).set := hz
    rw [← Rect.map_emb_univ, Finset.mem_map] at hz'
    obtain ⟨x, -, rfl⟩ := hz'
    rw [hemb]
    exact View.emb_mem_set (win a13 sd b).view _
  iintro Hf
  iapply (done d i)
  have hval : a13.view.readAt (Elt F) (Rect.unit (s := S2x2x64x128) (edgeOff sd b k (BitVec.ofNat 32 e.val) (16 * c.val)) S1x1x1x16.size (edgeOff_inb sd b k e c)).toLoadRect f
      = fun x : S1x1x1x16.Idx => grp (fun j => g (ix2 (erow k e) j)) c (ix1 (x 3)) := by
    subst hf
    funext x
    rw [View.readAt_rect]
    show a13.view.read (Elt F) f _ = _
    rw [hemb]
    rfl
  iapply (Entails.of_eq (congrArg Q hval.symm))
  iapply HQ
  iexists f
  isplitr; · ipureintro; exact hf
  iexact Hf

/-- Sixteen columns as a vector of sixteen. -/
theorem cast16 (u : FVec F S16 .f32) : shapeCast S16 (fun x : S1x1x1x16.Idx => u (ix1 (x 3))) shapeCasts_S1x1x1x16_S16 = u := by
  funext z
  obtain ⟨u', rfl⟩ : ∃ u', z = ix1 u' := ⟨z 0, eq_ix1 z⟩
  exact shapeCast_apply _ _ _ (ix4 (0 : Fin 1) (0 : Fin 1) (0 : Fin 1) u') (by
    rw [Shape.rowMajor_val_four, Shape.rowMajor_val_one]
    show ((0 * 1 + 0) * 1 + 0) * 16 + u'.val = u'.val
    omega)

/-- The two sides of a slot, with what they hold. -/
abbrev Both (b : Fin 2) (w0 w1 : S64x128.Idx → Elt F .f32) : sProp 𝕄 :=
  iprop(Has (F := F) d i (win a13 0 b) fullShare w0 ∗ Has (F := F) d i (win a13 1 b) fullShare w1)

theorem dot16_wp (b : Fin 2) (k : Fin k1_t4_loop.trips) (e : Fin 2) (c : Fin 8) (acc : FVec F S16 .f32) {w0 w1 : S64x128.Idx → Elt F .f32} :
    Both (F := F) d i a13 b w0 w1 ⊢ wpT (F := F) d i (dot16 i a13 b k e c acc)
      fun y => iprop(⌜y = addf acc (mulf (grp (fun j => w0 (ix2 (erow k e) j)) c) (grp (fun j => w1 (ix2 (erow k e) j)) c))⌝ ∗ Both (F := F) d i a13 b w0 w1) := by
  unfold dot16
  iintro ⟨H0, H1⟩
  iapply (seq d i (load_win d i a13 0 b k e c (Q := fun y => iprop(⌜y = fun x => grp (fun j => w0 (ix2 (erow k e) j)) c (ix1 (x 3))⌝ ∗ Has (F := F) d i (win a13 0 b) fullShare w0))))
  isplitl [H0]
  · isplitl [H0]; · iexact H0
    iintro H; isplitr; · ipureintro; rfl
    iexact H
  iintro %s ⟨%hs, H0⟩
  iapply (seq d i (load_win d i a13 1 b k e c (Q := fun y => iprop(⌜y = fun x => grp (fun j => w1 (ix2 (erow k e) j)) c (ix1 (x 3))⌝ ∗ Has (F := F) d i (win a13 1 b) fullShare w1))))
  isplitl [H1]
  · isplitl [H1]; · iexact H1
    iintro H; isplitr; · ipureintro; rfl
    iexact H
  iintro %t ⟨%ht, H1⟩
  iapply (done d i)
  isplitr
  · ipureintro
    rw [hs, ht, cast16, cast16]
  isplitl [H0]; · iexact H0
  iexact H1

theorem edge_wp (b : Fin 2) (k : Fin k1_t4_loop.trips) (e : Fin 2) (x : A8 F) {w0 w1 : S64x128.Idx → Elt F .f32} :
    Both (F := F) d i a13 b w0 w1 ⊢ wpT (F := F) d i (edge i a13 b k e x)
      fun y => iprop(⌜y = dotStep (fun j => w0 (ix2 (erow k e) j)) (fun j => w1 (ix2 (erow k e) j)) x⌝ ∗ Both (F := F) d i a13 b w0 w1) := by
  obtain ⟨x0, x1, x2, x3, x4, x5, x6, x7⟩ := x
  unfold edge
  iintro H
  iapply (seq d i (dot16_wp d i a13 b k e 0 x0)); isplitl [H]; · iexact H
  iintro %y0 ⟨%h0, H⟩
  iapply (seq d i (dot16_wp d i a13 b k e 1 x1)); isplitl [H]; · iexact H
  iintro %y1 ⟨%h1, H⟩
  iapply (seq d i (dot16_wp d i a13 b k e 2 x2)); isplitl [H]; · iexact H
  iintro %y2 ⟨%h2, H⟩
  iapply (seq d i (dot16_wp d i a13 b k e 3 x3)); isplitl [H]; · iexact H
  iintro %y3 ⟨%h3, H⟩
  iapply (seq d i (dot16_wp d i a13 b k e 4 x4)); isplitl [H]; · iexact H
  iintro %y4 ⟨%h4, H⟩
  iapply (seq d i (dot16_wp d i a13 b k e 5 x5)); isplitl [H]; · iexact H
  iintro %y5 ⟨%h5, H⟩
  iapply (seq d i (dot16_wp d i a13 b k e 6 x6)); isplitl [H]; · iexact H
  iintro %y6 ⟨%h6, H⟩
  iapply (seq d i (dot16_wp d i a13 b k e 7 x7)); isplitl [H]; · iexact H
  iintro %y7 ⟨%h7, H⟩
  iapply (done d i)
  isplitr
  · ipureintro
    subst h0 h1 h2 h3 h4 h5 h6 h7
    rfl
  iexact H

theorem gath_row {g : ℕ → BitVec 32} (m : ℕ) (k : Fin k1_t4_loop.trips) (e : Fin 2) :
    (fun j : Fin 128 => gath X g m (ix2 (erow k e) j)) = entry X (g (64 * m + 2 * k.val + e.val)) := by
  funext j
  show entry X (g (64 * m + (2 * k.val + e.val))) j = _
  rw [Nat.add_assoc]

/-- The edges of a gathered slot are added to the running sums. -/
theorem edges_wp (b : Fin 2) (m : ℕ) (x : A8 F) :
    Both (F := F) d i a13 b (gath X g1 m) (gath X g2 m)
      ⊢ wpT (F := F) d i (Scf.Loop.for k1_t4_loop k1_t4_ok (runSum X g1 g2 (64 * m) x) (edgeBody i a13 b))
          fun y => iprop(⌜y = runSum X g1 g2 (64 * (m + 1)) x⌝ ∗ Both (F := F) d i a13 b (gath X g1 m) (gath X g2 m)) := by
  iintro H
  iapply (Scf.wp_for _ _ _ _ _ _ _ _ _ (fun k acc => iprop(⌜acc = runSum X g1 g2 (64 * m + 2 * k) x⌝ ∗ Both (F := F) d i a13 b (gath X g1 m) (gath X g2 m))) ?_)
  · intro k acc
    unfold edgeBody
    iintro ⟨%hacc, H⟩
    iapply (seq d i (edge_wp d i a13 b k 0 acc)); isplitl [H]; · iexact H
    iintro %y ⟨%hy, H⟩
    ihave Hr := (edge_wp d i a13 b k 1 y) $$ H
    iapply (wp_wand_r Idealize.ShloMosaic.frame (wpE (defs₀ (F := F)) 𝒱₀ (VT d i) none) Set.univ)
    isplitl [Hr]; · iexact Hr
    iintro %z ⟨%hz, H⟩
    isplitr
    · ipureintro
      rw [hz, hy, hacc, gath_row, gath_row, gath_row, gath_row, show 64 * m + 2 * (k.val + 1) = (64 * m + 2 * k.val + 1) + 1 from by omega, runSum_succ, runSum_succ]
      rfl
    iexact H
  · isplitl
    · isplitr; · ipureintro; rfl
      iexact H
    · iintro %acc ⟨%hacc, H⟩
      isplitr
      · ipureintro
        rw [hacc]
        rfl
      iexact H

end Runs

end Cert.KernelIdeal.Tile
-- ==== Proof.Select.lean ====
/- The loops that select a chunk's edges: the fill of the two lists, and sixteen edges per trip. -/
module

public import proofs.«01_k».proof.Proof.Lists

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

section Runs

variable (d : Dev nD) (i : grid1.Coords)
variable (a11 a12 : Memref sig .scVector .vmem S2064 .i32)
variable (a8 a9 : Memref sig .scVector .vmem S2000 .i32) (a10 : Memref sig .scVector .vmem S2000 .f32)
variable (s t : S2000.Idx → BitVec 32) (w : S2000.Idx → Elt F .f32)

/-- A check that holds passes. -/
theorem assume_pass {P : Prop} {dP : Decidable P} (h : P) {R : sProp 𝕄} {Q : PLift P → sProp 𝕄} (hQ : R ⊢ Q ⟨h⟩) :
    R ⊢ wpT (F := F) d i (Prog.lift (.assume P dP)) Q :=
  hQ.trans ((done d i _ Q).trans (wp_assume 𝒱₀ (VT d i) none Set.univ h))

/-- The two lists, both in progress, the edges of `L` in front. -/
def Lst (L : List (Fin 2000)) : sProp 𝕄 :=
  iprop(∃ v1 v2, ⌜Filling s L v1 ∧ Filling t L v2⌝ ∗ Has (F := F) d i a11 fullShare v1 ∗ Has (F := F) d i a12 fullShare v2)

/-- The first `n` edges are looked at and the cursor is past the selected ones. -/
def Sel (n : ℕ) (cur : BitVec 32) : sProp 𝕄 :=
  iprop(⌜cur.toNat = (sel w n).length⌝ ∗ Lst (F := F) d i a11 a12 s t (sel w n))

theorem selLane_wp (sv dv : Vec F S16 .i32) (wv : Vec F S16 .f32) (cur : BitVec 32) (u : Fin 16) (e : Fin 2000)
    (hs : lane u sv = s (ix1 e)) (ht : lane u dv = t (ix1 e)) (hw : lane u wv = w (ix1 e)) :
    Sel (F := F) d i a11 a12 s t w e.val cur ⊢ wpT d i (selLane i a11 a12 sv dv wv cur u) (Sel (F := F) d i a11 a12 s t w (e.val + 1)) := by
  unfold selLane
  generalize lane u sv = x at hs ⊢
  generalize lane u dv = y at ht ⊢
  subst hs ht
  unfold Sel Lst
  iintro ⟨%hcur, %v1, %v2, %hv, H1, H2⟩
  have hle : cur.toNat ≤ 2000 := hcur ▸ sel_length w e.val
  have hchk : k1_chk1 cur (pos (lane u wv)) := by
    intro a
    match a with
    | ⟨0, _⟩ =>
      show k1_off5 cur (pos (lane u wv)) 0 + 16 ≤ 2064
      rw [off5_zero]; split <;> omega
  iapply (seq d i (assume_pass d i hchk (Q := fun _ => iprop(Has (F := F) d i a11 fullShare v1 ∗ Has (F := F) d i a12 fullShare v2)) .rfl))
  isplitl [H1 H2]
  · isplitl [H1]; · iexact H1
    iexact H2
  iintro %h H
  iapply (seq d i (put_wp d i a11 a12 _ _ _ _ v1 v2))
  isplitl [H]; · iexact H
  iintro %_ ⟨H1, H2⟩
  iapply (done d i)
  rw [off5_zero, sel_succ, ← hw]
  by_cases hp : pos (lane u wv) = 1#1
  · rw [hp, if_pos rfl, if_pos rfl]
    isplitr
    · ipureintro
      rw [List.length_append, List.length_singleton, ← hcur]
      show (cur + 1#32).toNat = _
      rw [BitVec.toNat_add]
      show (cur.toNat + 1) % 2 ^ 32 = _
      omega
    rw [hcur]
    iexists (upd16 v1 (sel w e.val).length (s (ix1 e))), (upd16 v2 (sel w e.val).length (t (ix1 e)))
    isplitr
    · ipureintro
      exact ⟨filling_append hv.1 e, filling_append hv.2 e⟩
    isplitl [H1]; · iexact H1
    iexact H2
  · rw [if_neg hp, if_neg hp, List.append_nil]
    obtain hb : pos (lane u wv) = 0#1 := by
      have hp' := hp
      generalize pos (lane u wv) = b at hp'
      revert b; decide
    isplitr
    · ipureintro
      rw [← hcur, hb]
      rfl
    iexists (upd16 v1 2048 (s (ix1 e))), (upd16 v2 2048 (t (ix1 e)))
    isplitr
    · ipureintro
      exact ⟨filling_skip hv.1 (sel_length w _) _, filling_skip hv.2 (sel_length w _) _⟩
    isplitl [H1]; · iexact H1
    iexact H2

theorem selLanes_wp (sv dv : Vec F S16 .i32) (wv : Vec F S16 .f32) (b : ℕ) (hb : b + 16 ≤ 2000)
    (hs : ∀ u : Fin 16, lane u sv = s (ix1 ⟨b + u.val, by omega⟩)) (ht : ∀ u : Fin 16, lane u dv = t (ix1 ⟨b + u.val, by omega⟩))
    (hw : ∀ u : Fin 16, lane u wv = w (ix1 ⟨b + u.val, by omega⟩)) :
    ∀ (j m : ℕ) (hm : m + j = 16) (cur : BitVec 32), Sel (F := F) d i a11 a12 s t w (b + m) cur
      ⊢ wpT d i (selLanes i a11 a12 sv dv wv ((List.finRange 16).drop m) cur) (Sel (F := F) d i a11 a12 s t w (b + 16))
  | 0, m, hm, cur => by
    obtain rfl : m = 16 := by omega
    exact done d i cur _
  | j + 1, m, hm, cur => by
    rw [List.drop_eq_getElem_cons (by rw [List.length_finRange]; omega), List.getElem_finRange]
    have hstep := selLane_wp d i a11 a12 s t w sv dv wv cur ⟨m, by omega⟩ ⟨b + m, by omega⟩ (hs ⟨m, by omega⟩) (ht ⟨m, by omega⟩) (hw ⟨m, by omega⟩)
    have hrec := selLanes_wp sv dv wv b hb hs ht hw j (m + 1) (by omega)
    show _ ⊢ wpT d i (selLane i a11 a12 sv dv wv cur ⟨m, _⟩ >>= fun c => selLanes i a11 a12 sv dv wv ((List.finRange 16).drop (m + 1)) c) _
    iintro H
    iapply (seq d i hstep)
    isplitl [H]; · iexact H
    iintro %c H
    iapply (hrec c)
    iexact H

theorem off4_eq : ∀ k : Fin k1_t2_loop.trips, k1_off4 k 0 = 16 * k.val ∧ 16 * k.val + 16 ≤ 2000 := by decide +kernel

theorem off3_eq : ∀ k : Fin k1_t1_loop.trips, k1_off3 k 0 = 16 * k.val := by decide +kernel

theorem load4 {α : Type} (k : Fin k1_t2_loop.trips) (f : S2000.Idx → α) (u : Fin 16) :
    lane u (fun x => f ((Rect.unit (s := S2000) (k1_off4 k) S16.size (k1_off4_inb k)).emb x))
      = f (ix1 ⟨16 * k.val + u.val, by have := (off4_eq k).2; omega⟩) := by
  rw [lane_eq]
  congr 1
  funext a
  match a with
  | ⟨0, _⟩ =>
    apply Fin.ext
    show k1_off4 k 0 + 1 * u.val = 16 * k.val + u.val
    rw [(off4_eq k).1]; omega

/-- The selection of a whole chunk, from filled lists. -/
theorem select_wp {q8 q9 q10 : PosShare TreeShare} :
    iprop(Has (F := F) d i a8 q8 s ∗ Has (F := F) d i a9 q9 t ∗ Has (F := F) d i a10 q10 w ∗ Lst (F := F) d i a11 a12 s t [])
      ⊢ wpT d i (Scf.Loop.for k1_t2_loop k1_t2_ok 0#32 (selBody i a11 a12 a8 a9 a10))
          fun v => iprop(Has (F := F) d i a8 q8 s ∗ Has (F := F) d i a9 q9 t ∗ Has (F := F) d i a10 q10 w ∗ Sel (F := F) d i a11 a12 s t w 2000 v) := by
  iintro ⟨H8, H9, H10, HL⟩
  iapply (Scf.wp_for _ _ _ _ _ _ _ _ _ (fun k cur => iprop(Has (F := F) d i a8 q8 s ∗ Has (F := F) d i a9 q9 t ∗ Has (F := F) d i a10 q10 w ∗ Sel (F := F) d i a11 a12 s t w (16 * k) cur)) ?_)
  · intro k cur
    unfold selBody
    iintro ⟨H8, H9, H10, H⟩
    iapply (seq d i (load_has d i (Q := fun x => iprop(⌜x = fun z => s ((Rect.unit (s := S2000) (k1_off4 k) S16.size (k1_off4_inb k)).emb z)⌝ ∗ Has (F := F) d i a8 q8 s))))
    isplitl [H8]
    · isplitl [H8]; · iexact H8
      iintro H; isplitr; · ipureintro; rfl
      iexact H
    iintro %sv ⟨%hsv, H8⟩
    iapply (seq d i (load_has d i (Q := fun x => iprop(⌜x = fun z => t ((Rect.unit (s := S2000) (k1_off4 k) S16.size (k1_off4_inb k)).emb z)⌝ ∗ Has (F := F) d i a9 q9 t))))
    isplitl [H9]
    · isplitl [H9]; · iexact H9
      iintro H; isplitr; · ipureintro; rfl
      iexact H
    iintro %dv ⟨%hdv, H9⟩
    iapply (seq d i (load_has d i (Q := fun x => iprop(⌜x = fun z => w ((Rect.unit (s := S2000) (k1_off4 k) S16.size (k1_off4_inb k)).emb z)⌝ ∗ Has (F := F) d i a10 q10 w))))
    isplitl [H10]
    · isplitl [H10]; · iexact H10
      iintro H; isplitr; · ipureintro; rfl
      iexact H
    iintro %wv ⟨%hwv, H10⟩
    subst hsv hdv hwv
    rw [show ([0, 1, 2, 3, 4, 5, 6, 7, 8, 9, 10, 11, 12, 13, 14, 15] : List (Fin 16)) = (List.finRange 16).drop 0 from by decide]
    ihave Hrun := (selLanes_wp d i a11 a12 s t w _ _ _ (16 * k.val) (off4_eq k).2 (load4 k s) (load4 k t) (load4 k w) 16 0 rfl cur) $$ H
    iapply (wp_wand_r Idealize.ShloMosaic.frame (wpE (defs₀ (F := F)) 𝒱₀ (VT d i) none) Set.univ)
    isplitl [Hrun]; · iexact Hrun
    iintro %c H
    isplitl [H8]; · iexact H8
    isplitl [H9]; · iexact H9
    isplitl [H10]; · iexact H10
    iexact H
  · isplitl
    · isplitl [H8]; · iexact H8
      isplitl [H9]; · iexact H9
      isplitl [H10]; · iexact H10
      unfold Sel
      isplitr; · ipureintro; rfl
      iexact HL
    · iintro %acc H
      iexact H

/-- The fill of both lists. -/
theorem fill_wp (v1 v2 : S2064.Idx → BitVec 32) :
    iprop(Has (F := F) d i a11 fullShare v1 ∗ Has (F := F) d i a12 fullShare v2)
      ⊢ wpT d i (Scf.Loop.for k1_t1_loop k1_t1_ok ⟨⟩ (fillBody i a11 a12)) fun _ => Lst (F := F) d i a11 a12 s t [] := by
  have hupd : ∀ (k : ℕ) (v : S2064.Idx → BitVec 32), (∀ j : S2064.Idx, (j 0).val < 16 * k → v j = 10000#32) →
      ∀ j : S2064.Idx, (j 0).val < 16 * (k + 1) → upd16 v (16 * k) 10000#32 j = 10000#32 := by
    intro k v h j hj
    unfold upd16
    split
    · rfl
    · exact h j (by omega)
  iintro ⟨H1, H2⟩
  iapply (Scf.wp_for _ _ _ _ _ _ _ _ _ (fun k _ => iprop(∃ v1 v2 : S2064.Idx → BitVec 32, ⌜(∀ j : S2064.Idx, (j 0).val < 16 * k → v1 j = 10000#32) ∧ ∀ j : S2064.Idx, (j 0).val < 16 * k → v2 j = 10000#32⌝ ∗ Has (F := F) d i a11 fullShare v1 ∗ Has (F := F) d i a12 fullShare v2)) ?_)
  · intro k _
    unfold fillBody
    iintro ⟨%w1, %w2, %hw, H1, H2⟩
    ihave Hrun := (put_wp d i a11 a12 _ (k1_off3_inb k) 10000#32 10000#32 w1 w2) $$ [H1 H2]
    · isplitl [H1]; · iexact H1
      iexact H2
    iapply (wp_wand_r Idealize.ShloMosaic.frame (wpE (defs₀ (F := F)) 𝒱₀ (VT d i) none) Set.univ)
    isplitl [Hrun]; · iexact Hrun
    iintro %_ ⟨H1, H2⟩
    iexists _, _
    isplitr
    swap
    · isplitl [H1]; · iexact H1
      iexact H2
    ipureintro
    rw [off3_eq]
    exact ⟨hupd _ _ hw.1, hupd _ _ hw.2⟩
  · isplitl
    · iexists v1, v2
      isplitr; · ipureintro; exact ⟨fun j hj => absurd hj (by omega), fun j hj => absurd hj (by omega)⟩
      isplitl [H1]; · iexact H1
      iexact H2
    · iintro %_ ⟨%w1, %w2, %hw, H1, H2⟩
      unfold Lst
      iexists w1, w2
      isplitr
      · ipureintro
        exact ⟨⟨fun j hj => absurd hj (Nat.not_lt_zero _), fun j _ hj => hw.1 j hj⟩, ⟨fun j hj => absurd hj (Nat.not_lt_zero _), fun j _ hj => hw.2 j hj⟩⟩
      isplitl [H1]; · iexact H1
      iexact H2

end Runs

end Cert.KernelIdeal.Tile
-- ==== Proof.Trips.lean ====
/- What the number of a chunk's selected edges determines: the main loop's trips, the bounds of its accesses, and where a slot is fired again. -/
module

public import proofs.«01_k».proof.Proof.Chunk

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The main loop makes one trip per 128 selected edges, rounded up, and one when none is selected. -/
theorem trips_fact : ∀ n : Fin 2001, (k1_t3_loop (BitVec.ofNat 32 n.val)).trips = max 1 ((n.val + 127) / 128) := by decide +kernel

/-- The accesses that depend on the number of selected edges are inside their buffers. -/
theorem chk17_fact : ∀ n : Fin 2001, k1_chk17 (BitVec.ofNat 32 n.val) := by decide +kernel

/-- A slot is fired again exactly while a trip is left, at the words of that trip's group. -/
theorem refire_fact : ∀ n : Fin 2001, ∀ k : Fin (k1_t3_loop (BitVec.ofNat 32 n.val)).trips,
    ((k1_cond1 (BitVec.ofNat 32 n.val) k = 1#1 ↔ k.val + 1 < (k1_t3_loop (BitVec.ofNat 32 n.val)).trips)
      ∧ (k1_cond2 (BitVec.ofNat 32 n.val) k = 1#1 ↔ k.val + 1 < (k1_t3_loop (BitVec.ofNat 32 n.val)).trips))
    ∧ (k1_cond1 (BitVec.ofNat 32 n.val) k = 1#1 → k1_off39 (BitVec.ofNat 32 n.val) k 0 = 64 * (2 * (k.val + 1)))
    ∧ (k1_cond2 (BitVec.ofNat 32 n.val) k = 1#1 → k1_off56 (BitVec.ofNat 32 n.val) k 0 = 64 * (2 * (k.val + 1) + 1)) := by decide +kernel

theorem ofNat_of_le {v : BitVec 32} (h : v.toNat ≤ 2000) : v = BitVec.ofNat 32 (⟨v.toNat, by omega⟩ : Fin 2001).val := by simp

theorem trips_of {v : BitVec 32} (h : v.toNat ≤ 2000) : (k1_t3_loop v).trips = max 1 ((v.toNat + 127) / 128) := by
  have := trips_fact ⟨v.toNat, by omega⟩
  rwa [← ofNat_of_le h] at this

theorem chk17_of {v : BitVec 32} (h : v.toNat ≤ 2000) : k1_chk17 v := by
  have := chk17_fact ⟨v.toNat, by omega⟩
  rwa [← ofNat_of_le h] at this

theorem refire_of {v : BitVec 32} (h : v.toNat ≤ 2000) (k : Fin (k1_t3_loop v).trips) :
    ((k1_cond1 v k = 1#1 ↔ k.val + 1 < (k1_t3_loop v).trips) ∧ (k1_cond2 v k = 1#1 ↔ k.val + 1 < (k1_t3_loop v).trips))
    ∧ (k1_cond1 v k = 1#1 → k1_off39 v k 0 = 64 * (2 * (k.val + 1))) ∧ (k1_cond2 v k = 1#1 → k1_off56 v k 0 = 64 * (2 * (k.val + 1) + 1)) := by
  have := refire_fact ⟨v.toNat, by omega⟩
  rw [← ofNat_of_le h] at this
  exact this k

/-- The words of a group are below 2048. -/
theorem group_lt {v : BitVec 32} (h : v.toNat ≤ 2000) : 128 * (k1_t3_loop v).trips ≤ 2048 := by
  rw [trips_of h]; omega

end Cert.KernelIdeal.Tile
-- ==== Proof.ChunkRun.lean ====
/- One chunk of edges, run from the operands' words to the running sums and the count. -/
module

public import proofs.«01_k».proof.Proof.Gather
public import proofs.«01_k».proof.Proof.Select
public import proofs.«01_k».proof.Proof.Trips

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

open scoped Idealize.SL.RA.PCS

section Shares

variable (d : Dev nD) (i : grid1.Coords)
variable {sp : Space} {s : Shape} {e : EltTy} (a : Memref sig .scVector sp s e)

/-- Two holders of a memref that read the same hold the joined share. -/
theorem has_join {q q1 q2 : PosShare TreeShare} (hq : q ∈ q1 ·? q2) (v : s.Idx → Elt F e) :
    iprop(Has (F := F) d i a q1 v ∗ Has (F := F) d i a q2 v) ⊢ Has (F := F) d i a q v := by
  unfold Has
  iintro ⟨⟨%f, %hf, Hf⟩, %g, %hg, Hg⟩
  iexists f
  isplitr; · ipureintro; exact hf
  have hagree : ∀ z ∈ a.view.set, g z = f z := by
    intro z hz
    obtain ⟨x, -, rfl⟩ := Finset.mem_map.mp hz
    have e3 := (congrFun hg x).trans (congrFun hf x).symm
    rw [View.read_apply, View.read_apply] at e3
    exact eq_of_heq ((cast_heq _ _).symm.trans ((heq_of_eq e3).trans (cast_heq _ _)))
  ihave Hg' := (Entails.of_eq (pointsTo_congr hagree)) $$ Hg
  iapply (pointsTo_share hq).2
  isplitl [Hf]; · iexact Hf
  iexact Hg'

/-- A share in two parts. -/
theorem has_split {q q1 q2 : PosShare TreeShare} (hq : q ∈ q1 ·? q2) (v : s.Idx → Elt F e) :
    Has (F := F) d i a q v ⊢ iprop(Has (F := F) d i a q1 v ∗ Has (F := F) d i a q2 v) := by
  unfold Has
  iintro ⟨%f, %hf, Hf⟩
  ihave H := (pointsTo_share hq).1 $$ Hf
  icases H with ⟨H1, H2⟩
  isplitl [H1]
  · iexists f
    isplitr; · ipureintro; exact hf
    iexact H1
  · iexists f
    isplitr; · ipureintro; exact hf
    iexact H2

end Shares

/-- The words of a chunk: the operand's from the offset on. -/
def seg {α : Type} (E : S320000.Idx → α) (o : Fin 1 → Nat) (ho : ∀ a, o a + S2000.size a ≤ S320000.size a) : S2000.Idx → α :=
  fun x => E ((Rect.unit (s := S320000) o S2000.size ho).emb x)

/-- The places a chunk's main loop goes over: its selected edges, filled up to whole trips of 128. -/
def places (w : S2000.Idx → Elt F .f32) : ℕ := 128 * max 1 (((sel w 2000).length + 127) / 128)

/-- The running sums after a chunk. -/
def chunkSum (X : S10112x128.Idx → Elt F .f32) (s t : S2000.Idx → BitVec 32) (w : S2000.Idx → Elt F .f32) (x : A8 F) : A8 F :=
  runSum X (pick s (sel w 2000)) (pick t (sel w 2000)) (places w) x

section Runs

variable (d : Dev nD) (i : grid1.Coords)
variable (a8 a9 : Memref sig .scVector .vmem S2000 .i32) (a10 : Memref sig .scVector .vmem S2000 .f32)
variable (a11 a12 : Memref sig .scVector .vmem S2064 .i32)
variable (a13 : Memref sig .scVector .vmem S2x2x64x128 .f32) (a15 : Memref sig .scVector .shared S10112x128 .f32) (a16 : DmaSems sig S2x2)

section Main

variable {q : PosShare TreeShare} {X : S10112x128.Idx → Elt F .f32} {v1 v2 : S2064.Idx → BitVec 32} {g1 g2 : ℕ → BitVec 32}
variable (hcr : ∀ s' : Shape, sig.dmaCredit .scVector (Kind.scVector.table .vmem) a13.view.buf s' .f32 = s'.numel * 32)
variable (hg1 : ∀ j : S2064.Idx, (j 0).val < 2048 → v1 j = g1 (j 0).val) (hlt1 : ∀ p, (g1 p).toNat < 10112)
variable (hg2 : ∀ j : S2064.Idx, (j 0).val < 2048 → v2 j = g2 (j 0).val) (hlt2 : ∀ p, (g2 p).toNat < 10112)

/-- A gathered slot's edges are added; the slot is at rest after it. -/
theorem half_wp {O : CellTallies nD τ sig (HIx 1)} (b : Fin 2) (m : ℕ) (x : A8 F) {k : A8 F → PT F i (A8 F)} {Q : A8 F → sProp 𝕄} :
    iprop(Busy (F := F) d i O ∗ Fired (F := F) d i a15 a11 a12 a13 a16 q X v1 v2 b (gath X g1 m) (gath X g2 m)
        ∗ (Busy (F := F) d i O -∗ (∃ w0 w1, Slot (F := F) d i a15 a11 a12 a13 a16 q X v1 v2 b w0 w1) -∗ wpT (F := F) d i (k (runSum X g1 g2 (64 * (m + 1)) x)) Q))
      ⊢ wpT (F := F) d i (await i a13 a15 a16 b >>= fun _ => Scf.Loop.for k1_t4_loop k1_t4_ok (runSum X g1 g2 (64 * m) x) (edgeBody i a13 b) >>= k) Q := by
  iintro ⟨HB, Hf, Hk⟩
  iapply (seq d i (await_wp d i a15 a11 a12 a13 a16 (O := O) b))
  isplitl [HB Hf]
  · isplitl [HB]; · iexact HB
    iexact Hf
  iintro %_ ⟨HB, HS⟩
  unfold Slot Side
  icases HS with ⟨⟨H0, R0⟩, H1, R1⟩
  iapply (seq d i (edges_wp d i a13 b m x))
  isplitl [H0 H1]
  · isplitl [H0]; · iexact H0
    iexact H1
  iintro %y ⟨%hy, H0, H1⟩
  rw [hy]
  iapply Hk $$ HB
  iexists _, _
  isplitl [H0 R0]
  · isplitl [H0]; · iexact H0
    iexact R0
  · isplitl [H1]; · iexact H1
    iexact R1

/-- A slot before trip `k` of the main loop's `n`: fired with its group of that trip, at rest after the last. -/
def Ring (q : PosShare TreeShare) (X : S10112x128.Idx → Elt F .f32) (v1 v2 : S2064.Idx → BitVec 32) (g1 g2 : ℕ → BitVec 32) (n : ℕ) (b : Fin 2) (k : ℕ) : sProp 𝕄 :=
  if k < n then Fired (F := F) d i a15 a11 a12 a13 a16 q X v1 v2 b (gath X g1 (2 * k + b.val)) (gath X g2 (2 * k + b.val))
  else iprop(∃ w0 w1, Slot (F := F) d i a15 a11 a12 a13 a16 q X v1 v2 b w0 w1)

include hcr hg1 hlt1 hg2 hlt2

theorem refire0_wp {v : BitVec 32} (hv : v.toNat ≤ 2000) (hw : k1_chk17 v) (k : Fin (k1_t3_loop v).trips) :
    iprop(∃ w0 w1, Slot (F := F) d i a15 a11 a12 a13 a16 q X v1 v2 0 w0 w1)
      ⊢ wpT (F := F) d i (refire0 i a11 a12 a13 a15 a16 v hw k) fun _ => Ring (F := F) d i a11 a12 a13 a15 a16 q X v1 v2 g1 g2 (k1_t3_loop v).trips 0 (k.val + 1) := by
  have hr := refire_of hv k
  have hn := group_lt hv
  unfold refire0 Ring
  iintro ⟨%w0, %w1, H⟩
  by_cases h : k1_cond1 v k = 1#1
  · have hk : k.val + 1 < (k1_t3_loop v).trips := hr.1.1.mp h
    rw [dif_pos h, if_pos hk]
    iapply (fire_wp d i a15 a11 a12 a13 a16 hcr hg1 hlt1 hg2 hlt2 0 (2 * (k.val + 1)) (by omega) _ _ (hr.2.1 h)) $$ H
  · rw [dif_neg h, if_neg (fun hk => h (hr.1.1.mpr hk))]
    iapply (done d i)
    iexists w0, w1
    iexact H

theorem refire1_wp {v : BitVec 32} (hv : v.toNat ≤ 2000) (hw : k1_chk17 v) (k : Fin (k1_t3_loop v).trips) :
    iprop(∃ w0 w1, Slot (F := F) d i a15 a11 a12 a13 a16 q X v1 v2 1 w0 w1)
      ⊢ wpT (F := F) d i (refire1 i a11 a12 a13 a15 a16 v hw k) fun _ => Ring (F := F) d i a11 a12 a13 a15 a16 q X v1 v2 g1 g2 (k1_t3_loop v).trips 1 (k.val + 1) := by
  have hr := refire_of hv k
  have hn := group_lt hv
  unfold refire1 Ring
  iintro ⟨%w0, %w1, H⟩
  by_cases h : k1_cond2 v k = 1#1
  · have hk : k.val + 1 < (k1_t3_loop v).trips := hr.1.2.mp h
    rw [dif_pos h, if_pos hk]
    iapply (fire_wp d i a15 a11 a12 a13 a16 hcr hg1 hlt1 hg2 hlt2 1 (2 * (k.val + 1) + 1) (by omega) _ _ (hr.2.2 h)) $$ H
  · rw [dif_neg h, if_neg (fun hk => h (hr.1.2.mpr hk))]
    iapply (done d i)
    iexists w0, w1
    iexact H

set_option maxHeartbeats 2000000 in
/-- The main loop, from both slots fired with the first groups. -/
theorem main_wp {O : CellTallies nD τ sig (HIx 1)} {v : BitVec 32} (hv : v.toNat ≤ 2000) (hw : k1_chk17 v) (x : A8 F) :
    iprop(Busy (F := F) d i O ∗ Fired (F := F) d i a15 a11 a12 a13 a16 q X v1 v2 0 (gath X g1 0) (gath X g2 0)
        ∗ Fired (F := F) d i a15 a11 a12 a13 a16 q X v1 v2 1 (gath X g1 1) (gath X g2 1))
      ⊢ wpT (F := F) d i (Scf.Loop.for (k1_t3_loop v) (k1_t3_ok v hw) x (mainBody i a11 a12 a13 a15 a16 v hw))
          fun y => iprop(⌜y = runSum X g1 g2 (128 * max 1 ((v.toNat + 127) / 128)) x⌝ ∗ Busy (F := F) d i O
            ∗ (∃ w0 w1, Slot (F := F) d i a15 a11 a12 a13 a16 q X v1 v2 0 w0 w1) ∗ ∃ w0 w1, Slot (F := F) d i a15 a11 a12 a13 a16 q X v1 v2 1 w0 w1) := by
  have hn : 0 < (k1_t3_loop v).trips := by rw [trips_of hv]; omega
  have hlast : ∀ b, Ring (F := F) d i a11 a12 a13 a15 a16 q X v1 v2 g1 g2 (k1_t3_loop v).trips b (k1_t3_loop v).trips
      = iprop(∃ w0 w1, Slot (F := F) d i a15 a11 a12 a13 a16 q X v1 v2 b w0 w1) := fun b => if_neg (lt_irrefl _)
  iintro ⟨HB, H0, H1⟩
  iapply (Scf.wp_for _ _ _ _ _ _ _ _ _ (fun k acc => iprop(⌜acc = runSum X g1 g2 (128 * k) x⌝ ∗ Busy (F := F) d i O
    ∗ Ring (F := F) d i a11 a12 a13 a15 a16 q X v1 v2 g1 g2 (k1_t3_loop v).trips 0 k ∗ Ring (F := F) d i a11 a12 a13 a15 a16 q X v1 v2 g1 g2 (k1_t3_loop v).trips 1 k)) ?_)
  · intro k acc
    have hk : k.val < (k1_t3_loop v).trips := k.isLt
    unfold mainBody
    rw [show Ring (F := F) d i a11 a12 a13 a15 a16 q X v1 v2 g1 g2 (k1_t3_loop v).trips 0 k.val = _ from if_pos hk,
      show Ring (F := F) d i a11 a12 a13 a15 a16 q X v1 v2 g1 g2 (k1_t3_loop v).trips 1 k.val = _ from if_pos hk]
    iintro ⟨%hacc, HB, H0, H1⟩
    rw [hacc, show 128 * k.val = 64 * (2 * k.val + (0 : Fin 2).val) from by show _ = 64 * (2 * k.val + 0); omega]
    iapply (half_wp d i a11 a12 a13 a15 a16 (O := O) 0 (2 * k.val + (0 : Fin 2).val) x)
    isplitl [HB]; · iexact HB
    isplitl [H0]; · iexact H0
    iintro HB H0
    iapply (seq d i (refire0_wp (q := q) (X := X) d i a11 a12 a13 a15 a16 hcr hg1 hlt1 hg2 hlt2 hv hw k))
    isplitl [H0]; · iexact H0
    iintro %_ H0
    rw [show 64 * (2 * k.val + (0 : Fin 2).val + 1) = 64 * (2 * k.val + (1 : Fin 2).val) from rfl]
    iapply (half_wp d i a11 a12 a13 a15 a16 (O := O) 1 (2 * k.val + (1 : Fin 2).val) x)
    isplitl [HB]; · iexact HB
    isplitl [H1]; · iexact H1
    iintro HB H1
    beta_reduce
    iapply (seq d i (refire1_wp (q := q) (X := X) d i a11 a12 a13 a15 a16 hcr hg1 hlt1 hg2 hlt2 hv hw k))
    isplitl [H1]; · iexact H1
    iintro %_ H1
    iapply (done d i)
    isplitr
    · ipureintro
      rw [show 64 * (2 * k.val + (1 : Fin 2).val + 1) = 128 * (k.val + 1) from by show 64 * (2 * k.val + 1 + 1) = _; omega]
    isplitl [HB]; · iexact HB
    isplitl [H0]; · iexact H0
    iexact H1
  · isplitl
    · isplitr; · ipureintro; rfl
      isplitl [HB]; · iexact HB
      rw [show Ring (F := F) d i a11 a12 a13 a15 a16 q X v1 v2 g1 g2 (k1_t3_loop v).trips 0 0 = _ from if_pos hn,
        show Ring (F := F) d i a11 a12 a13 a15 a16 q X v1 v2 g1 g2 (k1_t3_loop v).trips 1 0 = _ from if_pos hn]
      isplitl [H0]; · iexact H0
      iexact H1
    · iintro %acc ⟨%hacc, HB, H0, H1⟩
      isplitr
      · ipureintro
        rw [hacc, ← trips_of hv]
      isplitl [HB]; · iexact HB
      rw [← hlast 0, ← hlast 1]
      isplitl [H0]; · iexact H0
      iexact H1

end Main

variable (a2 a3 : Memref sig .scVector .hbm S320000 .i32) (a4 : Memref sig .scVector .hbm S320000 .f32)

/-- A chunk's words of one operand are copied in. -/
theorem copy_in {e : EltTy} {a : Memref sig .scVector .hbm S320000 e} {b : Memref sig .scVector .vmem S2000 e} {r : DmaSems sig S_}
    (o : Fin 1 → Nat) (ho : ∀ a, o a + S2000.size a ≤ S320000.size a) {O : CellTallies nD τ sig (HIx 1)} {qa : PosShare TreeShare} {E : S320000.Idx → Elt F e}
    {α : Type} {k : PT F i α} {Q : α → sProp 𝕄} {h1 h2 h3 h4 h5} :
    iprop(Busy (F := F) d i O ∗ Has (F := F) d i a qa E ∗ (∃ w, Has (F := F) d i b fullShare w) ∗ semVal (VT d i, SemLoc.dma r.sem) 0
        ∗ (Busy (F := F) d i O -∗ Has (F := F) d i a qa E -∗ Has (F := F) d i b fullShare (seg E o ho) -∗ semVal (VT d i, SemLoc.dma r.sem) 0 -∗ wpT (F := F) d i k Q))
      ⊢ wpT (F := F) d i (Prog.lift (.enqueueDma (part a o ho) (.here b) (.dma r.sem) h1 h2 h3) >>= fun _ =>
          Prog.lift (.waitDma2 r.sem (part a o ho) b h4 h5) >>= fun _ => k) Q := by
  iintro ⟨HB, Ha, ⟨%w, Hb⟩, Hs, Hk⟩
  ihave H := (show Has (F := F) d i a qa E ⊢ iprop(Has (F := F) d i (part a o ho) qa (seg E o ho)
      ∗ (Has (F := F) d i (part a o ho) qa (seg E o ho) -∗ Has (F := F) d i a qa E))
    from has_part d i a (Rect.unit (s := S320000) o S2000.size ho) (fun _ => rfl) qa E) $$ Ha
  icases H with ⟨Hp, Hback⟩
  iapply (seq d i (copy_start d i (a := part a o ho) (b := b) (r := r.sem) (View.dmaCredit_pos _ (by decide))
    (Q := fun _ => Fly (F := F) d i r.sem b.view.dmaCredit iprop(Has (F := F) d i b fullShare (seg E o ho) ∗ Has (F := F) d i (part a o ho) qa (seg E o ho)))))
  isplitl [Hp Hb Hs]
  · isplitl [Hp]; · iexact Hp
    isplitl [Hb]; · iexact Hb
    isplitl [Hs]; · iexact Hs
    iintro H; iexact H
  iintro %_ Hfl
  iapply (seq d i (wait_fly d i (a := part a o ho) (b := b) (r := r.sem) (O := O) rfl
    (Q := fun _ => iprop(Busy (F := F) d i O ∗ semVal (VT d i, SemLoc.dma r.sem) 0 ∗ Has (F := F) d i b fullShare (seg E o ho) ∗ Has (F := F) d i (part a o ho) qa (seg E o ho)))))
  isplitl [HB Hfl]
  · isplitl [HB]; · iexact HB
    isplitl [Hfl]; · iexact Hfl
    iintro HB Hs H
    isplitl [HB]; · iexact HB
    isplitl [Hs]; · iexact Hs
    iexact H
  iintro %_ ⟨HB, Hs, Hb, Hp⟩
  ihave Ha := Hback $$ Hp
  iapply Hk $$ HB Ha Hb Hs

/-- The semaphores of the ring, at zero. -/
def Gsems : sProp 𝕄 :=
  iprop(semVal (VT d i, SemLoc.dma (gsem a16 0 0).sem) 0 ∗ semVal (VT d i, SemLoc.dma (gsem a16 1 0).sem) 0
    ∗ semVal (VT d i, SemLoc.dma (gsem a16 0 1).sem) 0 ∗ semVal (VT d i, SemLoc.dma (gsem a16 1 1).sem) 0)

/-- The tile's buffers, whatever they hold. -/
def Bufs : sProp 𝕄 :=
  iprop((∃ w, Has (F := F) d i a8 fullShare w) ∗ (∃ w, Has (F := F) d i a9 fullShare w) ∗ (∃ w, Has (F := F) d i a10 fullShare w)
    ∗ (∃ w, Has (F := F) d i a11 fullShare w) ∗ (∃ w, Has (F := F) d i a12 fullShare w)
    ∗ (∃ w, Has (F := F) d i (win a13 0 0) fullShare w) ∗ (∃ w, Has (F := F) d i (win a13 1 0) fullShare w)
    ∗ (∃ w, Has (F := F) d i (win a13 0 1) fullShare w) ∗ (∃ w, Has (F := F) d i (win a13 1 1) fullShare w))

/-- What a chunk uses and gives back: the operands and the table at a share, the buffers, the ring's semaphores. -/
def Kit (qa q : PosShare TreeShare) (E2 E3 : S320000.Idx → BitVec 32) (E4 : S320000.Idx → Elt F .f32) (X : S10112x128.Idx → Elt F .f32)
    (O : CellTallies nD τ sig (HIx 1)) : sProp 𝕄 :=
  iprop(Busy (F := F) d i O ∗ Has (F := F) d i a2 qa E2 ∗ Has (F := F) d i a3 qa E3 ∗ Has (F := F) d i a4 qa E4 ∗ Has (F := F) d i (tbl a15) q X
    ∗ Bufs (F := F) d i a8 a9 a10 a11 a12 a13 ∗ Gsems (F := F) d i a16)

/-- Both slots at rest, from their parts. -/
theorem slots_make (q : PosShare TreeShare) (X : S10112x128.Idx → Elt F .f32) (v1 v2 : S2064.Idx → BitVec 32) :
    iprop((∃ w, Has (F := F) d i (win a13 0 0) fullShare w) ∗ (∃ w, Has (F := F) d i (win a13 1 0) fullShare w)
      ∗ (∃ w, Has (F := F) d i (win a13 0 1) fullShare w) ∗ (∃ w, Has (F := F) d i (win a13 1 1) fullShare w)
      ∗ Has (F := F) d i (tbl a15) q X ∗ Has (F := F) d i a11 fullShare v1 ∗ Has (F := F) d i a12 fullShare v2 ∗ Gsems (F := F) d i a16)
    ⊢ iprop((∃ w0 w1, Slot (F := F) d i a15 a11 a12 a13 a16 q X v1 v2 0 w0 w1) ∗ ∃ w0 w1, Slot (F := F) d i a15 a11 a12 a13 a16 q X v1 v2 1 w0 w1) := by
  unfold Gsems Slot Side
  iintro ⟨⟨%w00, W00⟩, ⟨%w10, W10⟩, ⟨%w01, W01⟩, ⟨%w11, W11⟩, HT, H1, H2, S00, S10, S01, S11⟩
  ihave HT := (has_split d i (tbl a15) (PosShare.mem_left_op_right q) X) $$ HT
  icases HT with ⟨HTl, HTr⟩
  ihave HTl := (has_split d i (tbl a15) (PosShare.mem_left_op_right q.left) X) $$ HTl
  icases HTl with ⟨T00, T01⟩
  ihave HTr := (has_split d i (tbl a15) (PosShare.mem_left_op_right q.right) X) $$ HTr
  icases HTr with ⟨T10, T11⟩
  ihave H1 := (has_split d i a11 (PosShare.mem_left_op_right fullShare) v1) $$ H1
  icases H1 with ⟨L0, L1⟩
  ihave H2 := (has_split d i a12 (PosShare.mem_left_op_right fullShare) v2) $$ H2
  icases H2 with ⟨M0, M1⟩
  isplitl [W00 W10 T00 T10 L0 M0 S00 S10]
  · iexists w00, w10
    isplitl [W00 T00 L0 S00]
    · isplitl [W00]; · iexact W00
      isplitl [T00]; · iexact T00
      isplitl [L0]; · iexact L0
      iexact S00
    · isplitl [W10]; · iexact W10
      isplitl [T10]; · iexact T10
      isplitl [M0]; · iexact M0
      iexact S10
  · iexists w01, w11
    isplitl [W01 T01 L1 S01]
    · isplitl [W01]; · iexact W01
      isplitl [T01]; · iexact T01
      isplitl [L1]; · iexact L1
      iexact S01
    · isplitl [W11]; · iexact W11
      isplitl [T11]; · iexact T11
      isplitl [M1]; · iexact M1
      iexact S11

/-- Both slots' parts, from the slots at rest. -/
theorem slots_split (q : PosShare TreeShare) (X : S10112x128.Idx → Elt F .f32) (v1 v2 : S2064.Idx → BitVec 32) :
    iprop((∃ w0 w1, Slot (F := F) d i a15 a11 a12 a13 a16 q X v1 v2 0 w0 w1) ∗ ∃ w0 w1, Slot (F := F) d i a15 a11 a12 a13 a16 q X v1 v2 1 w0 w1)
    ⊢ iprop((∃ w, Has (F := F) d i (win a13 0 0) fullShare w) ∗ (∃ w, Has (F := F) d i (win a13 1 0) fullShare w)
      ∗ (∃ w, Has (F := F) d i (win a13 0 1) fullShare w) ∗ (∃ w, Has (F := F) d i (win a13 1 1) fullShare w)
      ∗ Has (F := F) d i (tbl a15) q X ∗ Has (F := F) d i a11 fullShare v1 ∗ Has (F := F) d i a12 fullShare v2 ∗ Gsems (F := F) d i a16) := by
  unfold Gsems Slot Side
  iintro ⟨⟨%w00, %w10, ⟨W00, T00, L0, S00⟩, W10, T10, M0, S10⟩, %w01, %w11, ⟨W01, T01, L1, S01⟩, W11, T11, M1, S11⟩
  isplitl [W00]; · iexists w00; iexact W00
  isplitl [W10]; · iexists w10; iexact W10
  isplitl [W01]; · iexists w01; iexact W01
  isplitl [W11]; · iexists w11; iexact W11
  isplitl [T00 T01 T10 T11]
  · iapply (has_join d i (tbl a15) (PosShare.mem_left_op_right q) X)
    isplitl [T00 T01]
    · iapply (has_join d i (tbl a15) (PosShare.mem_left_op_right q.left) X)
      isplitl [T00]; · iexact T00
      iexact T01
    · iapply (has_join d i (tbl a15) (PosShare.mem_left_op_right q.right) X)
      isplitl [T10]; · iexact T10
      iexact T11
  isplitl [L0 L1]
  · iapply (has_join d i a11 (PosShare.mem_left_op_right fullShare) v1)
    isplitl [L0]; · iexact L0
    iexact L1
  isplitl [M0 M1]
  · iapply (has_join d i a12 (PosShare.mem_left_op_right fullShare) v2)
    isplitl [M0]; · iexact M0
    iexact M1
  isplitl [S00]; · iexact S00
  isplitl [S10]; · iexact S10
  isplitl [S01]; · iexact S01
  iexact S11

variable (h8 : a8.IsWhole) (h9 : a9.IsWhole) (h10 : a10.IsWhole)

set_option maxHeartbeats 2000000 in
/-- One chunk: the running sums gain the products of the selected edges' rows, the count gains their number. -/
theorem chunk_wp (hcr : ∀ s' : Shape, sig.dmaCredit .scVector (Kind.scVector.table .vmem) a13.view.buf s' .f32 = s'.numel * 32)
    {qa q : PosShare TreeShare} {E2 E3 : S320000.Idx → BitVec 32} {E4 : S320000.Idx → Elt F .f32} {X : S10112x128.Idx → Elt F .f32}
    {O : CellTallies nD τ sig (HIx 1)} (hE2 : ∀ z, (E2 z).toNat < 10000) (hE3 : ∀ z, (E3 z).toNat < 10000)
    (r1 r2 r3 : DmaSems sig S_) (o : Fin 1 → Nat) (ho : ∀ a, o a + S2000.size a ≤ S320000.size a) (x : A8 F) (cnt : BitVec 32) :
    iprop(Kit (F := F) d i a8 a9 a10 a11 a12 a13 a15 a16 a2 a3 a4 qa q E2 E3 E4 X O
        ∗ semVal (VT d i, SemLoc.dma r1.sem) 0 ∗ semVal (VT d i, SemLoc.dma r2.sem) 0 ∗ semVal (VT d i, SemLoc.dma r3.sem) 0)
      ⊢ wpT (F := F) d i (chunk i a11 a12 a8 a9 a10 a13 a15 a16 a2 a3 a4 h8 h9 h10 r1 r2 r3 o ho x cnt) fun y =>
        iprop(⌜y = (chunkSum X (seg E2 o ho) (seg E3 o ho) (seg E4 o ho) x, cnt + BitVec.ofNat 32 (sel (seg E4 o ho) 2000).length)⌝
          ∗ Kit (F := F) d i a8 a9 a10 a11 a12 a13 a15 a16 a2 a3 a4 qa q E2 E3 E4 X O
          ∗ semVal (VT d i, SemLoc.dma r1.sem) 0 ∗ semVal (VT d i, SemLoc.dma r2.sem) 0 ∗ semVal (VT d i, SemLoc.dma r3.sem) 0) := by
  unfold chunk Kit Bufs
  iintro ⟨⟨HB, HA2, HA3, HA4, HT, ⟨H8, H9, H10, ⟨%w11, H11⟩, ⟨%w12, H12⟩, W00, W10, W01, W11⟩, HG⟩, R1, R2, R3⟩
  iapply (copy_in d i o ho (O := O))
  isplitl [HB]; · iexact HB
  isplitl [HA2]; · iexact HA2
  isplitl [H8]; · iexact H8
  isplitl [R1]; · iexact R1
  iintro HB HA2 H8 R1
  iapply (copy_in d i o ho (O := O))
  isplitl [HB]; · iexact HB
  isplitl [HA3]; · iexact HA3
  isplitl [H9]; · iexact H9
  isplitl [R2]; · iexact R2
  iintro HB HA3 H9 R2
  iapply (copy_in d i o ho (O := O))
  isplitl [HB]; · iexact HB
  isplitl [HA4]; · iexact HA4
  isplitl [H10]; · iexact H10
  isplitl [R3]; · iexact R3
  iintro HB HA4 H10 R3
  iapply (seq d i (fill_wp d i a11 a12 (seg E2 o ho) (seg E3 o ho) w11 w12))
  isplitl [H11 H12]
  · isplitl [H11]; · iexact H11
    iexact H12
  iintro %_ HL
  iapply (seq d i (select_wp d i a11 a12 a8 a9 a10 (seg E2 o ho) (seg E3 o ho) (seg E4 o ho)))
  isplitl [H8 H9 H10 HL]
  · isplitl [H8]; · iexact H8
    isplitl [H9]; · iexact H9
    isplitl [H10]; · iexact H10
    iexact HL
  iintro %v ⟨H8, H9, H10, HL⟩
  unfold Sel Lst
  icases HL with ⟨%hv, %v1, %v2, %hf, H11, H12⟩
  have hv' : v.toNat ≤ 2000 := hv ▸ sel_length _ _
  iapply (seq d i (assume_pass d i (chk17_of hv') (Q := fun _ => iprop(Has (F := F) d i a11 fullShare v1 ∗ Has (F := F) d i a12 fullShare v2)) .rfl))
  isplitl [H11 H12]
  · isplitl [H11]; · iexact H11
    iexact H12
  iintro %hw H
  iapply (seq d i (put_wp d i a11 a12 _ _ _ _ v1 v2))
  isplitl [H]; · iexact H
  iintro %_ ⟨H11, H12⟩
  have hoff : k1_off21 v 0 = (sel (seg E4 o ho) 2000).length := hv
  rw [hoff]
  have hF1 := filled_of_filling hf.1
  have hF2 := filled_of_filling hf.2
  generalize upd16 v1 (sel (seg E4 o ho) 2000).length 10000#32 = u1 at hF1
  generalize upd16 v2 (sel (seg E4 o ho) 2000).length 10000#32 = u2 at hF2
  ihave HS := (slots_make d i a11 a12 a13 a15 a16 q X u1 u2) $$ [W00 W10 W01 W11 HT H11 H12 HG]
  · isplitl [W00]; · iexact W00
    isplitl [W10]; · iexact W10
    isplitl [W01]; · iexact W01
    isplitl [W11]; · iexact W11
    isplitl [HT]; · iexact HT
    isplitl [H11]; · iexact H11
    isplitl [H12]; · iexact H12
    iexact HG
  icases HS with ⟨⟨%z0, %z1, HS0⟩, %z2, %z3, HS1⟩
  have hlt1 : ∀ p, (pick (seg E2 o ho) (sel (seg E4 o ho) 2000) p).toNat < 10112 := pick_lt (fun j => hE2 _) _
  have hlt2 : ∀ p, (pick (seg E3 o ho) (sel (seg E4 o ho) 2000) p).toNat < 10112 := pick_lt (fun j => hE3 _) _
  iapply (seq d i (fire_wp d i a15 a11 a12 a13 a16 hcr hF1 hlt1 hF2 hlt2 0 0 (by decide) _ _ rfl))
  isplitl [HS0]; · iexact HS0
  iintro %_ HS0
  iapply (seq d i (fire_wp d i a15 a11 a12 a13 a16 hcr hF1 hlt1 hF2 hlt2 1 1 (by decide) _ _ rfl))
  isplitl [HS1]; · iexact HS1
  iintro %_ HS1
  iapply (seq d i (main_wp d i a11 a12 a13 a15 a16 hcr hF1 hlt1 hF2 hlt2 (O := O) hv' hw.down x))
  isplitl [HB HS0 HS1]
  · isplitl [HB]; · iexact HB
    isplitl [HS0]; · iexact HS0
    iexact HS1
  iintro %y ⟨%hy, HB, HS⟩
  ihave HS := (slots_split d i a11 a12 a13 a15 a16 q X u1 u2) $$ HS
  icases HS with ⟨W00, W10, W01, W11, HT, H11, H12, HG⟩
  iapply (done d i)
  isplitr
  · ipureintro
    refine Prod.ext ?_ ?_
    · rw [hy, hv]
      rfl
    · show cnt + v = _
      rw [← hv]
      simp
  isplitr [R1 R2 R3]
  · isplitl [HB]; · iexact HB
    isplitl [HA2]; · iexact HA2
    isplitl [HA3]; · iexact HA3
    isplitl [HA4]; · iexact HA4
    isplitl [HT]; · iexact HT
    isplitr [HG]
    · isplitl [H8]; · iexists _; iexact H8
      isplitl [H9]; · iexists _; iexact H9
      isplitl [H10]; · iexists _; iexact H10
      isplitl [H11]; · iexists _; iexact H11
      isplitl [H12]; · iexists _; iexact H12
      isplitl [W00]; · iexact W00
      isplitl [W10]; · iexact W10
      isplitl [W01]; · iexact W01
      iexact W11
    iexact HG
  isplitl [R1]; · iexact R1
  isplitl [R2]; · iexact R2
  iexact R3

end Runs

end Cert.KernelIdeal.Tile
-- ==== Proof.Meet.lean ====
/- The tiles' meeting: each tile hands the rows of the table it staged to every tile of its SparseCore, and holds the whole table after it. -/
module

public import proofs.«01_k».proof.Proof.ChunkRun
public import Idealize.ShloMosaic.Lib.ShareLeaves

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

open Idealize.ShloMosaic.ShareLeaves (leaf pointsTo_leaves)

/-! ## A buffer's contents and what a memref reads -/

section Pts

variable (d : Dev nD) (i : grid1.Coords)
variable {sp : Space} {s : Shape} {e : EltTy} {a : Memref sig .scVector sp s e} {q : PosShare TreeShare} {v : s.Idx → Elt F e}

/-- Held by what it reads, a memref's buffer has any contents that read the same. -/
theorem has_to (g : Buf (Elt F) (a.view.loc (VT d i))) (hg : a.view.read (Elt F) g = v) :
    Has (F := F) d i a q v ⊢ (a.view.loc (VT d i) ↦[a.view.set]{q} g) := by
  unfold Has
  iintro ⟨%f, %hf, Hf⟩
  have hagree : ∀ z ∈ a.view.set, f z = g z := by
    intro z hz
    obtain ⟨x, -, rfl⟩ := Finset.mem_map.mp hz
    have e3 := (congrFun hf x).trans (congrFun hg x).symm
    rw [View.read_apply, View.read_apply] at e3
    exact eq_of_heq ((cast_heq _ _).symm.trans ((heq_of_eq e3).trans (cast_heq _ _)))
  iapply (Entails.of_eq (pointsTo_congr hagree))
  iexact Hf

/-- A buffer held at its contents is held by what the memref reads of them. -/
theorem has_of (g : Buf (Elt F) (a.view.loc (VT d i))) (hg : a.view.read (Elt F) g = v) :
    (a.view.loc (VT d i) ↦[a.view.set]{q} g) ⊢ Has (F := F) d i a q v := by
  unfold Has
  iintro H
  iexists g
  isplitr; · ipureintro; exact hg
  iexact H

/-- A whole buffer. -/
theorem whole_of (b : Ref sig .scVector) (q : PosShare TreeShare) (g : Buf (Elt F) ((VT d i).loc b)) :
    ((VT d i).loc b ↦{q} g) ⊢ Has (F := F) d i (Memref.whole b) q g := by
  have h := has_of (F := F) d i (a := Memref.whole b) (q := q) (v := g) g rfl
  rw [show (Memref.whole b).view.set = Finset.univ from View.set_whole b] at h
  exact h

theorem whole_to (b : Ref sig .scVector) (q : PosShare TreeShare) (g : Buf (Elt F) ((VT d i).loc b)) :
    Has (F := F) d i (Memref.whole b) q g ⊢ ((VT d i).loc b ↦{q} g) := by
  have h := has_to (F := F) d i (a := Memref.whole b) (q := q) (v := g) g rfl
  rw [show (Memref.whole b).view.set = Finset.univ from View.set_whole b] at h
  exact h

end Pts

/-! ## The shared memory's rows -/

/-- SparseCore `c`'s shared table. -/
abbrev shRef (c : Fin τ.nSC) : DevRef τ sig := ⟨.shared, ⟨0, by decide⟩, c⟩
abbrev shLoc (d : Dev nD) (c : Fin τ.nSC) : Loc nD τ sig := (d, shRef c)

/-- The rows tile `n` stages. -/
def shSet (n : Fin 16) : Finset S10112x128.Idx := Finset.univ.filter fun z => 632 * n.val ≤ (z 0).val ∧ (z 0).val < 632 * n.val + 632

theorem shSet_disjoint : ∀ n ∈ (Finset.univ : Finset (Fin 16)), ∀ k ∈ (Finset.univ : Finset (Fin 16)), n ≠ k → Disjoint (shSet n) (shSet k) := by
  intro n _ k _ h
  rw [Finset.disjoint_left]
  intro z hz hk
  have h1 := (Finset.mem_filter.mp hz).2
  have h2 := (Finset.mem_filter.mp hk).2
  exact h (Fin.ext (by omega))

theorem shSet_cover : (Finset.univ : Finset (Fin 16)).biUnion shSet = Finset.univ := by
  ext z
  simp only [Finset.mem_biUnion, Finset.mem_univ, true_and, iff_true]
  have hz : (z 0).val < 10112 := (z 0).isLt
  exact ⟨⟨(z 0).val / 632, by omega⟩, Finset.mem_filter.mpr ⟨Finset.mem_univ _, by show 632 * ((z 0).val / 632) ≤ _ ∧ _ < 632 * ((z 0).val / 632) + 632; omega⟩⟩

theorem set_rows (i : grid1.Coords) (b : Ref sig .scVector) {sp : Space} (a : Memref sig .scVector sp S10112x128 .f32) (x : S10112x128.Idx) :
    x ∈ (Rect.unit (s := S10112x128) (k1_off1 i) S632x128.size (k1_off1_inb i)).set ↔ x ∈ shSet (i 1) := by
  rw [Rect.mem_set_unit, k1_off1_eq]
  unfold shSet
  rw [Finset.mem_filter]
  constructor
  · intro h
    have h0 := h 0
    exact ⟨Finset.mem_univ _, h0⟩
  · rintro ⟨-, h⟩ a
    match a with
    | ⟨0, _⟩ => exact h
    | ⟨1, _⟩ =>
      have h1 : (x 1).val < 128 := (x 1).isLt
      exact ⟨Nat.zero_le _, by show (x 1).val < 0 + 128; omega⟩

theorem set_rows_sh (i : grid1.Coords) : (rows i (Memref.whole cc1_scratch7)).view.set = shSet (i 1) := by
  show ((View.whole cc1_scratch7).slice (Rect.unit (s := S10112x128) (k1_off1 i) S632x128.size (k1_off1_inb i))).set = _
  rw [View.set_slice]
  refine Finset.map_refl.trans ?_
  ext x
  exact set_rows i cc1_scratch7 (Memref.whole cc1_scratch7) x

variable (X : Dev nD → S10112x128.Idx → Elt F .f32)

/-- The shared table of a SparseCore at the table, some of its rows, at a share. -/
abbrev shPts (d : Dev nD) (c : Fin τ.nSC) (I : Finset S10112x128.Idx) (q : PosShare TreeShare) (f : S10112x128.Idx → Elt F .f32) : sProp 𝕄 :=
  shLoc d c ↦[I]{q} f

/-! ## The barrier cells -/

abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

theorem isBar_bcell (d : Dev nD) (c : Fin τ.nSC) (j : Fin τ.nSub) : isBar (bcell d c j) = true := by simp [isBar]

/-- Tile `n`'s duty in tile `j`'s round hands over a sixteenth of the rows that tile `n` staged. -/
def bPay (g : GSem nD τ sig) (n : ℕ) : sProp 𝕄 :=
  match g with
  | ((d, .scVector c j), _) => if h : n < 16 then shPts d c (shSet ⟨n, h⟩) (leaf 4 fullShare j) (X d) else iprop(emp)
  | _ => iprop(emp)

/-- One round on each cell, one unit from each tile of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay X g n
  amount_pos _ _ _ _ := Nat.one_pos

instance bRd_payload_storable (g : GSem nD τ sig) (r n : ℕ) : BI.Storable (upEmb : UEmb _ 𝕄) ((bRd (F := F) X).payload g r n) := by
  show BI.Storable upEmb (bPay X g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) : (bRd (F := F) X).duties (bcell d c j) 0 = (Finset.univ : Finset (Fin τ.nSub)).image Fin.val := by
  simp [bRd, isBar]
theorem bRd_duties_succ (g : GSem nD τ sig) (r : ℕ) (hr : 1 ≤ r) : (bRd (F := F) X).duties g r = ∅ :=
  if_neg fun h => absurd h.2 (Nat.ne_of_gt hr)
theorem bRd_mem₀ (d : Dev nD) (c : Fin τ.nSC) (j i : Fin τ.nSub) : i.val ∈ (bRd (F := F) X).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) X).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a tile owes for the meeting: a unit on every tile's cell of its SparseCore. -/
def oxV (d : Dev nD) (c : Fin τ.nSC) : CellTallies nD τ sig (HIx 1) := ∑ j : Fin (grid1.bound 1), tallyAt (bcell d c (j.castLE hsub1)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) :
    ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What a tile is dealt for the meeting: the cells' invariants of its SparseCore, its token in each, that each has
    reached its round, its own position and the credit for its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) X) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

section Meet

variable (d : Dev nD) (i : grid1.Coords)

/-- A tile's own rows, at the table, are what it hands over. -/
theorem pays_intro : shPts d (cV i) (shSet (i 1)) fullShare (X d)
    ⊢ (bigSep Finset.univ fun j : Fin (grid1.bound 1) => (bRd (F := F) X).payload (bcell d (cV i) (j.castLE hsub1)) 0 (jV i).val : sProp 𝕄) := by
  unfold shPts
  rw [pointsTo_leaves (ℓ := shLoc d (cV i)) (shSet (i 1)) (X d) 4 fullShare]
  refine bigSep_mono fun j _ => ?_
  show _ ⊢ bPay X (bcell d (cV i) (Fin.castLE hsub1 j)) (jV i).val
  unfold bPay
  dsimp only
  rw [dif_pos (show (jV i).val < 16 from (i 1).isLt)]
  exact .rfl

/-- What a tile's round collected is the whole table, at the tile's sixteenth. -/
theorem pays_elim : (bigSep ((bRd (F := F) X).duties (bcell d (cV i) (jV i)) 0 \ ∅) fun n => (bRd (F := F) X).payload (bcell d (cV i) (jV i)) 0 n)
    ⊢ shPts d (cV i) Finset.univ (leaf 4 fullShare (i 1)) (X d) := by
  rw [Finset.sdiff_empty, bRd_duties₀, SparseCore.bigSep_image_of_injOn (fun a _ b _ e => Fin.ext e)]
  unfold shPts
  rw [← shSet_cover, pointsTo_biUnion Finset.univ (ℓ := shLoc d (cV i)) shSet shSet_disjoint]
  refine bigSep_mono fun n _ => ?_
  show bPay X (bcell d (cV i) (jV i)) n.val ⊢ _
  unfold bPay
  dsimp only
  rw [dif_pos (show n.val < 16 from n.isLt)]
  exact .rfl

/-- The meeting: a tile's rows are handed to all, and the table comes back. -/
theorem meet_wp (hF : (K (F := F)).Facts) (O : CellTallies nD τ sig (HIx 1)) (hO : ∀ g, O g none = 0)
    (hOlev : ∀ g ι, 0 < O g ι → 8 * (0 : Fin 1).val + 6 ≤ (K (F := F)).lev g ι) {k : PUnit → PT F i Unit} {Q : Unit → sProp 𝕄} :
    iprop(levAts (K (F := F)).L (K (F := F)).lev ∗ bkit X d (cV i) (jV i) ∗ Busy (F := F) d i (O + oxV d (cV i)) ∗ shPts d (cV i) (shSet (i 1)) fullShare (X d)
        ∗ (Busy (F := F) d i O -∗ shPts d (cV i) Finset.univ (leaf 4 fullShare (i 1)) (X d) -∗ semVal (bcell d (cV i) (jV i)) 0 -∗ wpT (F := F) d i (k ⟨⟩) Q))
      ⊢ wpT (F := F) d i (SparseCore.subcoreBarrier sc_bar0 (grid1.bound 1) hsub1 >>= k) Q := by
  unfold bkit Busy
  iintro ⟨#Hlv, ⟨⟨%κ, #Hinv⟩, Htoks, #Hrch, Hat, Hcred⟩, ⟨-, %W, HO⟩, Hsh, Hk⟩
  ihave Hmw2 := (show levAts (K (F := F)).L (K (F := F)).lev ⊢ Transfers.MayWaits (VT d i) (default : HIx 1) O from
    (K (F := F)).mayWaits_none (thr := VT d i) hO) $$ Hlv
  ihave Hpays := (pays_intro X d i) $$ Hsh
  iapply (SparseCore.wp_subcoreBarrier 𝒱₀ none EB (bRd (F := F) X) d (sc := cV i) (i := jV i) sc_bar0 (grid1.bound 1) hsub1 (i 1) rfl κ (fun _ => 0) (jV i).val
      (fun j => bRd_mem₀ X d _ _ _) (fun _ => rfl) (bRd_expect X d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := VT d i) 3 (fun p hp => by
        rw [Finset.mem_singleton] at hp; subst hp
        show (K (F := F)).lev (bcell d (cV i) (jV i)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd (F := F) X) (g := bcell d (cV i) (jV i)) (Set.mem_univ (κ _)) (fun h => h) (bRd_duties_succ X _)) $$ [Hat] with Hbar
  · isplitr
    · iapply (SparseCore.ent (bigSep_elim (Φ := fun j : Fin (grid1.bound 1) =>
        (cellInv EB (bRd (F := F) X) (κ (bcell d (cV i) (j.castLE hsub1))) (bcell d (cV i) (j.castLE hsub1)) : sProp 𝕄)) (Finset.mem_univ (i 1)))); iexact Hinv
    · iexact Hat
  ihave Htab := (pays_elim X d i) $$ Hgot
  iapply Hk $$ [Hmw2 HO] Htab Hbar
  isplitl [Hmw2]; · iexact Hmw2
  iexists _; iexact HO

end Meet

end Cert.KernelIdeal.Tile
-- ==== Proof.TileParts.lean ====
/- A tile's whole run: the table staged, five chunks, the two rows of results. -/
module

public import proofs.«01_k».proof.Proof.Meet

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

open Idealize.ShloMosaic.ShareLeaves (leaf pointsTo_leaves)
open Idealize.ShloMosaic.SparseCore.Cfg (ownBufs ownSems0 ownCells ownRefs mem_ownCells mem_ownRefs)

/-- A conjunction over a set that has the members of a list: the list's one by one, and the rest. -/
theorem bigSep_list {I : Type} [DecidableEq I] (Φ : I → sProp 𝕄) : ∀ (L : List I) (s : Finset I), L.Nodup → (∀ x ∈ L, x ∈ s) →
    bigSep s Φ = L.foldr (fun a P => iprop(Φ a ∗ P)) (bigSep (s \ L.toFinset) Φ)
  | [], s, _, _ => by simp
  | a :: L, s, hn, hs => by
    rw [SparseCore.bigSep_erase' (hs a List.mem_cons_self),
      bigSep_list Φ L (s.erase a) (List.nodup_cons.mp hn).2 fun x hx =>
        Finset.mem_erase.mpr ⟨fun h => (List.nodup_cons.mp hn).1 (h ▸ hx), hs x (List.mem_cons_of_mem _ hx)⟩]
    have h : s.erase a \ L.toFinset = s \ insert a L.toFinset := by
      ext x
      simp only [Finset.mem_sdiff, Finset.mem_erase, Finset.mem_insert, not_or]
      exact ⟨fun h => ⟨h.1.2, h.1.1, h.2⟩, fun h => ⟨⟨h.2.1, h.1⟩, h.2.2⟩⟩
    rw [List.foldr_cons, List.toFinset_cons, h]

/-! ## The ring's four windows -/

section Ring4

variable (d : Dev nD) (i : grid1.Coords)

/-- The places of a window. -/
def winSet (p : Fin 2 × Fin 2) : Finset S2x2x64x128.Idx := Finset.univ.filter fun z => (z 0).val = p.1.val ∧ (z 1).val = p.2.val

theorem set_win (q b : Fin 2) : (win (Memref.whole cc1_scratch5) q b).view.set = winSet (q, b) := by
  show (((View.whole cc1_scratch5).slice (Rect.unit (s := S2x2x64x128) ![q.val, b.val, 0, 0] S1x1x64x128.size (winInb q b))).reshape S64x128
    squeezes_S1x1x64x128_S64x128.numel_eq).set = _
  rw [View.set_reshape, View.set_slice]
  refine Finset.map_refl.trans ?_
  ext z
  rw [Rect.mem_set_unit]
  unfold winSet
  rw [Finset.mem_filter]
  have h2 : (z 2).val < 64 := (z 2).isLt
  have h3 : (z 3).val < 128 := (z 3).isLt
  constructor
  · intro h
    have e0 : q.val ≤ (z 0).val ∧ (z 0).val < q.val + 1 := h 0
    have e1 : b.val ≤ (z 1).val ∧ (z 1).val < b.val + 1 := h 1
    exact ⟨Finset.mem_univ _, by show (z 0).val = q.val; omega, by show (z 1).val = b.val; omega⟩
  · rintro ⟨-, e0, e1⟩ a
    have e0' : (z 0).val = q.val := e0
    have e1' : (z 1).val = b.val := e1
    match a with
    | ⟨0, _⟩ => show q.val ≤ (z 0).val ∧ (z 0).val < q.val + 1; omega
    | ⟨1, _⟩ => show b.val ≤ (z 1).val ∧ (z 1).val < b.val + 1; omega
    | ⟨2, _⟩ => show 0 ≤ (z 2).val ∧ (z 2).val < 0 + 64; omega
    | ⟨3, _⟩ => show 0 ≤ (z 3).val ∧ (z 3).val < 0 + 128; omega

theorem winSet_disjoint : ∀ n ∈ (Finset.univ : Finset (Fin 2 × Fin 2)), ∀ k ∈ (Finset.univ : Finset (Fin 2 × Fin 2)), n ≠ k → Disjoint (winSet n) (winSet k) := by
  intro n _ k _ h
  rw [Finset.disjoint_left]
  intro z hz hk
  have h1 := (Finset.mem_filter.mp hz).2
  have h2 := (Finset.mem_filter.mp hk).2
  exact h (Prod.ext (Fin.ext (h1.1.symm.trans h2.1)) (Fin.ext (h1.2.symm.trans h2.2)))

theorem winSet_cover : (Finset.univ : Finset (Fin 2 × Fin 2)).biUnion winSet = Finset.univ := by
  ext z
  simp only [Finset.mem_biUnion, Finset.mem_univ, true_and, iff_true]
  exact ⟨(⟨(z 0).val, (z 0).isLt⟩, ⟨(z 1).val, (z 1).isLt⟩), Finset.mem_filter.mpr ⟨Finset.mem_univ _, rfl, rfl⟩⟩

theorem four (Φ : Fin 2 × Fin 2 → sProp 𝕄) : bigSep Finset.univ Φ = iprop(Φ (0, 0) ∗ Φ (1, 0) ∗ Φ (0, 1) ∗ Φ (1, 1)) := by
  rw [bigSep_list Φ [(0, 0), (1, 0), (0, 1)] Finset.univ (by decide) (fun _ _ => Finset.mem_univ _),
    show (Finset.univ \ ([(0, 0), (1, 0), (0, 1)] : List (Fin 2 × Fin 2)).toFinset) = {(1, 1)} by decide, bigSep_singleton]
  rfl

abbrev ringLoc : Loc nD τ sig := (VT d i).loc cc1_scratch5

theorem win_split (f : Buf (Elt F) (ringLoc d i)) : (ringLoc d i ↦{fullShare} f) ⊢
    iprop((∃ w, Has (F := F) d i (win (Memref.whole cc1_scratch5) 0 0) fullShare w) ∗ (∃ w, Has (F := F) d i (win (Memref.whole cc1_scratch5) 1 0) fullShare w)
      ∗ (∃ w, Has (F := F) d i (win (Memref.whole cc1_scratch5) 0 1) fullShare w) ∗ (∃ w, Has (F := F) d i (win (Memref.whole cc1_scratch5) 1 1) fullShare w)) := by
  have h : ∀ q b : Fin 2, (ringLoc d i ↦[winSet (q, b)]{fullShare} f) ⊢ (iprop(∃ w, Has (F := F) d i (win (Memref.whole cc1_scratch5) q b) fullShare w) : sProp 𝕄) := by
    intro q b
    rw [← set_win q b]
    iintro H
    iexists _
    iapply (has_of d i (a := win (Memref.whole cc1_scratch5) q b) f rfl)
    iexact H
  rw [← winSet_cover, pointsTo_biUnion Finset.univ (ℓ := ringLoc d i) winSet winSet_disjoint, four]
  iintro ⟨H1, H2, H3, H4⟩
  isplitl [H1]; · iapply (h 0 0); iexact H1
  isplitl [H2]; · iapply (h 1 0); iexact H2
  isplitl [H3]; · iapply (h 0 1); iexact H3
  iapply (h 1 1); iexact H4

theorem win_join :
    iprop((∃ w, Has (F := F) d i (win (Memref.whole cc1_scratch5) 0 0) fullShare w) ∗ (∃ w, Has (F := F) d i (win (Memref.whole cc1_scratch5) 1 0) fullShare w)
      ∗ (∃ w, Has (F := F) d i (win (Memref.whole cc1_scratch5) 0 1) fullShare w) ∗ (∃ w, Has (F := F) d i (win (Memref.whole cc1_scratch5) 1 1) fullShare w))
    ⊢ iprop(∃ f : Buf (Elt F) (ringLoc d i), ringLoc d i ↦{fullShare} f) := by
  have h : ∀ q b : Fin 2, (iprop(∃ w, Has (F := F) d i (win (Memref.whole cc1_scratch5) q b) fullShare w) : sProp 𝕄)
      ⊢ iprop(∃ f : Buf (Elt F) (ringLoc d i), ringLoc d i ↦[winSet (q, b)]{fullShare} f) := by
    intro q b
    rw [← set_win q b]
    unfold Has
    iintro ⟨%w, %f, -, H⟩
    iexists f
    iexact H
  have h4 : iprop((∃ f : Buf (Elt F) (ringLoc d i), ringLoc d i ↦[winSet (0, 0)]{fullShare} f) ∗ (∃ f : Buf (Elt F) (ringLoc d i), ringLoc d i ↦[winSet (1, 0)]{fullShare} f)
      ∗ (∃ f : Buf (Elt F) (ringLoc d i), ringLoc d i ↦[winSet (0, 1)]{fullShare} f) ∗ (∃ f : Buf (Elt F) (ringLoc d i), ringLoc d i ↦[winSet (1, 1)]{fullShare} f))
      ⊢ (iprop(∃ f : Buf (Elt F) (ringLoc d i), ringLoc d i ↦{fullShare} f) : sProp 𝕄) := by
    rw [← four (fun p => iprop(∃ f : Buf (Elt F) (ringLoc d i), ringLoc d i ↦[winSet p]{fullShare} f))]
    refine (bigSep_exists_pi Finset.univ (fun p (f : Buf (Elt F) (ringLoc d i)) => ringLoc d i ↦[winSet p]{fullShare} f)).trans ?_
    iintro ⟨%fs, H⟩
    ihave H' := (pointsTo_biUnion_join Finset.univ winSet fs (fs (0, 0)) winSet_disjoint) $$ H
    icases H' with ⟨%g, -, Hg⟩
    rw [winSet_cover]
    iexists g; iexact Hg
  iintro ⟨H1, H2, H3, H4⟩
  iapply h4
  isplitl [H1]; · iapply (h 0 0); iexact H1
  isplitl [H2]; · iapply (h 1 0); iexact H2
  isplitl [H3]; · iapply (h 0 1); iexact H3
  iapply (h 1 1); iexact H4

end Ring4

/-! ## The rows of results -/

section Emit

variable (d : Dev nD) (i : grid1.Coords)

theorem emit_wp (a14 : Memref sig .scVector .vmem S16 .f32) (h14 : a14.IsWhole) (r : DmaSems sig S_) (a : Memref sig .scVector .hbm S32x16 .f32)
    (x : FVec F S16 .f32) {O : CellTallies nD τ sig (HIx 1)} :
    iprop(Busy (F := F) d i O ∗ (∃ w, Has (F := F) d i a14 fullShare w) ∗ (∃ w, Has (F := F) d i (row i a) fullShare w) ∗ semVal (VT d i, SemLoc.dma r.sem) 0)
      ⊢ wpT (F := F) d i (emit i a14 h14 r a x) fun _ =>
        iprop(Busy (F := F) d i O ∗ (∃ w, Has (F := F) d i a14 fullShare w) ∗ Has (F := F) d i (row i a) fullShare x ∗ semVal (VT d i, SemLoc.dma r.sem) 0) := by
  unfold emit
  iintro ⟨HB, ⟨%w, Ha⟩, ⟨%w', Hr⟩, Hs⟩
  iapply (seq d i (load_has d i (Q := fun _ => Has (F := F) d i a14 fullShare w)))
  isplitl [Ha]
  · isplitl [Ha]; · iexact Ha
    iintro H; iexact H
  iintro %_ Ha
  iapply (seq d i (store_has d i (Q := fun _ => Has (F := F) d i a14 fullShare x)))
  isplitl [Ha]
  · isplitl [Ha]; · iexact Ha
    iintro %v' %hv' H
    have e : v' = x := by
      funext y
      have h1 := hv'.1 y
      rw [shapeCast_self] at h1
      rw [← h1]
      congr 1
      funext b
      exact Fin.ext (by match b with | ⟨0, _⟩ => show (y 0).val = 0 + 1 * (y 0).val; omega)
    rw [e]
    iexact H
  iintro %_ Ha
  iapply (seq d i (copy_start d i (a := a14) (b := row i a) (r := r.sem) (View.dmaCredit_pos _ (by decide))
    (Q := fun _ => Fly (F := F) d i r.sem (row i a).view.dmaCredit iprop(Has (F := F) d i (row i a) fullShare x ∗ Has (F := F) d i a14 fullShare x))))
  isplitl [Ha Hr Hs]
  · isplitl [Ha]; · iexact Ha
    isplitl [Hr]; · iexact Hr
    isplitl [Hs]; · iexact Hs
    iintro H; iexact H
  iintro %_ Hfl
  iapply (seq d i (wait_fly d i (a := a14) (b := row i a) (r := r.sem) (O := O) rfl
    (Q := fun _ => iprop(Busy (F := F) d i O ∗ semVal (VT d i, SemLoc.dma r.sem) 0 ∗ Has (F := F) d i (row i a) fullShare x ∗ Has (F := F) d i a14 fullShare x))))
  isplitl [HB Hfl]
  · isplitl [HB]; · iexact HB
    isplitl [Hfl]; · iexact Hfl
    iintro HB Hs H
    isplitl [HB]; · iexact HB
    isplitl [Hs]; · iexact Hs
    iexact H
  iintro %_ ⟨HB, Hs, Hr, Ha⟩
  iapply (done d i)
  isplitl [HB]; · iexact HB
  isplitl [Ha]; · iexists _; iexact Ha
  isplitl [Hr]; · iexact Hr
  iexact Hs

end Emit

/-! ## The staging -/

section Stage

variable (d : Dev nD) (i : grid1.Coords) (X : Dev nD → S10112x128.Idx → Elt F .f32)

/-- The tile's rows go to the shared memory; the tiles meet; the whole table is held. -/
theorem stage_wp (hF : (K (F := F)).Facts) (O : CellTallies nD τ sig (HIx 1)) (hO : ∀ g, O g none = 0)
    (hOlev : ∀ g ι, 0 < O g ι → 8 * (0 : Fin 1).val + 6 ≤ (K (F := F)).lev g ι) (r : DmaSems sig S_) {qa : PosShare TreeShare} :
    iprop(levAts (K (F := F)).L (K (F := F)).lev ∗ bkit X d (cV i) (jV i) ∗ Busy (F := F) d i (O + oxV d (cV i))
        ∗ Has (F := F) d i (Memref.whole main_v4_scv) qa (X d) ∗ (∃ f, shPts d (cV i) (shSet (i 1)) fullShare f) ∗ semVal (VT d i, SemLoc.dma r.sem) 0)
      ⊢ wpT (F := F) d i (stage i (Memref.whole main_v4_scv) (Memref.whole cc1_scratch7) r) fun _ =>
        iprop(Busy (F := F) d i O ∗ Has (F := F) d i (Memref.whole main_v4_scv) qa (X d)
          ∗ shPts d (cV i) Finset.univ (leaf 4 fullShare (i 1)) (X d) ∗ semVal (bcell d (cV i) (jV i)) 0 ∗ semVal (VT d i, SemLoc.dma r.sem) 0) := by
  unfold stage
  iintro ⟨#Hlv, Hkit, HB, Ha, ⟨%f, Hsh⟩, Hs⟩
  ihave Hsh := (show shPts d (cV i) (shSet (i 1)) fullShare f ⊢ Has (F := F) d i (rows i (Memref.whole cc1_scratch7)) fullShare ((rows i (Memref.whole cc1_scratch7)).view.read (Elt F) f) from by
    unfold shPts; rw [← set_rows_sh i]; exact has_of (F := F) d i (a := rows i (Memref.whole cc1_scratch7)) f rfl) $$ Hsh
  ihave H := (show Has (F := F) d i (Memref.whole main_v4_scv) qa (X d) ⊢ iprop(Has (F := F) d i (rows i (Memref.whole main_v4_scv)) qa
        (fun x => X d ((Rect.unit (s := S10112x128) (k1_off1 i) S632x128.size (k1_off1_inb i)).emb x))
      ∗ (Has (F := F) d i (rows i (Memref.whole main_v4_scv)) qa (fun x => X d ((Rect.unit (s := S10112x128) (k1_off1 i) S632x128.size (k1_off1_inb i)).emb x))
        -∗ Has (F := F) d i (Memref.whole main_v4_scv) qa (X d)))
    from has_part (F := F) d i (Memref.whole main_v4_scv) (Rect.unit (s := S10112x128) (k1_off1 i) S632x128.size (k1_off1_inb i)) (fun _ => rfl) qa (X d)) $$ Ha
  icases H with ⟨Hp, Hback⟩
  iapply (seq d i (copy_start d i (a := rows i (Memref.whole main_v4_scv)) (b := rows i (Memref.whole cc1_scratch7)) (r := r.sem) (View.dmaCredit_pos _ (by decide))
    (Q := fun _ => Fly (F := F) d i r.sem (rows i (Memref.whole cc1_scratch7)).view.dmaCredit
      iprop(Has (F := F) d i (rows i (Memref.whole cc1_scratch7)) fullShare (fun x => X d ((Rect.unit (s := S10112x128) (k1_off1 i) S632x128.size (k1_off1_inb i)).emb x))
        ∗ Has (F := F) d i (rows i (Memref.whole main_v4_scv)) qa (fun x => X d ((Rect.unit (s := S10112x128) (k1_off1 i) S632x128.size (k1_off1_inb i)).emb x))))))
  isplitl [Hp Hsh Hs]
  · isplitl [Hp]; · iexact Hp
    isplitl [Hsh]; · iexact Hsh
    isplitl [Hs]; · iexact Hs
    iintro H; iexact H
  iintro %_ Hfl
  iapply (seq d i (wait_fly d i (a := rows i (Memref.whole main_v4_scv)) (b := rows i (Memref.whole cc1_scratch7)) (r := r.sem) (O := O + oxV d (cV i)) rfl
    (Q := fun _ => iprop(Busy (F := F) d i (O + oxV d (cV i)) ∗ semVal (VT d i, SemLoc.dma r.sem) 0
      ∗ Has (F := F) d i (rows i (Memref.whole cc1_scratch7)) fullShare (fun x => X d ((Rect.unit (s := S10112x128) (k1_off1 i) S632x128.size (k1_off1_inb i)).emb x))
        ∗ Has (F := F) d i (rows i (Memref.whole main_v4_scv)) qa (fun x => X d ((Rect.unit (s := S10112x128) (k1_off1 i) S632x128.size (k1_off1_inb i)).emb x))))))
  isplitl [HB Hfl]
  · isplitl [HB]; · iexact HB
    isplitl [Hfl]; · iexact Hfl
    iintro HB Hs H
    isplitl [HB]; · iexact HB
    isplitl [Hs]; · iexact Hs
    iexact H
  iintro %_ ⟨HB, Hs, Hsh, Hp⟩
  ihave Ha := Hback $$ Hp
  ihave Hsh := (show Has (F := F) d i (rows i (Memref.whole cc1_scratch7)) fullShare (fun x => X d ((Rect.unit (s := S10112x128) (k1_off1 i) S632x128.size (k1_off1_inb i)).emb x))
      ⊢ shPts d (cV i) (shSet (i 1)) fullShare (X d) from by
    unfold shPts; rw [← set_rows_sh i]; exact has_to (F := F) d i (a := rows i (Memref.whole cc1_scratch7)) (X d) rfl) $$ Hsh
  iapply (meet_wp X d i hF O hO hOlev)
  isplitr; · iexact Hlv
  isplitl [Hkit]; · iexact Hkit
  isplitl [HB]; · iexact HB
  isplitl [Hsh]; · iexact Hsh
  iintro HB Hsh Hbar
  iapply (done d i)
  isplitl [HB]; · iexact HB
  isplitl [Ha]; · iexact Ha
  isplitl [Hsh]; · iexact Hsh
  isplitl [Hbar]; · iexact Hbar
  iexact Hs

end Stage

end Cert.KernelIdeal.Tile
-- ==== Proof.TileBody.lean ====
/- One tile's kernel over any buffers: what it computes, and its run after the shared memory is filled. -/
module

public import proofs.«01_k».proof.Proof.TileParts

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

open Idealize.ShloMosaic.ShareLeaves (leaf pointsTo_leaves)
open Idealize.ShloMosaic.SparseCore.Cfg (ownBufs ownSems0 ownCells ownRefs mem_ownCells mem_ownRefs)

/-! ## What a tile computes -/

section Values

variable (X : S10112x128.Idx → Elt F .f32) (E2 E3 : S320000.Idx → BitVec 32) (E4 : S320000.Idx → Elt F .f32) (i : grid1.Coords)

/-- The running sums of a chunk that starts at the offset `o`, after it. -/
def after (o : Fin 1 → Nat) (ho : ∀ a, o a + S2000.size a ≤ S320000.size a) (x : A8 F) : A8 F :=
  chunkSum X (seg E2 o ho) (seg E3 o ho) (seg E4 o ho) x

/-- The edges selected of a chunk. -/
def taken (o : Fin 1 → Nat) (ho : ∀ a, o a + S2000.size a ≤ S320000.size a) : BitVec 32 :=
  BitVec.ofNat 32 (sel (seg E4 o ho) 2000).length

/-- A tile's running sums after its five chunks. -/
def tileSums : A8 F :=
  after X E2 E3 E4 (k1_off362 i) (k1_off362_inb i) (after X E2 E3 E4 (k1_off272 i) (k1_off272_inb i)
    (after X E2 E3 E4 (k1_off182 i) (k1_off182_inb i) (after X E2 E3 E4 (k1_off92 i) (k1_off92_inb i)
      (after X E2 E3 E4 (k1_off2 i) (k1_off2_inb i) (zero16, zero16, zero16, zero16, zero16, zero16, zero16, zero16)))))

/-- The edges a tile selected. -/
def tileCount : BitVec 32 :=
  0#32 + taken E4 (k1_off2 i) (k1_off2_inb i) + taken E4 (k1_off92 i) (k1_off92_inb i) + taken E4 (k1_off182 i) (k1_off182_inb i)
    + taken E4 (k1_off272 i) (k1_off272_inb i) + taken E4 (k1_off362 i) (k1_off362_inb i)

end Values

section Run

variable (d : Dev nD) (i : grid1.Coords)
variable (a8 a9 : Memref sig .scVector .vmem S2000 .i32) (a10 : Memref sig .scVector .vmem S2000 .f32)
variable (a11 a12 : Memref sig .scVector .vmem S2064 .i32)
variable (a13 : Memref sig .scVector .vmem S2x2x64x128 .f32) (a14 : Memref sig .scVector .vmem S16 .f32)
variable (a15 : Memref sig .scVector .shared S10112x128 .f32) (a16 : DmaSems sig S2x2)
variable (a2 a3 : Memref sig .scVector .hbm S320000 .i32) (a4 : Memref sig .scVector .hbm S320000 .f32) (a5 : Memref sig .scVector .hbm S10112x128 .f32)
variable (a6 a7 : Memref sig .scVector .hbm S32x16 .f32)
variable (h8 : a8.IsWhole) (h9 : a9.IsWhole) (h10 : a10.IsWhole) (h14 : a14.IsWhole)
variable (hcr : ∀ s' : Shape, sig.dmaCredit .scVector (Kind.scVector.table .vmem) a13.view.buf s' .f32 = s'.numel * 32)
variable (r0 r1 r2 r3 r4 r5 r6 r7 r8 r9 r10 r11 r12 r13 r14 r15 r16 r17 : DmaSems sig S_)
variable {qa q : PosShare TreeShare} {E2 E3 : S320000.Idx → BitVec 32} {E4 : S320000.Idx → Elt F .f32} {X : S10112x128.Idx → Elt F .f32}
  {O : CellTallies nD τ sig (HIx 1)}

/-- The semaphores of the chunks' copies. -/
def ChunkSems : sProp 𝕄 :=
  iprop((semVal (VT d i, SemLoc.dma r1.sem) 0 ∗ semVal (VT d i, SemLoc.dma r2.sem) 0 ∗ semVal (VT d i, SemLoc.dma r3.sem) 0) ∗ (semVal (VT d i, SemLoc.dma r4.sem) 0 ∗ semVal (VT d i, SemLoc.dma r5.sem) 0 ∗ semVal (VT d i, SemLoc.dma r6.sem) 0) ∗ (semVal (VT d i, SemLoc.dma r7.sem) 0 ∗ semVal (VT d i, SemLoc.dma r8.sem) 0 ∗ semVal (VT d i, SemLoc.dma r9.sem) 0) ∗ (semVal (VT d i, SemLoc.dma r10.sem) 0 ∗ semVal (VT d i, SemLoc.dma r11.sem) 0 ∗ semVal (VT d i, SemLoc.dma r12.sem) 0) ∗ (semVal (VT d i, SemLoc.dma r13.sem) 0 ∗ semVal (VT d i, SemLoc.dma r14.sem) 0 ∗ semVal (VT d i, SemLoc.dma r15.sem) 0))

include hcr in
set_option maxHeartbeats 2000000 in
/-- The tile's kernel, from the run of its first part: the five chunks, and both results. -/
theorem body_wp (hE2 : ∀ z, (E2 z).toNat < 10000) (hE3 : ∀ z, (E3 z).toNat < 10000) {P R : sProp 𝕄}
    (hst : P ⊢ wpT (F := F) d i (stage i a5 a15 r0) fun _ => iprop(Busy (F := F) d i O ∗ Has (F := F) d i (tbl a15) q X ∗ R)) :
    iprop(P ∗ Has (F := F) d i a2 qa E2 ∗ Has (F := F) d i a3 qa E3 ∗ Has (F := F) d i a4 qa E4 ∗ Bufs (F := F) d i a8 a9 a10 a11 a12 a13
        ∗ Gsems (F := F) d i a16 ∗ ChunkSems (F := F) d i r1 r2 r3 r4 r5 r6 r7 r8 r9 r10 r11 r12 r13 r14 r15
        ∗ (∃ w, Has (F := F) d i a14 fullShare w) ∗ (∃ w, Has (F := F) d i (row i a6) fullShare w) ∗ (∃ w, Has (F := F) d i (row i a7) fullShare w)
        ∗ semVal (VT d i, SemLoc.dma r16.sem) 0 ∗ semVal (VT d i, SemLoc.dma r17.sem) 0)
      ⊢ wpT (F := F) d i (body i a2 a3 a4 a5 a6 a7 a8 h8 a9 h9 a10 h10 a11 a12 a13 a14 h14 a15 a16 r0 r1 r2 r3 r4 r5 r6 r7 r8 r9 r10 r11 r12 r13 r14 r15 r16 r17) fun _ =>
        iprop(Kit (F := F) d i a8 a9 a10 a11 a12 a13 a15 a16 a2 a3 a4 qa q E2 E3 E4 X O ∗ R ∗ ChunkSems (F := F) d i r1 r2 r3 r4 r5 r6 r7 r8 r9 r10 r11 r12 r13 r14 r15
          ∗ (∃ w, Has (F := F) d i a14 fullShare w)
          ∗ Has (F := F) d i (row i a6) fullShare (sum8 (tileSums X E2 E3 E4 i))
          ∗ Has (F := F) d i (row i a7) fullShare (sitofp .f32 (broadcast S16 (tileCount E4 i)))
          ∗ semVal (VT d i, SemLoc.dma r16.sem) 0 ∗ semVal (VT d i, SemLoc.dma r17.sem) 0) := by
  unfold body ChunkSems
  iintro ⟨HP, H2, H3, H4, HBufs, HG, ⟨C0, C1, C2, C3, C4⟩, H14, H6, H7, R16, R17⟩
  iapply (seq d i hst)
  isplitl [HP]; · iexact HP
  iintro %_ ⟨HB, Ht, HR⟩
  ihave HK := (show iprop(Busy (F := F) d i O ∗ Has (F := F) d i a2 qa E2 ∗ Has (F := F) d i a3 qa E3 ∗ Has (F := F) d i a4 qa E4 ∗ Has (F := F) d i (tbl a15) q X
      ∗ Bufs (F := F) d i a8 a9 a10 a11 a12 a13 ∗ Gsems (F := F) d i a16) ⊢ Kit (F := F) d i a8 a9 a10 a11 a12 a13 a15 a16 a2 a3 a4 qa q E2 E3 E4 X O from .rfl) $$ [HB H2 H3 H4 Ht HBufs HG]
  · isplitl [HB]; · iexact HB
    isplitl [H2]; · iexact H2
    isplitl [H3]; · iexact H3
    isplitl [H4]; · iexact H4
    isplitl [Ht]; · iexact Ht
    isplitl [HBufs]; · iexact HBufs
    iexact HG
  iapply (seq d i (chunk_wp d i a8 a9 a10 a11 a12 a13 a15 a16 a2 a3 a4 h8 h9 h10 hcr hE2 hE3 r1 r2 r3 (k1_off2 i) (k1_off2_inb i) _ _))
  isplitl [HK C0]
  · isplitl [HK]; · iexact HK
    iexact C0
  iintro %y0 ⟨%hy0, HK, C0⟩
  subst hy0
  dsimp only
  iapply (seq d i (chunk_wp d i a8 a9 a10 a11 a12 a13 a15 a16 a2 a3 a4 h8 h9 h10 hcr hE2 hE3 r4 r5 r6 (k1_off92 i) (k1_off92_inb i) _ _))
  isplitl [HK C1]
  · isplitl [HK]; · iexact HK
    iexact C1
  iintro %y1 ⟨%hy1, HK, C1⟩
  subst hy1
  dsimp only
  iapply (seq d i (chunk_wp d i a8 a9 a10 a11 a12 a13 a15 a16 a2 a3 a4 h8 h9 h10 hcr hE2 hE3 r7 r8 r9 (k1_off182 i) (k1_off182_inb i) _ _))
  isplitl [HK C2]
  · isplitl [HK]; · iexact HK
    iexact C2
  iintro %y2 ⟨%hy2, HK, C2⟩
  subst hy2
  dsimp only
  iapply (seq d i (chunk_wp d i a8 a9 a10 a11 a12 a13 a15 a16 a2 a3 a4 h8 h9 h10 hcr hE2 hE3 r10 r11 r12 (k1_off272 i) (k1_off272_inb i) _ _))
  isplitl [HK C3]
  · isplitl [HK]; · iexact HK
    iexact C3
  iintro %y3 ⟨%hy3, HK, C3⟩
  subst hy3
  dsimp only
  iapply (seq d i (chunk_wp d i a8 a9 a10 a11 a12 a13 a15 a16 a2 a3 a4 h8 h9 h10 hcr hE2 hE3 r13 r14 r15 (k1_off362 i) (k1_off362_inb i) _ _))
  isplitl [HK C4]
  · isplitl [HK]; · iexact HK
    iexact C4
  iintro %y4 ⟨%hy4, HK, C4⟩
  subst hy4
  dsimp only
  unfold Kit
  icases HK with ⟨HB, H2, H3, H4, Ht, HBufs, HG⟩
  iapply (seq d i (emit_wp d i a14 h14 r16 a6 _ (O := O)))
  isplitl [HB H14 H6 R16]
  · isplitl [HB]; · iexact HB
    isplitl [H14]; · iexact H14
    isplitl [H6]; · iexact H6
    iexact R16
  iintro %_ ⟨HB, H14, H6, R16⟩
  iapply (wp_wand_r Idealize.ShloMosaic.frame (wpE (defs₀ (F := F)) 𝒱₀ (VT d i) none) Set.univ)
  isplitl [HB H14 H7 R17]
  · iapply (emit_wp d i a14 h14 r17 a7 _ (O := O))
    isplitl [HB]; · iexact HB
    isplitl [H14]; · iexact H14
    isplitl [H7]; · iexact H7
    iexact R17
  iintro %_ ⟨HB, H14, H7, R17⟩
  isplitl [HB H2 H3 H4 Ht HBufs HG]
  · isplitl [HB]; · iexact HB
    isplitl [H2]; · iexact H2
    isplitl [H3]; · iexact H3
    isplitl [H4]; · iexact H4
    isplitl [Ht]; · iexact Ht
    isplitl [HBufs]; · iexact HBufs
    iexact HG
  isplitl [HR]; · iexact HR
  isplitl [C0 C1 C2 C3 C4]
  · isplitl [C0]; · iexact C0
    isplitl [C1]; · iexact C1
    isplitl [C2]; · iexact C2
    isplitl [C3]; · iexact C3
    iexact C4
  isplitl [H14]; · iexact H14
  isplitl [H6]; · iexact H6
  isplitl [H7]; · iexact H7
  isplitl [R16]; · iexact R16
  iexact R17

end Run

end Cert.KernelIdeal.Tile
-- ==== Proof.TileRows.lean ====
/- A tile's rows of the results, its semaphores and its buffers, each from the whole. -/
module

public import proofs.«01_k».proof.Proof.TileBody

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

open Idealize.ShloMosaic.ShareLeaves (leaf pointsTo_leaves)
open Idealize.ShloMosaic.SparseCore.Cfg (ownBufs ownSems0 ownCells ownRefs mem_ownCells mem_ownRefs)

/-- The grid point of a tile. -/
def coordsV (c : Fin (grid1.bound 0)) (s : Fin (grid1.bound 1)) : grid1.Coords :=
  fun | 0 => c | 1 => s | ⟨_ + 2, h⟩ => absurd h (Nat.not_lt.2 (Nat.le_add_left _ _))

/-- The tile whose results row `w` holds. -/
def tileOf (w : Fin 32) : grid1.Coords := coordsV (⟨w.val % 2, Nat.mod_lt _ (by decide)⟩ : Fin 2) (⟨w.val / 2, by omega⟩ : Fin 16)

/-- The array of sums and the array of counts. -/
def outSums (X : S10112x128.Idx → Elt F .f32) (E2 E3 : S320000.Idx → BitVec 32) (E4 : S320000.Idx → Elt F .f32) : S32x16.Idx → Elt F .f32 :=
  fun z => sum8 (tileSums X E2 E3 E4 (tileOf (z 0))) (ix1 (z 1))
def outCounts (E4 : S320000.Idx → Elt F .f32) : S32x16.Idx → Elt F .f32 :=
  fun z => sitofp (F := F) .f32 (broadcast S16 (tileCount E4 (tileOf (z 0)))) (ix1 (z 1))

/-- The row of a result that the tile `(c, s)` writes. -/
def outSet (i : grid1.Coords) : Finset S32x16.Idx := Finset.univ.filter fun z => (z 0).val = 2 * (i 1).val + (i 0).val

theorem mem_row (i : grid1.Coords) (z : S32x16.Idx) : z ∈ (Rect.unit (s := S32x16) (k1_off452 i) S1x16.size (k1_off452_inb i)).set ↔ z ∈ outSet i := by
  rw [Rect.mem_set_unit, k1_off452_eq]
  unfold outSet
  rw [Finset.mem_filter]
  constructor
  · intro h
    have h0 : 2 * (i 1).val + (i 0).val ≤ (z 0).val ∧ (z 0).val < 2 * (i 1).val + (i 0).val + 1 := h 0
    exact ⟨Finset.mem_univ _, by omega⟩
  · rintro ⟨-, h⟩ a
    match a with
    | ⟨0, _⟩ => show 2 * (i 1).val + (i 0).val ≤ (z 0).val ∧ (z 0).val < 2 * (i 1).val + (i 0).val + 1; omega
    | ⟨1, _⟩ =>
      have h1 : (z 1).val < 16 := (z 1).isLt
      show 0 ≤ (z 1).val ∧ (z 1).val < 0 + 16; omega

theorem set_row0 (i : grid1.Coords) : (row i (Memref.whole main_v5_0_scv)).view.set = outSet i := by
  show (((View.whole main_v5_0_scv).slice (Rect.unit (s := S32x16) (k1_off452 i) S1x16.size (k1_off452_inb i))).reshape S16 squeezes_S1x16_S16.numel_eq).set = _
  rw [View.set_reshape, View.set_slice]
  refine Finset.map_refl.trans ?_
  ext z
  exact mem_row i z
theorem set_row1 (i : grid1.Coords) : (row i (Memref.whole main_v5_1_scv)).view.set = outSet i := by
  show (((View.whole main_v5_1_scv).slice (Rect.unit (s := S32x16) (k1_off452 i) S1x16.size (k1_off452_inb i))).reshape S16 squeezes_S1x16_S16.numel_eq).set = _
  rw [View.set_reshape, View.set_slice]
  refine Finset.map_refl.trans ?_
  ext z
  exact mem_row i z

theorem tileOf_row (i : grid1.Coords) (w : Fin 32) (h : w.val = 2 * (i 1).val + (i 0).val) : tileOf w = i := by
  have h0 : (i 0).val < 2 := (i 0).isLt
  have h1 : (i 1).val < 16 := (i 1).isLt
  funext a
  match a with
  | ⟨0, _⟩ => exact Fin.ext (by show w.val % 2 = (i 0).val; omega)
  | ⟨1, _⟩ => exact Fin.ext (by show w.val / 2 = (i 1).val; omega)

/-- Where the words of a tile's row lie. -/
theorem row_place (i : grid1.Coords) (x : S16.Idx) :
    (Rect.unit (s := S32x16) (k1_off452 i) S1x16.size (k1_off452_inb i)).emb (Shape.reshapeEquiv (squeezes_S1x16_S16).numel_eq x)
      = ix2 (⟨2 * (i 1).val + (i 0).val, by have h0 : (i 0).val < 2 := (i 0).isLt; have h1 : (i 1).val < 16 := (i 1).isLt; omega⟩ : Fin 32) (⟨(x 0).val, (x 0).isLt⟩ : Fin 16) := by
  have e : Shape.reshapeEquiv (squeezes_S1x16_S16).numel_eq x = (ix2 (⟨0, Nat.one_pos⟩ : Fin 1) (⟨(x 0).val, (x 0).isLt⟩ : Fin 16) : S1x16.Idx) :=
    Shape.reshapeEquiv_eq_of_rowMajor _ (by
      rw [Shape.rowMajor_val_two, Shape.rowMajor_val_one]
      show 0 * 16 + (x 0).val = (x 0).val
      omega)
  rw [e]
  funext a
  apply Fin.ext
  match a with
  | ⟨0, _⟩ => show k1_off452 i 0 + 1 * 0 = _; rw [k1_off452_eq]; rfl
  | ⟨1, _⟩ => show k1_off452 i 1 + 1 * (x 0).val = _; rw [k1_off452_eq]; show 0 + 1 * (x 0).val = (x 0).val; omega

section Task

variable (d : Dev nD) (i : grid1.Coords)

/-- The tile's transfers' semaphores. -/
def sems : List (DmaSem sig) :=
  [(gsem cc1_scratch8 0 0).sem, (gsem cc1_scratch8 1 0).sem, (gsem cc1_scratch8 0 1).sem, (gsem cc1_scratch8 1 1).sem,
   cc1_scoped0.sem, cc1_scoped1.sem, cc1_scoped2.sem, cc1_scoped3.sem, cc1_scoped4.sem, cc1_scoped5.sem, cc1_scoped6.sem, cc1_scoped7.sem, cc1_scoped8.sem, cc1_scoped9.sem, cc1_scoped10.sem, cc1_scoped11.sem, cc1_scoped12.sem, cc1_scoped13.sem, cc1_scoped14.sem, cc1_scoped15.sem, cc1_scoped16.sem, cc1_scoped17.sem]

theorem sems_nodup : sems.Nodup := by decide +kernel
theorem sems_scoped : ∀ s ∈ sems, (SemLoc.dma s : SemLoc sig).isScoped .scVector = true := by decide +kernel

/-- The tile's cells beside those. -/
def cellsRest : Finset (GSem nD τ sig) := ownCells (VT d i) \ (sems.map fun s => ((VT d i, SemLoc.dma s) : GSem nD τ sig)).toFinset

theorem ownSems0_V : (ownSems0 (VT d i) : sProp 𝕄)
    = (sems.map fun s => ((VT d i, SemLoc.dma s) : GSem nD τ sig)).foldr (fun g P => iprop(semVal g 0 ∗ P)) (bigSep (cellsRest d i) fun g => semVal g 0) := by
  unfold SparseCore.Cfg.ownSems0 cellsRest
  refine bigSep_list (fun g => semVal g 0) _ _ (sems_nodup.map fun a b e => SemLoc.dma.inj (Prod.mk.inj e).2) ?_
  intro g hg
  obtain ⟨s, hs, rfl⟩ := List.mem_map.mp hg
  exact mem_ownCells.mpr ⟨rfl, sems_scoped s hs⟩

/-- The tile's buffers. -/
def refs : List (Ref sig .scVector) := [cc1_scratch0, cc1_scratch1, cc1_scratch2, cc1_scratch3, cc1_scratch4, cc1_scratch5, cc1_scratch6]

theorem refs_nodup : (refs.map fun b => (Proc.scVector (cV i) (jV i)).devRef b).Nodup := by
  unfold refs
  simp [Proc.devRef]

/-- The tile's buffers beside those. -/
def refsRest : Finset (DevRef τ sig) :=
  ownRefs (τ := τ) (sig := sig) (.scVector (cV i) (jV i)) \ (refs.map fun b => (Proc.scVector (cV i) (jV i)).devRef b).toFinset

theorem ownBufs_V : (ownBufs (VT d i) : sProp 𝕄)
    = (refs.map fun b => (Proc.scVector (cV i) (jV i)).devRef b).foldr (fun b P => iprop((∃ f, ((d, b) : Loc nD τ sig) ↦{fullShare} f) ∗ P))
        (bigSep (refsRest i) fun b => iprop(∃ f, ((d, b) : Loc nD τ sig) ↦{fullShare} f)) := by
  unfold SparseCore.Cfg.ownBufs refsRest
  refine bigSep_list (fun b => iprop(∃ f, ((d, b) : Loc nD τ sig) ↦{fullShare} f)) _ _ (refs_nodup i) ?_
  intro b hb
  obtain ⟨s, hs, rfl⟩ := List.mem_map.mp hb
  refine SparseCore.Cfg.mem_ownRefs_of_owner (p := Proc.scVector (cV i) (jV i)) ?_
  simp only [refs, List.mem_cons, List.not_mem_nil, or_false] at hs
  rcases hs with rfl | rfl | rfl | rfl | rfl | rfl | rfl <;> rfl

variable (X : Dev nD → S10112x128.Idx → Elt F .f32) (E2 E3 : Dev nD → S320000.Idx → BitVec 32) (E4 : Dev nD → S320000.Idx → Elt F .f32)

/-- What a task only reads: the edges' ends, the weights and the table, each at a share. -/
def Reads (d : Dev nD) (q : PosShare TreeShare) : sProp 𝕄 :=
  iprop(((SparseCore.T d).loc main_v1 ↦{q} E2 d) ∗ ((SparseCore.T d).loc main_v3 ↦{q} E3 d) ∗ ((SparseCore.T d).loc main_arg1 ↦{q} E4 d)
    ∗ ((SparseCore.T d).loc main_v4 ↦{q} X d))

/-- A task's rows of the results, at any contents. -/
def RowsAny : sProp 𝕄 :=
  iprop((∃ f, (SparseCore.T d).loc main_v5_0 ↦[outSet i]{fullShare} f) ∗ ∃ f, (SparseCore.T d).loc main_v5_1 ↦[outSet i]{fullShare} f)

/-- A task's rows of the results, written. -/
def RowsDone : sProp 𝕄 :=
  iprop(((SparseCore.T d).loc main_v5_0 ↦[outSet i]{fullShare} outSums (X d) (E2 d) (E3 d) (E4 d))
    ∗ ((SparseCore.T d).loc main_v5_1 ↦[outSet i]{fullShare} outCounts (E4 d)))

theorem row0_of : (iprop(∃ f, (SparseCore.T d).loc main_v5_0 ↦[outSet i]{fullShare} f) : sProp 𝕄)
    ⊢ iprop(∃ w, Has (F := F) d i (row i (Memref.whole main_v5_0_scv)) fullShare w) := by
  rw [← set_row0 i]
  iintro ⟨%f, H⟩
  iexists _
  iapply (has_of (F := F) d i (a := row i (Memref.whole main_v5_0_scv)) f rfl)
  iexact H
theorem row1_of : (iprop(∃ f, (SparseCore.T d).loc main_v5_1 ↦[outSet i]{fullShare} f) : sProp 𝕄)
    ⊢ iprop(∃ w, Has (F := F) d i (row i (Memref.whole main_v5_1_scv)) fullShare w) := by
  rw [← set_row1 i]
  iintro ⟨%f, H⟩
  iexists _
  iapply (has_of (F := F) d i (a := row i (Memref.whole main_v5_1_scv)) f rfl)
  iexact H

theorem row0_to : Has (F := F) d i (row i (Memref.whole main_v5_0_scv)) fullShare (sum8 (tileSums (X d) (E2 d) (E3 d) (E4 d) i))
    ⊢ ((SparseCore.T d).loc main_v5_0 ↦[outSet i]{fullShare} outSums (X d) (E2 d) (E3 d) (E4 d) : sProp 𝕄) := by
  rw [← set_row0 i]
  refine has_to (F := F) d i (a := row i (Memref.whole main_v5_0_scv)) (outSums (X d) (E2 d) (E3 d) (E4 d)) ?_
  funext x
  show outSums (X d) (E2 d) (E3 d) (E4 d) ((Rect.unit (s := S32x16) (k1_off452 i) S1x16.size (k1_off452_inb i)).emb (Shape.reshapeEquiv (squeezes_S1x16_S16).numel_eq x)) = _
  rw [row_place]
  unfold outSums
  rw [show tileOf ((ix2 (⟨2 * (i 1).val + (i 0).val, _⟩ : Fin 32) (⟨(x 0).val, (x 0).isLt⟩ : Fin 16) : S32x16.Idx) 0) = i from tileOf_row i _ rfl]
  exact congrArg _ (eq_ix1 x).symm
theorem row1_to : Has (F := F) d i (row i (Memref.whole main_v5_1_scv)) fullShare (sitofp .f32 (broadcast S16 (tileCount (E4 d) i)))
    ⊢ ((SparseCore.T d).loc main_v5_1 ↦[outSet i]{fullShare} outCounts (E4 d) : sProp 𝕄) := by
  rw [← set_row1 i]
  refine has_to (F := F) d i (a := row i (Memref.whole main_v5_1_scv)) (outCounts (E4 d)) ?_
  funext x
  show outCounts (E4 d) ((Rect.unit (s := S32x16) (k1_off452 i) S1x16.size (k1_off452_inb i)).emb (Shape.reshapeEquiv (squeezes_S1x16_S16).numel_eq x)) = _
  rw [row_place]
  unfold outCounts
  rw [show tileOf ((ix2 (⟨2 * (i 1).val + (i 0).val, _⟩ : Fin 32) (⟨(x 0).val, (x 0).isLt⟩ : Fin 16) : S32x16.Idx) 0) = i from tileOf_row i _ rfl]
  exact congrArg _ (eq_ix1 x).symm

theorem tbl_emb (g : S10112x128.Idx → Elt F .f32) :
    (fun x => g ((Rect.unit (s := S10112x128) ![0, 0] S10112x128.size inb_S10112x128_S10112x128_0_0).emb x)) = g := by
  funext x
  refine congrArg g ?_
  funext b
  exact Fin.ext (by match b with | ⟨0, _⟩ => show 0 + 1 * (x 0).val = (x 0).val; omega | ⟨1, _⟩ => show 0 + 1 * (x 1).val = (x 1).val; omega)

/-- The table through the rectangle of all its rows. -/
theorem tbl_full (q : PosShare TreeShare) (g : S10112x128.Idx → Elt F .f32) : shPts d (cV i) Finset.univ q g
    ⊢ iprop(Has (F := F) d i (tbl (Memref.whole cc1_scratch7)) q g ∗ (Has (F := F) d i (tbl (Memref.whole cc1_scratch7)) q g -∗ shPts d (cV i) Finset.univ q g)) := by
  have h := has_part (F := F) d i (Memref.whole cc1_scratch7) (Rect.unit (s := S10112x128) ![0, 0] S10112x128.size inb_S10112x128_S10112x128_0_0) (fun _ => rfl) q g
  have h' : Has (F := F) d i (Memref.whole cc1_scratch7) q g ⊢ iprop(Has (F := F) d i (tbl (Memref.whole cc1_scratch7)) q g
      ∗ (Has (F := F) d i (tbl (Memref.whole cc1_scratch7)) q g -∗ Has (F := F) d i (Memref.whole cc1_scratch7) q g)) := by
    refine h.trans (Entails.of_eq ?_)
    exact congrArg (fun v => iprop(Has (F := F) d i (tbl (Memref.whole cc1_scratch7)) q v
      ∗ (Has (F := F) d i (tbl (Memref.whole cc1_scratch7)) q v -∗ Has (F := F) d i (Memref.whole cc1_scratch7) q g))) (tbl_emb g)
  iintro H
  ihave H := (show shPts d (cV i) Finset.univ q g ⊢ Has (F := F) d i (Memref.whole cc1_scratch7) q g from whole_of d i cc1_scratch7 q g) $$ H
  ihave H := h' $$ H
  icases H with ⟨H, Hk⟩
  isplitl [H]; · iexact H
  iintro H
  iapply (show Has (F := F) d i (Memref.whole cc1_scratch7) q g ⊢ shPts d (cV i) Finset.univ q g from whole_to d i cc1_scratch7 q g)
  iapply Hk
  iexact H

end Task

end Cert.KernelIdeal.Tile
-- ==== Proof.TileRun.lean ====
/- The task of one tile. -/
module

public import proofs.«01_k».proof.Proof.TileRows

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

open Idealize.ShloMosaic.ShareLeaves (leaf pointsTo_leaves)
open Idealize.ShloMosaic.SparseCore.Cfg (ownBufs ownSems0 ownCells ownRefs mem_ownCells mem_ownRefs)

variable (d : Dev nD) (i : grid1.Coords)
variable (X : Dev nD → S10112x128.Idx → Elt F .f32) (E2 E3 : Dev nD → S320000.Idx → BitVec 32) (E4 : Dev nD → S320000.Idx → Elt F .f32)

/-- The first part of a task, with the table as the chunks read it. -/
theorem stage_run (qa : PosShare TreeShare)
    (hF : (K (F := F)).Facts) (O : CellTallies nD τ sig (HIx 1)) (hO : ∀ g, O g none = 0)
    (hOlev : ∀ g ι, 0 < O g ι → 8 * (0 : Fin 1).val + 6 ≤ (K (F := F)).lev g ι) (r : DmaSems sig S_) :
    iprop(levAts (K (F := F)).L (K (F := F)).lev ∗ bkit X d (cV i) (jV i) ∗ Busy (F := F) d i (O + oxV d (cV i))
        ∗ Has (F := F) d i (Memref.whole main_v4_scv) qa (X d) ∗ (∃ f, shPts d (cV i) (shSet (i 1)) fullShare f) ∗ semVal (VT d i, SemLoc.dma r.sem) 0)
      ⊢ wpT (F := F) d i (stage i (Memref.whole main_v4_scv) (Memref.whole cc1_scratch7) r) fun _ =>
        iprop(Busy (F := F) d i O ∗ Has (F := F) d i (tbl (Memref.whole cc1_scratch7)) (leaf 4 fullShare (i 1)) (X d)
          ∗ ((Has (F := F) d i (tbl (Memref.whole cc1_scratch7)) (leaf 4 fullShare (i 1)) (X d) -∗ shPts d (cV i) Finset.univ (leaf 4 fullShare (i 1)) (X d))
            ∗ Has (F := F) d i (Memref.whole main_v4_scv) qa (X d) ∗ semVal (bcell d (cV i) (jV i)) 0 ∗ semVal (VT d i, SemLoc.dma r.sem) 0)) := by
  iintro H
  iapply (wp_wand_r Idealize.ShloMosaic.frame (wpE (defs₀ (F := F)) 𝒱₀ (VT d i) none) Set.univ)
  isplitl [H]
  · iapply (stage_wp d i X hF O hO hOlev r (qa := qa)); iexact H
  iintro %_ ⟨HB, H5, Hsh, Hbar, R0⟩
  ihave Ht := (tbl_full d i _ (X d)) $$ Hsh
  icases Ht with ⟨Ht, Hback⟩
  isplitl [HB]; · iexact HB
  isplitl [Ht]; · iexact Ht
  isplitl [Hback]; · iexact Hback
  isplitl [H5]; · iexact H5
  isplitl [Hbar]; · iexact Hbar
  iexact R0

set_option maxHeartbeats 4000000 in
/-- The task of a tile: from its shares of the operands, its rows and its part of the shared memory, to its rows written. -/
theorem tile_body (hE2 : ∀ z, (E2 d z).toNat < 10000) (hE3 : ∀ z, (E3 d z).toNat < 10000) (qa : PosShare TreeShare)
    (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit X d (cV i) (jV i)
        ∗ (Reads X E2 E3 E4 d qa ∗ RowsAny (F := F) d i ∗ ∃ f, shPts d (cV i) (shSet (i 1)) fullShare f)
        ∗ scopedBufs (VT d i) ∗ scopedSems0 (VT d i) ∗ owes (VT d i) (O + oxV d (cV i)) W)
      ⊢ wpT (F := F) d i (cc1__sc_body i (Memref.whole main_v1_scv) (Memref.isWhole_whole _) (Memref.whole main_v3_scv) (Memref.isWhole_whole _) (Memref.whole main_arg1_scv) (Memref.isWhole_whole _) (Memref.whole main_v4_scv) (Memref.isWhole_whole _) (Memref.whole main_v5_0_scv) (Memref.isWhole_whole _) (Memref.whole main_v5_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scratch8 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17)
          fun _ => iprop(((Reads X E2 E3 E4 d qa ∗ RowsDone d i X E2 E3 E4 ∗ shPts d (cV i) Finset.univ (leaf 4 fullShare (i 1)) (X d)) ∗ semVal (bcell d (cV i) (jV i)) 0)
            ∗ scopedBufs (VT d i) ∗ scopedSems0 (VT d i)
            ∗ ∃ W', ⌜∀ p ∈ W', p ∈ W ∨ p.2 = none ∨ p.2 = some (0 : Fin 1)⌝ ∗ owes (VT d i) O W') := by
  rw [body_eq, (K (F := F)).scopedBufs_V hF d (cV i) (jV i), SparseCore.Cfg.scopedSems0_V (Val := Elt F) d (cV i) (jV i), ownSems0_V, ownBufs_V]
  simp only [refs, sems, List.map_cons, List.map_nil, List.foldr_cons, List.foldr_nil]
  unfold body Reads RowsAny RowsDone
  iintro ⟨#Hlv, Hkit, ⟨⟨H2, H3, H4, H5⟩, ⟨H6, H7⟩, Hsh⟩, ⟨⟨%f8, B8⟩, ⟨%f9, B9⟩, ⟨%f10, B10⟩, ⟨%f11, B11⟩, ⟨%f12, B12⟩, ⟨%f13, B13⟩, ⟨%f14, B14⟩, Hbufs⟩, ⟨G00, G10, G01, G11, R0, R1, R2, R3, R4, R5, R6, R7, R8, R9, R10, R11, R12, R13, R14, R15, R16, R17, Hsems⟩, HO⟩
  have hO' : ∀ g, (O + oxV d (cV i)) g none = 0 := fun g => by rw [Pi.add_apply, Finsupp.add_apply, hO g, oxV_none]
  ihave Hmw1 := (show levAts (K (F := F)).L (K (F := F)).lev ⊢ Transfers.MayWaits (VT d i) (default : HIx 1) (O + oxV d (cV i)) from
    (K (F := F)).mayWaits_none (thr := VT d i) hO') $$ Hlv
  ihave HB := (show iprop(Transfers.MayWaits (VT d i) (default : HIx 1) (O + oxV d (cV i)) ∗ owes (VT d i) (O + oxV d (cV i)) W) ⊢ Busy (F := F) d i (O + oxV d (cV i)) from by
    unfold Busy
    iintro ⟨H1, H2⟩
    isplitl [H1]; · iexact H1
    iexists W; iexact H2) $$ [Hmw1 HO]
  · isplitl [Hmw1]; · iexact Hmw1
    iexact HO
  ihave H2 := (whole_of (F := F) d i main_v1_scv qa (E2 d)) $$ H2
  ihave H3 := (whole_of (F := F) d i main_v3_scv qa (E3 d)) $$ H3
  ihave H4 := (whole_of (F := F) d i main_arg1_scv qa (E4 d)) $$ H4
  ihave H5 := (whole_of (F := F) d i main_v4_scv qa (X d)) $$ H5
  ihave B8 := (whole_of (F := F) d i cc1_scratch0 fullShare f8) $$ B8
  ihave B9 := (whole_of (F := F) d i cc1_scratch1 fullShare f9) $$ B9
  ihave B10 := (whole_of (F := F) d i cc1_scratch2 fullShare f10) $$ B10
  ihave B11 := (whole_of (F := F) d i cc1_scratch3 fullShare f11) $$ B11
  ihave B12 := (whole_of (F := F) d i cc1_scratch4 fullShare f12) $$ B12
  ihave B14 := (whole_of (F := F) d i cc1_scratch6 fullShare f14) $$ B14
  ihave W4 := (win_split (F := F) d i f13) $$ B13
  icases W4 with ⟨W00, W10, W01, W11⟩
  ihave H6 := (row0_of (F := F) d i) $$ H6
  ihave H7 := (row1_of (F := F) d i) $$ H7
  iapply (wp_wand_r Idealize.ShloMosaic.frame (wpE (defs₀ (F := F)) 𝒱₀ (VT d i) none) Set.univ)
  isplitl [Hkit HB H5 Hsh H2 H3 H4 H6 H7 B8 B9 B10 B11 B12 B14 W00 W10 W01 W11 G00 G10 G01 G11 R0 R1 R2 R3 R4 R5 R6 R7 R8 R9 R10 R11 R12 R13 R14 R15 R16 R17]
  · iapply (body_wp d i (Memref.whole cc1_scratch0) (Memref.whole cc1_scratch1) (Memref.whole cc1_scratch2) (Memref.whole cc1_scratch3) (Memref.whole cc1_scratch4) (Memref.whole cc1_scratch5) (Memref.whole cc1_scratch6) (Memref.whole cc1_scratch7) cc1_scratch8
      (Memref.whole main_v1_scv) (Memref.whole main_v3_scv) (Memref.whole main_arg1_scv) (Memref.whole main_v4_scv) (Memref.whole main_v5_0_scv) (Memref.whole main_v5_1_scv)
      (Memref.isWhole_whole _) (Memref.isWhole_whole _) (Memref.isWhole_whole _) (Memref.isWhole_whole _) (fun _ => rfl) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17
      hE2 hE3 (stage_run d i X qa hF O hO hOlev cc1_scoped0))
    isplitl [Hkit HB H5 Hsh R0]
    · isplitr; · iexact Hlv
      isplitl [Hkit]; · iexact Hkit
      isplitl [HB]; · iexact HB
      isplitl [H5]; · iexact H5
      isplitl [Hsh]; · iexact Hsh
      iexact R0
    isplitl [H2]; · iexact H2
    isplitl [H3]; · iexact H3
    isplitl [H4]; · iexact H4
    isplitl [B8 B9 B10 B11 B12 W00 W10 W01 W11]
    · unfold Bufs
      isplitl [B8]; · iexists _; iexact B8
      isplitl [B9]; · iexists _; iexact B9
      isplitl [B10]; · iexists _; iexact B10
      isplitl [B11]; · iexists _; iexact B11
      isplitl [B12]; · iexists _; iexact B12
      isplitl [W00]; · iexact W00
      isplitl [W10]; · iexact W10
      isplitl [W01]; · iexact W01
      iexact W11
    isplitl [G00 G10 G01 G11]
    · unfold Gsems
      isplitl [G00]; · iexact G00
      isplitl [G10]; · iexact G10
      isplitl [G01]; · iexact G01
      iexact G11
    isplitl [R1 R2 R3 R4 R5 R6 R7 R8 R9 R10 R11 R12 R13 R14 R15]
    · unfold ChunkSems
      isplitl [R1 R2 R3]
      · isplitl [R1]; · iexact R1
        isplitl [R2]; · iexact R2
        iexact R3
      isplitl [R4 R5 R6]
      · isplitl [R4]; · iexact R4
        isplitl [R5]; · iexact R5
        iexact R6
      isplitl [R7 R8 R9]
      · isplitl [R7]; · iexact R7
        isplitl [R8]; · iexact R8
        iexact R9
      isplitl [R10 R11 R12]
      · isplitl [R10]; · iexact R10
        isplitl [R11]; · iexact R11
        iexact R12
      isplitl [R13]; · iexact R13
      isplitl [R14]; · iexact R14
      iexact R15
    isplitl [B14]; · iexists _; iexact B14
    isplitl [H6]; · iexact H6
    isplitl [H7]; · iexact H7
    isplitl [R16]; · iexact R16
    iexact R17
  unfold Kit Bufs Gsems ChunkSems
  iintro %_ ⟨⟨HB, H2, H3, H4, Ht, ⟨⟨%g8, B8⟩, ⟨%g9, B9⟩, ⟨%g10, B10⟩, ⟨%g11, B11⟩, ⟨%g12, B12⟩, W00, W10, W01, W11⟩, G00, G10, G01, G11⟩, ⟨Hback, H5, Hbar, R0⟩, ⟨⟨R1, R2, R3⟩, ⟨R4, R5, R6⟩, ⟨R7, R8, R9⟩, ⟨R10, R11, R12⟩, ⟨R13, R14, R15⟩⟩, ⟨%g14, B14⟩, H6, H7, R16, R17⟩
  ihave Hsh := Hback $$ Ht
  ihave H2 := (whole_to (F := F) d i main_v1_scv qa (E2 d)) $$ H2
  ihave H3 := (whole_to (F := F) d i main_v3_scv qa (E3 d)) $$ H3
  ihave H4 := (whole_to (F := F) d i main_arg1_scv qa (E4 d)) $$ H4
  ihave H5 := (whole_to (F := F) d i main_v4_scv qa (X d)) $$ H5
  ihave B8 := (whole_to (F := F) d i cc1_scratch0 fullShare _) $$ B8
  ihave B9 := (whole_to (F := F) d i cc1_scratch1 fullShare _) $$ B9
  ihave B10 := (whole_to (F := F) d i cc1_scratch2 fullShare _) $$ B10
  ihave B11 := (whole_to (F := F) d i cc1_scratch3 fullShare _) $$ B11
  ihave B12 := (whole_to (F := F) d i cc1_scratch4 fullShare _) $$ B12
  ihave B14 := (whole_to (F := F) d i cc1_scratch6 fullShare _) $$ B14
  ihave B13 := (win_join (F := F) d i) $$ [W00 W10 W01 W11]
  · isplitl [W00]; · iexact W00
    isplitl [W10]; · iexact W10
    isplitl [W01]; · iexact W01
    iexact W11
  ihave H6 := (row0_to (F := F) d i X E2 E3 E4) $$ H6
  ihave H7 := (row1_to (F := F) d i E4) $$ H7
  isplitl [H2 H3 H4 H5 H6 H7 Hsh Hbar]
  · isplitr [Hbar]
    · isplitl [H2 H3 H4 H5]
      · isplitl [H2]; · iexact H2
        isplitl [H3]; · iexact H3
        isplitl [H4]; · iexact H4
        iexact H5
      isplitl [H6 H7]
      · isplitl [H6]; · iexact H6
        iexact H7
      iexact Hsh
    · iexact Hbar
  isplitl [B8 B9 B10 B11 B12 B13 B14 Hbufs]
  · isplitl [B8]; · iexists _; iexact B8
    isplitl [B9]; · iexists _; iexact B9
    isplitl [B10]; · iexists _; iexact B10
    isplitl [B11]; · iexists _; iexact B11
    isplitl [B12]; · iexists _; iexact B12
    isplitl [B13]; · iexact B13
    isplitl [B14]; · iexists _; iexact B14
    iexact Hbufs
  isplitl [G00 G10 G01 G11 R0 R1 R2 R3 R4 R5 R6 R7 R8 R9 R10 R11 R12 R13 R14 R15 R16 R17 Hsems]
  · isplitl [G00]; · iexact G00
    isplitl [G10]; · iexact G10
    isplitl [G01]; · iexact G01
    isplitl [G11]; · iexact G11
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    iexact Hsems
  unfold Busy
  icases HB with ⟨HB1, %W', HB⟩
  iexists W'
  isplitr
  · ipureintro
    intro p _
    right
    cases hp : p.2 with
    | none => exact Or.inl rfl
    | some k => exact Or.inr (congrArg some (Subsingleton.elim k 0))
  iexact HB

end Cert.KernelIdeal.Tile
-- ==== Proof.Deal.lean ====
/- What the call carries to its tiles and back, each tile's obligation, and how a SparseCore's part is split among its tiles. -/
module

public import proofs.«01_k».proof.Proof.TileRun

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

open Idealize.ShloMosaic.ShareLeaves (leaf pointsTo_leaves)
open Idealize.ShloMosaic.SparseCore.Cfg (Pay ownBufs ownSems0 ownCells ownRefs mem_ownCells mem_ownRefs)

theorem nSub_zero : (K (F := F)).nSub 0 = 16 := rfl
theorem nCore_zero : (K (F := F)).nCore 0 = 2 := rfl
abbrev coreOf (c : Fin ((K (F := F)).nCore 0)) : Fin τ.nSC := (K (F := F)).core 0 c

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The grid point of task `i` of core `c` of the call. -/
abbrev pt (c : Fin ((K (F := F)).nCore 0)) (i : Fin ((K (F := F)).nSub 0)) : grid1.Coords :=
  coordsV (Fin.cast nCore_zero c) (Fin.cast nSub_zero i)

variable (X : Dev nD → S10112x128.Idx → Elt F .f32) (E2 E3 : Dev nD → S320000.Idx → BitVec 32) (E4 : Dev nD → S320000.Idx → Elt F .f32)

/-- The barrier semaphores of a SparseCore's tasks, at zero. -/
abbrev bars (d : Dev nD) (c : Fin ((K (F := F)).nCore 0)) : sProp 𝕄 :=
  bigSep Finset.univ fun i : Fin ((K (F := F)).nSub 0) => semVal (bcell d (coreOf c) ((K (F := F)).sub 0 i)) 0

/-- A core's share of what is only read. -/
abbrev half (c : Fin ((K (F := F)).nCore 0)) : PosShare TreeShare := leaf 1 fullShare (Fin.cast nCore_zero c)
/-- A task's share of it. -/
abbrev part16 (c : Fin ((K (F := F)).nCore 0)) (i : Fin ((K (F := F)).nSub 0)) : PosShare TreeShare := leaf 4 (half c) (Fin.cast nSub_zero i)

/-- What a core is given, what it gives back; what a task is given, what it gives back. -/
abbrev stP (d : Dev nD) (c : Fin ((K (F := F)).nCore 0)) : sProp 𝕄 :=
  iprop(Reads X E2 E3 E4 d (half c) ∗ bigSep Finset.univ fun i : Fin ((K (F := F)).nSub 0) => RowsAny (F := F) d (pt c i))
abbrev dnP (d : Dev nD) (c : Fin ((K (F := F)).nCore 0)) : sProp 𝕄 :=
  iprop((Reads X E2 E3 E4 d (half c) ∗ bigSep Finset.univ fun i : Fin ((K (F := F)).nSub 0) => RowsDone d (pt c i) X E2 E3 E4) ∗ bars d c)
abbrev goP (d : Dev nD) (c : Fin ((K (F := F)).nCore 0)) (i : Fin ((K (F := F)).nSub 0)) : sProp 𝕄 :=
  iprop(Reads X E2 E3 E4 d (part16 c i) ∗ RowsAny (F := F) d (pt c i) ∗ ∃ f, shPts d (coreOf c) (shSet (Fin.cast nSub_zero i)) fullShare f)
abbrev tdP (d : Dev nD) (c : Fin ((K (F := F)).nCore 0)) (i : Fin ((K (F := F)).nSub 0)) : sProp 𝕄 :=
  iprop((Reads X E2 E3 E4 d (part16 c i) ∗ RowsDone d (pt c i) X E2 E3 E4 ∗ shPts d (coreOf c) Finset.univ (leaf 4 fullShare (Fin.cast nSub_zero i)) (X d))
    ∗ semVal (bcell d (coreOf c) ((K (F := F)).sub 0 i)) 0)

instance reads_storable (d : Dev nD) (q : PosShare TreeShare) : BI.Storable (upEmb : UEmb _ 𝕄) (Reads X E2 E3 E4 d q) := by unfold Reads; infer_instance
instance any_storable (d : Dev nD) (i : grid1.Coords) : BI.Storable (upEmb : UEmb _ 𝕄) (RowsAny (F := F) d i) := by unfold RowsAny; infer_instance
instance done_storable (d : Dev nD) (i : grid1.Coords) : BI.Storable (upEmb : UEmb _ 𝕄) (RowsDone d i X E2 E3 E4) := by unfold RowsDone; infer_instance

/-- What the call's handshakes carry, what each tile has of its own for the meeting, and what it owes. -/
def P : (K (F := F)).Pay (nD := nD) (Val := Elt F) (Name := ℕ) (U := UU) where
  st := fun q d c => match q with | 0 => stP X E2 E3 E4 d c
  dn := fun q d c => match q with | 0 => dnP X E2 E3 E4 d c
  go := fun q d c i => match q with | 0 => goP X E2 E3 E4 d c i
  td := fun q d c i => match q with | 0 => tdP X E2 E3 E4 d c i
  x := fun _ thr => match thr with
    | (d, .scVector c i) => bkit X d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P X E2 E3 E4).IsStorable where
  st q d c := match q with | 0 => (inferInstance : BI.Storable (upEmb : UEmb _ 𝕄) (stP X E2 E3 E4 d c))
  dn q d c := match q with | 0 => (inferInstance : BI.Storable (upEmb : UEmb _ 𝕄) (dnP X E2 E3 E4 d c))
  go q d c i := match q with | 0 => (inferInstance : BI.Storable (upEmb : UEmb _ 𝕄) (goP X E2 E3 E4 d c i))
  td q d c i := match q with | 0 => (inferInstance : BI.Storable (upEmb : UEmb _ 𝕄) (tdP X E2 E3 E4 d c i))

/-! ## The obligation -/

theorem defs₀_vector (c : Fin τ.nSC) (s : Fin τ.nSub) :
    defs₀ (F := F) (.scVector c s) 1 ()
      = SparseCore.onTile hcore1 hsub1 (fun c s => cc1__sc_body (coordsV c s) (Memref.whole main_v1_scv) (Memref.isWhole_whole _) (Memref.whole main_v3_scv) (Memref.isWhole_whole _) (Memref.whole main_arg1_scv) (Memref.isWhole_whole _) (Memref.whole main_v4_scv) (Memref.isWhole_whole _) (Memref.whole main_v5_0_scv) (Memref.isWhole_whole _) (Memref.whole main_v5_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scratch8 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17) ⟨⟩ c s := rfl

set_option maxRecDepth 16384 in
theorem tileObl (hE2 : ∀ d z, (E2 d z).toNat < 10000) (hE3 : ∀ d z, (E3 d z).toNat < 10000) (hF : (K (F := F)).Facts) :
    (K (F := F)).TileObl (D (F := F)) 𝒱 (P X E2 E3 E4) v₀ 0 := by
  intro d c i O W hO hOlev _
  have hci : ((K (F := F)).core 0 c).val < grid1.bound 0 ∧ ((K (F := F)).sub 0 i).val < grid1.bound 1 := ⟨c.isLt, i.isLt⟩
  rw [show (P X E2 E3 E4).ox 0 (V d ((K (F := F)).core 0 c) ((K (F := F)).sub 0 i)) = oxV d ((K (F := F)).core 0 c) from rfl,
    show (P X E2 E3 E4).x 0 (V d ((K (F := F)).core 0 c) ((K (F := F)).sub 0 i)) = bkit X d ((K (F := F)).core 0 c) ((K (F := F)).sub 0 i) from rfl]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) X E2 E3 E4 (hE2 d) (hE3 d) (part16 c i) hF O W hO hOlev

/-! ## The split among the tiles -/

theorem four_leaves {ℓ1 ℓ2 ℓ3 ℓ4 : Loc nD τ sig} (f1 : Buf (Elt F) ℓ1) (f2 : Buf (Elt F) ℓ2) (f3 : Buf (Elt F) ℓ3) (f4 : Buf (Elt F) ℓ4) (q : PosShare TreeShare) (n : Nat) :
    (iprop((ℓ1 ↦{q} f1) ∗ (ℓ2 ↦{q} f2) ∗ (ℓ3 ↦{q} f3) ∗ (ℓ4 ↦{q} f4)) : sProp 𝕄)
      = bigSep Finset.univ fun i : Fin (2 ^ n) => iprop((ℓ1 ↦{leaf n q i} f1) ∗ (ℓ2 ↦{leaf n q i} f2) ∗ (ℓ3 ↦{leaf n q i} f3) ∗ (ℓ4 ↦{leaf n q i} f4)) := by
  rw [bigSep_sep', bigSep_sep', bigSep_sep', pointsTo_leaves (ℓ := ℓ1) Finset.univ f1 n q,
    pointsTo_leaves (ℓ := ℓ2) Finset.univ f2 n q, pointsTo_leaves (ℓ := ℓ3) Finset.univ f3 n q, pointsTo_leaves (ℓ := ℓ4) Finset.univ f4 n q]

theorem reads_leaves (d : Dev nD) (q : PosShare TreeShare) (n : Nat) :
    Reads X E2 E3 E4 d q = bigSep Finset.univ fun i : Fin (2 ^ n) => Reads X E2 E3 E4 d (leaf n q i) := by
  unfold Reads
  exact four_leaves (F := F) _ _ _ _ q n

theorem reads_tasks (d : Dev nD) (c : Fin ((K (F := F)).nCore 0)) :
    Reads X E2 E3 E4 d (half c) = bigSep Finset.univ fun i : Fin ((K (F := F)).nSub 0) => Reads X E2 E3 E4 d (part16 c i) :=
  reads_leaves X E2 E3 E4 d (half c) 4

theorem reads_cores (d : Dev nD) :
    Reads X E2 E3 E4 d fullShare = bigSep Finset.univ fun c : Fin ((K (F := F)).nCore 0) => Reads X E2 E3 E4 d (half c) :=
  reads_leaves X E2 E3 E4 d fullShare 1

/-- The shared table among the sequencer's buffers. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- The shared table, by the rows the tiles stage. -/
theorem shared_rows (d : Dev nD) (c : Fin τ.nSC) :
    (iprop(∃ f, shLoc d c ↦{fullShare} f) : sProp 𝕄) ⊢ bigSep Finset.univ fun i : Fin 16 => iprop(∃ f, shPts (F := F) d c (shSet i) fullShare f) := by
  iintro ⟨%f, H⟩
  iapply (SparseCore.ent (bigSep_mono (Φ := fun i => shPts (F := F) d c (shSet i) fullShare f)
      (Ψ := fun i => iprop(∃ f, shPts (F := F) d c (shSet i) fullShare f))
      fun i _ => BI.BIClass.exists_intro (Φ := fun f => shPts (F := F) d c (shSet i) fullShare f) f))
  unfold shPts
  rw [← pointsTo_biUnion Finset.univ (ℓ := shLoc d c) shSet shSet_disjoint, shSet_cover]
  iexact H

/-- The tiles' sixteenths of the shared table are it. -/
theorem shared_join (d : Dev nD) (c : Fin τ.nSC) :
    (bigSep Finset.univ fun i : Fin 16 => shPts (F := F) d c Finset.univ (leaf 4 fullShare i) (X d)) ⊢ (iprop(∃ f, shLoc d c ↦{fullShare} f) : sProp 𝕄) := by
  iintro H
  iexists (X d)
  rw [pointsTo_leaves (ℓ := shLoc d c) Finset.univ (X d) 4 fullShare]
  iexact H

theorem vecSplit : (K (F := F)).VecSplit (P X E2 E3 E4) 0 := by
  intro d c
  show iprop(stP X E2 E3 E4 d c ∗ ownBufs (S d (coreOf c))) ⊢ |={Set.univ}=> iprop(
      (bigSep Finset.univ fun i : Fin ((K (F := F)).nSub 0) => goP X E2 E3 E4 d c i)
      ∗ ((bigSep Finset.univ fun i : Fin ((K (F := F)).nSub 0) => tdP X E2 E3 E4 d c i) -∗ iprop(dnP X E2 E3 E4 d c ∗ ownBufs (S d (coreOf c)))))
  unfold stP dnP goP tdP
  rw [bigSep_sep', bigSep_sep', bigSep_sep', bigSep_sep', bigSep_sep', reads_tasks, ownBufs_S]
  iintro ⟨⟨Hr, Hrows⟩, Hsh, Hrest⟩; imodintro
  isplitl [Hr Hrows Hsh]
  · isplitl [Hr]; · iexact Hr
    isplitl [Hrows]; · iexact Hrows
    ihave Hsh := (shared_rows (F := F) d (coreOf c)) $$ Hsh
    iexact Hsh
  iintro ⟨⟨Hr, Hrows, Hsh⟩, Hbars⟩
  isplitl [Hr Hrows Hbars]
  · isplitr [Hbars]; swap; · iexact Hbars
    isplitl [Hr]; · iexact Hr
    iexact Hrows
  isplitl [Hsh]; · iapply (shared_join X d (coreOf c)); iexact Hsh
  iexact Hrest

/-! ## The results' rows, of all the tiles -/

theorem outSet_disjoint : ∀ p ∈ (Finset.univ : Finset (Fin 2 × Fin 16)), ∀ p' ∈ (Finset.univ : Finset (Fin 2 × Fin 16)), p ≠ p' →
    Disjoint (outSet (coordsV p.1 p.2)) (outSet (coordsV p'.1 p'.2)) := by
  rintro ⟨c, i⟩ _ ⟨c', i'⟩ _ h
  rw [Finset.disjoint_left]
  intro z hz hz'
  have h1 : (z 0).val = 2 * i.val + c.val := (Finset.mem_filter.mp hz).2
  have h2 : (z 0).val = 2 * i'.val + c'.val := (Finset.mem_filter.mp hz').2
  exact h (Prod.ext (Fin.ext (by show c.val = c'.val; omega)) (Fin.ext (by show i.val = i'.val; omega)))

theorem outSet_cover : (Finset.univ : Finset (Fin 2 × Fin 16)).biUnion (fun p => outSet (coordsV p.1 p.2)) = Finset.univ := by
  ext z
  simp only [Finset.mem_biUnion, Finset.mem_univ, true_and, iff_true]
  have hz : (z 0).val < 32 := (z 0).isLt
  refine ⟨(⟨(z 0).val % 2, by omega⟩, ⟨(z 0).val / 2, by omega⟩), Finset.mem_filter.mpr ⟨Finset.mem_univ _, ?_⟩⟩
  show (z 0).val = 2 * ((z 0).val / 2) + (z 0).val % 2
  omega

theorem v50_rows (d : Dev nD) (f : S32x16.Idx → Elt F .f32) :
    ((SparseCore.T d).loc main_v5_0 ↦{fullShare} f : sProp 𝕄) = bigSep Finset.univ fun c : Fin 2 => bigSep Finset.univ fun i : Fin 16 => (SparseCore.T d).loc main_v5_0 ↦[outSet (coordsV c i)]{fullShare} f := by
  rw [← bigSep_univ_prod (fun p : Fin 2 × Fin 16 => ((SparseCore.T d).loc main_v5_0 ↦[outSet (coordsV p.1 p.2)]{fullShare} f : sProp 𝕄)),
    ← pointsTo_biUnion Finset.univ (ℓ := (SparseCore.T d).loc main_v5_0) (fun p : Fin 2 × Fin 16 => outSet (coordsV p.1 p.2)) outSet_disjoint, outSet_cover]
theorem v51_rows (d : Dev nD) (f : S32x16.Idx → Elt F .f32) :
    ((SparseCore.T d).loc main_v5_1 ↦{fullShare} f : sProp 𝕄) = bigSep Finset.univ fun c : Fin 2 => bigSep Finset.univ fun i : Fin 16 => (SparseCore.T d).loc main_v5_1 ↦[outSet (coordsV c i)]{fullShare} f := by
  rw [← bigSep_univ_prod (fun p : Fin 2 × Fin 16 => ((SparseCore.T d).loc main_v5_1 ↦[outSet (coordsV p.1 p.2)]{fullShare} f : sProp 𝕄)),
    ← pointsTo_biUnion Finset.univ (ℓ := (SparseCore.T d).loc main_v5_1) (fun p : Fin 2 × Fin 16 => outSet (coordsV p.1 p.2)) outSet_disjoint, outSet_cover]

/-- What the call is given, from what the program holds. -/
theorem st_intro (d : Dev nD) (f0 f1 : S32x16.Idx → Elt F .f32) :
    iprop(Reads X E2 E3 E4 d fullShare ∗ ((SparseCore.T d).loc main_v5_0 ↦{fullShare} f0) ∗ ((SparseCore.T d).loc main_v5_1 ↦{fullShare} f1))
      ⊢ (bigSep Finset.univ fun c : Fin ((K (F := F)).nCore 0) => (P X E2 E3 E4).st 0 d c : sProp 𝕄) := by
  show _ ⊢ bigSep Finset.univ fun c : Fin ((K (F := F)).nCore 0) => stP X E2 E3 E4 d c
  unfold stP
  rw [bigSep_sep', reads_cores, v50_rows, v51_rows]
  iintro ⟨Hr, H0, H1⟩
  isplitl [Hr]; · iexact Hr
  iapply (show iprop((bigSep Finset.univ fun c : Fin 2 => bigSep Finset.univ fun i : Fin 16 => ((SparseCore.T d).loc main_v5_0 ↦[outSet (coordsV c i)]{fullShare} f0 : sProp 𝕄))
      ∗ bigSep Finset.univ fun c : Fin 2 => bigSep Finset.univ fun i : Fin 16 => ((SparseCore.T d).loc main_v5_1 ↦[outSet (coordsV c i)]{fullShare} f1 : sProp 𝕄))
      ⊢ bigSep Finset.univ fun c : Fin 2 => bigSep Finset.univ fun i : Fin 16 => RowsAny (F := F) d (coordsV c i) from by
    rw [← bigSep_sep']
    refine bigSep_mono fun c _ => ?_
    rw [← bigSep_sep']
    refine bigSep_mono fun i _ => ?_
    show (_ : sProp 𝕄) ⊢ _
    unfold RowsAny
    iintro ⟨H0, H1⟩
    isplitl [H0]; · iexists f0; iexact H0
    iexists f1; iexact H1)
  isplitl [H0]; · iexact H0
  iexact H1

/-- What the program has of the call's end. -/
theorem dn_elim (d : Dev nD) :
    (bigSep Finset.univ fun c : Fin ((K (F := F)).nCore 0) => (P X E2 E3 E4).dn 0 d c : sProp 𝕄)
      ⊢ iprop(Reads X E2 E3 E4 d fullShare ∗ ((SparseCore.T d).loc main_v5_0 ↦{fullShare} outSums (X d) (E2 d) (E3 d) (E4 d))
        ∗ ((SparseCore.T d).loc main_v5_1 ↦{fullShare} outCounts (E4 d)) ∗ bigSep Finset.univ fun c : Fin ((K (F := F)).nCore 0) => bars d c) := by
  show (bigSep Finset.univ fun c : Fin ((K (F := F)).nCore 0) => dnP X E2 E3 E4 d c) ⊢ _
  unfold dnP
  rw [bigSep_sep', bigSep_sep', reads_cores, v50_rows, v51_rows]
  iintro ⟨⟨Hr, H⟩, Hb⟩
  isplitl [Hr]; · iexact Hr
  ihave H := (show (bigSep Finset.univ fun c : Fin ((K (F := F)).nCore 0) => bigSep Finset.univ fun i : Fin ((K (F := F)).nSub 0) => RowsDone d (pt c i) X E2 E3 E4 : sProp 𝕄)
      ⊢ iprop((bigSep Finset.univ fun c : Fin 2 => bigSep Finset.univ fun i : Fin 16 => ((SparseCore.T d).loc main_v5_0 ↦[outSet (coordsV c i)]{fullShare} outSums (X d) (E2 d) (E3 d) (E4 d) : sProp 𝕄))
      ∗ bigSep Finset.univ fun c : Fin 2 => bigSep Finset.univ fun i : Fin 16 => ((SparseCore.T d).loc main_v5_1 ↦[outSet (coordsV c i)]{fullShare} outCounts (E4 d) : sProp 𝕄)) from by
    rw [← bigSep_sep']
    refine bigSep_mono fun c _ => ?_
    rw [← bigSep_sep']
    exact bigSep_mono fun i _ => (show (_ : sProp 𝕄) ⊢ _ from .rfl)) $$ H
  icases H with ⟨H0, H1⟩
  isplitl [H0]; · iexact H0
  isplitl [H1]; · iexact H1
  iexact Hb

end Cert.KernelIdeal.Tile
-- ==== Proof.Launch.lean ====
/- The ghost state the launch deals: every tile its barrier kit, every device its pipelines' rounds. -/
module

public import proofs.«01_k».proof.Proof.Deal
public import proofs.«01_k».proof.Proof.Gen.KernelIdeal.Launch
public import Idealize.ShloMosaic.Lib.Pipeline.Regions

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

variable (X : Dev nD → S10112x128.Idx → Elt F .f32) (E2 E3 : Dev nD → S320000.Idx → Elt F .i32) (E4 : Dev nD → S320000.Idx → Elt F .f32)

/-- A tile: its device, SparseCore and subcore. -/
abbrev Tl : Type := Dev nD × Fin τ.nSC × Fin τ.nSub
abbrev tcell (x : Tl) : GSem nD τ sig := bcell x.1 x.2.1 x.2.2

/-- Every tile's barrier cell. -/
def bCells : Finset (GSem nD τ sig) := (Finset.univ : Finset Tl).image tcell
/-- A token in each tile's cell for each tile of its SparseCore. -/
def bToks : Finset (GSem nD τ sig × ℕ × ℕ) :=
  ((Finset.univ : Finset Tl) ×ˢ (Finset.univ : Finset (Fin (grid1.bound 1)))).image
    fun x => (bcell x.1.1 x.1.2.1 (x.2.castLE hsub1), 0, x.1.2.2.val)

/-- No pipeline prefetches a table. -/
abbrev adm : (p : Fin 2) → (pcfgs (F := F) p).Adm := fun p => (cfgs p).toPCfg_adm
abbrev pcell : Function.Injective (Pipeline.cellOf (nD := nD) (τ := τ) (Pipeline.pin (pcfgs (F := F)) adm)) := cellOf_inj

def u₀ : UU := (initOf (K (F := F)).hsCells (K (F := F)).hsToks, (initOf bCells bToks,
  (initOf (Pipeline.cells (Pipeline.pin (pcfgs (F := F)) adm) pcell) (Pipeline.launchToks (Pipeline.pin (pcfgs (F := F)) adm) pcell), 1)))

omit [FloatOps F] in
theorem emps {I : Type} (s : Finset I) : (bigSep s fun _ => iprop(emp)) = (iprop(emp) : sProp 𝕄) := bigSep_emp_const s

omit [FloatOps F] in
theorem tcell_inj : Function.Injective (tcell : Tl → GSem nD τ sig) := by
  rintro ⟨d, c, i⟩ ⟨d', c', i'⟩ e
  have e1 := Prod.mk.inj e
  have e2 := Prod.mk.inj e1.1
  have e3 := Proc.scVector.inj e2.2
  obtain rfl := e2.1; obtain rfl := e3.1; obtain rfl := e3.2
  rfl

omit [FloatOps F] in
theorem over_bCells (Φ : GSem nD τ sig → sProp 𝕄) : bigSep bCells Φ = bigSep Finset.univ fun x : Tl => Φ (tcell x) := by
  unfold bCells; exact SparseCore.bigSep_image_of_injOn (fun a _ b _ e => tcell_inj e) Φ

omit [FloatOps F] in
theorem over_bToks : (bigSep bToks fun x => (dutyTok EB x.1 x.2.1 x.2.2 : sProp 𝕄))
    = bigSep Finset.univ fun x : Tl => bigSep Finset.univ fun j : Fin (grid1.bound 1) => dutyTok EB (bcell x.1 x.2.1 (j.castLE hsub1)) 0 x.2.2.val := by
  unfold bToks
  rw [SparseCore.bigSep_image_of_injOn, SparseCore.bigSep_product]
  rintro ⟨⟨d, c, i⟩, j⟩ - ⟨⟨d', c', i'⟩, j'⟩ - e
  have e1 := Prod.mk.inj e
  have e2 := Prod.mk.inj (Prod.mk.inj e1.1).1
  have e3 := Proc.scVector.inj e2.2
  obtain rfl := e2.1
  obtain rfl := e3.1
  obtain rfl : i = i' := Fin.ext (Prod.mk.inj e1.2).2
  obtain rfl : j = j' := Fin.ext (congrArg Fin.val e3.2)
  rfl

omit [FloatOps F] in
/-- The launch element, by its parts. -/
theorem ownU_parts (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a) ∗ ownU ((1, (b, (p, 1))) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (ownU ((1, (b, (p, 1))) : UU) : sProp 𝕄) ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_one_op (1 : UH)) (Prod.mk_mem_op (URA.mem_op_one b) (URA.mem_one_op (p, (1 : Counters))))))
  iintro H
  ihave H := h1 $$ H
  icases H with ⟨Ha, H⟩
  isplitl [Ha]; · iexact Ha
  iapply h2; iexact H

/-- The barrier semaphores at zero, among those no handshake uses. -/
theorem bars_zero : ((K (F := F)).freeOn (· ∈ bCells) : sProp 𝕄) ⊢ bigSep bCells fun g => semVal g 0 := by
  rw [over_bCells]
  unfold SparseCore.Cfg.freeOn
  refine sep_elim_right.trans (bigSep_mono fun x _ => ?_)
  exact bigSep_elim (Φ := fun sm : SemLoc sig => (semVal (V x.1 x.2.1 x.2.2, sm) 0 : sProp 𝕄)) (Finset.mem_filter.mpr
    ⟨Finset.mem_erase.mpr ⟨fun h => sc_bar0_ne_go (SemLoc.reg.inj h), Finset.mem_filter.mpr ⟨Finset.mem_univ _, by decide⟩⟩,
      Finset.mem_image_of_mem tcell (Finset.mem_univ x)⟩)

theorem bars_alloc : iprop((bigSep bCells fun g => (semVal g 0 : sProp 𝕄)) ∗ bigSep bCells fun g => roundState EB (bRd (F := F) X) g 0)
    ⊢ |={Set.univ}=> iprop(∃ κ : GSem nD τ sig → ℕ, bigSep bCells fun g => cellInv EB (bRd (F := F) X) (κ g) g) := by
  refine (Rounds.bodies_intro EB (bRd (F := F) X) bCells).trans ((inv_alloc_family bCells (Rounds.body EB (bRd (F := F) X)) ∅ (E := Set.univ)).trans ?_)
  iintro H
  imod H with ⟨%κ, -, H⟩
  imodintro; iexists κ; iexact H

omit [FloatOps F] in
theorem units_add (g : GSem nD τ sig) (ι : HIx 1) (n : ℕ) : ∑ _ : Fin n, tallyAt g ι 1 = (tallyAt g ι n : CellTallies nD τ sig (HIx 1)) := by
  induction n with
  | zero => rw [tallyAt_zero]; rfl
  | succ n ih => rw [Fin.sum_univ_castSucc, ih, tallyAt_add]

theorem ox_tile (d : Dev nD) (c : Fin τ.nSC) (i : Fin τ.nSub) : (P X E2 E3 E4).oxFrom 0 (V d c i) = oxV d c := by
  rw [show (0 : ℕ) = (0 : Fin 1).val from rfl, (P X E2 E3 E4).oxFrom_step, (P X E2 E3 E4).oxFrom_end _ (n := (0 : Fin 1).val + 1) le_rfl, add_zero]
  rfl

/-- Each tile the credit of its own cell, out of what all the tiles owe. -/
theorem credit : ((P X E2 E3 E4).oxCred : sProp 𝕄) ⊢ bigSep Finset.univ fun x : Tl => cred (tallyAt (tcell x) (some 0) (grid1.bound 1)) := by
  unfold SparseCore.Cfg.Pay.oxCred
  rw [SparseCore.Cfg.bigSep_threads (fun thr : Thread nD τ => (cred ((P X E2 E3 E4).oxFrom 0 thr) : sProp 𝕄))]
  refine sep_elim_right.trans (sep_elim_right.trans ?_)
  rw [bigSep_univ_prod, bigSep_univ_prod (fun x : Tl => (cred (tallyAt (tcell x) (some 0) (grid1.bound 1)) : sProp 𝕄))]
  refine bigSep_mono fun d _ => ?_
  rw [bigSep_univ_prod, bigSep_univ_prod (fun ci : Fin τ.nSC × Fin τ.nSub => (cred (tallyAt (tcell (d, ci)) (some 0) (grid1.bound 1)) : sProp 𝕄))]
  refine bigSep_mono fun c _ => ?_
  dsimp only
  simp only [ox_tile]
  unfold oxV
  rw [SparseCore.Cfg.cred_finsum, bigSep_univ_comm]
  refine bigSep_mono fun j _ => ?_
  rw [← SparseCore.Cfg.cred_finsum, units_add]; rfl

omit [FloatOps F] in
/-- A persistent fact goes to every conjunct. -/
theorem bigSep_share {I : Type} [DecidableEq I] {R : sProp 𝕄} [BI.Persistent R] (s : Finset I) {Φ Ψ : I → sProp 𝕄}
    (h : ∀ i, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, Ha, Hs⟩
    isplitl [Ha]
    · iapply (h a); isplitr; · iexact HR
      iexact Ha
    iapply ih; isplitr; · iexact HR
    iexact Hs

omit [FloatOps F] in
theorem bigSep_persist {I J : Type} [DecidableEq I] [DecidableEq J] {Φ : I → sProp 𝕄} {s : Finset I} [BI.Persistent (bigSep s Φ)] (f : J → I) (t : Finset J) (hf : ∀ j, f j ∈ s) :
    bigSep s Φ ⊢ bigSep t fun j => Φ (f j) := by
  iintro #H
  iapply (SparseCore.ent (bigSep_share (R := bigSep s Φ) t (Φ := fun _ => iprop(emp)) (Ψ := fun j => Φ (f j))
    fun j => sep_elim_left.trans (bigSep_elim (hf j))))
  isplitl; · iexact H
  rw [emps]; iempintro

/-- What the tiles share: the cells' invariants, and that each has reached its round. -/
abbrev shared : sProp 𝕄 :=
  iprop((∃ κ : GSem nD τ sig → ℕ, bigSep Finset.univ fun x : Tl => cellInv EB (bRd (F := F) X) (κ (tcell x)) (tcell x))
    ∗ bigSep Finset.univ fun x : Tl => reached EB (tcell x) 0)
/-- What is a tile's own: its position, its tokens, its credit. -/
abbrev mine (x : Tl) : sProp 𝕄 :=
  iprop(atPos EB (tcell x) 0 ∅ 0
    ∗ (bigSep Finset.univ fun j : Fin (grid1.bound 1) => dutyTok EB (bcell x.1 x.2.1 (j.castLE hsub1)) 0 x.2.2.val)
    ∗ cred (tallyAt (tcell x) (some 0) (grid1.bound 1)))

theorem kit_of (x : Tl) : iprop(shared (F := F) X ∗ mine x) ⊢ (bkit (F := F) X x.1 x.2.1 x.2.2 : sProp 𝕄) := by
  obtain ⟨d, c, i⟩ := x
  iintro ⟨⟨#Hinv, #Hr⟩, Hat, Htok, Hcred⟩
  unfold bkit
  isplitr
  · icases Hinv with ⟨%κ, Hinv⟩
    iexists κ
    iapply (bigSep_persist (Φ := fun x : Tl => (cellInv EB (bRd (F := F) X) (κ (tcell x)) (tcell x) : sProp 𝕄)) (s := Finset.univ)
      (fun j : Fin (grid1.bound 1) => ((d, c, j.castLE hsub1) : Tl)) Finset.univ fun _ => Finset.mem_univ _)
    iexact Hinv
  isplitl [Htok]; · iexact Htok
  isplitr
  · iapply (bigSep_persist (Φ := fun x : Tl => (reached EB (tcell x) 0 : sProp 𝕄)) (s := Finset.univ)
      (fun j : Fin (grid1.bound 1) => ((d, c, j.castLE hsub1) : Tl)) Finset.univ fun _ => Finset.mem_univ _)
    iexact Hr
  isplitl [Hat]; · iexact Hat
  iexact Hcred

theorem kits :
    iprop(shared (F := F) X ∗ (bigSep Finset.univ fun x : Tl => atPos EB (tcell x) 0 ∅ 0)
        ∗ (bigSep Finset.univ fun x : Tl => bigSep Finset.univ fun j : Fin (grid1.bound 1) => dutyTok EB (bcell x.1 x.2.1 (j.castLE hsub1)) 0 x.2.2.val)
        ∗ (bigSep Finset.univ fun x : Tl => cred (tallyAt (tcell x) (some 0) (grid1.bound 1))))
      ⊢ (bigSep Finset.univ fun thr : Thread nD τ => bigSep Finset.univ fun q : Fin 1 => (P X E2 E3 E4).x q thr : sProp 𝕄) := by
  rw [SparseCore.Cfg.bigSep_threads (fun thr : Thread nD τ => bigSep Finset.univ fun q : Fin 1 => (P X E2 E3 E4).x q thr)]
  have hT : ∀ d : Dev nD, (bigSep Finset.univ fun q : Fin 1 => (P X E2 E3 E4).x q (SparseCore.T d)) = (iprop(emp) : sProp 𝕄) :=
    fun d => bigSep_univ_of_subsingleton (0 : Fin 1)
  have hS : ∀ (d : Dev nD) (c : Fin τ.nSC), (bigSep Finset.univ fun q : Fin 1 => (P X E2 E3 E4).x q (S d c)) = (iprop(emp) : sProp 𝕄) :=
    fun d c => bigSep_univ_of_subsingleton (0 : Fin 1)
  have hV : ∀ (d : Dev nD) (c : Fin τ.nSC) (i : Fin τ.nSub), (bigSep Finset.univ fun q : Fin 1 => (P X E2 E3 E4).x q (V d c i)) = bkit X d c i :=
    fun d c i => bigSep_univ_of_subsingleton (0 : Fin 1)
  simp only [hT, hS, hV, emps]
  iintro ⟨#Hsh, Hat, Htok, Hcred⟩
  isplitr; · iempintro
  isplitr; · iempintro
  iapply (bigSep_share (R := shared (F := F) X) Finset.univ (Φ := mine (F := F)) (Ψ := fun x : Tl => bkit (F := F) X x.1 x.2.1 x.2.2) fun x => kit_of X x)
  isplitr; · iexact Hsh
  unfold mine
  rw [bigSep_sep', bigSep_sep']
  isplitl [Hat]; · iexact Hat
  isplitl [Htok]; · iexact Htok
  iexact Hcred

/-- What a device's TensorCore is dealt: its two pipelines' ghost state. -/
abbrev pipes (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

theorem hu₀ : iprop(ownU (u₀ (F := F)) ∗ (P X E2 E3 E4).oxCred ∗ (K (F := F)).freeOn (· ∈ bCells))
    ⊢ |={Set.univ}=> iprop(BI.own (EH (initOf (K (F := F)).hsCells (K (F := F)).hsToks)) ∗ (bigSep Finset.univ fun d : Dev nD => pipes d)
        ∗ (bigSep Finset.univ fun thr : Thread nD τ => bigSep Finset.univ fun q : Fin 1 => (P X E2 E3 E4).x q thr) : sProp 𝕄) := by
  unfold u₀
  iintro ⟨Hu, Hcred, Hfree⟩
  ihave H := (ownU_parts _ _ _) $$ Hu
  icases H with ⟨HH, HB, HP⟩
  imod (Rounds.fund EB (bRd (F := F) X) bCells bToks) $$ HB with ⟨Hst, #Hr, Hat, Htok⟩
  imod (Pipeline.fund_ghost (Pipeline.pin (pcfgs (F := F)) adm) EP pcell) $$ HP with ⟨Hg, Ht⟩
  ihave Hz := (bars_zero (F := F)) $$ Hfree
  imod (bars_alloc (F := F) X) $$ [Hz Hst] with ⟨%κ, #Hinv⟩
  · isplitl [Hz] <;> iassumption
  ihave Hcred := (credit X E2 E3 E4) $$ Hcred
  ihave Hinv' := (Entails.of_eq (over_bCells (F := F) fun g => cellInv EB (bRd (F := F) X) (κ g) g)) $$ Hinv
  ihave Hr' := (Entails.of_eq (over_bCells (F := F) fun g => reached EB g 0)) $$ Hr
  ihave Hat := (Entails.of_eq (over_bCells (F := F) fun g => atPos EB g 0 ∅ 0)) $$ Hat
  ihave Htok := (Entails.of_eq (over_bToks (F := F))) $$ Htok
  imodintro
  isplitl [HH]; · iexact HH
  isplitl [Hg Ht]
  · unfold pipes
    rw [bigSep_sep']
    isplitl [Hg] <;> iassumption
  iapply (kits X E2 E3 E4)
  isplitr
  · isplitl; · iexists κ; iexact Hinv'
    iexact Hr'
  isplitl [Hat]; · iexact Hat
  isplitl [Htok]; · iexact Htok
  iexact Hcred

end Cert.KernelIdeal.Tile
-- ==== Proof.Normalise.lean ====
/- The normalising kernel's body: what it leaves in its output block. -/
module

public import proofs.«01_k».proof.Proof.Launch
public import proofs.«01_k».proof.Proof.Gen.KernelIdeal.Skeleton
public import proofs.«01_k».proof.Proof.Gen.KernelIdeal.Points
public import Idealize.ShloMosaic.Lib.Tactic
public import Idealize.ShloMosaic.Lib.Pipeline.Value

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

open Idealize.ShloMosaic.TcCoe Idealize.ShloMosaic.Tactic

abbrev TcBuf (c : Dev nD) {sp : Space} {S : Shape} {e : EltTy} (M : Memref sig .tc sp S e) : Type := Buf (Elt F) (M.view.loc (c : Thread nD τ))
abbrev held1 (c : Dev nD) {sp : Space} {S : Shape} {e : EltTy} (M : Memref sig .tc sp S e) (f : TcBuf (F := F) c M) : sProp 𝕄 :=
  M.view.loc (c : Thread nD τ) ↦{fullShare} f

theorem two_zeros : (![0, 0] : Fin 2 → Nat) = fun _ => 0 := funext fun a => by fin_cases a <;> rfl

/-- The two stores of the normalising body, last first. -/
abbrev normPieces (x : Vec F S10000x128 .f32) : List (View.Piece (Elt F) S10112x128 .f32) :=
  [⟨Rect.unit (s := S10112x128) ![10000, 0] S112x128.size inb_S10112x128_S112x128_10000_0, k0_pay2⟩,
   ⟨Rect.unit (s := S10112x128) ![0, 0] S10000x128.size inb_S10112x128_S10000x128_0_0, k0_pay1 x⟩]

/-- The block the normalising body leaves from the rows `x`. -/
def padded (x : Vec F S10000x128 .f32) : Vec F S10112x128 .f32 := View.canon (normPieces x)

theorem canon_at {s : Shape} {e : EltTy} (r : Rect s) (w : r.shape.Idx → Elt F e) (L : List (View.Piece (Elt F) s e)) (x : r.shape.Idx) (y : s.Idx)
    (h : y = r.emb x) : View.canon (⟨r, w⟩ :: L) y = w x := by rw [h]; exact View.canon_cons_emb r w L x

/-- A row below 10000 holds the normalised row. -/
theorem padded_row (x : Vec F S10000x128 .f32) (i : S10112x128.Idx) (j : S10000x128.Idx) (h0 : (i 0).val = (j 0).val) (h1 : (i 1).val = (j 1).val) :
    padded x i = k0_pay1 x j := by
  unfold padded normPieces
  have hj : (j 0).val < 10000 := (j 0).isLt
  rw [View.canon_cons_of_not_mem]
  · have e : i = (Rect.unit (s := S10112x128) ![0, 0] S10000x128.size inb_S10112x128_S10000x128_0_0).emb j := by
      funext a; apply Fin.ext
      match a with
      | ⟨0, _⟩ => show (i 0).val = 0 + 1 * (j 0).val; omega
      | ⟨1, _⟩ => show (i 1).val = 0 + 1 * (j 1).val; omega
    exact canon_at (Rect.unit (s := S10112x128) ![0, 0] S10000x128.size inb_S10112x128_S10000x128_0_0) _ _ j i e
  · rw [Rect.mem_set_unit]
    intro h
    have := (h 0).1
    have h' : 10000 ≤ (i 0).val := this
    omega

/-- The rows from 10000 on are zero. -/
theorem padded_zero (x : Vec F S10000x128 .f32) (i : S10112x128.Idx) (h : 10000 ≤ (i 0).val) :
    padded x i = Scalar.ofBits .f32 0x00000000#32 := by
  unfold padded normPieces
  have hi0 : (i 0).val < 10112 := (i 0).isLt
  have hi1 : (i 1).val < 128 := (i 1).isLt
  let j : S112x128.Idx := fun | ⟨0, _⟩ => ⟨(i 0).val - 10000, by show _ < 112; omega⟩ | ⟨1, _⟩ => ⟨(i 1).val, hi1⟩
  have e : i = (Rect.unit (s := S10112x128) ![10000, 0] S112x128.size inb_S10112x128_S112x128_10000_0).emb j := by
    funext a; apply Fin.ext
    match a with
    | ⟨0, _⟩ => show (i 0).val = 10000 + 1 * ((i 0).val - 10000); omega
    | ⟨1, _⟩ => show (i 1).val = 0 + 1 * (i 1).val; omega
  rw [e, View.canon_cons_emb]
  rfl

theorem norm_cover (x : Vec F S10000x128 .f32) (y : S10112x128.Idx) : ∃ p ∈ normPieces x, y ∈ p.1.set := by
  have hi1 : (y 1).val < 128 := (y 1).isLt
  have hi0 : (y 0).val < 10112 := (y 0).isLt
  by_cases h : (y 0).val < 10000
  · refine ⟨_, List.mem_cons_of_mem _ List.mem_cons_self, ?_⟩
    rw [Rect.mem_set_unit]
    intro a
    match a with
    | ⟨0, _⟩ => show 0 ≤ (y 0).val ∧ (y 0).val < 0 + 10000; omega
    | ⟨1, _⟩ => show 0 ≤ (y 1).val ∧ (y 1).val < 0 + 128; omega
  · refine ⟨_, List.mem_cons_self, ?_⟩
    rw [Rect.mem_set_unit]
    intro a
    match a with
    | ⟨0, _⟩ => show 10000 ≤ (y 0).val ∧ (y 0).val < 10000 + 112; omega
    | ⟨1, _⟩ => show 0 ≤ (y 1).val ∧ (y 1).val < 0 + 128; omega

/-- The body's run: the input block as it was, the output block at what the run finds. -/
noncomputable def normRun (c : Dev nD) (M0 : Memref sig .tc .vmem S10000x128 .f32) (h0 : M0.IsWhole) (M1 : Memref sig .tc .vmem S10112x128 .f32) (h1 : M1.IsWhole)
    (f0 : TcBuf (F := F) c M0) :
    { W : TcBuf (F := F) c M1 // ∀ (f1 : TcBuf (F := F) c M1) (E : Set ℕ) (Q : PUnit → sProp 𝕄),
        iprop(held1 c M0 f0 ∗ held1 c M1 f1 ∗ (iprop(held1 c M0 f0 ∗ held1 c M1 W) -∗ Q ⟨⟩))
          ⊢ wp frame (wpE (defs₀ (F := F)) 𝒱₀ c none) E (cc0__normalize_body M0 h0 M1 h1) Q } := by
  refine ⟨?_, fun f1 E Q => ?run⟩
  case run =>
    rw [cc0__normalize_body_eq_skeleton]
    unfold cc0__normalize_body_skel
    iintro ⟨H0, H1, Hk⟩
    sl_exec!
    sl_step
    iapply Hk
    isplitl [H0]; · iexact H0
    iexact H1

theorem norm_value (c : Dev nD) (M0 : Memref sig .tc .vmem S10000x128 .f32) (h0 : M0.IsWhole) (M1 : Memref sig .tc .vmem S10112x128 .f32) (h1 : M1.IsWhole)
    (f0 : TcBuf (F := F) c M0) : M1.view.read (Elt F) (normRun c M0 h0 M1 h1 f0).1 = padded (M0.view.read (Elt F) f0) := by
  have e : View.ld (M0.view.read (Elt F) f0) (Rect.unit (s := S10000x128) ![0, 0] S10000x128.size inb_S10000x128_S10000x128_0_0) = M0.view.read (Elt F) f0 :=
    View.ld_unit_zero (S := S10000x128) two_zeros _ _
  unfold normRun
  dsimp only
  sl_unfold_words
  refine (View.read_writes_eq_canon _ _ _ (norm_cover _)).trans ?_
  unfold padded
  rw [← e]; rfl

/-! The finalising body. -/

/-- The loss of the sums, the counts and the threshold. -/
abbrev lossOf (s n : Vec F S32x16 .f32) (t : Vec F S1x1 .f32) : Vec F S1x1 .f32 := k2_pay1 s n t

/-- The body's run: the inputs as they were, the output at what the run finds. -/
noncomputable def finRun (c : Dev nD) (M0 M1 : Memref sig .tc .vmem S32x16 .f32) (h0 : M0.IsWhole) (h1 : M1.IsWhole) (M2 M3 : Memref sig .tc .vmem S1x1 .f32) (h2 : M2.IsWhole) (h3 : M3.IsWhole)
    (f0 : TcBuf (F := F) c M0) (f1 : TcBuf (F := F) c M1) (f2 : TcBuf (F := F) c M2) :
    { W : TcBuf (F := F) c M3 // ∀ (f3 : TcBuf (F := F) c M3) (E : Set ℕ) (Q : PUnit → sProp 𝕄),
        iprop(held1 c M0 f0 ∗ held1 c M1 f1 ∗ held1 c M2 f2 ∗ held1 c M3 f3 ∗ (iprop(held1 c M0 f0 ∗ held1 c M1 f1 ∗ held1 c M2 f2 ∗ held1 c M3 W) -∗ Q ⟨⟩))
          ⊢ wp frame (wpE (defs₀ (F := F)) 𝒱₀ c none) E (cc2__finalize_body M0 h0 M1 h1 M2 h2 M3 h3) Q } := by
  refine ⟨?_, fun f3 E Q => ?run⟩
  case run =>
    rw [cc2__finalize_body_eq_skeleton]
    unfold cc2__finalize_body_skel
    iintro ⟨H0, H1, H2, H3, Hk⟩
    sl_exec!
    sl_step
    iapply Hk
    isplitl [H0]; · iexact H0
    isplitl [H1]; · iexact H1
    isplitl [H2]; · iexact H2
    iexact H3

theorem fin_value (c : Dev nD) (M0 M1 : Memref sig .tc .vmem S32x16 .f32) (h0 : M0.IsWhole) (h1 : M1.IsWhole) (M2 M3 : Memref sig .tc .vmem S1x1 .f32) (h2 : M2.IsWhole) (h3 : M3.IsWhole)
    (f0 : TcBuf (F := F) c M0) (f1 : TcBuf (F := F) c M1) (f2 : TcBuf (F := F) c M2) :
    M3.view.read (Elt F) (finRun c M0 M1 h0 h1 M2 M3 h2 h3 f0 f1 f2).1
      = lossOf (M0.view.read (Elt F) f0) (M1.view.read (Elt F) f1) (M2.view.read (Elt F) f2) := by
  have e0 : View.ld (M0.view.read (Elt F) f0) (Rect.unit (s := S32x16) ![0, 0] S32x16.size inb_S32x16_S32x16_0_0) = M0.view.read (Elt F) f0 :=
    View.ld_unit_zero (S := S32x16) two_zeros _ _
  have e1 : View.ld (M1.view.read (Elt F) f1) (Rect.unit (s := S32x16) ![0, 0] S32x16.size inb_S32x16_S32x16_0_0) = M1.view.read (Elt F) f1 :=
    View.ld_unit_zero (S := S32x16) two_zeros _ _
  have e2 : View.ld (M2.view.read (Elt F) f2) (Rect.unit (s := S1x1) ![0, 0] S1x1.size inb_S1x1_S1x1_0_0) = M2.view.read (Elt F) f2 :=
    View.ld_unit_zero (S := S1x1) two_zeros _ _
  unfold finRun
  dsimp only
  sl_unfold_words
  refine (View.read_writes_eq_canon _ _ _ (fun y => ⟨_, List.mem_cons_self, ?_⟩)).trans ?_
  · rw [Rect.mem_set_unit]
    intro a
    match a with
    | ⟨0, _⟩ => exact ⟨Nat.zero_le _, (y 0).isLt⟩
    | ⟨1, _⟩ => exact ⟨Nat.zero_le _, (y 1).isLt⟩
  · rw [View.canon_cons_unit_zero (S := S1x1) two_zeros]
    unfold lossOf
    rw [← e0, ← e1, ← e2]; rfl

end Cert.KernelIdeal.Tile

end
-- ==== Proof.Regions.lean ====
/- The two TensorCore kernels as regions of @main: entered and left with every unscoped buffer at a valuation. -/
module

public import proofs.«01_k».proof.Proof.Normalise
public import Idealize.ShloMosaic.Lib.Pipeline.RegionsLoop

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

open Idealize.ShloMosaic.TcCoe Idealize.ShloMosaic.Tactic
open Idealize.ShloMosaic.Pipeline (Dat Cfg Window BodyObligation cellOf)

/-- A proof data for the pipeline a region does not run: anything. -/
def anyDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- The waits on record before call `n`, at or below its level. -/
abbrev onRecord (c : Dev nD) (n : ℕ) : Set (SemLoc sig × HIx 1) := {p | (K (F := F)).lev (T c, p.1) p.2 ≤ 8 * n}

/-- What the TensorCore owes before call `n`. -/
abbrev due (c : Dev nD) (n : ℕ) : sProp 𝕄 :=
  iprop(∃ W, ⌜(K (F := F)).WBelow (T c) W (8 * n)⌝ ∗ owes (T c) ((K (F := F)).Otc c n) W)

omit [FloatOps F] in
theorem due_in (c : Dev nD) (n : ℕ) {B : Set (SemLoc sig × HIx 1)} (h : onRecord (F := F) c n ⊆ B) :
    due (F := F) c n ⊢ (Pipeline.owesWithin c ((K (F := F)).Otc c n) B : sProp 𝕄) := by
  unfold Pipeline.owesWithin
  iintro ⟨%W, %hW, HO⟩
  iexists W
  isplitr; · ipureintro; exact fun p hp => h (hW p hp)
  iexact HO

omit [FloatOps F] in
theorem due_out (c : Dev nD) (n : ℕ) {B : Set (SemLoc sig × HIx 1)} (h : ∀ p ∈ B, (K (F := F)).lev (T c, p.1) p.2 ≤ 8 * n) :
    (Pipeline.owesWithin c ((K (F := F)).Otc c n) B : sProp 𝕄) ⊢ due (F := F) c n := by
  unfold Pipeline.owesWithin
  iintro ⟨%W, %hW, HO⟩
  iexists W
  isplitr; · ipureintro; exact fun p hp => h p (hW hp)
  iexact HO

variable (V V' : (c : Dev nD) → (b : Ref sig .tc) → Buf (Elt F) ((c : Thread nD τ).loc b))

namespace N0

abbrev stg (c : Dev nD) : Vec F S10000x128 .f32 := ((cfg0.win 0).blk t0_0).view.read (Elt F) (V c main_arg2)

abbrev Φc (c : Dev nD) : sProp 𝕄 := Pipeline.scopedRest (Ix := HIx 1) (Name := ℕ) (U := UU) (Lvl := ℕ) (Val := Elt F) spec0 c

/-- The region's proof data, from the arrays at `V`. -/
def dat (c : Dev nD) : Dat τ (Elt F) (HIx 1) ℕ UU ℕ cfg0 c where
  A w := V c (Pipeline.arrRef spec0 w)
  after w _ := match w with
    | ⟨0, _⟩ => stg V c
    | ⟨1, _⟩ => padded (stg V c)
  Φ _ := Φc c
  q _ := fullShare
  owed _ := (K (F := F)).Otc c 0
  recorded _ := onRecord (F := F) c 0

def pdats : (p : Fin 2) → (c : Dev nD) → Dat τ (Elt F) (HIx 1) ℕ UU ℕ (Pipeline.pin (pcfgs (F := F)) adm p) c
  | ⟨0, _⟩ => fun c => dat V c
  | ⟨1, _⟩ => fun c => anyDat c

theorem before_in (c : Dev nD) (d : (cfg0.win 0).block.Idx → Elt F (cfg0.win 0).elt) : (dat V c).before 0 t0_0 d = stg V c := by
  unfold Dat.before; rw [if_pos (by decide)]; rfl

theorem body_obligation (c : Dev nD) : BodyObligation (dat V c) (defs₀ (F := F)) 𝒱₀ none Set.univ := fun t => by
  obtain rfl := fin_N0 t
  rw [bigSep_W0, bigSep_W0]
  simp only [owns_whole_eq]
  rw [show (dat V c).Φ t0_0.castSucc = Φc c from rfl, show (dat V c).Φ t0_0.succ = Φc c from rfl,
    show (dat V c).owesAt none t0_0.succ = (dat V c).owesAt none t0_0.castSucc from rfl]
  iintro ⟨HΦ, Howes, ⟨%d0, %f0, %hf0, H0⟩, ⟨%d1, %f1, -, H1⟩⟩
  rw [before_in] at hf0
  subst hf0
  iapply ((normRun (F := F) c (stage0_0 0) (hstage0_0 0) (stage0_1 0) (hstage0_1 0) (stg V c)).2 f1 Set.univ _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat]
  iexists _; isplitr; swap; (· iexact H1); ipureintro
  exact norm_value (F := F) c (stage0_0 0) (hstage0_0 0) (stage0_1 0) (hstage0_1 0) (stg V c)

/-- The staged block is the array. -/
theorem stg_eq (c : Dev nD) : stg V c = V c main_arg2 := by
  have hz' : (fun a => win0_0.index t0_0 a * main_arg2.ty.shape.size a) = fun _ => 0 := funext fun a => by fin_cases a <;> decide
  exact Memref.read_access_unit_zero (Elt F) main_arg2 hz' (fun a => by rw [congrFun hz' a]; simp) (V c main_arg2)

theorem flushed_eq (c : Dev nD) (t : Fin cfg0.N) (hf : (cfg0.win 1).flush t = true) :
    (dat V c).flushed 1 t = ((cfg0.win 1).blk t).view.read (Elt F) (padded (V c main_arg2) : Buf (Elt F) ((c : Thread nD τ).loc main_v4)) := by
  obtain rfl := fin_N0 t
  show padded (stg V c) = _
  rw [stg_eq]
  have hz' : (fun a => win0_1.index t0_0 a * main_v4.ty.shape.size a) = fun _ => 0 := funext fun a => by fin_cases a <;> decide
  exact (Memref.read_access_unit_zero (Elt F) main_v4 hz' (fun a => by rw [congrFun hz' a]; simp) (padded (V c main_arg2))).symm

theorem final (c : Dev nD) : (dat V c).arrAt 1 cfg0.N = (padded (V c main_arg2) : Buf (Elt F) ((c : Thread nD τ).loc main_v4)) :=
  (dat V c).arrAt_eq_of_cover 1 _ (flushed_eq V c) fun i =>
    ⟨t0_0, flush0_1 t0_0, by
      show i ∈ ((View.whole main_v4).slice (win0_1.rect t0_0)).set
      rw [View.set_slice_whole, Rect.mem_set_unit]
      intro a
      have h0 : (i 0 : Nat) < 10112 := (i 0).isLt
      have h1 : (i 1 : Nat) < 128 := (i 1).isLt
      match a with
      | ⟨0, _⟩ => show win0_1.index t0_0 0 * win0_1.size 0 ≤ (i 0 : Nat) ∧ (i 0 : Nat) < win0_1.index t0_0 0 * win0_1.size 0 + win0_1.xsize (grid0.coords t0_0) 0
                  rw [show win0_1.index t0_0 0 * win0_1.size 0 = 0 from by decide +kernel, show win0_1.xsize (grid0.coords t0_0) 0 = 10112 from by decide +kernel]; omega
      | ⟨1, _⟩ => show win0_1.index t0_0 1 * win0_1.size 1 ≤ (i 1 : Nat) ∧ (i 1 : Nat) < win0_1.index t0_0 1 * win0_1.size 1 + win0_1.xsize (grid0.coords t0_0) 1
                  rw [show win0_1.index t0_0 1 * win0_1.size 1 = 0 from by decide +kernel, show win0_1.xsize (grid0.coords t0_0) 1 = 128 from by decide +kernel]; omega⟩

set_option backward.isDefEq.respectTransparency.types false in
/-- The region: `main_v4` takes the padded normalised rows, every other buffer stays. -/
def reg (hout' : ∀ c, V' c main_v4 = padded (V c main_arg2))
    (hne : ∀ c (b : Ref sig .tc), b ≠ main_v4 → V' c b = V c b) :
    Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_of_cut (Pipeline.pin (pcfgs (F := F)) adm) (pdats V) none 0 c 0 ((K (F := F)).Otc c 0) (fun _ => rfl)
    (fun _ _ => Finset.mem_univ _) (fun _ _ => Nat.le_refl 0)
    (fun g i h => ⟨Finset.mem_univ _, lt_of_lt_of_le (Nat.succ_pos _) ((K (F := F)).lev_of_Otc_pos h)⟩)
  pre c := iprop(unscopedBufs c (V c) ∗ due (F := F) c 0)
  post c := iprop(unscopedBufs c (V' c) ∗ due (F := F) c 0)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (due_in (F := F) c 0 (B := (pdats V 0 c).bound none 0) Set.subset_union_left); iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (V' c) ((pdats V 0 c).arrAt · cfg0.N)
      (fun w => by
        fin_cases w
        · exact ((pdats V 0 c).arrAt_in 0 rfl _).trans (hne c main_arg2 (by decide)).symm
        · exact (final V c).trans (hout' c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    iapply (due_out (F := F) c 0 (B := (pdats V 0 c).bound none (Fin.last _)) (fun p hp => by
      rcases hp with hp | ⟨w, s, rfl⟩
      · exact hp
      · exact Nat.zero_le _))
    iexact HO

end N0

namespace N2

abbrev stg0 (c : Dev nD) : Vec F S32x16 .f32 := ((cfg2.win 0).blk t2_0).view.read (Elt F) (V c main_v5_0)
abbrev stg1 (c : Dev nD) : Vec F S32x16 .f32 := ((cfg2.win 1).blk t2_0).view.read (Elt F) (V c main_v5_1)
abbrev stg2 (c : Dev nD) : Vec F S1x1 .f32 := ((cfg2.win 2).blk t2_0).view.read (Elt F) (V c main_v7)

abbrev Φc (c : Dev nD) : sProp 𝕄 := Pipeline.scopedRest (Ix := HIx 1) (Name := ℕ) (U := UU) (Lvl := ℕ) (Val := Elt F) spec2 c

/-- The region's proof data, from the arrays at `V`. -/
def dat (c : Dev nD) : Dat τ (Elt F) (HIx 1) ℕ UU ℕ cfg2 c where
  A w := V c (Pipeline.arrRef spec2 w)
  after w _ := match w with
    | ⟨0, _⟩ => stg0 V c
    | ⟨1, _⟩ => stg1 V c
    | ⟨2, _⟩ => stg2 V c
    | ⟨3, _⟩ => lossOf (stg0 V c) (stg1 V c) (stg2 V c)
  Φ _ := Φc c
  q _ := fullShare
  owed _ := (K (F := F)).Otc c 1
  recorded _ := onRecord (F := F) c 1

def pdats : (p : Fin 2) → (c : Dev nD) → Dat τ (Elt F) (HIx 1) ℕ UU ℕ (Pipeline.pin (pcfgs (F := F)) adm p) c
  | ⟨0, _⟩ => fun c => anyDat c
  | ⟨1, _⟩ => fun c => dat V c

theorem before0 (c : Dev nD) (d : (cfg2.win 0).block.Idx → Elt F (cfg2.win 0).elt) : (dat V c).before 0 t2_0 d = stg0 V c := by
  unfold Dat.before; rw [if_pos (by decide)]; rfl
theorem before1 (c : Dev nD) (d : (cfg2.win 1).block.Idx → Elt F (cfg2.win 1).elt) : (dat V c).before 1 t2_0 d = stg1 V c := by
  unfold Dat.before; rw [if_pos (by decide)]; rfl
theorem before2 (c : Dev nD) (d : (cfg2.win 2).block.Idx → Elt F (cfg2.win 2).elt) : (dat V c).before 2 t2_0 d = stg2 V c := by
  unfold Dat.before; rw [if_pos (by decide)]; rfl

theorem body_obligation (c : Dev nD) : BodyObligation (dat V c) (defs₀ (F := F)) 𝒱₀ none Set.univ := fun t => by
  obtain rfl := fin_N2 t
  rw [bigSep_W2, bigSep_W2]
  simp only [owns_whole_eq]
  rw [show (dat V c).Φ t2_0.castSucc = Φc c from rfl, show (dat V c).Φ t2_0.succ = Φc c from rfl,
    show (dat V c).owesAt none t2_0.succ = (dat V c).owesAt none t2_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before0] at hf0
  rw [before1] at hf1
  rw [before2] at hf2
  subst hf0 hf1 hf2
  iapply ((finRun (F := F) c (stage2_0 0) (stage2_1 0) (hstage2_0 0) (hstage2_1 0) (stage2_2 0) (stage2_3 0) (hstage2_2 0) (hstage2_3 0) (stg0 V c) (stg1 V c) (stg2 V c)).2 f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3); ipureintro
  exact fin_value (F := F) c (stage2_0 0) (stage2_1 0) (hstage2_0 0) (hstage2_1 0) (stage2_2 0) (stage2_3 0) (hstage2_2 0) (hstage2_3 0) (stg0 V c) (stg1 V c) (stg2 V c)

theorem stg0_eq (c : Dev nD) : stg0 V c = V c main_v5_0 := by
  have hz' : (fun a => win2_0.index t2_0 a * main_v5_0.ty.shape.size a) = fun _ => 0 := funext fun a => by fin_cases a <;> decide
  exact Memref.read_access_unit_zero (Elt F) main_v5_0 hz' (fun a => by rw [congrFun hz' a]; simp) (V c main_v5_0)
theorem stg1_eq (c : Dev nD) : stg1 V c = V c main_v5_1 := by
  have hz' : (fun a => win2_1.index t2_0 a * main_v5_1.ty.shape.size a) = fun _ => 0 := funext fun a => by fin_cases a <;> decide
  exact Memref.read_access_unit_zero (Elt F) main_v5_1 hz' (fun a => by rw [congrFun hz' a]; simp) (V c main_v5_1)
theorem stg2_eq (c : Dev nD) : stg2 V c = V c main_v7 := by
  have hz' : (fun a => win2_2.index t2_0 a * main_v7.ty.shape.size a) = fun _ => 0 := funext fun a => by fin_cases a <;> decide
  exact Memref.read_access_unit_zero (Elt F) main_v7 hz' (fun a => by rw [congrFun hz' a]; simp) (V c main_v7)

theorem flushed_eq (c : Dev nD) (t : Fin cfg2.N) (hf : (cfg2.win 3).flush t = true) :
    (dat V c).flushed 3 t = ((cfg2.win 3).blk t).view.read (Elt F) (lossOf (V c main_v5_0) (V c main_v5_1) (V c main_v7) : Buf (Elt F) ((c : Thread nD τ).loc main_v8)) := by
  obtain rfl := fin_N2 t
  show lossOf (stg0 V c) (stg1 V c) (stg2 V c) = _
  rw [stg0_eq, stg1_eq, stg2_eq]
  have hz' : (fun a => win2_3.index t2_0 a * main_v8.ty.shape.size a) = fun _ => 0 := funext fun a => by fin_cases a <;> decide
  exact (Memref.read_access_unit_zero (Elt F) main_v8 hz' (fun a => by rw [congrFun hz' a]; simp) (lossOf (V c main_v5_0) (V c main_v5_1) (V c main_v7))).symm

theorem final (c : Dev nD) : (dat V c).arrAt 3 cfg2.N = (lossOf (V c main_v5_0) (V c main_v5_1) (V c main_v7) : Buf (Elt F) ((c : Thread nD τ).loc main_v8)) :=
  (dat V c).arrAt_eq_of_cover 3 _ (flushed_eq V c) fun i =>
    ⟨t2_0, flush2_3 t2_0, by
      show i ∈ ((View.whole main_v8).slice (win2_3.rect t2_0)).set
      rw [View.set_slice_whole, Rect.mem_set_unit]
      intro a
      have h0 : (i 0 : Nat) < 1 := (i 0).isLt
      have h1 : (i 1 : Nat) < 1 := (i 1).isLt
      match a with
      | ⟨0, _⟩ => show win2_3.index t2_0 0 * win2_3.size 0 ≤ (i 0 : Nat) ∧ (i 0 : Nat) < win2_3.index t2_0 0 * win2_3.size 0 + win2_3.xsize (grid2.coords t2_0) 0
                  rw [show win2_3.index t2_0 0 * win2_3.size 0 = 0 from by decide +kernel, show win2_3.xsize (grid2.coords t2_0) 0 = 1 from by decide +kernel]; omega
      | ⟨1, _⟩ => show win2_3.index t2_0 1 * win2_3.size 1 ≤ (i 1 : Nat) ∧ (i 1 : Nat) < win2_3.index t2_0 1 * win2_3.size 1 + win2_3.xsize (grid2.coords t2_0) 1
                  rw [show win2_3.index t2_0 1 * win2_3.size 1 = 0 from by decide +kernel, show win2_3.xsize (grid2.coords t2_0) 1 = 1 from by decide +kernel]; omega⟩

set_option backward.isDefEq.respectTransparency.types false in
/-- The region: `main_v8` takes the loss, every other buffer stays. -/
def reg (hout' : ∀ c, V' c main_v8 = lossOf (V c main_v5_0) (V c main_v5_1) (V c main_v7))
    (hne : ∀ c (b : Ref sig .tc), b ≠ main_v8 → V' c b = V c b) :
    Pipeline.RegionSeg (pcfgs (F := F)) adm (pdats V) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation V c).loose
  hwaits c := Pipeline.cellsWaits_of_cut (Pipeline.pin (pcfgs (F := F)) adm) (pdats V) none 1 c 0 ((K (F := F)).Otc c 1) (fun _ => rfl)
    (fun _ _ => Finset.mem_univ _) (fun _ _ => Nat.le_refl 0)
    (fun g i h => ⟨Finset.mem_univ _, lt_of_lt_of_le (Nat.succ_pos _) ((K (F := F)).lev_of_Otc_pos h)⟩)
  pre c := iprop(unscopedBufs c (V c) ∗ due (F := F) c 1)
  post c := iprop(unscopedBufs c (V' c) ∗ due (F := F) c 1)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V) launch2.win launch2.arr_whole c
      ((pdats V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (due_in (F := F) c 1 (B := (pdats V 1 c).bound none 0) Set.subset_union_left); iexact HO
    isplitr; · iempintro
    iexact Hrest
  hin c := by
    rw [show (pdats V 1 c).Φ 0 = Φc c from rfl]
    iintro ⟨-, -, Hr⟩; iexact Hr
  hout c := by
    rw [Pipeline.ownSems0_none, show (pdats V 1 c).Φ (Fin.last _) = Φc c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V) ((pdats V 1 c).share_full fun _ => rfl) (V c) (V' c) ((pdats V 1 c).arrAt · cfg2.N)
      (fun w => by
        fin_cases w
        · exact ((pdats V 1 c).arrAt_in 0 rfl _).trans (hne c main_v5_0 (by decide)).symm
        · exact ((pdats V 1 c).arrAt_in 1 rfl _).trans (hne c main_v5_1 (by decide)).symm
        · exact ((pdats V 1 c).arrAt_in 2 rfl _).trans (hne c main_v7 (by decide)).symm
        · exact (final V c).trans (hout' c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    iapply (due_out (F := F) c 1 (B := (pdats V 1 c).bound none (Fin.last _)) (fun p hp => by
      rcases hp with hp | ⟨w, s, rfl⟩
      · exact hp
      · exact Nat.zero_le _))
    iexact HO

end N2

end Cert.KernelIdeal.Tile

end
-- ==== Proof.Main.lean ====
/- @main on the TensorCore, and the program's run. -/
module

public import proofs.«01_k».proof.Proof.Regions
public import Idealize.ShloMosaic.Lib.StableHlo.Run
public import Idealize.ShloMosaic.Lib.SparseCore.Quiescent

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

open Idealize.ShloMosaic.TcCoe Idealize.ShloMosaic.Tactic

/-! The host operations of @main, in order. -/

abbrev op0 : HloOp τ sig (Elt F) := StableHlo.unary main_arg0 main_v0 ((extractStridedSlice S1x320000 ![0, 0] · slices_S2x320000_S1x320000_0_0) : (⟨S2x320000, .i32⟩ : BufTy).Contents (Elt F) → (⟨S1x320000, .i32⟩ : BufTy).Contents (Elt F))
abbrev op1 : HloOp τ sig (Elt F) := StableHlo.reshape main_v0 main_v1 (rfl : (.i32 : EltTy) = .i32) shapeCasts_S1x320000_S320000
abbrev op2 : HloOp τ sig (Elt F) := StableHlo.unary main_arg0 main_v2 ((extractStridedSlice S1x320000 ![1, 0] · slices_S2x320000_S1x320000_1_0) : (⟨S2x320000, .i32⟩ : BufTy).Contents (Elt F) → (⟨S1x320000, .i32⟩ : BufTy).Contents (Elt F))
abbrev op3 : HloOp τ sig (Elt F) := StableHlo.reshape main_v2 main_v3 (rfl : (.i32 : EltTy) = .i32) shapeCasts_S1x320000_S320000
abbrev op4 : HloOp τ sig (Elt F) := StableHlo.unary main_arg3 main_v6 (sitofp .f32 : (⟨S_, .i32⟩ : BufTy).Contents (Elt F) → (⟨S_, .f32⟩ : BufTy).Contents (Elt F))
abbrev op5 : HloOp τ sig (Elt F) := StableHlo.reshape main_v6 main_v7 (rfl : (.f32 : EltTy) = .f32) shapeCasts_S_S1x1
abbrev op6 : HloOp τ sig (Elt F) := StableHlo.reshape main_v8 main_v9 (rfl : (.f32 : EltTy) = .f32) shapeCasts_S1x1_S_

/-- A TensorCore reference as its device's buffer. -/
abbrev dr (b : Ref sig .tc) : DevRef τ sig := Proc.devRef (τ := τ) .tc b

/-- The unscoped buffers. -/
def ucRefs : Finset (DevRef τ sig) := (StableHlo.tcRefs τ sig).filter fun b => ¬ b.isScoped

omit [FloatOps F] in
theorem uc_pair {x y : Ref sig .tc} (hx : (dr x).isScoped = false) (hy : (dr y).isScoped = false) : ({dr x, dr y} : Finset (DevRef τ sig)) ⊆ ucRefs := by
  intro b hb
  rcases Finset.mem_insert.mp hb with rfl | hb
  · exact Finset.mem_filter.mpr ⟨StableHlo.devRef_mem_tcRefs x, by rw [hx]; decide⟩
  · rw [Finset.mem_singleton.mp hb]
    exact Finset.mem_filter.mpr ⟨StableHlo.devRef_mem_tcRefs y, by rw [hy]; decide⟩

theorem op0_ne (V : Valuation τ sig (Elt F)) {r : Ref sig .tc} (h : r ≠ main_v0) : op0.result V (dr r) = V (dr r) :=
  StableHlo.unary_result_ne (h := h) ..
theorem op0_sub : (op0 (F := F)).bufs ⊆ ucRefs := uc_pair (x := main_arg0) (y := main_v0) rfl rfl
theorem op1_ne (V : Valuation τ sig (Elt F)) {r : Ref sig .tc} (h : r ≠ main_v1) : op1.result V (dr r) = V (dr r) :=
  StableHlo.reshape_result_ne (h := h) ..
theorem op1_sub : (op1 (F := F)).bufs ⊆ ucRefs := uc_pair (x := main_v0) (y := main_v1) rfl rfl
theorem op2_ne (V : Valuation τ sig (Elt F)) {r : Ref sig .tc} (h : r ≠ main_v2) : op2.result V (dr r) = V (dr r) :=
  StableHlo.unary_result_ne (h := h) ..
theorem op2_sub : (op2 (F := F)).bufs ⊆ ucRefs := uc_pair (x := main_arg0) (y := main_v2) rfl rfl
theorem op3_ne (V : Valuation τ sig (Elt F)) {r : Ref sig .tc} (h : r ≠ main_v3) : op3.result V (dr r) = V (dr r) :=
  StableHlo.reshape_result_ne (h := h) ..
theorem op3_sub : (op3 (F := F)).bufs ⊆ ucRefs := uc_pair (x := main_v2) (y := main_v3) rfl rfl
theorem op4_ne (V : Valuation τ sig (Elt F)) {r : Ref sig .tc} (h : r ≠ main_v6) : op4.result V (dr r) = V (dr r) :=
  StableHlo.unary_result_ne (h := h) ..
theorem op4_sub : (op4 (F := F)).bufs ⊆ ucRefs := uc_pair (x := main_arg3) (y := main_v6) rfl rfl
theorem op5_ne (V : Valuation τ sig (Elt F)) {r : Ref sig .tc} (h : r ≠ main_v7) : op5.result V (dr r) = V (dr r) :=
  StableHlo.reshape_result_ne (h := h) ..
theorem op5_sub : (op5 (F := F)).bufs ⊆ ucRefs := uc_pair (x := main_v6) (y := main_v7) rfl rfl
theorem op6_ne (V : Valuation τ sig (Elt F)) {r : Ref sig .tc} (h : r ≠ main_v9) : op6.result V (dr r) = V (dr r) :=
  StableHlo.reshape_result_ne (h := h) ..
theorem op6_sub : (op6 (F := F)).bufs ⊆ ucRefs := uc_pair (x := main_v8) (y := main_v9) rfl rfl

variable (m : (ℓ : Loc nD τ sig) → Buf (Elt F) ℓ) (ρ : Dev nD → PrngReg)

/-- The edges' sources and destinations, and the threshold as a number. -/
def srcs (d : Dev nD) : S320000.Idx → Elt F .i32 :=
  shapeCast S320000 (extractStridedSlice S1x320000 ![0, 0] (m ((d : Thread nD τ).loc main_arg0)) slices_S2x320000_S1x320000_0_0) shapeCasts_S1x320000_S320000
def dsts (d : Dev nD) : S320000.Idx → Elt F .i32 :=
  shapeCast S320000 (extractStridedSlice S1x320000 ![1, 0] (m ((d : Thread nD τ).loc main_arg0)) slices_S2x320000_S1x320000_1_0) shapeCasts_S1x320000_S320000
def thr (d : Dev nD) : Vec F S1x1 .f32 :=
  shapeCast S1x1 (sitofp .f32 (m ((d : Thread nD τ).loc main_arg3) : S_.Idx → Elt F .i32)) shapeCasts_S_S1x1
def wts (d : Dev nD) : S320000.Idx → Elt F .f32 := m ((d : Thread nD τ).loc main_arg1)
def xrows (d : Dev nD) : S10112x128.Idx → Elt F .f32 := padded (m ((d : Thread nD τ).loc main_arg2))
/-- The program's result. -/
def result (d : Dev nD) : S_.Idx → Elt F .f32 :=
  shapeCast S_ (lossOf (outSums (xrows m d) (srcs m d) (dsts m d) (wts m d)) (outCounts (wts m d)) (thr m d)) shapeCasts_S1x1_S_

/-! The unscoped buffers' contents after each segment of @main. -/

def W0 (d : Dev nD) : Valuation τ sig (Elt F) := fun b => m (d, b)
def W1 (d : Dev nD) : Valuation τ sig (Elt F) := op3.result (op2.result (op1.result (op0.result (W0 m d))))
def W2 (d : Dev nD) : Valuation τ sig (Elt F) := Function.update (W1 m d) (dr main_v4) (xrows m d)
def W3 (d : Dev nD) : Valuation τ sig (Elt F) :=
  Function.update (Function.update (W2 m d) (dr main_v5_0) (outSums (xrows m d) (srcs m d) (dsts m d) (wts m d))) (dr main_v5_1) (outCounts (wts m d))
def W4 (d : Dev nD) : Valuation τ sig (Elt F) := op5.result (op4.result (W3 m d))
def W5 (d : Dev nD) : Valuation τ sig (Elt F) :=
  Function.update (W4 m d) (dr main_v8) (lossOf (W4 m d (dr main_v5_0)) (W4 m d (dr main_v5_1)) (W4 m d (dr main_v7)))
def W6 (d : Dev nD) : Valuation τ sig (Elt F) := op6.result (W5 m d)

omit [FloatOps F] in
theorem upd_ne {V : Valuation τ sig (Elt F)} {y r : Ref sig .tc} (v : (dr y).ty.Contents (Elt F)) (h : r ≠ y) : Function.update V (dr y) v (dr r) = V (dr r) :=
  Function.update_of_ne (StableHlo.devRef_ne_of_ne h) _ _

theorem W1_of_ne (d : Dev nD) {r : Ref sig .tc} (h0 : r ≠ main_v0) (h1 : r ≠ main_v1) (h2 : r ≠ main_v2) (h3 : r ≠ main_v3) : W1 m d (dr r) = W0 m d (dr r) := by
  unfold W1
  rw [op3_ne _ h3, op2_ne _ h2, op1_ne _ h1, op0_ne _ h0]

theorem W1_v1 (d : Dev nD) : W1 m d (dr main_v1) = srcs m d := by
  unfold W1
  rw [op3_ne (r := main_v1) _ (by decide), op2_ne (r := main_v1) _ (by decide), StableHlo.reshape_result, StableHlo.unary_result]
  rfl
theorem W1_v3 (d : Dev nD) : W1 m d (dr main_v3) = dsts m d := by
  unfold W1
  rw [StableHlo.reshape_result, StableHlo.unary_result, op1_ne (r := main_arg0) _ (by decide), op0_ne (r := main_arg0) _ (by decide)]
  rfl
theorem W2_v1 (d : Dev nD) : W2 m d (dr main_v1) = srcs m d := (upd_ne _ (by decide)).trans (W1_v1 m d)
theorem W2_v3 (d : Dev nD) : W2 m d (dr main_v3) = dsts m d := (upd_ne _ (by decide)).trans (W1_v3 m d)
theorem W2_a1 (d : Dev nD) : W2 m d (dr main_arg1) = wts m d :=
  (upd_ne _ (by decide)).trans (W1_of_ne m d (by decide) (by decide) (by decide) (by decide))
theorem W2_v4 (d : Dev nD) : W2 m d (dr main_v4) = xrows m d := Function.update_self _ _ _
theorem W3_of_ne (d : Dev nD) {r : Ref sig .tc} (h0 : r ≠ main_v5_0) (h1 : r ≠ main_v5_1) : W3 m d (dr r) = W2 m d (dr r) :=
  (upd_ne _ h1).trans (upd_ne _ h0)
theorem W3_v50 (d : Dev nD) : W3 m d (dr main_v5_0) = outSums (xrows m d) (srcs m d) (dsts m d) (wts m d) :=
  (upd_ne _ (by decide)).trans (Function.update_self _ _ _)
theorem W3_v51 (d : Dev nD) : W3 m d (dr main_v5_1) = outCounts (wts m d) := Function.update_self _ _ _
theorem W4_of_ne (d : Dev nD) {r : Ref sig .tc} (h0 : r ≠ main_v6) (h1 : r ≠ main_v7) : W4 m d (dr r) = W3 m d (dr r) := by
  unfold W4
  rw [op5_ne _ h1, op4_ne _ h0]
theorem W2_arg (d : Dev nD) {r : Ref sig .tc} (h0 : r ≠ main_v0) (h1 : r ≠ main_v1) (h2 : r ≠ main_v2) (h3 : r ≠ main_v3) (h4 : r ≠ main_v4) :
    W2 m d (dr r) = m (d, dr r) := (upd_ne _ h4).trans (W1_of_ne m d h0 h1 h2 h3)
theorem W4_v7 (d : Dev nD) : W4 m d (dr main_v7) = thr m d := by
  unfold W4
  rw [StableHlo.reshape_result, StableHlo.unary_result, W3_of_ne m d (by decide) (by decide), W2_arg m d (by decide) (by decide) (by decide) (by decide) (by decide)]
  rfl
theorem W6_v9 (d : Dev nD) : W6 m d (dr main_v9) = result m d := by
  unfold W6
  rw [StableHlo.reshape_result]
  unfold W5
  rw [Function.update_self, W4_of_ne m d (by decide) (by decide), W4_of_ne m d (by decide) (by decide), W3_v50, W3_v51, W4_v7]
  rfl
/-- An argument is as the launch found it. -/
theorem W6_arg (d : Dev nD) {r : Ref sig .tc} (h : r = main_arg0 ∨ r = main_arg1 ∨ r = main_arg2 ∨ r = main_arg3) : W6 m d (dr r) = m (d, dr r) := by
  unfold W6 W5
  have h' : ∀ y ∈ [main_v0, main_v1, main_v2, main_v3, main_v4, main_v5_0, main_v5_1, main_v6, main_v7, main_v8, main_v9], r ≠ y := by
    rcases h with rfl | rfl | rfl | rfl <;> decide
  simp only [List.forall_mem_cons] at h'
  obtain ⟨h0, h1, h2, h3, h4, h50, h51, h6, h7, h8, h9, -⟩ := h'
  rw [op6_ne _ h9, upd_ne _ h8, W4_of_ne m d h6 h7, W3_of_ne m d h50 h51, W2_arg m d h0 h1 h2 h3 h4]

/-! ## The buffers held between the segments -/

omit [FloatOps F] in
theorem unscopedBufs_held (d : Dev nD) (W : Valuation τ sig (Elt F)) :
    (unscopedBufs d (fun b => W (dr b)) : sProp 𝕄) = StableHlo.held (d : Thread nD τ) ucRefs W := by
  unfold unscopedBufs StableHlo.held ucRefs StableHlo.tcRefs
  rw [Finset.filter_map, bigSep_map]
  rfl

omit [FloatOps F] in
theorem unscopedBufs_eq (d : Dev nD) (W : (b : Ref sig .tc) → Buf (Elt F) ((d : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_arg3 ↦{fullShare} W main_arg3) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4) ∗ ((SparseCore.T d).loc main_v5_0 ↦{fullShare} W main_v5_0) ∗ ((SparseCore.T d).loc main_v5_1 ↦{fullShare} W main_v5_1) ∗ ((SparseCore.T d).loc main_v6 ↦{fullShare} W main_v6) ∗ ((SparseCore.T d).loc main_v7 ↦{fullShare} W main_v7) ∗ ((SparseCore.T d).loc main_v8 ↦{fullShare} W main_v8) ∗ ((SparseCore.T d).loc main_v9 ↦{fullShare} W main_v9)) := by
  unfold unscopedBufs
  exact bigSep_eq_bigSepL_of_eq [main_arg0, main_arg1, main_arg2, main_arg3, main_v0, main_v1, main_v2, main_v3, main_v4, main_v5_0, main_v5_1, main_v6, main_v7, main_v8, main_v9] (by decide) (by decide) _

omit [FloatOps F] in
theorem recast {ℓ : Loc nD τ sig} {f g : Buf (Elt F) ℓ} (h : f = g) : (ℓ ↦{fullShare} f : sProp 𝕄) ⊢ ℓ ↦{fullShare} g := Entails.of_eq (by rw [h])

/-- Before the SparseCore call: what it reads and writes, and the rest. -/
theorem call_in (d : Dev nD) : (unscopedBufs d (fun b => W2 m d (dr b)) : sProp 𝕄)
    ⊢ iprop((bigSep Finset.univ fun c : Fin ((K (F := F)).nCore 0) => (P (xrows m) (srcs m) (dsts m) (wts m)).st 0 d c)
      ∗ (iprop(Reads (xrows m) (srcs m) (dsts m) (wts m) d fullShare ∗ ((SparseCore.T d).loc main_v5_0 ↦{fullShare} outSums (xrows m d) (srcs m d) (dsts m d) (wts m d))
        ∗ ((SparseCore.T d).loc main_v5_1 ↦{fullShare} outCounts (wts m d))) -∗ unscopedBufs d (fun b => W3 m d (dr b)))) := by
  rw [unscopedBufs_eq, unscopedBufs_eq]
  iintro ⟨Ha0, Ha1, Ha2, Ha3, Hv0, Hv1, Hv2, Hv3, Hv4, Hv5_0, Hv5_1, Hv6, Hv7, Hv8, Hv9⟩
  isplitl [Hv1 Hv3 Ha1 Hv4 Hv5_0 Hv5_1]
  · iapply (st_intro (xrows m) (srcs m) (dsts m) (wts m) d _ _)
    unfold Reads
    isplitl [Hv1 Hv3 Ha1 Hv4]
    · isplitl [Hv1]; · iapply (recast (W2_v1 m d)); iexact Hv1
      isplitl [Hv3]; · iapply (recast (W2_v3 m d)); iexact Hv3
      isplitl [Ha1]; · iapply (recast (W2_a1 m d)); iexact Ha1
      iapply (recast (W2_v4 m d)); iexact Hv4
    isplitl [Hv5_0]; · iexact Hv5_0
    iexact Hv5_1
  unfold Reads
  iintro ⟨⟨Hv1, Hv3, Ha1, Hv4⟩, Hv5_0, Hv5_1⟩
  isplitl [Ha0]; · iapply (recast (W3_of_ne m d (r := main_arg0) (by decide) (by decide)).symm); iexact Ha0
  isplitl [Ha1]; · iapply (recast ((W3_of_ne m d (r := main_arg1) (by decide) (by decide)).trans (W2_a1 m d)).symm); iexact Ha1
  isplitl [Ha2]; · iapply (recast (W3_of_ne m d (r := main_arg2) (by decide) (by decide)).symm); iexact Ha2
  isplitl [Ha3]; · iapply (recast (W3_of_ne m d (r := main_arg3) (by decide) (by decide)).symm); iexact Ha3
  isplitl [Hv0]; · iapply (recast (W3_of_ne m d (r := main_v0) (by decide) (by decide)).symm); iexact Hv0
  isplitl [Hv1]; · iapply (recast ((W3_of_ne m d (r := main_v1) (by decide) (by decide)).trans (W2_v1 m d)).symm); iexact Hv1
  isplitl [Hv2]; · iapply (recast (W3_of_ne m d (r := main_v2) (by decide) (by decide)).symm); iexact Hv2
  isplitl [Hv3]; · iapply (recast ((W3_of_ne m d (r := main_v3) (by decide) (by decide)).trans (W2_v3 m d)).symm); iexact Hv3
  isplitl [Hv4]; · iapply (recast ((W3_of_ne m d (r := main_v4) (by decide) (by decide)).trans (W2_v4 m d)).symm); iexact Hv4
  isplitl [Hv5_0]; · iapply (recast (W3_v50 m d).symm); iexact Hv5_0
  isplitl [Hv5_1]; · iapply (recast (W3_v51 m d).symm); iexact Hv5_1
  isplitl [Hv6]; · iapply (recast (W3_of_ne m d (r := main_v6) (by decide) (by decide)).symm); iexact Hv6
  isplitl [Hv7]; · iapply (recast (W3_of_ne m d (r := main_v7) (by decide) (by decide)).symm); iexact Hv7
  isplitl [Hv8]; · iapply (recast (W3_of_ne m d (r := main_v8) (by decide) (by decide)).symm); iexact Hv8
  iapply (recast (W3_of_ne m d (r := main_v9) (by decide) (by decide)).symm); iexact Hv9

/-! ## @main -/

/-- What a device's TensorCore ends with: its buffers, and its tiles' barrier cells. -/
abbrev FIN (d : Dev nD) : sProp 𝕄 :=
  iprop(StableHlo.held (d : Thread nD τ) ucRefs (W6 m d) ∗ bigSep Finset.univ fun c : Fin ((K (F := F)).nCore 0) => bars (F := F) d c)

theorem op_step {d : Dev nD} {op : HloOp τ sig (Elt F)} (hS : op.bufs ⊆ ucRefs) (hf : op.fresh = ∅) {V : Valuation τ sig (Elt F)} {Q : PUnit → sProp 𝕄} {hp} :
    iprop(boundary (d : Thread nD τ) ∗ StableHlo.held (d : Thread nD τ) ucRefs V ∗ (iprop(boundary (d : Thread nD τ) ∗ StableHlo.held (d : Thread nD τ) ucRefs (op.result V)) -∗ Q ⟨⟩))
      ⊢ wp frame (wpE ((K (F := F)).defs (D (F := F))) 𝒱 (SparseCore.T d) none) Set.univ (hlo hp op fun _ => .ret ⟨⟩) Q := by
  iintro ⟨Hb, Hh, Hk⟩
  iapply (StableHlo.wp_hlo_within (defs := (K (F := F)).defs (D (F := F))) 𝒱 (d : Thread nD τ) none Set.univ (hp := hp) hS (hf := hf)) $$ [Hb Hh]
  · isplitl [Hb]; · iexact Hb
    iexact Hh
  iintro H
  rw [wp_ret]
  imodintro
  iapply Hk
  iexact H

variable [∀ e, Nonempty (Elt F e)]

theorem region_step {pd} {p : Fin 2} (R : Pipeline.RegionSeg (pcfgs (F := F)) adm pd none defs₀ 𝒱₀ (K (F := F)).L (K (F := F)).lev p) (d : Dev nD) (Q : PUnit → sProp 𝕄) :
    iprop((iprop(boundary (d : Thread nD τ) ∗ R.post d) -∗ Q ⟨⟩) ∗ boundary (d : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ (Prog.lift (.customCall (SparseCore.inner (Pipeline.entry p)) ())) Q := by
  iintro ⟨Hk, H⟩
  iapply ((K (F := F)).wp_liftProg (D (F := F)) 𝒱 (SparseCore.T d) Set.univ none (.op (.customCall (Pipeline.entry p) ()) .ret) Q)
  iapply (Pipeline.RegionSeg.wp (pcfgs (F := F)) adm pd none pcell EP defs₀ 𝒱₀ (K (F := F)).L (K (F := F)).lev R d none (fun _ h => nomatch h) .ret Q)
  isplitl [Hk]
  · iintro Hp
    rw [wp_ret]
    imodintro
    iapply Hk
    iexact Hp
  iexact H

/-- The two regions of @main, between the contents around them. -/
def R0 := N0.reg (fun d b => W1 m d (dr b)) (fun d b => W2 m d (dr b)) (fun d => (W2_v4 m d).trans (congrArg padded (W1_of_ne m d (by decide) (by decide) (by decide) (by decide)).symm)) (fun d b h => upd_ne _ h)
def R1 := N2.reg (fun d b => W4 m d (dr b)) (fun d b => W5 m d (dr b)) (fun d => Function.update_self _ _ _) (fun d b h => upd_ne _ h)

omit [FloatOps F] [∀ e, Nonempty (Elt F e)] in
theorem bigSep_two (Φ : Fin 2 → sProp 𝕄) : bigSep Finset.univ Φ = iprop(Φ 0 ∗ Φ 1) := by
  rw [show (Finset.univ : Finset (Fin 2)) = {0, 1} from rfl, SparseCore.bigSep_insert' (by decide), bigSep_singleton]

/-- @main on a device's TensorCore, from what the launch deals it. -/
theorem hmain (κ : GSem nD τ sig → ℕ) (d : Dev nD) :
    iprop((K (F := F)).ctx EH (P (xrows m) (srcs m) (dsts m) (wts m)) κ ∗ (K (F := F)).tcSt EH d 0 ∗ (K (F := F)).tcRes m ρ d ∗ pipes (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd pipes
  rw [show (unscopedBufs d (fun b => m ((SparseCore.T d).loc b)) : sProp 𝕄) = StableHlo.held (d : Thread nD τ) ucRefs (W0 m d) from unscopedBufs_held d (W0 m d)]
  simp only [main, wp_bind, wp_pure]
  rw [bigSep_two, bigSep_two]
  iintro ⟨#Hctx, Hst, ⟨Hb, Hh, Hts, -⟩, ⟨⟨Hg0, Hg1⟩, Ht0, Ht1⟩⟩
  ihave #Hlev := ((K (F := F)).ctx_levAts κ) $$ Hctx
  iapply (op_step (op := op0) op0_sub rfl)
  isplitl [Hb]; · iexact Hb
  isplitl [Hh]; · iexact Hh
  iintro ⟨Hb, Hh⟩
  iapply (op_step (op := op1) op1_sub rfl)
  isplitl [Hb]; · iexact Hb
  isplitl [Hh]; · iexact Hh
  iintro ⟨Hb, Hh⟩
  iapply (op_step (op := op2) op2_sub rfl)
  isplitl [Hb]; · iexact Hb
  isplitl [Hh]; · iexact Hh
  iintro ⟨Hb, Hh⟩
  iapply (op_step (op := op3) op3_sub rfl)
  isplitl [Hb]; · iexact Hb
  isplitl [Hh]; · iexact Hh
  iintro ⟨Hb, Hh⟩
  ihave Hh := (Entails.of_eq (show (StableHlo.held (d : Thread nD τ) ucRefs (op3.result (op2.result (op1.result (op0.result (W0 m d))))) : sProp 𝕄) = unscopedBufs d (fun b => W1 m d (dr b)) from (unscopedBufs_held d (W1 m d)).symm)) $$ Hh
  unfold SparseCore.Cfg.tcSt
  icases Hst with ⟨Hdue, Hst⟩
  iapply (region_step (R0 m) d _)
  isplitr [Hb Hh Hdue Hg0 Ht0]
  swap
  · isplitl [Hb]; · iexact Hb
    isplitl [Hh Hdue]
    · iapply (show iprop(unscopedBufs d (fun b => W1 m d (dr b)) ∗ due (F := F) d 0) ⊢ (R0 m).pre d from .rfl)
      isplitl [Hh]; · iexact Hh
      iexact Hdue
    isplitr; · iexact Hlev
    isplitl [Hg0]; · iexact Hg0
    iexact Ht0
  iintro ⟨Hb, Hp⟩
  ihave Hp := (show (R0 m).post d ⊢ iprop(unscopedBufs d (fun b => W2 m d (dr b)) ∗ due (F := F) d 0) from .rfl) $$ Hp
  icases Hp with ⟨Hh, Hdue⟩
  ihave Hc := (call_in m d) $$ Hh
  icases Hc with ⟨Hgive, Hback⟩
  iapply ((K (F := F)).wp_run (D (F := F)) 𝒱 (EH := EH) (P := P (xrows m) (srcs m) (dsts m) (wts m)) κ d 0)
  isplitr; · iexact Hctx
  isplitl [Hst Hdue]
  · unfold SparseCore.Cfg.tcSt
    isplitl [Hdue]; · iexact Hdue
    iexact Hst
  isplitl [Hgive]; · iexact Hgive
  iintro ⟨Hst, Hdn⟩
  ihave Hdn := (dn_elim (xrows m) (srcs m) (dsts m) (wts m) d) $$ Hdn
  icases Hdn with ⟨Hr, H0, H1, Hbars⟩
  ihave Hh := Hback $$ [Hr H0 H1]
  · isplitl [Hr]; · iexact Hr
    isplitl [H0]; · iexact H0
    iexact H1
  ihave Hh := (Entails.of_eq (unscopedBufs_held d (W3 m d))) $$ Hh
  iapply (op_step (op := op4) op4_sub rfl)
  isplitl [Hb]; · iexact Hb
  isplitl [Hh]; · iexact Hh
  iintro ⟨Hb, Hh⟩
  iapply (op_step (op := op5) op5_sub rfl)
  isplitl [Hb]; · iexact Hb
  isplitl [Hh]; · iexact Hh
  iintro ⟨Hb, Hh⟩
  ihave Hh := (Entails.of_eq (show (StableHlo.held (d : Thread nD τ) ucRefs (op5.result (op4.result (W3 m d))) : sProp 𝕄) = unscopedBufs d (fun b => W4 m d (dr b)) from (unscopedBufs_held d (W4 m d)).symm)) $$ Hh
  unfold SparseCore.Cfg.tcSt
  icases Hst with ⟨Hdue, Hst⟩
  iapply (region_step (R1 m) d _)
  isplitr [Hb Hh Hdue Hg1 Ht1]
  swap
  · isplitl [Hb]; · iexact Hb
    isplitl [Hh Hdue]
    · iapply (show iprop(unscopedBufs d (fun b => W4 m d (dr b)) ∗ due (F := F) d 1) ⊢ (R1 m).pre d from .rfl)
      isplitl [Hh]; · iexact Hh
      iexact Hdue
    isplitr; · iexact Hlev
    isplitl [Hg1]; · iexact Hg1
    iexact Ht1
  iintro ⟨Hb, Hp⟩
  ihave Hp := (show (R1 m).post d ⊢ iprop(unscopedBufs d (fun b => W5 m d (dr b)) ∗ due (F := F) d 1) from .rfl) $$ Hp
  icases Hp with ⟨Hh, Hdue⟩
  ihave Hh := (Entails.of_eq (unscopedBufs_held d (W5 m d))) $$ Hh
  iapply (op_step (op := op6) op6_sub rfl)
  isplitl [Hb]; · iexact Hb
  isplitl [Hh]; · iexact Hh
  iintro ⟨Hb, Hh⟩
  imodintro
  isplitl [Hst Hdue]
  · isplitl [Hdue]; · iexact Hdue
    iexact Hst
  isplitr [Hb Hts]
  · isplitl [Hh]; · iexact Hh
    iexact Hbars
  isplitl [Hb]; · iexact Hb
  iexact Hts

end Cert.KernelIdeal.Tile

end
-- ==== Proof.Run.lean ====
/- The kernel program's run: what it leaves in the buffers, with every counter at zero. -/
module

public import proofs.«01_k».proof.Proof.Main

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

variable (m : (ℓ : Loc nD τ sig) → Buf (Elt F) ℓ) (ρ : Dev nD → PrngReg)

/-- What a device's memory holds at the end: the arguments as they were, the result, the barrier cells at zero. -/
def fq (d : Dev nD) (s' : Phys nD τ sig (Elt F)) : Prop :=
  (∀ b ∈ ucRefs, s'.mem.mem (d, b) = W6 m d b)
    ∧ ∀ (c : Fin ((K (F := F)).nCore 0)) (i : Fin ((K (F := F)).nSub 0)), s'.mem.sem (bcell d (coreOf c) ((K (F := F)).sub 0 i)) = 0

omit [FloatOps F] in
/-- A buffer held in full is what the memory holds. -/
theorem read_back {ℓ : Loc nD τ sig} {f : Buf (Elt F) ℓ} (s' : Phys nD τ sig (Elt F)) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) :=
  fun x hx => ⟨fun b hb => ((sep_mono_left (sep_elim_left.trans (SparseCore.ent (bigSep_elim hb)))).trans (read_back s')) x hx, fun c i =>
    ((sep_mono_left (sep_elim_right.trans ((SparseCore.ent (bigSep_elim (Finset.mem_univ c))).trans (SparseCore.ent (bigSep_elim (Finset.mem_univ i)))))).trans
      (SparseCore.Cfg.semVal_zero_read _ s')) x hx⟩

/-- The cells taken at the launch end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2 ⟨c.val, c.isLt⟩ ⟨i.val, i.isLt⟩

/-- What the program's run leaves. -/
def QC : PUnit × MemSt nD τ sig (Elt F) → Prop := fun r =>
  (∀ d : Dev nD, ((((r.2.mem ((d.tc : Thread nD τ).loc main_arg0) = m ((d.tc : Thread nD τ).loc main_arg0)
    ∧ r.2.mem ((d.tc : Thread nD τ).loc main_arg1) = m ((d.tc : Thread nD τ).loc main_arg1))
    ∧ r.2.mem ((d.tc : Thread nD τ).loc main_arg2) = m ((d.tc : Thread nD τ).loc main_arg2))
    ∧ r.2.mem ((d.tc : Thread nD τ).loc main_arg3) = m ((d.tc : Thread nD τ).loc main_arg3))
    ∧ r.2.mem ((d.tc : Thread nD τ).loc main_v9) = result m d)) ∧ r.2.sem = fun _ => 0

omit [FloatOps F] in
theorem mem_uc (r : Ref sig .tc) (h : (dr r).isScoped = false) : dr r ∈ ucRefs := Finset.mem_filter.mpr ⟨StableHlo.devRef_mem_tcRefs r, by rw [h]; decide⟩

theorem end_read {s' : Phys nD τ sig (Elt F)} {d : Dev nD} (h : fq m d s') :
    (((s'.mem.mem ((d.tc : Thread nD τ).loc main_arg0) = m ((d.tc : Thread nD τ).loc main_arg0)
    ∧ s'.mem.mem ((d.tc : Thread nD τ).loc main_arg1) = m ((d.tc : Thread nD τ).loc main_arg1))
    ∧ s'.mem.mem ((d.tc : Thread nD τ).loc main_arg2) = m ((d.tc : Thread nD τ).loc main_arg2))
    ∧ s'.mem.mem ((d.tc : Thread nD τ).loc main_arg3) = m ((d.tc : Thread nD τ).loc main_arg3))
    ∧ s'.mem.mem ((d.tc : Thread nD τ).loc main_v9) = result m d :=
  ⟨⟨⟨⟨(h.1 _ (mem_uc _ rfl)).trans (W6_arg m d (.inl rfl)), (h.1 _ (mem_uc _ rfl)).trans (W6_arg m d (.inr (.inl rfl)))⟩,
    (h.1 _ (mem_uc _ rfl)).trans (W6_arg m d (.inr (.inr (.inl rfl))))⟩, (h.1 _ (mem_uc _ rfl)).trans (W6_arg m d (.inr (.inr (.inr rfl))))⟩,
    (h.1 _ (mem_uc _ rfl)).trans (W6_v9 m d)⟩

/-- The run, for edge ends in range. -/
theorem run_main [∀ e, Nonempty (Elt F e)] (h2 : ∀ (d : Dev nD) (z), BitVec.toNat (srcs m d z) < 10000) (h3 : ∀ (d : Dev nD) (z), BitVec.toNat (dsts m d z) < 10000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (xrows m) (srcs m) (dsts m) (wts m)) (hA := hA m) facts v₀
    (fun q hq => match q with | 0 => nomatch hq)
    (fun q _ => match q with | 0 => tileObl (xrows m) (srcs m) (dsts m) (wts m) h2 h3 facts)
    (fun q _ => match q with | 0 => vecSplit (xrows m) (srcs m) (dsts m) (wts m))
    m ρ main (fun d => pipes d) (FIN m) (u₀ (F := F)) (hu₀ (xrows m) (srcs m) (dsts m) (wts m)) (hmain m ρ) (fq m) (hfin m) (QC m)
    (fun _ h hz => ⟨fun d => end_read m (h d), hz⟩)

end Cert.KernelIdeal.Tile

end
-- ==== Proof.SameText.lean ====
/- The program as printed and its reading over exact values have one text: their body tables are equal over any float values. -/
module

public import proofs.«01_k».proof.Defs
public import proofs.«01_k».proof.Proof.Gen.Kernel
public import proofs.«01_k».proof.Proof.Gen.KernelIdeal

@[expose] public section

noncomputable section

namespace Cert.KernelIdeal.Tile

open Idealize.ShloMosaic Cert.KernelIdeal Cert.KernelIdeal.Gen
open Cert.Kernel.Gen

variable {F : FTy → Type} [FloatOps F]

theorem normalise_same (p) : (Cert.Kernel.defs₀ (F := F)) p 0 = Cert.KernelIdeal.defs₀ p 0 := by
  rcases p with _ | c | ⟨c, s⟩ <;> rfl

theorem finalise_same (p) : (Cert.Kernel.defs₀ (F := F)) p 2 = Cert.KernelIdeal.defs₀ p 2 := by
  rcases p with _ | c | ⟨c, s⟩ <;> rfl

set_option maxHeartbeats 4000000 in
set_option maxRecDepth 100000 in
theorem tile_same (c s) : (Cert.Kernel.defs₀ (F := F)) (.scVector c s) 1 = Cert.KernelIdeal.defs₀ (.scVector c s) 1 := by rfl

theorem tiles_same (p) : (Cert.Kernel.defs₀ (F := F)) p 1 = Cert.KernelIdeal.defs₀ p 1 :=
  match p with
  | .tc => rfl
  | .scScalar _ => rfl
  | .scVector c s => tile_same c s

theorem bodies_same : Cert.Kernel.defs₀ (F := F) = Cert.KernelIdeal.defs₀ := by
  funext p ℓ
  match ℓ with
  | 0 => exact normalise_same p
  | 1 => exact tiles_same p
  | 2 => exact finalise_same p

theorem defs_same : Cert.Kernel.defs (F := F) = Cert.KernelIdeal.defs :=
  congrArg (fun b => (Cert.KernelIdeal.sc (F := F)).defs (Pipeline.defs Cert.KernelIdeal.pcfgs b)) bodies_same

end Cert.KernelIdeal.Tile

end
-- ==== Proof.Frames.lean ====
/- The frames: the kernel program runs, leaves its arguments alone and every counter at zero, whenever the edges name rows that there are. -/
module

public import proofs.«01_k».proof.Defs
public import proofs.«01_k».proof.Proof.Run
public import proofs.«01_k».proof.Proof.SameText
public import proofs.«01_k».proof.Proof.Gen.Kernel
public import proofs.«01_k».proof.Proof.Gen.ReferenceIdeal
public import proofs.«01_k».proof.Proof.Gen.ReferenceIdeal.Run
public import proofs.«01_k».proof.Proof.Gen.Pre_edges_in_range
public import proofs.«01_k».proof.Proof.Gen.Pre_edges_and_threshold
public import Idealize.ShloMosaic.Lib.ReduceAll
public import Idealize.ShloMosaic.Lib.WordCmp

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-- A check over the whole edge list, read at one entry. -/
theorem below_of_all {r : S2x320000.ReducesTo [0, 1] S_} {hz : 0 < S_.numel} {b : S_.BroadcastsInDim S2x320000 (![] : Fin 0 → Fin S2x320000.rank)}
    (E : IVec S2x320000 32) {j : S_.Idx}
    (e : Host.reduce IntOp.andi (andi (cmpi .sge E (broadcastInDim S2x320000 ![] b (constantI S_ 32 0#32)))
      (cmpi .slt E (broadcastInDim S2x320000 ![] b (constantI S_ 32 10000#32)))) (constantI S_ 1 1#1) r hz j = 1#1)
    (i : S2x320000.Idx) : (E i).toNat < 10000 := by
  have h : IntOp.andi (IntOp.cmpi .sge (E i) 0#32) (IntOp.cmpi .slt (E i) 10000#32) = 1#1 := Host.reduce_andi_all _ _ _ _ j e i
  generalize E i = v at h
  revert h; word_cmp

variable (m : (ℓ : Loc nD τ sig) → Buf (Elt F) ℓ) (ρ : Dev nD → PrngReg)

/-- Every end of every edge names one of the 10000 rows. -/
def EdgesOk : Prop := ∀ (d : Dev nD) (i : S2x320000.Idx), BitVec.toNat ((m ((d.tc : Thread nD τ).loc main_arg0) : S2x320000.Idx → BitVec 32) i) < 10000

/-- The run, for edge ends in range. -/
theorem run_ok [∀ e, Nonempty (Elt F e)] (h : EdgesOk m) :
    θ_run (Cert.KernelIdeal.defs (F := F)) (Cert.KernelIdeal.threads (F := F)) ⟨m, fun _ => 0, ρ⟩ (QC m) :=
  run_main m ρ (fun d _ => h d _) (fun d _ => h d _)

/-- What the shorter precondition says. -/
theorem edges_in_range {E : IVec S2x320000 32} {w : Vec F S320000 .f32} {x : Vec F S10000x128 .f32} {t : IVec S_ 32}
    (h : Cert.Pre_edges_in_range.fn (F := F) E w x t = fun _ => 1#1) (i : S2x320000.Idx) : (E i).toNat < 10000 := by
  have e := congrFun h ix0
  unfold Cert.Pre_edges_in_range.fn at e
  exact below_of_all E e i

theorem frame_kernel : Cert.quiescent_Kernel := fun m ρ hpre => by
  rw [defs_same]
  exact (θ_run Cert.KernelIdeal.defs _ _).mono (fun _ h => ⟨fun c => ⟨(h.1 c).1.1.1.1, (h.1 c).1.1.1.2, (h.1 c).1.1.2, (h.1 c).1.2⟩, h.2⟩)
    (run_ok (F := Bits) m ρ fun d i => edges_in_range (hpre d) i)

theorem frame_ideal : Cert.quiescent_KernelIdeal := fun m ρ hpre =>
  (θ_run Cert.KernelIdeal.defs _ _).mono (fun _ h => ⟨fun c => ⟨(h.1 c).1.1.1.1, (h.1 c).1.1.1.2, (h.1 c).1.1.2, (h.1 c).1.2⟩, h.2⟩)
    (run_ok (F := Ideal) m ρ fun d i => edges_in_range (hpre d) i)

/-- What the longer precondition says. -/
theorem edges_and_threshold {E : IVec S2x320000 32} {w : Vec Ideal S320000 .f32} {x : Vec Ideal S10000x128 .f32} {t : IVec S_ 32}
    (h : Cert.Pre_edges_and_threshold.fn (F := Ideal) E w x t = fun _ => 1#1) : (∀ i, (E i).toNat < 10000) ∧ 1 ≤ (t ix0).toInt := by
  obtain ⟨h1, h2⟩ := IntOp.andi_eq_one.mp (congrFun h ix0)
  exact ⟨fun i => below_of_all _ h1 i, IntOp.cmpi_sge.mp h2⟩

theorem frame_ideal_threshold : Cert.quiescent_KernelIdeal_pre_edges_and_threshold := fun m ρ hpre =>
  (θ_run Cert.KernelIdeal.defs _ _).mono (fun _ h => ⟨fun c => ⟨(h.1 c).1.1.1.1, (h.1 c).1.1.1.2, (h.1 c).1.1.2, (h.1 c).1.2⟩, h.2⟩)
    (run_ok (F := Ideal) m ρ fun d i => (edges_and_threshold (hpre d)).1 i)

/-- The reference has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_reference_threshold : Cert.quiescent_ReferenceIdeal_pre_edges_and_threshold := fun m ρ _ => frame_reference m ρ trivial

end Cert.KernelIdeal.Tile

end
-- ==== Proof.Sums.lean ====
/- What the arrays of sums and of counts come to over the exact values. -/
module

public import proofs.«01_k».proof.Proof.TileRows
public import Idealize.ShloMosaic.PureOps.Ideal.Laws

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-! ## Sums of a list's entries and of blocks -/

/-- A sum over `n = a · b` places, block by block. -/
theorem sum_blocks {M : Type} [AddCommMonoid M] {a b n : ℕ} (h : a * b = n) (f : Fin n → M) :
    ∑ i : Fin n, f i = ∑ x : Fin a, ∑ y : Fin b, f ⟨b * x.val + y.val, by
      have h1 : b * x.val + b ≤ b * a := by rw [← Nat.mul_succ]; exact Nat.mul_le_mul_left b x.isLt
      rw [Nat.mul_comm b a, h] at h1; have := y.isLt; omega⟩ := by
  subst h
  rw [← finProdFinEquiv.sum_comp, Fintype.sum_prod_type]
  refine Finset.sum_congr rfl fun x _ => Finset.sum_congr rfl fun y _ => congrArg f (Fin.ext ?_)
  show y.val + b * x.val = b * x.val + y.val
  omega

/-- The sum over the first places of a list, with zero past its end, is the sum over the list. -/
theorem sum_places {ι M : Type} [AddCommMonoid M] (φ : Option ι → M) (h0 : φ none = 0) :
    ∀ (L : List ι) (n : ℕ), L.length ≤ n → ∑ p ∈ Finset.range n, φ L[p]? = (L.map fun e => φ (some e)).sum
  | [], n, _ => by simp [h0]
  | a :: L, 0, h => absurd h (by simp)
  | a :: L, n + 1, h => by
    rw [Finset.sum_range_succ', List.map_cons, List.sum_cons, add_comm]
    simp only [List.getElem?_cons_succ, List.getElem?_cons_zero]
    rw [sum_places φ h0 L n (by simpa using h)]

theorem sum_filter_list {ι M : Type} [AddCommMonoid M] (P : ι → Prop) [DecidablePred P] (f : ι → M) :
    ∀ L : List ι, ((L.filter fun e => decide (P e)).map f).sum = (L.map fun e => if P e then f e else 0).sum
  | [] => rfl
  | a :: L => by
    by_cases h : P a
    · rw [List.filter_cons_of_pos (by simpa using h), List.map_cons, List.map_cons, List.sum_cons, List.sum_cons, sum_filter_list P f L, if_pos h]
    · rw [List.filter_cons_of_neg (by simpa using h), List.map_cons, List.sum_cons, sum_filter_list P f L, if_neg h, zero_add]

/-- A sum over the selected edges of a chunk is a sum over its edges. -/
theorem sum_sel {M : Type} [AddCommMonoid M] (w : S2000.Idx → Elt Ideal .f32) (f : Fin 2000 → M) :
    ((sel w 2000).map f).sum = ∑ e : Fin 2000, if pos (F := Ideal) (w (ix1 e)) = 1#1 then f e else 0 := by
  have ht : (List.finRange 2000).take 2000 = List.finRange 2000 := List.take_of_length_le (by simp)
  unfold sel
  rw [ht, sum_filter_list (fun e => pos (F := Ideal) (w (ix1 e)) = 1#1) f, Fin.sum_univ_def]

theorem length_sel (w : S2000.Idx → Elt Ideal .f32) :
    (sel w 2000).length = ∑ e : Fin 2000, if pos (F := Ideal) (w (ix1 e)) = 1#1 then 1 else 0 := by
  rw [← sum_sel w fun _ => 1, List.map_const', List.sum_replicate]
  simp

/-! ## The running sums -/

/-- The product sum of two rows. -/
def dot (S D : Fin 128 → EReal) : EReal := ∑ c : Fin 128, S c * D c

/-- The running sums, all lanes together. -/
def lanes (x : A8 Ideal) : EReal := ∑ z : Fin 16, sum8 x (ix1 z)

theorem sum8_step (S D : Fin 128 → Elt Ideal .f32) (x : A8 Ideal) (z : Fin 16) :
    sum8 (dotStep S D x) (ix1 z) = (sum8 x (ix1 z) + ∑ c : Fin 8, (grp S c (ix1 z) : EReal) * grp D c (ix1 z) : EReal) := by
  obtain ⟨x0, x1, x2, x3, x4, x5, x6, x7⟩ := x
  rw [Fin.sum_univ_eight]
  generalize hp : (fun c : Fin 8 => (grp S c (ix1 z) : EReal) * grp D c (ix1 z)) = p
  have e : ∀ c : Fin 8, (grp S c (ix1 z) : EReal) * grp D c (ix1 z) = p c := fun c => by rw [← hp]
  show ((((((((x0 (ix1 z) + grp S 0 (ix1 z) * grp D 0 (ix1 z)) + (x1 (ix1 z) + grp S 1 (ix1 z) * grp D 1 (ix1 z)))
    + (x2 (ix1 z) + grp S 2 (ix1 z) * grp D 2 (ix1 z))) + (x3 (ix1 z) + grp S 3 (ix1 z) * grp D 3 (ix1 z)))
    + (x4 (ix1 z) + grp S 4 (ix1 z) * grp D 4 (ix1 z))) + (x5 (ix1 z) + grp S 5 (ix1 z) * grp D 5 (ix1 z)))
    + (x6 (ix1 z) + grp S 6 (ix1 z) * grp D 6 (ix1 z))) + (x7 (ix1 z) + grp S 7 (ix1 z) * grp D 7 (ix1 z)) : EReal)
    = (((((((x0 (ix1 z) + x1 (ix1 z)) + x2 (ix1 z)) + x3 (ix1 z)) + x4 (ix1 z)) + x5 (ix1 z)) + x6 (ix1 z)) + x7 (ix1 z) : EReal) + _
  simp only [e]
  generalize x0 (ix1 z) = y0, x1 (ix1 z) = y1, x2 (ix1 z) = y2, x3 (ix1 z) = y3, x4 (ix1 z) = y4, x5 (ix1 z) = y5, x6 (ix1 z) = y6, x7 (ix1 z) = y7
  change EReal at y0 y1 y2 y3 y4 y5 y6 y7
  abel

theorem lanes_step (S D : Fin 128 → Elt Ideal .f32) (x : A8 Ideal) : lanes (dotStep S D x) = lanes x + dot S D := by
  unfold lanes dot
  simp only [sum8_step]
  rw [Finset.sum_add_distrib]
  congr 1
  rw [Finset.sum_comm, sum_blocks (show 8 * 16 = 128 from rfl)]
  rfl

theorem lanes_run (X : S10112x128.Idx → Elt Ideal .f32) (g h : ℕ → BitVec 32) (x : A8 Ideal) (n : ℕ) :
    lanes (runSum X g h n x) = lanes x + ∑ p ∈ Finset.range n, dot (entry X (g p)) (entry X (h p)) := by
  induction n with
  | zero => rw [Finset.sum_range_zero, add_zero]; rfl
  | succ n ih => rw [runSum_succ, lanes_step, ih, Finset.sum_range_succ, add_assoc]

/-- The row an edge that is not selected reads is zero. -/
def PadZero (X : S10112x128.Idx → Elt Ideal .f32) : Prop := ∀ c : Fin 128, entry X 10000#32 c = (0 : EReal)

/-- What an edge adds to the sum. -/
def term (X : S10112x128.Idx → Elt Ideal .f32) (s t : BitVec 32) (w : Elt Ideal .f32) : EReal :=
  if pos (F := Ideal) w = 1#1 then dot (entry X s) (entry X t) else 0

theorem places_le (w : S2000.Idx → Elt Ideal .f32) : (sel w 2000).length ≤ places w := by
  unfold places
  have := Nat.le_max_right 1 (((sel w 2000).length + 127) / 128)
  omega

theorem lanes_chunk {X : S10112x128.Idx → Elt Ideal .f32} (hX : PadZero X) (s t : S2000.Idx → BitVec 32) (w : S2000.Idx → Elt Ideal .f32) (x : A8 Ideal) :
    lanes (chunkSum X s t w x) = lanes x + ∑ e : Fin 2000, term X (s (ix1 e)) (t (ix1 e)) (w (ix1 e)) := by
  unfold chunkSum
  rw [lanes_run]
  congr 1
  refine (sum_places (fun o : Option (Fin 2000) => dot (entry X (o.elim 10000#32 fun e => s (ix1 e))) (entry X (o.elim 10000#32 fun e => t (ix1 e))))
    ?_ (sel w 2000) (places w) (places_le w)).trans ?_
  · unfold dot
    refine Finset.sum_eq_zero fun c _ => ?_
    rw [show (entry X ((none : Option (Fin 2000)).elim 10000#32 fun e => s (ix1 e)) c : EReal) = 0 from hX c, zero_mul]
  · rw [sum_sel]; rfl

/-! ## A tile's sums and count -/

theorem seg_at {α : Type} (E : S320000.Idx → α) (o : Fin 1 → Nat) (ho : ∀ a, o a + S2000.size a ≤ S320000.size a) (e : Fin 2000) (k : Fin 320000)
    (hk : k.val = o 0 + e.val) : seg E o ho (ix1 e) = E (ix1 k) := by
  unfold seg
  refine congrArg E (funext fun a => ?_)
  match a with
  | ⟨0, _⟩ => exact Fin.ext (show o 0 + 1 * e.val = k.val by omega)

/-- Edge `e` of the tile `w`. -/
abbrev edgeOf (w : Fin 32) (e : Fin 10000) : Fin 320000 := ⟨10000 * w.val + e.val, by omega⟩

/-- Edge `e` of chunk `j` of the tile `w`. -/
abbrev edgeIn (w : Fin 32) (j : Fin 5) (e : Fin 2000) : Fin 320000 := edgeOf w ⟨2000 * j.val + e.val, by omega⟩

theorem tileOf_start (w : Fin 32) : 20000 * (tileOf w 1).val + 10000 * (tileOf w 0).val = 10000 * w.val := by
  show 20000 * (w.val / 2) + 10000 * (w.val % 2) = 10000 * w.val
  omega

theorem start0 (w : Fin 32) : k1_off2 (tileOf w) 0 = 10000 * w.val + 2000 * (0 : Fin 5).val := by
  rw [k1_off2_eq, ← tileOf_start]; rfl
theorem start1 (w : Fin 32) : k1_off92 (tileOf w) 0 = 10000 * w.val + 2000 * (1 : Fin 5).val := by
  rw [k1_off92_eq, ← tileOf_start]; rfl
theorem start2 (w : Fin 32) : k1_off182 (tileOf w) 0 = 10000 * w.val + 2000 * (2 : Fin 5).val := by
  rw [k1_off182_eq, ← tileOf_start]; rfl
theorem start3 (w : Fin 32) : k1_off272 (tileOf w) 0 = 10000 * w.val + 2000 * (3 : Fin 5).val := by
  rw [k1_off272_eq, ← tileOf_start]; rfl
theorem start4 (w : Fin 32) : k1_off362 (tileOf w) 0 = 10000 * w.val + 2000 * (4 : Fin 5).val := by
  rw [k1_off362_eq, ← tileOf_start]; rfl

section Tiles

variable {X : S10112x128.Idx → Elt Ideal .f32} (hX : PadZero X) (E2 E3 : S320000.Idx → BitVec 32) (E4 : S320000.Idx → Elt Ideal .f32)

/-- What edge `k` adds. -/
def edgeTerm (X : S10112x128.Idx → Elt Ideal .f32) (E2 E3 : S320000.Idx → BitVec 32) (E4 : S320000.Idx → Elt Ideal .f32) (k : Fin 320000) : EReal :=
  term X (E2 (ix1 k)) (E3 (ix1 k)) (E4 (ix1 k))

include hX in
theorem lanes_after (w : Fin 32) (j : Fin 5) (o : Fin 1 → Nat) (ho : ∀ a, o a + S2000.size a ≤ S320000.size a)
    (h : o 0 = 10000 * w.val + 2000 * j.val) (x : A8 Ideal) :
    lanes (after X E2 E3 E4 o ho x) = lanes x + ∑ e : Fin 2000, edgeTerm X E2 E3 E4 (edgeIn w j e) := by
  unfold after
  rw [lanes_chunk hX]
  congr 1
  refine Finset.sum_congr rfl fun e _ => ?_
  have hk : (edgeIn w j e).val = o 0 + e.val := by show 10000 * w.val + (2000 * j.val + e.val) = _; omega
  rw [seg_at E2 o ho e _ hk, seg_at E3 o ho e _ hk, seg_at E4 o ho e _ hk]
  rfl

theorem lanes_zero : lanes (zero16, zero16, zero16, zero16, zero16, zero16, zero16, zero16) = 0 := by
  unfold lanes
  refine Finset.sum_eq_zero fun z _ => ?_
  show ((((((((Ideal.ofBits .f32 0x00000000#32 + Ideal.ofBits .f32 0x00000000#32) + Ideal.ofBits .f32 0x00000000#32) + Ideal.ofBits .f32 0x00000000#32)
    + Ideal.ofBits .f32 0x00000000#32) + Ideal.ofBits .f32 0x00000000#32) + Ideal.ofBits .f32 0x00000000#32) + Ideal.ofBits .f32 0x00000000#32) : EReal) = 0
  rw [Ideal.ofBits_zero_f32]
  simp

include hX in
/-- A tile's sums together are what its ten thousand edges add. -/
theorem lanes_tile (w : Fin 32) : lanes (tileSums X E2 E3 E4 (tileOf w)) = ∑ e : Fin 10000, edgeTerm X E2 E3 E4 (edgeOf w e) := by
  unfold tileSums
  rw [lanes_after hX E2 E3 E4 w 4 _ _ (start4 w), lanes_after hX E2 E3 E4 w 3 _ _ (start3 w), lanes_after hX E2 E3 E4 w 2 _ _ (start2 w),
    lanes_after hX E2 E3 E4 w 1 _ _ (start1 w), lanes_after hX E2 E3 E4 w 0 _ _ (start0 w), lanes_zero, zero_add,
    sum_blocks (show 5 * 2000 = 10000 from rfl) fun e => edgeTerm X E2 E3 E4 (edgeOf w e), Fin.sum_univ_five]

include hX in
/-- The array of sums, summed, is what all edges add. -/
theorem sum_outSums : ∑ w : Fin 32, ∑ z : Fin 16, (outSums X E2 E3 E4 (ix2 w z) : EReal) = ∑ k : Fin 320000, edgeTerm X E2 E3 E4 k := by
  rw [sum_blocks (show 32 * 10000 = 320000 from rfl)]
  exact Finset.sum_congr rfl fun w _ => lanes_tile hX E2 E3 E4 w

/-- One for an edge of positive weight. -/
def one (E4 : S320000.Idx → Elt Ideal .f32) (k : Fin 320000) : ℕ := if pos (F := Ideal) (E4 (ix1 k)) = 1#1 then 1 else 0

theorem taken_eq (w : Fin 32) (j : Fin 5) (o : Fin 1 → Nat) (ho : ∀ a, o a + S2000.size a ≤ S320000.size a) (h : o 0 = 10000 * w.val + 2000 * j.val) :
    taken E4 o ho = BitVec.ofNat 32 (∑ e : Fin 2000, one E4 (edgeIn w j e)) := by
  unfold taken
  rw [length_sel]
  refine congrArg _ (Finset.sum_congr rfl fun e _ => ?_)
  have hk : (edgeIn w j e).val = o 0 + e.val := by show 10000 * w.val + (2000 * j.val + e.val) = _; omega
  rw [seg_at E4 o ho e _ hk]
  rfl

/-- The edges of positive weight of a tile. -/
def tileOnes (w : Fin 32) : ℕ := ∑ e : Fin 10000, one E4 (edgeOf w e)

theorem tileOnes_le (w : Fin 32) : tileOnes E4 w ≤ 10000 := by
  unfold tileOnes
  refine (Finset.sum_le_card_nsmul _ _ 1 fun e _ => ?_).trans (by simp)
  unfold one
  split <;> omega

theorem tileCount_eq (w : Fin 32) : tileCount E4 (tileOf w) = BitVec.ofNat 32 (tileOnes E4 w) := by
  unfold tileCount tileOnes
  rw [taken_eq E4 w 4 _ _ (start4 w), taken_eq E4 w 3 _ _ (start3 w), taken_eq E4 w 2 _ _ (start2 w), taken_eq E4 w 1 _ _ (start1 w),
    taken_eq E4 w 0 _ _ (start0 w), sum_blocks (show 5 * 2000 = 10000 from rfl) fun e => one E4 (edgeOf w e), Fin.sum_univ_five, BitVec.zero_add]
  simp only [BitVec.ofNat_add]

theorem word_toInt {n : ℕ} (h : n < 2147483648) : (BitVec.ofNat 32 n).toInt = n := by
  have e : (BitVec.ofNat 32 n).toNat = n := by rw [BitVec.toNat_ofNat]; exact Nat.mod_eq_of_lt (by omega)
  rw [BitVec.toInt_eq_toNat_of_lt (by omega), e]

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

theorem outCounts_eq (w : Fin 32) (z : Fin 16) : (outCounts E4 (ix2 w z) : EReal) = ((tileOnes E4 w : ℝ) : EReal) := by
  show (((tileCount E4 (tileOf w)).toInt : ℝ) : EReal) = _
  have h := tileOnes_le E4 w
  rw [tileCount_eq, word_toInt (by omega), Int.cast_natCast]

/-- The edges of positive weight. -/
def ones : ℕ := ∑ k : Fin 320000, one E4 k

/-- The array of counts, summed, holds every edge of positive weight sixteen times. -/
theorem sum_outCounts : ∑ w : Fin 32, ∑ z : Fin 16, (outCounts E4 (ix2 w z) : EReal) = ((16 * ones E4 : ℝ) : EReal) := by
  have e : ones E4 = ∑ w : Fin 32, tileOnes E4 w := by
    unfold ones
    rw [sum_blocks (show 32 * 10000 = 320000 from rfl)]; rfl
  rw [e, Nat.cast_sum, Finset.mul_sum, coe_sum]
  refine Finset.sum_congr rfl fun w _ => ?_
  rw [Finset.sum_congr rfl fun z _ => outCounts_eq E4 w z, Finset.sum_const, Finset.card_univ, Fintype.card_fin, ← EReal.coe_nsmul, nsmul_eq_mul]
  rfl

end Tiles

end Cert.KernelIdeal.Tile

end
-- ==== Proof.Cosine.lean ====
/- Rows divided by their lengths, and the loss of their product sums. -/
module

public import proofs.«01_k».proof.Proof.Sums
public import Idealize.ShloMosaic.Lib.IdealHost

@[expose] public section

noncomputable section

namespace Cert.KernelIdeal.Tile

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-! ## The length of a row -/

/-- The least length a row is divided by. -/
def eps : EReal := Ideal.ofBits .f32 0x322BCC77#32

theorem eps_real : ∃ e : ℝ, 0 < e ∧ eps = (e : EReal) := by
  refine ⟨_, ?_, by simp [eps, Ideal.ofBits, Ideal.ieee, -EReal.coe_mul]; rfl⟩
  norm_num

/-- The length of a row, at least `eps`. -/
def size (a : Fin 128 → EReal) : EReal := max (Ideal.sqrt (∑ c, a c * a c)) eps

/-- A row divided by its length. -/
def unitOf (a : Fin 128 → EReal) (c : Fin 128) : EReal := Ideal.div (a c) (size a)

theorem sq_nonneg' (x : EReal) : 0 ≤ x * x := by
  induction x with
  | bot => rw [EReal.bot_mul_bot]; exact le_top
  | top => rw [EReal.top_mul_top]; exact le_top
  | coe r => rw [← EReal.coe_mul]; exact_mod_cast mul_self_nonneg r

theorem size_of_real (f : Fin 128 → ℝ) {a : Fin 128 → EReal} (h : ∀ c, a c = (f c : EReal)) :
    ∃ n : ℝ, 0 < n ∧ size a = (n : EReal) ∧ ∑ c, f c * f c ≤ n * n := by
  obtain ⟨e, he, hE⟩ := eps_real
  have hs : (∑ c, a c * a c) = ((∑ c, f c * f c : ℝ) : EReal) := by
    rw [coe_sum]
    exact Finset.sum_congr rfl fun c _ => by rw [h c, ← EReal.coe_mul]
  have h0 : 0 ≤ ∑ c, f c * f c := Finset.sum_nonneg fun c _ => mul_self_nonneg (f c)
  refine ⟨max (Real.sqrt (∑ c, f c * f c)) e, lt_max_of_lt_right he, ?_, ?_⟩
  · unfold size
    rw [hs, Ideal.sqrt_coe, if_neg (not_lt.2 h0), hE]
    exact (EReal.coe_strictMono.monotone.map_max).symm
  · have h1 := Real.mul_self_sqrt h0
    have h2 := Real.sqrt_nonneg (∑ c, f c * f c)
    have h3 : Real.sqrt (∑ c, f c * f c) ≤ max (Real.sqrt (∑ c, f c * f c)) e := le_max_left _ _
    nlinarith

/-- A row with an infinite entry is infinitely long. -/
theorem size_of_top {a : Fin 128 → EReal} {c : Fin 128} (h : a c * a c = ⊤) : size a = ⊤ := by
  have hs : (∑ c, a c * a c) = ⊤ := by
    refine top_le_iff.1 ?_
    rw [← h]
    exact Finset.single_le_sum (f := fun c => a c * a c) (fun c _ => sq_nonneg' (a c)) (Finset.mem_univ c)
  unfold size
  rw [hs, Ideal.sqrt_top]
  exact max_eq_left le_top

theorem size_cases (a : Fin 128 → EReal) :
    (∃ (f : Fin 128 → ℝ) (n : ℝ), (∀ c, a c = (f c : EReal)) ∧ 0 < n ∧ size a = (n : EReal) ∧ ∑ c, f c * f c ≤ n * n) ∨ size a = ⊤ := by
  by_cases h : ∀ c, a c ≠ ⊤ ∧ a c ≠ ⊥
  · have hf : ∀ c, a c = ((a c).toReal : EReal) := fun c => (EReal.coe_toReal (h c).1 (h c).2).symm
    obtain ⟨n, h1, h2, h3⟩ := size_of_real _ hf
    exact .inl ⟨_, n, hf, h1, h2, h3⟩
  · right
    obtain ⟨c, hc⟩ := not_forall.1 h
    refine size_of_top (c := c) ?_
    by_cases h1 : a c = ⊤
    · rw [h1, EReal.top_mul_top]
    · have h2 : a c = ⊥ := by
        by_contra h2
        exact hc ⟨h1, h2⟩
      rw [h2, EReal.bot_mul_bot]

theorem div_top' (x : EReal) : Ideal.div x ⊤ = 0 := by
  unfold Ideal.div
  rw [if_neg EReal.top_ne_zero, EReal.inv_top, mul_zero]

theorem div_real (x : ℝ) {n : ℝ} (hn : n ≠ 0) : Ideal.div (x : EReal) (n : EReal) = ((x / n : ℝ) : EReal) := by
  rw [Ideal.div_coe hn, ← EReal.coe_mul, mul_one_div]

theorem size_pos (a : Fin 128 → EReal) : 0 < size a := by
  obtain ⟨e, he, hE⟩ := eps_real
  unfold size
  refine lt_max_of_lt_right ?_
  rw [hE]
  exact_mod_cast he

theorem dot_top {a : Fin 128 → EReal} (h : size a = ⊤) (b : Fin 128 → EReal) : dot (unitOf a) b = 0 :=
  Finset.sum_eq_zero fun c _ => by rw [unitOf, h, div_top', zero_mul]

theorem dot_comm' (a b : Fin 128 → EReal) : dot a b = dot b a := Finset.sum_congr rfl fun c _ => mul_comm _ _

/-- The product sum of two rows over the product of their lengths is the product sum of the rows divided by their lengths; it is a
    real number, at most one. -/
theorem cosine (a b : Fin 128 → EReal) :
    ∃ r : ℝ, r ≤ 1 ∧ dot (unitOf a) (unitOf b) = (r : EReal) ∧ Ideal.div (dot a b) (size a * size b) = (r : EReal) := by
  rcases size_cases a with ⟨f, n, hf, hn, hs, hl⟩ | ha
  · rcases size_cases b with ⟨g, k, hg, hk, hs', hl'⟩ | hb
    · have hd : dot a b = ((∑ c, f c * g c : ℝ) : EReal) := by
        rw [coe_sum]
        exact Finset.sum_congr rfl fun c _ => by rw [hf c, hg c, ← EReal.coe_mul]
      refine ⟨(∑ c, f c * g c) / (n * k), ?_, ?_, ?_⟩
      · rw [div_le_one (mul_pos hn hk)]
        have h1 : ∀ c, f c * g c * (2 * (n * k)) ≤ f c * f c * (k * k) + g c * g c * (n * n) := fun c => by
          nlinarith [mul_self_nonneg (f c * k - g c * n)]
        have h2 : (∑ c, f c * g c) * (2 * (n * k)) ≤ (∑ c, f c * f c) * (k * k) + (∑ c, g c * g c) * (n * n) := by
          rw [Finset.sum_mul, Finset.sum_mul, Finset.sum_mul, ← Finset.sum_add_distrib]
          exact Finset.sum_le_sum fun c _ => h1 c
        have h3 : (∑ c, f c * f c) * (k * k) ≤ n * n * (k * k) := mul_le_mul_of_nonneg_right hl (mul_self_nonneg k)
        have h4 : (∑ c, g c * g c) * (n * n) ≤ k * k * (n * n) := mul_le_mul_of_nonneg_right hl' (mul_self_nonneg n)
        have h5 := mul_pos hn hk
        nlinarith
      · unfold dot
        rw [Finset.sum_div, coe_sum]
        refine Finset.sum_congr rfl fun c _ => ?_
        rw [unitOf, unitOf, hf c, hg c, hs, hs', div_real _ hn.ne', div_real _ hk.ne', ← EReal.coe_mul, div_mul_div_comm]
      · rw [hd, hs, hs', ← EReal.coe_mul, div_real _ (mul_pos hn hk).ne']
    · refine ⟨0, zero_le_one, ?_, ?_⟩
      · rw [dot_comm', dot_top hb]; rfl
      · rw [hb, EReal.mul_top_of_pos (size_pos a), div_top']; rfl
  · refine ⟨0, zero_le_one, dot_top ha _, ?_⟩
    rw [ha, EReal.top_mul_of_pos (size_pos b), div_top']; rfl

/-! ## The two losses -/

theorem sixteenth : Ideal.ofBits .f32 0x3D800000#32 = ((1 / 16 : ℝ) : EReal) := by
  simp [Ideal.ofBits, Ideal.ieee, -EReal.coe_mul]; norm_num

/-- The loss from the sum and the count is the mean of the clipped differences: with a threshold of at least one nothing is clipped. -/
theorem loss_eq {n : ℕ} (m : Fin n → ℕ) (r : Fin n → ℝ) (hr : ∀ k, r k ≤ 1) {T : ℝ} (hT : 1 ≤ T) :
    Ideal.div ((T : EReal) * (((16 * (∑ k, m k : ℕ) : ℝ) : EReal) * Ideal.ofBits .f32 0x3D800000#32) - ((∑ k, m k * r k : ℝ) : EReal))
        (max (((16 * (∑ k, m k : ℕ) : ℝ) : EReal) * Ideal.ofBits .f32 0x3D800000#32) (Ideal.ofBits .f32 0x3F800000#32))
      = Ideal.div (∑ k, max ((T : EReal) - (r k : EReal)) 0 * ((m k : ℝ) : EReal)) (max (∑ k, ((m k : ℝ) : EReal)) 1) := by
  have e1 : ((16 * (∑ k, m k : ℕ) : ℝ) : EReal) * Ideal.ofBits .f32 0x3D800000#32 = ((∑ k, (m k : ℝ) : ℝ) : EReal) := by
    rw [sixteenth, ← EReal.coe_mul]
    congr 1
    push_cast
    ring
  have e2 : (∑ k, ((m k : ℝ) : EReal)) = ((∑ k, (m k : ℝ) : ℝ) : EReal) := (coe_sum _ _).symm
  have e3 : (∑ k, max ((T : EReal) - (r k : EReal)) 0 * ((m k : ℝ) : EReal)) = ((T * ∑ k, (m k : ℝ) - ∑ k, m k * r k : ℝ) : EReal) := by
    rw [Finset.mul_sum, ← Finset.sum_sub_distrib, coe_sum]
    refine Finset.sum_congr rfl fun k _ => ?_
    have h : (0 : EReal) ≤ (T : EReal) - (r k : EReal) := by
      rw [← EReal.coe_sub]
      have := hr k
      exact_mod_cast (by linarith : (0 : ℝ) ≤ T - r k)
    rw [max_eq_left h, ← EReal.coe_sub, ← EReal.coe_mul]
    congr 1
    ring
  rw [e1, e2, e3, Ideal.ofBits_one_f32, ← EReal.coe_mul, ← EReal.coe_sub]

end Cert.KernelIdeal.Tile

end
-- ==== Proof.ReadKernel.lean ====
/- The kernel's two dense bodies and its slices read at an index. -/
module

public import proofs.«01_k».proof.Proof.Gen.KernelIdeal.Skeleton
public import Idealize.ShloMosaic.Lib.Pointwise

@[expose] public section

noncomputable section

namespace Cert.KernelIdeal.Tile

open Idealize.ShloMosaic Cert.KernelIdeal Cert.KernelIdeal.Gen

set_option maxRecDepth 16384 in
/-- The normalising body divides a row's entry by the row's length, which it keeps above the least one. -/
theorem unit_apply (x : Vec Ideal S10000x128 .f32) (r : Fin 10000) (c : Fin 128) :
    k0_pay1 x (ix2 r c) = Ideal.div (x (ix2 r c)) (max (Ideal.sqrt (∑ k : Fin 128, x (ix2 r k) * x (ix2 r k))) (Ideal.ofBits .f32 0x322BCC77#32)) := by
  pointwise [k0_pay1]

set_option maxRecDepth 16384 in
/-- The finalising body's quotient. -/
theorem quotient_apply (s n : Vec Ideal S32x16 .f32) (t : Vec Ideal S1x1 .f32) :
    k2_pay1 s n t (ix2 (0 : Fin 1) (0 : Fin 1)) = Ideal.div (t (ix2 (0 : Fin 1) (0 : Fin 1)) * ((∑ w : Fin 32, ∑ z : Fin 16, n (ix2 w z)) * Ideal.ofBits .f32 0x3D800000#32) - ∑ w : Fin 32, ∑ z : Fin 16, s (ix2 w z))
      (max ((∑ w : Fin 32, ∑ z : Fin 16, n (ix2 w z)) * Ideal.ofBits .f32 0x3D800000#32) (Ideal.ofBits .f32 0x3F800000#32)) := by
  pointwise [k2_pay1]

theorem scalar_of_cell (v : Vec Ideal S1x1 .f32) : shapeCast S_ v shapeCasts_S1x1_S_ ix0 = v (ix2 (0 : Fin 1) (0 : Fin 1)) := by
  pointwise

theorem cell_of_scalar (t : IVec S_ 32) : (shapeCast S1x1 (sitofp (F := Ideal) .f32 t) shapeCasts_S_S1x1 (ix2 (0 : Fin 1) (0 : Fin 1)) : EReal)
    = FloatOps.sitofp (F := Ideal) .f32 (t ix0) := by
  pointwise

theorem first_ends (E : IVec S2x320000 32) (k : Fin 320000) :
    shapeCast S320000 (extractStridedSlice S1x320000 ![0, 0] E slices_S2x320000_S1x320000_0_0) shapeCasts_S1x320000_S320000 (ix1 k) = E (ix2 (0 : Fin 2) k) := by
  pointwise

theorem second_ends (E : IVec S2x320000 32) (k : Fin 320000) :
    shapeCast S320000 (extractStridedSlice S1x320000 ![1, 0] E slices_S2x320000_S1x320000_1_0) shapeCasts_S1x320000_S320000 (ix1 k) = E (ix2 (1 : Fin 2) k) := by
  pointwise

end Cert.KernelIdeal.Tile

end
-- ==== Proof.ReadReference.lean ====
/- The reference's result read as a sum over the edges. -/
module

public import proofs.«01_k».proof.Proof.Gen.ReferenceIdeal.Run
public import Idealize.ShloMosaic.Lib.Pointwise
public import Idealize.ShloMosaic.Lib.Routing.Ops
public import Idealize.ShloMosaic.Lib.Routing.OpsPair
public import Idealize.ShloMosaic.Lib.ReduceAll

@[expose] public section

noncomputable section

namespace Cert.ReferenceIdeal.Value

open Idealize.ShloMosaic Cert.ReferenceIdeal Cert.ReferenceIdeal.Gen

/-- The features' row a word names, column by column. -/
def rowAt (x : S10000x128.Idx → EReal) (w : BitVec 32) (c : Fin 128) : EReal :=
  if h : w.toNat < 10000 then x (ix2 (⟨w.toNat, h⟩ : Fin 10000) c) else 0

/-- The rows a list of words names. -/
def rowsOf (x : S10000x128.Idx → EReal) (u : IVec S320000 32) : FVec Ideal S320000x128 .f32 := fun y => rowAt x (u (ix1 (y 0))) (y 1)

/-- A word that is not negative is kept where negative ones would be moved up by the number of rows. -/
theorem wrap_eq {u : IVec S320000 32} (hu : ∀ i, (u i).toNat < 10000) :
    select (cmpi .slt u (broadcastInDim S320000 ![] bcast_S_S320000 (constantI S_ 32 0#32)))
      (addi u (broadcastInDim S320000 ![] bcast_S_S320000 (constantI S_ 32 10000#32))) u = u := by
  funext i
  exact Routing.wrap_of_lt (u i) _ ((hu i).trans (by decide))

theorem in_range {w : BitVec 32} (h : w.toNat < 10000) : IntOp.andi (IntOp.cmpi .sge w 0#32) (IntOp.cmpi .sle w 9999#32) = 1#1 := by
  have e : w.toInt = w.toNat := BitVec.toInt_eq_toNat_of_lt (by omega)
  rw [IntOp.andi_eq_one]
  constructor
  · rw [IntOp.cmpi_sge, e]
    show (0 : Int) ≤ _
    omega
  · rw [IntOp.cmpi_sle, e]
    show _ ≤ (9999 : Int)
    omega

/-- The guarded gather at words in range: every row is the features' row its word names. -/
theorem rows_eq {u : IVec S320000 32} (hu : ∀ i, (u i).toNat < 10000) (x : FVec Ideal S10000x128 .f32) :
    select (broadcastInDim S320000x128 ![0] bcast_S320000_S320000x128_0
        (Host.reduce IntOp.andi
          (andi (cmpi .sge (broadcastInDim S320000x1 ![0] bcast_S320000_S320000x1_0 u) (broadcastInDim S320000x1 ![] bcast_S_S320000x1 (constantI S_ 32 0#32)))
            (cmpi .sle (broadcastInDim S320000x1 ![0] bcast_S320000_S320000x1_0 u)
              (broadcastInDim S320000x1 ![0, 1] bcast_S1x1_S320000x1_0_1 (broadcastInDim S1x1 ![1] bcast_S1_S1x1_1 (constantI S1 32 9999#32)))))
          (constantI S_ 1 1#1) reducesTo_S320000x1_S320000_d1 h_S_))
      (Host.gather gather_S10000x128_S320000x1_S320000x128_1_0_n_n_0_1_1128 x (broadcastInDim S320000x1 ![0] bcast_S320000_S320000x1_0 u))
      (broadcastInDim S320000x128 ![] bcast_S_S320000x128 (constant S_ .f32 0x7FC00000#32))
    = rowsOf x u := by
  funext y
  obtain ⟨k, c, rfl⟩ : ∃ (k : Fin 320000) (c : Fin 128), y = ix2 k c := ⟨y 0, y 1, eq_ix2 y⟩
  have hb : ∀ i : S320000x1.Idx, broadcastInDim S320000x1 ![0] bcast_S320000_S320000x1_0 u i = u (ix1 (i 0)) := fun i => by pointwise
  have h1 : Host.reduce IntOp.andi
      (andi (cmpi .sge (broadcastInDim S320000x1 ![0] bcast_S320000_S320000x1_0 u) (broadcastInDim S320000x1 ![] bcast_S_S320000x1 (constantI S_ 32 0#32)))
        (cmpi .sle (broadcastInDim S320000x1 ![0] bcast_S320000_S320000x1_0 u)
          (broadcastInDim S320000x1 ![0, 1] bcast_S1x1_S320000x1_0_1 (broadcastInDim S1x1 ![1] bcast_S1_S1x1_1 (constantI S1 32 9999#32)))))
      (constantI S_ 1 1#1) reducesTo_S320000x1_S320000_d1 h_S_ = fun _ => 1#1 := by
    funext j
    refine Host.reduce_andi_one _ _ _ _ j rfl fun i => ?_
    show IntOp.andi (IntOp.cmpi .sge (broadcastInDim S320000x1 ![0] bcast_S320000_S320000x1_0 u i) 0#32)
      (IntOp.cmpi .sle (broadcastInDim S320000x1 ![0] bcast_S320000_S320000x1_0 u i) 9999#32) = 1#1
    rw [hb]
    exact in_range (hu _)
  rw [h1]
  refine (Routing.gather_row _ rfl rfl rfl rfl rfl x _ k c (⟨(u (ix1 k)).toNat, hu _⟩ : Fin 10000) ?_ (by decide)).trans ?_
  · refine (hb _).trans ?_
    show u (ix1 k) = BitVec.ofNat 32 (u (ix1 k)).toNat
    rw [BitVec.ofNat_toNat, BitVec.setWidth_eq]
  · show _ = rowAt x (u (ix1 k)) c
    unfold rowAt
    rw [dif_pos (hu _)]
    rfl

/-- The length of a row, at least the least one. -/
def rowSize (a : Fin 128 → EReal) : EReal := max (Ideal.sqrt (∑ z : Fin 128, a z * a z)) (Ideal.ofBits .f32 0x322BCC77#32)

/-- The cosine of two rows. -/
def rowCos (a b : Fin 128 → EReal) : EReal := Ideal.div (∑ z : Fin 128, a z * b z) (rowSize a * rowSize b)

/-- Edge `k`'s part in the sum, and its weight's sign. -/
def edgePart (E : IVec S2x320000 32) (w : FVec Ideal S320000 .f32) (x : FVec Ideal S10000x128 .f32) (t : IVec S_ 32) (k : Fin 320000) : EReal :=
  max ((FloatOps.sitofp (F := Ideal) .f32 (t ix0) : EReal) - rowCos (rowAt x (E (ix2 (0 : Fin 2) k))) (rowAt x (E (ix2 (1 : Fin 2) k)))) 0
    * (FloatOps.uitofp (F := Ideal) .f32 (BitVec.ofBool (decide (0 < w (ix1 k)))) : EReal)
def edgeSign (w : FVec Ideal S320000 .f32) (k : Fin 320000) : EReal :=
  FloatOps.uitofp (F := Ideal) .f32 (BitVec.ofBool (decide (0 < w (ix1 k))))

/-- The mean of the edges' parts. -/
def meanOf (p s : Fin 320000 → EReal) : EReal := Ideal.div (∑ k, p k) (max (∑ k, s k) 1)

set_option maxRecDepth 16384 in
theorem sum_rows (v : FVec Ideal S320000x128 .f32) (k : Fin 320000) :
    Host.reduceAdd v (constant S_ .f32 0x00000000#32) reducesTo_S320000x128_S320000_d1 h_S_ (ix1 k) = ∑ z : Fin 128, (v (ix2 k z) : EReal) := by
  pointwise

set_option maxRecDepth 16384 in
theorem sum_all (v : FVec Ideal S320000 .f32) :
    Host.reduceAdd v (constant S_ .f32 0x00000000#32) reducesTo_S320000_S_d0 h_S_ ix0 = ∑ k : Fin 320000, (v (ix1 k) : EReal) := by
  pointwise

set_option maxRecDepth 16384 in
theorem part_apply (t : IVec S_ 32) (n a b w : FVec Ideal S320000 .f32) (k : Fin 320000) :
    mulf (maximumf (subf (broadcastInDim S320000 ![] bcast_S_S320000 (sitofp .f32 t))
        (Host.divf n (mulf (maximumf (Host.sqrt a) (broadcastInDim S320000 ![] bcast_S_S320000 (constant S_ .f32 0x322BCC77#32)))
          (maximumf (Host.sqrt b) (broadcastInDim S320000 ![] bcast_S_S320000 (constant S_ .f32 0x322BCC77#32))))))
        (broadcastInDim S320000 ![] bcast_S_S320000 (constant S_ .f32 0x00000000#32)))
      (uitofp .f32 (cmpf .ogt w (broadcastInDim S320000 ![] bcast_S_S320000 (constant S_ .f32 0x00000000#32)))) (ix1 k)
    = (max ((FloatOps.sitofp (F := Ideal) .f32 (t ix0) : EReal)
          - Ideal.div (n (ix1 k)) (max (Ideal.sqrt (a (ix1 k))) (Ideal.ofBits .f32 0x322BCC77#32) * max (Ideal.sqrt (b (ix1 k))) (Ideal.ofBits .f32 0x322BCC77#32))) 0
        * (FloatOps.uitofp (F := Ideal) .f32 (BitVec.ofBool (decide (0 < w (ix1 k)))) : EReal) : EReal) := by
  pointwise

set_option maxRecDepth 16384 in
theorem weight_apply (w : FVec Ideal S320000 .f32) (k : Fin 320000) :
    uitofp (F := Ideal) .f32 (cmpf .ogt w (broadcastInDim S320000 ![] bcast_S_S320000 (constant S_ .f32 0x00000000#32))) (ix1 k) = edgeSign w k := by
  unfold edgeSign
  pointwise

set_option maxRecDepth 16384 in
theorem mean_apply (p s : FVec Ideal S320000 .f32) :
    Host.divf (Host.reduceAdd p (constant S_ .f32 0x00000000#32) reducesTo_S320000_S_d0 h_S_)
      (maximumf (Host.reduceAdd s (constant S_ .f32 0x00000000#32) reducesTo_S320000_S_d0 h_S_) (constant S_ .f32 0x3F800000#32)) ix0
    = meanOf (fun k => p (ix1 k)) (fun k => s (ix1 k)) := by
  unfold meanOf
  pointwise

/-- The reference's result at edges in range. -/
theorem res_apply (m : (ℓ : Loc nD τ sig) → Buf (Elt Ideal) ℓ) (c : Dev nD) (E : IVec S2x320000 32) (w : FVec Ideal S320000 .f32)
    (x : FVec Ideal S10000x128 .f32) (t : IVec S_ 32) (hE : m ((c.tc : Thread nD τ).loc main_arg0) = E) (hw : m ((c.tc : Thread nD τ).loc main_arg1) = w)
    (hx : m ((c.tc : Thread nD τ).loc main_arg2) = x) (ht : m ((c.tc : Thread nD τ).loc main_arg3) = t) (h : ∀ i, (E i).toNat < 10000) :
    res_main_v31 m c ix0 = meanOf (edgePart E w x t) (edgeSign w) := by
  unfold res_main_v31
  rw [hE, hw, hx, ht]
  have e0 : ∀ i : S320000.Idx, shapeCast S320000 (extractStridedSlice S1x320000 ![0, 0] E slices_S2x320000_S1x320000_0_0) shapeCasts_S1x320000_S320000 i
      = E (ix2 (0 : Fin 2) (i 0)) := fun i => by pointwise
  have e1 : ∀ i : S320000.Idx, shapeCast S320000 (extractStridedSlice S1x320000 ![1, 0] E slices_S2x320000_S1x320000_1_0) shapeCasts_S1x320000_S320000 i
      = E (ix2 (1 : Fin 2) (i 0)) := fun i => by pointwise
  generalize shapeCast S320000 (extractStridedSlice S1x320000 ![0, 0] E slices_S2x320000_S1x320000_0_0) shapeCasts_S1x320000_S320000 = s at e0 ⊢
  generalize shapeCast S320000 (extractStridedSlice S1x320000 ![1, 0] E slices_S2x320000_S1x320000_1_0) shapeCasts_S1x320000_S320000 = d at e1 ⊢
  have hs : ∀ i, (s i).toNat < 10000 := fun i => by rw [e0]; exact h _
  have hd : ∀ i, (d i).toNat < 10000 := fun i => by rw [e1]; exact h _
  rw [wrap_eq hs, wrap_eq hd, rows_eq hs x, rows_eq hd x]
  have dots : ∀ (u v : IVec S320000 32) (k : Fin 320000),
      Host.reduceAdd (mulf (rowsOf x u) (rowsOf x v)) (constant S_ .f32 0x00000000#32) reducesTo_S320000x128_S320000_d1 h_S_ (ix1 k)
        = ∑ z : Fin 128, (rowAt x (u (ix1 k)) z * rowAt x (v (ix1 k)) z : EReal) :=
    fun u v k => (sum_rows _ k).trans (Finset.sum_congr rfl fun z _ => rfl)
  have es : ∀ k : Fin 320000, s (ix1 k) = E (ix2 (0 : Fin 2) k) := fun k => e0 (ix1 k)
  have ed : ∀ k : Fin 320000, d (ix1 k) = E (ix2 (1 : Fin 2) k) := fun k => e1 (ix1 k)
  rw [mean_apply]
  refine congrArg₂ meanOf (funext fun k => ?_) (funext fun k => weight_apply w k)
  rw [part_apply, dots, dots, dots, es, ed]
  rfl

end Cert.ReferenceIdeal.Value

end
-- ==== Proof.Algebraic.lean ====
/- The kernel's result is the reference's. -/
module

public import proofs.«01_k».proof.Proof.Frames
public import proofs.«01_k».proof.Proof.Cosine
public import proofs.«01_k».proof.Proof.ReadKernel
public import proofs.«01_k».proof.Proof.ReadReference
public import Idealize.ShloMosaic.Lib.Pointwise.IndexBridge

@[expose] public section

noncomputable section

namespace Cert.KernelIdeal.Tile

open Idealize.ShloMosaic Cert.KernelIdeal Cert.KernelIdeal.Gen
open Cert.ReferenceIdeal.Value (rowAt rowCos edgePart edgeSign meanOf res_main_v31)

/-! ## The table's rows -/

theorem unit_row (x : Vec Ideal S10000x128 .f32) (r : Fin 10000) (c : Fin 128) :
    k0_pay1 x (ValueIdx.ix2 r c) = unitOf (fun z => x (ix2 r z)) c := by
  rw [← ix2_eq_valueIdx]
  exact unit_apply x r c

/-- The table's row of a word in range is the features' row over its length. -/
theorem entry_unit (x : Vec Ideal S10000x128 .f32) {w : BitVec 32} (hw : w.toNat < 10000) : entry (padded x) w = unitOf (rowAt x w) := by
  have e : rowAt x w = fun z => x (ix2 (⟨w.toNat, hw⟩ : Fin 10000) z) := by
    funext z
    unfold rowAt
    rw [dif_pos hw]
  funext c
  unfold entry
  rw [dif_pos (hw.trans (by decide)), e, ← unit_row x ⟨w.toNat, hw⟩ c]
  exact padded_row x _ _ rfl rfl

theorem padZero (x : Vec Ideal S10000x128 .f32) : PadZero (padded x) := fun c => by
  unfold entry
  rw [dif_pos (by decide)]
  refine (padded_zero x _ ?_).trans Ideal.ofBits_zero_f32
  show 10000 ≤ (10000#32).toNat
  decide

/-! ## An edge's weight -/

theorem pos_eq (w : EReal) : pos (F := Ideal) w = BitVec.ofBool (decide (0 < w)) := by
  show BitVec.ofBool (decide (Ideal.ofBits .f32 0x00000000#32 < w)) = _
  rw [Ideal.ofBits_zero_f32]

theorem one_eq (w : S320000.Idx → Elt Ideal .f32) (k : Fin 320000) : edgeSign w k = ((one w k : ℝ) : EReal) := by
  unfold edgeSign one
  rw [← ix1_eq_valueIdx, pos_eq]
  show (((BitVec.ofBool (decide ((0 : EReal) < w (ix1 k)))).toNat : ℝ) : EReal) = _
  by_cases h : (0 : EReal) < w (ix1 k)
  · rw [decide_eq_true h]; rfl
  · rw [decide_eq_false h]; rfl

/-! ## The two values -/

section Values

variable (E : IVec S2x320000 32) (w : FVec Ideal S320000 .f32) (x : FVec Ideal S10000x128 .f32) (t : IVec S_ 32)

/-- Edge `k`'s two rows. -/
abbrev rowA (k : Fin 320000) : Fin 128 → EReal := rowAt x (E (ix2 (0 : Fin 2) k))
abbrev rowB (k : Fin 320000) : Fin 128 → EReal := rowAt x (E (ix2 (1 : Fin 2) k))

theorem edgeTerm_eq (hE : ∀ i, (E i).toNat < 10000) (E2 E3 : S320000.Idx → BitVec 32) (h2 : ∀ k, E2 (ValueIdx.ix1 k) = E (ix2 (0 : Fin 2) k))
    (h3 : ∀ k, E3 (ValueIdx.ix1 k) = E (ix2 (1 : Fin 2) k)) (r : Fin 320000 → ℝ)
    (hr : ∀ k, dot (unitOf (rowA E x k)) (unitOf (rowB E x k)) = (r k : EReal)) (k : Fin 320000) :
    edgeTerm (padded x) E2 E3 w k = ((one w k * r k : ℝ) : EReal) := by
  unfold edgeTerm term one
  rw [h2, h3, entry_unit x (hE _), entry_unit x (hE _), hr]
  split
  · rw [Nat.cast_one, one_mul]
  · rw [Nat.cast_zero, zero_mul]; rfl

/-- The kernel's quotient is the reference's mean. -/
theorem values_eq (hE : ∀ i, (E i).toNat < 10000) (hT : 1 ≤ (t ix0).toInt) (E2 E3 : S320000.Idx → BitVec 32) (h2 : ∀ k, E2 (ValueIdx.ix1 k) = E (ix2 (0 : Fin 2) k))
    (h3 : ∀ k, E3 (ValueIdx.ix1 k) = E (ix2 (1 : Fin 2) k)) (th : Vec Ideal S1x1 .f32)
    (hth : (th (ix2 (0 : Fin 1) (0 : Fin 1)) : EReal) = (((t ix0).toInt : ℝ) : EReal)) :
    k2_pay1 (outSums (padded x) E2 E3 w) (outCounts w) th (ix2 (0 : Fin 1) (0 : Fin 1)) = meanOf (edgePart E w x t) (edgeSign w) := by
  choose r hr1 hr2 hr3 using fun k => cosine (rowA E x k) (rowB E x k)
  have hsum : (∑ v : Fin 32, ∑ z : Fin 16, (outSums (F := Ideal) (padded x) E2 E3 w (ix2 v z) : EReal)) = ((∑ k, one w k * r k : ℝ) : EReal) := by
    simp only [ix2_eq_valueIdx]
    rw [sum_outSums (padZero x), coe_sum]
    exact Finset.sum_congr rfl fun k _ => edgeTerm_eq E w x hE E2 E3 h2 h3 r hr2 k
  have hcount : (∑ v : Fin 32, ∑ z : Fin 16, (outCounts (F := Ideal) w (ix2 v z) : EReal)) = ((16 * (∑ k, one w k : ℕ) : ℝ) : EReal) := by
    simp only [ix2_eq_valueIdx]
    exact sum_outCounts w
  have hpart : ∀ k, edgePart E w x t k = max ((((t ix0).toInt : ℝ) : EReal) - (r k : EReal)) 0 * ((one w k : ℝ) : EReal) := fun k => by
    rw [← hr3 k, ← one_eq w k]; rfl
  have hone : edgeSign w = fun k => ((one w k : ℝ) : EReal) := funext fun k => one_eq w k
  rw [quotient_apply, hsum, hcount, hth, loss_eq (one w) r hr1 (by exact_mod_cast hT)]
  unfold meanOf
  rw [hone, funext hpart]

end Values

/-- From memories that hold the same arguments, the two programs compute the same loss. -/
theorem result_eq (m : (ℓ : Loc nD τ sig) → Buf (Elt Ideal) ℓ) (m' : (ℓ : Loc Cert.ReferenceIdeal.nD Cert.ReferenceIdeal.τ Cert.ReferenceIdeal.sig) → Buf (Elt Ideal) ℓ)
    (c : Dev nD) (E : IVec S2x320000 32) (w : FVec Ideal S320000 .f32) (x : FVec Ideal S10000x128 .f32) (t : IVec S_ 32)
    (hE : m ((c.tc : Thread nD τ).loc main_arg0) = E) (hw : m ((c.tc : Thread nD τ).loc main_arg1) = w)
    (hx : m ((c.tc : Thread nD τ).loc main_arg2) = x) (ht : m ((c.tc : Thread nD τ).loc main_arg3) = t)
    (hE' : m' ((c.tc : Thread Cert.ReferenceIdeal.nD Cert.ReferenceIdeal.τ).loc Cert.ReferenceIdeal.main_arg0) = E)
    (hw' : m' ((c.tc : Thread Cert.ReferenceIdeal.nD Cert.ReferenceIdeal.τ).loc Cert.ReferenceIdeal.main_arg1) = w)
    (hx' : m' ((c.tc : Thread Cert.ReferenceIdeal.nD Cert.ReferenceIdeal.τ).loc Cert.ReferenceIdeal.main_arg2) = x)
    (ht' : m' ((c.tc : Thread Cert.ReferenceIdeal.nD Cert.ReferenceIdeal.τ).loc Cert.ReferenceIdeal.main_arg3) = t)
    (h : ∀ i, (E i).toNat < 10000) (hT : 1 ≤ (t ix0).toInt) : res_main_v31 m' c = result m c := by
  have key : (res_main_v31 m' c ix0 : EReal) = result m c ix0 := by
    rw [Cert.ReferenceIdeal.Value.res_apply m' c E w x t hE' hw' hx' ht' h]
    unfold result
    rw [scalar_of_cell]
    refine (values_eq E w x t h hT (srcs m c) (dsts m c) (fun k => ?_) (fun k => ?_) (thr m c) ?_).symm.trans ?_
    · rw [← ix1_eq_valueIdx, ← hE]; exact first_ends _ k
    · rw [← ix1_eq_valueIdx, ← hE]; exact second_ends _ k
    · rw [← ht]; exact cell_of_scalar _
    · rw [← hw, ← hx]; rfl
  funext j
  rw [show j = ix0 from funext fun a => a.elim0]
  exact key

theorem algebraic : Cert.algebraic_KernelIdeal_ReferenceIdeal_pre_edges_and_threshold := fun m g m' g' hpre hag =>
  ⟨fun c => result m c,
    (θ_run Cert.KernelIdeal.defs _ _).mono (fun _ h c => ⟨(h.1 c).2, (h.1 c).1.1.1.1, (h.1 c).1.1.1.2, (h.1 c).1.1.2, (h.1 c).1.2⟩)
      (run_ok (F := Ideal) m g fun d i => (edges_and_threshold (hpre d)).1 i),
    (θ_run Cert.ReferenceIdeal.defs _ _).mono (fun _ h c => ⟨(h c).1.trans
        (result_eq m m' c _ _ _ _ rfl rfl rfl rfl (hag c).1 (hag c).2.1 (hag c).2.2.1 (hag c).2.2.2 (edges_and_threshold (hpre c)).1 (edges_and_threshold (hpre c)).2),
        (h c).2⟩)
      (Cert.ReferenceIdeal.Value.run (F := Ideal) m' g')⟩

end Cert.KernelIdeal.Tile

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_edges_in_range
public import proofs.«01_k».proof.Proof.Gen.Pre_edges_and_threshold
public import proofs.«01_k».proof.Proof.Frames
public import proofs.«01_k».proof.Proof.Algebraic

@[expose] public section

noncomputable section

namespace Cert.Proof

open Cert.KernelIdeal.Tile

/-- Every claim of the certificate. -/
theorem claim : Cert.Claim :=
  ⟨Cert.Kernel.Gen.facts, Cert.KernelIdeal.Gen.facts, Cert.ReferenceIdeal.Gen.facts,
    Cert.Pre_edges_in_range.Gen.facts, Cert.Pre_edges_and_threshold.Gen.facts,
    frame_kernel, frame_ideal, frame_ideal_threshold, frame_reference, frame_reference_threshold,
    trivial, algebraic⟩

end Cert.Proof

end
